-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ret_finite [hPre_ret_finite : Cert.Pre_ret_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ret_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 = (fun _ => 1#1)
    ∧ (Cert.Pre_ret_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 = (fun _ => 1#1)
    ∧ (Cert.Pre_ret_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ret_finite [hPre_ret_finite : Cert.Pre_ret_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ret_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).1 = (fun _ => 1#1)
    ∧ (Cert.Pre_ret_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.1 = (fun _ => 1#1)
    ∧ (Cert.Pre_ret_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_loss_finite [hPre_loss_finite : Cert.Pre_loss_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_loss_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_loss_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.1 = (fun _ => 1#1)
    ∧ (Cert.Pre_loss_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_loss_finite [hPre_loss_finite : Cert.Pre_loss_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_loss_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_loss_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2.1 = (fun _ => 1#1)
    ∧ (Cert.Pre_loss_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_gate_finite [hPre_gate_finite : Cert.Pre_gate_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_gate_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_gate_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_gate_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.1 = (fun _ => 1#1)
    ∧ (Cert.Pre_gate_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_gate_finite [hPre_gate_finite : Cert.Pre_gate_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_gate_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_gate_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_gate_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.1 = (fun _ => 1#1)
    ∧ (Cert.Pre_gate_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_fwd_finite [hPre_fwd_finite : Cert.Pre_fwd_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_fwd_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).1 = (fun _ => 1#1)
    ∧ (Cert.Pre_fwd_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_fwd_finite [hPre_fwd_finite : Cert.Pre_fwd_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_fwd_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).1 = (fun _ => 1#1)
    ∧ (Cert.Pre_fwd_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_up_finite [hPre_up_finite : Cert.Pre_up_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_up_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_up_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_up_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.1 = (fun _ => 1#1)
    ∧ (Cert.Pre_up_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_up_finite [hPre_up_finite : Cert.Pre_up_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_up_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_up_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_up_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.1 = (fun _ => 1#1)
    ∧ (Cert.Pre_up_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_ret_finite [hKernel2Ideal : Cert.Kernel2Ideal.Facts] [hPre_ret_finite : Cert.Pre_ret_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ret_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_ret_finite [hReference2Ideal : Cert.Reference2Ideal.Facts] [hPre_ret_finite : Cert.Pre_ret_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ret_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_loss_finite [hKernel3Ideal : Cert.Kernel3Ideal.Facts] [hPre_loss_finite : Cert.Pre_loss_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_loss_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_loss_finite [hReference3Ideal : Cert.Reference3Ideal.Facts] [hPre_loss_finite : Cert.Pre_loss_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_loss_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_gate_finite [hKernel4Ideal : Cert.Kernel4Ideal.Facts] [hPre_gate_finite : Cert.Pre_gate_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_gate_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_gate_finite [hReference4Ideal : Cert.Reference4Ideal.Facts] [hPre_gate_finite : Cert.Pre_gate_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_gate_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_fwd_finite [hKernel5Ideal : Cert.Kernel5Ideal.Facts] [hPre_fwd_finite : Cert.Pre_fwd_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_fwd_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_fwd_finite [hReference5Ideal : Cert.Reference5Ideal.Facts] [hPre_fwd_finite : Cert.Pre_fwd_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_fwd_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_up_finite [hKernel6Ideal : Cert.Kernel6Ideal.Facts] [hPre_up_finite : Cert.Pre_up_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_up_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_up_finite [hReference6Ideal : Cert.Reference6Ideal.Facts] [hPre_up_finite : Cert.Pre_up_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_up_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "decay0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.Kernel2Ideal.κ "decay1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.Kernel2Ideal.κ "decay2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.Kernel2Ideal.κ "decay3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_Kernel2Ideal_Reference2Ideal_on_ret_part_pre_ret_finite [hKernel2Ideal : Cert.Kernel2Ideal.Facts] [hReference2Ideal : Cert.Reference2Ideal.Facts] [hPre_ret_finite : Cert.Pre_ret_finite.Facts] [hOn_ret_part : Cert.On_ret_part.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ret_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v224_0)) (v1 : (c : Dev Cert.Kernel2Ideal.nD) → Buf (Elt Ideal) ((c.tc : Thread Cert.Kernel2Ideal.nD Cert.Kernel2Ideal.τ).loc Cert.Kernel2Ideal.main_v224_1)) (v2 : (c : Dev Cert.Kernel2Ideal.nD) → Buf (Elt Ideal) ((c.tc : Thread Cert.Kernel2Ideal.nD Cert.Kernel2Ideal.τ).loc Cert.Kernel2Ideal.main_v224_2)) (v3 : (c : Dev Cert.Kernel2Ideal.nD) → Buf (Elt Ideal) ((c.tc : Thread Cert.Kernel2Ideal.nD Cert.Kernel2Ideal.τ).loc Cert.Kernel2Ideal.main_v224_3)) (v4 : (c : Dev Cert.Kernel2Ideal.nD) → Buf (Elt Ideal) ((c.tc : Thread Cert.Kernel2Ideal.nD Cert.Kernel2Ideal.τ).loc Cert.Kernel2Ideal.main_v224_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![2176, 3072]⟩ : Shape).Idx, (Cert.On_ret_part.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 i = 1#1 → r.2.mem ((c.tc : Thread Cert.Kernel2Ideal.nD Cert.Kernel2Ideal.τ).loc Cert.Kernel2Ideal.main_v224_0) i = v0 c i)
          ∧ (∀ i : (⟨2, ![16, 512]⟩ : Shape).Idx, (Cert.On_ret_part.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 i = 1#1 → r.2.mem ((c.tc : Thread Cert.Kernel2Ideal.nD Cert.Kernel2Ideal.τ).loc Cert.Kernel2Ideal.main_v224_1) i = v1 c i)
          ∧ (∀ i : (⟨2, ![512, 512]⟩ : Shape).Idx, (Cert.On_ret_part.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.1 i = 1#1 → r.2.mem ((c.tc : Thread Cert.Kernel2Ideal.nD Cert.Kernel2Ideal.τ).loc Cert.Kernel2Ideal.main_v224_2) i = v2 c i)
          ∧ (∀ i : (⟨2, ![512, 512]⟩ : Shape).Idx, (Cert.On_ret_part.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.1 i = 1#1 → r.2.mem ((c.tc : Thread Cert.Kernel2Ideal.nD Cert.Kernel2Ideal.τ).loc Cert.Kernel2Ideal.main_v224_3) i = v3 c i)
          ∧ (∀ i : (⟨2, ![1, 512]⟩ : Shape).Idx, (Cert.On_ret_part.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2 i = 1#1 → r.2.mem ((c.tc : Thread Cert.Kernel2Ideal.nD Cert.Kernel2Ideal.τ).loc Cert.Kernel2Ideal.main_v224_4) i = v4 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![2176, 3072]⟩ : Shape).Idx, (Cert.On_ret_part.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 i = 1#1 → r.2.mem ((c.tc : Thread Cert.Reference2Ideal.nD Cert.Reference2Ideal.τ).loc Cert.Reference2Ideal.main_v536) i = v0 c i)
          ∧ (∀ i : (⟨2, ![16, 512]⟩ : Shape).Idx, (Cert.On_ret_part.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 i = 1#1 → r.2.mem ((c.tc : Thread Cert.Reference2Ideal.nD Cert.Reference2Ideal.τ).loc Cert.Reference2Ideal.main_v537) i = v1 c i)
          ∧ (∀ i : (⟨2, ![512, 512]⟩ : Shape).Idx, (Cert.On_ret_part.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.1 i = 1#1 → r.2.mem ((c.tc : Thread Cert.Reference2Ideal.nD Cert.Reference2Ideal.τ).loc Cert.Reference2Ideal.main_v533) i = v2 c i)
          ∧ (∀ i : (⟨2, ![512, 512]⟩ : Shape).Idx, (Cert.On_ret_part.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.1 i = 1#1 → r.2.mem ((c.tc : Thread Cert.Reference2Ideal.nD Cert.Reference2Ideal.τ).loc Cert.Reference2Ideal.main_v533) i = v3 c i)
          ∧ (∀ i : (⟨2, ![1, 512]⟩ : Shape).Idx, (Cert.On_ret_part.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2 i = 1#1 → r.2.mem ((c.tc : Thread Cert.Reference2Ideal.nD Cert.Reference2Ideal.τ).loc Cert.Reference2Ideal.main_v538) i = v4 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_loss_finite [hKernel3Ideal : Cert.Kernel3Ideal.Facts] [hReference3Ideal : Cert.Reference3Ideal.Facts] [hPre_loss_finite : Cert.Pre_loss_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_loss_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_v56) = v2 c
          ∧ r.2.mem ((c.tc : Thread Cert.Reference3Ideal.nD Cert.Reference3Ideal.τ).loc Cert.Reference3Ideal.main_v57) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_gate_finite [hKernel4Ideal : Cert.Kernel4Ideal.Facts] [hReference4Ideal : Cert.Reference4Ideal.Facts] [hPre_gate_finite : Cert.Pre_gate_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_gate_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v36_0)) (v1 : (c : Dev Cert.Kernel4Ideal.nD) → Buf (Elt Ideal) ((c.tc : Thread Cert.Kernel4Ideal.nD Cert.Kernel4Ideal.τ).loc Cert.Kernel4Ideal.main_v36_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36_0) = v0 c
          ∧ r.2.mem ((c.tc : Thread Cert.Kernel4Ideal.nD Cert.Kernel4Ideal.τ).loc Cert.Kernel4Ideal.main_v36_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "decay0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.Kernel5Ideal.κ "decay1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.Kernel5Ideal.κ "decay2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.Kernel5Ideal.κ "decay3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_Kernel5Ideal_Reference5Ideal_on_fwd_part_pre_fwd_finite [hKernel5Ideal : Cert.Kernel5Ideal.Facts] [hReference5Ideal : Cert.Reference5Ideal.Facts] [hPre_fwd_finite : Cert.Pre_fwd_finite.Facts] [hOn_fwd_part : Cert.On_fwd_part.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_fwd_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v101_0)) (v1 : (c : Dev Cert.Kernel5Ideal.nD) → Buf (Elt Ideal) ((c.tc : Thread Cert.Kernel5Ideal.nD Cert.Kernel5Ideal.τ).loc Cert.Kernel5Ideal.main_v101_1)) (v2 : (c : Dev Cert.Kernel5Ideal.nD) → Buf (Elt Ideal) ((c.tc : Thread Cert.Kernel5Ideal.nD Cert.Kernel5Ideal.τ).loc Cert.Kernel5Ideal.main_v101_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨2, ![2176, 1024]⟩ : Shape).Idx, (Cert.On_fwd_part.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).1 i = 1#1 → r.2.mem ((c.tc : Thread Cert.Kernel5Ideal.nD Cert.Kernel5Ideal.τ).loc Cert.Kernel5Ideal.main_v101_0) i = v0 c i)
          ∧ (∀ i : (⟨2, ![2176, 512]⟩ : Shape).Idx, (Cert.On_fwd_part.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.1 i = 1#1 → r.2.mem ((c.tc : Thread Cert.Kernel5Ideal.nD Cert.Kernel5Ideal.τ).loc Cert.Kernel5Ideal.main_v101_1) i = v1 c i)
          ∧ (∀ i : (⟨4, ![17, 4, 128, 128]⟩ : Shape).Idx, (Cert.On_fwd_part.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2 i = 1#1 → r.2.mem ((c.tc : Thread Cert.Kernel5Ideal.nD Cert.Kernel5Ideal.τ).loc Cert.Kernel5Ideal.main_v101_2) i = v2 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨2, ![2176, 1024]⟩ : Shape).Idx, (Cert.On_fwd_part.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).1 i = 1#1 → r.2.mem ((c.tc : Thread Cert.Reference5Ideal.nD Cert.Reference5Ideal.τ).loc Cert.Reference5Ideal.main_v290) i = v0 c i)
          ∧ (∀ i : (⟨2, ![2176, 512]⟩ : Shape).Idx, (Cert.On_fwd_part.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.1 i = 1#1 → r.2.mem ((c.tc : Thread Cert.Reference5Ideal.nD Cert.Reference5Ideal.τ).loc Cert.Reference5Ideal.main_v291) i = v1 c i)
          ∧ (∀ i : (⟨4, ![17, 4, 128, 128]⟩ : Shape).Idx, (Cert.On_fwd_part.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2 i = 1#1 → r.2.mem ((c.tc : Thread Cert.Reference5Ideal.nD Cert.Reference5Ideal.τ).loc Cert.Reference5Ideal.main_v252) i = v2 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal_pre_up_finite [hKernel6Ideal : Cert.Kernel6Ideal.Facts] [hReference6Ideal : Cert.Reference6Ideal.Facts] [hPre_up_finite : Cert.Pre_up_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_up_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v15_0)) (v1 : (c : Dev Cert.Kernel6Ideal.nD) → Buf (Elt Ideal) ((c.tc : Thread Cert.Kernel6Ideal.nD Cert.Kernel6Ideal.τ).loc Cert.Kernel6Ideal.main_v15_1)) (v2 : (c : Dev Cert.Kernel6Ideal.nD) → Buf (Elt Ideal) ((c.tc : Thread Cert.Kernel6Ideal.nD Cert.Kernel6Ideal.τ).loc Cert.Kernel6Ideal.main_v15_2)) (v3 : (c : Dev Cert.Kernel6Ideal.nD) → Buf (Elt Ideal) ((c.tc : Thread Cert.Kernel6Ideal.nD Cert.Kernel6Ideal.τ).loc Cert.Kernel6Ideal.main_v15_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15_0) = v0 c
          ∧ r.2.mem ((c.tc : Thread Cert.Kernel6Ideal.nD Cert.Kernel6Ideal.τ).loc Cert.Kernel6Ideal.main_v15_1) = v1 c
          ∧ r.2.mem ((c.tc : Thread Cert.Kernel6Ideal.nD Cert.Kernel6Ideal.τ).loc Cert.Kernel6Ideal.main_v15_2) = v2 c
          ∧ r.2.mem ((c.tc : Thread Cert.Kernel6Ideal.nD Cert.Kernel6Ideal.τ).loc Cert.Kernel6Ideal.main_v15_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v37) = v2 c
          ∧ r.2.mem ((c.tc : Thread Cert.Reference6Ideal.nD Cert.Reference6Ideal.τ).loc Cert.Reference6Ideal.main_v44) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v14)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v17_0)) (v1 : (c : Dev Cert.Kernel10Ideal.nD) → Buf (Elt Ideal) ((c.tc : Thread Cert.Kernel10Ideal.nD Cert.Kernel10Ideal.τ).loc Cert.Kernel10Ideal.main_v17_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v17_0) = v0 c
          ∧ r.2.mem ((c.tc : Thread Cert.Kernel10Ideal.nD Cert.Kernel10Ideal.τ).loc Cert.Kernel10Ideal.main_v17_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v7_0)) (v1 : (c : Dev Cert.Kernel11Ideal.nD) → Buf (Elt Ideal) ((c.tc : Thread Cert.Kernel11Ideal.nD Cert.Kernel11Ideal.τ).loc Cert.Kernel11Ideal.main_v7_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v7_0) = v0 c
          ∧ r.2.mem ((c.tc : Thread Cert.Kernel11Ideal.nD Cert.Kernel11Ideal.τ).loc Cert.Kernel11Ideal.main_v7_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v6) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v1) = v1 c
          ∧ r.2.mem ((c.tc : Thread Cert.Reference12Ideal.nD Cert.Reference12Ideal.τ).loc Cert.Reference12Ideal.main_v2) = v2 c
          ∧ r.2.mem ((c.tc : Thread Cert.Reference12Ideal.nD Cert.Reference12Ideal.τ).loc Cert.Reference12Ideal.main_v3) = v3 c
          ∧ r.2.mem ((c.tc : Thread Cert.Reference12Ideal.nD Cert.Reference12Ideal.τ).loc Cert.Reference12Ideal.main_v4) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_v21) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_v28) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_ret_finite : Cert.Pre_ret_finite.Facts) (hPre_loss_finite : Cert.Pre_loss_finite.Facts) (hPre_gate_finite : Cert.Pre_gate_finite.Facts) (hPre_fwd_finite : Cert.Pre_fwd_finite.Facts) (hPre_up_finite : Cert.Pre_up_finite.Facts) (hOn_ret_part : Cert.On_ret_part.Facts) (hOn_fwd_part : Cert.On_fwd_part.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_ret_finite (hKernel2Ideal := hKernel2Ideal) (hPre_ret_finite := hPre_ret_finite)
    ∧ quiescent_Reference2Ideal (hReference2Ideal := hReference2Ideal)
    ∧ quiescent_Reference2Ideal_pre_ret_finite (hReference2Ideal := hReference2Ideal) (hPre_ret_finite := hPre_ret_finite)
    ∧ quiescent_Kernel3 (hKernel3 := hKernel3)
    ∧ quiescent_Kernel3Ideal (hKernel3Ideal := hKernel3Ideal)
    ∧ quiescent_Kernel3Ideal_pre_loss_finite (hKernel3Ideal := hKernel3Ideal) (hPre_loss_finite := hPre_loss_finite)
    ∧ quiescent_Reference3Ideal (hReference3Ideal := hReference3Ideal)
    ∧ quiescent_Reference3Ideal_pre_loss_finite (hReference3Ideal := hReference3Ideal) (hPre_loss_finite := hPre_loss_finite)
    ∧ quiescent_Kernel4 (hKernel4 := hKernel4)
    ∧ quiescent_Kernel4Ideal (hKernel4Ideal := hKernel4Ideal)
    ∧ quiescent_Kernel4Ideal_pre_gate_finite (hKernel4Ideal := hKernel4Ideal) (hPre_gate_finite := hPre_gate_finite)
    ∧ quiescent_Reference4Ideal (hReference4Ideal := hReference4Ideal)
    ∧ quiescent_Reference4Ideal_pre_gate_finite (hReference4Ideal := hReference4Ideal) (hPre_gate_finite := hPre_gate_finite)
    ∧ quiescent_Kernel5 (hKernel5 := hKernel5)
    ∧ quiescent_Kernel5Ideal (hKernel5Ideal := hKernel5Ideal)
    ∧ quiescent_Kernel5Ideal_pre_fwd_finite (hKernel5Ideal := hKernel5Ideal) (hPre_fwd_finite := hPre_fwd_finite)
    ∧ quiescent_Reference5Ideal (hReference5Ideal := hReference5Ideal)
    ∧ quiescent_Reference5Ideal_pre_fwd_finite (hReference5Ideal := hReference5Ideal) (hPre_fwd_finite := hPre_fwd_finite)
    ∧ quiescent_Kernel6 (hKernel6 := hKernel6)
    ∧ quiescent_Kernel6Ideal (hKernel6Ideal := hKernel6Ideal)
    ∧ quiescent_Kernel6Ideal_pre_up_finite (hKernel6Ideal := hKernel6Ideal) (hPre_up_finite := hPre_up_finite)
    ∧ quiescent_Reference6Ideal (hReference6Ideal := hReference6Ideal)
    ∧ quiescent_Reference6Ideal_pre_up_finite (hReference6Ideal := hReference6Ideal) (hPre_up_finite := hPre_up_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_on_ret_part_pre_ret_finite (hKernel2Ideal := hKernel2Ideal) (hReference2Ideal := hReference2Ideal) (hPre_ret_finite := hPre_ret_finite) (hOn_ret_part := hOn_ret_part)
    ∧ preserves_Kernel3_Kernel3Ideal
    ∧ algebraic_Kernel3Ideal_Reference3Ideal_pre_loss_finite (hKernel3Ideal := hKernel3Ideal) (hReference3Ideal := hReference3Ideal) (hPre_loss_finite := hPre_loss_finite)
    ∧ preserves_Kernel4_Kernel4Ideal
    ∧ algebraic_Kernel4Ideal_Reference4Ideal_pre_gate_finite (hKernel4Ideal := hKernel4Ideal) (hReference4Ideal := hReference4Ideal) (hPre_gate_finite := hPre_gate_finite)
    ∧ preserves_Kernel5_Kernel5Ideal
    ∧ algebraic_Kernel5Ideal_Reference5Ideal_on_fwd_part_pre_fwd_finite (hKernel5Ideal := hKernel5Ideal) (hReference5Ideal := hReference5Ideal) (hPre_fwd_finite := hPre_fwd_finite) (hOn_fwd_part := hOn_fwd_part)
    ∧ preserves_Kernel6_Kernel6Ideal
    ∧ algebraic_Kernel6Ideal_Reference6Ideal_pre_up_finite (hKernel6Ideal := hKernel6Ideal) (hReference6Ideal := hReference6Ideal) (hPre_up_finite := hPre_up_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== On_fwd_part.lean ====
abbrev S2064x3072 : Shape := ⟨2, ![2064, 3072]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S8x128 : Shape := ⟨2, ![8, 128]⟩
abbrev S2176x1024 : Shape := ⟨2, ![2176, 1024]⟩
abbrev S_ : Shape := ⟨0, ![]⟩
abbrev S2176x512 : Shape := ⟨2, ![2176, 512]⟩
abbrev S17x4x128x128 : Shape := ⟨4, ![17, 4, 128, 128]⟩

class Facts : Prop where
  bcast_S_S2176x1024 : S_.BroadcastsInDim S2176x1024 (![] : Fin 0 → Fin S2176x1024.rank)
  bcast_S_S2176x512 : S_.BroadcastsInDim S2176x512 (![] : Fin 0 → Fin S2176x512.rank)
  bcast_S_S17x4x128x128 : S_.BroadcastsInDim S17x4x128x128 (![] : Fin 0 → Fin S17x4x128x128.rank)

variable [Facts]

def fn {F : FTy → Type} [FloatOps F] (main_arg0 : FVec F S2064x3072 .f32) (main_arg1 : FVec F S4x512 .f32) (main_arg2 : FVec F S512 .f32) (main_arg3 : FVec F S8x64x64 .f32) (main_arg4 : FVec F S8x64 .f32) (main_arg5 : FVec F S8x64x64 .f32) (main_arg6 : FVec F S8x64 .f32) (main_arg7 : FVec F S512 .f32) (main_arg8 : FVec F S512 .f32) (main_arg9 : FVec F S512 .f32) (main_arg10 : FVec F S8x128 .f32) : IVec S2176x1024 1 × IVec S2176x512 1 × IVec S17x4x128x128 1 :=
  let main_v0 : IVec S2176x1024 32 := iotaInDim S2176x1024 32 1
  let main_c : IVec S_ 32 := constantI S_ 32 512#32
  let main_v1 : IVec S2176x1024 32 := broadcastInDim S2176x1024 ![] bcast_S_S2176x1024 main_c
  let main_v2 : IVec S2176x1024 1 := cmpi .sge main_v0 main_v1
  let main_c_0 : IVec S_ 1 := constantI S_ 1 0#1
  let main_v3 : IVec S2176x512 1 := broadcastInDim S2176x512 ![] bcast_S_S2176x512 main_c_0
  let main_c_1 : IVec S_ 1 := constantI S_ 1 1#1
  let main_v4 : IVec S17x4x128x128 1 := broadcastInDim S17x4x128x128 ![] bcast_S_S17x4x128x128 main_c_1
  (main_v2, main_v3, main_v4)
-- ==== On_ret_part.lean ====
abbrev S2064x3072 : Shape := ⟨2, ![2064, 3072]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S2064x1024 : Shape := ⟨2, ![2064, 1024]⟩
abbrev S_ : Shape := ⟨0, ![]⟩
abbrev S512x512 : Shape := ⟨2, ![512, 512]⟩
abbrev S2176x3072 : Shape := ⟨2, ![2176, 3072]⟩
abbrev S16x512 : Shape := ⟨2, ![16, 512]⟩
abbrev S1x512 : Shape := ⟨2, ![1, 512]⟩

class Facts : Prop where
  bcast_S_S512x512 : S_.BroadcastsInDim S512x512 (![] : Fin 0 → Fin S512x512.rank)
  bcast_S_S2176x3072 : S_.BroadcastsInDim S2176x3072 (![] : Fin 0 → Fin S2176x3072.rank)
  bcast_S_S16x512 : S_.BroadcastsInDim S16x512 (![] : Fin 0 → Fin S16x512.rank)
  bcast_S_S1x512 : S_.BroadcastsInDim S1x512 (![] : Fin 0 → Fin S1x512.rank)

variable [Facts]

def fn {F : FTy → Type} [FloatOps F] (main_arg0 : FVec F S2064x3072 .f32) (main_arg1 : FVec F S4x512 .f32) (main_arg2 : FVec F S512 .f32) (main_arg3 : FVec F S8x64x64 .f32) (main_arg4 : FVec F S8x64 .f32) (main_arg5 : FVec F S8x64x64 .f32) (main_arg6 : FVec F S8x64 .f32) (main_arg7 : FVec F S512 .f32) (main_arg8 : FVec F S512 .f32) (main_arg9 : FVec F S512 .f32) (main_arg10 : FVec F S2064x1024 .f32) : IVec S2176x3072 1 × IVec S16x512 1 × IVec S512x512 1 × IVec S512x512 1 × IVec S1x512 1 :=
  let main_c : IVec S_ 1 := constantI S_ 1 0#1
  let main_v0 : IVec S512x512 1 := broadcastInDim S512x512 ![] bcast_S_S512x512 main_c
  let main_v1 : IVec S2176x3072 32 := iotaInDim S2176x3072 32 1
  let main_c_0 : IVec S_ 32 := constantI S_ 32 1024#32
  let main_v2 : IVec S2176x3072 32 := broadcastInDim S2176x3072 ![] bcast_S_S2176x3072 main_c_0
  let main_v3 : IVec S2176x3072 1 := cmpi .sge main_v1 main_v2
  let main_c_1 : IVec S_ 1 := constantI S_ 1 0#1
  let main_v4 : IVec S16x512 1 := broadcastInDim S16x512 ![] bcast_S_S16x512 main_c_1
  let main_c_2 : IVec S_ 1 := constantI S_ 1 1#1
  let main_v5 : IVec S1x512 1 := broadcastInDim S1x512 ![] bcast_S_S1x512 main_c_2
  (main_v3, main_v4, main_v0, main_v0, main_v5)
-- ==== Pre_finite.lean ====
abbrev S2064x1024 : Shape := ⟨2, ![2064, 1024]⟩
abbrev S1024 : Shape := ⟨1, ![1024]⟩
abbrev S8x128 : Shape := ⟨2, ![8, 128]⟩
abbrev S_ : Shape := ⟨0, ![]⟩

class Facts : Prop where
  bcast_S_S2064x1024 : S_.BroadcastsInDim S2064x1024 (![] : Fin 0 → Fin S2064x1024.rank)
  bcast_S_S1024 : S_.BroadcastsInDim S1024 (![] : Fin 0 → Fin S1024.rank)

variable [Facts]

def fn {F : FTy → Type} [FloatOps F] (main_arg0 : FVec F S2064x1024 .f32) (main_arg1 : FVec F S1024 .f32) (main_arg2 : FVec F S2064x1024 .f32) (main_arg3 : FVec F S2064x1024 .f32) (main_arg4 : FVec F S8x128 .f32) : IVec S2064x1024 1 × IVec S1024 1 × IVec S2064x1024 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2064x1024 .f32 := Host.absf main_arg2
  let main_cst_1 : FVec F S_ .f32 := constant S_ .f32 0x7F800000#32
  let main_v7 : FVec F S2064x1024 .f32 := broadcastInDim S2064x1024 ![] bcast_S_S2064x1024 main_cst_1
  let main_v8 : IVec S2064x1024 1 := cmpf .olt main_v6 main_v7
  (main_v2, main_v5, main_v8)
-- ==== Pre_fwd_finite.lean ====
abbrev S2064x3072 : Shape := ⟨2, ![2064, 3072]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S8x128 : Shape := ⟨2, ![8, 128]⟩
abbrev S_ : Shape := ⟨0, ![]⟩

class Facts : Prop where
  bcast_S_S2064x3072 : S_.BroadcastsInDim S2064x3072 (![] : Fin 0 → Fin S2064x3072.rank)
  bcast_S_S512 : S_.BroadcastsInDim S512 (![] : Fin 0 → Fin S512.rank)

variable [Facts]

def fn {F : FTy → Type} [FloatOps F] (main_arg0 : FVec F S2064x3072 .f32) (main_arg1 : FVec F S4x512 .f32) (main_arg2 : FVec F S512 .f32) (main_arg3 : FVec F S8x64x64 .f32) (main_arg4 : FVec F S8x64 .f32) (main_arg5 : FVec F S8x64x64 .f32) (main_arg6 : FVec F S8x64 .f32) (main_arg7 : FVec F S512 .f32) (main_arg8 : FVec F S512 .f32) (main_arg9 : FVec F S512 .f32) (main_arg10 : FVec F S8x128 .f32) : IVec S2064x3072 1 × IVec S512 1 :=
  let main_v0 : FVec F S2064x3072 .f32 := Host.absf main_arg0
  let main_cst : FVec F S_ .f32 := constant S_ .f32 0x7F800000#32
  let main_v1 : FVec F S2064x3072 .f32 := broadcastInDim S2064x3072 ![] bcast_S_S2064x3072 main_cst
  let main_v2 : IVec S2064x3072 1 := cmpf .olt main_v0 main_v1
  let main_v3 : FVec F S512 .f32 := Host.absf main_arg9
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  (main_v2, main_v5)
-- ==== Pre_gate_finite.lean ====
abbrev S2064x2816 : Shape := ⟨2, ![2064, 2816]⟩
abbrev S2816x1024 : Shape := ⟨2, ![2816, 1024]⟩
abbrev S2064x1024 : Shape := ⟨2, ![2064, 1024]⟩
abbrev S_ : Shape := ⟨0, ![]⟩

class Facts : Prop where
  bcast_S_S2064x2816 : S_.BroadcastsInDim S2064x2816 (![] : Fin 0 → Fin S2064x2816.rank)
  bcast_S_S2816x1024 : S_.BroadcastsInDim S2816x1024 (![] : Fin 0 → Fin S2816x1024.rank)
  bcast_S_S2064x1024 : S_.BroadcastsInDim S2064x1024 (![] : Fin 0 → Fin S2064x1024.rank)

variable [Facts]

def fn {F : FTy → Type} [FloatOps F] (main_arg0 : FVec F S2064x2816 .f32) (main_arg1 : FVec F S2064x2816 .f32) (main_arg2 : FVec F S2816x1024 .f32) (main_arg3 : FVec F S2064x1024 .f32) : IVec S2064x2816 1 × IVec S2064x2816 1 × IVec S2816x1024 1 × IVec S2064x1024 1 :=
  let main_v0 : FVec F S2064x2816 .f32 := Host.absf main_arg0
  let main_cst : FVec F S_ .f32 := constant S_ .f32 0x7F800000#32
  let main_v1 : FVec F S2064x2816 .f32 := broadcastInDim S2064x2816 ![] bcast_S_S2064x2816 main_cst
  let main_v2 : IVec S2064x2816 1 := cmpf .olt main_v0 main_v1
  let main_v3 : FVec F S2064x2816 .f32 := Host.absf main_arg1
  let main_cst_0 : FVec F S_ .f32 := constant S_ .f32 0x7F800000#32
  let main_v4 : FVec F S2064x2816 .f32 := broadcastInDim S2064x2816 ![] bcast_S_S2064x2816 main_cst_0
  let main_v5 : IVec S2064x2816 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S2064x1024 .f32 := Host.absf main_arg3
  let main_cst_2 : FVec F S_ .f32 := constant S_ .f32 0x7F800000#32
  let main_v10 : FVec F S2064x1024 .f32 := broadcastInDim S2064x1024 ![] bcast_S_S2064x1024 main_cst_2
  let main_v11 : IVec S2064x1024 1 := cmpf .olt main_v9 main_v10
  (main_v2, main_v5, main_v8, main_v11)
-- ==== Pre_loss_finite.lean ====
abbrev S2064x1024 : Shape := ⟨2, ![2064, 1024]⟩
abbrev S1024 : Shape := ⟨1, ![1024]⟩
abbrev S2048x1024 : Shape := ⟨2, ![2048, 1024]⟩
abbrev S_ : Shape := ⟨0, ![]⟩

class Facts : Prop where
  bcast_S_S2064x1024 : S_.BroadcastsInDim S2064x1024 (![] : Fin 0 → Fin S2064x1024.rank)
  bcast_S_S1024 : S_.BroadcastsInDim S1024 (![] : Fin 0 → Fin S1024.rank)
  bcast_S_S2048x1024 : S_.BroadcastsInDim S2048x1024 (![] : Fin 0 → Fin S2048x1024.rank)

variable [Facts]

def fn {F : FTy → Type} [FloatOps F] (main_arg0 : FVec F S2064x1024 .f32) (main_arg1 : FVec F S1024 .f32) (main_arg2 : FVec F S2048x1024 .f32) : IVec S2064x1024 1 × IVec S1024 1 × IVec S2048x1024 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  (main_v2, main_v5, main_v8)
-- ==== Pre_ret_finite.lean ====
abbrev S2064x3072 : Shape := ⟨2, ![2064, 3072]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S2064x1024 : Shape := ⟨2, ![2064, 1024]⟩
abbrev S_ : Shape := ⟨0, ![]⟩

class Facts : Prop where
  bcast_S_S2064x3072 : S_.BroadcastsInDim S2064x3072 (![] : Fin 0 → Fin S2064x3072.rank)
  bcast_S_S512 : S_.BroadcastsInDim S512 (![] : Fin 0 → Fin S512.rank)
  bcast_S_S2064x1024 : S_.BroadcastsInDim S2064x1024 (![] : Fin 0 → Fin S2064x1024.rank)

variable [Facts]

def fn {F : FTy → Type} [FloatOps F] (main_arg0 : FVec F S2064x3072 .f32) (main_arg1 : FVec F S4x512 .f32) (main_arg2 : FVec F S512 .f32) (main_arg3 : FVec F S8x64x64 .f32) (main_arg4 : FVec F S8x64 .f32) (main_arg5 : FVec F S8x64x64 .f32) (main_arg6 : FVec F S8x64 .f32) (main_arg7 : FVec F S512 .f32) (main_arg8 : FVec F S512 .f32) (main_arg9 : FVec F S512 .f32) (main_arg10 : FVec F S2064x1024 .f32) : IVec S2064x3072 1 × IVec S512 1 × IVec S2064x1024 1 :=
  let main_v0 : FVec F S2064x3072 .f32 := Host.absf main_arg0
  let main_cst : FVec F S_ .f32 := constant S_ .f32 0x7F800000#32
  let main_v1 : FVec F S2064x3072 .f32 := broadcastInDim S2064x3072 ![] bcast_S_S2064x3072 main_cst
  let main_v2 : IVec S2064x3072 1 := cmpf .olt main_v0 main_v1
  let main_v3 : FVec F S512 .f32 := Host.absf main_arg9
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : FVec F S2064x1024 .f32 := Host.absf main_arg10
  let main_cst_1 : FVec F S_ .f32 := constant S_ .f32 0x7F800000#32
  let main_v7 : FVec F S2064x1024 .f32 := broadcastInDim S2064x1024 ![] bcast_S_S2064x1024 main_cst_1
  let main_v8 : IVec S2064x1024 1 := cmpf .olt main_v6 main_v7
  (main_v2, main_v5, main_v8)
-- ==== Pre_up_finite.lean ====
abbrev S2064x1024 : Shape := ⟨2, ![2064, 1024]⟩
abbrev S1024 : Shape := ⟨1, ![1024]⟩
abbrev S1024x2816 : Shape := ⟨2, ![1024, 2816]⟩
abbrev S_ : Shape := ⟨0, ![]⟩

class Facts : Prop where
  bcast_S_S2064x1024 : S_.BroadcastsInDim S2064x1024 (![] : Fin 0 → Fin S2064x1024.rank)
  bcast_S_S1024 : S_.BroadcastsInDim S1024 (![] : Fin 0 → Fin S1024.rank)
  bcast_S_S1024x2816 : S_.BroadcastsInDim S1024x2816 (![] : Fin 0 → Fin S1024x2816.rank)

variable [Facts]

def fn {F : FTy → Type} [FloatOps F] (main_arg0 : FVec F S2064x1024 .f32) (main_arg1 : FVec F S1024 .f32) (main_arg2 : FVec F S1024x2816 .f32) (main_arg3 : FVec F S1024x2816 .f32) : IVec S2064x1024 1 × IVec S1024 1 × IVec S1024x2816 1 × IVec S1024x2816 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  (main_v2, main_v5, main_v8, main_v11)
-- ==== Kernel.lean ====
abbrev S2064x1024 : Shape := ⟨2, ![2064, 1024]⟩
abbrev S1024 : Shape := ⟨1, ![1024]⟩
abbrev S8x128 : Shape := ⟨2, ![8, 128]⟩
abbrev S_ : Shape := ⟨0, ![]⟩
abbrev S112x1024 : Shape := ⟨2, ![112, 1024]⟩
abbrev S2176x1024 : Shape := ⟨2, ![2176, 1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩

abbrev nBuf : Space → Nat
  | .hbm => 18
  | .vmem => 12
  | .smem => 0
  | _ => 0

abbrev bufTy : (tb : Table) → Fin (tcTables nBuf tb) → BufTy
  | .hbm, ⟨0, _⟩ => ⟨S2064x1024, .f32⟩
  | .hbm, ⟨1, _⟩ => ⟨S1024, .f32⟩
  | .hbm, ⟨2, _⟩ => ⟨S2064x1024, .f32⟩
  | .hbm, ⟨3, _⟩ => ⟨S2064x1024, .f32⟩
  | .hbm, ⟨4, _⟩ => ⟨S8x128, .f32⟩
  | .hbm, ⟨5, _⟩ => ⟨S_, .f32⟩
  | .hbm, ⟨6, _⟩ => ⟨S112x1024, .f32⟩
  | .hbm, ⟨7, _⟩ => ⟨S2176x1024, .f32⟩
  | .hbm, ⟨8, _⟩ => ⟨S1x1024, .f32⟩
  | .hbm, ⟨9, _⟩ => ⟨S_, .f32⟩
  | .hbm, ⟨10, _⟩ => ⟨S112x1024, .f32⟩
  | .hbm, ⟨11, _⟩ => ⟨S2176x1024, .f32⟩
  | .hbm, ⟨12, _⟩ => ⟨S_, .f32⟩
  | .hbm, ⟨13, _⟩ => ⟨S112x1024, .f32⟩
  | .hbm, ⟨14, _⟩ => ⟨S2176x1024, .f32⟩
  | .hbm, ⟨15, _⟩ => ⟨S2176x1024, .f32⟩
  | .hbm, ⟨16, _⟩ => ⟨S2176x1024, .bf16⟩
  | .hbm, ⟨17, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .bf16⟩
  | .local _ .vmem, ⟨10, _⟩ => ⟨S544x1024, .bf16⟩
  | .local _ .vmem, ⟨11, _⟩ => ⟨S1x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2064x1024 : Shape := ⟨2, ![2064, 1024]⟩
abbrev S1024 : Shape := ⟨1, ![1024]⟩
abbrev S8x128 : Shape := ⟨2, ![8, 128]⟩
abbrev S_ : Shape := ⟨0, ![]⟩
abbrev S2064 : Shape := ⟨1, ![2064]⟩
abbrev S2064x1 : Shape := ⟨2, ![2064, 1]⟩
abbrev S1x1024 : Shape := ⟨2, ![1, 1024]⟩
abbrev S112x1024 : Shape := ⟨2, ![112, 1024]⟩
abbrev S2176x1024 : Shape := ⟨2, ![2176, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024, .f32⟩
  | .hbm, ⟨2, _⟩ => ⟨S2064x1024, .f32⟩
  | .hbm, ⟨3, _⟩ => ⟨S2064x1024, .f32⟩
  | .hbm, ⟨4, _⟩ => ⟨S8x128, .f32⟩
  | .hbm, ⟨5, _⟩ => ⟨S2064x1024, .f32⟩
  | .hbm, ⟨6, _⟩ => ⟨S_, .f32⟩
  | .hbm, ⟨7, _⟩ => ⟨S2064, .f32⟩
  | .hbm, ⟨8, _⟩ => ⟨S2064x1, .f32⟩
  | .hbm, ⟨9, _⟩ => ⟨S_, .f32⟩
  | .hbm, ⟨10, _⟩ => ⟨S2064x1, .f32⟩
  | .hbm, ⟨11, _⟩ => ⟨S2064x1, .f32⟩
  | .hbm, ⟨12, _⟩ => ⟨S_, .f32⟩
  | .hbm, ⟨13, _⟩ => ⟨S2064x1, .f32⟩
  | .hbm, ⟨14, _⟩ => ⟨S2064x1, .f32⟩
  | .hbm, ⟨15, _⟩ => ⟨S2064x1, .f32⟩
  | .hbm, ⟨16, _⟩ => ⟨S2064x1, .f32⟩
  | .hbm, ⟨17, _⟩ => ⟨S_, .f32⟩
  | .hbm, ⟨18, _⟩ => ⟨S2064x1, .f32⟩
  | .hbm, ⟨19, _⟩ => ⟨S2064x1, .f32⟩
  | .hbm, ⟨20, _⟩ => ⟨S2064x1024, .f32⟩
  | .hbm, ⟨21, _⟩ => ⟨S2064x1024, .f32⟩
  | .hbm, ⟨22, _⟩ => ⟨S1x1024, .f32⟩
  | .hbm, ⟨23, _⟩ => ⟨S2064x1024, .f32⟩
  | .hbm, ⟨24, _⟩ => ⟨S2064x1024, .f32⟩
  | .hbm, ⟨25, _⟩ => ⟨S2064x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2064x1024, .f32⟩
  | .hbm, ⟨30, _⟩ => ⟨S2064x1024, .f32⟩
  | .hbm, ⟨31, _⟩ => ⟨S_, .f32⟩
  | .hbm, ⟨32, _⟩ => ⟨S1024, .f32⟩
  | .hbm, ⟨33, _⟩ => ⟨S2064x1024, .f32⟩
  | .hbm, ⟨34, _⟩ => ⟨S_, .f32⟩
  | .hbm, ⟨35, _⟩ => ⟨S2064, .f32⟩
  | .hbm, ⟨36, _⟩ => ⟨S2064x1, .f32⟩
  | .hbm, ⟨37, _⟩ => ⟨S2064x1024, .f32⟩
  | .hbm, ⟨38, _⟩ => ⟨S2064x1024, .f32⟩
  | .hbm, ⟨39, _⟩ => ⟨S2064x1024, .f32⟩
  | .hbm, ⟨40, _⟩ => ⟨S2064x1, .f32⟩
  | .hbm, ⟨41, _⟩ => ⟨S_, .f32⟩
  | .hbm, ⟨42, _⟩ => ⟨S2064x1, .f32⟩
  | .hbm, ⟨43, _⟩ => ⟨S2064x1, .f32⟩
  | .hbm, ⟨44, _⟩ => ⟨S_, .f32⟩
  | .hbm, ⟨45, _⟩ => ⟨S2064, .f32⟩
  | .hbm, ⟨46, _⟩ => ⟨S2064x1024, .f32⟩
  | .hbm, ⟨47, _⟩ => ⟨S2064x1024, .f32⟩
  | .hbm, ⟨48, _⟩ => ⟨S2064x1024, .f32⟩
  | .hbm, ⟨49, _⟩ => ⟨S2064x1024, .f32⟩
  | .hbm, ⟨50, _⟩ => ⟨S2064x1024, .f32⟩
  | .hbm, ⟨51, _⟩ => ⟨S_, .f32⟩
  | .hbm, ⟨52, _⟩ => ⟨S112x1024, .f32⟩
  | .hbm, ⟨53, _⟩ => ⟨S2176x1024, .f32⟩
  | .hbm, ⟨54, _⟩ => ⟨S2176x1024, .bf16⟩
  | .hbm, ⟨55, _⟩ => ⟨S1x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel2.lean ====
abbrev S2064x3072 : Shape := ⟨2, ![2064, 3072]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S2064x1024 : Shape := ⟨2, ![2064, 1024]⟩
abbrev S2064x512 : Shape := ⟨2, ![2064, 512]⟩
abbrev S2064 : Shape := ⟨1, ![2064]⟩
abbrev S2064x4x128 : Shape := ⟨3, ![2064, 4, 128]⟩
abbrev S64 : Shape := ⟨1, ![64]⟩
abbrev S_ : Shape := ⟨0, ![]⟩
abbrev S2064x1 : Shape := ⟨2, ![2064, 1]⟩
abbrev S1x64 : Shape := ⟨2, ![1, 64]⟩
abbrev S2064x64 : Shape := ⟨2, ![2064, 64]⟩
abbrev S2064x1x64 : Shape := ⟨3, ![2064, 1, 64]⟩
abbrev S2064x4x64 : Shape := ⟨3, ![2064, 4, 64]⟩
abbrev S112x4x128 : Shape := ⟨3, ![112, 4, 128]⟩
abbrev S2176x4x128 : Shape := ⟨3, ![2176, 4, 128]⟩
abbrev S17x128x4x128 : Shape := ⟨4, ![17, 128, 4, 128]⟩
abbrev S4 : Shape := ⟨1, ![4]⟩
abbrev S128 : Shape := ⟨1, ![128]⟩
abbrev S128x1 : Shape := ⟨2, ![128, 1]⟩
abbrev S1x4 : Shape := ⟨2, ![1, 4]⟩
abbrev S128x4 : Shape := ⟨2, ![128, 4]⟩
abbrev S1x4x1x1 : Shape := ⟨4, ![1, 4, 1, 1]⟩
abbrev S1x4x128x128 : Shape := ⟨4, ![1, 4, 128, 128]⟩
abbrev S128x4x1 : Shape := ⟨3, ![128, 4, 1]⟩
abbrev S1x128x4x1 : Shape := ⟨4, ![1, 128, 4, 1]⟩
abbrev S17x4x128x128 : Shape := ⟨4, ![17, 4, 128, 128]⟩
abbrev S9x4x128x128 : Shape := ⟨4, ![9, 4, 128, 128]⟩
abbrev S8x4x128x128 : Shape := ⟨4, ![8, 4, 128, 128]⟩
abbrev S112x3072 : Shape := ⟨2, ![112, 3072]⟩
abbrev S2176x3072 : Shape := ⟨2, ![2176, 3072]⟩
abbrev S2176x512 : Shape := ⟨2, ![2176, 512]⟩
abbrev S112x1024 : Shape := ⟨2, ![112, 1024]⟩
abbrev S2176x1024 : Shape := ⟨2, ![2176, 1024]⟩
abbrev S1x512 : Shape := ⟨2, ![1, 512]⟩
abbrev S8x64x1x64 : Shape := ⟨4, ![8, 64, 1, 64]⟩
abbrev S8x8 : Shape := ⟨2, ![8, 8]⟩
abbrev S8x1x8x1 : Shape := ⟨4, ![8, 1, 8, 1]⟩
abbrev S8x64x8x64 : Shape := ⟨4, ![8, 64, 8, 64]⟩
abbrev S512x512 : Shape := ⟨2, ![512, 512]⟩
abbrev S2176 : Shape := ⟨1, ![2176]⟩
abbrev S2176x1 : Shape := ⟨2, ![2176, 1]⟩
abbrev S2176x64 : Shape := ⟨2, ![2176, 64]⟩
abbrev S2176x128 : Shape := ⟨2, ![2176, 128]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S16x512 : Shape := ⟨2, ![16, 512]⟩
abbrev S128x512 : Shape := ⟨2, ![128, 512]⟩
abbrev S128x1024 : Shape := ⟨2, ![128, 1024]⟩
abbrev S128x3072 : Shape := ⟨2, ![128, 3072]⟩
abbrev S1x1x128x128 : Shape := ⟨4, ![1, 1, 128, 128]⟩

abbrev nBuf : Space → Nat
  | .hbm => 270
  | .vmem => 50
  | .smem => 0
  | _ => 0

abbrev hbmTy0_0 (i : Nat) : BufTy := match i % 128 with
  | 0 => ⟨S2064x3072, .f32⟩
  | 1 => ⟨S4x512, .f32⟩
  | 2 => ⟨S512, .f32⟩
  | 3 => ⟨S8x64x64, .f32⟩
  | 4 => ⟨S8x64, .f32⟩
  | 5 => ⟨S8x64x64, .f32⟩
  | 6 => ⟨S8x64, .f32⟩
  | 7 => ⟨S512, .f32⟩
  | 8 => ⟨S512, .f32⟩
  | 9 => ⟨S512, .f32⟩
  | 10 => ⟨S2064x1024, .f32⟩
  | 11 => ⟨S2064x512, .f32⟩
  | 12 => ⟨S2064x512, .f32⟩
  | 13 => ⟨S2064, .f32⟩
  | 14 => ⟨S2064x4x128, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S2064x1, .f32⟩
  | 24 => ⟨S1x64, .f32⟩
  | 25 => ⟨S2064x64, .f32⟩
  | 26 => ⟨S2064x64, .f32⟩
  | 27 => ⟨S2064x64, .f32⟩
  | 28 => ⟨S2064x64, .f32⟩
  | 29 => ⟨S2064x1x64, .f32⟩
  | 30 => ⟨S2064x64, .f32⟩
  | 31 => ⟨S2064x1x64, .f32⟩
  | 32 => ⟨S2064x4x64, .f32⟩
  | 33 => ⟨S2064x4x64, .f32⟩
  | 34 => ⟨S2064x4x64, .f32⟩
  | 35 => ⟨S2064x4x64, .f32⟩
  | 36 => ⟨S2064x4x64, .f32⟩
  | 37 => ⟨S2064x4x64, .f32⟩
  | 38 => ⟨S2064x4x64, .f32⟩
  | 39 => ⟨S2064x4x64, .f32⟩
  | 40 => ⟨S2064x4x64, .f32⟩
  | 41 => ⟨S2064x4x64, .f32⟩
  | 42 => ⟨S2064x4x64, .f32⟩
  | 43 => ⟨S2064x4x64, .f32⟩
  | 44 => ⟨S2064x4x128, .f32⟩
  | 45 => ⟨S_, .f32⟩
  | 46 => ⟨S2064x4x128, .f32⟩
  | 47 => ⟨S2064x4x128, .f32⟩
  | 48 => ⟨S_, .f32⟩
  | 49 => ⟨S112x4x128, .f32⟩
  | 50 => ⟨S2176x4x128, .f32⟩
  | 51 => ⟨S17x128x4x128, .f32⟩
  | 52 => ⟨S2064x4x128, .f32⟩
  | 53 => ⟨S_, .f32⟩
  | 54 => ⟨S112x4x128, .f32⟩
  | 55 => ⟨S2176x4x128, .f32⟩
  | 56 => ⟨S17x128x4x128, .f32⟩
  | 57 => ⟨S4, .f32⟩
  | 58 => ⟨S_, .f32⟩
  | 59 => ⟨S4, .f32⟩
  | 60 => ⟨S4, .f32⟩
  | 61 => ⟨S_, .f32⟩
  | 62 => ⟨S4, .f32⟩
  | 63 => ⟨S4, .f32⟩
  | 64 => ⟨S_, .f32⟩
  | 65 => ⟨S4, .f32⟩
  | 66 => ⟨S4, .f32⟩
  | 67 => ⟨S4, .f32⟩
  | 68 => ⟨S128, .f32⟩
  | 69 => ⟨S_, .f32⟩
  | 70 => ⟨S128, .f32⟩
  | 71 => ⟨S128, .f32⟩
  | 72 => ⟨S128x1, .f32⟩
  | 73 => ⟨S1x4, .f32⟩
  | 74 => ⟨S128x4, .f32⟩
  | 75 => ⟨S128x4, .f32⟩
  | 76 => ⟨S128x4, .f32⟩
  | 77 => ⟨S128x4, .f32⟩
  | 78 => ⟨S_, .f32⟩
  | 79 => ⟨S4, .f32⟩
  | 80 => ⟨S4, .f32⟩
  | 81 => ⟨S4, .f32⟩
  | 82 => ⟨S1x4x1x1, .f32⟩
  | 83 => ⟨S1x4x128x128, .f32⟩
  | 84 => ⟨S128x4x1, .f32⟩
  | 85 => ⟨S1x128x4x1, .f32⟩
  | 86 => ⟨S17x128x4x128, .f32⟩
  | 87 => ⟨S17x128x4x128, .f32⟩
  | 88 => ⟨S17x4x128x128, .f32⟩
  | 89 => ⟨S_, .f32⟩
  | 90 => ⟨S1x4x128x128, .f32⟩
  | 91 => ⟨S1x4x128x128, .f32⟩
  | 92 => ⟨S1x4x128x128, .f32⟩
  | 93 => ⟨S1x4x128x128, .f32⟩
  | 94 => ⟨S1x4x128x128, .f32⟩
  | 95 => ⟨S1x4x128x128, .f32⟩
  | 96 => ⟨S1x4x128x128, .f32⟩
  | 97 => ⟨S1x4x128x128, .f32⟩
  | 98 => ⟨S1x4x128x128, .f32⟩
  | 99 => ⟨S1x4x128x128, .f32⟩
  | 100 => ⟨S1x4x128x128, .f32⟩
  | 101 => ⟨S1x4x128x128, .f32⟩
  | 102 => ⟨S1x4x128x128, .f32⟩
  | 103 => ⟨S1x4x128x128, .f32⟩
  | 104 => ⟨S1x4x128x128, .f32⟩
  | 105 => ⟨S1x4x128x128, .f32⟩
  | 106 => ⟨S1x4x128x128, .f32⟩
  | 107 => ⟨S1x4x128x128, .f32⟩
  | 108 => ⟨S1x4x128x128, .f32⟩
  | 109 => ⟨S1x4x128x128, .f32⟩
  | 110 => ⟨S1x4x128x128, .f32⟩
  | 111 => ⟨S1x4x128x128, .f32⟩
  | 112 => ⟨S1x4x128x128, .f32⟩
  | 113 => ⟨S1x4x128x128, .f32⟩
  | 114 => ⟨S1x4x128x128, .f32⟩
  | 115 => ⟨S1x4x128x128, .f32⟩
  | 116 => ⟨S1x4x128x128, .f32⟩
  | 117 => ⟨S1x4x128x128, .f32⟩
  | 118 => ⟨S1x4x128x128, .f32⟩
  | 119 => ⟨S1x4x128x128, .f32⟩
  | 120 => ⟨S1x4x128x128, .f32⟩
  | 121 => ⟨S1x4x128x128, .f32⟩
  | 122 => ⟨S1x4x128x128, .f32⟩
  | 123 => ⟨S1x4x128x128, .f32⟩
  | 124 => ⟨S1x4x128x128, .f32⟩
  | 125 => ⟨S1x4x128x128, .f32⟩
  | 126 => ⟨S1x4x128x128, .f32⟩
  | 127 => ⟨S1x4x128x128, .f32⟩
  | _ => ⟨S2064x3072, .f32⟩

abbrev hbmTy0_1 (i : Nat) : BufTy := match i % 128 with
  | 0 => ⟨S1x4x128x128, .f32⟩
  | 1 => ⟨S1x4x128x128, .f32⟩
  | 2 => ⟨S1x4x128x128, .f32⟩
  | 3 => ⟨S1x4x128x128, .f32⟩
  | 4 => ⟨S1x4x128x128, .f32⟩
  | 5 => ⟨S1x4x128x128, .f32⟩
  | 6 => ⟨S1x4x128x128, .f32⟩
  | 7 => ⟨S1x4x128x128, .f32⟩
  | 8 => ⟨S1x4x128x128, .f32⟩
  | 9 => ⟨S1x4x128x128, .f32⟩
  | 10 => ⟨S1x4x128x128, .f32⟩
  | 11 => ⟨S9x4x128x128, .f32⟩
  | 12 => ⟨S8x4x128x128, .f32⟩
  | 13 => ⟨S17x4x128x128, .f32⟩
  | 14 => ⟨S_, .f32⟩
  | 15 => ⟨S112x3072, .f32⟩
  | 16 => ⟨S2176x3072, .f32⟩
  | 17 => ⟨S_, .f32⟩
  | 18 => ⟨S2176x512, .f32⟩
  | 19 => ⟨S_, .f32⟩
  | 20 => ⟨S112x1024, .f32⟩
  | 21 => ⟨S2176x1024, .f32⟩
  | 22 => ⟨S1x512, .f32⟩
  | 23 => ⟨S8x64x1x64, .f32⟩
  | 24 => ⟨S8x8, .i32⟩
  | 25 => ⟨S8x8, .i32⟩
  | 26 => ⟨S_, .i32⟩
  | 27 => ⟨S8x8, .i32⟩
  | 28 => ⟨S8x8, .i32⟩
  | 29 => ⟨S8x8, .i1⟩
  | 30 => ⟨S8x8, .f32⟩
  | 31 => ⟨S8x1x8x1, .f32⟩
  | 32 => ⟨S8x64x8x64, .f32⟩
  | 33 => ⟨S8x64x8x64, .f32⟩
  | 34 => ⟨S8x64x8x64, .f32⟩
  | 35 => ⟨S512x512, .f32⟩
  | 36 => ⟨S512x512, .bf16⟩
  | 37 => ⟨S1x512, .f32⟩
  | 38 => ⟨S8x64x1x64, .f32⟩
  | 39 => ⟨S8x8, .i32⟩
  | 40 => ⟨S8x8, .i32⟩
  | 41 => ⟨S_, .i32⟩
  | 42 => ⟨S8x8, .i32⟩
  | 43 => ⟨S8x8, .i32⟩
  | 44 => ⟨S8x8, .i1⟩
  | 45 => ⟨S8x8, .f32⟩
  | 46 => ⟨S8x1x8x1, .f32⟩
  | 47 => ⟨S8x64x8x64, .f32⟩
  | 48 => ⟨S8x64x8x64, .f32⟩
  | 49 => ⟨S8x64x8x64, .f32⟩
  | 50 => ⟨S512x512, .f32⟩
  | 51 => ⟨S512x512, .bf16⟩
  | 52 => ⟨S1x512, .f32⟩
  | 53 => ⟨S1x512, .f32⟩
  | 54 => ⟨S1x512, .f32⟩
  | 55 => ⟨S2176, .f32⟩
  | 56 => ⟨S_, .f32⟩
  | 57 => ⟨S2176, .f32⟩
  | 58 => ⟨S2176, .f32⟩
  | 59 => ⟨S64, .f32⟩
  | 60 => ⟨S64, .f32⟩
  | 61 => ⟨S_, .f32⟩
  | 62 => ⟨S64, .f32⟩
  | 63 => ⟨S64, .f32⟩
  | 64 => ⟨S_, .f32⟩
  | 65 => ⟨S64, .f32⟩
  | 66 => ⟨S64, .f32⟩
  | 67 => ⟨S2176x1, .f32⟩
  | 68 => ⟨S1x64, .f32⟩
  | 69 => ⟨S2176x64, .f32⟩
  | 70 => ⟨S2176x64, .f32⟩
  | 71 => ⟨S2176x64, .f32⟩
  | 72 => ⟨S2176x64, .f32⟩
  | 73 => ⟨S2176x64, .f32⟩
  | 74 => ⟨S2176x128, .f32⟩
  | 75 => ⟨S2176x64, .f32⟩
  | 76 => ⟨S2176x64, .f32⟩
  | 77 => ⟨S2176x64, .f32⟩
  | 78 => ⟨S2176x128, .f32⟩
  | 79 => ⟨S4, .f32⟩
  | 80 => ⟨S_, .f32⟩
  | 81 => ⟨S4, .f32⟩
  | 82 => ⟨S4, .f32⟩
  | 83 => ⟨S_, .f32⟩
  | 84 => ⟨S4, .f32⟩
  | 85 => ⟨S4, .f32⟩
  | 86 => ⟨S_, .f32⟩
  | 87 => ⟨S4, .f32⟩
  | 88 => ⟨S4, .f32⟩
  | 89 => ⟨S4, .f32⟩
  | 90 => ⟨S128, .f32⟩
  | 91 => ⟨S128x1, .f32⟩
  | 92 => ⟨S1x128, .f32⟩
  | 93 => ⟨S128x128, .f32⟩
  | 94 => ⟨S128x128, .f32⟩
  | 95 => ⟨S128x128, .f32⟩
  | 96 => ⟨S1x128x128, .f32⟩
  | 97 => ⟨S_, .f32⟩
  | 98 => ⟨S1x128x128, .f32⟩
  | 99 => ⟨S1x128x128, .i1⟩
  | 100 => ⟨S_, .f32⟩
  | 101 => ⟨S128x128, .f32⟩
  | 102 => ⟨S128x128, .f32⟩
  | 103 => ⟨S1x128x128, .f32⟩
  | 104 => ⟨S4x1x1, .f32⟩
  | 105 => ⟨S4x128x128, .f32⟩
  | 106 => ⟨S4x128x128, .f32⟩
  | 107 => ⟨S4x128x128, .f32⟩
  | 108 => ⟨S4x128x128, .f32⟩
  | 109 => ⟨S_, .f32⟩
  | 110 => ⟨S_, .f32⟩
  | 111 => ⟨S4x128x128, .i1⟩
  | 112 => ⟨S4x128x128, .f32⟩
  | 113 => ⟨S4x128x128, .f32⟩
  | 114 => ⟨S_, .f32⟩
  | 115 => ⟨S128, .f32⟩
  | 116 => ⟨S128, .f32⟩
  | 117 => ⟨S1x128, .f32⟩
  | 118 => ⟨S4x1, .f32⟩
  | 119 => ⟨S4x128, .f32⟩
  | 120 => ⟨S4x128, .f32⟩
  | 121 => ⟨S4x128, .f32⟩
  | 122 => ⟨S4x128, .f32⟩
  | 123 => ⟨S_, .f32⟩
  | 124 => ⟨S128, .f32⟩
  | 125 => ⟨S128, .f32⟩
  | 126 => ⟨S1x128, .f32⟩
  | 127 => ⟨S4x1, .f32⟩
  | _ => ⟨S2064x3072, .f32⟩

abbrev hbmTy0_2 (i : Nat) : BufTy := match i % 128 with
  | 0 => ⟨S4x128, .f32⟩
  | 1 => ⟨S4x128, .f32⟩
  | 2 => ⟨S4x128, .f32⟩
  | 3 => ⟨S4x128, .f32⟩
  | 4 => ⟨S4x128x1, .f32⟩
  | 5 => ⟨S4x128x128, .f32⟩
  | 6 => ⟨S4x128x1, .f32⟩
  | 7 => ⟨S4x128x128, .f32⟩
  | 8 => ⟨S1x512, .f32⟩
  | 9 => ⟨S2176x3072, .bf16⟩
  | 10 => ⟨S16x512, .f32⟩
  | 11 => ⟨S512x512, .f32⟩
  | 12 => ⟨S512x512, .f32⟩
  | 13 => ⟨S1x512, .f32⟩
  | _ => ⟨S2064x3072, .f32⟩

abbrev hbmTy (i : Nat) : BufTy := match i / 128 with
  | 0 => hbmTy0_0 i
  | 1 => hbmTy0_1 i
  | 2 => hbmTy0_2 i
  | _ => ⟨S2064x3072, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S4x512, .f32⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S512x512, .bf16⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S128x512, .f32⟩
  | .local _ .vmem, ⟨25, _⟩ => ⟨S128x512, .f32⟩
  | .local _ .vmem, ⟨26, _⟩ => ⟨S1x4x128x128, .f32⟩
  | .local _ .vmem, ⟨27, _⟩ => ⟨S1x4x128x128, .f32⟩
  | .local _ .vmem, ⟨28, _⟩ => ⟨S128x1024, .f32⟩
  | .local _ .vmem, ⟨29, _⟩ => ⟨S128x1024, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S4x128x128, .f32⟩
  | .local _ .vmem, ⟨35, _⟩ => ⟨S4x128x128, .f32⟩
  | .local _ .vmem, ⟨36, _⟩ => ⟨S4x128x128, .f32⟩
  | .local _ .vmem, ⟨37, _⟩ => ⟨S1x512, .f32⟩
  | .local _ .vmem, ⟨38, _⟩ => ⟨S128x3072, .bf16⟩
  | .local _ .vmem, ⟨39, _⟩ => ⟨S128x3072, .bf16⟩
  | .local _ .vmem, ⟨40, _⟩ => ⟨S16x512, .f32⟩
  | .local _ .vmem, ⟨41, _⟩ => ⟨S512x512, .f32⟩
  | .local _ .vmem, ⟨42, _⟩ => ⟨S512x512, .f32⟩
  | .local _ .vmem, ⟨43, _⟩ => ⟨S1x512, .f32⟩
  | .local _ .vmem, ⟨44, _⟩ => ⟨S128x512, .f32⟩
  | .local _ .vmem, ⟨45, _⟩ => ⟨S128x512, .f32⟩
  | .local _ .vmem, ⟨46, _⟩ => ⟨S128x512, .f32⟩
  | .local _ .vmem, ⟨47, _⟩ => ⟨S1x512, .f32⟩
  | .local _ .vmem, ⟨48, _⟩ => ⟨S128x512, .f32⟩
  | .local _ .vmem, ⟨49, _⟩ => ⟨S4x128x128, .f32⟩
  | _, _ => ⟨S2064x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_9 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_cst_10 : Ref sig .tc := ⟨.hbm, 142, rfl⟩
abbrev main_v120 : Ref sig .tc := ⟨.hbm, 143, rfl⟩
abbrev main_v121 : Ref sig .tc := ⟨.hbm, 144, rfl⟩
abbrev main_cst_11 : Ref sig .tc := ⟨.hbm, 145, rfl⟩
abbrev main_v122 : Ref sig .tc := ⟨.hbm, 146, rfl⟩
abbrev main_cst_12 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_c : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_c_13 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_cst_14 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_cst_15 : Ref sig .tc := ⟨.hbm, 189, rfl⟩
abbrev main_v161 : Ref sig .tc := ⟨.hbm, 190, rfl⟩
abbrev main_v162 : Ref sig .tc := ⟨.hbm, 191, rfl⟩
abbrev main_cst_16 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_cst_17 : Ref sig .tc := ⟨.hbm, 208, rfl⟩
abbrev main_v178 : Ref sig .tc := ⟨.hbm, 209, rfl⟩
abbrev main_v179 : Ref sig .tc := ⟨.hbm, 210, rfl⟩
abbrev main_cst_18 : Ref sig .tc := ⟨.hbm, 211, rfl⟩
abbrev main_v180 : Ref sig .tc := ⟨.hbm, 212, rfl⟩
abbrev main_v181 : Ref sig .tc := ⟨.hbm, 213, rfl⟩
abbrev main_cst_19 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_cst_20 : Ref sig .tc := ⟨.hbm, 225, rfl⟩
abbrev main_v192 : Ref sig .tc := ⟨.hbm, 226, rfl⟩
abbrev main_v193 : Ref sig .tc := ⟨.hbm, 227, rfl⟩
abbrev main_cst_21 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_cst_22 : Ref sig .tc := ⟨.hbm, 237, rfl⟩
abbrev main_call0_v0 : Ref sig .tc := ⟨.hbm, 238, rfl⟩
abbrev main_call0_v1 : Ref sig .tc := ⟨.hbm, 239, rfl⟩
abbrev main_call0_v2 : Ref sig .tc := ⟨.hbm, 240, rfl⟩
abbrev main_v202 : Ref sig .tc := ⟨.hbm, 241, rfl⟩
abbrev main_cst_23 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_cst_24 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224_0 : Ref sig .tc := ⟨.hbm, 265, rfl⟩
abbrev main_v224_1 : Ref sig .tc := ⟨.hbm, 266, rfl⟩
abbrev main_v224_2 : Ref sig .tc := ⟨.hbm, 267, rfl⟩
abbrev main_v224_3 : Ref sig .tc := ⟨.hbm, 268, rfl⟩
abbrev main_v224_4 : Ref sig .tc := ⟨.hbm, 269, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg24_0 : Ref sig .tc := ⟨.vmem, 37, rfl⟩
abbrev cc0_stg25_0 : Ref sig .tc := ⟨.vmem, 38, rfl⟩
abbrev cc0_stg25_1 : Ref sig .tc := ⟨.vmem, 39, rfl⟩
abbrev cc0_stg26_0 : Ref sig .tc := ⟨.vmem, 40, rfl⟩
abbrev cc0_stg27_0 : Ref sig .tc := ⟨.vmem, 41, rfl⟩
abbrev cc0_stg28_0 : Ref sig .tc := ⟨.vmem, 42, rfl⟩
abbrev cc0_stg29_0 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_scratch3 : Ref sig .tc := ⟨.vmem, 47, rfl⟩
abbrev cc0_scratch4 : Ref sig .tc := ⟨.vmem, 48, rfl⟩
abbrev cc0_scratch5 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem22_0 : DmaSem sig := 35
abbrev cc0_sem23_0 : DmaSem sig := 36
abbrev cc0_sem24_0 : DmaSem sig := 37
abbrev cc0_sem25_0 : DmaSem sig := 38
abbrev cc0_sem25_1 : DmaSem sig := 39
abbrev cc0_sem26_0 : DmaSem sig := 40
abbrev cc0_sem27_0 : DmaSem sig := 41
abbrev cc0_sem28_0 : DmaSem sig := 42
abbrev cc0_sem29_0 : DmaSem sig := 43

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let v1 : BitVec 32 := Scalar.subi v0 c0_i32
  let c0_i32_0 : BitVec 32 := 0#32
  let v2 : BitVec 32 := Scalar.maxsi v1 c0_i32_0
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let v1 : BitVec 32 := Scalar.subi v0 c0_i32
  let c0_i32_0 : BitVec 32 := 0#32
  let v2 : BitVec 32 := Scalar.maxsi v1 c0_i32_0
  let c1_i32 : BitVec 32 := 1#32
  let c0_i32_1 : BitVec 32 := 0#32
  ![v2.toNat, c1_i32.toNat]

def cc0_transform_3 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let v1 : BitVec 32 := Scalar.subi v0 c0_i32
  let c0_i32_0 : BitVec 32 := 0#32
  let v2 : BitVec 32 := Scalar.maxsi v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let v1 : BitVec 32 := Scalar.subi v0 c0_i32
  let c0_i32_0 : BitVec 32 := 0#32
  let v2 : BitVec 32 := Scalar.maxsi v1 c0_i32_0
  let c2_i32 : BitVec 32 := 2#32
  let c0_i32_1 : BitVec 32 := 0#32
  ![v2.toNat, c2_i32.toNat]

def cc0_transform_14 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let v1 : BitVec 32 := Scalar.subi v0 c0_i32
  let c0_i32_0 : BitVec 32 := 0#32
  let v2 : BitVec 32 := Scalar.maxsi v1 c0_i32_0
  let c3_i32 : BitVec 32 := 3#32
  let c0_i32_1 : BitVec 32 := 0#32
  ![v2.toNat, c3_i32.toNat]

def cc0_transform_15 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let v1 : BitVec 32 := Scalar.subi v0 c0_i32
  let c0_i32_0 : BitVec 32 := 0#32
  let v2 : BitVec 32 := Scalar.maxsi v1 c0_i32_0
  let c4_i32 : BitVec 32 := 4#32
  let c0_i32_1 : BitVec 32 := 0#32
  ![v2.toNat, c4_i32.toNat]

def cc0_transform_16 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let v1 : BitVec 32 := Scalar.subi v0 c0_i32
  let c0_i32_0 : BitVec 32 := 0#32
  let v2 : BitVec 32 := Scalar.maxsi v1 c0_i32_0
  let c5_i32 : BitVec 32 := 5#32
  let c0_i32_1 : BitVec 32 := 0#32
  ![v2.toNat, c5_i32.toNat]

def cc0_transform_17 (i : grid0.Coords) : Fin 4 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_18 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S4x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S128x3072 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 1 → Memref sig .tc .vmem S16x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S512x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S512x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]
-- ==== Kernel2Ideal.lean ====
variable {F : FTy → Type} [FloatOps F] [Named F]
def κ : String → Option EReal := fun
  | "decay0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "decay1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "decay2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "decay3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | _ => none
-- ==== Reference2Ideal.lean ====
abbrev S2064x3072 : Shape := ⟨2, ![2064, 3072]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S2064x1024 : Shape := ⟨2, ![2064, 1024]⟩
abbrev S2064x2048 : Shape := ⟨2, ![2064, 2048]⟩
abbrev S2064x512 : Shape := ⟨2, ![2064, 512]⟩
abbrev S2064 : Shape := ⟨1, ![2064]⟩
abbrev S2064x4x128 : Shape := ⟨3, ![2064, 4, 128]⟩
abbrev S64 : Shape := ⟨1, ![64]⟩
abbrev S_ : Shape := ⟨0, ![]⟩
abbrev S2064x1 : Shape := ⟨2, ![2064, 1]⟩
abbrev S1x64 : Shape := ⟨2, ![1, 64]⟩
abbrev S2064x64 : Shape := ⟨2, ![2064, 64]⟩
abbrev S2064x1x64 : Shape := ⟨3, ![2064, 1, 64]⟩
abbrev S2064x4x64 : Shape := ⟨3, ![2064, 4, 64]⟩
abbrev S112x4x128 : Shape := ⟨3, ![112, 4, 128]⟩
abbrev S2176x4x128 : Shape := ⟨3, ![2176, 4, 128]⟩
abbrev S17x128x4x128 : Shape := ⟨4, ![17, 128, 4, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S17x4x128x128 : Shape := ⟨4, ![17, 4, 128, 128]⟩
abbrev S1x4x128x128 : Shape := ⟨4, ![1, 4, 128, 128]⟩
abbrev S128x4x1 : Shape := ⟨3, ![128, 4, 1]⟩
abbrev S1x128x4x1 : Shape := ⟨4, ![1, 128, 4, 1]⟩
abbrev S9x4x128x128 : Shape := ⟨4, ![9, 4, 128, 128]⟩
abbrev S8x4x128x128 : Shape := ⟨4, ![8, 4, 128, 128]⟩
abbrev S2064x4 : Shape := ⟨2, ![2064, 4]⟩
abbrev S2064x4x1 : Shape := ⟨3, ![2064, 4, 1]⟩
abbrev S1x512 : Shape := ⟨2, ![1, 512]⟩
abbrev S512x512 : Shape := ⟨2, ![512, 512]⟩
abbrev S112x3072 : Shape := ⟨2, ![112, 3072]⟩
abbrev S2176x3072 : Shape := ⟨2, ![2176, 3072]⟩
abbrev S16x512 : Shape := ⟨2, ![16, 512]⟩

abbrev nBuf : Space → Nat
  | .hbm => 646
  | .vmem => 0
  | .smem => 0
  | _ => 0

abbrev hbmTy0_0 (i : Nat) : BufTy := match i % 128 with
  | 0 => ⟨S2064x3072, .f32⟩
  | 1 => ⟨S4x512, .f32⟩
  | 2 => ⟨S512, .f32⟩
  | 3 => ⟨S8x64x64, .f32⟩
  | 4 => ⟨S8x64, .f32⟩
  | 5 => ⟨S8x64x64, .f32⟩
  | 6 => ⟨S8x64, .f32⟩
  | 7 => ⟨S512, .f32⟩
  | 8 => ⟨S512, .f32⟩
  | 9 => ⟨S512, .f32⟩
  | 10 => ⟨S2064x1024, .f32⟩
  | 11 => ⟨S2064x2048, .f32⟩
  | 12 => ⟨S2064x512, .f32⟩
  | 13 => ⟨S2064x512, .f32⟩
  | 14 => ⟨S2064x512, .f32⟩
  | 15 => ⟨S2064x512, .f32⟩
  | 16 => ⟨S2064, .f32⟩
  | 17 => ⟨S2064x4x128, .f32⟩
  | 18 => ⟨S64, .f32⟩
  | 19 => ⟨S64, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S2064x1, .f32⟩
  | 27 => ⟨S1x64, .f32⟩
  | 28 => ⟨S2064x64, .f32⟩
  | 29 => ⟨S2064x64, .f32⟩
  | 30 => ⟨S2064x64, .f32⟩
  | 31 => ⟨S2064x64, .f32⟩
  | 32 => ⟨S2064x1x64, .f32⟩
  | 33 => ⟨S2064x64, .f32⟩
  | 34 => ⟨S2064x1x64, .f32⟩
  | 35 => ⟨S2064x4x64, .f32⟩
  | 36 => ⟨S2064x4x64, .f32⟩
  | 37 => ⟨S2064x4x64, .f32⟩
  | 38 => ⟨S2064x4x64, .f32⟩
  | 39 => ⟨S2064x4x64, .f32⟩
  | 40 => ⟨S2064x4x64, .f32⟩
  | 41 => ⟨S2064x4x64, .f32⟩
  | 42 => ⟨S2064x4x64, .f32⟩
  | 43 => ⟨S2064x4x64, .f32⟩
  | 44 => ⟨S2064x4x64, .f32⟩
  | 45 => ⟨S2064x4x64, .f32⟩
  | 46 => ⟨S2064x4x64, .f32⟩
  | 47 => ⟨S2064x4x128, .f32⟩
  | 48 => ⟨S2064x4x128, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S2064x1, .f32⟩
  | 58 => ⟨S1x64, .f32⟩
  | 59 => ⟨S2064x64, .f32⟩
  | 60 => ⟨S2064x64, .f32⟩
  | 61 => ⟨S2064x64, .f32⟩
  | 62 => ⟨S2064x64, .f32⟩
  | 63 => ⟨S2064x1x64, .f32⟩
  | 64 => ⟨S2064x64, .f32⟩
  | 65 => ⟨S2064x1x64, .f32⟩
  | 66 => ⟨S2064x4x64, .f32⟩
  | 67 => ⟨S2064x4x64, .f32⟩
  | 68 => ⟨S2064x4x64, .f32⟩
  | 69 => ⟨S2064x4x64, .f32⟩
  | 70 => ⟨S2064x4x64, .f32⟩
  | 71 => ⟨S2064x4x64, .f32⟩
  | 72 => ⟨S2064x4x64, .f32⟩
  | 73 => ⟨S2064x4x64, .f32⟩
  | 74 => ⟨S2064x4x64, .f32⟩
  | 75 => ⟨S2064x4x64, .f32⟩
  | 76 => ⟨S2064x4x64, .f32⟩
  | 77 => ⟨S2064x4x64, .f32⟩
  | 78 => ⟨S2064x4x128, .f32⟩
  | 79 => ⟨S_, .f32⟩
  | 80 => ⟨S2064x4x128, .f32⟩
  | 81 => ⟨S2064x4x128, .f32⟩
  | 82 => ⟨S2064x4x128, .f32⟩
  | 83 => ⟨S_, .f32⟩
  | 84 => ⟨S112x4x128, .f32⟩
  | 85 => ⟨S2176x4x128, .f32⟩
  | 86 => ⟨S_, .f32⟩
  | 87 => ⟨S112x4x128, .f32⟩
  | 88 => ⟨S17x128x4x128, .f32⟩
  | 89 => ⟨S2176x4x128, .f32⟩
  | 90 => ⟨S_, .f32⟩
  | 91 => ⟨S112x4x128, .f32⟩
  | 92 => ⟨S17x128x4x128, .f32⟩
  | 93 => ⟨S2176x4x128, .f32⟩
  | 94 => ⟨S_, .f32⟩
  | 95 => ⟨S112x4x128, .f32⟩
  | 96 => ⟨S17x128x4x128, .f32⟩
  | 97 => ⟨S4, .f32⟩
  | 98 => ⟨S_, .f32⟩
  | 99 => ⟨S4, .f32⟩
  | 100 => ⟨S4, .f32⟩
  | 101 => ⟨S_, .f32⟩
  | 102 => ⟨S4, .f32⟩
  | 103 => ⟨S4, .f32⟩
  | 104 => ⟨S_, .f32⟩
  | 105 => ⟨S4, .f32⟩
  | 106 => ⟨S4, .f32⟩
  | 107 => ⟨S4, .f32⟩
  | 108 => ⟨S128, .f32⟩
  | 109 => ⟨S128x1, .f32⟩
  | 110 => ⟨S1x128, .f32⟩
  | 111 => ⟨S128x128, .f32⟩
  | 112 => ⟨S128x128, .f32⟩
  | 113 => ⟨S128x128, .f32⟩
  | 114 => ⟨S1x128x128, .f32⟩
  | 115 => ⟨S_, .f32⟩
  | 116 => ⟨S1x128x128, .f32⟩
  | 117 => ⟨S1x128x128, .i1⟩
  | 118 => ⟨S_, .f32⟩
  | 119 => ⟨S128x128, .f32⟩
  | 120 => ⟨S128x128, .f32⟩
  | 121 => ⟨S1x128x128, .f32⟩
  | 122 => ⟨S4x1x1, .f32⟩
  | 123 => ⟨S4x128x128, .f32⟩
  | 124 => ⟨S4x128x128, .f32⟩
  | 125 => ⟨S4x128x128, .f32⟩
  | 126 => ⟨S4x128x128, .f32⟩
  | 127 => ⟨S_, .f32⟩
  | _ => ⟨S2064x3072, .f32⟩

abbrev hbmTy0_1 (i : Nat) : BufTy := match i % 128 with
  | 0 => ⟨S_, .f32⟩
  | 1 => ⟨S4x128x128, .i1⟩
  | 2 => ⟨S4x128x128, .f32⟩
  | 3 => ⟨S4x128x128, .f32⟩
  | 4 => ⟨S_, .f32⟩
  | 5 => ⟨S128, .f32⟩
  | 6 => ⟨S128, .f32⟩
  | 7 => ⟨S128x1, .f32⟩
  | 8 => ⟨S1x4, .f32⟩
  | 9 => ⟨S128x4, .f32⟩
  | 10 => ⟨S128x4, .f32⟩
  | 11 => ⟨S128x4, .f32⟩
  | 12 => ⟨S128x4, .f32⟩
  | 13 => ⟨S_, .f32⟩
  | 14 => ⟨S128, .f32⟩
  | 15 => ⟨S128, .f32⟩
  | 16 => ⟨S128x1, .f32⟩
  | 17 => ⟨S1x4, .f32⟩
  | 18 => ⟨S128x4, .f32⟩
  | 19 => ⟨S128x4, .f32⟩
  | 20 => ⟨S128x4, .f32⟩
  | 21 => ⟨S128x4, .f32⟩
  | 22 => ⟨S_, .f32⟩
  | 23 => ⟨S4, .f32⟩
  | 24 => ⟨S4, .f32⟩
  | 25 => ⟨S4, .f32⟩
  | 26 => ⟨S17x4x128x128, .f32⟩
  | 27 => ⟨S1x4x128x128, .f32⟩
  | 28 => ⟨S17x4x128x128, .f32⟩
  | 29 => ⟨S17x4x128x128, .f32⟩
  | 30 => ⟨S17x4x128x128, .f32⟩
  | 31 => ⟨S17x128x4x128, .f32⟩
  | 32 => ⟨S128x4x1, .f32⟩
  | 33 => ⟨S1x128x4x1, .f32⟩
  | 34 => ⟨S17x128x4x128, .f32⟩
  | 35 => ⟨S17x128x4x128, .f32⟩
  | 36 => ⟨S17x4x128x128, .f32⟩
  | 37 => ⟨S_, .f32⟩
  | 38 => ⟨S4x128x128, .f32⟩
  | 39 => ⟨S4x1x1, .f32⟩
  | 40 => ⟨S4x128x128, .f32⟩
  | 41 => ⟨S4x128x128, .f32⟩
  | 42 => ⟨S1x4x128x128, .f32⟩
  | 43 => ⟨S4x128x128, .f32⟩
  | 44 => ⟨S4x128x128, .f32⟩
  | 45 => ⟨S4x1x1, .f32⟩
  | 46 => ⟨S4x128x128, .f32⟩
  | 47 => ⟨S4x128x128, .f32⟩
  | 48 => ⟨S1x4x128x128, .f32⟩
  | 49 => ⟨S4x128x128, .f32⟩
  | 50 => ⟨S4x128x128, .f32⟩
  | 51 => ⟨S4x1x1, .f32⟩
  | 52 => ⟨S4x128x128, .f32⟩
  | 53 => ⟨S4x128x128, .f32⟩
  | 54 => ⟨S1x4x128x128, .f32⟩
  | 55 => ⟨S4x128x128, .f32⟩
  | 56 => ⟨S4x128x128, .f32⟩
  | 57 => ⟨S4x1x1, .f32⟩
  | 58 => ⟨S4x128x128, .f32⟩
  | 59 => ⟨S4x128x128, .f32⟩
  | 60 => ⟨S1x4x128x128, .f32⟩
  | 61 => ⟨S4x128x128, .f32⟩
  | 62 => ⟨S4x128x128, .f32⟩
  | 63 => ⟨S4x1x1, .f32⟩
  | 64 => ⟨S4x128x128, .f32⟩
  | 65 => ⟨S4x128x128, .f32⟩
  | 66 => ⟨S1x4x128x128, .f32⟩
  | 67 => ⟨S4x128x128, .f32⟩
  | 68 => ⟨S4x128x128, .f32⟩
  | 69 => ⟨S4x1x1, .f32⟩
  | 70 => ⟨S4x128x128, .f32⟩
  | 71 => ⟨S4x128x128, .f32⟩
  | 72 => ⟨S1x4x128x128, .f32⟩
  | 73 => ⟨S4x128x128, .f32⟩
  | 74 => ⟨S4x128x128, .f32⟩
  | 75 => ⟨S4x1x1, .f32⟩
  | 76 => ⟨S4x128x128, .f32⟩
  | 77 => ⟨S4x128x128, .f32⟩
  | 78 => ⟨S1x4x128x128, .f32⟩
  | 79 => ⟨S4x128x128, .f32⟩
  | 80 => ⟨S4x128x128, .f32⟩
  | 81 => ⟨S4x1x1, .f32⟩
  | 82 => ⟨S4x128x128, .f32⟩
  | 83 => ⟨S4x128x128, .f32⟩
  | 84 => ⟨S1x4x128x128, .f32⟩
  | 85 => ⟨S4x128x128, .f32⟩
  | 86 => ⟨S4x128x128, .f32⟩
  | 87 => ⟨S4x1x1, .f32⟩
  | 88 => ⟨S4x128x128, .f32⟩
  | 89 => ⟨S4x128x128, .f32⟩
  | 90 => ⟨S1x4x128x128, .f32⟩
  | 91 => ⟨S4x128x128, .f32⟩
  | 92 => ⟨S4x128x128, .f32⟩
  | 93 => ⟨S4x1x1, .f32⟩
  | 94 => ⟨S4x128x128, .f32⟩
  | 95 => ⟨S4x128x128, .f32⟩
  | 96 => ⟨S1x4x128x128, .f32⟩
  | 97 => ⟨S4x128x128, .f32⟩
  | 98 => ⟨S4x128x128, .f32⟩
  | 99 => ⟨S4x1x1, .f32⟩
  | 100 => ⟨S4x128x128, .f32⟩
  | 101 => ⟨S4x128x128, .f32⟩
  | 102 => ⟨S1x4x128x128, .f32⟩
  | 103 => ⟨S4x128x128, .f32⟩
  | 104 => ⟨S4x128x128, .f32⟩
  | 105 => ⟨S4x1x1, .f32⟩
  | 106 => ⟨S4x128x128, .f32⟩
  | 107 => ⟨S4x128x128, .f32⟩
  | 108 => ⟨S1x4x128x128, .f32⟩
  | 109 => ⟨S4x128x128, .f32⟩
  | 110 => ⟨S4x128x128, .f32⟩
  | 111 => ⟨S4x1x1, .f32⟩
  | 112 => ⟨S4x128x128, .f32⟩
  | 113 => ⟨S4x128x128, .f32⟩
  | 114 => ⟨S1x4x128x128, .f32⟩
  | 115 => ⟨S4x128x128, .f32⟩
  | 116 => ⟨S4x128x128, .f32⟩
  | 117 => ⟨S4x1x1, .f32⟩
  | 118 => ⟨S4x128x128, .f32⟩
  | 119 => ⟨S4x128x128, .f32⟩
  | 120 => ⟨S1x4x128x128, .f32⟩
  | 121 => ⟨S4x128x128, .f32⟩
  | 122 => ⟨S4x128x128, .f32⟩
  | 123 => ⟨S4x1x1, .f32⟩
  | 124 => ⟨S4x128x128, .f32⟩
  | 125 => ⟨S4x128x128, .f32⟩
  | 126 => ⟨S1x4x128x128, .f32⟩
  | 127 => ⟨S4x128x128, .f32⟩
  | _ => ⟨S2064x3072, .f32⟩

abbrev hbmTy0_2 (i : Nat) : BufTy := match i % 128 with
  | 0 => ⟨S4x128x128, .f32⟩
  | 1 => ⟨S4x1x1, .f32⟩
  | 2 => ⟨S4x128x128, .f32⟩
  | 3 => ⟨S4x128x128, .f32⟩
  | 4 => ⟨S1x4x128x128, .f32⟩
  | 5 => ⟨S4x128x128, .f32⟩
  | 6 => ⟨S4x128x128, .f32⟩
  | 7 => ⟨S4x1x1, .f32⟩
  | 8 => ⟨S4x128x128, .f32⟩
  | 9 => ⟨S4x128x128, .f32⟩
  | 10 => ⟨S1x4x128x128, .f32⟩
  | 11 => ⟨S4x128x128, .f32⟩
  | 12 => ⟨S4x128x128, .f32⟩
  | 13 => ⟨S1x4x128x128, .f32⟩
  | 14 => ⟨S1x4x128x128, .f32⟩
  | 15 => ⟨S1x4x128x128, .f32⟩
  | 16 => ⟨S1x4x128x128, .f32⟩
  | 17 => ⟨S1x4x128x128, .f32⟩
  | 18 => ⟨S1x4x128x128, .f32⟩
  | 19 => ⟨S1x4x128x128, .f32⟩
  | 20 => ⟨S1x4x128x128, .f32⟩
  | 21 => ⟨S1x4x128x128, .f32⟩
  | 22 => ⟨S1x4x128x128, .f32⟩
  | 23 => ⟨S1x4x128x128, .f32⟩
  | 24 => ⟨S1x4x128x128, .f32⟩
  | 25 => ⟨S1x4x128x128, .f32⟩
  | 26 => ⟨S1x4x128x128, .f32⟩
  | 27 => ⟨S1x4x128x128, .f32⟩
  | 28 => ⟨S1x4x128x128, .f32⟩
  | 29 => ⟨S1x4x128x128, .f32⟩
  | 30 => ⟨S9x4x128x128, .f32⟩
  | 31 => ⟨S_, .f32⟩
  | 32 => ⟨S1x4x128x128, .f32⟩
  | 33 => ⟨S8x4x128x128, .f32⟩
  | 34 => ⟨S17x4x128x128, .f32⟩
  | 35 => ⟨S17x4x128x128, .f32⟩
  | 36 => ⟨S17x128x4x128, .f32⟩
  | 37 => ⟨S128x4x1, .f32⟩
  | 38 => ⟨S1x128x4x1, .f32⟩
  | 39 => ⟨S17x128x4x128, .f32⟩
  | 40 => ⟨S17x128x4x128, .f32⟩
  | 41 => ⟨S17x128x4x128, .f32⟩
  | 42 => ⟨S2176x4x128, .f32⟩
  | 43 => ⟨S2064x4x128, .f32⟩
  | 44 => ⟨S_, .f32⟩
  | 45 => ⟨S2064x4, .f32⟩
  | 46 => ⟨S2064x4x1, .f32⟩
  | 47 => ⟨S_, .f32⟩
  | 48 => ⟨S2064x4x1, .f32⟩
  | 49 => ⟨S2064x4x1, .f32⟩
  | 50 => ⟨S2064x4x128, .f32⟩
  | 51 => ⟨S2064x4x128, .f32⟩
  | 52 => ⟨S2064x4x128, .f32⟩
  | 53 => ⟨S_, .f32⟩
  | 54 => ⟨S2064x4x128, .f32⟩
  | 55 => ⟨S2064x4x128, .f32⟩
  | 56 => ⟨S_, .f32⟩
  | 57 => ⟨S2064x4, .f32⟩
  | 58 => ⟨S2064x4x1, .f32⟩
  | 59 => ⟨S_, .f32⟩
  | 60 => ⟨S2064x4x1, .f32⟩
  | 61 => ⟨S2064x4x1, .f32⟩
  | 62 => ⟨S2064x4x128, .f32⟩
  | 63 => ⟨S2064x4x128, .f32⟩
  | 64 => ⟨S_, .f32⟩
  | 65 => ⟨S2064x4x1, .f32⟩
  | 66 => ⟨S2064x4x1, .f32⟩
  | 67 => ⟨S2064x4x1, .f32⟩
  | 68 => ⟨S2064x4x1, .f32⟩
  | 69 => ⟨S_, .f32⟩
  | 70 => ⟨S2064x4x1, .f32⟩
  | 71 => ⟨S2064x4x1, .f32⟩
  | 72 => ⟨S2064x4x128, .f32⟩
  | 73 => ⟨S2064x4x128, .f32⟩
  | 74 => ⟨S2064x512, .f32⟩
  | 75 => ⟨S1x512, .f32⟩
  | 76 => ⟨S2064x512, .f32⟩
  | 77 => ⟨S2064x512, .f32⟩
  | 78 => ⟨S2064x512, .f32⟩
  | 79 => ⟨S2064x512, .f32⟩
  | 80 => ⟨S_, .f32⟩
  | 81 => ⟨S2064x512, .f32⟩
  | 82 => ⟨S2064x512, .f32⟩
  | 83 => ⟨S_, .f32⟩
  | 84 => ⟨S2064x512, .f32⟩
  | 85 => ⟨S2064x512, .f32⟩
  | 86 => ⟨S_, .f32⟩
  | 87 => ⟨S2064x512, .f32⟩
  | 88 => ⟨S2064x512, .f32⟩
  | 89 => ⟨S2064x512, .f32⟩
  | 90 => ⟨S2064x512, .f32⟩
  | 91 => ⟨S2064x512, .f32⟩
  | 92 => ⟨S2064x512, .f32⟩
  | 93 => ⟨S2064x512, .f32⟩
  | 94 => ⟨S2064x512, .f32⟩
  | 95 => ⟨S2064x512, .f32⟩
  | 96 => ⟨S2064x512, .f32⟩
  | 97 => ⟨S2064x512, .f32⟩
  | 98 => ⟨S2064x512, .f32⟩
  | 99 => ⟨S2064x512, .f32⟩
  | 100 => ⟨S_, .f32⟩
  | 101 => ⟨S512, .f32⟩
  | 102 => ⟨S1x512, .f32⟩
  | 103 => ⟨S2064x512, .f32⟩
  | 104 => ⟨S2064x512, .f32⟩
  | 105 => ⟨S_, .f32⟩
  | 106 => ⟨S512, .f32⟩
  | 107 => ⟨S2064x4x128, .f32⟩
  | 108 => ⟨S2064x4x128, .f32⟩
  | 109 => ⟨S_, .f32⟩
  | 110 => ⟨S2064x4, .f32⟩
  | 111 => ⟨S2064x4x1, .f32⟩
  | 112 => ⟨S2064x4x128, .f32⟩
  | 113 => ⟨S2064x4x128, .f32⟩
  | 114 => ⟨S2064x4x1, .f32⟩
  | 115 => ⟨S2064x4x128, .f32⟩
  | 116 => ⟨S_, .f32⟩
  | 117 => ⟨S2064x4, .f32⟩
  | 118 => ⟨S2064x4x1, .f32⟩
  | 119 => ⟨S_, .f32⟩
  | 120 => ⟨S2064x4x1, .f32⟩
  | 121 => ⟨S2064x4x1, .f32⟩
  | 122 => ⟨S_, .f32⟩
  | 123 => ⟨S2064x4, .f32⟩
  | 124 => ⟨S2064x4x128, .f32⟩
  | 125 => ⟨S2064x4x128, .f32⟩
  | 126 => ⟨S2064x4x128, .f32⟩
  | 127 => ⟨S_, .f32⟩
  | _ => ⟨S2064x3072, .f32⟩

abbrev hbmTy0_3 (i : Nat) : BufTy := match i % 128 with
  | 0 => ⟨S2064x4, .f32⟩
  | 1 => ⟨S2064x4x1, .f32⟩
  | 2 => ⟨S2064x4x128, .f32⟩
  | 3 => ⟨S2064x4x1, .f32⟩
  | 4 => ⟨S_, .f32⟩
  | 5 => ⟨S2064x4x1, .f32⟩
  | 6 => ⟨S2064x4x1, .f32⟩
  | 7 => ⟨S_, .f32⟩
  | 8 => ⟨S2064x4, .f32⟩
  | 9 => ⟨S2064x4x128, .f32⟩
  | 10 => ⟨S2064x4x128, .f32⟩
  | 11 => ⟨S_, .f32⟩
  | 12 => ⟨S2176x4x128, .f32⟩
  | 13 => ⟨S17x128x4x128, .f32⟩
  | 14 => ⟨S17x128x4x128, .f32⟩
  | 15 => ⟨S17x128x4x128, .f32⟩
  | 16 => ⟨S17x4x128x128, .f32⟩
  | 17 => ⟨S17x4x128x128, .f32⟩
  | 18 => ⟨S17x128x4x128, .f32⟩
  | 19 => ⟨S17x4x128x128, .f32⟩
  | 20 => ⟨S17x4x128x128, .f32⟩
  | 21 => ⟨S9x4x128x128, .f32⟩
  | 22 => ⟨S8x4x128x128, .f32⟩
  | 23 => ⟨S1x4x128x128, .f32⟩
  | 24 => ⟨S1x4x128x128, .f32⟩
  | 25 => ⟨S1x4x128x128, .f32⟩
  | 26 => ⟨S1x4x128x128, .f32⟩
  | 27 => ⟨S1x4x128x128, .f32⟩
  | 28 => ⟨S1x4x128x128, .f32⟩
  | 29 => ⟨S1x4x128x128, .f32⟩
  | 30 => ⟨S1x4x128x128, .f32⟩
  | 31 => ⟨S1x4x128x128, .f32⟩
  | 32 => ⟨S1x4x128x128, .f32⟩
  | 33 => ⟨S1x4x128x128, .f32⟩
  | 34 => ⟨S1x4x128x128, .f32⟩
  | 35 => ⟨S1x4x128x128, .f32⟩
  | 36 => ⟨S1x4x128x128, .f32⟩
  | 37 => ⟨S1x4x128x128, .f32⟩
  | 38 => ⟨S1x4x128x128, .f32⟩
  | 39 => ⟨S1x4x128x128, .f32⟩
  | 40 => ⟨S_, .f32⟩
  | 41 => ⟨S4x128x128, .f32⟩
  | 42 => ⟨S_, .f32⟩
  | 43 => ⟨S4x128x128, .f32⟩
  | 44 => ⟨S_, .f32⟩
  | 45 => ⟨S4x128x128, .f32⟩
  | 46 => ⟨S_, .f32⟩
  | 47 => ⟨S4x128x128, .f32⟩
  | 48 => ⟨S_, .f32⟩
  | 49 => ⟨S4x128x128, .f32⟩
  | 50 => ⟨S_, .f32⟩
  | 51 => ⟨S4x128x128, .f32⟩
  | 52 => ⟨S_, .f32⟩
  | 53 => ⟨S4x128x128, .f32⟩
  | 54 => ⟨S_, .f32⟩
  | 55 => ⟨S4x128x128, .f32⟩
  | 56 => ⟨S_, .f32⟩
  | 57 => ⟨S4x128x128, .f32⟩
  | 58 => ⟨S_, .f32⟩
  | 59 => ⟨S4x128x128, .f32⟩
  | 60 => ⟨S_, .f32⟩
  | 61 => ⟨S4x128x128, .f32⟩
  | 62 => ⟨S_, .f32⟩
  | 63 => ⟨S4x128x128, .f32⟩
  | 64 => ⟨S_, .f32⟩
  | 65 => ⟨S4x128x128, .f32⟩
  | 66 => ⟨S_, .f32⟩
  | 67 => ⟨S4x128x128, .f32⟩
  | 68 => ⟨S_, .f32⟩
  | 69 => ⟨S4x128x128, .f32⟩
  | 70 => ⟨S_, .f32⟩
  | 71 => ⟨S4x128x128, .f32⟩
  | 72 => ⟨S1x4x128x128, .f32⟩
  | 73 => ⟨S_, .f32⟩
  | 74 => ⟨S17x4x128x128, .f32⟩
  | 75 => ⟨S4x128x128, .f32⟩
  | 76 => ⟨S4x128x128, .f32⟩
  | 77 => ⟨S4x128x128, .f32⟩
  | 78 => ⟨S1x4x128x128, .f32⟩
  | 79 => ⟨S_, .f32⟩
  | 80 => ⟨S17x4x128x128, .f32⟩
  | 81 => ⟨S17x4x128x128, .f32⟩
  | 82 => ⟨S4x128x128, .f32⟩
  | 83 => ⟨S4x128x128, .f32⟩
  | 84 => ⟨S4x128x128, .f32⟩
  | 85 => ⟨S1x4x128x128, .f32⟩
  | 86 => ⟨S_, .f32⟩
  | 87 => ⟨S17x4x128x128, .f32⟩
  | 88 => ⟨S17x4x128x128, .f32⟩
  | 89 => ⟨S4x128x128, .f32⟩
  | 90 => ⟨S4x128x128, .f32⟩
  | 91 => ⟨S4x128x128, .f32⟩
  | 92 => ⟨S1x4x128x128, .f32⟩
  | 93 => ⟨S_, .f32⟩
  | 94 => ⟨S17x4x128x128, .f32⟩
  | 95 => ⟨S17x4x128x128, .f32⟩
  | 96 => ⟨S4x128x128, .f32⟩
  | 97 => ⟨S4x128x128, .f32⟩
  | 98 => ⟨S4x128x128, .f32⟩
  | 99 => ⟨S1x4x128x128, .f32⟩
  | 100 => ⟨S_, .f32⟩
  | 101 => ⟨S17x4x128x128, .f32⟩
  | 102 => ⟨S17x4x128x128, .f32⟩
  | 103 => ⟨S4x128x128, .f32⟩
  | 104 => ⟨S4x128x128, .f32⟩
  | 105 => ⟨S4x128x128, .f32⟩
  | 106 => ⟨S1x4x128x128, .f32⟩
  | 107 => ⟨S_, .f32⟩
  | 108 => ⟨S17x4x128x128, .f32⟩
  | 109 => ⟨S17x4x128x128, .f32⟩
  | 110 => ⟨S4x128x128, .f32⟩
  | 111 => ⟨S4x128x128, .f32⟩
  | 112 => ⟨S4x128x128, .f32⟩
  | 113 => ⟨S1x4x128x128, .f32⟩
  | 114 => ⟨S_, .f32⟩
  | 115 => ⟨S17x4x128x128, .f32⟩
  | 116 => ⟨S17x4x128x128, .f32⟩
  | 117 => ⟨S4x128x128, .f32⟩
  | 118 => ⟨S4x128x128, .f32⟩
  | 119 => ⟨S4x128x128, .f32⟩
  | 120 => ⟨S1x4x128x128, .f32⟩
  | 121 => ⟨S_, .f32⟩
  | 122 => ⟨S17x4x128x128, .f32⟩
  | 123 => ⟨S17x4x128x128, .f32⟩
  | 124 => ⟨S4x128x128, .f32⟩
  | 125 => ⟨S4x128x128, .f32⟩
  | 126 => ⟨S4x128x128, .f32⟩
  | 127 => ⟨S1x4x128x128, .f32⟩
  | _ => ⟨S2064x3072, .f32⟩

abbrev hbmTy0_4 (i : Nat) : BufTy := match i % 128 with
  | 0 => ⟨S_, .f32⟩
  | 1 => ⟨S17x4x128x128, .f32⟩
  | 2 => ⟨S17x4x128x128, .f32⟩
  | 3 => ⟨S4x128x128, .f32⟩
  | 4 => ⟨S4x128x128, .f32⟩
  | 5 => ⟨S4x128x128, .f32⟩
  | 6 => ⟨S1x4x128x128, .f32⟩
  | 7 => ⟨S_, .f32⟩
  | 8 => ⟨S17x4x128x128, .f32⟩
  | 9 => ⟨S17x4x128x128, .f32⟩
  | 10 => ⟨S4x128x128, .f32⟩
  | 11 => ⟨S4x128x128, .f32⟩
  | 12 => ⟨S4x128x128, .f32⟩
  | 13 => ⟨S1x4x128x128, .f32⟩
  | 14 => ⟨S_, .f32⟩
  | 15 => ⟨S17x4x128x128, .f32⟩
  | 16 => ⟨S17x4x128x128, .f32⟩
  | 17 => ⟨S4x128x128, .f32⟩
  | 18 => ⟨S4x128x128, .f32⟩
  | 19 => ⟨S4x128x128, .f32⟩
  | 20 => ⟨S1x4x128x128, .f32⟩
  | 21 => ⟨S_, .f32⟩
  | 22 => ⟨S17x4x128x128, .f32⟩
  | 23 => ⟨S17x4x128x128, .f32⟩
  | 24 => ⟨S4x128x128, .f32⟩
  | 25 => ⟨S4x128x128, .f32⟩
  | 26 => ⟨S4x128x128, .f32⟩
  | 27 => ⟨S1x4x128x128, .f32⟩
  | 28 => ⟨S_, .f32⟩
  | 29 => ⟨S17x4x128x128, .f32⟩
  | 30 => ⟨S17x4x128x128, .f32⟩
  | 31 => ⟨S4x128x128, .f32⟩
  | 32 => ⟨S4x128x128, .f32⟩
  | 33 => ⟨S4x128x128, .f32⟩
  | 34 => ⟨S1x4x128x128, .f32⟩
  | 35 => ⟨S_, .f32⟩
  | 36 => ⟨S17x4x128x128, .f32⟩
  | 37 => ⟨S17x4x128x128, .f32⟩
  | 38 => ⟨S4x128x128, .f32⟩
  | 39 => ⟨S4x128x128, .f32⟩
  | 40 => ⟨S4x128x128, .f32⟩
  | 41 => ⟨S1x4x128x128, .f32⟩
  | 42 => ⟨S_, .f32⟩
  | 43 => ⟨S17x4x128x128, .f32⟩
  | 44 => ⟨S17x4x128x128, .f32⟩
  | 45 => ⟨S4x128x128, .f32⟩
  | 46 => ⟨S4x128x128, .f32⟩
  | 47 => ⟨S4x128x128, .f32⟩
  | 48 => ⟨S1x4x128x128, .f32⟩
  | 49 => ⟨S_, .f32⟩
  | 50 => ⟨S17x4x128x128, .f32⟩
  | 51 => ⟨S17x4x128x128, .f32⟩
  | 52 => ⟨S17x4x128x128, .f32⟩
  | 53 => ⟨S17x128x4x128, .f32⟩
  | 54 => ⟨S17x4x128x128, .f32⟩
  | 55 => ⟨S17x128x4x128, .f32⟩
  | 56 => ⟨S17x128x4x128, .f32⟩
  | 57 => ⟨S17x128x4x128, .f32⟩
  | 58 => ⟨S17x4x128x128, .f32⟩
  | 59 => ⟨S17x4x128x128, .f32⟩
  | 60 => ⟨S17x4x128x128, .f32⟩
  | 61 => ⟨S17x128x4x128, .f32⟩
  | 62 => ⟨S17x128x4x128, .f32⟩
  | 63 => ⟨S17x4x128x128, .f32⟩
  | 64 => ⟨S17x4x128x128, .f32⟩
  | 65 => ⟨S17x4x128x128, .f32⟩
  | 66 => ⟨S17x128x4x128, .f32⟩
  | 67 => ⟨S17x128x4x128, .f32⟩
  | 68 => ⟨S17x4x128x128, .f32⟩
  | 69 => ⟨S17x128x4x128, .f32⟩
  | 70 => ⟨S17x128x4x128, .f32⟩
  | 71 => ⟨S2176x4x128, .f32⟩
  | 72 => ⟨S112x4x128, .f32⟩
  | 73 => ⟨S2064x4x128, .f32⟩
  | 74 => ⟨S2176x4x128, .f32⟩
  | 75 => ⟨S112x4x128, .f32⟩
  | 76 => ⟨S2064x4x128, .f32⟩
  | 77 => ⟨S2176x4x128, .f32⟩
  | 78 => ⟨S112x4x128, .f32⟩
  | 79 => ⟨S2064x4x128, .f32⟩
  | 80 => ⟨S2064x512, .f32⟩
  | 81 => ⟨S_, .f32⟩
  | 82 => ⟨S2064x4x128, .f32⟩
  | 83 => ⟨S2064x4x128, .f32⟩
  | 84 => ⟨S2064x4x64, .f32⟩
  | 85 => ⟨S2064x4x64, .f32⟩
  | 86 => ⟨S2064x4x64, .f32⟩
  | 87 => ⟨S2064x4x64, .f32⟩
  | 88 => ⟨S2064x4x64, .f32⟩
  | 89 => ⟨S2064x4x64, .f32⟩
  | 90 => ⟨S2064x4x64, .f32⟩
  | 91 => ⟨S2064x4x64, .f32⟩
  | 92 => ⟨S2064x4x64, .f32⟩
  | 93 => ⟨S2064x4x64, .f32⟩
  | 94 => ⟨S2064x4x64, .f32⟩
  | 95 => ⟨S2064x4x64, .f32⟩
  | 96 => ⟨S2064x4x64, .f32⟩
  | 97 => ⟨S_, .f32⟩
  | 98 => ⟨S2064x4x128, .f32⟩
  | 99 => ⟨S_, .f32⟩
  | 100 => ⟨S2064x4x128, .f32⟩
  | 101 => ⟨S2064x4x128, .f32⟩
  | 102 => ⟨S2064x512, .f32⟩
  | 103 => ⟨S2064x4x64, .f32⟩
  | 104 => ⟨S2064x4x64, .f32⟩
  | 105 => ⟨S2064x4x64, .f32⟩
  | 106 => ⟨S2064x4x64, .f32⟩
  | 107 => ⟨S2064x4x64, .f32⟩
  | 108 => ⟨S2064x4x64, .f32⟩
  | 109 => ⟨S2064x4x64, .f32⟩
  | 110 => ⟨S2064x4x64, .f32⟩
  | 111 => ⟨S2064x4x64, .f32⟩
  | 112 => ⟨S2064x4x64, .f32⟩
  | 113 => ⟨S2064x4x64, .f32⟩
  | 114 => ⟨S2064x4x64, .f32⟩
  | 115 => ⟨S2064x4x64, .f32⟩
  | 116 => ⟨S_, .f32⟩
  | 117 => ⟨S2064x4x128, .f32⟩
  | 118 => ⟨S_, .f32⟩
  | 119 => ⟨S2064x4x128, .f32⟩
  | 120 => ⟨S2064x4x128, .f32⟩
  | 121 => ⟨S2064x512, .f32⟩
  | 122 => ⟨S2064x2048, .f32⟩
  | 123 => ⟨S_, .f32⟩
  | 124 => ⟨S2064x3072, .f32⟩
  | 125 => ⟨S_, .f32⟩
  | 126 => ⟨S512x512, .f32⟩
  | 127 => ⟨S_, .f32⟩
  | _ => ⟨S2064x3072, .f32⟩

abbrev hbmTy0_5 (i : Nat) : BufTy := match i % 128 with
  | 0 => ⟨S112x3072, .f32⟩
  | 1 => ⟨S2176x3072, .f32⟩
  | 2 => ⟨S2176x3072, .bf16⟩
  | 3 => ⟨S_, .f32⟩
  | 4 => ⟨S16x512, .f32⟩
  | 5 => ⟨S1x512, .f32⟩
  | _ => ⟨S2064x3072, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2064x3072, .f32⟩

abbrev bufTy : (tb : Table) → Fin (tcTables nBuf tb) → BufTy
  | .hbm, ⟨i, _⟩ => hbmTy i
  | _, _ => ⟨S2064x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_1 : Ref sig .tc := ⟨.hbm, 51, rfl⟩
abbrev main_v38 : Ref sig .tc := ⟨.hbm, 52, rfl⟩
abbrev main_v39 : Ref sig .tc := ⟨.hbm, 53, rfl⟩
abbrev main_cst_2 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_3 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_4 : Ref sig .tc := ⟨.hbm, 83, rfl⟩
abbrev main_v67 : Ref sig .tc := ⟨.hbm, 84, rfl⟩
abbrev main_v68 : Ref sig .tc := ⟨.hbm, 85, rfl⟩
abbrev main_cst_5 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_6 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_7 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_8 : Ref sig .tc := ⟨.hbm, 98, rfl⟩
abbrev main_v78 : Ref sig .tc := ⟨.hbm, 99, rfl⟩
abbrev main_v79 : Ref sig .tc := ⟨.hbm, 100, rfl⟩
abbrev main_cst_9 : Ref sig .tc := ⟨.hbm, 101, rfl⟩
abbrev main_v80 : Ref sig .tc := ⟨.hbm, 102, rfl⟩
abbrev main_v81 : Ref sig .tc := ⟨.hbm, 103, rfl⟩
abbrev main_cst_10 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_11 : Ref sig .tc := ⟨.hbm, 115, rfl⟩
abbrev main_v92 : Ref sig .tc := ⟨.hbm, 116, rfl⟩
abbrev main_v93 : Ref sig .tc := ⟨.hbm, 117, rfl⟩
abbrev main_cst_12 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_13 : Ref sig .tc := ⟨.hbm, 127, rfl⟩
abbrev main_call0_v0 : Ref sig .tc := ⟨.hbm, 128, rfl⟩
abbrev main_call0_v1 : Ref sig .tc := ⟨.hbm, 129, rfl⟩
abbrev main_call0_v2 : Ref sig .tc := ⟨.hbm, 130, rfl⟩
abbrev main_v102 : Ref sig .tc := ⟨.hbm, 131, rfl⟩
abbrev main_cst_14 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_15 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_16 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_17 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_v232 : Ref sig .tc := ⟨.hbm, 265, rfl⟩
abbrev main_v233 : Ref sig .tc := ⟨.hbm, 266, rfl⟩
abbrev main_v234 : Ref sig .tc := ⟨.hbm, 267, rfl⟩
abbrev main_v235 : Ref sig .tc := ⟨.hbm, 268, rfl⟩
abbrev main_v236 : Ref sig .tc := ⟨.hbm, 269, rfl⟩
abbrev main_v237 : Ref sig .tc := ⟨.hbm, 270, rfl⟩
abbrev main_v238 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_v248 : Ref sig .tc := ⟨.hbm, 281, rfl⟩
abbrev main_v249 : Ref sig .tc := ⟨.hbm, 282, rfl⟩
abbrev main_v250 : Ref sig .tc := ⟨.hbm, 283, rfl⟩
abbrev main_v251 : Ref sig .tc := ⟨.hbm, 284, rfl⟩
abbrev main_v252 : Ref sig .tc := ⟨.hbm, 285, rfl⟩
abbrev main_v253 : Ref sig .tc := ⟨.hbm, 286, rfl⟩
abbrev main_cst_18 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_v264 : Ref sig .tc := ⟨.hbm, 298, rfl⟩
abbrev main_v265 : Ref sig .tc := ⟨.hbm, 299, rfl⟩
abbrev main_cst_19 : Ref sig .tc := ⟨.hbm, 300, rfl⟩
abbrev main_v266 : Ref sig .tc := ⟨.hbm, 301, rfl⟩
abbrev main_v267 : Ref sig .tc := ⟨.hbm, 302, rfl⟩
abbrev main_cst_20 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_cst_21 : Ref sig .tc := ⟨.hbm, 309, rfl⟩
abbrev main_v273 : Ref sig .tc := ⟨.hbm, 310, rfl⟩
abbrev main_v274 : Ref sig .tc := ⟨.hbm, 311, rfl⟩
abbrev main_cst_22 : Ref sig .tc := ⟨.hbm, 312, rfl⟩
abbrev main_v275 : Ref sig .tc := ⟨.hbm, 313, rfl⟩
abbrev main_v276 : Ref sig .tc := ⟨.hbm, 314, rfl⟩
abbrev main_cst_23 : Ref sig .tc := ⟨.hbm, 315, rfl⟩
abbrev main_v277 : Ref sig .tc := ⟨.hbm, 316, rfl⟩
abbrev main_v278 : Ref sig .tc := ⟨.hbm, 317, rfl⟩
abbrev main_v279 : Ref sig .tc := ⟨.hbm, 318, rfl⟩
abbrev main_v280 : Ref sig .tc := ⟨.hbm, 319, rfl⟩
abbrev main_cst_24 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_cst_25 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_call1_v0 : Ref sig .tc := ⟨.hbm, 334, rfl⟩
abbrev main_call1_v1 : Ref sig .tc := ⟨.hbm, 335, rfl⟩
abbrev main_call1_cst : Ref sig .tc := ⟨.hbm, 336, rfl⟩
abbrev main_call1_v2 : Ref sig .tc := ⟨.hbm, 337, rfl⟩
abbrev main_call1_v3 : Ref sig .tc := ⟨.hbm, 338, rfl⟩
abbrev main_call1_cst_0 : Ref sig .tc := ⟨.hbm, 339, rfl⟩
abbrev main_call1_v4 : Ref sig .tc := ⟨.hbm, 340, rfl⟩
abbrev main_v293_2 : Ref sig .tc := ⟨.hbm, 341, rfl⟩
abbrev main_call1_cst_1 : Ref sig .tc := ⟨.hbm, 342, rfl⟩
abbrev main_call1_v6 : Ref sig .tc := ⟨.hbm, 343, rfl⟩
abbrev main_call1_v7 : Ref sig .tc := ⟨.hbm, 344, rfl⟩
abbrev main_v293_1 : Ref sig .tc := ⟨.hbm, 345, rfl⟩
abbrev main_v293_0 : Ref sig .tc := ⟨.hbm, 346, rfl⟩
abbrev main_v294 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_call2_v0 : Ref sig .tc := ⟨.hbm, 351, rfl⟩
abbrev main_call2_v1 : Ref sig .tc := ⟨.hbm, 352, rfl⟩
abbrev main_call2_v2 : Ref sig .tc := ⟨.hbm, 353, rfl⟩
abbrev main_v298 : Ref sig .tc := ⟨.hbm, 354, rfl⟩
abbrev main_v299 : Ref sig .tc := ⟨.hbm, 355, rfl⟩
abbrev main_cst_26 : Ref sig .tc := ⟨.hbm, 356, rfl⟩
abbrev main_v300 : Ref sig .tc := ⟨.hbm, 357, rfl⟩
abbrev main_v301 : Ref sig .tc := ⟨.hbm, 358, rfl⟩
abbrev main_v302 : Ref sig .tc := ⟨.hbm, 359, rfl⟩
abbrev main_v303 : Ref sig .tc := ⟨.hbm, 360, rfl⟩
abbrev main_cst_27 : Ref sig .tc := ⟨.hbm, 361, rfl⟩
abbrev main_v304 : Ref sig .tc := ⟨.hbm, 362, rfl⟩
abbrev main_v305 : Ref sig .tc := ⟨.hbm, 363, rfl⟩
abbrev main_v306 : Ref sig .tc := ⟨.hbm, 364, rfl⟩
abbrev main_cst_28 : Ref sig .tc := ⟨.hbm, 365, rfl⟩
abbrev main_v307 : Ref sig .tc := ⟨.hbm, 366, rfl⟩
abbrev main_v308 : Ref sig .tc := ⟨.hbm, 367, rfl⟩
abbrev main_v309 : Ref sig .tc := ⟨.hbm, 368, rfl⟩
abbrev main_v310 : Ref sig .tc := ⟨.hbm, 369, rfl⟩
abbrev main_v311 : Ref sig .tc := ⟨.hbm, 370, rfl⟩
abbrev main_v312 : Ref sig .tc := ⟨.hbm, 371, rfl⟩
abbrev main_cst_29 : Ref sig .tc := ⟨.hbm, 372, rfl⟩
abbrev main_v313 : Ref sig .tc := ⟨.hbm, 373, rfl⟩
abbrev main_v314 : Ref sig .tc := ⟨.hbm, 374, rfl⟩
abbrev main_cst_30 : Ref sig .tc := ⟨.hbm, 375, rfl⟩
abbrev main_v315 : Ref sig .tc := ⟨.hbm, 376, rfl⟩
abbrev main_v316 : Ref sig .tc := ⟨.hbm, 377, rfl⟩
abbrev main_cst_31 : Ref sig .tc := ⟨.hbm, 378, rfl⟩
abbrev main_v317 : Ref sig .tc := ⟨.hbm, 379, rfl⟩
abbrev main_v318 : Ref sig .tc := ⟨.hbm, 380, rfl⟩
abbrev main_v319 : Ref sig .tc := ⟨.hbm, 381, rfl⟩
abbrev main_v320 : Ref sig .tc := ⟨.hbm, 382, rfl⟩
abbrev main_cst_32 : Ref sig .tc := ⟨.hbm, 383, rfl⟩
abbrev main_v321 : Ref sig .tc := ⟨.hbm, 384, rfl⟩
abbrev main_v322 : Ref sig .tc := ⟨.hbm, 385, rfl⟩
abbrev main_v323 : Ref sig .tc := ⟨.hbm, 386, rfl⟩
abbrev main_v324 : Ref sig .tc := ⟨.hbm, 387, rfl⟩
abbrev main_cst_33 : Ref sig .tc := ⟨.hbm, 388, rfl⟩
abbrev main_v325 : Ref sig .tc := ⟨.hbm, 389, rfl⟩
abbrev main_v326 : Ref sig .tc := ⟨.hbm, 390, rfl⟩
abbrev main_cst_34 : Ref sig .tc := ⟨.hbm, 391, rfl⟩
abbrev main_v327 : Ref sig .tc := ⟨.hbm, 392, rfl⟩
abbrev main_v328 : Ref sig .tc := ⟨.hbm, 393, rfl⟩
abbrev main_v329 : Ref sig .tc := ⟨.hbm, 394, rfl⟩
abbrev main_cst_35 : Ref sig .tc := ⟨.hbm, 395, rfl⟩
abbrev main_v330 : Ref sig .tc := ⟨.hbm, 396, rfl⟩
abbrev main_v331 : Ref sig .tc := ⟨.hbm, 397, rfl⟩
abbrev main_v332 : Ref sig .tc := ⟨.hbm, 398, rfl⟩
abbrev main_v333 : Ref sig .tc := ⟨.hbm, 399, rfl⟩
abbrev main_v334 : Ref sig .tc := ⟨.hbm, 400, rfl⟩
abbrev main_v335 : Ref sig .tc := ⟨.hbm, 401, rfl⟩
abbrev main_v336 : Ref sig .tc := ⟨.hbm, 402, rfl⟩
abbrev main_v337 : Ref sig .tc := ⟨.hbm, 403, rfl⟩
abbrev main_v338 : Ref sig .tc := ⟨.hbm, 404, rfl⟩
abbrev main_v339 : Ref sig .tc := ⟨.hbm, 405, rfl⟩
abbrev main_v340 : Ref sig .tc := ⟨.hbm, 406, rfl⟩
abbrev main_v341 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_v345 : Ref sig .tc := ⟨.hbm, 411, rfl⟩
abbrev main_v346 : Ref sig .tc := ⟨.hbm, 412, rfl⟩
abbrev main_v347 : Ref sig .tc := ⟨.hbm, 413, rfl⟩
abbrev main_v348 : Ref sig .tc := ⟨.hbm, 414, rfl⟩
abbrev main_v349 : Ref sig .tc := ⟨.hbm, 415, rfl⟩
abbrev main_v350 : Ref sig .tc := ⟨.hbm, 416, rfl⟩
abbrev main_v351 : Ref sig .tc := ⟨.hbm, 417, rfl⟩
abbrev main_v352 : Ref sig .tc := ⟨.hbm, 418, rfl⟩
abbrev main_v353 : Ref sig .tc := ⟨.hbm, 419, rfl⟩
abbrev main_v354 : Ref sig .tc := ⟨.hbm, 420, rfl⟩
abbrev main_v355 : Ref sig .tc := ⟨.hbm, 421, rfl⟩
abbrev main_v356 : Ref sig .tc := ⟨.hbm, 422, rfl⟩
abbrev main_v357 : Ref sig .tc := ⟨.hbm, 423, rfl⟩
abbrev main_cst_36 : Ref sig .tc := ⟨.hbm, 424, rfl⟩
abbrev main_v358 : Ref sig .tc := ⟨.hbm, 425, rfl⟩
abbrev main_cst_37 : Ref sig .tc := ⟨.hbm, 426, rfl⟩
abbrev main_v359 : Ref sig .tc := ⟨.hbm, 427, rfl⟩
abbrev main_cst_38 : Ref sig .tc := ⟨.hbm, 428, rfl⟩
abbrev main_v360 : Ref sig .tc := ⟨.hbm, 429, rfl⟩
abbrev main_cst_39 : Ref sig .tc := ⟨.hbm, 430, rfl⟩
abbrev main_v361 : Ref sig .tc := ⟨.hbm, 431, rfl⟩
abbrev main_cst_40 : Ref sig .tc := ⟨.hbm, 432, rfl⟩
abbrev main_v362 : Ref sig .tc := ⟨.hbm, 433, rfl⟩
abbrev main_cst_41 : Ref sig .tc := ⟨.hbm, 434, rfl⟩
abbrev main_v363 : Ref sig .tc := ⟨.hbm, 435, rfl⟩
abbrev main_cst_42 : Ref sig .tc := ⟨.hbm, 436, rfl⟩
abbrev main_v364 : Ref sig .tc := ⟨.hbm, 437, rfl⟩
abbrev main_cst_43 : Ref sig .tc := ⟨.hbm, 438, rfl⟩
abbrev main_v365 : Ref sig .tc := ⟨.hbm, 439, rfl⟩
abbrev main_cst_44 : Ref sig .tc := ⟨.hbm, 440, rfl⟩
abbrev main_v366 : Ref sig .tc := ⟨.hbm, 441, rfl⟩
abbrev main_cst_45 : Ref sig .tc := ⟨.hbm, 442, rfl⟩
abbrev main_v367 : Ref sig .tc := ⟨.hbm, 443, rfl⟩
abbrev main_cst_46 : Ref sig .tc := ⟨.hbm, 444, rfl⟩
abbrev main_v368 : Ref sig .tc := ⟨.hbm, 445, rfl⟩
abbrev main_cst_47 : Ref sig .tc := ⟨.hbm, 446, rfl⟩
abbrev main_v369 : Ref sig .tc := ⟨.hbm, 447, rfl⟩
abbrev main_cst_48 : Ref sig .tc := ⟨.hbm, 448, rfl⟩
abbrev main_v370 : Ref sig .tc := ⟨.hbm, 449, rfl⟩
abbrev main_cst_49 : Ref sig .tc := ⟨.hbm, 450, rfl⟩
abbrev main_v371 : Ref sig .tc := ⟨.hbm, 451, rfl⟩
abbrev main_cst_50 : Ref sig .tc := ⟨.hbm, 452, rfl⟩
abbrev main_v372 : Ref sig .tc := ⟨.hbm, 453, rfl⟩
abbrev main_cst_51 : Ref sig .tc := ⟨.hbm, 454, rfl⟩
abbrev main_v373 : Ref sig .tc := ⟨.hbm, 455, rfl⟩
abbrev main_v374 : Ref sig .tc := ⟨.hbm, 456, rfl⟩
abbrev main_cst_52 : Ref sig .tc := ⟨.hbm, 457, rfl⟩
abbrev main_v375 : Ref sig .tc := ⟨.hbm, 458, rfl⟩
abbrev main_v376 : Ref sig .tc := ⟨.hbm, 459, rfl⟩
abbrev main_v377 : Ref sig .tc := ⟨.hbm, 460, rfl⟩
abbrev main_v378 : Ref sig .tc := ⟨.hbm, 461, rfl⟩
abbrev main_v379 : Ref sig .tc := ⟨.hbm, 462, rfl⟩
abbrev main_cst_53 : Ref sig .tc := ⟨.hbm, 463, rfl⟩
abbrev main_v380 : Ref sig .tc := ⟨.hbm, 464, rfl⟩
abbrev main_v381 : Ref sig .tc := ⟨.hbm, 465, rfl⟩
abbrev main_v382 : Ref sig .tc := ⟨.hbm, 466, rfl⟩
abbrev main_v383 : Ref sig .tc := ⟨.hbm, 467, rfl⟩
abbrev main_v384 : Ref sig .tc := ⟨.hbm, 468, rfl⟩
abbrev main_v385 : Ref sig .tc := ⟨.hbm, 469, rfl⟩
abbrev main_cst_54 : Ref sig .tc := ⟨.hbm, 470, rfl⟩
abbrev main_v386 : Ref sig .tc := ⟨.hbm, 471, rfl⟩
abbrev main_v387 : Ref sig .tc := ⟨.hbm, 472, rfl⟩
abbrev main_v388 : Ref sig .tc := ⟨.hbm, 473, rfl⟩
abbrev main_v389 : Ref sig .tc := ⟨.hbm, 474, rfl⟩
abbrev main_v390 : Ref sig .tc := ⟨.hbm, 475, rfl⟩
abbrev main_v391 : Ref sig .tc := ⟨.hbm, 476, rfl⟩
abbrev main_cst_55 : Ref sig .tc := ⟨.hbm, 477, rfl⟩
abbrev main_v392 : Ref sig .tc := ⟨.hbm, 478, rfl⟩
abbrev main_v393 : Ref sig .tc := ⟨.hbm, 479, rfl⟩
abbrev main_v394 : Ref sig .tc := ⟨.hbm, 480, rfl⟩
abbrev main_v395 : Ref sig .tc := ⟨.hbm, 481, rfl⟩
abbrev main_v396 : Ref sig .tc := ⟨.hbm, 482, rfl⟩
abbrev main_v397 : Ref sig .tc := ⟨.hbm, 483, rfl⟩
abbrev main_cst_56 : Ref sig .tc := ⟨.hbm, 484, rfl⟩
abbrev main_v398 : Ref sig .tc := ⟨.hbm, 485, rfl⟩
abbrev main_v399 : Ref sig .tc := ⟨.hbm, 486, rfl⟩
abbrev main_v400 : Ref sig .tc := ⟨.hbm, 487, rfl⟩
abbrev main_v401 : Ref sig .tc := ⟨.hbm, 488, rfl⟩
abbrev main_v402 : Ref sig .tc := ⟨.hbm, 489, rfl⟩
abbrev main_v403 : Ref sig .tc := ⟨.hbm, 490, rfl⟩
abbrev main_cst_57 : Ref sig .tc := ⟨.hbm, 491, rfl⟩
abbrev main_v404 : Ref sig .tc := ⟨.hbm, 492, rfl⟩
abbrev main_v405 : Ref sig .tc := ⟨.hbm, 493, rfl⟩
abbrev main_v406 : Ref sig .tc := ⟨.hbm, 494, rfl⟩
abbrev main_v407 : Ref sig .tc := ⟨.hbm, 495, rfl⟩
abbrev main_v408 : Ref sig .tc := ⟨.hbm, 496, rfl⟩
abbrev main_v409 : Ref sig .tc := ⟨.hbm, 497, rfl⟩
abbrev main_cst_58 : Ref sig .tc := ⟨.hbm, 498, rfl⟩
abbrev main_v410 : Ref sig .tc := ⟨.hbm, 499, rfl⟩
abbrev main_v411 : Ref sig .tc := ⟨.hbm, 500, rfl⟩
abbrev main_v412 : Ref sig .tc := ⟨.hbm, 501, rfl⟩
abbrev main_v413 : Ref sig .tc := ⟨.hbm, 502, rfl⟩
abbrev main_v414 : Ref sig .tc := ⟨.hbm, 503, rfl⟩
abbrev main_v415 : Ref sig .tc := ⟨.hbm, 504, rfl⟩
abbrev main_cst_59 : Ref sig .tc := ⟨.hbm, 505, rfl⟩
abbrev main_v416 : Ref sig .tc := ⟨.hbm, 506, rfl⟩
abbrev main_v417 : Ref sig .tc := ⟨.hbm, 507, rfl⟩
abbrev main_v418 : Ref sig .tc := ⟨.hbm, 508, rfl⟩
abbrev main_v419 : Ref sig .tc := ⟨.hbm, 509, rfl⟩
abbrev main_v420 : Ref sig .tc := ⟨.hbm, 510, rfl⟩
abbrev main_v421 : Ref sig .tc := ⟨.hbm, 511, rfl⟩
abbrev main_cst_60 : Ref sig .tc := ⟨.hbm, 512, rfl⟩
abbrev main_v422 : Ref sig .tc := ⟨.hbm, 513, rfl⟩
abbrev main_v423 : Ref sig .tc := ⟨.hbm, 514, rfl⟩
abbrev main_v424 : Ref sig .tc := ⟨.hbm, 515, rfl⟩
abbrev main_v425 : Ref sig .tc := ⟨.hbm, 516, rfl⟩
abbrev main_v426 : Ref sig .tc := ⟨.hbm, 517, rfl⟩
abbrev main_v427 : Ref sig .tc := ⟨.hbm, 518, rfl⟩
abbrev main_cst_61 : Ref sig .tc := ⟨.hbm, 519, rfl⟩
abbrev main_v428 : Ref sig .tc := ⟨.hbm, 520, rfl⟩
abbrev main_v429 : Ref sig .tc := ⟨.hbm, 521, rfl⟩
abbrev main_v430 : Ref sig .tc := ⟨.hbm, 522, rfl⟩
abbrev main_v431 : Ref sig .tc := ⟨.hbm, 523, rfl⟩
abbrev main_v432 : Ref sig .tc := ⟨.hbm, 524, rfl⟩
abbrev main_v433 : Ref sig .tc := ⟨.hbm, 525, rfl⟩
abbrev main_cst_62 : Ref sig .tc := ⟨.hbm, 526, rfl⟩
abbrev main_v434 : Ref sig .tc := ⟨.hbm, 527, rfl⟩
abbrev main_v435 : Ref sig .tc := ⟨.hbm, 528, rfl⟩
abbrev main_v436 : Ref sig .tc := ⟨.hbm, 529, rfl⟩
abbrev main_v437 : Ref sig .tc := ⟨.hbm, 530, rfl⟩
abbrev main_v438 : Ref sig .tc := ⟨.hbm, 531, rfl⟩
abbrev main_v439 : Ref sig .tc := ⟨.hbm, 532, rfl⟩
abbrev main_cst_63 : Ref sig .tc := ⟨.hbm, 533, rfl⟩
abbrev main_v440 : Ref sig .tc := ⟨.hbm, 534, rfl⟩
abbrev main_v441 : Ref sig .tc := ⟨.hbm, 535, rfl⟩
abbrev main_v442 : Ref sig .tc := ⟨.hbm, 536, rfl⟩
abbrev main_v443 : Ref sig .tc := ⟨.hbm, 537, rfl⟩
abbrev main_v444 : Ref sig .tc := ⟨.hbm, 538, rfl⟩
abbrev main_v445 : Ref sig .tc := ⟨.hbm, 539, rfl⟩
abbrev main_cst_64 : Ref sig .tc := ⟨.hbm, 540, rfl⟩
abbrev main_v446 : Ref sig .tc := ⟨.hbm, 541, rfl⟩
abbrev main_v447 : Ref sig .tc := ⟨.hbm, 542, rfl⟩
abbrev main_v448 : Ref sig .tc := ⟨.hbm, 543, rfl⟩
abbrev main_v449 : Ref sig .tc := ⟨.hbm, 544, rfl⟩
abbrev main_v450 : Ref sig .tc := ⟨.hbm, 545, rfl⟩
abbrev main_v451 : Ref sig .tc := ⟨.hbm, 546, rfl⟩
abbrev main_cst_65 : Ref sig .tc := ⟨.hbm, 547, rfl⟩
abbrev main_v452 : Ref sig .tc := ⟨.hbm, 548, rfl⟩
abbrev main_v453 : Ref sig .tc := ⟨.hbm, 549, rfl⟩
abbrev main_v454 : Ref sig .tc := ⟨.hbm, 550, rfl⟩
abbrev main_v455 : Ref sig .tc := ⟨.hbm, 551, rfl⟩
abbrev main_v456 : Ref sig .tc := ⟨.hbm, 552, rfl⟩
abbrev main_v457 : Ref sig .tc := ⟨.hbm, 553, rfl⟩
abbrev main_cst_66 : Ref sig .tc := ⟨.hbm, 554, rfl⟩
abbrev main_v458 : Ref sig .tc := ⟨.hbm, 555, rfl⟩
abbrev main_v459 : Ref sig .tc := ⟨.hbm, 556, rfl⟩
abbrev main_v460 : Ref sig .tc := ⟨.hbm, 557, rfl⟩
abbrev main_v461 : Ref sig .tc := ⟨.hbm, 558, rfl⟩
abbrev main_v462 : Ref sig .tc := ⟨.hbm, 559, rfl⟩
abbrev main_v463 : Ref sig .tc := ⟨.hbm, 560, rfl⟩
abbrev main_cst_67 : Ref sig .tc := ⟨.hbm, 561, rfl⟩
abbrev main_v464 : Ref sig .tc := ⟨.hbm, 562, rfl⟩
abbrev main_v465 : Ref sig .tc := ⟨.hbm, 563, rfl⟩
abbrev main_v466 : Ref sig .tc := ⟨.hbm, 564, rfl⟩
abbrev main_v467 : Ref sig .tc := ⟨.hbm, 565, rfl⟩
abbrev main_v468 : Ref sig .tc := ⟨.hbm, 566, rfl⟩
abbrev main_v469 : Ref sig .tc := ⟨.hbm, 567, rfl⟩
abbrev main_v470 : Ref sig .tc := ⟨.hbm, 568, rfl⟩
abbrev main_v471 : Ref sig .tc := ⟨.hbm, 569, rfl⟩
abbrev main_v472 : Ref sig .tc := ⟨.hbm, 570, rfl⟩
abbrev main_v473 : Ref sig .tc := ⟨.hbm, 571, rfl⟩
abbrev main_v474 : Ref sig .tc := ⟨.hbm, 572, rfl⟩
abbrev main_v475 : Ref sig .tc := ⟨.hbm, 573, rfl⟩
abbrev main_v476 : Ref sig .tc := ⟨.hbm, 574, rfl⟩
abbrev main_v477 : Ref sig .tc := ⟨.hbm, 575, rfl⟩
abbrev main_v478 : Ref sig .tc := ⟨.hbm, 576, rfl⟩
abbrev main_v479 : Ref sig .tc := ⟨.hbm, 577, rfl⟩
abbrev main_v480 : Ref sig .tc := ⟨.hbm, 578, rfl⟩
abbrev main_v481 : Ref sig .tc := ⟨.hbm, 579, rfl⟩
abbrev main_v482 : Ref sig .tc := ⟨.hbm, 580, rfl⟩
abbrev main_v483 : Ref sig .tc := ⟨.hbm, 581, rfl⟩
abbrev main_v484 : Ref sig .tc := ⟨.hbm, 582, rfl⟩
abbrev main_v485 : Ref sig .tc := ⟨.hbm, 583, rfl⟩
abbrev main_v486 : Ref sig .tc := ⟨.hbm, 584, rfl⟩
abbrev main_v487 : Ref sig .tc := ⟨.hbm, 585, rfl⟩
abbrev main_v488 : Ref sig .tc := ⟨.hbm, 586, rfl⟩
abbrev main_v489 : Ref sig .tc := ⟨.hbm, 587, rfl⟩
abbrev main_v490 : Ref sig .tc := ⟨.hbm, 588, rfl⟩
abbrev main_v491 : Ref sig .tc := ⟨.hbm, 589, rfl⟩
abbrev main_v492 : Ref sig .tc := ⟨.hbm, 590, rfl⟩
abbrev main_v493 : Ref sig .tc := ⟨.hbm, 591, rfl⟩
abbrev main_v494 : Ref sig .tc := ⟨.hbm, 592, rfl⟩
abbrev main_cst_68 : Ref sig .tc := ⟨.hbm, 593, rfl⟩
abbrev main_v495 : Ref sig .tc := ⟨.hbm, 594, rfl⟩
abbrev main_v496 : Ref sig .tc := ⟨.hbm, 595, rfl⟩
abbrev main_v497 : Ref sig .tc := ⟨.hbm, 596, rfl⟩
abbrev main_v498 : Ref sig .tc := ⟨.hbm, 597, rfl⟩
abbrev main_v499 : Ref sig .tc := ⟨.hbm, 598, rfl⟩
abbrev main_v500 : Ref sig .tc := ⟨.hbm, 599, rfl⟩
abbrev main_v501 : Ref sig .tc := ⟨.hbm, 600, rfl⟩
abbrev main_v502 : Ref sig .tc := ⟨.hbm, 601, rfl⟩
abbrev main_v503 : Ref sig .tc := ⟨.hbm, 602, rfl⟩
abbrev main_v504 : Ref sig .tc := ⟨.hbm, 603, rfl⟩
abbrev main_v505 : Ref sig .tc := ⟨.hbm, 604, rfl⟩
abbrev main_v506 : Ref sig .tc := ⟨.hbm, 605, rfl⟩
abbrev main_v507 : Ref sig .tc := ⟨.hbm, 606, rfl⟩
abbrev main_v508 : Ref sig .tc := ⟨.hbm, 607, rfl⟩
abbrev main_v509 : Ref sig .tc := ⟨.hbm, 608, rfl⟩
abbrev main_cst_69 : Ref sig .tc := ⟨.hbm, 609, rfl⟩
abbrev main_v510 : Ref sig .tc := ⟨.hbm, 610, rfl⟩
abbrev main_cst_70 : Ref sig .tc := ⟨.hbm, 611, rfl⟩
abbrev main_v511 : Ref sig .tc := ⟨.hbm, 612, rfl⟩
abbrev main_v512 : Ref sig .tc := ⟨.hbm, 613, rfl⟩
abbrev main_v513 : Ref sig .tc := ⟨.hbm, 614, rfl⟩
abbrev main_v514 : Ref sig .tc := ⟨.hbm, 615, rfl⟩
abbrev main_v515 : Ref sig .tc := ⟨.hbm, 616, rfl⟩
abbrev main_v516 : Ref sig .tc := ⟨.hbm, 617, rfl⟩
abbrev main_v517 : Ref sig .tc := ⟨.hbm, 618, rfl⟩
abbrev main_v518 : Ref sig .tc := ⟨.hbm, 619, rfl⟩
abbrev main_v519 : Ref sig .tc := ⟨.hbm, 620, rfl⟩
abbrev main_v520 : Ref sig .tc := ⟨.hbm, 621, rfl⟩
abbrev main_v521 : Ref sig .tc := ⟨.hbm, 622, rfl⟩
abbrev main_v522 : Ref sig .tc := ⟨.hbm, 623, rfl⟩
abbrev main_v523 : Ref sig .tc := ⟨.hbm, 624, rfl⟩
abbrev main_v524 : Ref sig .tc := ⟨.hbm, 625, rfl⟩
abbrev main_v525 : Ref sig .tc := ⟨.hbm, 626, rfl⟩
abbrev main_v526 : Ref sig .tc := ⟨.hbm, 627, rfl⟩
abbrev main_cst_71 : Ref sig .tc := ⟨.hbm, 628, rfl⟩
abbrev main_v527 : Ref sig .tc := ⟨.hbm, 629, rfl⟩
abbrev main_cst_72 : Ref sig .tc := ⟨.hbm, 630, rfl⟩
abbrev main_v528 : Ref sig .tc := ⟨.hbm, 631, rfl⟩
abbrev main_v529 : Ref sig .tc := ⟨.hbm, 632, rfl⟩
abbrev main_v530 : Ref sig .tc := ⟨.hbm, 633, rfl⟩
abbrev main_v531 : Ref sig .tc := ⟨.hbm, 634, rfl⟩
abbrev main_cst_73 : Ref sig .tc := ⟨.hbm, 635, rfl⟩
abbrev main_v532 : Ref sig .tc := ⟨.hbm, 636, rfl⟩
abbrev main_cst_74 : Ref sig .tc := ⟨.hbm, 637, rfl⟩
abbrev main_v533 : Ref sig .tc := ⟨.hbm, 638, rfl⟩
abbrev main_cst_75 : Ref sig .tc := ⟨.hbm, 639, rfl⟩
abbrev main_v534 : Ref sig .tc := ⟨.hbm, 640, rfl⟩
abbrev main_v535 : Ref sig .tc := ⟨.hbm, 641, rfl⟩
abbrev main_v536 : Ref sig .tc := ⟨.hbm, 642, rfl⟩
abbrev main_cst_76 : Ref sig .tc := ⟨.hbm, 643, rfl⟩
abbrev main_v537 : Ref sig .tc := ⟨.hbm, 644, rfl⟩
abbrev main_v538 : Ref sig .tc := ⟨.hbm, 645, rfl⟩

abbrev nD : Nat := 1
abbrev τ : Topo := Topo.v7x

variable {F : FTy → Type} [FloatOps F]
-- ==== Kernel3.lean ====
abbrev S2064x1024 : Shape := ⟨2, ![2064, 1024]⟩
abbrev S1024 : Shape := ⟨1, ![1024]⟩
abbrev S2048x1024 : Shape := ⟨2, ![2048, 1024]⟩
abbrev S_ : Shape := ⟨0, ![]⟩
abbrev S112x1024 : Shape := ⟨2, ![112, 1024]⟩
abbrev S2176x1024 : Shape := ⟨2, ![2176, 1024]⟩
abbrev S1x1024 : Shape := ⟨2, ![1, 1024]⟩
abbrev S8x128 : Shape := ⟨2, ![8, 128]⟩
abbrev S128x1024 : Shape := ⟨2, ![128, 1024]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 11
  | .vmem => 11
  | .smem => 0
  | _ => 0

abbrev bufTy : (tb : Table) → Fin (tcTables nBuf tb) → BufTy
  | .hbm, ⟨0, _⟩ => ⟨S2064x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S112x1024, .f32⟩
  | .hbm, ⟨5, _⟩ => ⟨S2176x1024, .f32⟩
  | .hbm, ⟨6, _⟩ => ⟨S1x1024, .f32⟩
  | .hbm, ⟨7, _⟩ => ⟨S8x128, .f32⟩
  | .hbm, ⟨8, _⟩ => ⟨S2176x1024, .f32⟩
  | .hbm, ⟨9, _⟩ => ⟨S2176x1024, .bf16⟩
  | .hbm, ⟨10, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S128x1024, .f32⟩
  | .local _ .vmem, ⟨4, _⟩ => ⟨S128x1024, .f32⟩
  | .local _ .vmem, ⟨5, _⟩ => ⟨S8x128, .f32⟩
  | .local _ .vmem, ⟨6, _⟩ => ⟨S128x1024, .f32⟩
  | .local _ .vmem, ⟨7, _⟩ => ⟨S128x1024, .f32⟩
  | .local _ .vmem, ⟨8, _⟩ => ⟨S128x1024, .bf16⟩
  | .local _ .vmem, ⟨9, _⟩ => ⟨S128x1024, .bf16⟩
  | .local _ .vmem, ⟨10, _⟩ => ⟨S1x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S2064x1024 : Shape := ⟨2, ![2064, 1024]⟩
abbrev S1024 : Shape := ⟨1, ![1024]⟩
abbrev S2048x1024 : Shape := ⟨2, ![2048, 1024]⟩
abbrev S_ : Shape := ⟨0, ![]⟩
abbrev S2064 : Shape := ⟨1, ![2064]⟩
abbrev S2064x1 : Shape := ⟨2, ![2064, 1]⟩
abbrev S1x1024 : Shape := ⟨2, ![1, 1024]⟩
abbrev S2048 : Shape := ⟨1, ![2048]⟩
abbrev S112x1024 : Shape := ⟨2, ![112, 1024]⟩
abbrev S2176x1024 : Shape := ⟨2, ![2176, 1024]⟩
abbrev S8x128 : Shape := ⟨2, ![8, 128]⟩

abbrev nBuf : Space → Nat
  | .hbm => 80
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024, .f32⟩
  | .hbm, ⟨2, _⟩ => ⟨S2048x1024, .f32⟩
  | .hbm, ⟨3, _⟩ => ⟨S2064x1024, .f32⟩
  | .hbm, ⟨4, _⟩ => ⟨S_, .f32⟩
  | .hbm, ⟨5, _⟩ => ⟨S2064, .f32⟩
  | .hbm, ⟨6, _⟩ => ⟨S2064x1, .f32⟩
  | .hbm, ⟨7, _⟩ => ⟨S_, .f32⟩
  | .hbm, ⟨8, _⟩ => ⟨S2064x1, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S2064x1, .f32⟩
  | .hbm, ⟨14, _⟩ => ⟨S2064x1, .f32⟩
  | .hbm, ⟨15, _⟩ => ⟨S_, .f32⟩
  | .hbm, ⟨16, _⟩ => ⟨S2064x1, .f32⟩
  | .hbm, ⟨17, _⟩ => ⟨S2064x1, .f32⟩
  | .hbm, ⟨18, _⟩ => ⟨S2064x1024, .f32⟩
  | .hbm, ⟨19, _⟩ => ⟨S2064x1024, .f32⟩
  | .hbm, ⟨20, _⟩ => ⟨S1x1024, .f32⟩
  | .hbm, ⟨21, _⟩ => ⟨S2064x1024, .f32⟩
  | .hbm, ⟨22, _⟩ => ⟨S2064x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2064x1024, .f32⟩
  | .hbm, ⟨49, _⟩ => ⟨S2064x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2064x1024, .f32⟩
  | .hbm, ⟨54, _⟩ => ⟨S2064x1024, .f32⟩
  | .hbm, ⟨55, _⟩ => ⟨S_, .f32⟩
  | .hbm, ⟨56, _⟩ => ⟨S1024, .f32⟩
  | .hbm, ⟨57, _⟩ => ⟨S2064x1024, .f32⟩
  | .hbm, ⟨58, _⟩ => ⟨S_, .f32⟩
  | .hbm, ⟨59, _⟩ => ⟨S2064, .f32⟩
  | .hbm, ⟨60, _⟩ => ⟨S2064x1, .f32⟩
  | .hbm, ⟨61, _⟩ => ⟨S2064x1024, .f32⟩
  | .hbm, ⟨62, _⟩ => ⟨S2064x1024, .f32⟩
  | .hbm, ⟨63, _⟩ => ⟨S2064x1, .f32⟩
  | .hbm, ⟨64, _⟩ => ⟨S_, .f32⟩
  | .hbm, ⟨65, _⟩ => ⟨S2064x1, .f32⟩
  | .hbm, ⟨66, _⟩ => ⟨S2064x1, .f32⟩
  | .hbm, ⟨67, _⟩ => ⟨S_, .f32⟩
  | .hbm, ⟨68, _⟩ => ⟨S2064, .f32⟩
  | .hbm, ⟨69, _⟩ => ⟨S2064x1024, .f32⟩
  | .hbm, ⟨70, _⟩ => ⟨S2064x1024, .f32⟩
  | .hbm, ⟨71, _⟩ => ⟨S2064x1024, .f32⟩
  | .hbm, ⟨72, _⟩ => ⟨S2064x1024, .f32⟩
  | .hbm, ⟨73, _⟩ => ⟨S2064x1024, .f32⟩
  | .hbm, ⟨74, _⟩ => ⟨S_, .f32⟩
  | .hbm, ⟨75, _⟩ => ⟨S112x1024, .f32⟩
  | .hbm, ⟨76, _⟩ => ⟨S2176x1024, .f32⟩
  | .hbm, ⟨77, _⟩ => ⟨S8x128, .f32⟩
  | .hbm, ⟨78, _⟩ => ⟨S2176x1024, .bf16⟩
  | .hbm, ⟨79, _⟩ => ⟨S1x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_17 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel4.lean ====
abbrev S2064x2816 : Shape := ⟨2, ![2064, 2816]⟩
abbrev S2816x1024 : Shape := ⟨2, ![2816, 1024]⟩
abbrev S2064x1024 : Shape := ⟨2, ![2064, 1024]⟩
abbrev S_ : Shape := ⟨0, ![]⟩
abbrev S2064x8x32 : Shape := ⟨3, ![2064, 8, 32]⟩
abbrev S2064x8x352 : Shape := ⟨3, ![2064, 8, 352]⟩
abbrev S2064x8x384 : Shape := ⟨3, ![2064, 8, 384]⟩
abbrev S2064x3072 : Shape := ⟨2, ![2064, 3072]⟩
abbrev S112x3072 : Shape := ⟨2, ![112, 3072]⟩
abbrev S2176x3072 : Shape := ⟨2, ![2176, 3072]⟩
abbrev S112x1024 : Shape := ⟨2, ![112, 1024]⟩
abbrev S2176x1024 : Shape := ⟨2, ![2176, 1024]⟩
abbrev S8x32x1024 : Shape := ⟨3, ![8, 32, 1024]⟩
abbrev S8x352x1024 : Shape := ⟨3, ![8, 352, 1024]⟩
abbrev S8x384x1024 : Shape := ⟨3, ![8, 384, 1024]⟩
abbrev S3072x1024 : Shape := ⟨2, ![3072, 1024]⟩
abbrev S512x1024 : Shape := ⟨2, ![512, 1024]⟩
abbrev S2176x512 : Shape := ⟨2, ![2176, 512]⟩
abbrev S112x512 : Shape := ⟨2, ![112, 512]⟩
abbrev S256x1024 : Shape := ⟨2, ![256, 1024]⟩
abbrev S2064x256 : Shape := ⟨2, ![2064, 256]⟩

abbrev nBuf : Space → Nat
  | .hbm => 52
  | .vmem => 11
  | .smem => 0
  | _ => 0

abbrev bufTy : (tb : Table) → Fin (tcTables nBuf tb) → BufTy
  | .hbm, ⟨0, _⟩ => ⟨S2064x2816, .f32⟩
  | .hbm, ⟨1, _⟩ => ⟨S2064x2816, .f32⟩
  | .hbm, ⟨2, _⟩ => ⟨S2816x1024, .f32⟩
  | .hbm, ⟨3, _⟩ => ⟨S2064x1024, .f32⟩
  | .hbm, ⟨4, _⟩ => ⟨S_, .f32⟩
  | .hbm, ⟨5, _⟩ => ⟨S2064x8x32, .f32⟩
  | .hbm, ⟨6, _⟩ => ⟨S2064x8x352, .f32⟩
  | .hbm, ⟨7, _⟩ => ⟨S2064x8x384, .f32⟩
  | .hbm, ⟨8, _⟩ => ⟨S2064x3072, .f32⟩
  | .hbm, ⟨9, _⟩ => ⟨S_, .f32⟩
  | .hbm, ⟨10, _⟩ => ⟨S112x3072, .f32⟩
  | .hbm, ⟨11, _⟩ => ⟨S2176x3072, .f32⟩
  | .hbm, ⟨12, _⟩ => ⟨S_, .f32⟩
  | .hbm, ⟨13, _⟩ => ⟨S2064x8x32, .f32⟩
  | .hbm, ⟨14, _⟩ => ⟨S2064x8x352, .f32⟩
  | .hbm, ⟨15, _⟩ => ⟨S2064x8x384, .f32⟩
  | .hbm, ⟨16, _⟩ => ⟨S2064x3072, .f32⟩
  | .hbm, ⟨17, _⟩ => ⟨S_, .f32⟩
  | .hbm, ⟨18, _⟩ => ⟨S112x3072, .f32⟩
  | .hbm, ⟨19, _⟩ => ⟨S2176x3072, .f32⟩
  | .hbm, ⟨20, _⟩ => ⟨S2176x3072, .f32⟩
  | .hbm, ⟨21, _⟩ => ⟨S2176x3072, .f32⟩
  | .hbm, ⟨22, _⟩ => ⟨S_, .f32⟩
  | .hbm, ⟨23, _⟩ => ⟨S2176x3072, .f32⟩
  | .hbm, ⟨24, _⟩ => ⟨S2176x3072, .f32⟩
  | .hbm, ⟨25, _⟩ => ⟨S_, .f32⟩
  | .hbm, ⟨26, _⟩ => ⟨S2176x3072, .f32⟩
  | .hbm, ⟨27, _⟩ => ⟨S2176x3072, .f32⟩
  | .hbm, ⟨28, _⟩ => ⟨S2176x3072, .f32⟩
  | .hbm, ⟨29, _⟩ => ⟨S_, .f32⟩
  | .hbm, ⟨30, _⟩ => ⟨S2176x3072, .f32⟩
  | .hbm, ⟨31, _⟩ => ⟨S2176x3072, .f32⟩
  | .hbm, ⟨32, _⟩ => ⟨S2176x3072, .f32⟩
  | .hbm, ⟨33, _⟩ => ⟨S_, .f32⟩
  | .hbm, ⟨34, _⟩ => ⟨S2176x3072, .f32⟩
  | .hbm, ⟨35, _⟩ => ⟨S2176x3072, .f32⟩
  | .hbm, ⟨36, _⟩ => ⟨S2176x3072, .f32⟩
  | .hbm, ⟨37, _⟩ => ⟨S2176x3072, .f32⟩
  | .hbm, ⟨38, _⟩ => ⟨S2176x3072, .bf16⟩
  | .hbm, ⟨39, _⟩ => ⟨S_, .f32⟩
  | .hbm, ⟨40, _⟩ => ⟨S112x1024, .f32⟩
  | .hbm, ⟨41, _⟩ => ⟨S2176x1024, .f32⟩
  | .hbm, ⟨42, _⟩ => ⟨S2176x1024, .bf16⟩
  | .hbm, ⟨43, _⟩ => ⟨S_, .f32⟩
  | .hbm, ⟨44, _⟩ => ⟨S8x32x1024, .f32⟩
  | .hbm, ⟨45, _⟩ => ⟨S8x352x1024, .f32⟩
  | .hbm, ⟨46, _⟩ => ⟨S8x384x1024, .f32⟩
  | .hbm, ⟨47, _⟩ => ⟨S3072x1024, .f32⟩
  | .hbm, ⟨48, _⟩ => ⟨S3072x1024, .bf16⟩
  | .hbm, ⟨49, _⟩ => ⟨S2176x3072, .bf16⟩
  | .hbm, ⟨50, _⟩ => ⟨S2176x3072, .bf16⟩
  | .hbm, ⟨51, _⟩ => ⟨S2176x3072, .bf16⟩
  | .local _ .vmem, ⟨0, _⟩ => ⟨S2176x1024, .bf16⟩
  | .local _ .vmem, ⟨1, _⟩ => ⟨S512x1024, .bf16⟩
  | .local _ .vmem, ⟨2, _⟩ => ⟨S512x1024, .bf16⟩
  | .local _ .vmem, ⟨3, _⟩ => ⟨S2176x512, .bf16⟩
  | .local _ .vmem, ⟨4, _⟩ => ⟨S2176x512, .bf16⟩
  | .local _ .vmem, ⟨5, _⟩ => ⟨S2176x512, .bf16⟩
  | .local _ .vmem, ⟨6, _⟩ => ⟨S2176x512, .bf16⟩
  | .local _ .vmem, ⟨7, _⟩ => ⟨S2176x512, .bf16⟩
  | .local _ .vmem, ⟨8, _⟩ => ⟨S2176x512, .bf16⟩
  | .local _ .vmem, ⟨9, _⟩ => ⟨S2176x512, .bf16⟩
  | .local _ .vmem, ⟨10, _⟩ => ⟨S2176x512, .bf16⟩
  | _, _ => ⟨S2064x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2064x2816 : Shape := ⟨2, ![2064, 2816]⟩
abbrev S2816x1024 : Shape := ⟨2, ![2816, 1024]⟩
abbrev S2064x1024 : Shape := ⟨2, ![2064, 1024]⟩
abbrev S_ : Shape := ⟨0, ![]⟩
abbrev S1024x2816 : Shape := ⟨2, ![1024, 2816]⟩
abbrev S2064x8x32 : Shape := ⟨3, ![2064, 8, 32]⟩
abbrev S2064x8x352 : Shape := ⟨3, ![2064, 8, 352]⟩
abbrev S2064x8x384 : Shape := ⟨3, ![2064, 8, 384]⟩
abbrev S2064x3072 : Shape := ⟨2, ![2064, 3072]⟩
abbrev S112x3072 : Shape := ⟨2, ![112, 3072]⟩
abbrev S2176x3072 : Shape := ⟨2, ![2176, 3072]⟩

abbrev nBuf : Space → Nat
  | .hbm => 46
  | .vmem => 0
  | .smem => 0
  | _ => 0

abbrev bufTy : (tb : Table) → Fin (tcTables nBuf tb) → BufTy
  | .hbm, ⟨0, _⟩ => ⟨S2064x2816, .f32⟩
  | .hbm, ⟨1, _⟩ => ⟨S2064x2816, .f32⟩
  | .hbm, ⟨2, _⟩ => ⟨S2816x1024, .f32⟩
  | .hbm, ⟨3, _⟩ => ⟨S2064x1024, .f32⟩
  | .hbm, ⟨4, _⟩ => ⟨S2064x2816, .f32⟩
  | .hbm, ⟨5, _⟩ => ⟨S2064x2816, .f32⟩
  | .hbm, ⟨6, _⟩ => ⟨S_, .f32⟩
  | .hbm, ⟨7, _⟩ => ⟨S2064x2816, .f32⟩
  | .hbm, ⟨8, _⟩ => ⟨S2064x2816, .f32⟩
  | .hbm, ⟨9, _⟩ => ⟨S_, .f32⟩
  | .hbm, ⟨10, _⟩ => ⟨S2064x2816, .f32⟩
  | .hbm, ⟨11, _⟩ => ⟨S2064x2816, .f32⟩
  | .hbm, ⟨12, _⟩ => ⟨S_, .f32⟩
  | .hbm, ⟨13, _⟩ => ⟨S2064x2816, .f32⟩
  | .hbm, ⟨14, _⟩ => ⟨S2064x2816, .f32⟩
  | .hbm, ⟨15, _⟩ => ⟨S2064x2816, .f32⟩
  | .hbm, ⟨16, _⟩ => ⟨S2064x2816, .f32⟩
  | .hbm, ⟨17, _⟩ => ⟨S2064x2816, .f32⟩
  | .hbm, ⟨18, _⟩ => ⟨S2064x1024, .f32⟩
  | .hbm, ⟨19, _⟩ => ⟨S1024x2816, .f32⟩
  | .hbm, ⟨20, _⟩ => ⟨S2816x1024, .f32⟩
  | .hbm, ⟨21, _⟩ => ⟨S2064x2816, .f32⟩
  | .hbm, ⟨22, _⟩ => ⟨S2064x2816, .f32⟩
  | .hbm, ⟨23, _⟩ => ⟨S2064x2816, .f32⟩
  | .hbm, ⟨24, _⟩ => ⟨S2064x2816, .f32⟩
  | .hbm, ⟨25, _⟩ => ⟨S2064x2816, .f32⟩
  | .hbm, ⟨26, _⟩ => ⟨S2064x2816, .f32⟩
  | .hbm, ⟨27, _⟩ => ⟨S2064x2816, .f32⟩
  | .hbm, ⟨28, _⟩ => ⟨S_, .f32⟩
  | .hbm, ⟨29, _⟩ => ⟨S2064x8x32, .f32⟩
  | .hbm, ⟨30, _⟩ => ⟨S2064x8x352, .f32⟩
  | .hbm, ⟨31, _⟩ => ⟨S2064x8x384, .f32⟩
  | .hbm, ⟨32, _⟩ => ⟨S2064x3072, .f32⟩
  | .hbm, ⟨33, _⟩ => ⟨S_, .f32⟩
  | .hbm, ⟨34, _⟩ => ⟨S112x3072, .f32⟩
  | .hbm, ⟨35, _⟩ => ⟨S2176x3072, .f32⟩
  | .hbm, ⟨36, _⟩ => ⟨S2176x3072, .bf16⟩
  | .hbm, ⟨37, _⟩ => ⟨S_, .f32⟩
  | .hbm, ⟨38, _⟩ => ⟨S2064x8x32, .f32⟩
  | .hbm, ⟨39, _⟩ => ⟨S2064x8x352, .f32⟩
  | .hbm, ⟨40, _⟩ => ⟨S2064x8x384, .f32⟩
  | .hbm, ⟨41, _⟩ => ⟨S2064x3072, .f32⟩
  | .hbm, ⟨42, _⟩ => ⟨S_, .f32⟩
  | .hbm, ⟨43, _⟩ => ⟨S112x3072, .f32⟩
  | .hbm, ⟨44, _⟩ => ⟨S2176x3072, .f32⟩
  | .hbm, ⟨45, _⟩ => ⟨S2176x3072, .bf16⟩
  | _, _ => ⟨S2064x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩

abbrev nD : Nat := 1
abbrev τ : Topo := Topo.v7x

variable {F : FTy → Type} [FloatOps F]
-- ==== Kernel5.lean ====
abbrev S2064x3072 : Shape := ⟨2, ![2064, 3072]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S8x128 : Shape := ⟨2, ![8, 128]⟩
abbrev S_ : Shape := ⟨0, ![]⟩
abbrev S112x3072 : Shape := ⟨2, ![112, 3072]⟩
abbrev S2176x3072 : Shape := ⟨2, ![2176, 3072]⟩
abbrev S1x512 : Shape := ⟨2, ![1, 512]⟩
abbrev S8x64x1x64 : Shape := ⟨4, ![8, 64, 1, 64]⟩
abbrev S8x8 : Shape := ⟨2, ![8, 8]⟩
abbrev S8x1x8x1 : Shape := ⟨4, ![8, 1, 8, 1]⟩
abbrev S8x64x8x64 : Shape := ⟨4, ![8, 64, 8, 64]⟩
abbrev S512x512 : Shape := ⟨2, ![512, 512]⟩
abbrev S2176 : Shape := ⟨1, ![2176]⟩
abbrev S64 : Shape := ⟨1, ![64]⟩
abbrev S2176x1 : Shape := ⟨2, ![2176, 1]⟩
abbrev S1x64 : Shape := ⟨2, ![1, 64]⟩
abbrev S2176x64 : Shape := ⟨2, ![2176, 64]⟩
abbrev S2176x128 : Shape := ⟨2, ![2176, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S2176x1024 : Shape := ⟨2, ![2176, 1024]⟩
abbrev S2176x512 : Shape := ⟨2, ![2176, 512]⟩
abbrev S17x4x128x128 : Shape := ⟨4, ![17, 4, 128, 128]⟩
abbrev S128x512 : Shape := ⟨2, ![128, 512]⟩
abbrev S128x1024 : Shape := ⟨2, ![128, 1024]⟩
abbrev S1x4x128x128 : Shape := ⟨4, ![1, 4, 128, 128]⟩
abbrev S1x1x128x128 : Shape := ⟨4, ![1, 1, 128, 128]⟩

abbrev nBuf : Space → Nat
  | .hbm => 132
  | .vmem => 39
  | .smem => 0
  | _ => 0

abbrev hbmTy0_0 (i : Nat) : BufTy := match i % 128 with
  | 0 => ⟨S2064x3072, .f32⟩
  | 1 => ⟨S4x512, .f32⟩
  | 2 => ⟨S512, .f32⟩
  | 3 => ⟨S8x64x64, .f32⟩
  | 4 => ⟨S8x64, .f32⟩
  | 5 => ⟨S8x64x64, .f32⟩
  | 6 => ⟨S8x64, .f32⟩
  | 7 => ⟨S512, .f32⟩
  | 8 => ⟨S512, .f32⟩
  | 9 => ⟨S512, .f32⟩
  | 10 => ⟨S8x128, .f32⟩
  | 11 => ⟨S_, .f32⟩
  | 12 => ⟨S112x3072, .f32⟩
  | 13 => ⟨S2176x3072, .f32⟩
  | 14 => ⟨S1x512, .f32⟩
  | 15 => ⟨S8x64x1x64, .f32⟩
  | 16 => ⟨S8x8, .i32⟩
  | 17 => ⟨S8x8, .i32⟩
  | 18 => ⟨S_, .i32⟩
  | 19 => ⟨S8x8, .i32⟩
  | 20 => ⟨S8x8, .i32⟩
  | 21 => ⟨S8x8, .i1⟩
  | 22 => ⟨S8x8, .f32⟩
  | 23 => ⟨S8x1x8x1, .f32⟩
  | 24 => ⟨S8x64x8x64, .f32⟩
  | 25 => ⟨S8x64x8x64, .f32⟩
  | 26 => ⟨S8x64x8x64, .f32⟩
  | 27 => ⟨S512x512, .f32⟩
  | 28 => ⟨S512x512, .bf16⟩
  | 29 => ⟨S1x512, .f32⟩
  | 30 => ⟨S8x64x1x64, .f32⟩
  | 31 => ⟨S8x8, .i32⟩
  | 32 => ⟨S8x8, .i32⟩
  | 33 => ⟨S_, .i32⟩
  | 34 => ⟨S8x8, .i32⟩
  | 35 => ⟨S8x8, .i32⟩
  | 36 => ⟨S8x8, .i1⟩
  | 37 => ⟨S8x8, .f32⟩
  | 38 => ⟨S8x1x8x1, .f32⟩
  | 39 => ⟨S8x64x8x64, .f32⟩
  | 40 => ⟨S8x64x8x64, .f32⟩
  | 41 => ⟨S8x64x8x64, .f32⟩
  | 42 => ⟨S512x512, .f32⟩
  | 43 => ⟨S512x512, .bf16⟩
  | 44 => ⟨S1x512, .f32⟩
  | 45 => ⟨S1x512, .f32⟩
  | 46 => ⟨S1x512, .f32⟩
  | 47 => ⟨S2176, .f32⟩
  | 48 => ⟨S_, .f32⟩
  | 49 => ⟨S2176, .f32⟩
  | 50 => ⟨S2176, .f32⟩
  | 51 => ⟨S64, .f32⟩
  | 52 => ⟨S64, .f32⟩
  | 53 => ⟨S_, .f32⟩
  | 54 => ⟨S64, .f32⟩
  | 55 => ⟨S64, .f32⟩
  | 56 => ⟨S_, .f32⟩
  | 57 => ⟨S64, .f32⟩
  | 58 => ⟨S64, .f32⟩
  | 59 => ⟨S2176x1, .f32⟩
  | 60 => ⟨S1x64, .f32⟩
  | 61 => ⟨S2176x64, .f32⟩
  | 62 => ⟨S2176x64, .f32⟩
  | 63 => ⟨S2176x64, .f32⟩
  | 64 => ⟨S2176x64, .f32⟩
  | 65 => ⟨S2176x64, .f32⟩
  | 66 => ⟨S2176x128, .f32⟩
  | 67 => ⟨S2176x64, .f32⟩
  | 68 => ⟨S2176x64, .f32⟩
  | 69 => ⟨S2176x64, .f32⟩
  | 70 => ⟨S2176x128, .f32⟩
  | 71 => ⟨S4, .f32⟩
  | 72 => ⟨S_, .f32⟩
  | 73 => ⟨S4, .f32⟩
  | 74 => ⟨S4, .f32⟩
  | 75 => ⟨S_, .f32⟩
  | 76 => ⟨S4, .f32⟩
  | 77 => ⟨S4, .f32⟩
  | 78 => ⟨S_, .f32⟩
  | 79 => ⟨S4, .f32⟩
  | 80 => ⟨S4, .f32⟩
  | 81 => ⟨S4, .f32⟩
  | 82 => ⟨S128, .f32⟩
  | 83 => ⟨S128x1, .f32⟩
  | 84 => ⟨S1x128, .f32⟩
  | 85 => ⟨S128x128, .f32⟩
  | 86 => ⟨S128x128, .f32⟩
  | 87 => ⟨S128x128, .f32⟩
  | 88 => ⟨S1x128x128, .f32⟩
  | 89 => ⟨S_, .f32⟩
  | 90 => ⟨S1x128x128, .f32⟩
  | 91 => ⟨S1x128x128, .i1⟩
  | 92 => ⟨S_, .f32⟩
  | 93 => ⟨S128x128, .f32⟩
  | 94 => ⟨S128x128, .f32⟩
  | 95 => ⟨S1x128x128, .f32⟩
  | 96 => ⟨S4x1x1, .f32⟩
  | 97 => ⟨S4x128x128, .f32⟩
  | 98 => ⟨S4x128x128, .f32⟩
  | 99 => ⟨S4x128x128, .f32⟩
  | 100 => ⟨S4x128x128, .f32⟩
  | 101 => ⟨S_, .f32⟩
  | 102 => ⟨S_, .f32⟩
  | 103 => ⟨S4x128x128, .i1⟩
  | 104 => ⟨S4x128x128, .f32⟩
  | 105 => ⟨S4x128x128, .f32⟩
  | 106 => ⟨S_, .f32⟩
  | 107 => ⟨S128, .f32⟩
  | 108 => ⟨S128, .f32⟩
  | 109 => ⟨S1x128, .f32⟩
  | 110 => ⟨S4x1, .f32⟩
  | 111 => ⟨S4x128, .f32⟩
  | 112 => ⟨S4x128, .f32⟩
  | 113 => ⟨S4x128, .f32⟩
  | 114 => ⟨S4x128, .f32⟩
  | 115 => ⟨S_, .f32⟩
  | 116 => ⟨S128, .f32⟩
  | 117 => ⟨S128, .f32⟩
  | 118 => ⟨S1x128, .f32⟩
  | 119 => ⟨S4x1, .f32⟩
  | 120 => ⟨S4x128, .f32⟩
  | 121 => ⟨S4x128, .f32⟩
  | 122 => ⟨S4x128, .f32⟩
  | 123 => ⟨S4x128, .f32⟩
  | 124 => ⟨S4x128x1, .f32⟩
  | 125 => ⟨S4x128x128, .f32⟩
  | 126 => ⟨S4x128x1, .f32⟩
  | 127 => ⟨S4x128x128, .f32⟩
  | _ => ⟨S2064x3072, .f32⟩

abbrev hbmTy0_1 (i : Nat) : BufTy := match i % 128 with
  | 0 => ⟨S1x512, .f32⟩
  | 1 => ⟨S2176x1024, .bf16⟩
  | 2 => ⟨S2176x512, .f32⟩
  | 3 => ⟨S17x4x128x128, .f32⟩
  | _ => ⟨S2064x3072, .f32⟩

abbrev hbmTy (i : Nat) : BufTy := match i / 128 with
  | 0 => hbmTy0_0 i
  | 1 => hbmTy0_1 i
  | _ => ⟨S2064x3072, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S4x512, .f32⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S4x128x128, .f32⟩
  | .local _ .vmem, ⟨25, _⟩ => ⟨S4x128x128, .f32⟩
  | .local _ .vmem, ⟨26, _⟩ => ⟨S4x128x128, .f32⟩
  | .local _ .vmem, ⟨27, _⟩ => ⟨S1x512, .f32⟩
  | .local _ .vmem, ⟨28, _⟩ => ⟨S128x1024, .bf16⟩
  | .local _ .vmem, ⟨29, _⟩ => ⟨S128x1024, .bf16⟩
  | .local _ .vmem, ⟨30, _⟩ => ⟨S128x512, .f32⟩
  | .local _ .vmem, ⟨31, _⟩ => ⟨S128x512, .f32⟩
  | .local _ .vmem, ⟨32, _⟩ => ⟨S1x4x128x128, .f32⟩
  | .local _ .vmem, ⟨33, _⟩ => ⟨S1x4x128x128, .f32⟩
  | .local _ .vmem, ⟨34, _⟩ => ⟨S128x512, .f32⟩
  | .local _ .vmem, ⟨35, _⟩ => ⟨S128x512, .f32⟩
  | .local _ .vmem, ⟨36, _⟩ => ⟨S128x512, .f32⟩
  | .local _ .vmem, ⟨37, _⟩ => ⟨S1x512, .f32⟩
  | .local _ .vmem, ⟨38, _⟩ => ⟨S4x128x128, .f32⟩
  | _, _ => ⟨S2064x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_2 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_4 : Ref sig .tc := ⟨.hbm, 72, rfl⟩
abbrev main_v55 : Ref sig .tc := ⟨.hbm, 73, rfl⟩
abbrev main_v56 : Ref sig .tc := ⟨.hbm, 74, rfl⟩
abbrev main_cst_5 : Ref sig .tc := ⟨.hbm, 75, rfl⟩
abbrev main_v57 : Ref sig .tc := ⟨.hbm, 76, rfl⟩
abbrev main_v58 : Ref sig .tc := ⟨.hbm, 77, rfl⟩
abbrev main_cst_6 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_7 : Ref sig .tc := ⟨.hbm, 89, rfl⟩
abbrev main_v69 : Ref sig .tc := ⟨.hbm, 90, rfl⟩
abbrev main_v70 : Ref sig .tc := ⟨.hbm, 91, rfl⟩
abbrev main_cst_8 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_9 : Ref sig .tc := ⟨.hbm, 101, rfl⟩
abbrev main_call0_v0 : Ref sig .tc := ⟨.hbm, 102, rfl⟩
abbrev main_call0_v1 : Ref sig .tc := ⟨.hbm, 103, rfl⟩
abbrev main_call0_v2 : Ref sig .tc := ⟨.hbm, 104, rfl⟩
abbrev main_v79 : Ref sig .tc := ⟨.hbm, 105, rfl⟩
abbrev main_cst_10 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_11 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101_0 : Ref sig .tc := ⟨.hbm, 129, rfl⟩
abbrev main_v101_1 : Ref sig .tc := ⟨.hbm, 130, rfl⟩
abbrev main_v101_2 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_11 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_12 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_13 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S128x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x4x128x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Kernel5Ideal.lean ====
variable {F : FTy → Type} [FloatOps F] [Named F]
def κ : String → Option EReal := fun
  | "decay0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "decay1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "decay2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "decay3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | _ => none
-- ==== Reference5Ideal.lean ====
abbrev S2064x3072 : Shape := ⟨2, ![2064, 3072]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S8x128 : Shape := ⟨2, ![8, 128]⟩
abbrev S2064x2048 : Shape := ⟨2, ![2064, 2048]⟩
abbrev S2064x512 : Shape := ⟨2, ![2064, 512]⟩
abbrev S2064 : Shape := ⟨1, ![2064]⟩
abbrev S2064x4x128 : Shape := ⟨3, ![2064, 4, 128]⟩
abbrev S64 : Shape := ⟨1, ![64]⟩
abbrev S_ : Shape := ⟨0, ![]⟩
abbrev S2064x1 : Shape := ⟨2, ![2064, 1]⟩
abbrev S1x64 : Shape := ⟨2, ![1, 64]⟩
abbrev S2064x64 : Shape := ⟨2, ![2064, 64]⟩
abbrev S2064x1x64 : Shape := ⟨3, ![2064, 1, 64]⟩
abbrev S2064x4x64 : Shape := ⟨3, ![2064, 4, 64]⟩
abbrev S112x4x128 : Shape := ⟨3, ![112, 4, 128]⟩
abbrev S2176x4x128 : Shape := ⟨3, ![2176, 4, 128]⟩
abbrev S17x128x4x128 : Shape := ⟨4, ![17, 128, 4, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S17x4x128x128 : Shape := ⟨4, ![17, 4, 128, 128]⟩
abbrev S1x4x128x128 : Shape := ⟨4, ![1, 4, 128, 128]⟩
abbrev S128x4x1 : Shape := ⟨3, ![128, 4, 1]⟩
abbrev S1x128x4x1 : Shape := ⟨4, ![1, 128, 4, 1]⟩
abbrev S9x4x128x128 : Shape := ⟨4, ![9, 4, 128, 128]⟩
abbrev S8x4x128x128 : Shape := ⟨4, ![8, 4, 128, 128]⟩
abbrev S2064x4 : Shape := ⟨2, ![2064, 4]⟩
abbrev S2064x4x1 : Shape := ⟨3, ![2064, 4, 1]⟩
abbrev S1x512 : Shape := ⟨2, ![1, 512]⟩
abbrev S2064x1024 : Shape := ⟨2, ![2064, 1024]⟩
abbrev S112x1024 : Shape := ⟨2, ![112, 1024]⟩
abbrev S2176x1024 : Shape := ⟨2, ![2176, 1024]⟩
abbrev S2176x512 : Shape := ⟨2, ![2176, 512]⟩

abbrev nBuf : Space → Nat
  | .hbm => 338
  | .vmem => 0
  | .smem => 0
  | _ => 0

abbrev hbmTy0_0 (i : Nat) : BufTy := match i % 128 with
  | 0 => ⟨S2064x3072, .f32⟩
  | 1 => ⟨S4x512, .f32⟩
  | 2 => ⟨S512, .f32⟩
  | 3 => ⟨S8x64x64, .f32⟩
  | 4 => ⟨S8x64, .f32⟩
  | 5 => ⟨S8x64x64, .f32⟩
  | 6 => ⟨S8x64, .f32⟩
  | 7 => ⟨S512, .f32⟩
  | 8 => ⟨S512, .f32⟩
  | 9 => ⟨S512, .f32⟩
  | 10 => ⟨S8x128, .f32⟩
  | 11 => ⟨S2064x2048, .f32⟩
  | 12 => ⟨S2064x512, .f32⟩
  | 13 => ⟨S2064x512, .f32⟩
  | 14 => ⟨S2064x512, .f32⟩
  | 15 => ⟨S2064x512, .f32⟩
  | 16 => ⟨S2064, .f32⟩
  | 17 => ⟨S2064x4x128, .f32⟩
  | 18 => ⟨S64, .f32⟩
  | 19 => ⟨S64, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S2064x1, .f32⟩
  | 27 => ⟨S1x64, .f32⟩
  | 28 => ⟨S2064x64, .f32⟩
  | 29 => ⟨S2064x64, .f32⟩
  | 30 => ⟨S2064x64, .f32⟩
  | 31 => ⟨S2064x64, .f32⟩
  | 32 => ⟨S2064x1x64, .f32⟩
  | 33 => ⟨S2064x64, .f32⟩
  | 34 => ⟨S2064x1x64, .f32⟩
  | 35 => ⟨S2064x4x64, .f32⟩
  | 36 => ⟨S2064x4x64, .f32⟩
  | 37 => ⟨S2064x4x64, .f32⟩
  | 38 => ⟨S2064x4x64, .f32⟩
  | 39 => ⟨S2064x4x64, .f32⟩
  | 40 => ⟨S2064x4x64, .f32⟩
  | 41 => ⟨S2064x4x64, .f32⟩
  | 42 => ⟨S2064x4x64, .f32⟩
  | 43 => ⟨S2064x4x64, .f32⟩
  | 44 => ⟨S2064x4x64, .f32⟩
  | 45 => ⟨S2064x4x64, .f32⟩
  | 46 => ⟨S2064x4x64, .f32⟩
  | 47 => ⟨S2064x4x128, .f32⟩
  | 48 => ⟨S2064x4x128, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S2064x1, .f32⟩
  | 58 => ⟨S1x64, .f32⟩
  | 59 => ⟨S2064x64, .f32⟩
  | 60 => ⟨S2064x64, .f32⟩
  | 61 => ⟨S2064x64, .f32⟩
  | 62 => ⟨S2064x64, .f32⟩
  | 63 => ⟨S2064x1x64, .f32⟩
  | 64 => ⟨S2064x64, .f32⟩
  | 65 => ⟨S2064x1x64, .f32⟩
  | 66 => ⟨S2064x4x64, .f32⟩
  | 67 => ⟨S2064x4x64, .f32⟩
  | 68 => ⟨S2064x4x64, .f32⟩
  | 69 => ⟨S2064x4x64, .f32⟩
  | 70 => ⟨S2064x4x64, .f32⟩
  | 71 => ⟨S2064x4x64, .f32⟩
  | 72 => ⟨S2064x4x64, .f32⟩
  | 73 => ⟨S2064x4x64, .f32⟩
  | 74 => ⟨S2064x4x64, .f32⟩
  | 75 => ⟨S2064x4x64, .f32⟩
  | 76 => ⟨S2064x4x64, .f32⟩
  | 77 => ⟨S2064x4x64, .f32⟩
  | 78 => ⟨S2064x4x128, .f32⟩
  | 79 => ⟨S_, .f32⟩
  | 80 => ⟨S2064x4x128, .f32⟩
  | 81 => ⟨S2064x4x128, .f32⟩
  | 82 => ⟨S2064x4x128, .f32⟩
  | 83 => ⟨S_, .f32⟩
  | 84 => ⟨S112x4x128, .f32⟩
  | 85 => ⟨S2176x4x128, .f32⟩
  | 86 => ⟨S17x128x4x128, .f32⟩
  | 87 => ⟨S2176x4x128, .f32⟩
  | 88 => ⟨S17x128x4x128, .f32⟩
  | 89 => ⟨S2176x4x128, .f32⟩
  | 90 => ⟨S17x128x4x128, .f32⟩
  | 91 => ⟨S4, .f32⟩
  | 92 => ⟨S_, .f32⟩
  | 93 => ⟨S4, .f32⟩
  | 94 => ⟨S4, .f32⟩
  | 95 => ⟨S_, .f32⟩
  | 96 => ⟨S4, .f32⟩
  | 97 => ⟨S4, .f32⟩
  | 98 => ⟨S_, .f32⟩
  | 99 => ⟨S4, .f32⟩
  | 100 => ⟨S4, .f32⟩
  | 101 => ⟨S4, .f32⟩
  | 102 => ⟨S128, .f32⟩
  | 103 => ⟨S128x1, .f32⟩
  | 104 => ⟨S1x128, .f32⟩
  | 105 => ⟨S128x128, .f32⟩
  | 106 => ⟨S128x128, .f32⟩
  | 107 => ⟨S128x128, .f32⟩
  | 108 => ⟨S1x128x128, .f32⟩
  | 109 => ⟨S_, .f32⟩
  | 110 => ⟨S1x128x128, .f32⟩
  | 111 => ⟨S1x128x128, .i1⟩
  | 112 => ⟨S_, .f32⟩
  | 113 => ⟨S128x128, .f32⟩
  | 114 => ⟨S128x128, .f32⟩
  | 115 => ⟨S1x128x128, .f32⟩
  | 116 => ⟨S4x1x1, .f32⟩
  | 117 => ⟨S4x128x128, .f32⟩
  | 118 => ⟨S4x128x128, .f32⟩
  | 119 => ⟨S4x128x128, .f32⟩
  | 120 => ⟨S4x128x128, .f32⟩
  | 121 => ⟨S_, .f32⟩
  | 122 => ⟨S_, .f32⟩
  | 123 => ⟨S4x128x128, .i1⟩
  | 124 => ⟨S4x128x128, .f32⟩
  | 125 => ⟨S4x128x128, .f32⟩
  | 126 => ⟨S_, .f32⟩
  | 127 => ⟨S128, .f32⟩
  | _ => ⟨S2064x3072, .f32⟩

abbrev hbmTy0_1 (i : Nat) : BufTy := match i % 128 with
  | 0 => ⟨S128, .f32⟩
  | 1 => ⟨S128x1, .f32⟩
  | 2 => ⟨S1x4, .f32⟩
  | 3 => ⟨S128x4, .f32⟩
  | 4 => ⟨S128x4, .f32⟩
  | 5 => ⟨S128x4, .f32⟩
  | 6 => ⟨S128x4, .f32⟩
  | 7 => ⟨S_, .f32⟩
  | 8 => ⟨S128, .f32⟩
  | 9 => ⟨S128, .f32⟩
  | 10 => ⟨S128x1, .f32⟩
  | 11 => ⟨S1x4, .f32⟩
  | 12 => ⟨S128x4, .f32⟩
  | 13 => ⟨S128x4, .f32⟩
  | 14 => ⟨S128x4, .f32⟩
  | 15 => ⟨S128x4, .f32⟩
  | 16 => ⟨S_, .f32⟩
  | 17 => ⟨S4, .f32⟩
  | 18 => ⟨S4, .f32⟩
  | 19 => ⟨S4, .f32⟩
  | 20 => ⟨S17x4x128x128, .f32⟩
  | 21 => ⟨S1x4x128x128, .f32⟩
  | 22 => ⟨S17x4x128x128, .f32⟩
  | 23 => ⟨S17x4x128x128, .f32⟩
  | 24 => ⟨S17x4x128x128, .f32⟩
  | 25 => ⟨S17x128x4x128, .f32⟩
  | 26 => ⟨S128x4x1, .f32⟩
  | 27 => ⟨S1x128x4x1, .f32⟩
  | 28 => ⟨S17x128x4x128, .f32⟩
  | 29 => ⟨S17x128x4x128, .f32⟩
  | 30 => ⟨S17x4x128x128, .f32⟩
  | 31 => ⟨S_, .f32⟩
  | 32 => ⟨S4x128x128, .f32⟩
  | 33 => ⟨S4x1x1, .f32⟩
  | 34 => ⟨S4x128x128, .f32⟩
  | 35 => ⟨S4x128x128, .f32⟩
  | 36 => ⟨S1x4x128x128, .f32⟩
  | 37 => ⟨S4x128x128, .f32⟩
  | 38 => ⟨S4x128x128, .f32⟩
  | 39 => ⟨S4x1x1, .f32⟩
  | 40 => ⟨S4x128x128, .f32⟩
  | 41 => ⟨S4x128x128, .f32⟩
  | 42 => ⟨S1x4x128x128, .f32⟩
  | 43 => ⟨S4x128x128, .f32⟩
  | 44 => ⟨S4x128x128, .f32⟩
  | 45 => ⟨S4x1x1, .f32⟩
  | 46 => ⟨S4x128x128, .f32⟩
  | 47 => ⟨S4x128x128, .f32⟩
  | 48 => ⟨S1x4x128x128, .f32⟩
  | 49 => ⟨S4x128x128, .f32⟩
  | 50 => ⟨S4x128x128, .f32⟩
  | 51 => ⟨S4x1x1, .f32⟩
  | 52 => ⟨S4x128x128, .f32⟩
  | 53 => ⟨S4x128x128, .f32⟩
  | 54 => ⟨S1x4x128x128, .f32⟩
  | 55 => ⟨S4x128x128, .f32⟩
  | 56 => ⟨S4x128x128, .f32⟩
  | 57 => ⟨S4x1x1, .f32⟩
  | 58 => ⟨S4x128x128, .f32⟩
  | 59 => ⟨S4x128x128, .f32⟩
  | 60 => ⟨S1x4x128x128, .f32⟩
  | 61 => ⟨S4x128x128, .f32⟩
  | 62 => ⟨S4x128x128, .f32⟩
  | 63 => ⟨S4x1x1, .f32⟩
  | 64 => ⟨S4x128x128, .f32⟩
  | 65 => ⟨S4x128x128, .f32⟩
  | 66 => ⟨S1x4x128x128, .f32⟩
  | 67 => ⟨S4x128x128, .f32⟩
  | 68 => ⟨S4x128x128, .f32⟩
  | 69 => ⟨S4x1x1, .f32⟩
  | 70 => ⟨S4x128x128, .f32⟩
  | 71 => ⟨S4x128x128, .f32⟩
  | 72 => ⟨S1x4x128x128, .f32⟩
  | 73 => ⟨S4x128x128, .f32⟩
  | 74 => ⟨S4x128x128, .f32⟩
  | 75 => ⟨S4x1x1, .f32⟩
  | 76 => ⟨S4x128x128, .f32⟩
  | 77 => ⟨S4x128x128, .f32⟩
  | 78 => ⟨S1x4x128x128, .f32⟩
  | 79 => ⟨S4x128x128, .f32⟩
  | 80 => ⟨S4x128x128, .f32⟩
  | 81 => ⟨S4x1x1, .f32⟩
  | 82 => ⟨S4x128x128, .f32⟩
  | 83 => ⟨S4x128x128, .f32⟩
  | 84 => ⟨S1x4x128x128, .f32⟩
  | 85 => ⟨S4x128x128, .f32⟩
  | 86 => ⟨S4x128x128, .f32⟩
  | 87 => ⟨S4x1x1, .f32⟩
  | 88 => ⟨S4x128x128, .f32⟩
  | 89 => ⟨S4x128x128, .f32⟩
  | 90 => ⟨S1x4x128x128, .f32⟩
  | 91 => ⟨S4x128x128, .f32⟩
  | 92 => ⟨S4x128x128, .f32⟩
  | 93 => ⟨S4x1x1, .f32⟩
  | 94 => ⟨S4x128x128, .f32⟩
  | 95 => ⟨S4x128x128, .f32⟩
  | 96 => ⟨S1x4x128x128, .f32⟩
  | 97 => ⟨S4x128x128, .f32⟩
  | 98 => ⟨S4x128x128, .f32⟩
  | 99 => ⟨S4x1x1, .f32⟩
  | 100 => ⟨S4x128x128, .f32⟩
  | 101 => ⟨S4x128x128, .f32⟩
  | 102 => ⟨S1x4x128x128, .f32⟩
  | 103 => ⟨S4x128x128, .f32⟩
  | 104 => ⟨S4x128x128, .f32⟩
  | 105 => ⟨S4x1x1, .f32⟩
  | 106 => ⟨S4x128x128, .f32⟩
  | 107 => ⟨S4x128x128, .f32⟩
  | 108 => ⟨S1x4x128x128, .f32⟩
  | 109 => ⟨S4x128x128, .f32⟩
  | 110 => ⟨S4x128x128, .f32⟩
  | 111 => ⟨S4x1x1, .f32⟩
  | 112 => ⟨S4x128x128, .f32⟩
  | 113 => ⟨S4x128x128, .f32⟩
  | 114 => ⟨S1x4x128x128, .f32⟩
  | 115 => ⟨S4x128x128, .f32⟩
  | 116 => ⟨S4x128x128, .f32⟩
  | 117 => ⟨S4x1x1, .f32⟩
  | 118 => ⟨S4x128x128, .f32⟩
  | 119 => ⟨S4x128x128, .f32⟩
  | 120 => ⟨S1x4x128x128, .f32⟩
  | 121 => ⟨S4x128x128, .f32⟩
  | 122 => ⟨S4x128x128, .f32⟩
  | 123 => ⟨S4x1x1, .f32⟩
  | 124 => ⟨S4x128x128, .f32⟩
  | 125 => ⟨S4x128x128, .f32⟩
  | 126 => ⟨S1x4x128x128, .f32⟩
  | 127 => ⟨S4x128x128, .f32⟩
  | _ => ⟨S2064x3072, .f32⟩

abbrev hbmTy0_2 (i : Nat) : BufTy := match i % 128 with
  | 0 => ⟨S4x128x128, .f32⟩
  | 1 => ⟨S4x1x1, .f32⟩
  | 2 => ⟨S4x128x128, .f32⟩
  | 3 => ⟨S4x128x128, .f32⟩
  | 4 => ⟨S1x4x128x128, .f32⟩
  | 5 => ⟨S4x128x128, .f32⟩
  | 6 => ⟨S4x128x128, .f32⟩
  | 7 => ⟨S1x4x128x128, .f32⟩
  | 8 => ⟨S1x4x128x128, .f32⟩
  | 9 => ⟨S1x4x128x128, .f32⟩
  | 10 => ⟨S1x4x128x128, .f32⟩
  | 11 => ⟨S1x4x128x128, .f32⟩
  | 12 => ⟨S1x4x128x128, .f32⟩
  | 13 => ⟨S1x4x128x128, .f32⟩
  | 14 => ⟨S1x4x128x128, .f32⟩
  | 15 => ⟨S1x4x128x128, .f32⟩
  | 16 => ⟨S1x4x128x128, .f32⟩
  | 17 => ⟨S1x4x128x128, .f32⟩
  | 18 => ⟨S1x4x128x128, .f32⟩
  | 19 => ⟨S1x4x128x128, .f32⟩
  | 20 => ⟨S1x4x128x128, .f32⟩
  | 21 => ⟨S1x4x128x128, .f32⟩
  | 22 => ⟨S1x4x128x128, .f32⟩
  | 23 => ⟨S1x4x128x128, .f32⟩
  | 24 => ⟨S9x4x128x128, .f32⟩
  | 25 => ⟨S8x4x128x128, .f32⟩
  | 26 => ⟨S17x4x128x128, .f32⟩
  | 27 => ⟨S17x4x128x128, .f32⟩
  | 28 => ⟨S17x128x4x128, .f32⟩
  | 29 => ⟨S128x4x1, .f32⟩
  | 30 => ⟨S1x128x4x1, .f32⟩
  | 31 => ⟨S17x128x4x128, .f32⟩
  | 32 => ⟨S17x128x4x128, .f32⟩
  | 33 => ⟨S17x128x4x128, .f32⟩
  | 34 => ⟨S2176x4x128, .f32⟩
  | 35 => ⟨S2064x4x128, .f32⟩
  | 36 => ⟨S_, .f32⟩
  | 37 => ⟨S2064x4, .f32⟩
  | 38 => ⟨S2064x4x1, .f32⟩
  | 39 => ⟨S_, .f32⟩
  | 40 => ⟨S2064x4x1, .f32⟩
  | 41 => ⟨S2064x4x1, .f32⟩
  | 42 => ⟨S2064x4x128, .f32⟩
  | 43 => ⟨S2064x4x128, .f32⟩
  | 44 => ⟨S2064x4x128, .f32⟩
  | 45 => ⟨S_, .f32⟩
  | 46 => ⟨S2064x4, .f32⟩
  | 47 => ⟨S2064x4x1, .f32⟩
  | 48 => ⟨S_, .f32⟩
  | 49 => ⟨S2064x4x1, .f32⟩
  | 50 => ⟨S2064x4x1, .f32⟩
  | 51 => ⟨S2064x4x128, .f32⟩
  | 52 => ⟨S2064x4x128, .f32⟩
  | 53 => ⟨S_, .f32⟩
  | 54 => ⟨S2064x4x1, .f32⟩
  | 55 => ⟨S2064x4x1, .f32⟩
  | 56 => ⟨S2064x4x1, .f32⟩
  | 57 => ⟨S2064x4x128, .f32⟩
  | 58 => ⟨S2064x4x128, .f32⟩
  | 59 => ⟨S2064x512, .f32⟩
  | 60 => ⟨S1x512, .f32⟩
  | 61 => ⟨S2064x512, .f32⟩
  | 62 => ⟨S2064x512, .f32⟩
  | 63 => ⟨S2064x512, .f32⟩
  | 64 => ⟨S2064x512, .f32⟩
  | 65 => ⟨S_, .f32⟩
  | 66 => ⟨S2064x512, .f32⟩
  | 67 => ⟨S2064x512, .f32⟩
  | 68 => ⟨S_, .f32⟩
  | 69 => ⟨S2064x512, .f32⟩
  | 70 => ⟨S2064x512, .f32⟩
  | 71 => ⟨S2064x512, .f32⟩
  | 72 => ⟨S2064x512, .f32⟩
  | 73 => ⟨S_, .f32⟩
  | 74 => ⟨S2064x512, .f32⟩
  | 75 => ⟨S2064x1024, .f32⟩
  | 76 => ⟨S_, .f32⟩
  | 77 => ⟨S112x1024, .f32⟩
  | 78 => ⟨S2176x1024, .f32⟩
  | 79 => ⟨S2176x1024, .bf16⟩
  | 80 => ⟨S_, .f32⟩
  | 81 => ⟨S2176x512, .f32⟩
  | _ => ⟨S2064x3072, .f32⟩

abbrev hbmTy (i : Nat) : BufTy := match i / 128 with
  | 0 => hbmTy0_0 i
  | 1 => hbmTy0_1 i
  | 2 => hbmTy0_2 i
  | _ => ⟨S2064x3072, .f32⟩

abbrev bufTy : (tb : Table) → Fin (tcTables nBuf tb) → BufTy
  | .hbm, ⟨i, _⟩ => hbmTy i
  | _, _ => ⟨S2064x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_1 : Ref sig .tc := ⟨.hbm, 51, rfl⟩
abbrev main_v38 : Ref sig .tc := ⟨.hbm, 52, rfl⟩
abbrev main_v39 : Ref sig .tc := ⟨.hbm, 53, rfl⟩
abbrev main_cst_2 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_3 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_4 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_5 : Ref sig .tc := ⟨.hbm, 92, rfl⟩
abbrev main_v75 : Ref sig .tc := ⟨.hbm, 93, rfl⟩
abbrev main_v76 : Ref sig .tc := ⟨.hbm, 94, rfl⟩
abbrev main_cst_6 : Ref sig .tc := ⟨.hbm, 95, rfl⟩
abbrev main_v77 : Ref sig .tc := ⟨.hbm, 96, rfl⟩
abbrev main_v78 : Ref sig .tc := ⟨.hbm, 97, rfl⟩
abbrev main_cst_7 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_8 : Ref sig .tc := ⟨.hbm, 109, rfl⟩
abbrev main_v89 : Ref sig .tc := ⟨.hbm, 110, rfl⟩
abbrev main_v90 : Ref sig .tc := ⟨.hbm, 111, rfl⟩
abbrev main_cst_9 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_10 : Ref sig .tc := ⟨.hbm, 121, rfl⟩
abbrev main_call0_v0 : Ref sig .tc := ⟨.hbm, 122, rfl⟩
abbrev main_call0_v1 : Ref sig .tc := ⟨.hbm, 123, rfl⟩
abbrev main_call0_v2 : Ref sig .tc := ⟨.hbm, 124, rfl⟩
abbrev main_v99 : Ref sig .tc := ⟨.hbm, 125, rfl⟩
abbrev main_cst_11 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_12 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_13 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_cst_14 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_v238 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_v257 : Ref sig .tc := ⟨.hbm, 287, rfl⟩
abbrev main_v258 : Ref sig .tc := ⟨.hbm, 288, rfl⟩
abbrev main_v259 : Ref sig .tc := ⟨.hbm, 289, rfl⟩
abbrev main_v260 : Ref sig .tc := ⟨.hbm, 290, rfl⟩
abbrev main_v261 : Ref sig .tc := ⟨.hbm, 291, rfl⟩
abbrev main_cst_15 : Ref sig .tc := ⟨.hbm, 292, rfl⟩
abbrev main_v262 : Ref sig .tc := ⟨.hbm, 293, rfl⟩
abbrev main_v263 : Ref sig .tc := ⟨.hbm, 294, rfl⟩
abbrev main_cst_16 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_cst_17 : Ref sig .tc := ⟨.hbm, 301, rfl⟩
abbrev main_v269 : Ref sig .tc := ⟨.hbm, 302, rfl⟩
abbrev main_v270 : Ref sig .tc := ⟨.hbm, 303, rfl⟩
abbrev main_cst_18 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_cst_19 : Ref sig .tc := ⟨.hbm, 309, rfl⟩
abbrev main_v275 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_v280 : Ref sig .tc := ⟨.hbm, 315, rfl⟩
abbrev main_v281 : Ref sig .tc := ⟨.hbm, 316, rfl⟩
abbrev main_v282 : Ref sig .tc := ⟨.hbm, 317, rfl⟩
abbrev main_v283 : Ref sig .tc := ⟨.hbm, 318, rfl⟩
abbrev main_call1_v0 : Ref sig .tc := ⟨.hbm, 319, rfl⟩
abbrev main_call1_v1 : Ref sig .tc := ⟨.hbm, 320, rfl⟩
abbrev main_call1_cst : Ref sig .tc := ⟨.hbm, 321, rfl⟩
abbrev main_call1_v2 : Ref sig .tc := ⟨.hbm, 322, rfl⟩
abbrev main_call1_v3 : Ref sig .tc := ⟨.hbm, 323, rfl⟩
abbrev main_call1_cst_0 : Ref sig .tc := ⟨.hbm, 324, rfl⟩
abbrev main_call1_v4 : Ref sig .tc := ⟨.hbm, 325, rfl⟩
abbrev main_call1_v5 : Ref sig .tc := ⟨.hbm, 326, rfl⟩
abbrev main_v284 : Ref sig .tc := ⟨.hbm, 327, rfl⟩
abbrev main_v285 : Ref sig .tc := ⟨.hbm, 328, rfl⟩
abbrev main_cst_20 : Ref sig .tc := ⟨.hbm, 329, rfl⟩
abbrev main_v286 : Ref sig .tc := ⟨.hbm, 330, rfl⟩
abbrev main_v287 : Ref sig .tc := ⟨.hbm, 331, rfl⟩
abbrev main_cst_21 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_cst_22 : Ref sig .tc := ⟨.hbm, 336, rfl⟩
abbrev main_v291 : Ref sig .tc := ⟨.hbm, 337, rfl⟩

abbrev nD : Nat := 1
abbrev τ : Topo := Topo.v7x

variable {F : FTy → Type} [FloatOps F]
-- ==== Kernel6.lean ====
abbrev S2064x1024 : Shape := ⟨2, ![2064, 1024]⟩
abbrev S1024 : Shape := ⟨1, ![1024]⟩
abbrev S1024x2816 : Shape := ⟨2, ![1024, 2816]⟩
abbrev S_ : Shape := ⟨0, ![]⟩
abbrev S112x1024 : Shape := ⟨2, ![112, 1024]⟩
abbrev S2176x1024 : Shape := ⟨2, ![2176, 1024]⟩
abbrev S1x1024 : Shape := ⟨2, ![1, 1024]⟩
abbrev S2816x1024 : Shape := ⟨2, ![2816, 1024]⟩
abbrev S8x32x1024 : Shape := ⟨3, ![8, 32, 1024]⟩
abbrev S8x352x1024 : Shape := ⟨3, ![8, 352, 1024]⟩
abbrev S8x384x1024 : Shape := ⟨3, ![8, 384, 1024]⟩
abbrev S3072x1024 : Shape := ⟨2, ![3072, 1024]⟩
abbrev S2176x3072 : Shape := ⟨2, ![2176, 3072]⟩
abbrev S512x1024 : Shape := ⟨2, ![512, 1024]⟩
abbrev S2176x512 : Shape := ⟨2, ![2176, 512]⟩
abbrev S544x1024 : Shape := ⟨2, ![544, 1024]⟩
abbrev S544 : Shape := ⟨1, ![544]⟩
abbrev S544x1 : Shape := ⟨2, ![544, 1]⟩
abbrev S112x512 : Shape := ⟨2, ![112, 512]⟩
abbrev S256x1024 : Shape := ⟨2, ![256, 1024]⟩
abbrev S2064x256 : Shape := ⟨2, ![2064, 256]⟩

abbrev nBuf : Space → Nat
  | .hbm => 26
  | .vmem => 13
  | .smem => 0
  | _ => 0

abbrev bufTy : (tb : Table) → Fin (tcTables nBuf tb) → BufTy
  | .hbm, ⟨0, _⟩ => ⟨S2064x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S_, .f32⟩
  | .hbm, ⟨5, _⟩ => ⟨S112x1024, .f32⟩
  | .hbm, ⟨6, _⟩ => ⟨S2176x1024, .f32⟩
  | .hbm, ⟨7, _⟩ => ⟨S1x1024, .f32⟩
  | .hbm, ⟨8, _⟩ => ⟨S2816x1024, .f32⟩
  | .hbm, ⟨9, _⟩ => ⟨S_, .f32⟩
  | .hbm, ⟨10, _⟩ => ⟨S8x32x1024, .f32⟩
  | .hbm, ⟨11, _⟩ => ⟨S8x352x1024, .f32⟩
  | .hbm, ⟨12, _⟩ => ⟨S8x384x1024, .f32⟩
  | .hbm, ⟨13, _⟩ => ⟨S3072x1024, .f32⟩
  | .hbm, ⟨14, _⟩ => ⟨S3072x1024, .bf16⟩
  | .hbm, ⟨15, _⟩ => ⟨S2816x1024, .f32⟩
  | .hbm, ⟨16, _⟩ => ⟨S_, .f32⟩
  | .hbm, ⟨17, _⟩ => ⟨S8x32x1024, .f32⟩
  | .hbm, ⟨18, _⟩ => ⟨S8x352x1024, .f32⟩
  | .hbm, ⟨19, _⟩ => ⟨S8x384x1024, .f32⟩
  | .hbm, ⟨20, _⟩ => ⟨S3072x1024, .f32⟩
  | .hbm, ⟨21, _⟩ => ⟨S3072x1024, .bf16⟩
  | .hbm, ⟨22, _⟩ => ⟨S2176x1024, .bf16⟩
  | .hbm, ⟨23, _⟩ => ⟨S2176x3072, .bf16⟩
  | .hbm, ⟨24, _⟩ => ⟨S2176x3072, .bf16⟩
  | .hbm, ⟨25, _⟩ => ⟨S2176x3072, .bf16⟩
  | .local _ .vmem, ⟨0, _⟩ => ⟨S2176x1024, .f32⟩
  | .local _ .vmem, ⟨1, _⟩ => ⟨S1x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2176x1024, .bf16⟩
  | .local _ .vmem, ⟨7, _⟩ => ⟨S2176x512, .bf16⟩
  | .local _ .vmem, ⟨8, _⟩ => ⟨S2176x512, .bf16⟩
  | .local _ .vmem, ⟨9, _⟩ => ⟨S2176x512, .bf16⟩
  | .local _ .vmem, ⟨10, _⟩ => ⟨S2176x512, .bf16⟩
  | .local _ .vmem, ⟨11, _⟩ => ⟨S2176x512, .bf16⟩
  | .local _ .vmem, ⟨12, _⟩ => ⟨S2176x512, .bf16⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2176x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2176x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2176x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2176x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S2064x1024 : Shape := ⟨2, ![2064, 1024]⟩
abbrev S1024 : Shape := ⟨1, ![1024]⟩
abbrev S1024x2816 : Shape := ⟨2, ![1024, 2816]⟩
abbrev S_ : Shape := ⟨0, ![]⟩
abbrev S2064 : Shape := ⟨1, ![2064]⟩
abbrev S2064x1 : Shape := ⟨2, ![2064, 1]⟩
abbrev S1x1024 : Shape := ⟨2, ![1, 1024]⟩
abbrev S2064x2816 : Shape := ⟨2, ![2064, 2816]⟩
abbrev S112x1024 : Shape := ⟨2, ![112, 1024]⟩
abbrev S2176x1024 : Shape := ⟨2, ![2176, 1024]⟩
abbrev S2064x8x32 : Shape := ⟨3, ![2064, 8, 32]⟩
abbrev S2064x8x352 : Shape := ⟨3, ![2064, 8, 352]⟩
abbrev S2064x8x384 : Shape := ⟨3, ![2064, 8, 384]⟩
abbrev S2064x3072 : Shape := ⟨2, ![2064, 3072]⟩
abbrev S112x3072 : Shape := ⟨2, ![112, 3072]⟩
abbrev S2176x3072 : Shape := ⟨2, ![2176, 3072]⟩

abbrev nBuf : Space → Nat
  | .hbm => 75
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2064x1024, .f32⟩
  | .hbm, ⟨5, _⟩ => ⟨S_, .f32⟩
  | .hbm, ⟨6, _⟩ => ⟨S2064, .f32⟩
  | .hbm, ⟨7, _⟩ => ⟨S2064x1, .f32⟩
  | .hbm, ⟨8, _⟩ => ⟨S_, .f32⟩
  | .hbm, ⟨9, _⟩ => ⟨S2064x1, .f32⟩
  | .hbm, ⟨10, _⟩ => ⟨S2064x1, .f32⟩
  | .hbm, ⟨11, _⟩ => ⟨S_, .f32⟩
  | .hbm, ⟨12, _⟩ => ⟨S2064x1, .f32⟩
  | .hbm, ⟨13, _⟩ => ⟨S2064x1, .f32⟩
  | .hbm, ⟨14, _⟩ => ⟨S2064x1, .f32⟩
  | .hbm, ⟨15, _⟩ => ⟨S2064x1024, .f32⟩
  | .hbm, ⟨16, _⟩ => ⟨S2064x1024, .f32⟩
  | .hbm, ⟨17, _⟩ => ⟨S1x1024, .f32⟩
  | .hbm, ⟨18, _⟩ => ⟨S2064x1024, .f32⟩
  | .hbm, ⟨19, _⟩ => ⟨S2064x1024, .f32⟩
  | .hbm, ⟨20, _⟩ => ⟨S2064x2816, .f32⟩
  | .hbm, ⟨21, _⟩ => ⟨S2064x2816, .f32⟩
  | .hbm, ⟨22, _⟩ => ⟨S2064x2816, .f32⟩
  | .hbm, ⟨23, _⟩ => ⟨S2064x2816, .f32⟩
  | .hbm, ⟨24, _⟩ => ⟨S_, .f32⟩
  | .hbm, ⟨25, _⟩ => ⟨S2064x2816, .f32⟩
  | .hbm, ⟨26, _⟩ => ⟨S2064x2816, .f32⟩
  | .hbm, ⟨27, _⟩ => ⟨S_, .f32⟩
  | .hbm, ⟨28, _⟩ => ⟨S2064x2816, .f32⟩
  | .hbm, ⟨29, _⟩ => ⟨S2064x2816, .f32⟩
  | .hbm, ⟨30, _⟩ => ⟨S_, .f32⟩
  | .hbm, ⟨31, _⟩ => ⟨S2064x2816, .f32⟩
  | .hbm, ⟨32, _⟩ => ⟨S2064x2816, .f32⟩
  | .hbm, ⟨33, _⟩ => ⟨S2064x2816, .f32⟩
  | .hbm, ⟨34, _⟩ => ⟨S2064x2816, .f32⟩
  | .hbm, ⟨35, _⟩ => ⟨S2064x2816, .f32⟩
  | .hbm, ⟨36, _⟩ => ⟨S_, .f32⟩
  | .hbm, ⟨37, _⟩ => ⟨S2064x2816, .f32⟩
  | .hbm, ⟨38, _⟩ => ⟨S2064x2816, .f32⟩
  | .hbm, ⟨39, _⟩ => ⟨S2064x2816, .f32⟩
  | .hbm, ⟨40, _⟩ => ⟨S2064x2816, .f32⟩
  | .hbm, ⟨41, _⟩ => ⟨S2064x2816, .f32⟩
  | .hbm, ⟨42, _⟩ => ⟨S2064x2816, .f32⟩
  | .hbm, ⟨43, _⟩ => ⟨S2064x2816, .f32⟩
  | .hbm, ⟨44, _⟩ => ⟨S_, .f32⟩
  | .hbm, ⟨45, _⟩ => ⟨S112x1024, .f32⟩
  | .hbm, ⟨46, _⟩ => ⟨S2176x1024, .f32⟩
  | .hbm, ⟨47, _⟩ => ⟨S2176x1024, .bf16⟩
  | .hbm, ⟨48, _⟩ => ⟨S_, .f32⟩
  | .hbm, ⟨49, _⟩ => ⟨S2064x8x32, .f32⟩
  | .hbm, ⟨50, _⟩ => ⟨S2064x8x352, .f32⟩
  | .hbm, ⟨51, _⟩ => ⟨S2064x8x384, .f32⟩
  | .hbm, ⟨52, _⟩ => ⟨S2064x3072, .f32⟩
  | .hbm, ⟨53, _⟩ => ⟨S_, .f32⟩
  | .hbm, ⟨54, _⟩ => ⟨S112x3072, .f32⟩
  | .hbm, ⟨55, _⟩ => ⟨S2176x3072, .f32⟩
  | .hbm, ⟨56, _⟩ => ⟨S2176x3072, .bf16⟩
  | .hbm, ⟨57, _⟩ => ⟨S_, .f32⟩
  | .hbm, ⟨58, _⟩ => ⟨S2064x8x32, .f32⟩
  | .hbm, ⟨59, _⟩ => ⟨S2064x8x352, .f32⟩
  | .hbm, ⟨60, _⟩ => ⟨S2064x8x384, .f32⟩
  | .hbm, ⟨61, _⟩ => ⟨S2064x3072, .f32⟩
  | .hbm, ⟨62, _⟩ => ⟨S_, .f32⟩
  | .hbm, ⟨63, _⟩ => ⟨S112x3072, .f32⟩
  | .hbm, ⟨64, _⟩ => ⟨S2176x3072, .f32⟩
  | .hbm, ⟨65, _⟩ => ⟨S2176x3072, .bf16⟩
  | .hbm, ⟨66, _⟩ => ⟨S_, .f32⟩
  | .hbm, ⟨67, _⟩ => ⟨S2064x8x32, .f32⟩
  | .hbm, ⟨68, _⟩ => ⟨S2064x8x352, .f32⟩
  | .hbm, ⟨69, _⟩ => ⟨S2064x8x384, .f32⟩
  | .hbm, ⟨70, _⟩ => ⟨S2064x3072, .f32⟩
  | .hbm, ⟨71, _⟩ => ⟨S_, .f32⟩
  | .hbm, ⟨72, _⟩ => ⟨S112x3072, .f32⟩
  | .hbm, ⟨73, _⟩ => ⟨S2176x3072, .f32⟩
  | .hbm, ⟨74, _⟩ => ⟨S2176x3072, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v15_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v15_1 : Ref sig .tc := ⟨.hbm, 33, rfl⟩
abbrev main_v15_0 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩

abbrev nD : Nat := 1
abbrev τ : Topo := Topo.v7x

variable {F : FTy → Type} [FloatOps F]
-- ==== Kernel7.lean ====
abbrev S2064x1024 : Shape := ⟨2, ![2064, 1024]⟩
abbrev S1024 : Shape := ⟨1, ![1024]⟩
abbrev S1024x3072 : Shape := ⟨2, ![1024, 3072]⟩
abbrev S1024x8x384 : Shape := ⟨3, ![1024, 8, 384]⟩
abbrev S8x1024x384 : Shape := ⟨3, ![8, 1024, 384]⟩
abbrev S_ : Shape := ⟨0, ![]⟩
abbrev S112x1024 : Shape := ⟨2, ![112, 1024]⟩
abbrev S2176x1024 : Shape := ⟨2, ![2176, 1024]⟩
abbrev S1x1024 : Shape := ⟨2, ![1, 1024]⟩
abbrev S2176x3072 : Shape := ⟨2, ![2176, 3072]⟩
abbrev S2x1024x384 : Shape := ⟨3, ![2, 1024, 384]⟩
abbrev S2176x768 : Shape := ⟨2, ![2176, 768]⟩
abbrev S544x1024 : Shape := ⟨2, ![544, 1024]⟩
abbrev S544 : Shape := ⟨1, ![544]⟩
abbrev S544x1 : Shape := ⟨2, ![544, 1]⟩
abbrev S112x768 : Shape := ⟨2, ![112, 768]⟩
abbrev S1x1024x384 : Shape := ⟨3, ![1, 1024, 384]⟩
abbrev S1024x384 : Shape := ⟨2, ![1024, 384]⟩
abbrev S1024x768 : Shape := ⟨2, ![1024, 768]⟩
abbrev S2064x768 : Shape := ⟨2, ![2064, 768]⟩

abbrev nBuf : Space → Nat
  | .hbm => 12
  | .vmem => 7
  | .smem => 0
  | _ => 0

abbrev bufTy : (tb : Table) → Fin (tcTables nBuf tb) → BufTy
  | .hbm, ⟨0, _⟩ => ⟨S2064x1024, .f32⟩
  | .hbm, ⟨1, _⟩ => ⟨S1024, .f32⟩
  | .hbm, ⟨2, _⟩ => ⟨S1024x3072, .f32⟩
  | .hbm, ⟨3, _⟩ => ⟨S1024x8x384, .f32⟩
  | .hbm, ⟨4, _⟩ => ⟨S8x1024x384, .f32⟩
  | .hbm, ⟨5, _⟩ => ⟨S8x1024x384, .bf16⟩
  | .hbm, ⟨6, _⟩ => ⟨S_, .f32⟩
  | .hbm, ⟨7, _⟩ => ⟨S112x1024, .f32⟩
  | .hbm, ⟨8, _⟩ => ⟨S2176x1024, .f32⟩
  | .hbm, ⟨9, _⟩ => ⟨S1x1024, .f32⟩
  | .hbm, ⟨10, _⟩ => ⟨S2176x1024, .bf16⟩
  | .hbm, ⟨11, _⟩ => ⟨S2176x3072, .f32⟩
  | .local _ .vmem, ⟨0, _⟩ => ⟨S2176x1024, .f32⟩
  | .local _ .vmem, ⟨1, _⟩ => ⟨S1x1024, .f32⟩
  | .local _ .vmem, ⟨2, _⟩ => ⟨S2x1024x384, .bf16⟩
  | .local _ .vmem, ⟨3, _⟩ => ⟨S2x1024x384, .bf16⟩
  | .local _ .vmem, ⟨4, _⟩ => ⟨S2176x1024, .bf16⟩
  | .local _ .vmem, ⟨5, _⟩ => ⟨S2176x768, .f32⟩
  | .local _ .vmem, ⟨6, _⟩ => ⟨S2176x768, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2176x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2176x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S2064x1024 : Shape := ⟨2, ![2064, 1024]⟩
abbrev S1024 : Shape := ⟨1, ![1024]⟩
abbrev S1024x3072 : Shape := ⟨2, ![1024, 3072]⟩
abbrev S_ : Shape := ⟨0, ![]⟩
abbrev S2064 : Shape := ⟨1, ![2064]⟩
abbrev S2064x1 : Shape := ⟨2, ![2064, 1]⟩
abbrev S1x1024 : Shape := ⟨2, ![1, 1024]⟩
abbrev S112x1024 : Shape := ⟨2, ![112, 1024]⟩
abbrev S2176x1024 : Shape := ⟨2, ![2176, 1024]⟩
abbrev S2064x3072 : Shape := ⟨2, ![2064, 3072]⟩
abbrev S112x3072 : Shape := ⟨2, ![112, 3072]⟩
abbrev S2176x3072 : Shape := ⟨2, ![2176, 3072]⟩

abbrev nBuf : Space → Nat
  | .hbm => 27
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024, .f32⟩
  | .hbm, ⟨2, _⟩ => ⟨S1024x3072, .f32⟩
  | .hbm, ⟨3, _⟩ => ⟨S2064x1024, .f32⟩
  | .hbm, ⟨4, _⟩ => ⟨S_, .f32⟩
  | .hbm, ⟨5, _⟩ => ⟨S2064, .f32⟩
  | .hbm, ⟨6, _⟩ => ⟨S2064x1, .f32⟩
  | .hbm, ⟨7, _⟩ => ⟨S_, .f32⟩
  | .hbm, ⟨8, _⟩ => ⟨S2064x1, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S2064x1, .f32⟩
  | .hbm, ⟨14, _⟩ => ⟨S2064x1024, .f32⟩
  | .hbm, ⟨15, _⟩ => ⟨S2064x1024, .f32⟩
  | .hbm, ⟨16, _⟩ => ⟨S1x1024, .f32⟩
  | .hbm, ⟨17, _⟩ => ⟨S2064x1024, .f32⟩
  | .hbm, ⟨18, _⟩ => ⟨S2064x1024, .f32⟩
  | .hbm, ⟨19, _⟩ => ⟨S_, .f32⟩
  | .hbm, ⟨20, _⟩ => ⟨S112x1024, .f32⟩
  | .hbm, ⟨21, _⟩ => ⟨S2176x1024, .f32⟩
  | .hbm, ⟨22, _⟩ => ⟨S2176x1024, .bf16⟩
  | .hbm, ⟨23, _⟩ => ⟨S2064x3072, .f32⟩
  | .hbm, ⟨24, _⟩ => ⟨S_, .f32⟩
  | .hbm, ⟨25, _⟩ => ⟨S112x3072, .f32⟩
  | .hbm, ⟨26, _⟩ => ⟨S2176x3072, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel8.lean ====
abbrev S2064x2816 : Shape := ⟨2, ![2064, 2816]⟩
abbrev S2816x1024 : Shape := ⟨2, ![2816, 1024]⟩
abbrev S2064x1024 : Shape := ⟨2, ![2064, 1024]⟩
abbrev S_ : Shape := ⟨0, ![]⟩
abbrev S2064x8x32 : Shape := ⟨3, ![2064, 8, 32]⟩
abbrev S2064x8x352 : Shape := ⟨3, ![2064, 8, 352]⟩
abbrev S2064x8x384 : Shape := ⟨3, ![2064, 8, 384]⟩
abbrev S2064x3072 : Shape := ⟨2, ![2064, 3072]⟩
abbrev S112x3072 : Shape := ⟨2, ![112, 3072]⟩
abbrev S2176x3072 : Shape := ⟨2, ![2176, 3072]⟩
abbrev S8x32x1024 : Shape := ⟨3, ![8, 32, 1024]⟩
abbrev S8x352x1024 : Shape := ⟨3, ![8, 352, 1024]⟩
abbrev S8x384x1024 : Shape := ⟨3, ![8, 384, 1024]⟩
abbrev S3072x1024 : Shape := ⟨2, ![3072, 1024]⟩
abbrev S112x1024 : Shape := ⟨2, ![112, 1024]⟩
abbrev S2176x1024 : Shape := ⟨2, ![2176, 1024]⟩
abbrev S3072x256 : Shape := ⟨2, ![3072, 256]⟩
abbrev S2176x256 : Shape := ⟨2, ![2176, 256]⟩
abbrev S112x256 : Shape := ⟨2, ![112, 256]⟩
abbrev S2064x256 : Shape := ⟨2, ![2064, 256]⟩

abbrev nBuf : Space → Nat
  | .hbm => 22
  | .vmem => 7
  | .smem => 0
  | _ => 0

abbrev bufTy : (tb : Table) → Fin (tcTables nBuf tb) → BufTy
  | .hbm, ⟨0, _⟩ => ⟨S2064x2816, .f32⟩
  | .hbm, ⟨1, _⟩ => ⟨S2816x1024, .f32⟩
  | .hbm, ⟨2, _⟩ => ⟨S2064x1024, .f32⟩
  | .hbm, ⟨3, _⟩ => ⟨S_, .f32⟩
  | .hbm, ⟨4, _⟩ => ⟨S2064x8x32, .f32⟩
  | .hbm, ⟨5, _⟩ => ⟨S2064x8x352, .f32⟩
  | .hbm, ⟨6, _⟩ => ⟨S2064x8x384, .f32⟩
  | .hbm, ⟨7, _⟩ => ⟨S2064x3072, .f32⟩
  | .hbm, ⟨8, _⟩ => ⟨S_, .f32⟩
  | .hbm, ⟨9, _⟩ => ⟨S112x3072, .f32⟩
  | .hbm, ⟨10, _⟩ => ⟨S2176x3072, .f32⟩
  | .hbm, ⟨11, _⟩ => ⟨S2176x3072, .bf16⟩
  | .hbm, ⟨12, _⟩ => ⟨S_, .f32⟩
  | .hbm, ⟨13, _⟩ => ⟨S8x32x1024, .f32⟩
  | .hbm, ⟨14, _⟩ => ⟨S8x352x1024, .f32⟩
  | .hbm, ⟨15, _⟩ => ⟨S8x384x1024, .f32⟩
  | .hbm, ⟨16, _⟩ => ⟨S3072x1024, .f32⟩
  | .hbm, ⟨17, _⟩ => ⟨S3072x1024, .bf16⟩
  | .hbm, ⟨18, _⟩ => ⟨S_, .f32⟩
  | .hbm, ⟨19, _⟩ => ⟨S112x1024, .f32⟩
  | .hbm, ⟨20, _⟩ => ⟨S2176x1024, .f32⟩
  | .hbm, ⟨21, _⟩ => ⟨S2176x1024, .f32⟩
  | .local _ .vmem, ⟨0, _⟩ => ⟨S2176x3072, .bf16⟩
  | .local _ .vmem, ⟨1, _⟩ => ⟨S3072x256, .bf16⟩
  | .local _ .vmem, ⟨2, _⟩ => ⟨S3072x256, .bf16⟩
  | .local _ .vmem, ⟨3, _⟩ => ⟨S2176x256, .f32⟩
  | .local _ .vmem, ⟨4, _⟩ => ⟨S2176x256, .f32⟩
  | .local _ .vmem, ⟨5, _⟩ => ⟨S2176x256, .f32⟩
  | .local _ .vmem, ⟨6, _⟩ => ⟨S2176x256, .f32⟩
  | _, _ => ⟨S2064x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S2064x2816 : Shape := ⟨2, ![2064, 2816]⟩
abbrev S2816x1024 : Shape := ⟨2, ![2816, 1024]⟩
abbrev S2064x1024 : Shape := ⟨2, ![2064, 1024]⟩
abbrev S_ : Shape := ⟨0, ![]⟩
abbrev S112x1024 : Shape := ⟨2, ![112, 1024]⟩
abbrev S2176x1024 : Shape := ⟨2, ![2176, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2064x2816, .f32⟩
  | .hbm, ⟨1, _⟩ => ⟨S2816x1024, .f32⟩
  | .hbm, ⟨2, _⟩ => ⟨S2064x1024, .f32⟩
  | .hbm, ⟨3, _⟩ => ⟨S2064x1024, .f32⟩
  | .hbm, ⟨4, _⟩ => ⟨S2064x1024, .f32⟩
  | .hbm, ⟨5, _⟩ => ⟨S_, .f32⟩
  | .hbm, ⟨6, _⟩ => ⟨S112x1024, .f32⟩
  | .hbm, ⟨7, _⟩ => ⟨S2176x1024, .f32⟩
  | _, _ => ⟨S2064x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel9.lean ====
abbrev S2064x2816 : Shape := ⟨2, ![2064, 2816]⟩
abbrev S2064x1024 : Shape := ⟨2, ![2064, 1024]⟩
abbrev S_ : Shape := ⟨0, ![]⟩
abbrev S2064x8x32 : Shape := ⟨3, ![2064, 8, 32]⟩
abbrev S2064x8x352 : Shape := ⟨3, ![2064, 8, 352]⟩
abbrev S2064x8x384 : Shape := ⟨3, ![2064, 8, 384]⟩
abbrev S2064x3072 : Shape := ⟨2, ![2064, 3072]⟩
abbrev S112x3072 : Shape := ⟨2, ![112, 3072]⟩
abbrev S2176x3072 : Shape := ⟨2, ![2176, 3072]⟩
abbrev S112x1024 : Shape := ⟨2, ![112, 1024]⟩
abbrev S2176x1024 : Shape := ⟨2, ![2176, 1024]⟩
abbrev S3072x1024 : Shape := ⟨2, ![3072, 1024]⟩
abbrev S2176x768 : Shape := ⟨2, ![2176, 768]⟩
abbrev S768x1024 : Shape := ⟨2, ![768, 1024]⟩

abbrev nBuf : Space → Nat
  | .hbm => 16
  | .vmem => 5
  | .smem => 0
  | _ => 0

abbrev bufTy : (tb : Table) → Fin (tcTables nBuf tb) → BufTy
  | .hbm, ⟨0, _⟩ => ⟨S2064x2816, .f32⟩
  | .hbm, ⟨1, _⟩ => ⟨S2064x1024, .f32⟩
  | .hbm, ⟨2, _⟩ => ⟨S_, .f32⟩
  | .hbm, ⟨3, _⟩ => ⟨S2064x8x32, .f32⟩
  | .hbm, ⟨4, _⟩ => ⟨S2064x8x352, .f32⟩
  | .hbm, ⟨5, _⟩ => ⟨S2064x8x384, .f32⟩
  | .hbm, ⟨6, _⟩ => ⟨S2064x3072, .f32⟩
  | .hbm, ⟨7, _⟩ => ⟨S_, .f32⟩
  | .hbm, ⟨8, _⟩ => ⟨S112x3072, .f32⟩
  | .hbm, ⟨9, _⟩ => ⟨S2176x3072, .f32⟩
  | .hbm, ⟨10, _⟩ => ⟨S2176x3072, .bf16⟩
  | .hbm, ⟨11, _⟩ => ⟨S_, .f32⟩
  | .hbm, ⟨12, _⟩ => ⟨S112x1024, .f32⟩
  | .hbm, ⟨13, _⟩ => ⟨S2176x1024, .f32⟩
  | .hbm, ⟨14, _⟩ => ⟨S2176x1024, .bf16⟩
  | .hbm, ⟨15, _⟩ => ⟨S3072x1024, .bf16⟩
  | .local _ .vmem, ⟨0, _⟩ => ⟨S2176x768, .bf16⟩
  | .local _ .vmem, ⟨1, _⟩ => ⟨S2176x768, .bf16⟩
  | .local _ .vmem, ⟨2, _⟩ => ⟨S2176x1024, .bf16⟩
  | .local _ .vmem, ⟨3, _⟩ => ⟨S768x1024, .bf16⟩
  | .local _ .vmem, ⟨4, _⟩ => ⟨S768x1024, .bf16⟩
  | _, _ => ⟨S2064x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S2064x2816 : Shape := ⟨2, ![2064, 2816]⟩
abbrev S2064x1024 : Shape := ⟨2, ![2064, 1024]⟩
abbrev S_ : Shape := ⟨0, ![]⟩
abbrev S2816x1024 : Shape := ⟨2, ![2816, 1024]⟩
abbrev S1024x2816 : Shape := ⟨2, ![1024, 2816]⟩
abbrev S8x32x1024 : Shape := ⟨3, ![8, 32, 1024]⟩
abbrev S8x352x1024 : Shape := ⟨3, ![8, 352, 1024]⟩
abbrev S8x384x1024 : Shape := ⟨3, ![8, 384, 1024]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2064x2816, .f32⟩
  | .hbm, ⟨1, _⟩ => ⟨S2064x1024, .f32⟩
  | .hbm, ⟨2, _⟩ => ⟨S_, .f32⟩
  | .hbm, ⟨3, _⟩ => ⟨S2816x1024, .f32⟩
  | .hbm, ⟨4, _⟩ => ⟨S2064x1024, .f32⟩
  | .hbm, ⟨5, _⟩ => ⟨S1024x2816, .f32⟩
  | .hbm, ⟨6, _⟩ => ⟨S2816x1024, .f32⟩
  | .hbm, ⟨7, _⟩ => ⟨S_, .f32⟩
  | .hbm, ⟨8, _⟩ => ⟨S8x32x1024, .f32⟩
  | .hbm, ⟨9, _⟩ => ⟨S8x352x1024, .f32⟩
  | .hbm, ⟨10, _⟩ => ⟨S8x384x1024, .f32⟩
  | .hbm, ⟨11, _⟩ => ⟨S3072x1024, .f32⟩
  | .hbm, ⟨12, _⟩ => ⟨S3072x1024, .bf16⟩
  | _, _ => ⟨S2064x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel10.lean ====
abbrev S2064x2816 : Shape := ⟨2, ![2064, 2816]⟩
abbrev S2064x1024 : Shape := ⟨2, ![2064, 1024]⟩
abbrev S_ : Shape := ⟨0, ![]⟩
abbrev S2064x8x32 : Shape := ⟨3, ![2064, 8, 32]⟩
abbrev S2064x8x352 : Shape := ⟨3, ![2064, 8, 352]⟩
abbrev S2064x8x384 : Shape := ⟨3, ![2064, 8, 384]⟩
abbrev S2064x3072 : Shape := ⟨2, ![2064, 3072]⟩
abbrev S112x3072 : Shape := ⟨2, ![112, 3072]⟩
abbrev S2176x3072 : Shape := ⟨2, ![2176, 3072]⟩
abbrev S112x1024 : Shape := ⟨2, ![112, 1024]⟩
abbrev S2176x1024 : Shape := ⟨2, ![2176, 1024]⟩
abbrev S3072x1024 : Shape := ⟨2, ![3072, 1024]⟩
abbrev S2176x768 : Shape := ⟨2, ![2176, 768]⟩
abbrev S768x1024 : Shape := ⟨2, ![768, 1024]⟩

abbrev nBuf : Space → Nat
  | .hbm => 27
  | .vmem => 9
  | .smem => 0
  | _ => 0

abbrev bufTy : (tb : Table) → Fin (tcTables nBuf tb) → BufTy
  | .hbm, ⟨0, _⟩ => ⟨S2064x2816, .f32⟩
  | .hbm, ⟨1, _⟩ => ⟨S2064x2816, .f32⟩
  | .hbm, ⟨2, _⟩ => ⟨S2064x1024, .f32⟩
  | .hbm, ⟨3, _⟩ => ⟨S_, .f32⟩
  | .hbm, ⟨4, _⟩ => ⟨S2064x8x32, .f32⟩
  | .hbm, ⟨5, _⟩ => ⟨S2064x8x352, .f32⟩
  | .hbm, ⟨6, _⟩ => ⟨S2064x8x384, .f32⟩
  | .hbm, ⟨7, _⟩ => ⟨S2064x3072, .f32⟩
  | .hbm, ⟨8, _⟩ => ⟨S_, .f32⟩
  | .hbm, ⟨9, _⟩ => ⟨S112x3072, .f32⟩
  | .hbm, ⟨10, _⟩ => ⟨S2176x3072, .f32⟩
  | .hbm, ⟨11, _⟩ => ⟨S2176x3072, .bf16⟩
  | .hbm, ⟨12, _⟩ => ⟨S_, .f32⟩
  | .hbm, ⟨13, _⟩ => ⟨S2064x8x32, .f32⟩
  | .hbm, ⟨14, _⟩ => ⟨S2064x8x352, .f32⟩
  | .hbm, ⟨15, _⟩ => ⟨S2064x8x384, .f32⟩
  | .hbm, ⟨16, _⟩ => ⟨S2064x3072, .f32⟩
  | .hbm, ⟨17, _⟩ => ⟨S_, .f32⟩
  | .hbm, ⟨18, _⟩ => ⟨S112x3072, .f32⟩
  | .hbm, ⟨19, _⟩ => ⟨S2176x3072, .f32⟩
  | .hbm, ⟨20, _⟩ => ⟨S2176x3072, .bf16⟩
  | .hbm, ⟨21, _⟩ => ⟨S_, .f32⟩
  | .hbm, ⟨22, _⟩ => ⟨S112x1024, .f32⟩
  | .hbm, ⟨23, _⟩ => ⟨S2176x1024, .f32⟩
  | .hbm, ⟨24, _⟩ => ⟨S2176x1024, .bf16⟩
  | .hbm, ⟨25, _⟩ => ⟨S3072x1024, .bf16⟩
  | .hbm, ⟨26, _⟩ => ⟨S3072x1024, .bf16⟩
  | .local _ .vmem, ⟨0, _⟩ => ⟨S2176x768, .bf16⟩
  | .local _ .vmem, ⟨1, _⟩ => ⟨S2176x768, .bf16⟩
  | .local _ .vmem, ⟨2, _⟩ => ⟨S2176x768, .bf16⟩
  | .local _ .vmem, ⟨3, _⟩ => ⟨S2176x768, .bf16⟩
  | .local _ .vmem, ⟨4, _⟩ => ⟨S2176x1024, .bf16⟩
  | .local _ .vmem, ⟨5, _⟩ => ⟨S768x1024, .bf16⟩
  | .local _ .vmem, ⟨6, _⟩ => ⟨S768x1024, .bf16⟩
  | .local _ .vmem, ⟨7, _⟩ => ⟨S768x1024, .bf16⟩
  | .local _ .vmem, ⟨8, _⟩ => ⟨S768x1024, .bf16⟩
  | _, _ => ⟨S2064x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S2064x2816 : Shape := ⟨2, ![2064, 2816]⟩
abbrev S2064x1024 : Shape := ⟨2, ![2064, 1024]⟩
abbrev S_ : Shape := ⟨0, ![]⟩
abbrev S1024x2816 : Shape := ⟨2, ![1024, 2816]⟩
abbrev S2816x1024 : Shape := ⟨2, ![2816, 1024]⟩
abbrev S8x32x1024 : Shape := ⟨3, ![8, 32, 1024]⟩
abbrev S8x352x1024 : Shape := ⟨3, ![8, 352, 1024]⟩
abbrev S8x384x1024 : Shape := ⟨3, ![8, 384, 1024]⟩
abbrev S3072x1024 : Shape := ⟨2, ![3072, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2064x2816, .f32⟩
  | .hbm, ⟨1, _⟩ => ⟨S2064x2816, .f32⟩
  | .hbm, ⟨2, _⟩ => ⟨S2064x1024, .f32⟩
  | .hbm, ⟨3, _⟩ => ⟨S_, .f32⟩
  | .hbm, ⟨4, _⟩ => ⟨S1024x2816, .f32⟩
  | .hbm, ⟨5, _⟩ => ⟨S2064x2816, .f32⟩
  | .hbm, ⟨6, _⟩ => ⟨S2064x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S_, .f32⟩
  | .hbm, ⟨13, _⟩ => ⟨S8x32x1024, .f32⟩
  | .hbm, ⟨14, _⟩ => ⟨S8x352x1024, .f32⟩
  | .hbm, ⟨15, _⟩ => ⟨S8x384x1024, .f32⟩
  | .hbm, ⟨16, _⟩ => ⟨S3072x1024, .f32⟩
  | .hbm, ⟨17, _⟩ => ⟨S3072x1024, .bf16⟩
  | .hbm, ⟨18, _⟩ => ⟨S2816x1024, .f32⟩
  | .hbm, ⟨19, _⟩ => ⟨S_, .f32⟩
  | .hbm, ⟨20, _⟩ => ⟨S8x32x1024, .f32⟩
  | .hbm, ⟨21, _⟩ => ⟨S8x352x1024, .f32⟩
  | .hbm, ⟨22, _⟩ => ⟨S8x384x1024, .f32⟩
  | .hbm, ⟨23, _⟩ => ⟨S3072x1024, .f32⟩
  | .hbm, ⟨24, _⟩ => ⟨S3072x1024, .bf16⟩
  | _, _ => ⟨S2064x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel11.lean ====
abbrev S2064x1024 : Shape := ⟨2, ![2064, 1024]⟩
abbrev S1024x1024 : Shape := ⟨2, ![1024, 1024]⟩
abbrev S_ : Shape := ⟨0, ![]⟩
abbrev S112x1024 : Shape := ⟨2, ![112, 1024]⟩
abbrev S2176x1024 : Shape := ⟨2, ![2176, 1024]⟩
abbrev S256x1024 : Shape := ⟨2, ![256, 1024]⟩
abbrev S2176x256 : Shape := ⟨2, ![2176, 256]⟩
abbrev S112x256 : Shape := ⟨2, ![112, 256]⟩
abbrev S2064x256 : Shape := ⟨2, ![2064, 256]⟩

abbrev nBuf : Space → Nat
  | .hbm => 14
  | .vmem => 9
  | .smem => 0
  | _ => 0

abbrev bufTy : (tb : Table) → Fin (tcTables nBuf tb) → BufTy
  | .hbm, ⟨0, _⟩ => ⟨S2064x1024, .f32⟩
  | .hbm, ⟨1, _⟩ => ⟨S1024x1024, .f32⟩
  | .hbm, ⟨2, _⟩ => ⟨S2064x1024, .f32⟩
  | .hbm, ⟨3, _⟩ => ⟨S_, .f32⟩
  | .hbm, ⟨4, _⟩ => ⟨S112x1024, .f32⟩
  | .hbm, ⟨5, _⟩ => ⟨S2176x1024, .f32⟩
  | .hbm, ⟨6, _⟩ => ⟨S2176x1024, .bf16⟩
  | .hbm, ⟨7, _⟩ => ⟨S1024x1024, .bf16⟩
  | .hbm, ⟨8, _⟩ => ⟨S_, .f32⟩
  | .hbm, ⟨9, _⟩ => ⟨S112x1024, .f32⟩
  | .hbm, ⟨10, _⟩ => ⟨S2176x1024, .f32⟩
  | .hbm, ⟨11, _⟩ => ⟨S2176x1024, .bf16⟩
  | .hbm, ⟨12, _⟩ => ⟨S2176x1024, .f32⟩
  | .hbm, ⟨13, _⟩ => ⟨S1024x1024, .bf16⟩
  | .local _ .vmem, ⟨0, _⟩ => ⟨S2176x1024, .bf16⟩
  | .local _ .vmem, ⟨1, _⟩ => ⟨S256x1024, .bf16⟩
  | .local _ .vmem, ⟨2, _⟩ => ⟨S256x1024, .bf16⟩
  | .local _ .vmem, ⟨3, _⟩ => ⟨S2176x256, .bf16⟩
  | .local _ .vmem, ⟨4, _⟩ => ⟨S2176x256, .bf16⟩
  | .local _ .vmem, ⟨5, _⟩ => ⟨S2176x256, .f32⟩
  | .local _ .vmem, ⟨6, _⟩ => ⟨S2176x256, .f32⟩
  | .local _ .vmem, ⟨7, _⟩ => ⟨S256x1024, .bf16⟩
  | .local _ .vmem, ⟨8, _⟩ => ⟨S256x1024, .bf16⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S2064x1024 : Shape := ⟨2, ![2064, 1024]⟩
abbrev S1024x1024 : Shape := ⟨2, ![1024, 1024]⟩
abbrev S_ : Shape := ⟨0, ![]⟩
abbrev S112x1024 : Shape := ⟨2, ![112, 1024]⟩
abbrev S2176x1024 : Shape := ⟨2, ![2176, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x1024, .f32⟩
  | .hbm, ⟨2, _⟩ => ⟨S2064x1024, .f32⟩
  | .hbm, ⟨3, _⟩ => ⟨S2064x1024, .f32⟩
  | .hbm, ⟨4, _⟩ => ⟨S1024x1024, .f32⟩
  | .hbm, ⟨5, _⟩ => ⟨S1024x1024, .f32⟩
  | .hbm, ⟨6, _⟩ => ⟨S2064x1024, .f32⟩
  | .hbm, ⟨7, _⟩ => ⟨S_, .f32⟩
  | .hbm, ⟨8, _⟩ => ⟨S112x1024, .f32⟩
  | .hbm, ⟨9, _⟩ => ⟨S2176x1024, .f32⟩
  | .hbm, ⟨10, _⟩ => ⟨S1024x1024, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel12.lean ====
abbrev S8x24x512 : Shape := ⟨3, ![8, 24, 512]⟩
abbrev S8x1024x64 : Shape := ⟨3, ![8, 1024, 64]⟩
abbrev S8x16x1024 : Shape := ⟨3, ![8, 16, 1024]⟩
abbrev S8x3x24x512 : Shape := ⟨4, ![8, 3, 24, 512]⟩
abbrev S8x3x1024x64 : Shape := ⟨4, ![8, 3, 1024, 64]⟩
abbrev S24x512 : Shape := ⟨2, ![24, 512]⟩
abbrev S1024x64 : Shape := ⟨2, ![1024, 64]⟩
abbrev S16x1024 : Shape := ⟨2, ![16, 1024]⟩
abbrev S3x24x512 : Shape := ⟨3, ![3, 24, 512]⟩
abbrev S3x1024x64 : Shape := ⟨3, ![3, 1024, 64]⟩
abbrev S1x24x512 : Shape := ⟨3, ![1, 24, 512]⟩
abbrev S1x1024x64 : Shape := ⟨3, ![1, 1024, 64]⟩
abbrev S1x16x1024 : Shape := ⟨3, ![1, 16, 1024]⟩
abbrev S1x3x24x512 : Shape := ⟨4, ![1, 3, 24, 512]⟩
abbrev S1x3x1024x64 : Shape := ⟨4, ![1, 3, 1024, 64]⟩

abbrev nBuf : Space → Nat
  | .hbm => 10
  | .vmem => 10
  | .smem => 0
  | _ => 0

abbrev bufTy : (tb : Table) → Fin (tcTables nBuf tb) → BufTy
  | .hbm, ⟨0, _⟩ => ⟨S8x24x512, .f32⟩
  | .hbm, ⟨1, _⟩ => ⟨S8x1024x64, .f32⟩
  | .hbm, ⟨2, _⟩ => ⟨S8x16x1024, .f32⟩
  | .hbm, ⟨3, _⟩ => ⟨S8x3x24x512, .f32⟩
  | .hbm, ⟨4, _⟩ => ⟨S8x3x1024x64, .f32⟩
  | .hbm, ⟨5, _⟩ => ⟨S24x512, .f32⟩
  | .hbm, ⟨6, _⟩ => ⟨S1024x64, .f32⟩
  | .hbm, ⟨7, _⟩ => ⟨S16x1024, .f32⟩
  | .hbm, ⟨8, _⟩ => ⟨S3x24x512, .f32⟩
  | .hbm, ⟨9, _⟩ => ⟨S3x1024x64, .f32⟩
  | .local _ .vmem, ⟨0, _⟩ => ⟨S8x24x512, .f32⟩
  | .local _ .vmem, ⟨1, _⟩ => ⟨S8x1024x64, .f32⟩
  | .local _ .vmem, ⟨2, _⟩ => ⟨S8x16x1024, .f32⟩
  | .local _ .vmem, ⟨3, _⟩ => ⟨S8x3x24x512, .f32⟩
  | .local _ .vmem, ⟨4, _⟩ => ⟨S8x3x1024x64, .f32⟩
  | .local _ .vmem, ⟨5, _⟩ => ⟨S24x512, .f32⟩
  | .local _ .vmem, ⟨6, _⟩ => ⟨S1024x64, .f32⟩
  | .local _ .vmem, ⟨7, _⟩ => ⟨S16x1024, .f32⟩
  | .local _ .vmem, ⟨8, _⟩ => ⟨S3x24x512, .f32⟩
  | .local _ .vmem, ⟨9, _⟩ => ⟨S3x1024x64, .f32⟩
  | _, _ => ⟨S8x24x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x24x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x3x24x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x3x1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x24x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1024x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference12Ideal.lean ====
abbrev S8x24x512 : Shape := ⟨3, ![8, 24, 512]⟩
abbrev S8x1024x64 : Shape := ⟨3, ![8, 1024, 64]⟩
abbrev S8x16x1024 : Shape := ⟨3, ![8, 16, 1024]⟩
abbrev S8x3x24x512 : Shape := ⟨4, ![8, 3, 24, 512]⟩
abbrev S8x3x1024x64 : Shape := ⟨4, ![8, 3, 1024, 64]⟩
abbrev S_ : Shape := ⟨0, ![]⟩
abbrev S24x512 : Shape := ⟨2, ![24, 512]⟩
abbrev S1024x64 : Shape := ⟨2, ![1024, 64]⟩
abbrev S16x1024 : Shape := ⟨2, ![16, 1024]⟩
abbrev S3x24x512 : Shape := ⟨3, ![3, 24, 512]⟩
abbrev S3x1024x64 : Shape := ⟨3, ![3, 1024, 64]⟩

abbrev nBuf : Space → Nat
  | .hbm => 15
  | .vmem => 0
  | .smem => 0
  | _ => 0

abbrev bufTy : (tb : Table) → Fin (tcTables nBuf tb) → BufTy
  | .hbm, ⟨0, _⟩ => ⟨S8x24x512, .f32⟩
  | .hbm, ⟨1, _⟩ => ⟨S8x1024x64, .f32⟩
  | .hbm, ⟨2, _⟩ => ⟨S8x16x1024, .f32⟩
  | .hbm, ⟨3, _⟩ => ⟨S8x3x24x512, .f32⟩
  | .hbm, ⟨4, _⟩ => ⟨S8x3x1024x64, .f32⟩
  | .hbm, ⟨5, _⟩ => ⟨S_, .f32⟩
  | .hbm, ⟨6, _⟩ => ⟨S24x512, .f32⟩
  | .hbm, ⟨7, _⟩ => ⟨S_, .f32⟩
  | .hbm, ⟨8, _⟩ => ⟨S1024x64, .f32⟩
  | .hbm, ⟨9, _⟩ => ⟨S_, .f32⟩
  | .hbm, ⟨10, _⟩ => ⟨S16x1024, .f32⟩
  | .hbm, ⟨11, _⟩ => ⟨S_, .f32⟩
  | .hbm, ⟨12, _⟩ => ⟨S3x24x512, .f32⟩
  | .hbm, ⟨13, _⟩ => ⟨S_, .f32⟩
  | .hbm, ⟨14, _⟩ => ⟨S3x1024x64, .f32⟩
  | _, _ => ⟨S8x24x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_cst_3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== Kernel13.lean ====
abbrev S4x8x64x64 : Shape := ⟨4, ![4, 8, 64, 64]⟩
abbrev S4x512x512 : Shape := ⟨3, ![4, 512, 512]⟩
abbrev S1x8x64x64 : Shape := ⟨4, ![1, 8, 64, 64]⟩
abbrev S1x512x512 : Shape := ⟨3, ![1, 512, 512]⟩
abbrev S512x512 : Shape := ⟨2, ![512, 512]⟩
abbrev S1x1x64x64 : Shape := ⟨4, ![1, 1, 64, 64]⟩
abbrev S64x64 : Shape := ⟨2, ![64, 64]⟩
abbrev S1x64x64 : Shape := ⟨3, ![1, 64, 64]⟩

abbrev nBuf : Space → Nat
  | .hbm => 4
  | .vmem => 8
  | .smem => 0
  | _ => 0

abbrev bufTy : (tb : Table) → Fin (tcTables nBuf tb) → BufTy
  | .hbm, ⟨0, _⟩ => ⟨S4x8x64x64, .f32⟩
  | .hbm, ⟨1, _⟩ => ⟨S4x8x64x64, .f32⟩
  | .hbm, ⟨2, _⟩ => ⟨S4x512x512, .bf16⟩
  | .hbm, ⟨3, _⟩ => ⟨S4x512x512, .bf16⟩
  | .local _ .vmem, ⟨0, _⟩ => ⟨S1x8x64x64, .f32⟩
  | .local _ .vmem, ⟨1, _⟩ => ⟨S1x8x64x64, .f32⟩
  | .local _ .vmem, ⟨2, _⟩ => ⟨S1x8x64x64, .f32⟩
  | .local _ .vmem, ⟨3, _⟩ => ⟨S1x8x64x64, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | _, _ => ⟨S4x8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S4x8x64x64 : Shape := ⟨4, ![4, 8, 64, 64]⟩
abbrev S8 : Shape := ⟨1, ![8]⟩
abbrev S8x1x1x1 : Shape := ⟨4, ![8, 1, 1, 1]⟩
abbrev S1x1x8x1 : Shape := ⟨4, ![1, 1, 8, 1]⟩
abbrev S8x1x8x1 : Shape := ⟨4, ![8, 1, 8, 1]⟩
abbrev S4x8x64x1x64 : Shape := ⟨5, ![4, 8, 64, 1, 64]⟩
abbrev S_ : Shape := ⟨0, ![]⟩
abbrev S4x8x64x8x64 : Shape := ⟨5, ![4, 8, 64, 8, 64]⟩
abbrev S4x512x512 : Shape := ⟨3, ![4, 512, 512]⟩

abbrev nBuf : Space → Nat
  | .hbm => 34
  | .vmem => 0
  | .smem => 0
  | _ => 0

abbrev bufTy : (tb : Table) → Fin (tcTables nBuf tb) → BufTy
  | .hbm, ⟨0, _⟩ => ⟨S4x8x64x64, .f32⟩
  | .hbm, ⟨1, _⟩ => ⟨S4x8x64x64, .f32⟩
  | .hbm, ⟨2, _⟩ => ⟨S8, .i32⟩
  | .hbm, ⟨3, _⟩ => ⟨S8x1x1x1, .i32⟩
  | .hbm, ⟨4, _⟩ => ⟨S8, .i32⟩
  | .hbm, ⟨5, _⟩ => ⟨S1x1x8x1, .i32⟩
  | .hbm, ⟨6, _⟩ => ⟨S8x1x8x1, .i32⟩
  | .hbm, ⟨7, _⟩ => ⟨S8x1x8x1, .i32⟩
  | .hbm, ⟨8, _⟩ => ⟨S8x1x8x1, .i1⟩
  | .hbm, ⟨9, _⟩ => ⟨S4x8x64x1x64, .f32⟩
  | .hbm, ⟨10, _⟩ => ⟨S_, .f32⟩
  | .hbm, ⟨11, _⟩ => ⟨S_, .f32⟩
  | .hbm, ⟨12, _⟩ => ⟨S4x8x64x8x64, .i1⟩
  | .hbm, ⟨13, _⟩ => ⟨S4x8x64x8x64, .f32⟩
  | .hbm, ⟨14, _⟩ => ⟨S4x8x64x8x64, .f32⟩
  | .hbm, ⟨15, _⟩ => ⟨S4x8x64x8x64, .f32⟩
  | .hbm, ⟨16, _⟩ => ⟨S4x512x512, .f32⟩
  | .hbm, ⟨17, _⟩ => ⟨S4x512x512, .bf16⟩
  | .hbm, ⟨18, _⟩ => ⟨S8, .i32⟩
  | .hbm, ⟨19, _⟩ => ⟨S8x1x1x1, .i32⟩
  | .hbm, ⟨20, _⟩ => ⟨S8, .i32⟩
  | .hbm, ⟨21, _⟩ => ⟨S1x1x8x1, .i32⟩
  | .hbm, ⟨22, _⟩ => ⟨S8x1x8x1, .i32⟩
  | .hbm, ⟨23, _⟩ => ⟨S8x1x8x1, .i32⟩
  | .hbm, ⟨24, _⟩ => ⟨S8x1x8x1, .i1⟩
  | .hbm, ⟨25, _⟩ => ⟨S4x8x64x1x64, .f32⟩
  | .hbm, ⟨26, _⟩ => ⟨S_, .f32⟩
  | .hbm, ⟨27, _⟩ => ⟨S_, .f32⟩
  | .hbm, ⟨28, _⟩ => ⟨S4x8x64x8x64, .i1⟩
  | .hbm, ⟨29, _⟩ => ⟨S4x8x64x8x64, .f32⟩
  | .hbm, ⟨30, _⟩ => ⟨S4x8x64x8x64, .f32⟩
  | .hbm, ⟨31, _⟩ => ⟨S4x8x64x8x64, .f32⟩
  | .hbm, ⟨32, _⟩ => ⟨S4x512x512, .f32⟩
  | .hbm, ⟨33, _⟩ => ⟨S4x512x512, .bf16⟩
  | _, _ => ⟨S4x8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel14.lean ====
abbrev S16x512 : Shape := ⟨2, ![16, 512]⟩
abbrev S512 : Shape := ⟨1, ![512]⟩
abbrev S1024 : Shape := ⟨1, ![1024]⟩
abbrev S8x128 : Shape := ⟨2, ![8, 128]⟩
abbrev S512x512 : Shape := ⟨2, ![512, 512]⟩
abbrev S1x512 : Shape := ⟨2, ![1, 512]⟩
abbrev S1x1024 : Shape := ⟨2, ![1, 1024]⟩
abbrev S24x512 : Shape := ⟨2, ![24, 512]⟩
abbrev S1024x64 : Shape := ⟨2, ![1024, 64]⟩
abbrev S8x512 : Shape := ⟨2, ![8, 512]⟩
abbrev S1x128 : Shape := ⟨2, ![1, 128]⟩
abbrev S9x512 : Shape := ⟨2, ![9, 512]⟩
abbrev S64x64 : Shape := ⟨2, ![64, 64]⟩

abbrev nBuf : Space → Nat
  | .hbm => 14
  | .vmem => 10
  | .smem => 0
  | _ => 0

abbrev bufTy : (tb : Table) → Fin (tcTables nBuf tb) → BufTy
  | .hbm, ⟨0, _⟩ => ⟨S16x512, .f32⟩
  | .hbm, ⟨1, _⟩ => ⟨S512, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S8x128, .f32⟩
  | .hbm, ⟨6, _⟩ => ⟨S512x512, .f32⟩
  | .hbm, ⟨7, _⟩ => ⟨S512x512, .f32⟩
  | .hbm, ⟨8, _⟩ => ⟨S1x512, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S24x512, .f32⟩
  | .hbm, ⟨13, _⟩ => ⟨S1024x64, .f32⟩
  | .local _ .vmem, ⟨0, _⟩ => ⟨S16x512, .f32⟩
  | .local _ .vmem, ⟨1, _⟩ => ⟨S1x512, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S8x128, .f32⟩
  | .local _ .vmem, ⟨6, _⟩ => ⟨S512x512, .f32⟩
  | .local _ .vmem, ⟨7, _⟩ => ⟨S512x512, .f32⟩
  | .local _ .vmem, ⟨8, _⟩ => ⟨S24x512, .f32⟩
  | .local _ .vmem, ⟨9, _⟩ => ⟨S1024x64, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S24x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference14Ideal.lean ====
abbrev S16x512 : Shape := ⟨2, ![16, 512]⟩
abbrev S512 : Shape := ⟨1, ![512]⟩
abbrev S1024 : Shape := ⟨1, ![1024]⟩
abbrev S8x128 : Shape := ⟨2, ![8, 128]⟩
abbrev S512x512 : Shape := ⟨2, ![512, 512]⟩
abbrev S2x512 : Shape := ⟨2, ![2, 512]⟩
abbrev S1x128 : Shape := ⟨2, ![1, 128]⟩
abbrev S_ : Shape := ⟨0, ![]⟩
abbrev S1x384 : Shape := ⟨2, ![1, 384]⟩
abbrev S1x512 : Shape := ⟨2, ![1, 512]⟩
abbrev S9x512 : Shape := ⟨2, ![9, 512]⟩
abbrev S7x512 : Shape := ⟨2, ![7, 512]⟩
abbrev S24x512 : Shape := ⟨2, ![24, 512]⟩
abbrev S64x64 : Shape := ⟨2, ![64, 64]⟩
abbrev S512x64 : Shape := ⟨2, ![512, 64]⟩
abbrev S1024x64 : Shape := ⟨2, ![1024, 64]⟩

abbrev nBuf : Space → Nat
  | .hbm => 39
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S512, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S8x128, .f32⟩
  | .hbm, ⟨6, _⟩ => ⟨S512x512, .f32⟩
  | .hbm, ⟨7, _⟩ => ⟨S512x512, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S1x128, .f32⟩
  | .hbm, ⟨12, _⟩ => ⟨S_, .f32⟩
  | .hbm, ⟨13, _⟩ => ⟨S1x384, .f32⟩
  | .hbm, ⟨14, _⟩ => ⟨S1x512, .f32⟩
  | .hbm, ⟨15, _⟩ => ⟨S9x512, .f32⟩
  | .hbm, ⟨16, _⟩ => ⟨S1x512, .f32⟩
  | .hbm, ⟨17, _⟩ => ⟨S_, .f32⟩
  | .hbm, ⟨18, _⟩ => ⟨S7x512, .f32⟩
  | .hbm, ⟨19, _⟩ => ⟨S24x512, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S512x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S512x64, .f32⟩
  | .hbm, ⟨38, _⟩ => ⟨S1024x64, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proof.Reals.lean ====
/- Extended reals that are real: sums, products and the float constants of the programs, as images of real numbers. -/
module

public import Idealize.ShloMosaic.PureOps.Ideal.Laws
public import Idealize.ShloMosaic.Lib.IdealHost
public import Idealize.ShloMosaic.Lib.Pointwise

@[expose] public section

noncomputable section

namespace Cert.Reals

open Idealize.ShloMosaic

/-- A sum of real numbers, taken among the extended reals, is their real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The f32 pattern of 1024. -/
theorem ofBits_1024 : Ideal.ofBits .f32 0x44800000#32 = ((1024 : ℝ) : EReal) := by
  simp [Ideal.ofBits, Ideal.ieee, -EReal.coe_mul]; norm_num

/-- The f32 pattern of minus one half. -/
theorem ofBits_neg_half : Ideal.ofBits .f32 0xBF000000#32 = ((-(1 / 2) : ℝ) : EReal) := by
  simp [Ideal.ofBits, Ideal.ieee, -EReal.coe_mul, -EReal.coe_neg]; norm_num

/-- The rational that the float nearest to one millionth is. -/
def eps : ℝ := 8796093 / 8796093022208

theorem eps_pos : 0 < eps := by unfold eps; norm_num

/-- The f32 pattern of the float nearest to one millionth. -/
theorem ofBits_eps : Ideal.ofBits .f32 0x358637BD#32 = ((eps : ℝ) : EReal) := by
  unfold eps; simp [Ideal.ofBits, Ideal.ieee, -EReal.coe_mul]; norm_num

/-- The f32 pattern of infinity. -/
theorem ofBits_inf : Ideal.ofBits .f32 0x7F800000#32 = ⊤ := by
  simp [Ideal.ofBits, Ideal.ieee]

/-- An extended real whose absolute value compares below infinity is a real number. -/
theorem coe_of_abs_lt (x : EReal) (h : Ideal.cmp .olt (max x (-x)) ⊤ = 1#1) : ((x.toReal : ℝ) : EReal) = x := by
  induction x with
  | bot => simp [Ideal.cmp] at h
  | coe r => rfl
  | top => simp [Ideal.cmp] at h

/-- The reciprocal square root of a positive real number. -/
theorem rsqrt_pos {r : ℝ} (h : 0 < r) : Ideal.rsqrt ((r : ℝ) : EReal) = (((Real.sqrt r)⁻¹ : ℝ) : EReal) := by
  rw [Ideal.rsqrt_coe, if_neg (not_lt.mpr h.le), if_neg h.ne']

/-- A quotient of real numbers, the divisor not zero. -/
theorem div_coe_coe {y : ℝ} (h : y ≠ 0) (x : ℝ) : Ideal.div ((x : ℝ) : EReal) ((y : ℝ) : EReal) = ((x / y : ℝ) : EReal) := by
  rw [Ideal.div_coe h, ← EReal.coe_mul, mul_one_div]

end Cert.Reals

end
-- ==== Proof.RmsMath.lean ====
/- The gradient of the root-mean-square norm on one row, as the kernel writes it and as the derivative of the forward lines
   writes it, and that the two are one function where the inputs are finite. -/
module

public import proofs.«01_k».proof.Proof.Reals

@[expose] public section

noncomputable section

namespace Cert.Rms

open Idealize.ShloMosaic Cert.Reals

/-- The number of features, as the float constant of the programs. -/
abbrev n1024 : EReal := Ideal.ofBits .f32 0x44800000#32

/-- The mean square of a row, the small constant added. -/
def ms (x : Fin 1024 → EReal) : EReal := Ideal.div (∑ k, x k * x k) n1024 + Ideal.ofBits .f32 0x358637BD#32

/-- The reciprocal root mean square of a row. -/
def rs (x : Fin 1024 → EReal) : EReal := Ideal.rsqrt (ms x)

/-- The gradient in the row `x`, as the kernel writes it: `d` the cotangent of the norm's output, `r` that of the skip connection. -/
def kdx (x g d r : Fin 1024 → EReal) (j : Fin 1024) : EReal :=
  r j + rs x * (d j * g j - x j * rs x * Ideal.div (∑ k, d k * g k * (x k * rs x)) n1024)

/-- The gradient in the mean square, as the derivative of the forward lines writes it. -/
def rds (x g d : Fin 1024 → EReal) : EReal :=
  Ideal.div ((∑ k, x k * (d k * g k)) * (Ideal.ofBits .f32 0xBF000000#32 * Ideal.div (rs x) (ms x))) n1024

/-- The gradient in the row `x`, as the derivative of the forward lines writes it. -/
def rdx (x g d r : Fin 1024 → EReal) (j : Fin 1024) : EReal :=
  r j + d j * g j * rs x + x j * rds x g d + rds x g d * x j

/-- The mean square of a real row is a positive real number. -/
theorem ms_coe (x : Fin 1024 → ℝ) : ∃ v : ℝ, 0 < v ∧ ms (fun k => (x k : EReal)) = (v : EReal) := by
  refine ⟨(∑ k, x k * x k) / 1024 + eps, add_pos_of_nonneg_of_pos (div_nonneg (Finset.sum_nonneg fun k _ => mul_self_nonneg _) (by norm_num)) eps_pos, ?_⟩
  simp only [ms, n1024, ofBits_1024, ofBits_eps, ← EReal.coe_mul, coe_sum, div_coe_coe (by norm_num : (1024 : ℝ) ≠ 0), ← EReal.coe_add]

/-- On finite rows and cotangents the two forms of the gradient agree. The skip connection's cotangent may be infinite. -/
theorem kdx_eq_rdx (x g d : Fin 1024 → ℝ) (r : Fin 1024 → EReal) (j : Fin 1024) :
    kdx (fun k => (x k : EReal)) (fun k => (g k : EReal)) (fun k => (d k : EReal)) r j
      = rdx (fun k => (x k : EReal)) (fun k => (g k : EReal)) (fun k => (d k : EReal)) r j := by
  obtain ⟨v, hv, hms⟩ := ms_coe x
  have hs : Real.sqrt v ≠ 0 := (Real.sqrt_pos.mpr hv).ne'
  simp only [kdx, rdx, rds, rs, hms, rsqrt_pos hv, n1024, ofBits_1024, ofBits_neg_half, div_coe_coe hv.ne', ← EReal.coe_mul, coe_sum,
    div_coe_coe (by norm_num : (1024 : ℝ) ≠ 0), ← EReal.coe_sub, add_assoc, ← EReal.coe_add]
  congr 2
  have e1 : ∑ k, d k * g k * (x k * (Real.sqrt v)⁻¹) = (∑ k, x k * (d k * g k)) * (Real.sqrt v)⁻¹ := by
    rw [Finset.sum_mul]; exact Finset.sum_congr rfl fun k _ => by ring
  rw [e1]
  have hsv : v = Real.sqrt v * Real.sqrt v := (Real.mul_self_sqrt hv.le).symm
  generalize Real.sqrt v = s at *
  subst hsv
  field_simp
  ring

/-- On a row of zeros with cotangents of zeros the kernel's gradient is zero. -/
theorem kdx_zero (g : Fin 1024 → ℝ) (j : Fin 1024) : kdx (fun _ => 0) (fun k => (g k : EReal)) (fun _ => 0) (fun _ => 0) j = 0 := by
  obtain ⟨v, hv, hms⟩ := ms_coe fun _ => 0
  simp only [EReal.coe_zero] at hms
  simp only [kdx, rs, hms, rsqrt_pos hv, n1024, ofBits_1024, zero_mul, mul_zero, Finset.sum_const_zero, add_zero, zero_add, sub_zero]

/-- A sum over the padded rows, whose first 112 terms are zero, is the sum over the rows proper. -/
theorem sum_padded (f : Fin 2176 → EReal) (g : Fin 2064 → EReal) (h0 : ∀ r : Fin 2176, r.val < 112 → f r = 0)
    (h1 : ∀ r : Fin 2064, f ⟨112 + r.val, by omega⟩ = g r) : ∑ r, f r = ∑ r, g r := by
  have e2 : ∑ r : Fin (112 + 2064), f r = ∑ r : Fin 112, f (Fin.castAdd 2064 r) + ∑ r : Fin 2064, f (Fin.natAdd 112 r) := Fin.sum_univ_add (a := 112) (b := 2064) f
  refine e2.trans ?_
  rw [Finset.sum_eq_zero fun r _ => h0 _ r.isLt, zero_add]
  exact Finset.sum_congr rfl fun r _ => h1 r

end Cert.Rms

end
-- ==== Proof.RmsKernel.lean ====
/- What the norm's backward kernel leaves in its three result arrays, row by row, over the arrays its region is entered with. -/
module

public import proofs.«01_k».proof.Proof.Gen.KernelIdeal.Value
public import proofs.«01_k».proof.Proof.RmsMath
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Rms

open Cert.KernelIdeal Cert.KernelIdeal.Gen Cert.Rms

/-- The stored gradient block, at row `r` and column `j`. -/
theorem pay6_at (x y d : FVec Ideal S544x1024 .f32) (g : FVec Ideal S1x1024 .f32) (r : Fin 544) (j : Fin 1024) :
    k0_pay6 (F := Ideal) x d g y (ix2 r j)
      = kdx (fun k => x (ix2 r k)) (fun k => g (ix2 0 k)) (fun k => d (ix2 r k)) (fun k => y (ix2 r k)) j := by
  pointwise [k0_pay6, k0_pay5, k0_pay4, k0_pay3, k0_pay2]
  rfl

/-- The accumulated gain gradient: a point adds its rows' contributions. -/
theorem pay1_at (x d : FVec Ideal S544x1024 .f32) (a : FVec Ideal S1x1024 .f32) (j : Fin 1024) :
    k0_pay1 (F := Ideal) (k0_pay4 x) (k0_pay5 d) a (ix2 0 j)
      = a (ix2 0 j) + ∑ r : Fin 544, d (ix2 r j) * (x (ix2 r j) * rs fun k => x (ix2 r k)) := by
  pointwise [k0_pay1, k0_pay5, k0_pay4, k0_pay3, k0_pay2]
  rfl

variable (m : (ℓ : Loc nD τ sig) → Buf (Elt Ideal) ℓ)

/-- Where each window's block lies at each grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- The array row that row `r` of block `t` is. -/
def rowAt (t : Fin cfg0.N) (r : Fin 544) : Fin 2176 := ⟨t.val * 544 + r.val, by have : t.val < 4 := t.isLt; omega⟩

/-- The arrays at the region's entry, at their own types: the norm's input, its gain, the two cotangents. -/
abbrev X (c : Dev nD) : FVec Ideal S2176x1024 .f32 := V m c main_v1
abbrev G (c : Dev nD) : FVec Ideal S1x1024 .f32 := V m c main_v2
abbrev Dy (c : Dev nD) : FVec Ideal S2176x1024 .f32 := V m c main_v4
abbrev Y (c : Dev nD) : FVec Ideal S2176x1024 .f32 := V m c main_v6

/-- The staged blocks at their own types. -/
abbrev bX (c : Dev nD) (t : Fin cfg0.N) : FVec Ideal S544x1024 .f32 := iblk m c 0 t
abbrev bG (c : Dev nD) (t : Fin cfg0.N) : FVec Ideal S1x1024 .f32 := iblk m c 1 t
abbrev bD (c : Dev nD) (t : Fin cfg0.N) : FVec Ideal S544x1024 .f32 := iblk m c 2 t
abbrev bY (c : Dev nD) (t : Fin cfg0.N) : FVec Ideal S544x1024 .f32 := iblk m c 3 t

theorem bX_at (c : Dev nD) (t : Fin cfg0.N) (r : Fin 544) (k : Fin 1024) : bX m c t (ix2 r k) = X m c (ix2 (rowAt t r) k) := by
  unfold rowAt; blk_ext [iblk, idx t]
theorem bG_at (c : Dev nD) (t : Fin cfg0.N) (k : Fin 1024) : bG m c t (ix2 0 k) = G m c (ix2 0 k) := by blk_ext [iblk, idx t]
theorem bD_at (c : Dev nD) (t : Fin cfg0.N) (r : Fin 544) (k : Fin 1024) : bD m c t (ix2 r k) = Dy m c (ix2 (rowAt t r) k) := by
  unfold rowAt; blk_ext [iblk, idx t]
theorem bY_at (c : Dev nD) (t : Fin cfg0.N) (r : Fin 544) (k : Fin 1024) : bY m c t (ix2 r k) = Y m c (ix2 (rowAt t r) k) := by
  unfold rowAt; blk_ext [iblk, idx t]

/-- The gradient array over whole padded arrays. -/
def dxArr (X D Y : FVec Ideal S2176x1024 .f32) (g : FVec Ideal S1x1024 .f32) : FVec Ideal S2176x1024 .f32 := fun i =>
  kdx (fun k => X (ix2 (i 0) k)) (fun k => g (ix2 0 k)) (fun k => D (ix2 (i 0) k)) (fun k => Y (ix2 (i 0) k)) (i 1)

/-- One stored block is the gradient array's block. -/
theorem point (c : Dev nD) (t : Fin cfg0.N) (r : Fin 544) (j : Fin 1024) :
    k0_pay6 (F := Ideal) (bX m c t) (bD m c t) (bG m c t) (bY m c t) (ix2 r j) = dxArr (X m c) (Dy m c) (Y m c) (G m c) (ix2 (rowAt t r) j) := by
  rw [pay6_at]
  simp only [bX_at, bG_at, bD_at, bY_at, dxArr, ix2_0, ix2_1]

/-- Window 4 after the run: the gradient in the norm's input. -/
theorem final4 (c : Dev nD) : (dats m 0 c).arrAt 4 (cfgs 0).N = dxArr (X m c) (Dy m c) (Y m c) (G m c) := by
  refine (dats m 0 c).arrAt_eq_of_covers 4 _ (by decide +kernel) fun t _ y => ?_
  blk_simp
  rw [after0_4]
  have key : (outsAt0 m c t.val t.isLt).1 = k0_pay6 (iblk m c 0 t) (iblk m c 2 t) (iblk m c 1 t) (iblk m c 3 t) := by
    by_cases h : t.val % 4 = 0
    · rw [outsAt0_A m c t h]; frame_out
    · rw [outsAt0_B m c t h]; frame_out
  rw [key]
  refine Eq.trans ?_ ((point m c t (y 0) (y 1)).trans ?_)
  · exact congrArg _ (eq_ix2 y)
  · unfold rowAt; blk_ext [idx t]

/-- Window 5 after the run: the same gradient, rounded for the next product; over the extended reals the same array. -/
theorem final5 (c : Dev nD) : (dats m 0 c).arrAt 5 (cfgs 0).N = (dxArr (X m c) (Dy m c) (Y m c) (G m c) : S2176x1024.Idx → EReal) := by
  refine (dats m 0 c).arrAt_eq_of_covers 5 _ (by decide +kernel) fun t _ y => ?_
  blk_simp
  rw [after0_5]
  have key : (outsAt0 m c t.val t.isLt).2.1 = k0_pay7 (iblk m c 0 t) (iblk m c 2 t) (iblk m c 1 t) (iblk m c 3 t) := by
    by_cases h : t.val % 4 = 0
    · rw [outsAt0_A m c t h]; frame_out
    · rw [outsAt0_B m c t h]; frame_out
  rw [key]
  refine Eq.trans ?_ ((point m c t (y 0) (y 1)).trans ?_)
  · exact congrArg (k0_pay6 (F := Ideal) (bX m c t) (bD m c t) (bG m c t) (bY m c t)) (eq_ix2 y)
  · unfold rowAt; blk_ext [idx t]

/-- Window 6 after the run: the gain's gradient, all rows' contributions summed. -/
theorem final6 (c : Dev nD) (j : Fin 1024) : (dats m 0 c).arrAt 6 (cfgs 0).N (ix2 0 j)
    = ∑ r : Fin 2176, Dy m c (ix2 r j) * (X m c (ix2 r j) * rs fun k => X m c (ix2 r k)) := by
  have hz : ∀ j, k0_pay8 (F := Ideal) j = 0 := fun j => by pointwise [k0_pay8]
  have h := (dats m 0 c).arrAt_eq_of_after_last 6 t0_3 (by decide +kernel) (fun i : S1x1024.Idx =>
    (∑ r : Fin 2176, Dy m c (ix2 r (i 1)) * (X m c (ix2 r (i 1)) * rs fun k => X m c (ix2 r k)) : EReal)) fun i => by
      blk_simp
      rw [after0_6, Pipeline.eq_sum_fin_of_reset_step_apply_last (fun n h => (outsAt0 m c n h).2.2) 4 (fun _ => 0)
        (fun p i => ∑ r : Fin 544, bD m c p (ix2 r (i 1)) * (bX m c p (ix2 r (i 1)) * rs fun k => bX m c p (ix2 r k)))
        (fun t h i => by
          rw [outsAt0_A m c t h]; frame_out
          rw [eq_ix2 i, Fin.fin_one_eq_zero (i 0)]
          exact (pay1_at (bX m c t) (bD m c t) _ (i 1)).trans (congrArg (· + _) (hz _)))
        (fun t h i => by
          rw [outsAt0_B m c t h]; frame_out
          rw [eq_ix2 i, Fin.fin_one_eq_zero (i 0)]
          exact pay1_at (bX m c t) (bD m c t) _ (i 1))
        (le_of_eq N_0) t0_3 rfl i, zero_add]
      refine Fin.sum_mul_add_congr fun s k hl => ?_
      simp only [bX_at]
      exact congrArg₂ (· * ·) (bD_at m c s k (i 1)) (congrArg₂ (· * ·) (bX_at m c s k (i 1)) rfl)
  exact congrFun h (ix2 0 j)

end Cert.KernelIdeal.Rms

end
-- ==== Proof.RmsRef.lean ====
/- The derivative of the norm's forward lines, read row by row. -/
module

public import proofs.«01_k».proof.Proof.Gen.ReferenceIdeal.Read
public import proofs.«01_k».proof.Proof.RmsMath
public import Idealize.ShloMosaic.Lib.Pointwise

@[expose] public section

set_option maxRecDepth 16384

noncomputable section

open Idealize.ShloMosaic Idealize.ShloMosaic.TcCoe Idealize.SL.Sem

namespace Cert.ReferenceIdeal.Rms

open Cert.ReferenceIdeal Cert.ReferenceIdeal.Gen Cert.ReferenceIdeal.Read Cert.Rms

variable (x : FVec Ideal S2064x1024 .f32) (g : FVec Ideal S1024 .f32) (d y : FVec Ideal S2064x1024 .f32)

/-- The reciprocal root mean square of a row. -/
theorem rs_at (r : Fin 2064) : val_main_v7 (F := Ideal) x (ix2 r 0) = rs fun k => x (ix2 r k) := by
  pointwise [val_main_v7, val_main_v6, val_main_v5, val_main_cst_1, val_main_v4, val_main_v3, val_main_v2, val_main_v1, val_main_v0, val_main_cst, val_main_cst_0]
  rfl

theorem ms_at (r : Fin 2064) : val_main_v6 (F := Ideal) x (ix2 r 0) = ms fun k => x (ix2 r k) := by
  pointwise [val_main_v6, val_main_v5, val_main_cst_1, val_main_v4, val_main_v3, val_main_v2, val_main_v1, val_main_v0, val_main_cst, val_main_cst_0]
  rfl

/-- The gradient in the norm's input, at one row and column. -/
theorem dx_at (r : Fin 2064) (j : Fin 1024) : val_main_v36 (F := Ideal) x g d y (ix2 r j)
    = rdx (fun k => x (ix2 r k)) (fun k => g (ix1 k)) (fun k => d (ix2 r k)) (fun k => y (ix2 r k)) j := by
  pointwise [val_main_v36, val_main_v35, val_main_v34, val_main_v33, val_main_v32, val_main_v31, val_main_cst_7, val_main_v30, val_main_v29, val_main_cst_6, val_main_v28, val_main_v27, val_main_v26, val_main_v25, val_main_v24, val_main_v23, val_main_cst_5, val_main_v22, val_main_v20, val_main_v19, val_main_v13, val_main_v10, val_main_v9, val_main_cst_2, val_main_v8, rs_at, ms_at]
  simp only [Finset.univ_unique, Finset.sum_singleton]
  rw [show (ix2 r default : S2064x1.Idx) = ix2 r 0 from rfl, rs_at, ms_at]
  rfl

/-- The gradient array, padded in front by rows of zeros. -/
theorem v38_at (r : Fin 2176) (j : Fin 1024) : val_main_v38 (F := Ideal) x g d y (ix2 r j)
    = if h : r.val < 112 then 0 else rdx (fun k => x (ix2 ⟨r.val - 112, by omega⟩ k)) (fun k => g (ix1 k))
        (fun k => d (ix2 ⟨r.val - 112, by omega⟩ k)) (fun k => y (ix2 ⟨r.val - 112, by omega⟩ k)) j := by
  pointwise [val_main_v38, val_main_v37, val_main_cst_8]
  split
  · rfl
  · exact dx_at x g d y _ j

/-- The gain's gradient, at one column. -/
theorem v40_at (j : Fin 1024) : val_main_v40 (F := Ideal) x d (ix2 0 j)
    = ∑ r : Fin 2064, x (ix2 r j) * (rs fun k => x (ix2 r k)) * d (ix2 r j) := by
  pointwise [val_main_v40, val_main_v21, val_main_cst_4, val_main_v18, val_main_v17, val_main_cst_3, val_main_v16, val_main_v12, val_main_v11, rs_at]
  simp only [zero_add, Finset.univ_unique, Finset.sum_singleton]

end Cert.ReferenceIdeal.Rms

end
-- ==== Proof.Rms.lean ====
/- The norm's backward kernel against the derivative of the forward lines: the value claim. -/
module

public import proofs.«01_k».proof.Defs
public import proofs.«01_k».proof.Proof.Gen.Pre_finite
public import proofs.«01_k».proof.Proof.RmsKernel
public import proofs.«01_k».proof.Proof.RmsRef
public import Idealize.ShloMosaic.Lib.Claim

@[expose] public section

set_option maxRecDepth 16384

noncomputable section

open Idealize.ShloMosaic Idealize.ShloMosaic.TcCoe Idealize.SL.Sem

namespace Cert.RmsProof

open Cert.Reals Cert.Rms Cert.KernelIdeal Cert.KernelIdeal.Gen Cert.KernelIdeal.Rms

variable (m : (ℓ : Loc nD τ sig) → Buf (Elt Ideal) ℓ)

/-- The arguments at their own types. -/
abbrev a0 (c : Dev nD) : FVec Ideal S2064x1024 .f32 := m ((c : Thread nD τ).loc main_arg0)
abbrev a1 (c : Dev nD) : FVec Ideal S1024 .f32 := m ((c : Thread nD τ).loc main_arg1)
abbrev a2 (c : Dev nD) : FVec Ideal S2064x1024 .f32 := m ((c : Thread nD τ).loc main_arg2)
abbrev a3 (c : Dev nD) : FVec Ideal S2064x1024 .f32 := m ((c : Thread nD τ).loc main_arg3)

/-- An array padded in front by 112 rows of zeros, at one place. -/
theorem padded_at (a : FVec Ideal S2064x1024 .f32) (r : Fin 2176) (k : Fin 1024) :
    concatenate S2176x1024 0 [⟨S112x1024, broadcastInDim S112x1024 ![] bcast_S_S112x1024 (constant (F := Ideal) S_ .f32 0x00000000#32)⟩, ⟨S2064x1024, a⟩]
      concatenates_S112x1024_S2064x1024_S2176x1024_d0 (ix2 r k) = if h : r.val < 112 then 0 else a (ix2 ⟨r.val - 112, by omega⟩ k) := by
  pointwise []

theorem X_at (c : Dev nD) (r : Fin 2176) (k : Fin 1024) :
    X m c (ix2 r k) = if h : r.val < 112 then 0 else a0 m c (ix2 ⟨r.val - 112, by omega⟩ k) := by
  unfold X; entry_read; exact padded_at _ r k
theorem Dy_at (c : Dev nD) (r : Fin 2176) (k : Fin 1024) :
    Dy m c (ix2 r k) = if h : r.val < 112 then 0 else a2 m c (ix2 ⟨r.val - 112, by omega⟩ k) := by
  unfold Dy; entry_read; exact padded_at _ r k
theorem Y_at (c : Dev nD) (r : Fin 2176) (k : Fin 1024) :
    Y m c (ix2 r k) = if h : r.val < 112 then 0 else a3 m c (ix2 ⟨r.val - 112, by omega⟩ k) := by
  unfold Y; entry_read; exact padded_at _ r k
theorem G_at (c : Dev nD) (k : Fin 1024) : G m c (ix2 0 k) = a1 m c (ix1 k) := by
  unfold G; entry_read; pointwise []

variable {m}

/-- What the precondition says of one entry. -/
theorem real_of_cmp {s : Shape} (x : FVec Ideal s .f32) (i : s.Idx) (b : FVec Ideal s .f32) (hb : b i = Ideal.ofBits .f32 0x7F800000#32)
    (h : cmpf .olt (Host.absf x) b = fun _ => 1#1) : (((x i).toReal : ℝ) : EReal) = x i := by
  refine coe_of_abs_lt (x i) ?_
  have h1 := congrFun h i
  rw [← ofBits_inf, ← hb]
  exact h1

theorem a0_real (hpre : Cert.Pre_KernelIdeal_finite m) (c : Dev nD) (r : Fin 2064) (k : Fin 1024) :
    (((a0 m c (ix2 r k)).toReal : ℝ) : EReal) = a0 m c (ix2 r k) := real_of_cmp (a0 m c) (ix2 r k) _ rfl (hpre c).1
theorem a1_real (hpre : Cert.Pre_KernelIdeal_finite m) (c : Dev nD) (k : Fin 1024) :
    (((a1 m c (ix1 k)).toReal : ℝ) : EReal) = a1 m c (ix1 k) := real_of_cmp (a1 m c) (ix1 k) _ rfl (hpre c).2.1
theorem a2_real (hpre : Cert.Pre_KernelIdeal_finite m) (c : Dev nD) (r : Fin 2064) (k : Fin 1024) :
    (((a2 m c (ix2 r k)).toReal : ℝ) : EReal) = a2 m c (ix2 r k) := real_of_cmp (a2 m c) (ix2 r k) _ rfl (hpre c).2.2

/-- The kernel's gradient in the norm's input is the derivative's, row by row; the rows in front are zero in both. -/
theorem dx_eq (hpre : Cert.Pre_KernelIdeal_finite m) (c : Dev nD) :
    dxArr (X m c) (Dy m c) (Y m c) (G m c) = Cert.ReferenceIdeal.Read.val_main_v38 (F := Ideal) (a0 m c) (a1 m c) (a2 m c) (a3 m c) := by
  funext i
  obtain ⟨r, j, rfl⟩ : ∃ r j, i = ix2 r j := ⟨_, _, eq_ix2 i⟩
  rw [Cert.ReferenceIdeal.Rms.v38_at]
  show kdx (fun k => X m c (ix2 r k)) (fun k => G m c (ix2 0 k)) (fun k => Dy m c (ix2 r k)) (fun k => Y m c (ix2 r k)) j = _
  rw [show (fun k => X m c (ix2 r k)) = _ from funext fun k => X_at m c r k, show (fun k => Dy m c (ix2 r k)) = _ from funext fun k => Dy_at m c r k,
    show (fun k => Y m c (ix2 r k)) = _ from funext fun k => Y_at m c r k, show (fun k => G m c (ix2 0 k)) = _ from funext fun k => G_at m c k]
  by_cases h : r.val < 112
  · simp only [h, dite_true]
    have e := kdx_zero (fun k => (a1 m c (ix1 k)).toReal) j
    simp only [a1_real hpre] at e
    exact e
  · simp only [h, dite_false]
    have e := kdx_eq_rdx (fun k => (a0 m c (ix2 ⟨r.val - 112, by omega⟩ k)).toReal) (fun k => (a1 m c (ix1 k)).toReal)
      (fun k => (a2 m c (ix2 ⟨r.val - 112, by omega⟩ k)).toReal) (fun k => a3 m c (ix2 ⟨r.val - 112, by omega⟩ k)) j
    simp only [a0_real hpre, a1_real hpre, a2_real hpre] at e
    exact e

/-- The gain's gradient. -/
theorem dgain_eq (c : Dev nD) (j : Fin 1024) :
    (∑ r : Fin 2176, Dy m c (ix2 r j) * (X m c (ix2 r j) * rs fun k => X m c (ix2 r k)) : EReal)
      = Cert.ReferenceIdeal.Read.val_main_v40 (F := Ideal) (a0 m c) (a2 m c) (ix2 0 j) := by
  rw [Cert.ReferenceIdeal.Rms.v40_at]
  refine sum_padded _ _ (fun r h => ?_) fun r => ?_
  · rw [Dy_at, dif_pos h, zero_mul]
  · rw [show (fun k => X m c (ix2 ⟨112 + r.val, _⟩ k)) = _ from funext fun k => X_at m c _ k, X_at, Dy_at]
    simp only [Nat.not_lt.mpr (Nat.le_add_right 112 r.val), dite_false, Nat.add_sub_cancel_left]
    exact mul_comm _ _

/-- The kernel and the derivative of the forward lines compute the same three gradients from finite arguments. -/
theorem value : Cert.algebraic_KernelIdeal_ReferenceIdeal_pre_finite := by
  pair_intro
  · run_from Cert.KernelIdeal.Value.run_blocks m g
  · run_from Cert.ReferenceIdeal.Value.run m' g'
    · rw [Cert.KernelIdeal.Rms.final4, Cert.ReferenceIdeal.Read.val_main_v38_eq, dx_eq hpre, (hagree c).1, (hagree c).2.1, (hagree c).2.2.1, (hagree c).2.2.2.1]
    · rw [Cert.KernelIdeal.Rms.final5, Cert.ReferenceIdeal.Read.val_main_v39_eq, dx_eq hpre, (hagree c).1, (hagree c).2.1, (hagree c).2.2.1, (hagree c).2.2.2.1]
      rfl
    · rw [Cert.ReferenceIdeal.Read.val_main_v40_eq]
      funext i
      obtain ⟨z, j, rfl⟩ : ∃ (z : Fin 1) (j : Fin 1024), i = ix2 z j := ⟨_, _, eq_ix2 i⟩
      obtain rfl : z = 0 := Subsingleton.elim _ _
      exact ((Cert.KernelIdeal.Rms.final6 m c j).trans (dgain_eq c j)).symm

end Cert.RmsProof

end
-- ==== Proof.RetFrame.lean ====
/- The frame of the mixer's backward kernel over the extended reals, written over the generated run of the body in its two
   cases (first point, later points): what every point leaves in the five output blocks and in the three scratch
   buffers that are carried from point to point (`left`), the pipeline's proof data with it, the body's triple at every
   point, and the run of the whole program (`run_main`).  All of it for any float values `F`. -/
module

public import proofs.«01_k».proof.Proof.Gen.Kernel2Ideal.Frame.RunA
public import proofs.«01_k».proof.Proof.Gen.Kernel2Ideal.Frame.RunB
public import Idealize.ShloMosaic.Lib.Claim

@[expose] public section

set_option maxRecDepth 16384
set_option maxHeartbeats 4000000

noncomputable section

namespace Cert.Ret.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (UR sig nD τ) ℕ

/-- What one point leaves behind: the blocks of the five outputs and the three carried scratch buffers. -/
structure Left (F : FTy → Type) [FloatOps F] where
  /-- the gradient of the chunk's projections -/
  o25 : Vec F S128x3072 .bf16
  /-- the gradients of the rows of 512 parameters -/
  o26 : Vec F S16x512 .f32
  /-- the gradient of the first gate weight -/
  o27 : Vec F S512x512 .f32
  /-- the gradient of the second gate weight -/
  o28 : Vec F S512x512 .f32
  /-- the gradient of the group norm's gain -/
  o29 : Vec F S1x512 .f32
  /-- the recurrence's carried gradient -/
  s3 : Vec F S1x512 .f32
  /-- the rows kept for the short convolution -/
  s4 : Vec F S128x512 .f32
  /-- the gradient of the retention state -/
  s5 : Vec F S4x128x128 .f32

variable (m : (ℓ : Loc nD τ sig) → Buf (Elt F) ℓ) (ρ : Dev nD → PrngReg)

/-- The body's run at the first point. -/
def runA (c : Dev nD) (t : Fin cfg0.N) (h : t.val % 17 = 0) :=
  kernelRun0_A (F := F)
    c (grid0.coords t) (ms0_0 t) (hs0_0 t) (ms0_1 t) (hs0_1 t) (ms0_2 t) (hs0_2 t) (ms0_3 t) (hs0_3 t) (ms0_4 t) (hs0_4 t) (ms0_5 t)
    (hs0_5 t) (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t) (ms0_22 t) (hs0_22 t) (ms0_23 t) (hs0_23 t)
    (ms0_24 t) (hs0_24 t) (ms0_25 t) (hs0_25 t) (ms0_26 t) (hs0_26 t) (ms0_27 t) (hs0_27 t) (ms0_28 t) (hs0_28 t) (ms0_29 t) (hs0_29 t)
    scM0_0 (Memref.isWhole_whole _) scM0_1 (Memref.isWhole_whole _) scM0_2 (Memref.isWhole_whole _) scM0_3 (Memref.isWhole_whole _)
    scM0_4 (Memref.isWhole_whole _) scM0_5 (Memref.isWhole_whole _) ((hcond0_0 t).mpr h) ((hcond0_1 t).mpr h) (iblk m c 0 t)
    (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t) (iblk m c 16 t)
    (iblk m c 17 t) (iblk m c 18 t) (iblk m c 19 t) (iblk m c 20 t) (iblk m c 21 t) (iblk m c 22 t) (iblk m c 23 t) (iblk m c 24 t)

/-- The body's run at a later point, over what the point before left. -/
def runB (c : Dev nD) (t : Fin cfg0.N) (h : ¬t.val % 17 = 0) (p : Left F) :=
  kernelRun0_B (F := F)
    c (grid0.coords t) (ms0_0 t) (hs0_0 t) (ms0_1 t) (hs0_1 t) (ms0_2 t) (hs0_2 t) (ms0_3 t) (hs0_3 t) (ms0_4 t) (hs0_4 t) (ms0_5 t)
    (hs0_5 t) (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t) (ms0_22 t) (hs0_22 t) (ms0_23 t) (hs0_23 t)
    (ms0_24 t) (hs0_24 t) (ms0_25 t) (hs0_25 t) (ms0_26 t) (hs0_26 t) (ms0_27 t) (hs0_27 t) (ms0_28 t) (hs0_28 t) (ms0_29 t) (hs0_29 t)
    scM0_0 (Memref.isWhole_whole _) scM0_1 (Memref.isWhole_whole _) scM0_2 (Memref.isWhole_whole _) scM0_3 (Memref.isWhole_whole _)
    scM0_4 (Memref.isWhole_whole _) scM0_5 (Memref.isWhole_whole _) (fun e => h ((hcond0_0 t).mp e)) (fun e => h ((hcond0_1 t).mp e))
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)
    (iblk m c 16 t) (iblk m c 17 t) (iblk m c 18 t) (iblk m c 19 t) (iblk m c 20 t) (iblk m c 21 t) (iblk m c 22 t) (iblk m c 23 t)
    (iblk m c 24 t) p.o26 p.o27 p.o28 p.o29 p.s3 p.s4 p.s5

theorem coverA_o25 (c : Dev nD) (t : Fin cfg0.N) (h : t.val % 17 = 0) (y : Shape.Idx S128x3072) :
    ∃ pc ∈ (runA m c t h).1, y ∈ pc.1.set :=
  View.cover_of_tiledBy (runA m c t h).1 ![128, 128] (by sl_kernel_rfl) y

theorem coverA_o26 (c : Dev nD) (t : Fin cfg0.N) (h : t.val % 17 = 0) (y : Shape.Idx S16x512) :
    ∃ pc ∈ (runA m c t h).2.1, y ∈ pc.1.set :=
  View.cover_of_tiledBy (runA m c t h).2.1 ![1, 512] (by sl_kernel_rfl) y

theorem coverA_o27 (c : Dev nD) (t : Fin cfg0.N) (h : t.val % 17 = 0) (y : Shape.Idx S512x512) :
    ∃ pc ∈ (runA m c t h).2.2.1, y ∈ pc.1.set :=
  View.cover_of_tiledL (runA m c t h).2.2.1 S512x512.size (by sl_kernel_rfl) y

theorem coverA_o28 (c : Dev nD) (t : Fin cfg0.N) (h : t.val % 17 = 0) (y : Shape.Idx S512x512) :
    ∃ pc ∈ (runA m c t h).2.2.2.1, y ∈ pc.1.set :=
  View.cover_of_tiledL (runA m c t h).2.2.2.1 S512x512.size (by sl_kernel_rfl) y

theorem coverA_o29 (c : Dev nD) (t : Fin cfg0.N) (h : t.val % 17 = 0) (y : Shape.Idx S1x512) :
    ∃ pc ∈ (runA m c t h).2.2.2.2.1, y ∈ pc.1.set :=
  View.cover_of_tiledBy (runA m c t h).2.2.2.2.1 ![1, 128] (by sl_kernel_rfl) y

theorem coverA_s3 (c : Dev nD) (t : Fin cfg0.N) (h : t.val % 17 = 0) (y : Shape.Idx S1x512) :
    ∃ pc ∈ (runA m c t h).2.2.2.2.2.1, y ∈ pc.1.set :=
  View.cover_of_tiledL (runA m c t h).2.2.2.2.2.1 S1x512.size (by sl_kernel_rfl) y

theorem coverA_s4 (c : Dev nD) (t : Fin cfg0.N) (h : t.val % 17 = 0) (y : Shape.Idx S128x512) :
    ∃ pc ∈ (runA m c t h).2.2.2.2.2.2.1, y ∈ pc.1.set :=
  View.cover_of_tiledL (runA m c t h).2.2.2.2.2.2.1 S128x512.size (by sl_kernel_rfl) y

theorem coverA_s5 (c : Dev nD) (t : Fin cfg0.N) (h : t.val % 17 = 0) (y : Shape.Idx S4x128x128) :
    ∃ pc ∈ (runA m c t h).2.2.2.2.2.2.2.1, y ∈ pc.1.set :=
  View.cover_of_wholeMem (runA m c t h).2.2.2.2.2.2.2.1 (by sl_whole_mem) y

theorem coverB_o25 (c : Dev nD) (t : Fin cfg0.N) (h : ¬t.val % 17 = 0) (p : Left F) (y : Shape.Idx S128x3072) :
    ∃ pc ∈ (runB m c t h p).1, y ∈ pc.1.set :=
  View.cover_of_tiledBy (runB m c t h p).1 ![128, 128] (by sl_kernel_rfl) y

theorem coverB_o27 (c : Dev nD) (t : Fin cfg0.N) (h : ¬t.val % 17 = 0) (p : Left F) (y : Shape.Idx S512x512) :
    ∃ pc ∈ (runB m c t h p).2.2.1, y ∈ pc.1.set :=
  View.cover_of_tiledL (runB m c t h p).2.2.1 S512x512.size (by sl_kernel_rfl) y

theorem coverB_o28 (c : Dev nD) (t : Fin cfg0.N) (h : ¬t.val % 17 = 0) (p : Left F) (y : Shape.Idx S512x512) :
    ∃ pc ∈ (runB m c t h p).2.2.2.1, y ∈ pc.1.set :=
  View.cover_of_tiledL (runB m c t h p).2.2.2.1 S512x512.size (by sl_kernel_rfl) y

theorem coverB_o29 (c : Dev nD) (t : Fin cfg0.N) (h : ¬t.val % 17 = 0) (p : Left F) (y : Shape.Idx S1x512) :
    ∃ pc ∈ (runB m c t h p).2.2.2.2.1, y ∈ pc.1.set :=
  View.cover_of_tiledL (runB m c t h p).2.2.2.2.1 S1x128.size (by sl_kernel_rfl) y

theorem coverB_s3 (c : Dev nD) (t : Fin cfg0.N) (h : ¬t.val % 17 = 0) (p : Left F) (y : Shape.Idx S1x512) :
    ∃ pc ∈ (runB m c t h p).2.2.2.2.2.1, y ∈ pc.1.set :=
  View.cover_of_tiledL (runB m c t h p).2.2.2.2.2.1 S1x512.size (by sl_kernel_rfl) y

theorem coverB_s4 (c : Dev nD) (t : Fin cfg0.N) (h : ¬t.val % 17 = 0) (p : Left F) (y : Shape.Idx S128x512) :
    ∃ pc ∈ (runB m c t h p).2.2.2.2.2.2.1, y ∈ pc.1.set :=
  View.cover_of_tiledL (runB m c t h p).2.2.2.2.2.2.1 S128x512.size (by sl_kernel_rfl) y

theorem coverB_s5 (c : Dev nD) (t : Fin cfg0.N) (h : ¬t.val % 17 = 0) (p : Left F) (y : Shape.Idx S4x128x128) :
    ∃ pc ∈ (runB m c t h p).2.2.2.2.2.2.2.1, y ∈ pc.1.set :=
  View.cover_of_tiledL (runB m c t h p).2.2.2.2.2.2.2.1 S1x128x128.size (by sl_kernel_rfl) y

/-- What the first point leaves. -/
def leftA (c : Dev nD) (t : Fin cfg0.N) (h : t.val % 17 = 0) : Left F where
  o25 := VO0_25.read (Elt F) (VO0_25.writes (Elt F) VO0_25.junk (runA m c t h).1)
  o26 := VO0_26.read (Elt F) (VO0_26.writes (Elt F) VO0_26.junk (runA m c t h).2.1)
  o27 := VO0_27.read (Elt F) (VO0_27.writes (Elt F) VO0_27.junk (runA m c t h).2.2.1)
  o28 := VO0_28.read (Elt F) (VO0_28.writes (Elt F) VO0_28.junk (runA m c t h).2.2.2.1)
  o29 := VO0_29.read (Elt F) (VO0_29.writes (Elt F) VO0_29.junk (runA m c t h).2.2.2.2.1)
  s3 := VS0_3.read (Elt F) (VS0_3.writes (Elt F) VS0_3.junk (runA m c t h).2.2.2.2.2.1)
  s4 := VS0_4.read (Elt F) (VS0_4.writes (Elt F) VS0_4.junk (runA m c t h).2.2.2.2.2.2.1)
  s5 := VS0_5.read (Elt F) (VS0_5.writes (Elt F) VS0_5.junk (runA m c t h).2.2.2.2.2.2.2.1)

/-- What a later point leaves over what the point before left. -/
def leftB (c : Dev nD) (t : Fin cfg0.N) (h : ¬t.val % 17 = 0) (p : Left F) : Left F where
  o25 := VO0_25.read (Elt F) (VO0_25.writes (Elt F) VO0_25.junk (runB m c t h p).1)
  o26 := (ms0_26 t).view.read (Elt F) ((ms0_26 t).view.writes (Elt F) ((hs0_26 t).unread p.o26) (runB m c t h p).2.1)
  o27 := VO0_27.read (Elt F) (VO0_27.writes (Elt F) VO0_27.junk (runB m c t h p).2.2.1)
  o28 := VO0_28.read (Elt F) (VO0_28.writes (Elt F) VO0_28.junk (runB m c t h p).2.2.2.1)
  o29 := VO0_29.read (Elt F) (VO0_29.writes (Elt F) VO0_29.junk (runB m c t h p).2.2.2.2.1)
  s3 := VS0_3.read (Elt F) (VS0_3.writes (Elt F) VS0_3.junk (runB m c t h p).2.2.2.2.2.1)
  s4 := VS0_4.read (Elt F) (VS0_4.writes (Elt F) VS0_4.junk (runB m c t h p).2.2.2.2.2.2.1)
  s5 := VS0_5.read (Elt F) (VS0_5.writes (Elt F) VS0_5.junk (runB m c t h p).2.2.2.2.2.2.2.1)

/-- What the points leave, one after the other. -/
def left (c : Dev nD) : (n : ℕ) → n < cfg0.N → Left F
  | 0, hn => leftA m c ⟨0, hn⟩ (Nat.zero_mod _)
  | n + 1, hn => leftB m c ⟨n + 1, hn⟩ (by have hN : n + 1 < 17 := lt_of_lt_of_eq hn (show cfg0.N = 17 from N_0); dsimp only; omega)
      (left c n (Nat.lt_of_succ_lt hn))

theorem left_A (c : Dev nD) (t : Fin cfg0.N) (h : t.val % 17 = 0) : left m c t.val t.isLt = leftA m c t h := by
  obtain ⟨n, hn⟩ := t
  have hN : n < 17 := lt_of_lt_of_eq hn (show cfg0.N = 17 from N_0)
  dsimp only at h
  obtain rfl : n = 0 := by omega
  rfl

theorem left_B (c : Dev nD) (t : Fin cfg0.N) (h : ¬t.val % 17 = 0) :
    left m c t.val t.isLt = leftB m c t h (left m c (t.val - 1) (Nat.lt_of_le_of_lt (Nat.sub_le _ _) t.isLt)) := by
  obtain ⟨n, hn⟩ := t
  cases n with
  | zero => exact absurd (Nat.zero_mod _) h
  | succ n => rfl

/-- The six scratch buffers with the three carried ones at `l`, and the random generator at some state. -/
def scratch (c : Dev nD) (l : Left F) : sProp 𝕄 :=
  iprop(iprop((∃ d, owns (c : Thread nD τ) scM0_0 fullShare d) ∗ (∃ d, owns (c : Thread nD τ) scM0_1 fullShare d)
    ∗ (∃ d, owns (c : Thread nD τ) scM0_2 fullShare d) ∗ owns (c : Thread nD τ) scM0_3 fullShare l.s3
    ∗ owns (c : Thread nD τ) scM0_4 fullShare l.s4 ∗ owns (c : Thread nD τ) scM0_5 fullShare l.s5) ∗ (∃ r, prngReg c r))

/-- The invariant before point `n`: every scratch buffer at anything before the first, afterwards the carried ones at
    what the point before left. -/
def PhiS (c : Dev nD) : (n : ℕ) → n ≤ cfg0.N → sProp 𝕄
  | 0, _ => Pipeline.ΦA spec0 c
  | n + 1, hn => scratch c (left m c n hn)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = scratch c (left m c n hn) := rfl

theorem PhiS_pos (c : Dev nD) (n : ℕ) (h : n ≤ cfg0.N) (hz : n ≠ 0) :
    PhiS m c n h = scratch c (left m c (n - 1) (by omega)) := by
  cases n with
  | zero => exact absurd rfl hz
  | succ n => rfl

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => (left m c t.val t.isLt).o25
    | ⟨26, _⟩ => (left m c t.val t.isLt).o26
    | ⟨27, _⟩ => (left m c t.val t.isLt).o27
    | ⟨28, _⟩ => (left m c t.val t.isLt).o28
    | ⟨29, _⟩ => (left m c t.val t.isLt).o29
    | ⟨_ + 30, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = (left m c t.val t.isLt).o25 := by dsimp only [dats]
theorem after_26 (c : Dev nD) (t : Fin cfg0.N) : (dats m 0 c).after 26 t = (left m c t.val t.isLt).o26 := by dsimp only [dats]
theorem after_27 (c : Dev nD) (t : Fin cfg0.N) : (dats m 0 c).after 27 t = (left m c t.val t.isLt).o27 := by dsimp only [dats]
theorem after_28 (c : Dev nD) (t : Fin cfg0.N) : (dats m 0 c).after 28 t = (left m c t.val t.isLt).o28 := by dsimp only [dats]
theorem after_29 (c : Dev nD) (t : Fin cfg0.N) : (dats m 0 c).after 29 t = (left m c t.val t.isLt).o29 := by dsimp only [dats]

/-! Every input's staging buffer holds its block at every point. -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d
theorem before_23 (c : Dev nD) (t : Fin cfg0.N) (d) : (dats m 0 c).before 23 t d = iblk m c 23 t :=
  before0_23_of m (dats m 0 c) (A_eq m c 23) (after_23 m c) t d
theorem before_24 (c : Dev nD) (t : Fin cfg0.N) (d) : (dats m 0 c).before 24 t d = iblk m c 24 t :=
  before0_24_of m (dats m 0 c) (A_eq m c 24) (after_24 m c) t d

/-! At a later point the four accumulated outputs' staging buffers hold what the point before left. -/

theorem before_26_B (c : Dev nD) (t : Fin cfg0.N) (h : ¬t.val % 17 = 0) (d) :
    (dats m 0 c).before 26 t d = (left m c (t.val - 1) (Nat.lt_of_le_of_lt (Nat.sub_le _ _) t.isLt)).o26 := by
  have hN : t.val < 17 := lt_of_lt_of_eq t.isLt (show cfg0.N = 17 from N_0)
  rw [Dat.before_out_kept _ 26 rfl t (by omega)
    (Bool.eq_false_iff.mpr fun h => by have := (flush0_26 _).mp h; dsimp only at this; omega) (fun _ => rfl) (fun _ _ => rfl)]
  dsimp only [dats]
theorem before_27_B (c : Dev nD) (t : Fin cfg0.N) (h : ¬t.val % 17 = 0) (d) :
    (dats m 0 c).before 27 t d = (left m c (t.val - 1) (Nat.lt_of_le_of_lt (Nat.sub_le _ _) t.isLt)).o27 := by
  have hN : t.val < 17 := lt_of_lt_of_eq t.isLt (show cfg0.N = 17 from N_0)
  rw [Dat.before_out_kept _ 27 rfl t (by omega)
    (Bool.eq_false_iff.mpr fun h => by have := (flush0_27 _).mp h; dsimp only at this; omega) (fun _ => rfl) (fun _ _ => rfl)]
  dsimp only [dats]
theorem before_28_B (c : Dev nD) (t : Fin cfg0.N) (h : ¬t.val % 17 = 0) (d) :
    (dats m 0 c).before 28 t d = (left m c (t.val - 1) (Nat.lt_of_le_of_lt (Nat.sub_le _ _) t.isLt)).o28 := by
  have hN : t.val < 17 := lt_of_lt_of_eq t.isLt (show cfg0.N = 17 from N_0)
  rw [Dat.before_out_kept _ 28 rfl t (by omega)
    (Bool.eq_false_iff.mpr fun h => by have := (flush0_28 _).mp h; dsimp only at this; omega) (fun _ => rfl) (fun _ _ => rfl)]
  dsimp only [dats]
theorem before_29_B (c : Dev nD) (t : Fin cfg0.N) (h : ¬t.val % 17 = 0) (d) :
    (dats m 0 c).before 29 t d = (left m c (t.val - 1) (Nat.lt_of_le_of_lt (Nat.sub_le _ _) t.isLt)).o29 := by
  have hN : t.val < 17 := lt_of_lt_of_eq t.isLt (show cfg0.N = 17 from N_0)
  rw [Dat.before_out_kept _ 29 rfl t (by omega)
    (Bool.eq_false_iff.mpr fun h => by have := (flush0_29 _).mp h; dsimp only at this; omega) (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

set_option maxHeartbeats 28800000 in
/-- The body's triple at the first point. -/
theorem sound_A (c : Dev nD) (t : Fin cfg0.N) (h : t.val % 17 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29]
  rw [show (dats m 0 c).Φ t.succ = PhiS m c (t.val + 1) t.isLt from rfl, PhiS_succ]
  have hN : t.val < 17 := lt_of_lt_of_eq t.isLt (show cfg0.N = 17 from N_0)
  rw [PhiS_castSucc m c t, PhiS_zero m c _ _ (by omega), PhiA0_eq, left_A m c t h]
  unfold scratch leftA; dsimp only
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((runA m c t h).2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  isplitl [H28]; · iexists _; iexact H28
  isplitl [H29]; · iexists _; iexact H29
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, H20, H21, H22, H23, H24, ⟨%e25, H25⟩, ⟨%e26, H26⟩, ⟨%e27, H27⟩, ⟨%e28, H28⟩, ⟨%e29, H29⟩, ⟨%fT0, HS0⟩, ⟨%fT1, HS1⟩, ⟨%fT2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · unfold owns; iexists _; isplitr
        swap; · iexact HS3
        ipureintro; exact View.read_writes_of_cover _ _ _ _ _ (coverA_s3 m c t h)
      isplitl [HS4]
      · unfold owns; iexists _; isplitr
        swap; · iexact HS4
        ipureintro; exact View.read_writes_of_cover _ _ _ _ _ (coverA_s4 m c t h)
      unfold owns; iexists _; isplitr
      swap; · iexact HS5
      ipureintro; exact View.read_writes_of_cover _ _ _ _ _ (coverA_s5 m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]
  · unfold owns; iexists _; isplitr
    swap; · iexact H25
    ipureintro; exact View.read_writes_of_cover _ _ _ _ _ (coverA_o25 m c t h)
  isplitl [H26]
  · unfold owns; iexists _; isplitr
    swap; · iexact H26
    ipureintro; exact View.read_writes_of_cover _ _ _ _ _ (coverA_o26 m c t h)
  isplitl [H27]
  · unfold owns; iexists _; isplitr
    swap; · iexact H27
    ipureintro; exact View.read_writes_of_cover _ _ _ _ _ (coverA_o27 m c t h)
  isplitl [H28]
  · unfold owns; iexists _; isplitr
    swap; · iexact H28
    ipureintro; exact View.read_writes_of_cover _ _ _ _ _ (coverA_o28 m c t h)
  unfold owns; iexists _; isplitr
  swap; · iexact H29
  ipureintro; exact View.read_writes_of_cover _ _ _ _ _ (coverA_o29 m c t h)

set_option maxHeartbeats 28800000 in
/-- The body's triple at a later point. -/
theorem sound_B (c : Dev nD) (t : Fin cfg0.N) (h : ¬t.val % 17 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29]
  rw [show (dats m 0 c).Φ t.succ = PhiS m c (t.val + 1) t.isLt from rfl, PhiS_succ]
  have hN : t.val < 17 := lt_of_lt_of_eq t.isLt (show cfg0.N = 17 from N_0)
  rw [PhiS_castSucc m c t, PhiS_pos m c _ _ (by omega), left_B m c t h]
  simp only [before_26_B m c t h, before_27_B m c t h, before_28_B m c t h, before_29_B m c t h]
  unfold scratch leftB; dsimp only
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((runB m c t h (left m c (t.val - 1) (Nat.lt_of_le_of_lt (Nat.sub_le _ _) t.isLt))).2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexact H26
  isplitl [H27]; · iexact H27
  isplitl [H28]; · iexact H28
  isplitl [H29]; · iexact H29
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, H20, H21, H22, H23, H24, ⟨%e25, H25⟩, H26, ⟨%e27, H27⟩, ⟨%e28, H28⟩, ⟨%e29, H29⟩, ⟨%fT0, HS0⟩, ⟨%fT1, HS1⟩, ⟨%fT2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · unfold owns; iexists _; isplitr
        swap; · iexact HS3
        ipureintro; exact View.read_writes_of_cover _ _ _ _ _ (coverB_s3 m c t h (left m c (t.val - 1) (Nat.lt_of_le_of_lt (Nat.sub_le _ _) t.isLt)))
      isplitl [HS4]
      · unfold owns; iexists _; isplitr
        swap; · iexact HS4
        ipureintro; exact View.read_writes_of_cover _ _ _ _ _ (coverB_s4 m c t h (left m c (t.val - 1) (Nat.lt_of_le_of_lt (Nat.sub_le _ _) t.isLt)))
      unfold owns; iexists _; isplitr
      swap; · iexact HS5
      ipureintro; exact View.read_writes_of_cover _ _ _ _ _ (coverB_s5 m c t h (left m c (t.val - 1) (Nat.lt_of_le_of_lt (Nat.sub_le _ _) t.isLt)))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]
  · unfold owns; iexists _; isplitr
    swap; · iexact H25
    ipureintro; exact View.read_writes_of_cover _ _ _ _ _ (coverB_o25 m c t h (left m c (t.val - 1) (Nat.lt_of_le_of_lt (Nat.sub_le _ _) t.isLt)))
  isplitl [H26]
  · unfold owns; iexists _; isplitr
    swap; · iexact H26
    ipureintro; rfl
  isplitl [H27]
  · unfold owns; iexists _; isplitr
    swap; · iexact H27
    ipureintro; exact View.read_writes_of_cover _ _ _ _ _ (coverB_o27 m c t h (left m c (t.val - 1) (Nat.lt_of_le_of_lt (Nat.sub_le _ _) t.isLt)))
  isplitl [H28]
  · unfold owns; iexists _; isplitr
    swap; · iexact H28
    ipureintro; exact View.read_writes_of_cover _ _ _ _ _ (coverB_o28 m c t h (left m c (t.val - 1) (Nat.lt_of_le_of_lt (Nat.sub_le _ _) t.isLt)))
  unfold owns; iexists _; isplitr
  swap; · iexact H29
  ipureintro; exact View.read_writes_of_cover _ _ _ _ _ (coverB_o29 m c t h (left m c (t.val - 1) (Nat.lt_of_le_of_lt (Nat.sub_le _ _) t.isLt)))

theorem sound_body (c : Dev nD) (t : Fin cfg0.N) :
    bodyPre m c t ⊢ wp frame (wpE (defs₀ (F := F)) Variants.none c none) Set.univ (bodyAt0 t) (fun _ => bodyPost m c t) := by
  by_cases h : t.val % 17 = 0
  · exact sound_A m c t h
  · exact sound_B m c t h

theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the scratch is at anything again. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 17 := N_0; omega), PhiA0_eq]
  unfold scratch
  iintro ⟨⟨HS0, HS1, HS2, HS3, HS4, HS5⟩, Hg⟩
  isplitl [HS0 HS1 HS2 HS3 HS4 HS5]
  · isplitl [HS0]; · iexact HS0
    isplitl [HS1]; · iexact HS1
    isplitl [HS2]; · iexact HS2
    isplitl [HS3]; · iexists _; iexact HS3
    isplitl [HS4]; · iexists _; iexact HS4
    iexists _; iexact HS5
  iexact Hg

set_option backward.isDefEq.respectTransparency.types false in
/-- The whole program runs: it ends with every array of the pipeline at what the proof data say, every other buffer as
    the region found it, and every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The program ends with its arguments unchanged and every semaphore counter at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ))
    ((θ_run defs _ _).mono (fun _ h => h.2) (run_quiescent m ρ))

end Cert.Ret.Frame

end
-- ==== Proof.RetMath.lean ====
/- The mathematics of the retention layer's gradient, over the real numbers. Rows come in 17 chunks of 128, the first 112 rows
   of chunk 0 being padding; there are 4 heads of 128 columns. Every quantity is a function of the chunk, the head, and a row
   and a column of the chunk. -/
module

public import proofs.«01_k».proof.Proof.Reals

@[expose] public section

noncomputable section

namespace Cert.Ret

/-- The three arrays the gradient is a function of: the projection, the gain of the norm, the cotangent. -/
structure Args where
  proj : Fin 2064 → Fin 3072 → ℝ
  gain : Fin 512 → ℝ
  ct : Fin 2064 → Fin 1024 → ℝ

/-- Row `r` of chunk `n` of a column: zero in the padding. -/
def chunk (f : Fin 2064 → ℝ) (n : ℕ) (r : Fin 128) : ℝ :=
  if h : 112 ≤ 128 * n + r.val ∧ 128 * n + r.val < 2176 then f ⟨128 * n + r.val - 112, by omega⟩ else 0

/-- The column that head `h` has at `d` in the `j`-th of the four parts (queries, keys, values, gates). -/
def col (j h : Fin 4) (d : Fin 128) : Fin 3072 := ⟨1024 + 512 * j.val + 128 * h.val + d.val, by omega⟩

/-- The column that head `h` has at `d` among 512. -/
def hcol (h : Fin 4) (d : Fin 128) : Fin 512 := ⟨128 * h.val + d.val, by omega⟩

/-- The column of the cotangent that head `h` has at `d`. -/
def ccol (h : Fin 4) (d : Fin 128) : Fin 1024 := ⟨512 + 128 * h.val + d.val, by omega⟩

/-- The other half's column. -/
def turn (d : Fin 128) : Fin 128 := ⟨(d.val + 128 - 64) % 128, Nat.mod_lt _ (by norm_num)⟩

theorem turn_turn (d : Fin 128) : turn (turn d) = d := by
  apply Fin.ext; simp only [turn]; omega

/-- The angle of the rotation at a row and a column. -/
def ang (n : ℕ) (r d : Fin 128) : ℝ := (128 * (n : ℝ) + (r.val : ℝ) - 112) * (10000 : ℝ) ^ (-((d.val % 64 : ℕ) : ℝ) / 64)

def cs (n : ℕ) (r d : Fin 128) : ℝ := Real.cos (ang n r d)

/-- The sine, negative in the first half of the columns. -/
def sn (n : ℕ) (r d : Fin 128) : ℝ := if d.val < 64 then -Real.sin (ang n r d) else Real.sin (ang n r d)

/-- The rotary embedding of a row. -/
def rot (x : Fin 128 → ℝ) (n : ℕ) (r d : Fin 128) : ℝ := x d * cs n r d + x (turn d) * sn n r d

/-- The transposed rotation. -/
def rotT (x : Fin 128 → ℝ) (n : ℕ) (r d : Fin 128) : ℝ := x d * cs n r d + x (turn d) * sn n r (turn d)

/-- The factor of the keys: the float nearest to one over the root of 128. -/
def scale : ℝ := 11863283 / 134217728

/-- The logarithm of a head's decay. -/
def lg (h : Fin 4) : ℝ := Real.log (1 - (2 : ℝ) ^ (-5 - (h.val : ℝ)))

def dm (h : Fin 4) (r s : Fin 128) : ℝ := if s.val ≤ r.val then Real.exp (((r.val : ℝ) - (s.val : ℝ)) * lg h) else 0
def xi (h : Fin 4) (r : Fin 128) : ℝ := Real.exp (((r.val : ℝ) + 1) * lg h)
def zt (h : Fin 4) (r : Fin 128) : ℝ := Real.exp ((127 - (r.val : ℝ)) * lg h)
def gc (h : Fin 4) : ℝ := Real.exp (128 * lg h)

variable (X : Args)

def raw (j : Fin 4) (n : ℕ) (h : Fin 4) (r d : Fin 128) : ℝ := chunk (fun t => X.proj t (col j h d)) n r
def dout (n : ℕ) (h : Fin 4) (r d : Fin 128) : ℝ := chunk (fun t => X.ct t (ccol h d)) n r
def gn (h : Fin 4) (d : Fin 128) : ℝ := X.gain (hcol h d)

def q (n : ℕ) (h : Fin 4) (r d : Fin 128) : ℝ := rot (raw X 0 n h r) n r d
def k (n : ℕ) (h : Fin 4) (r d : Fin 128) : ℝ := rot (raw X 1 n h r) n r d * scale
def v (n : ℕ) (h : Fin 4) (r d : Fin 128) : ℝ := raw X 2 n h r d
def kz (n : ℕ) (h : Fin 4) (r d : Fin 128) : ℝ := k X n h r d * zt h r
def kv (n : ℕ) (h : Fin 4) (d e : Fin 128) : ℝ := ∑ r, kz X n h r d * v X n h r e

/-- The state of a head before chunk `n`. -/
def S : ℕ → Fin 4 → Fin 128 → Fin 128 → ℝ
  | 0, _, _, _ => 0
  | n + 1, h, d, e => S n h d e * gc h + kv X n h d e

def sc (n : ℕ) (h : Fin 4) (r s : Fin 128) : ℝ := (∑ d, q X n h r d * k X n h s d) * dm h r s
def y (n : ℕ) (h : Fin 4) (r e : Fin 128) : ℝ := (∑ s, sc X n h r s * v X n h s e) + (∑ d, q X n h r d * S X n h d e) * xi h r

/-- The mean of a row. -/
def mean (x : Fin 128 → ℝ) : ℝ := (∑ e, x e) / 128

def yc (n : ℕ) (h : Fin 4) (r e : Fin 128) : ℝ := y X n h r e - mean (y X n h r)
def var (n : ℕ) (h : Fin 4) (r : Fin 128) : ℝ := mean fun e => yc X n h r e * yc X n h r e
def rs (n : ℕ) (h : Fin 4) (r : Fin 128) : ℝ := (Real.sqrt (var X n h r + Reals.eps))⁻¹
def yn (n : ℕ) (h : Fin 4) (r e : Fin 128) : ℝ := yc X n h r e * rs X n h r

/-- The logistic function. -/
def sg (x : ℝ) : ℝ := (1 + Real.exp (-x))⁻¹

def g (n : ℕ) (h : Fin 4) (r e : Fin 128) : ℝ := raw X 3 n h r e
def silu (n : ℕ) (h : Fin 4) (r e : Fin 128) : ℝ := g X n h r e * sg (g X n h r e)
def dg (n : ℕ) (h : Fin 4) (r e : Fin 128) : ℝ :=
  dout X n h r e * yn X n h r e * gn X h e * (sg (g X n h r e) * (1 + g X n h r e * (1 - sg (g X n h r e))))

/-- A chunk's part of the gradient of the gain. -/
def dgp (n : ℕ) (h : Fin 4) (e : Fin 128) : ℝ := ∑ r, dout X n h r e * silu X n h r e * yn X n h r e
def dgain (h : Fin 4) (e : Fin 128) : ℝ := ∑ n : Fin 17, dgp X n.val h e

def dyn (n : ℕ) (h : Fin 4) (r e : Fin 128) : ℝ := dout X n h r e * silu X n h r e * gn X h e
def dy (n : ℕ) (h : Fin 4) (r e : Fin 128) : ℝ :=
  rs X n h r * (dyn X n h r e - mean (dyn X n h r) - yn X n h r e * mean fun e => dyn X n h r e * yn X n h r e)
def dqs (n : ℕ) (h : Fin 4) (r e : Fin 128) : ℝ := dy X n h r e * xi h r
def dp (n : ℕ) (h : Fin 4) (r s : Fin 128) : ℝ := (∑ e, dy X n h r e * v X n h s e) * dm h r s
def dst (n : ℕ) (h : Fin 4) (d e : Fin 128) : ℝ := ∑ r, q X n h r d * dqs X n h r e

/-- The gradient of the state, after `t` chunks counted from the last. -/
def E : ℕ → Fin 4 → Fin 128 → Fin 128 → ℝ
  | 0, _, _, _ => 0
  | t + 1, h, d, e => gc h * E t h d e + dst X (16 - t) h d e

def dv (n : ℕ) (h : Fin 4) (s e : Fin 128) : ℝ :=
  (∑ r, sc X n h r s * dy X n h r e) + ∑ d, kz X n h s d * E X (16 - n) h d e
def dqr (n : ℕ) (h : Fin 4) (r d : Fin 128) : ℝ :=
  (∑ s, dp X n h r s * k X n h s d) + ∑ e, dqs X n h r e * S X n h d e
def dkr (n : ℕ) (h : Fin 4) (s d : Fin 128) : ℝ :=
  (∑ r, dp X n h r s * q X n h r d) + (∑ e, v X n h s e * E X (16 - n) h d e) * zt h s
def dq (n : ℕ) (h : Fin 4) (r d : Fin 128) : ℝ := rotT (dqr X n h r) n r d
def dk (n : ℕ) (h : Fin 4) (r d : Fin 128) : ℝ := rotT (dkr X n h r) n r d * scale

/-- The gradient of the projection's retention columns: queries, keys, values, gates. -/
def grad (j : Fin 4) (n : ℕ) (h : Fin 4) (r d : Fin 128) : ℝ :=
  match j with
  | 0 => dq X n h r d
  | 1 => dk X n h r d
  | 2 => dv X n h r d
  | 3 => dg X n h r d

/-! Facts. -/

theorem E_zero (h : Fin 4) (d e : Fin 128) : E X 0 h d e = 0 := rfl

theorem E_step (t : ℕ) (h : Fin 4) (d e : Fin 128) : E X (t + 1) h d e = dst X (16 - t) h d e + E X t h d e * gc h := by
  rw [E]; ring

theorem var_nonneg (n : ℕ) (h : Fin 4) (r : Fin 128) : 0 ≤ var X n h r := by
  unfold var mean; exact div_nonneg (Finset.sum_nonneg fun e _ => mul_self_nonneg _) (by norm_num)

theorem var_eps_pos (n : ℕ) (h : Fin 4) (r : Fin 128) : 0 < var X n h r + Reals.eps :=
  add_pos_of_nonneg_of_pos (var_nonneg X n h r) Reals.eps_pos

theorem sum_yc (n : ℕ) (h : Fin 4) (r : Fin 128) : ∑ e, yc X n h r e = 0 := by
  simp only [yc, mean, Finset.sum_sub_distrib, Finset.sum_const, Finset.card_univ, Fintype.card_fin, nsmul_eq_mul]
  push_cast; ring

theorem rs_sq (n : ℕ) (h : Fin 4) (r : Fin 128) : rs X n h r / (var X n h r + Reals.eps) = rs X n h r ^ 3 := by
  have hp := var_eps_pos X n h r
  have : Real.sqrt (var X n h r + Reals.eps) ^ 2 = var X n h r + Reals.eps := Real.sq_sqrt hp.le
  have h0 : Real.sqrt (var X n h r + Reals.eps) ≠ 0 := (Real.sqrt_pos.mpr hp).ne'
  unfold rs
  rw [div_eq_mul_inv]
  nth_rewrite 2 [← this]
  field_simp

/-- The gradient through a row's normalisation, spelled as differentiation spells it, is the closed form. -/
theorem dy_eq (n : ℕ) (h : Fin 4) (r e : Fin 128) :
    (dyn X n h r e * rs X n h r
      + (∑ e', yc X n h r e' * dyn X n h r e') * (-(1 / 2) * (rs X n h r / (var X n h r + Reals.eps))) / 128 * (2 * yc X n h r e))
      + ((∑ e', -(dyn X n h r e' * rs X n h r))
        + ∑ e', -((∑ e'', yc X n h r e'' * dyn X n h r e'') * (-(1 / 2) * (rs X n h r / (var X n h r + Reals.eps))) / 128
            * (2 * yc X n h r e'))) / 128
      = dy X n h r e := by
  rw [rs_sq]
  have e1 : (∑ e', -((∑ e'', yc X n h r e'' * dyn X n h r e'') * (-(1 / 2) * rs X n h r ^ 3) / 128 * (2 * yc X n h r e'))) = 0 := by
    rw [Finset.sum_neg_distrib, ← Finset.mul_sum, ← Finset.mul_sum, sum_yc]; ring
  have e2 : (∑ e', -(dyn X n h r e' * rs X n h r)) = -((∑ e', dyn X n h r e') * rs X n h r) := by
    rw [Finset.sum_neg_distrib, Finset.sum_mul]
  have e3 : (∑ e', dyn X n h r e' * yn X n h r e') = (∑ e', yc X n h r e' * dyn X n h r e') * rs X n h r := by
    rw [Finset.sum_mul]; exact Finset.sum_congr rfl fun e' _ => by unfold yn; ring
  rw [e1, e2]
  unfold dy mean
  rw [e3]
  unfold yn
  ring

theorem chunk_pad (f : Fin 2064 → ℝ) (n : ℕ) (r : Fin 128) (h : 128 * n + r.val < 112) : chunk f n r = 0 := by
  unfold chunk; rw [dif_neg (by omega)]

theorem chunk_row (f : Fin 2064 → ℝ) (t : Fin 2064) (n : ℕ) (r : Fin 128) (h : 128 * n + r.val = t.val + 112) :
    chunk f n r = f t := by
  unfold chunk; rw [dif_pos (by omega)]; congr 1; apply Fin.ext; simp only; omega

variable {X}

/-- In the padding every raw value is zero, and so is every gradient. -/
theorem raw_pad {n : ℕ} {r : Fin 128} (hp : 128 * n + r.val < 112) (j h : Fin 4) (d : Fin 128) : raw X j n h r d = 0 :=
  chunk_pad _ _ _ hp

theorem dout_pad {n : ℕ} {r : Fin 128} (hp : 128 * n + r.val < 112) (h : Fin 4) (d : Fin 128) : dout X n h r d = 0 :=
  chunk_pad _ _ _ hp

theorem q_pad {n : ℕ} {r : Fin 128} (hp : 128 * n + r.val < 112) (h : Fin 4) (d : Fin 128) : q X n h r d = 0 := by
  simp [q, rot, raw_pad hp]

theorem k_pad {n : ℕ} {r : Fin 128} (hp : 128 * n + r.val < 112) (h : Fin 4) (d : Fin 128) : k X n h r d = 0 := by
  simp [k, rot, raw_pad hp]

theorem v_pad {n : ℕ} {r : Fin 128} (hp : 128 * n + r.val < 112) (h : Fin 4) (d : Fin 128) : v X n h r d = 0 := raw_pad hp _ _ _

theorem dyn_pad {n : ℕ} {r : Fin 128} (hp : 128 * n + r.val < 112) (h : Fin 4) (e : Fin 128) : dyn X n h r e = 0 := by
  simp [dyn, dout_pad hp]

theorem dy_pad {n : ℕ} {r : Fin 128} (hp : 128 * n + r.val < 112) (h : Fin 4) (e : Fin 128) : dy X n h r e = 0 := by
  simp [dy, dyn_pad hp, mean]

theorem grad_pad {n : ℕ} {r : Fin 128} (hp : 128 * n + r.val < 112) (j h : Fin 4) (d : Fin 128) : grad X j n h r d = 0 := by
  fin_cases j
  · simp [grad, dq, rotT, dqr, dp, dqs, dy_pad hp]
  · simp [grad, dk, rotT, dkr, dp, v_pad hp]
  · simp [grad, dv, sc, kz, k_pad hp]
  · simp [grad, dg, dout_pad hp]

open Idealize.ShloMosaic

/-! The literals of the two programs, and the two facts on extended reals that the proofs use most. -/

theorem ofBits_scale : Ideal.ofBits .f32 0x3DB504F3#32 = ((scale : ℝ) : EReal) := by
  simp [Ideal.ofBits, Ideal.ieee, -EReal.coe_mul, scale]; norm_num

theorem ofBits_128 : Ideal.ofBits .f32 0x43000000#32 = ((128 : ℝ) : EReal) := by
  simp [Ideal.ofBits, Ideal.ieee, -EReal.coe_mul]; norm_num

theorem ofBits_127 : Ideal.ofBits .f32 0x42FE0000#32 = ((127 : ℝ) : EReal) := by
  simp [Ideal.ofBits, Ideal.ieee, -EReal.coe_mul]; norm_num

theorem ofBits_112 : Ideal.ofBits .f32 0x42E00000#32 = ((112 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_five : Ideal.ofBits .f32 0xC0A00000#32 = ((-5 : ℝ) : EReal) := by
  simp [Ideal.ofBits, Ideal.ieee, -EReal.coe_mul]; norm_num

theorem ofBits_10000 : Ideal.ofBits .f32 0x461C4000#32 = ((10000 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee, -EReal.coe_mul]

theorem div_128 (x : ℝ) : Ideal.div ((x : ℝ) : EReal) ((128 : ℝ) : EReal) = ((x / 128 : ℝ) : EReal) :=
  Reals.div_coe_coe (by norm_num) x

/-- The float of a small number. -/
theorem float_nat (k : ℕ) (h : k < 2 ^ 31) : (FloatOps.sitofp (F := Ideal) .f32 (BitVec.ofNat 32 k) : EReal) = ((k : ℝ) : EReal) := by
  show ((((BitVec.ofNat 32 k).toInt : ℤ) : ℝ) : EReal) = _
  rw [BitVec.toInt_eq_toNat_of_lt (by rw [BitVec.toNat_ofNat]; omega), BitVec.toNat_ofNat, Nat.mod_eq_of_lt (by omega)]
  norm_cast

/-- The logarithm of a head's decay, as both programs compute it. -/
theorem log_decay (h : Fin 4) :
    Ideal.log (1 - Ideal.pow (Ideal.ofBits .f32 0x40000000#32)
      (Ideal.ofBits .f32 0xC0A00000#32 - FloatOps.sitofp (F := Ideal) .f32 (BitVec.ofNat 32 h.val))) = ((lg h : ℝ) : EReal) := by
  rw [float_nat _ (by omega), ← EReal.coe_one, ofBits_two, ofBits_neg_five, ← EReal.coe_sub, Ideal.pow_coe_coe, ← EReal.coe_sub,
    Ideal.log_coe, if_neg]
  · rfl
  · have : (2 : ℝ).rpow (-5 - (h.val : ℝ)) ≤ (2 : ℝ) ^ (-1 : ℝ) :=
      Real.rpow_le_rpow_of_exponent_le (by norm_num) (by have : (0 : ℝ) ≤ h.val := Nat.cast_nonneg _; linarith)
    have e : (2 : ℝ) ^ (-1 : ℝ) = 1 / 2 := by rw [Real.rpow_neg_one]; norm_num
    rw [e] at this; linarith

/-- The angle, as both programs compute it from the row's position. -/
theorem angle_eq (p : ℝ) (d : ℕ) (hd : d < 64) :
    ((p : ℝ) : EReal) * Ideal.pow (Ideal.ofBits .f32 0x461C4000#32)
      (Ideal.div (-FloatOps.sitofp (F := Ideal) .f32 (BitVec.ofNat 32 d)) (Ideal.ofBits .f32 0x42800000#32))
      = ((p * (10000 : ℝ) ^ (-((d : ℕ) : ℝ) / 64) : ℝ) : EReal) := by
  rw [float_nat _ (by omega), ofBits_10000, ofBits_64, ← EReal.coe_neg, Reals.div_coe_coe (by norm_num), Ideal.pow_coe_coe, ← EReal.coe_mul]
  rfl

/-- The angle of a padded row, as the tables are computed. -/
theorem angle_at (n : Fin 17) (r d : Fin 128) (e : ℕ) (he : e < 64) (hd : d.val % 64 = e) :
    ((FloatOps.sitofp (F := Ideal) .f32 (BitVec.ofNat 32 (128 * n.val + r.val)) : EReal) - Ideal.ofBits .f32 0x42E00000#32)
      * Ideal.pow (Ideal.ofBits .f32 0x461C4000#32)
        (Ideal.div (-FloatOps.sitofp (F := Ideal) .f32 (BitVec.ofNat 32 e)) (Ideal.ofBits .f32 0x42800000#32))
      = ((ang n.val r d : ℝ) : EReal) := by
  rw [float_nat _ (by omega), ofBits_112, ← EReal.coe_sub, angle_eq _ _ he, ang, hd]
  push_cast; rfl

/-- An entry of the decay mask, as both programs compute it. -/
theorem mask_eq (h : Fin 4) (r s : Fin 128) :
    (if (0 : EReal) ≤ ((r.val : ℝ) : EReal) - ((s.val : ℝ) : EReal) then
      Ideal.exp (max (((r.val : ℝ) : EReal) - ((s.val : ℝ) : EReal)) 0 * ((lg h : ℝ) : EReal)) else 0) = ((dm h r s : ℝ) : EReal) := by
  rw [← EReal.coe_sub, ← EReal.coe_zero]
  unfold dm
  by_cases hs : s.val ≤ r.val
  · have h0 : (0 : ℝ) ≤ (r.val : ℝ) - (s.val : ℝ) := sub_nonneg.mpr (Nat.cast_le.mpr hs)
    rw [if_pos (EReal.coe_le_coe_iff.mpr h0), if_pos hs, max_eq_left (EReal.coe_le_coe_iff.mpr h0), ← EReal.coe_mul, Ideal.exp_coe]
  · have h0 : ¬ (0 : ℝ) ≤ (r.val : ℝ) - (s.val : ℝ) := fun h => hs (Nat.cast_le.mp (sub_nonneg.mp h))
    rw [if_neg (fun h => h0 (EReal.coe_le_coe_iff.mp h)), if_neg hs]

/-- The chunk and the row in it that row `t` of the sequence lies at. -/
def nOf (t : Fin 2064) : ℕ := (t.val + 112) / 128
def rOf (t : Fin 2064) : Fin 128 := ⟨(t.val + 112) % 128, Nat.mod_lt _ (by norm_num)⟩

theorem nOf_rOf (t : Fin 2064) : 128 * nOf t + (rOf t).val = t.val + 112 := Nat.div_add_mod _ _

theorem chunk_at (f : Fin 2064 → ℝ) (t : Fin 2064) : chunk f (nOf t) (rOf t) = f t := chunk_row f t _ _ (nOf_rOf t)

theorem of_row {t : Fin 2064} {n : ℕ} {r : Fin 128} (h : 128 * n + r.val = t.val + 112) : nOf t = n ∧ rOf t = r := by
  refine ⟨by unfold nOf; omega, Fin.ext (by show (t.val + 112) % 128 = r.val; omega)⟩

theorem ang_at (t : Fin 2064) (d : Fin 128) : ang (nOf t) (rOf t) d = (t.val : ℝ) * (10000 : ℝ) ^ (-((d.val % 64 : ℕ) : ℝ) / 64) := by
  have e : (128 * (nOf t : ℝ) + ((rOf t).val : ℝ)) = (t.val : ℝ) + 112 := by exact_mod_cast nOf_rOf t
  unfold ang; rw [e]; ring

/-- A sum over the rows of the sequence is the sum over the chunks, where the padding has zeros. -/
theorem sum_rows (F : ℕ → Fin 128 → ℝ) (h0 : ∀ n r, 128 * n + r.val < 112 → F n r = 0) :
    ∑ t : Fin 2064, F (nOf t) (rOf t) = ∑ n : Fin 17, ∑ r : Fin 128, F n.val r := by
  rw [← Finset.sum_product' (f := fun (n : Fin 17) (r : Fin 128) => F n.val r)]
  refine Finset.sum_of_injOn (fun t => (⟨nOf t, by unfold nOf; omega⟩, rOf t)) ?_ (fun t _ => by simp) ?_ (fun t _ => rfl)
  · intro a _ b _ hab
    have h1 : nOf a = nOf b := congrArg (fun p => p.1.val) hab
    have h2 : (rOf a).val = (rOf b).val := congrArg (fun p => p.2.val) hab
    have ea := nOf_rOf a; have eb := nOf_rOf b
    exact Fin.ext (by omega)
  · rintro ⟨n, r⟩ _ hp
    refine h0 n.val r ?_
    by_contra hn
    refine hp ⟨⟨128 * n.val + r.val - 112, by omega⟩, Finset.mem_coe.mpr (Finset.mem_univ _), ?_⟩
    obtain ⟨e1, e2⟩ := of_row (t := ⟨128 * n.val + r.val - 112, by omega⟩) (n := n.val) (r := r) (by simp only; omega)
    exact Prod.ext (Fin.ext e1) e2

theorem ang_turn (n : ℕ) (r d : Fin 128) : ang n r (turn d) = ang n r d := by
  unfold ang; rw [show (turn d).val % 64 = d.val % 64 by simp only [turn]; omega]

/-- A rotated row in its two halves. -/
theorem rot_lo (x : Fin 128 → ℝ) (n : ℕ) (r d : Fin 128) (hd : d.val < 64) :
    rot x n r d = x d * cs n r d - x (turn d) * Real.sin (ang n r d) := by
  unfold rot sn; rw [if_pos hd]; ring

theorem rot_hi (x : Fin 128 → ℝ) (n : ℕ) (r d : Fin 128) (hd : ¬ d.val < 64) :
    rot x n r d = x (turn d) * Real.sin (ang n r d) + x d * cs n r d := by
  unfold rot sn; rw [if_neg hd]; ring

theorem rotT_lo (x : Fin 128 → ℝ) (n : ℕ) (r d : Fin 128) (hd : d.val < 64) :
    rotT x n r d = x (turn d) * Real.sin (ang n r d) + x d * cs n r d := by
  unfold rotT sn; rw [if_neg (by simp only [turn]; omega), ang_turn]; ring

theorem rotT_hi (x : Fin 128 → ℝ) (n : ℕ) (r d : Fin 128) (hd : ¬ d.val < 64) :
    rotT x n r d = x d * cs n r d + -x (turn d) * Real.sin (ang n r d) := by
  unfold rotT sn; rw [if_pos (by simp only [turn]; omega), ang_turn]; ring

theorem turn_lo (d : Fin 128) (hd : d.val < 64) (p : 64 + d.val < 128) : (⟨64 + d.val, p⟩ : Fin 128) = turn d :=
  Fin.ext (by simp only [turn]; omega)

theorem turn_hi (d : Fin 128) (hd : ¬ d.val < 64) (p : d.val - 64 < 128) : (⟨d.val - 64, p⟩ : Fin 128) = turn d :=
  Fin.ext (by simp only [turn]; omega)

end Cert.Ret

end
-- ==== Proof.RetRef.lean ====
/- The reference of the retention half, read operation by operation: what it computes is, row by row and column by column,
   the real number that `RetMath` names. -/
module

public import proofs.«01_k».proof.Proof.Gen.Reference2Ideal.Read
public import proofs.«01_k».proof.Proof.RetMath
public import Idealize.ShloMosaic.Lib.Pointwise
public import Idealize.ShloMosaic.Lib.ValueIdx
public import Idealize.ShloMosaic.Lib.IdealHost

@[expose] public section

set_option maxRecDepth 16384

noncomputable section

namespace Cert.Ret.Ref

open Idealize.ShloMosaic Cert.Reference2Ideal Cert.Reference2Ideal.Read

/-- The decays. -/
theorem lg_at (h : Fin 4) : val_main_v84 (F := Ideal) (ix1 h) = ((lg h : ℝ) : EReal) := by
  pointwise [val_main_v77, val_main_v78, val_main_v79, val_main_v80, val_main_v81, val_main_v82, val_main_v83,
    val_main_v84, val_main_cst_8, val_main_cst_9, val_main_cst_10]
  exact log_decay h

theorem gc_at (h : Fin 4) : val_main_v121 (F := Ideal) (ix1 h) = ((gc h : ℝ) : EReal) := by
  pointwise [val_main_v119, val_main_v120, val_main_v121, val_main_cst_16]
  rw [lg_at, ofBits_128, ← EReal.coe_mul, Ideal.exp_coe]; rfl

theorem xi_at (r : Fin 128) (h : Fin 4) : val_main_v110 (F := Ideal) (ix2 r h) = ((xi h r : ℝ) : EReal) := by
  pointwise [val_main_v85, val_main_v103, val_main_v104, val_main_v105, val_main_v106, val_main_v107,
    val_main_v108, val_main_v109, val_main_v110, val_main_cst_14]
  rw [lg_at, float_nat _ (by omega), ← EReal.coe_one, ← EReal.coe_add, ← EReal.coe_mul, Ideal.exp_coe]; rfl

theorem zt_at (r : Fin 128) (h : Fin 4) : val_main_v118 (F := Ideal) (ix2 r h) = ((zt h r : ℝ) : EReal) := by
  pointwise [val_main_v85, val_main_v111, val_main_v112, val_main_v113, val_main_v114, val_main_v115,
    val_main_v116, val_main_v117, val_main_v118, val_main_cst_15]
  rw [lg_at, float_nat _ (by omega), ofBits_127, ← EReal.coe_sub, ← EReal.coe_mul, Ideal.exp_coe]; rfl

theorem dm_at (h : Fin 4) (r s : Fin 128) : val_main_v102 (F := Ideal) (ix3 h r s) = ((dm h r s : ℝ) : EReal) := by
  pointwise [val_main_v85, val_main_v86, val_main_v87, val_main_v88, val_main_v89, val_main_v90, val_main_v91,
    val_main_v92, val_main_v93, val_main_v94, val_main_v95, val_main_v96, val_main_v97, val_main_v98,
    val_main_v99, val_main_v100, val_main_v101, val_main_v102, val_main_call0_v0, val_main_call0_v1,
    val_main_call0_v2, val_main_cst_11, val_main_cst_12, val_main_cst_13, id]
  rw [lg_at, float_nat _ (by omega), float_nat _ (by omega)]
  exact mask_eq h r s

/-- The cosine and the sine at a row of the sequence. -/
theorem cos_at (t : Fin 2064) (d : Fin 64) (e : Fin 128) (he : e.val % 64 = d.val) :
    val_main_v18 (F := Ideal) (ix2 t d) = ((cs (nOf t) (rOf t) e : ℝ) : EReal) := by
  pointwise [val_main_v5, val_main_v7, val_main_v8, val_main_v9, val_main_v10, val_main_v11, val_main_v12,
    val_main_v13, val_main_v14, val_main_v15, val_main_v16, val_main_v17, val_main_v18, val_main_cst,
    val_main_cst_0]
  rw [float_nat _ (by omega), angle_eq _ _ d.isLt, cs, ang_at, he]; rfl

theorem sin_at (t : Fin 2064) (d : Fin 64) (e : Fin 128) (he : e.val % 64 = d.val) :
    val_main_v20 (F := Ideal) (ix2 t d) = ((Real.sin (ang (nOf t) (rOf t) e) : ℝ) : EReal) := by
  pointwise [val_main_v5, val_main_v7, val_main_v8, val_main_v9, val_main_v10, val_main_v11, val_main_v12,
    val_main_v13, val_main_v14, val_main_v15, val_main_v16, val_main_v17, val_main_v20, val_main_cst,
    val_main_cst_0]
  rw [float_nat _ (by omega), angle_eq _ _ d.isLt, ang_at, he]; rfl

theorem cosk_at (t : Fin 2064) (d : Fin 64) (e : Fin 128) (he : e.val % 64 = d.val) :
    val_main_v47 (F := Ideal) (ix2 t d) = ((cs (nOf t) (rOf t) e : ℝ) : EReal) := by
  pointwise [val_main_v5, val_main_v36, val_main_v37, val_main_v38, val_main_v39, val_main_v40, val_main_v41,
    val_main_v42, val_main_v43, val_main_v44, val_main_v45, val_main_v46, val_main_v47, val_main_cst_1,
    val_main_cst_2]
  rw [float_nat _ (by omega), angle_eq _ _ d.isLt, cs, ang_at, he]; rfl

theorem sink_at (t : Fin 2064) (d : Fin 64) (e : Fin 128) (he : e.val % 64 = d.val) :
    val_main_v49 (F := Ideal) (ix2 t d) = ((Real.sin (ang (nOf t) (rOf t) e) : ℝ) : EReal) := by
  pointwise [val_main_v5, val_main_v36, val_main_v37, val_main_v38, val_main_v39, val_main_v40, val_main_v41,
    val_main_v42, val_main_v43, val_main_v44, val_main_v45, val_main_v46, val_main_v49, val_main_cst_1,
    val_main_cst_2]
  rw [float_nat _ (by omega), angle_eq _ _ d.isLt, ang_at, he]; rfl

variable {x0 : (⟨S2064x3072, .f32⟩ : BufTy).Contents (Elt Ideal)} {x9 : (⟨S512, .f32⟩ : BufTy).Contents (Elt Ideal)}
  {x10 : (⟨S2064x1024, .f32⟩ : BufTy).Contents (Elt Ideal)} {X : Args}

/-- The three arguments hold the real numbers of `X`. -/
structure Holds (x0 : (⟨S2064x3072, .f32⟩ : BufTy).Contents (Elt Ideal)) (x9 : (⟨S512, .f32⟩ : BufTy).Contents (Elt Ideal))
    (x10 : (⟨S2064x1024, .f32⟩ : BufTy).Contents (Elt Ideal)) (X : Args) : Prop where
  proj : ∀ (t : Fin 2064) (c : Fin 3072), x0 (ix2 t c) = ((X.proj t c : ℝ) : EReal)
  gain : ∀ c : Fin 512, x9 (ix1 c) = ((X.gain c : ℝ) : EReal)
  ct : ∀ (t : Fin 2064) (c : Fin 1024), x10 (ix2 t c) = ((X.ct t c : ℝ) : EReal)

variable (H : Holds x0 x9 x10 X)
include H

/-- A raw value, at any column that is head `h`'s column `d` of part `j`. -/
theorem proj_at (j h : Fin 4) (t : Fin 2064) (d : Fin 128) (c : Fin 3072) (hc : c.val = 1024 + 512 * j.val + 128 * h.val + d.val) :
    x0 (ix2 t c) = ((raw X j (nOf t) h (rOf t) d : ℝ) : EReal) := by
  rw [H.proj, raw, chunk_at]; congr 2; exact Fin.ext hc

theorem q0_at (t : Fin 2064) (h : Fin 4) (d : Fin 128) : val_main_v6 (F := Ideal) x0 (ix3 t h d) = ((raw X 0 (nOf t) h (rOf t) d : ℝ) : EReal) := by
  pointwise [val_main_v6, val_main_v1, val_main_v0]
  exact proj_at H 0 h t d _ (by simp; omega)

theorem k0_at (t : Fin 2064) (h : Fin 4) (d : Fin 128) : val_main_v35 (F := Ideal) x0 (ix3 t h d) = ((raw X 1 (nOf t) h (rOf t) d : ℝ) : EReal) := by
  pointwise [val_main_v35, val_main_v2, val_main_v0]
  exact proj_at H 1 h t d _ (by simp; omega)

theorem v0_at (t : Fin 2064) (h : Fin 4) (d : Fin 128) : val_main_v66 (F := Ideal) x0 (ix3 t h d) = ((Ret.v X (nOf t) h (rOf t) d : ℝ) : EReal) := by
  pointwise [val_main_v66, val_main_v3, val_main_v0]
  exact proj_at H 2 h t d _ (by simp; omega)

theorem g_at (t : Fin 2064) (h : Fin 4) (d : Fin 128) :
    val_main_v4 (F := Ideal) x0 (ix2 t (hcol h d)) = ((Ret.g X (nOf t) h (rOf t) d : ℝ) : EReal) := by
  pointwise [val_main_v4, val_main_v0]
  exact proj_at H 3 h t d _ (by simp [hcol]; omega)

theorem dout_at (t : Fin 2064) (h : Fin 4) (d : Fin 128) :
    val_main_v295 (F := Ideal) x10 (ix2 t (hcol h d)) = ((dout X (nOf t) h (rOf t) d : ℝ) : EReal) := by
  pointwise [val_main_v295]
  rw [H.ct, dout, chunk_at]; exact congrArg _ (congrArg _ (Fin.ext (by simp [hcol, ccol]; omega)))

omit H in
theorem back_hi (d : Fin 128) (hd : ¬ d.val < 64) (p : 64 + (d.val - 64) < 128) : (⟨64 + (d.val - 64), p⟩ : Fin 128) = d :=
  Fin.ext (by simp only; omega)

/-- The rotary embedding of the queries and of the keys. -/
theorem rope_q_at (t : Fin 2064) (h : Fin 4) (d : Fin 128) : val_main_v34 (F := Ideal) x0 (ix3 t h d) = ((Ret.q X (nOf t) h (rOf t) d : ℝ) : EReal) := by
  pointwise [val_main_v19, val_main_v21, val_main_v22, val_main_v23, val_main_v24, val_main_v25, val_main_v26,
    val_main_v27, val_main_v28, val_main_v29, val_main_v30, val_main_v31, val_main_v32, val_main_v33,
    val_main_v34]
  unfold Ret.q
  by_cases hd : d.val < 64
  · rw [dif_pos hd, q0_at H, q0_at H, cos_at t _ d (by first | omega | (simp only; omega)), sin_at t _ d (by first | omega | (simp only; omega)),
      turn_lo d hd, rot_lo _ _ _ _ hd, EReal.coe_sub, EReal.coe_mul, EReal.coe_mul]
  · rw [dif_neg hd, q0_at H, q0_at H, cos_at t _ d (by first | omega | (simp only; omega)), sin_at t _ d (by first | omega | (simp only; omega)),
      turn_hi d hd, back_hi d hd, rot_hi _ _ _ _ hd, EReal.coe_add, EReal.coe_mul, EReal.coe_mul]

theorem k_at (t : Fin 2064) (h : Fin 4) (d : Fin 128) : val_main_v65 (F := Ideal) x0 (ix3 t h d) = ((Ret.k X (nOf t) h (rOf t) d : ℝ) : EReal) := by
  pointwise [val_main_v48, val_main_v50, val_main_v51, val_main_v52, val_main_v53, val_main_v54, val_main_v55,
    val_main_v56, val_main_v57, val_main_v58, val_main_v59, val_main_v60, val_main_v61, val_main_v62,
    val_main_v63, val_main_v64, val_main_v65, val_main_cst_3]
  unfold Ret.k
  by_cases hd : d.val < 64
  · rw [dif_pos hd, k0_at H, k0_at H, cosk_at t _ d (by first | omega | (simp only; omega)), sink_at t _ d (by first | omega | (simp only; omega)), ofBits_scale,
      turn_lo d hd, rot_lo _ _ _ _ hd, EReal.coe_mul, EReal.coe_sub, EReal.coe_mul, EReal.coe_mul]
  · rw [dif_neg hd, k0_at H, k0_at H, cosk_at t _ d (by first | omega | (simp only; omega)), sink_at t _ d (by first | omega | (simp only; omega)), ofBits_scale,
      turn_hi d hd, back_hi d hd, rot_hi _ _ _ _ hd, EReal.coe_mul, EReal.coe_add, EReal.coe_mul, EReal.coe_mul]

omit H in
/-- A row of a chunk, taken from the padded rows of the sequence. -/
theorem of_rows {f : Fin 2064 → EReal} {F : ℕ → Fin 128 → ℝ} (hf : ∀ t, f t = ((F (nOf t) (rOf t) : ℝ) : EReal))
    (h0 : ∀ n r, 128 * n + r.val < 112 → F n r = 0) (n : Fin 17) (r : Fin 128)
    (hb : ¬ n.val * 128 + r.val < 112 → n.val * 128 + r.val - 112 < 2064) :
    (if h : n.val * 128 + r.val < 112 then (0 : EReal) else f ⟨n.val * 128 + r.val - 112, hb h⟩) = ((F n.val r : ℝ) : EReal) := by
  by_cases h : n.val * 128 + r.val < 112
  · rw [dif_pos h, h0 _ _ (by omega)]; rfl
  · rw [dif_neg h, hf]
    obtain ⟨e1, e2⟩ := of_row (t := ⟨n.val * 128 + r.val - 112, hb h⟩) (n := n.val) (r := r) (by simp only; omega)
    rw [e1, e2]

theorem qc_at (n : Fin 17) (r : Fin 128) (h : Fin 4) (d : Fin 128) :
    val_main_v70 (F := Ideal) x0 (ix4 n r h d) = ((Ret.q X n.val h r d : ℝ) : EReal) := by
  pointwise [val_main_v67, val_main_v68, val_main_v70, val_main_cst_4]
  exact of_rows (F := fun n r => Ret.q X n h r d) (fun t => rope_q_at H t h d) (fun n r hp => q_pad hp h d) n r _

theorem kc_at (n : Fin 17) (r : Fin 128) (h : Fin 4) (d : Fin 128) :
    val_main_v73 (F := Ideal) x0 (ix4 n r h d) = ((Ret.k X n.val h r d : ℝ) : EReal) := by
  pointwise [val_main_v67, val_main_v71, val_main_v73, val_main_cst_4]
  exact of_rows (F := fun n r => Ret.k X n h r d) (fun t => k_at H t h d) (fun n r hp => k_pad hp h d) n r _

theorem vc_at (n : Fin 17) (r : Fin 128) (h : Fin 4) (d : Fin 128) :
    val_main_v76 (F := Ideal) x0 (ix4 n r h d) = ((Ret.v X n.val h r d : ℝ) : EReal) := by
  pointwise [val_main_v67, val_main_v74, val_main_v76, val_main_cst_4]
  exact of_rows (F := fun n r => Ret.v X n h r d) (fun t => v0_at H t h d) (fun n r hp => v_pad hp h d) n r _

theorem sc_at (n : Fin 17) (h : Fin 4) (r s : Fin 128) :
    val_main_v125 (F := Ideal) x0 (ix4 n h r s) = ((Ret.sc X n.val h r s : ℝ) : EReal) := by
  pointwise [val_main_v122, val_main_v123, val_main_v124, val_main_v125]
  simp only [qc_at H, kc_at H, dm_at, ← EReal.coe_mul, Reals.coe_sum]; rfl

theorem kz_at (n : Fin 17) (r : Fin 128) (h : Fin 4) (d : Fin 128) :
    val_main_v131 (F := Ideal) x0 (ix4 n r h d) = ((Ret.kz X n.val h r d : ℝ) : EReal) := by
  pointwise [val_main_v128, val_main_v129, val_main_v130, val_main_v131]
  rw [kc_at H, zt_at, ← EReal.coe_mul]; rfl

theorem kv_at (n : Fin 17) (h : Fin 4) (d e : Fin 128) :
    val_main_v132 (F := Ideal) x0 (ix4 n h d e) = ((Ret.kv X n.val h d e : ℝ) : EReal) := by
  pointwise [val_main_v132]
  simp only [kz_at H, vc_at H, ← EReal.coe_mul, Reals.coe_sum]; rfl

/-- The states, stacked. -/
theorem state_at (n : Fin 17) (h : Fin 4) (d e : Fin 128) :
    val_main_v256 (F := Ideal) x0 (ix4 n h d e) = ((S X n.val h d e : ℝ) : EReal) := by
  have h0 : ((0 : ℝ) : EReal) = 0 := EReal.coe_zero
  fin_cases n <;> pointwise [val_main_v133, val_main_v134, val_main_v135, val_main_v136, val_main_v137, val_main_v138,
    val_main_v139, val_main_v140, val_main_v141, val_main_v142, val_main_v143, val_main_v144,
    val_main_v145, val_main_v146, val_main_v147, val_main_v148, val_main_v149, val_main_v150,
    val_main_v151, val_main_v152, val_main_v153, val_main_v154, val_main_v155, val_main_v156,
    val_main_v157, val_main_v158, val_main_v159, val_main_v160, val_main_v161, val_main_v162,
    val_main_v163, val_main_v164, val_main_v165, val_main_v166, val_main_v167, val_main_v168,
    val_main_v169, val_main_v170, val_main_v171, val_main_v172, val_main_v173, val_main_v174,
    val_main_v175, val_main_v176, val_main_v177, val_main_v178, val_main_v179, val_main_v180,
    val_main_v181, val_main_v182, val_main_v183, val_main_v184, val_main_v185, val_main_v186,
    val_main_v187, val_main_v188, val_main_v189, val_main_v190, val_main_v191, val_main_v192,
    val_main_v193, val_main_v194, val_main_v195, val_main_v196, val_main_v197, val_main_v198,
    val_main_v199, val_main_v200, val_main_v201, val_main_v202, val_main_v203, val_main_v204,
    val_main_v205, val_main_v206, val_main_v207, val_main_v208, val_main_v209, val_main_v210,
    val_main_v211, val_main_v212, val_main_v213, val_main_v214, val_main_v215, val_main_v216,
    val_main_v217, val_main_v218, val_main_v219, val_main_v220, val_main_v221, val_main_v222,
    val_main_v223, val_main_v224, val_main_v225, val_main_v226, val_main_v227, val_main_v228,
    val_main_v229, val_main_v230, val_main_v231, val_main_v232, val_main_v233, val_main_v234,
    val_main_v235, val_main_v236, val_main_v237, val_main_v238, val_main_v239, val_main_v240,
    val_main_v241, val_main_v242, val_main_v243, val_main_v244, val_main_v245, val_main_v246,
    val_main_v247, val_main_v248, val_main_v249, val_main_v250, val_main_v251, val_main_v252,
    val_main_v253, val_main_v255, val_main_v256, val_main_cst_17] <;>
    simp only [gc_at, kv_at H, ← h0, ← EReal.coe_mul, ← EReal.coe_add] <;> rfl

/-- A retention row before the norm. -/
theorem y_at (n : Fin 17) (r : Fin 128) (h : Fin 4) (e : Fin 128) :
    val_main_v263 (F := Ideal) x0 (ix4 n r h e) = ((Ret.y X n.val h r e : ℝ) : EReal) := by
  have e1 : val_main_v263 (F := Ideal) x0 (ix4 n r h e) = (∑ s, val_main_v76 (F := Ideal) x0 (ix4 n s h e) * val_main_v125 (F := Ideal) x0 (ix4 n h r s))
      + (∑ d, val_main_v256 (F := Ideal) x0 (ix4 n h d e) * val_main_v70 (F := Ideal) x0 (ix4 n r h d)) * val_main_v110 (F := Ideal) (ix2 r h) := by
    pointwise [val_main_v126, val_main_v127, val_main_v257, val_main_v258, val_main_v259, val_main_v260,
    val_main_v261, val_main_v262, val_main_v263]
  rw [e1]
  simp only [vc_at H, sc_at H, state_at H, qc_at H, xi_at, ← EReal.coe_mul, Reals.coe_sum, ← EReal.coe_add]
  unfold Ret.y; simp only [mul_comm]

omit H in
/-- A row of the sequence, taken from the chunks. -/
theorem row_split (t : Fin 2064) (h1 : (112 + t.val) / 128 < 17) (h2 : (112 + t.val) % 128 < 128) :
    (⟨(112 + t.val) / 128, h1⟩ : Fin 17).val = nOf t ∧ (⟨(112 + t.val) % 128, h2⟩ : Fin 128) = rOf t :=
  ⟨by simp only [nOf, Nat.add_comm], Fin.ext (by simp only [rOf, Nat.add_comm])⟩

theorem yr_at (t : Fin 2064) (h : Fin 4) (e : Fin 128) :
    val_main_v265 (F := Ideal) x0 (ix3 t h e) = ((Ret.y X (nOf t) h (rOf t) e : ℝ) : EReal) := by
  pointwise [val_main_v264, val_main_v265]
  rw [y_at H]
  obtain ⟨e1, e2⟩ := row_split t (by omega) (by omega)
  rw [e1, e2]

theorem yc_at (t : Fin 2064) (h : Fin 4) (e : Fin 128) :
    val_main_v271 (F := Ideal) x0 (ix3 t h e) = ((Ret.yc X (nOf t) h (rOf t) e : ℝ) : EReal) := by
  pointwise [val_main_v266, val_main_v267, val_main_v268, val_main_v269, val_main_v270, val_main_v271,
    val_main_cst_19, val_main_cst_20]
  simp only [yr_at H, ofBits_128, Reals.coe_sum, div_128, ← EReal.coe_sub]; rfl

theorem yc'_at (t : Fin 2064) (h : Fin 4) (e : Fin 128) :
    val_main_v280 (F := Ideal) x0 (ix3 t h e) = ((Ret.yc X (nOf t) h (rOf t) e : ℝ) : EReal) := yc_at H t h e

theorem var_at (t : Fin 2064) (h : Fin 4) :
    val_main_v282 (F := Ideal) x0 (ix3 t h 0) = ((Ret.var X (nOf t) h (rOf t) + Reals.eps : ℝ) : EReal) := by
  pointwise [val_main_v272, val_main_v275, val_main_v276, val_main_v277, val_main_v278, val_main_v281,
    val_main_v282, val_main_cst_22, val_main_cst_23, val_main_cst_24]
  simp only [yc_at H, ofBits_128, Reals.ofBits_eps, ← EReal.coe_mul, Reals.coe_sum, div_128, ← EReal.coe_add]; rfl

theorem rs_at (t : Fin 2064) (h : Fin 4) :
    val_main_v283 (F := Ideal) x0 (ix3 t h 0) = ((Ret.rs X (nOf t) h (rOf t) : ℝ) : EReal) := by
  pointwise [val_main_v283]
  rw [var_at H]; exact Reals.rsqrt_pos (var_eps_pos X _ h _)

theorem drs_at (t : Fin 2064) (h : Fin 4) :
    val_main_v286 (F := Ideal) x0 (ix3 t h 0)
      = ((-(1 / 2) * (Ret.rs X (nOf t) h (rOf t) / (Ret.var X (nOf t) h (rOf t) + Reals.eps)) : ℝ) : EReal) := by
  pointwise [val_main_v284, val_main_v285, val_main_v286, val_main_cst_25]
  rw [rs_at H, var_at H, Reals.ofBits_neg_half, Reals.div_coe_coe (var_eps_pos X _ h _).ne', ← EReal.coe_mul]

theorem yn_at (t : Fin 2064) (h : Fin 4) (e : Fin 128) :
    val_main_v288 (F := Ideal) x0 (ix3 t h e) = ((Ret.yn X (nOf t) h (rOf t) e : ℝ) : EReal) := by
  pointwise [val_main_v287, val_main_v288]
  rw [yc'_at H, rs_at H, ← EReal.coe_mul]; rfl

theorem ynf_at (t : Fin 2064) (h : Fin 4) (e : Fin 128) :
    val_main_v289 (F := Ideal) x0 (ix2 t (hcol h e)) = ((Ret.yn X (nOf t) h (rOf t) e : ℝ) : EReal) := by
  pointwise [val_main_v289]
  exact (congrArg₂ (fun a b => val_main_v288 (F := Ideal) x0 (ix3 t a b)) (Fin.ext (by simp only [hcol]; omega))
    (Fin.ext (by simp only [hcol]; omega))).trans (yn_at H t h e)

theorem sg_at (t : Fin 2064) (h : Fin 4) (e : Fin 128) :
    val_main_v293_2 (F := Ideal) x0 (ix2 t (hcol h e)) = ((sg (Ret.g X (nOf t) h (rOf t) e) : ℝ) : EReal) := by
  pointwise [val_main_v293_2, val_main_call1_v4, val_main_call1_cst_0, val_main_call1_v3, val_main_call1_v2, val_main_call1_cst,
    val_main_call1_v1, val_main_call1_v0]
  rw [g_at H, ← EReal.coe_neg, Ideal.exp_coe, ← EReal.coe_one, ← EReal.coe_add,
    Reals.div_coe_coe (by have := Real.exp_pos (-Ret.g X (nOf t) h (rOf t) e); linarith), one_div]; rfl

end Cert.Ret.Ref

end
-- ==== Proof.RetHost.lean ====
/- The arrays that the retention backward kernel's region is entered with, read from the arguments: the padded rows, the tables
   of the rotation and of the decays, and the states of the forward scan. -/
module

public import proofs.«01_k».proof.Proof.RetFrame
public import proofs.«01_k».proof.Proof.RetRef
public import Idealize.ShloMosaic.Lib.Pipeline.ValueKit
public import Idealize.ShloMosaic.Lib.StableHlo.ReadAt
public import Idealize.ShloMosaic.Lib.Claim
public import Idealize.ShloMosaic.Lib.IdealHost

@[expose] public section

set_option maxRecDepth 16384

noncomputable section

open Idealize.ShloMosaic Idealize.ShloMosaic.TcCoe Idealize.SL.Sem

namespace Cert.Ret.Host

open Cert.Kernel2Ideal Cert.Kernel2Ideal.Gen Cert.Ret

variable (m : (ℓ : Loc nD τ sig) → Buf (Elt Ideal) ℓ)

/-- The three arguments that matter, at their own types. -/
abbrev aProj (c : Dev nD) : FVec Ideal S2064x3072 .f32 := m ((c : Thread nD τ).loc main_arg0)
abbrev aGain (c : Dev nD) : FVec Ideal S512 .f32 := m ((c : Thread nD τ).loc main_arg9)
abbrev aCt (c : Dev nD) : FVec Ideal S2064x1024 .f32 := m ((c : Thread nD τ).loc main_arg10)

/-- The arrays at the region's entry, at their own types. -/
abbrev Rows (c : Dev nD) : FVec Ideal S2176x3072 .f32 := V m c main_v121
abbrev Cts (c : Dev nD) : FVec Ideal S2176x1024 .f32 := V m c main_v124
abbrev Cos (c : Dev nD) : FVec Ideal S2176x128 .f32 := V m c main_v172
abbrev Sin (c : Dev nD) : FVec Ideal S2176x128 .f32 := V m c main_v176
abbrev Mask (c : Dev nD) : FVec Ideal S4x128x128 .f32 := V m c main_v202
abbrev Xi (c : Dev nD) : FVec Ideal S4x128x128 .f32 := V m c main_v220
abbrev Zeta (c : Dev nD) : FVec Ideal S4x128x128 .f32 := V m c main_v222
abbrev Gain (c : Dev nD) : FVec Ideal S1x512 .f32 := V m c main_v223

theorem rows_at (c : Dev nD) (r : Fin 2176) (k : Fin 3072) :
    Rows m c (ix2 r k) = if h : r.val < 112 then 0 else aProj m c (ix2 ⟨r.val - 112, by omega⟩ k) := by
  unfold Rows; unfold V; after_reads_at

theorem cts_at (c : Dev nD) (r : Fin 2176) (k : Fin 1024) :
    Cts m c (ix2 r k) = if h : r.val < 112 then 0 else aCt m c (ix2 ⟨r.val - 112, by omega⟩ k) := by
  unfold Cts; unfold V; after_reads_at

theorem gain_at (c : Dev nD) (k : Fin 512) : Gain m c (ix2 0 k) = aGain m c (ix1 k) := by
  unfold Gain; unfold V; after_reads_at

theorem mask_at (c : Dev nD) (h : Fin 4) (r s : Fin 128) : Mask m c (ix3 h r s) = ((dm h r s : ℝ) : EReal) := by
  unfold Mask; unfold V; after_reads_at
  rw [log_decay, float_nat _ (by omega), float_nat _ (by omega)]
  show (if _ then _ else Ideal.ofBits .f32 0#32) = _
  rw [Ideal.ofBits_zero]
  exact mask_eq h r s

theorem xi_at (c : Dev nD) (h : Fin 4) (r d : Fin 128) : Xi m c (ix3 h r d) = ((xi h r : ℝ) : EReal) := by
  unfold Xi; unfold V; after_reads_at
  rw [log_decay, float_nat _ (by omega), ← EReal.coe_one, ← EReal.coe_add, ← EReal.coe_mul, Ideal.exp_coe]; rfl

theorem zeta_at (c : Dev nD) (h : Fin 4) (r d : Fin 128) : Zeta m c (ix3 h r d) = ((zt h r : ℝ) : EReal) := by
  unfold Zeta; unfold V; after_reads_at
  rw [log_decay, float_nat _ (by omega), ofBits_127, ← EReal.coe_sub, ← EReal.coe_mul, Ideal.exp_coe]; rfl

theorem cos_at (c : Dev nD) (n : Fin 17) (r d : Fin 128) :
    Cos m c (ix2 ⟨128 * n.val + r.val, by omega⟩ d) = ((cs n.val r d : ℝ) : EReal) := by
  unfold Cos; unfold V; after_reads_at
  by_cases hd : d.val < 64
  · rw [dif_pos hd, angle_at n r d _ hd (by omega)]; rfl
  · rw [dif_neg hd, angle_at n r d _ (by omega) (by omega)]; rfl

theorem sin_at (c : Dev nD) (n : Fin 17) (r d : Fin 128) :
    Sin m c (ix2 ⟨128 * n.val + r.val, by omega⟩ d) = ((sn n.val r d : ℝ) : EReal) := by
  unfold Sin; unfold V; after_reads_at; unfold sn
  by_cases hd : d.val < 64
  · rw [dif_pos hd, if_pos hd, angle_at n r d _ hd (by omega)]; rfl
  · rw [dif_neg hd, if_neg hd, angle_at n r d _ (by omega) (by omega)]; rfl

/-- The states before each chunk, and the array of what each chunk adds. -/
abbrev St (c : Dev nD) : Fin 17 → FVec Ideal S1x4x128x128 .f32 :=
  ![V m c main_v68, V m c main_v71, V m c main_v74, V m c main_v77, V m c main_v80, V m c main_v83, V m c main_v86, V m c main_v89,
    V m c main_v92, V m c main_v95, V m c main_v98, V m c main_v101, V m c main_v104, V m c main_v107, V m c main_v110,
    V m c main_v113, V m c main_v116]
abbrev Kv (c : Dev nD) : FVec Ideal S17x4x128x128 .f32 := V m c main_v67
abbrev Dec (c : Dev nD) : FVec Ideal S1x4x128x128 .f32 := V m c main_v62
abbrev States (c : Dev nD) : FVec Ideal S17x4x128x128 .f32 := V m c main_v119

theorem dec_at (c : Dev nD) (h : Fin 4) (d e : Fin 128) : Dec m c (ix4 0 h d e) = ((gc h : ℝ) : EReal) := by
  unfold Dec; unfold V; after_reads_at
  rw [log_decay, ofBits_128, ← EReal.coe_mul, Ideal.exp_coe]; rfl

theorem slice_at (j : Fin 17) : S17x4x128x128.Slices ![j.val, 0, 0, 0] S1x4x128x128 := by
  revert j; decide

/-- A state is the one before it, decayed, and what the chunk adds. -/
theorem st_succ (c : Dev nD) (j : Fin 16) : St m c j.succ = addf (mulf (St m c j.castSucc) (Dec m c))
    (extractStridedSlice S1x4x128x128 ![j.castSucc.val, 0, 0, 0] (Kv m c) (slice_at j.castSucc)) := by
  fin_cases j <;> sl_kernel_rfl

/-- The keys and the values, chunk by chunk, and the keys' decay. -/
abbrev Keys (c : Dev nD) : FVec Ideal S17x128x4x128 .f32 := V m c main_v36
abbrev Vals (c : Dev nD) : FVec Ideal S17x128x4x128 .f32 := V m c main_v40
abbrev Fade (c : Dev nD) : FVec Ideal S17x128x4x128 .f32 := V m c main_v65
abbrev KRows (c : Dev nD) : FVec Ideal S2064x4x128 .f32 := V m c main_v33
abbrev CosK (c : Dev nD) : FVec Ideal S2064x64 .f32 := V m c main_v15
abbrev SinK (c : Dev nD) : FVec Ideal S2064x64 .f32 := V m c main_v17

theorem fade_at (c : Dev nD) (n : Fin 17) (r : Fin 128) (h : Fin 4) (d : Fin 128) : Fade m c (ix4 n r h d) = ((zt h r : ℝ) : EReal) := by
  unfold Fade; unfold V; after_reads_at
  rw [log_decay, float_nat _ (by omega), ofBits_127, ← EReal.coe_sub, ← EReal.coe_mul, Ideal.exp_coe]; rfl

theorem cosk_at (c : Dev nD) (t : Fin 2064) (d : Fin 64) (e : Fin 128) (he : e.val % 64 = d.val) :
    CosK m c (ix2 t d) = ((cs (nOf t) (rOf t) e : ℝ) : EReal) := by
  unfold CosK; unfold V; after_reads_at
  rw [float_nat _ (by omega), angle_eq _ _ d.isLt, cs, ang_at, he]; rfl

theorem sink_at (c : Dev nD) (t : Fin 2064) (d : Fin 64) (e : Fin 128) (he : e.val % 64 = d.val) :
    SinK m c (ix2 t d) = ((Real.sin (ang (nOf t) (rOf t) e) : ℝ) : EReal) := by
  unfold SinK; unfold V; after_reads_at
  rw [float_nat _ (by omega), angle_eq _ _ d.isLt, ang_at, he]; rfl

/-- The three arguments hold the real numbers of `X`. -/
structure Holds (c : Dev nD) (X : Args) : Prop where
  proj : ∀ (t : Fin 2064) (k : Fin 3072), aProj m c (ix2 t k) = ((X.proj t k : ℝ) : EReal)
  gain : ∀ k : Fin 512, aGain m c (ix1 k) = ((X.gain k : ℝ) : EReal)
  ct : ∀ (t : Fin 2064) (k : Fin 1024), aCt m c (ix2 t k) = ((X.ct t k : ℝ) : EReal)

end Cert.Ret.Host

end
-- ==== Proof.RetState.lean ====
/- The states of the forward scan, as the retention backward kernel's region is entered with them. -/
module

public import proofs.«01_k».proof.Proof.RetHost

@[expose] public section

set_option maxRecDepth 16384

noncomputable section

open Idealize.ShloMosaic Idealize.ShloMosaic.TcCoe Idealize.SL.Sem

namespace Cert.Ret.Host

open Cert.Kernel2Ideal Cert.Kernel2Ideal.Gen Cert.Ret

variable {m : (ℓ : Loc nD τ sig) → Buf (Elt Ideal) ℓ} {c : Dev nD} {X : Args}

/-- The rotated keys in their two halves, before they are joined and scaled. -/
abbrev KLo (m : (ℓ : Loc nD τ sig) → Buf (Elt Ideal) ℓ) (c : Dev nD) : FVec Ideal S2064x4x64 .f32 := V m c main_v25
abbrev KHi (m : (ℓ : Loc nD τ sig) → Buf (Elt Ideal) ℓ) (c : Dev nD) : FVec Ideal S2064x4x64 .f32 := V m c main_v30
/-- The keys and values of the sequence before they are cut into chunks. -/
abbrev KFlat (m : (ℓ : Loc nD τ sig) → Buf (Elt Ideal) ℓ) (c : Dev nD) : FVec Ideal S2064x4x128 .f32 := V m c main_v3
abbrev VFlat (m : (ℓ : Loc nD τ sig) → Buf (Elt Ideal) ℓ) (c : Dev nD) : FVec Ideal S2064x4x128 .f32 := V m c main_v37

/-- Rows of zeros in front, and the rows cut into chunks. -/
def chunks (a : FVec Ideal S2064x4x128 .f32) : FVec Ideal S17x128x4x128 .f32 :=
  shapeCast S17x128x4x128 (concatenate S2176x4x128 0
    [⟨S112x4x128, broadcastInDim S112x4x128 ![] bcast_S_S112x4x128 (constant (F := Ideal) S_ .f32 0x00000000#32)⟩, ⟨S2064x4x128, a⟩]
    concatenates_S112x4x128_S2064x4x128_S2176x4x128_d0) shapeCasts_S2176x4x128_S17x128x4x128

theorem keys_eq : Keys m c = chunks (KRows m c) := by sl_kernel_rfl
theorem vals_eq : Vals m c = chunks (VFlat m c) := by sl_kernel_rfl
theorem krows_eq : KRows m c = mulf (concatenate S2064x4x128 2 [⟨S2064x4x64, KLo m c⟩, ⟨S2064x4x64, KHi m c⟩]
    concatenates_S2064x4x64_S2064x4x64_S2064x4x128_d2)
    (broadcastInDim S2064x4x128 ![] bcast_S_S2064x4x128 (constant (F := Ideal) S_ .f32 0x3DB504F3#32)) := by sl_kernel_rfl
theorem kv_eq : Kv m c = Host.dotGeneral dot_S17x128x4x128_S17x128x4x128_S17x4x128x128_1_1_3_3_02_02 none
    (mulf (Keys m c) (Fade m c)) (Vals m c) := by sl_kernel_rfl

variable (H : Holds m c X)
include H

theorem kflat_at (t : Fin 2064) (h : Fin 4) (d : Fin 128) : KFlat m c (ix3 t h d) = ((raw X 1 (nOf t) h (rOf t) d : ℝ) : EReal) := by
  unfold KFlat; unfold V; after_reads_at
  rw [raw, chunk_at, ← H.proj]
  exact congrArg (aProj m c) (congrArg (ix2 t) (Fin.ext (by simp [col]; omega)))

theorem vflat_at (t : Fin 2064) (h : Fin 4) (d : Fin 128) : VFlat m c (ix3 t h d) = ((Ret.v X (nOf t) h (rOf t) d : ℝ) : EReal) := by
  unfold VFlat; unfold V; after_reads_at
  rw [Ret.v, raw, chunk_at, ← H.proj]
  exact congrArg (aProj m c) (congrArg (ix2 t) (Fin.ext (by simp [col]; omega)))

theorem krows_at (t : Fin 2064) (h : Fin 4) (d : Fin 128) : KRows m c (ix3 t h d) = ((Ret.k X (nOf t) h (rOf t) d : ℝ) : EReal) := by
  have lo : ∀ d' : Fin 64, KLo m c (ix3 t h d') = KFlat m c (ix3 t h ⟨d'.val, by omega⟩) * CosK m c (ix2 t d')
      - KFlat m c (ix3 t h ⟨64 + d'.val, by omega⟩) * SinK m c (ix2 t d') := fun d' => by
    unfold KLo KFlat CosK SinK V; after_reads_at
  have hi : ∀ d' : Fin 64, KHi m c (ix3 t h d') = KFlat m c (ix3 t h ⟨d'.val, by omega⟩) * SinK m c (ix2 t d')
      + KFlat m c (ix3 t h ⟨64 + d'.val, by omega⟩) * CosK m c (ix2 t d') := fun d' => by
    unfold KHi KFlat CosK SinK V; after_reads_at
  rw [krows_eq]
  pointwise []
  unfold Ret.k
  by_cases hd : d.val < 64
  · rw [dif_pos hd, lo, kflat_at H, kflat_at H, cosk_at m c t _ d (by first | omega | (simp only; omega)), sink_at m c t _ d (by first | omega | (simp only; omega)), ofBits_scale,
      turn_lo d hd, rot_lo _ _ _ _ hd, EReal.coe_mul, EReal.coe_sub, EReal.coe_mul, EReal.coe_mul]
  · rw [dif_neg hd, hi, kflat_at H, kflat_at H, cosk_at m c t _ d (by first | omega | (simp only; omega)), sink_at m c t _ d (by first | omega | (simp only; omega)), ofBits_scale,
      turn_hi d hd, Ref.back_hi d hd, rot_hi _ _ _ _ hd, EReal.coe_mul, EReal.coe_add, EReal.coe_mul, EReal.coe_mul]

omit H in
theorem chunks_at {a : FVec Ideal S2064x4x128 .f32} {G : ℕ → Fin 4 → Fin 128 → Fin 128 → ℝ}
    (ha : ∀ t h d, a (ix3 t h d) = ((G (nOf t) h (rOf t) d : ℝ) : EReal)) (h0 : ∀ n h r d, 128 * n + r.val < 112 → G n h r d = 0)
    (n : Fin 17) (r : Fin 128) (h : Fin 4) (d : Fin 128) : chunks a (ix4 n r h d) = ((G n.val h r d : ℝ) : EReal) := by
  pointwise [chunks]
  exact Ref.of_rows (F := fun n r => G n h r d) (fun t => ha t h d) (fun n r hp => h0 n h r d hp) n r _

theorem kv_at (n : Fin 17) (h : Fin 4) (d e : Fin 128) : Kv m c (ix4 n h d e) = ((kv X n.val h d e : ℝ) : EReal) := by
  rw [kv_eq, keys_eq, vals_eq]
  pointwise []
  unfold Ret.kv
  rw [← Reals.coe_sum]
  refine Finset.sum_congr rfl fun x _ => ?_
  rw [chunks_at (krows_at H) (fun n h r d hp => k_pad hp h d), chunks_at (vflat_at H) (fun n h r d hp => v_pad hp h d)]
  refine (congrArg (fun z : EReal => _ * z * _) (fade_at m c n x h d)).trans ?_
  rw [← EReal.coe_mul, ← EReal.coe_mul]; rfl

theorem st_at (n : Fin 17) (h : Fin 4) (d e : Fin 128) : St m c n (ix4 0 h d e) = ((S X n.val h d e : ℝ) : EReal) := by
  induction n using Fin.induction with
  | zero =>
    show (V m c main_v68 : FVec Ideal S1x4x128x128 .f32) _ = _
    unfold V; after_reads_at
    exact EReal.coe_zero.symm
  | succ j ih =>
    rw [st_succ]
    have e1 : extractStridedSlice S1x4x128x128 ![j.castSucc.val, 0, 0, 0] (Kv m c) (slice_at j.castSucc) (ix4 0 h d e) = Kv m c (ix4 j.castSucc h d e) := by
      pointwise []
    show St m c j.castSucc (ix4 0 h d e) * Dec m c (ix4 0 h d e) + extractStridedSlice S1x4x128x128 _ (Kv m c) _ (ix4 0 h d e) = _
    rw [e1, ih, dec_at, kv_at H, ← EReal.coe_mul, ← EReal.coe_add]
    rfl

omit H in
/-- Seventeen arrays stacked in the order of a list. -/
def stack (s : Fin 17 → FVec Ideal S1x4x128x128 .f32) : FVec Ideal S17x4x128x128 .f32 :=
  concatenate S17x4x128x128 0
    [⟨S9x4x128x128, concatenate S9x4x128x128 0 [⟨S1x4x128x128, s 0⟩, ⟨S1x4x128x128, s 1⟩, ⟨S1x4x128x128, s 2⟩, ⟨S1x4x128x128, s 3⟩,
        ⟨S1x4x128x128, s 4⟩, ⟨S1x4x128x128, s 5⟩, ⟨S1x4x128x128, s 6⟩, ⟨S1x4x128x128, s 7⟩, ⟨S1x4x128x128, s 8⟩]
        concatenates_S1x4x128x128_S1x4x128x128_S1x4x128x128_S1x4x128x128_S1x4x128x128_S1x4x128x128_S1x4x128x128_S1x4x128x128_S1x4x128x128_S9x4x128x128_d0⟩,
      ⟨S8x4x128x128, concatenate S8x4x128x128 0 [⟨S1x4x128x128, s 9⟩, ⟨S1x4x128x128, s 10⟩, ⟨S1x4x128x128, s 11⟩, ⟨S1x4x128x128, s 12⟩,
        ⟨S1x4x128x128, s 13⟩, ⟨S1x4x128x128, s 14⟩, ⟨S1x4x128x128, s 15⟩, ⟨S1x4x128x128, s 16⟩]
        concatenates_S1x4x128x128_S1x4x128x128_S1x4x128x128_S1x4x128x128_S1x4x128x128_S1x4x128x128_S1x4x128x128_S1x4x128x128_S8x4x128x128_d0⟩]
    concatenates_S9x4x128x128_S8x4x128x128_S17x4x128x128_d0

omit H in
theorem stack_at (s : Fin 17 → FVec Ideal S1x4x128x128 .f32) (n : Fin 17) (h : Fin 4) (d e : Fin 128) :
    stack s (ix4 n h d e) = s n (ix4 0 h d e) := by
  fin_cases n <;> pointwise [stack]

omit H in
theorem states_eq : States m c = stack (St m c) := by sl_kernel_rfl

/-- The array of the states. -/
theorem states_at (n : Fin 17) (h : Fin 4) (d e : Fin 128) : States m c (ix4 n h d e) = ((S X n.val h d e : ℝ) : EReal) := by
  rw [states_eq, stack_at]; exact st_at H n h d e

end Cert.Ret.Host

end
-- ==== Proof.RetBlock.lean ====
/- What the body of the mixer's backward kernel computes for one retention head from one chunk's blocks: each intermediate,
   as a vector program over the blocks, reads entry by entry the real number that `RetMath` names. -/
module

public import proofs.«01_k».proof.Proof.Gen.Kernel2Ideal.Skeleton
public import proofs.«01_k».proof.Proof.RetMath
public import Idealize.ShloMosaic.Lib.Pointwise
public import Idealize.ShloMosaic.Lib.ValueIdx
public import Idealize.ShloMosaic.Lib.IdealHost

@[expose] public section

set_option maxRecDepth 16384

noncomputable section

namespace Cert.Ret

open Idealize.ShloMosaic Cert.Kernel2Ideal Cert.Kernel2Ideal.Gen

/-- The blocks that a head's part of the body reads. -/
structure Blk where
  (q k v g ct cs sn : Vec Ideal S128x128 .f32)
  (dm xi zt ds : Vec Ideal S1x128x128 .f32)
  st : Vec Ideal S1x1x128x128 .f32
  (gain acc : Vec Ideal S1x128 .f32)

namespace Blk

variable (B : Blk)

def qr := k0_pay342 (F := Ideal) B.cs B.sn B.q
def kf := k0_pay349 (F := Ideal) (k0_pay347 (F := Ideal) B.cs B.k) (k0_pay348 (F := Ideal) B.sn B.k)
def kr := k0_pay353 (F := Ideal) (k0_pay347 (F := Ideal) B.cs B.k) (k0_pay348 (F := Ideal) B.sn B.k)
def kz := k0_pay359 (F := Ideal) (k0_pay357 (F := Ideal) (k0_pay347 (F := Ideal) B.cs B.k) (k0_pay348 (F := Ideal) B.sn B.k) B.zt)
def vb := k0_pay363 (F := Ideal) B.v
def sb := k0_pay367 (F := Ideal) B.st
def dsb := k0_pay375 (F := Ideal) B.ds
def sc := k0_pay379 (F := Ideal) B.qr B.kr B.dm
def yc := k0_pay385 (F := Ideal) B.qr B.vb B.sb B.sc B.xi
def rs := k0_pay389 (F := Ideal) B.yc
def yn := k0_pay393 (F := Ideal) B.yc B.rs
def dgain := k0_pay402 (F := Ideal) B.yc B.rs B.g B.ct B.acc
def dg := k0_pay403 (F := Ideal) B.yc B.rs B.g B.gain B.ct
def dyn := k0_pay404 (F := Ideal) B.g B.gain B.ct
def dy := k0_pay406 (F := Ideal) B.rs B.yn B.dyn (k0_pay405 (F := Ideal) B.g B.gain B.ct) (Scalar.ofBits .f32 0x43000000#32)
def dyb := k0_pay433 (F := Ideal) B.dy
def dqs := k0_pay439 (F := Ideal) (k0_pay437 (F := Ideal) B.dy B.xi)
def dp := k0_pay443 (F := Ideal) B.vb B.dyb B.dm
def dv := k0_pay447 (F := Ideal) B.kz B.dsb B.sc B.dyb
def dqr := k0_pay452 (F := Ideal) B.kr B.sb B.dqs B.dp
def dkr := k0_pay456 (F := Ideal) B.qr B.vb B.dsb B.dp B.zt
def dq := k0_pay467 (F := Ideal) (k0_pay340 (F := Ideal) B.cs) (k0_pay341 (F := Ideal) B.sn) B.dqr
def dk := k0_pay468 (F := Ideal) (k0_pay340 (F := Ideal) B.cs) (k0_pay341 (F := Ideal) B.sn) B.dkr
def dvb := k0_pay469 (F := Ideal) B.dv

/-- The blocks hold chunk `n`'s rows for head `h`, the state before it and the state's gradient after it. -/
structure Reads (X : Args) (n : ℕ) (h : Fin 4) : Prop where
  q : ∀ r d : Fin 128, B.q (ix2 r d) = ((raw X 0 n h r d : ℝ) : EReal)
  k : ∀ r d : Fin 128, B.k (ix2 r d) = ((raw X 1 n h r d : ℝ) : EReal)
  v : ∀ r d : Fin 128, B.v (ix2 r d) = ((raw X 2 n h r d : ℝ) : EReal)
  g : ∀ r d : Fin 128, B.g (ix2 r d) = ((raw X 3 n h r d : ℝ) : EReal)
  ct : ∀ r d : Fin 128, B.ct (ix2 r d) = ((dout X n h r d : ℝ) : EReal)
  cs : ∀ r d : Fin 128, B.cs (ix2 r d) = ((Ret.cs n r d : ℝ) : EReal)
  sn : ∀ r d : Fin 128, B.sn (ix2 r d) = ((Ret.sn n r d : ℝ) : EReal)
  dm : ∀ r s : Fin 128, B.dm (ix3 0 r s) = ((Ret.dm h r s : ℝ) : EReal)
  xi : ∀ r d : Fin 128, B.xi (ix3 0 r d) = ((Ret.xi h r : ℝ) : EReal)
  zt : ∀ r d : Fin 128, B.zt (ix3 0 r d) = ((Ret.zt h r : ℝ) : EReal)
  ds : ∀ d e : Fin 128, B.ds (ix3 0 d e) = ((E X (16 - n) h d e : ℝ) : EReal)
  st : ∀ d e : Fin 128, B.st (ix4 0 0 d e) = ((S X n h d e : ℝ) : EReal)
  gain : ∀ e : Fin 128, B.gain (ix2 0 e) = ((gn X h e : ℝ) : EReal)

variable {B} {X : Args} {n : ℕ} {h : Fin 4} (H : B.Reads X n h)
include H

theorem qr_at (r d : Fin 128) : B.qr (ix2 r d) = ((Ret.q X n h r d : ℝ) : EReal) := by
  unfold qr
  pointwise [k0_pay342, k0_pay340, k0_pay341]
  simp only [H.q, H.cs, H.sn, ← EReal.coe_mul, ← EReal.coe_add]
  rfl

theorem kf_at (r d : Fin 128) : B.kf (ix2 r d) = ((Ret.k X n h r d : ℝ) : EReal) := by
  unfold kf
  pointwise [k0_pay349, k0_pay347, k0_pay348, k0_pay346, k0_pay340, k0_pay341]
  simp only [H.k, H.cs, H.sn, ofBits_scale, ← EReal.coe_mul, ← EReal.coe_add]
  rfl

theorem kr_at (r d : Fin 128) : B.kr (ix2 r d) = ((Ret.k X n h r d : ℝ) : EReal) := kf_at H r d

theorem kz_at (r d : Fin 128) : B.kz (ix2 r d) = ((Ret.kz X n h r d : ℝ) : EReal) := by
  have e : B.kz (ix2 r d) = B.kf (ix2 r d) * B.zt (ix3 0 r d) := by
    unfold kz; pointwise [k0_pay359, k0_pay357]; rfl
  rw [e, kf_at H, H.zt, ← EReal.coe_mul]; rfl

theorem vb_at (r d : Fin 128) : B.vb (ix2 r d) = ((Ret.v X n h r d : ℝ) : EReal) := by
  unfold vb
  pointwise [k0_pay363]
  exact H.v r d

theorem sb_at (d e : Fin 128) : B.sb (ix2 d e) = ((S X n h d e : ℝ) : EReal) := by
  unfold sb
  pointwise [k0_pay367]
  exact H.st d e

theorem dsb_at (d e : Fin 128) : B.dsb (ix2 d e) = ((E X (16 - n) h d e : ℝ) : EReal) := by
  unfold dsb
  pointwise [k0_pay375, k0_pay371]
  exact H.ds d e

theorem sc_at (r s : Fin 128) : B.sc (ix2 r s) = ((Ret.sc X n h r s : ℝ) : EReal) := by
  unfold sc
  pointwise [k0_pay379]
  simp only [qr_at H, kr_at H, H.dm, ← EReal.coe_mul, Reals.coe_sum]
  rfl

theorem yc_at (r e : Fin 128) : B.yc (ix2 r e) = ((Ret.yc X n h r e : ℝ) : EReal) := by
  unfold yc
  pointwise [k0_pay385]
  simp only [sc_at H, vb_at H, qr_at H, sb_at H, H.xi, ofBits_128, ← EReal.coe_mul, Reals.coe_sum, ← EReal.coe_add, div_128,
    ← EReal.coe_sub]
  rfl

theorem rs_at (r : Fin 128) : B.rs (ix2 r 0) = ((Ret.rs X n h r : ℝ) : EReal) := by
  unfold rs
  pointwise [k0_pay389]
  simp only [yc_at H, ofBits_128, Reals.ofBits_eps, ← EReal.coe_mul, Reals.coe_sum, ← EReal.coe_add, div_128]
  exact Reals.rsqrt_pos (var_eps_pos X n h r)

theorem yn_at (r e : Fin 128) : B.yn (ix2 r e) = ((Ret.yn X n h r e : ℝ) : EReal) := by
  unfold yn
  pointwise [k0_pay393]
  rw [yc_at H, rs_at H, ← EReal.coe_mul]; rfl

theorem dgain_at (e : Fin 128) : B.dgain (ix2 0 e) = B.acc (ix2 0 e) + ((dgp X n h e : ℝ) : EReal) := by
  have e : B.dgain (ix2 0 e) = B.acc (ix2 0 e) + ∑ r, B.ct (ix2 r e) * (B.g (ix2 r e) * Ideal.logistic (B.g (ix2 r e))) * B.yn (ix2 r e) := by
    unfold dgain yn
    pointwise [k0_pay402, k0_pay401, k0_pay400, k0_pay399, k0_pay397, k0_pay393]
  rw [e]
  simp only [H.ct, H.g, yn_at H, Ideal.logistic_coe, ← EReal.coe_mul, Reals.coe_sum]
  rfl

theorem dg_at (r e : Fin 128) : B.dg (ix2 r e) = ((Ret.dg X n h r e : ℝ) : EReal) := by
  have e : B.dg (ix2 r e) = B.ct (ix2 r e) * B.yn (ix2 r e) * B.gain (ix2 0 e) * (Ideal.logistic (B.g (ix2 r e))
      * (Ideal.ofBits .f32 0x3F800000#32 + B.g (ix2 r e) * (Ideal.ofBits .f32 0x3F800000#32 - Ideal.logistic (B.g (ix2 r e))))) := by
    unfold dg yn
    pointwise [k0_pay403, k0_pay401, k0_pay400, k0_pay399, k0_pay398, k0_pay397, k0_pay393]
  rw [e, ofBits_one]
  simp only [H.ct, H.g, H.gain, yn_at H, Ideal.logistic_coe, ← EReal.coe_mul, ← EReal.coe_sub, ← EReal.coe_add]
  rfl

theorem dyn_at (r e : Fin 128) : B.dyn (ix2 r e) = ((Ret.dyn X n h r e : ℝ) : EReal) := by
  unfold dyn
  pointwise [k0_pay404, k0_pay401, k0_pay400, k0_pay399, k0_pay398, k0_pay397]
  simp only [H.ct, H.g, H.gain, Ideal.logistic_coe, ← EReal.coe_mul]
  rfl

theorem dy_at (r e : Fin 128) : B.dy (ix2 r e) = ((Ret.dy X n h r e : ℝ) : EReal) := by
  have e1 : k0_pay405 (F := Ideal) B.g B.gain B.ct (ix2 r 0) = ∑ e, B.dyn (ix2 r e) := by
    unfold dyn; pointwise [k0_pay405]
  unfold dy
  pointwise [k0_pay406]
  rw [e1]
  simp only [dyn_at H, yn_at H, rs_at H, Scalar.ofBits, Ideal.ofBits_def, ofBits_128, ← EReal.coe_mul, Reals.coe_sum, div_128, ← EReal.coe_sub]
  rfl

theorem dyb_at (r e : Fin 128) : B.dyb (ix2 r e) = ((Ret.dy X n h r e : ℝ) : EReal) := by
  unfold dyb
  pointwise [k0_pay433]
  exact dy_at H r e

theorem dqs_at (r e : Fin 128) : B.dqs (ix2 r e) = ((Ret.dqs X n h r e : ℝ) : EReal) := by
  unfold dqs
  pointwise [k0_pay439, k0_pay437]
  rw [dy_at H, H.xi, ← EReal.coe_mul]; rfl

theorem dp_at (r s : Fin 128) : B.dp (ix2 r s) = ((Ret.dp X n h r s : ℝ) : EReal) := by
  unfold dp
  pointwise [k0_pay443]
  simp only [dyb_at H, vb_at H, H.dm, ← EReal.coe_mul, Reals.coe_sum]
  rfl

theorem dv_at (s e : Fin 128) : B.dv (ix2 s e) = ((Ret.dv X n h s e : ℝ) : EReal) := by
  unfold dv
  pointwise [k0_pay447]
  simp only [sc_at H, dyb_at H, kz_at H, dsb_at H, ← EReal.coe_mul, Reals.coe_sum, ← EReal.coe_add]
  rfl

theorem dqr_at (r d : Fin 128) : B.dqr (ix2 r d) = ((Ret.dqr X n h r d : ℝ) : EReal) := by
  unfold dqr
  pointwise [k0_pay452]
  simp only [dp_at H, kr_at H, dqs_at H, sb_at H, ← EReal.coe_mul, Reals.coe_sum, ← EReal.coe_add]
  rfl

theorem dkr_at (s d : Fin 128) : B.dkr (ix2 s d) = ((Ret.dkr X n h s d : ℝ) : EReal) := by
  unfold dkr
  pointwise [k0_pay456]
  simp only [dp_at H, qr_at H, vb_at H, dsb_at H, H.zt, ← EReal.coe_mul, Reals.coe_sum, ← EReal.coe_add]
  rfl

theorem dq_at (r d : Fin 128) : B.dq (ix2 r d) = ((grad X 0 n h r d : ℝ) : EReal) := by
  unfold dq
  pointwise [k0_pay467, k0_pay340, k0_pay341]
  simp only [dqr_at H, H.cs, H.sn, ← EReal.coe_mul, ← EReal.coe_add]
  rfl

theorem dk_at (r d : Fin 128) : B.dk (ix2 r d) = ((grad X 1 n h r d : ℝ) : EReal) := by
  unfold dk
  pointwise [k0_pay468, k0_pay340, k0_pay341]
  simp only [dkr_at H, H.cs, H.sn, ofBits_scale, ← EReal.coe_mul, ← EReal.coe_add]
  rfl

theorem dvb_at (r d : Fin 128) : B.dvb (ix2 r d) = ((grad X 2 n h r d : ℝ) : EReal) := by
  unfold dvb
  pointwise [k0_pay469]
  exact dv_at H r d

omit H in
theorem gc_pow {x : ℝ} (hx : 0 < x) (h : Fin 4) (e : (1 : ℝ) - (2 : ℝ) ^ (-5 - (h.val : ℝ)) = x) : gc h = x ^ 128 := by
  unfold gc lg
  rw [e, show (128 : ℝ) = ((128 : ℕ) : ℝ) by norm_num, Real.exp_nat_mul, Real.exp_log hx]

omit H in
theorem two_rpow (m : ℕ) : (2 : ℝ) ^ (-(m : ℝ)) = 1 / 2 ^ m := by
  rw [Real.rpow_neg (by norm_num), Real.rpow_natCast, one_div]

omit H in
theorem gc_0 : gc 0 = (31 / 32) ^ 128 :=
  gc_pow (by norm_num) 0 (by rw [show (-5 : ℝ) - ((0 : Fin 4).val : ℝ) = -((5 : ℕ) : ℝ) by norm_num, two_rpow]; norm_num)
omit H in
theorem gc_1 : gc 1 = (63 / 64) ^ 128 :=
  gc_pow (by norm_num) 1 (by rw [show (-5 : ℝ) - ((1 : Fin 4).val : ℝ) = -((6 : ℕ) : ℝ) by norm_num, two_rpow]; norm_num)
omit H in
theorem gc_2 : gc 2 = (127 / 128) ^ 128 :=
  gc_pow (by norm_num) 2 (by rw [show (-5 : ℝ) - ((2 : Fin 4).val : ℝ) = -((7 : ℕ) : ℝ) by norm_num, two_rpow]; norm_num)
omit H in
theorem gc_3 : gc 3 = (255 / 256) ^ 128 :=
  gc_pow (by norm_num) 3 (by rw [show (-5 : ℝ) - ((3 : Fin 4).val : ℝ) = -((8 : ℕ) : ℝ) by norm_num, two_rpow]; norm_num)

omit H in
/-- The first of the four decays that the kernel multiplies the state's gradient with. -/
theorem decay0 (b : BitVec 32) : Named.named (F := Ideal) κ "decay0" (φ := .f32) b = ((gc 0 : ℝ) : EReal) :=
  (IdealRules.named_const.ideal_named_scalar _ _ _ _ rfl).trans (congrArg _ (by rw [gc_0]; norm_num))
omit H in
theorem decay1 (b : BitVec 32) : Named.named (F := Ideal) κ "decay1" (φ := .f32) b = ((gc 1 : ℝ) : EReal) :=
  (IdealRules.named_const.ideal_named_scalar _ _ _ _ rfl).trans (congrArg _ (by rw [gc_1]; norm_num))
omit H in
theorem decay2 (b : BitVec 32) : Named.named (F := Ideal) κ "decay2" (φ := .f32) b = ((gc 2 : ℝ) : EReal) :=
  (IdealRules.named_const.ideal_named_scalar _ _ _ _ rfl).trans (congrArg _ (by rw [gc_2]; norm_num))
omit H in
theorem decay3 (b : BitVec 32) : Named.named (F := Ideal) κ "decay3" (φ := .f32) b = ((gc 3 : ℝ) : EReal) :=
  (IdealRules.named_const.ideal_named_scalar _ _ _ _ rfl).trans (congrArg _ (by rw [gc_3]; norm_num))

/-- What the body leaves of the state's gradient: the decayed one it found and the chunk's own part. -/
def next (B : Blk) (γ : EReal) (d e : Fin 128) : EReal := γ * B.ds (ix3 0 d e) + ∑ r, B.qr (ix2 r d) * B.dqs (ix2 r e)

theorem next_at (hn : n ≤ 16) (d e : Fin 128) : next B ((gc h : ℝ) : EReal) d e = ((E X (17 - n) h d e : ℝ) : EReal) := by
  unfold next
  simp only [qr_at H, dqs_at H, H.ds, ← EReal.coe_mul, Reals.coe_sum, ← EReal.coe_add]
  rw [show 17 - n = 16 - n + 1 by omega, E, show 16 - (16 - n) = n by omega]; rfl

omit H in
theorem next_0 (d e : Fin 128) : k0_pay462 (F := Ideal) B.qr (k0_pay371 B.ds) B.dqs (ix3 0 d e) = next B ((gc 0 : ℝ) : EReal) d e := by
  unfold next; pointwise [k0_pay462, k0_pay371]; rw [decay0]
omit H in
theorem next_1 (d e : Fin 128) : k0_pay463 (F := Ideal) B.qr (k0_pay371 B.ds) B.dqs (ix3 0 d e) = next B ((gc 1 : ℝ) : EReal) d e := by
  unfold next; pointwise [k0_pay463, k0_pay371]; rw [decay1]
omit H in
theorem next_2 (d e : Fin 128) : k0_pay464 (F := Ideal) B.qr (k0_pay371 B.ds) B.dqs (ix3 0 d e) = next B ((gc 2 : ℝ) : EReal) d e := by
  unfold next; pointwise [k0_pay464, k0_pay371]; rw [decay2]
omit H in
theorem next_3 (d e : Fin 128) :
    k0_pay466 (F := Ideal) (k0_pay465 B.qr (k0_pay371 B.ds) B.dqs) (ix3 0 d e) = next B ((gc 3 : ℝ) : EReal) d e := by
  unfold next; pointwise [k0_pay466, k0_pay465, k0_pay371]; rw [decay3]

end Blk

end Cert.Ret

end
-- ==== Proof.RetPieces.lean ====
/- What one point of the mixer's backward kernel stores of the retention half, at an index: the blocks that a head's part
   of the body loads (`loads`), and the pieces of the gradient's block, of the gain's gradient and of the carried state's
   gradient as the vector programs of `RetBlock` over those loads. -/
module

public import proofs.«01_k».proof.Proof.RetFrame
public import proofs.«01_k».proof.Proof.RetBlock
public import Idealize.ShloMosaic.Lib.Pipeline.ValueKit

@[expose] public section

set_option maxRecDepth 16384
set_option maxHeartbeats 4000000

noncomputable section

namespace Cert.Ret.Pieces

open Idealize.ShloMosaic Idealize.ShloMosaic.Tactic Cert.Kernel2Ideal Cert.Kernel2Ideal.Gen

variable (m : (ℓ : Loc nD τ sig) → Buf (Elt Ideal) ℓ)

theorem inb_col (h : Fin 4) (a : Fin S128x512.rank) : ![0, 128 * h.val] a + S128x128.size a ≤ S128x512.size a := by
  fin_cases h <;> fin_cases a <;> decide

theorem inb_ct (h : Fin 4) (a : Fin S128x1024.rank) : ![0, 512 + 128 * h.val] a + S128x128.size a ≤ S128x1024.size a := by
  fin_cases h <;> fin_cases a <;> decide

theorem inb_row (h : Fin 4) (a : Fin S1x512.rank) : ![0, 128 * h.val] a + S1x128.size a ≤ S1x512.size a := by
  fin_cases h <;> fin_cases a <;> decide

theorem inb_tab (a : Fin S128x128.rank) : ![0, 0] a + S128x128.size a ≤ S128x128.size a := by
  fin_cases a <;> decide

theorem inb_head (h : Fin 4) (a : Fin S4x128x128.rank) : ![h.val, 0, 0] a + S1x128x128.size a ≤ S4x128x128.size a := by
  fin_cases h <;> fin_cases a <;> decide

theorem inb_state (h : Fin 4) (a : Fin S1x4x128x128.rank) :
    ![0, h.val, 0, 0] a + S1x1x128x128.size a ≤ S1x4x128x128.size a := by
  fin_cases h <;> fin_cases a <;> decide

theorem inb_out (j h : Fin 4) (a : Fin S128x3072.rank) :
    ![0, 1024 + 512 * j.val + 128 * h.val] a + S128x128.size a ≤ S128x3072.size a := by
  fin_cases j <;> fin_cases h <;> fin_cases a <;> decide

/-- What head `h` loads at point `t`, over the state's gradient and the gain's gradient that it finds. -/
def loads (c : Dev nD) (t : Fin cfg0.N) (ds : Vec Ideal S1x128x128 .f32) (acc : Vec Ideal S1x128 .f32) (h : Fin 4) : Blk where
  q := View.readAt (Elt Ideal) (ms0_13 t).view (Rect.unit (s := S128x512) ![0, 128 * h.val] S128x128.size (inb_col h)).toLoadRect ((hs0_13 t).unread (iblk m c 13 t))
  k := View.readAt (Elt Ideal) (ms0_14 t).view (Rect.unit (s := S128x512) ![0, 128 * h.val] S128x128.size (inb_col h)).toLoadRect ((hs0_14 t).unread (iblk m c 14 t))
  v := View.readAt (Elt Ideal) (ms0_15 t).view (Rect.unit (s := S128x512) ![0, 128 * h.val] S128x128.size (inb_col h)).toLoadRect ((hs0_15 t).unread (iblk m c 15 t))
  g := View.readAt (Elt Ideal) (ms0_16 t).view (Rect.unit (s := S128x512) ![0, 128 * h.val] S128x128.size (inb_col h)).toLoadRect ((hs0_16 t).unread (iblk m c 16 t))
  ct := View.readAt (Elt Ideal) (ms0_18 t).view (Rect.unit (s := S128x1024) ![0, 512 + 128 * h.val] S128x128.size (inb_ct h)).toLoadRect ((hs0_18 t).unread (iblk m c 18 t))
  cs := View.readAt (Elt Ideal) (ms0_19 t).view (Rect.unit (s := S128x128) ![0, 0] S128x128.size inb_tab).toLoadRect ((hs0_19 t).unread (iblk m c 19 t))
  sn := View.readAt (Elt Ideal) (ms0_20 t).view (Rect.unit (s := S128x128) ![0, 0] S128x128.size inb_tab).toLoadRect ((hs0_20 t).unread (iblk m c 20 t))
  dm := View.readAt (Elt Ideal) (ms0_21 t).view (Rect.unit (s := S4x128x128) ![h.val, 0, 0] S1x128x128.size (inb_head h)).toLoadRect ((hs0_21 t).unread (iblk m c 21 t))
  xi := View.readAt (Elt Ideal) (ms0_22 t).view (Rect.unit (s := S4x128x128) ![h.val, 0, 0] S1x128x128.size (inb_head h)).toLoadRect ((hs0_22 t).unread (iblk m c 22 t))
  zt := View.readAt (Elt Ideal) (ms0_23 t).view (Rect.unit (s := S4x128x128) ![h.val, 0, 0] S1x128x128.size (inb_head h)).toLoadRect ((hs0_23 t).unread (iblk m c 23 t))
  ds := ds
  st := View.readAt (Elt Ideal) (ms0_17 t).view (Rect.unit (s := S1x4x128x128) ![0, h.val, 0, 0] S1x1x128x128.size (inb_state h)).toLoadRect ((hs0_17 t).unread (iblk m c 17 t))
  gain := View.readAt (Elt Ideal) (ms0_24 t).view (Rect.unit (s := S1x512) ![0, 128 * h.val] S1x128.size (inb_row h)).toLoadRect ((hs0_24 t).unread (iblk m c 24 t))
  acc := acc

/-- The rectangle of head `h` in the state's gradient. -/
abbrev headR (h : Fin 4) : Rect S4x128x128 := Rect.unit (s := S4x128x128) ![h.val, 0, 0] S1x128x128.size (inb_head h)

/-- The rectangle of head `h` in a row of 512. -/
abbrev rowR (h : Fin 4) : Rect S1x512 := Rect.unit (s := S1x512) ![0, 128 * h.val] S1x128.size (inb_row h)

/-- The rectangle of head `h`'s gradient of kind `j` (query, key, value, gate). -/
abbrev outR (j h : Fin 4) : Rect S128x3072 :=
  Rect.unit (s := S128x3072) ![0, 1024 + 512 * j.val + 128 * h.val] S128x128.size (inb_out j h)

/-- The loads of a later point, over what the point before left. -/
def loadsB (c : Dev nD) (t : Fin cfg0.N) (p : Cert.Ret.Frame.Left Ideal) (h : Fin 4) : Blk :=
  loads m c t
    (View.readAt (Elt Ideal) scM0_5.view (headR h).toLoadRect ((Memref.isWhole_whole cc0_scratch5).unread p.s5))
    (View.readAt (Elt Ideal) (ms0_29 t).view (rowR h).toLoadRect ((hs0_29 t).unread p.o29)) h

/-- The loads of the first point, over the gain's gradient that the body's earlier stores leave. -/
def loadsA (c : Dev nD) (t : Fin cfg0.N) (L : List (View.Piece (Elt Ideal) S1x512 .f32)) (h : Fin 4) : Blk :=
  loads m c t (scM0_5.view.readCov (kernelRun0_A.sl.HS5_1 (F := Ideal)) (headR h).toLoadRect)
    ((ms0_29 t).view.readCov L (rowR h).toLoadRect) h

/-- The gain's gradient's stores of the first point, after head `h`'s. -/
def gainStep (c : Dev nD) (t : Fin cfg0.N) (L : List (View.Piece (Elt Ideal) S1x512 .f32)) (h : Fin 4) :
    List (View.Piece (Elt Ideal) S1x512 .f32) :=
  ⟨rowR h, (loadsA m c t L h).dgain⟩ :: L

def gain1 (c : Dev nD) (t : Fin cfg0.N) := gainStep m c t (kernelRun0_A.sl.H29_1 (F := Ideal)) 0
def gain2 (c : Dev nD) (t : Fin cfg0.N) := gainStep m c t (gain1 m c t) 1
def gain3 (c : Dev nD) (t : Fin cfg0.N) := gainStep m c t (gain2 m c t) 2
def gain4 (c : Dev nD) (t : Fin cfg0.N) := gainStep m c t (gain3 m c t) 3

/-- Head `h`'s stored gradient of kind `j`. -/
def store (B : Blk) (j : Fin 4) : Vec Ideal S128x128 .bf16 :=
  match j with
  | 0 => B.dq
  | 1 => B.dk
  | 2 => B.dvb
  | 3 => B.dg

/-- Head `h`'s stored gradient of the state. -/
def nextStore (B : Blk) (h : Fin 4) : Vec Ideal S1x128x128 .f32 :=
  match h with
  | 0 => k0_pay462 (F := Ideal) B.qr (k0_pay371 B.ds) B.dqs
  | 1 => k0_pay463 (F := Ideal) B.qr (k0_pay371 B.ds) B.dqs
  | 2 => k0_pay464 (F := Ideal) B.qr (k0_pay371 B.ds) B.dqs
  | 3 => k0_pay466 (F := Ideal) (k0_pay465 B.qr (k0_pay371 B.ds) B.dqs)

/-- The stores of the retention half in the gradient's block, the last first. -/
def outs (Bk : Fin 4 → Blk) : List (View.Piece (Elt Ideal) S128x3072 .bf16) :=
  [(2, 3), (1, 3), (0, 3), (2, 2), (1, 2), (0, 2), (2, 1), (1, 1), (0, 1), (2, 0), (1, 0), (0, 0), (3, 3), (3, 2), (3, 1),
    (3, 0)].map fun jh : Fin 4 × Fin 4 => ⟨outR jh.1 jh.2, store (Bk jh.2) jh.1⟩

/-- The stores of the state's gradient, the last first. -/
def nexts (Bk : Fin 4 → Blk) : List (View.Piece (Elt Ideal) S4x128x128 .f32) :=
  [3, 2, 1, 0].map fun h : Fin 4 => ⟨headR h, nextStore (Bk h) h⟩

/-- The stores of the gain's gradient, the last first. -/
def gains (Bk : Fin 4 → Blk) : List (View.Piece (Elt Ideal) S1x512 .f32) :=
  [3, 2, 1, 0].map fun h : Fin 4 => ⟨rowR h, (Bk h).dgain⟩

/-- The loads of the first point, head by head. -/
def firstA (c : Dev nD) (t : Fin cfg0.N) (h : Fin 4) : Blk :=
  match h with
  | 0 => loadsA m c t (kernelRun0_A.sl.H29_1 (F := Ideal)) 0
  | 1 => loadsA m c t (gain1 m c t) 1
  | 2 => loadsA m c t (gain2 m c t) 2
  | 3 => loadsA m c t (gain3 m c t) 3

section Lists

variable (c : Dev nD) (t : Fin cfg0.N)

theorem outs_B (h : ¬t.val % 17 = 0) (p : Cert.Ret.Frame.Left Ideal) :
    (Cert.Ret.Frame.runB m c t h p).1 = outs (loadsB m c t p) ++ (Cert.Ret.Frame.runB m c t h p).1.drop 16 := by
  sl_kernel_rfl

theorem nexts_B (h : ¬t.val % 17 = 0) (p : Cert.Ret.Frame.Left Ideal) :
    (Cert.Ret.Frame.runB m c t h p).2.2.2.2.2.2.2.1 = nexts (loadsB m c t p) ++ [] := by
  sl_kernel_rfl

theorem gains_B (h : ¬t.val % 17 = 0) (p : Cert.Ret.Frame.Left Ideal) :
    (Cert.Ret.Frame.runB m c t h p).2.2.2.2.1 = gains (loadsB m c t p) ++ [] := by
  sl_kernel_rfl

theorem outs_A (h : t.val % 17 = 0) :
    (Cert.Ret.Frame.runA m c t h).1 = outs (firstA m c t) ++ (Cert.Ret.Frame.runA m c t h).1.drop 16 := by
  sl_kernel_rfl

theorem nexts_A (h : t.val % 17 = 0) :
    (Cert.Ret.Frame.runA m c t h).2.2.2.2.2.2.2.1 = nexts (firstA m c t) ++ kernelRun0_A.sl.HS5_1 (F := Ideal) := by
  sl_kernel_rfl

theorem gains_A (h : t.val % 17 = 0) :
    (Cert.Ret.Frame.runA m c t h).2.2.2.2.1 = gain4 m c t := by
  sl_kernel_rfl

end Lists

end Cert.Ret.Pieces

end
-- ==== Proof.RetPoint.lean ====
/- What one head of one point of the mixer's backward kernel reads: the chunk's rows, the tables and the state before the chunk,
   as the real numbers of `RetMath`. -/
module

public import proofs.«01_k».proof.Proof.RetState
public import proofs.«01_k».proof.Proof.RetPieces

@[expose] public section

set_option maxRecDepth 16384

noncomputable section

open Idealize.ShloMosaic Idealize.ShloMosaic.TcCoe Idealize.SL.Sem

namespace Cert.Ret.Point

open Cert.Kernel2Ideal Cert.Kernel2Ideal.Gen Cert.Ret Cert.Ret.Host Cert.Ret.Pieces

/-- A load from a buffer that holds a block whole, at an index. -/
theorem load_at {κ : Kind} {sp : Space} {s : Shape} {e : EltTy} {M : Memref sig κ sp s e} (h : M.IsWhole) (X : s.Idx → Elt Ideal e)
    (off size : Fin s.rank → ℕ) (inb : ∀ a, off a + size a ≤ s.size a) (x : (Rect.unit off size inb).shape.Idx) (i : s.Idx)
    (hi : ∀ a, (i a : ℕ) = off a + x a) :
    View.readAt (Elt Ideal) M.view (Rect.unit off size inb).toLoadRect (h.unread X) x = X i := by
  rw [View.readAt_eq_ld, h.read_unread]
  exact View.ld_unit_apply_of X off size inb x i hi

theorem le16 (t : Fin cfg0.N) : t.val ≤ 16 := by
  have h := t.isLt; have e : cfg0.N = 17 := by decide
  omega

/-- Where the windows' blocks lie at each grid point. -/
theorem idx : ∀ t : Fin cfg0.N, win0_13.index t = ![16 - t.val, 2] ∧ win0_14.index t = ![16 - t.val, 3] ∧ win0_15.index t = ![16 - t.val, 4]
    ∧ win0_16.index t = ![16 - t.val, 5] ∧ win0_17.index t = ![16 - t.val, 0, 0, 0] ∧ win0_18.index t = ![16 - t.val, 0]
    ∧ win0_19.index t = ![16 - t.val, 0] ∧ win0_20.index t = ![16 - t.val, 0] ∧ win0_21.index t = ![0, 0, 0] ∧ win0_22.index t = ![0, 0, 0]
    ∧ win0_23.index t = ![0, 0, 0] ∧ win0_24.index t = ![0, 0] ∧ win0_25.index t = ![16 - t.val, 0] ∧ win0_29.index t = ![0, 0] :=
  (by decide +kernel : ∀ t : Fin grid0.N, _)

variable (m : (ℓ : Loc nD τ sig) → Buf (Elt Ideal) ℓ) (c : Dev nD) (t : Fin cfg0.N)

/-- The chunk of a point, and the array row that row `r` of its block is. -/
def chunkOf : Fin 17 := ⟨16 - t.val, by omega⟩
def rowAt (r : Fin 128) : Fin 2176 := ⟨128 * (chunkOf t).val + r.val, by have := (chunkOf t).isLt; omega⟩

theorem b13_at (r : Fin 128) (k : Fin 512) : (iblk m c 13 t : FVec Ideal S128x512 .f32) (ix2 r k) = Rows m c (ix2 (rowAt t r) ⟨1024 + k.val, by omega⟩) := by
  unfold rowAt chunkOf; blk_ext [iblk, idx t]
theorem b14_at (r : Fin 128) (k : Fin 512) : (iblk m c 14 t : FVec Ideal S128x512 .f32) (ix2 r k) = Rows m c (ix2 (rowAt t r) ⟨1536 + k.val, by omega⟩) := by
  unfold rowAt chunkOf; blk_ext [iblk, idx t]
theorem b15_at (r : Fin 128) (k : Fin 512) : (iblk m c 15 t : FVec Ideal S128x512 .f32) (ix2 r k) = Rows m c (ix2 (rowAt t r) ⟨2048 + k.val, by omega⟩) := by
  unfold rowAt chunkOf; blk_ext [iblk, idx t]
theorem b16_at (r : Fin 128) (k : Fin 512) : (iblk m c 16 t : FVec Ideal S128x512 .f32) (ix2 r k) = Rows m c (ix2 (rowAt t r) ⟨2560 + k.val, by omega⟩) := by
  unfold rowAt chunkOf; blk_ext [iblk, idx t]
theorem b17_at (h : Fin 4) (d e : Fin 128) : (iblk m c 17 t : FVec Ideal S1x4x128x128 .f32) (ix4 0 h d e) = States m c (ix4 (chunkOf t) h d e) := by
  unfold chunkOf; blk_ext [iblk, idx t]
theorem b18_at (r : Fin 128) (k : Fin 1024) : (iblk m c 18 t : FVec Ideal S128x1024 .f32) (ix2 r k) = Cts m c (ix2 (rowAt t r) k) := by
  unfold rowAt chunkOf; blk_ext [iblk, idx t]
theorem b19_at (r d : Fin 128) : (iblk m c 19 t : FVec Ideal S128x128 .f32) (ix2 r d) = Cos m c (ix2 (rowAt t r) d) := by
  unfold rowAt chunkOf; blk_ext [iblk, idx t]
theorem b20_at (r d : Fin 128) : (iblk m c 20 t : FVec Ideal S128x128 .f32) (ix2 r d) = Sin m c (ix2 (rowAt t r) d) := by
  unfold rowAt chunkOf; blk_ext [iblk, idx t]
theorem b21_at (h : Fin 4) (r s : Fin 128) : (iblk m c 21 t : FVec Ideal S4x128x128 .f32) (ix3 h r s) = Mask m c (ix3 h r s) := by
  blk_ext [iblk, idx t]
theorem b22_at (h : Fin 4) (r s : Fin 128) : (iblk m c 22 t : FVec Ideal S4x128x128 .f32) (ix3 h r s) = Xi m c (ix3 h r s) := by
  blk_ext [iblk, idx t]
theorem b23_at (h : Fin 4) (r s : Fin 128) : (iblk m c 23 t : FVec Ideal S4x128x128 .f32) (ix3 h r s) = Zeta m c (ix3 h r s) := by
  blk_ext [iblk, idx t]
theorem b24_at (k : Fin 512) : (iblk m c 24 t : FVec Ideal S1x512 .f32) (ix2 0 k) = Gain m c (ix2 0 k) := by
  blk_ext [iblk, idx t]

variable {m c} {X : Args} (H : Holds m c X)
include H

/-- A padded row of the projection, and one of the cotangent. -/
theorem rows_raw (j h : Fin 4) (r d : Fin 128) (k : Fin 3072) (hk : k.val = 1024 + 512 * j.val + 128 * h.val + d.val) :
    Rows m c (ix2 (rowAt t r) k) = ((raw X j (chunkOf t).val h r d : ℝ) : EReal) := by
  obtain rfl : k = col j h d := Fin.ext hk
  rw [rows_at]
  have hn := (chunkOf t).isLt
  by_cases h0 : (rowAt t r).val < 112
  · rw [dif_pos h0, raw_pad (show 128 * (chunkOf t).val + r.val < 112 from h0)]; exact EReal.coe_zero.symm
  · rw [dif_neg h0, H.proj, raw, chunk_row _ ⟨(rowAt t r).val - 112, by omega⟩ _ _ (by simp only [rowAt] at h0 ⊢; omega)]

theorem cts_raw (h : Fin 4) (r d : Fin 128) (k : Fin 1024) (hk : k.val = 512 + 128 * h.val + d.val) :
    Cts m c (ix2 (rowAt t r) k) = ((dout X (chunkOf t).val h r d : ℝ) : EReal) := by
  obtain rfl : k = ccol h d := Fin.ext hk
  rw [cts_at]
  have hn := (chunkOf t).isLt
  by_cases h0 : (rowAt t r).val < 112
  · rw [dif_pos h0, dout_pad (show 128 * (chunkOf t).val + r.val < 112 from h0)]; exact EReal.coe_zero.symm
  · rw [dif_neg h0, H.ct, dout, chunk_row _ ⟨(rowAt t r).val - 112, by omega⟩ _ _ (by simp only [rowAt] at h0 ⊢; omega)]

/-- What head `h` loads at point `t`, where the state's gradient is what the later chunks leave. -/
theorem reads (ds : Vec Ideal S1x128x128 .f32) (acc : Vec Ideal S1x128 .f32) (h : Fin 4)
    (hds : ∀ d e, ds (ix3 0 d e) = ((E X t.val h d e : ℝ) : EReal)) :
    (loads m c t ds acc h).Reads X (chunkOf t).val h where
  q r d := by
    refine (load_at (hs0_13 t) _ _ _ _ _ (ix2 r (hcol h d)) (fun a => by fin_cases a <;> simp [hcol])).trans ?_
    exact (b13_at m c t r _).trans (rows_raw t H 0 h r d _ (by simp [hcol]; omega))
  k r d := by
    refine (load_at (hs0_14 t) _ _ _ _ _ (ix2 r (hcol h d)) (fun a => by fin_cases a <;> simp [hcol])).trans ?_
    exact (b14_at m c t r _).trans (rows_raw t H 1 h r d _ (by simp [hcol]; omega))
  v r d := by
    refine (load_at (hs0_15 t) _ _ _ _ _ (ix2 r (hcol h d)) (fun a => by fin_cases a <;> simp [hcol])).trans ?_
    exact (b15_at m c t r _).trans (rows_raw t H 2 h r d _ (by simp [hcol]; omega))
  g r d := by
    refine (load_at (hs0_16 t) _ _ _ _ _ (ix2 r (hcol h d)) (fun a => by fin_cases a <;> simp [hcol])).trans ?_
    exact (b16_at m c t r _).trans (rows_raw t H 3 h r d _ (by simp [hcol]; omega))
  ct r d := by
    refine (load_at (hs0_18 t) _ _ _ _ _ (ix2 r (ccol h d)) (fun a => by fin_cases a <;> simp [ccol])).trans ?_
    exact (b18_at m c t r _).trans (cts_raw t H h r d _ rfl)
  cs r d := by
    refine (load_at (hs0_19 t) _ _ _ _ _ (ix2 r d) (fun a => by fin_cases a <;> simp)).trans ?_
    exact (b19_at m c t r d).trans (cos_at m c (chunkOf t) r d)
  sn r d := by
    refine (load_at (hs0_20 t) _ _ _ _ _ (ix2 r d) (fun a => by fin_cases a <;> simp)).trans ?_
    exact (b20_at m c t r d).trans (sin_at m c (chunkOf t) r d)
  dm r s := by
    refine (load_at (hs0_21 t) _ _ _ _ _ (ix3 h r s) (fun a => by fin_cases a <;> simp)).trans ?_
    exact (b21_at m c t h r s).trans (mask_at m c h r s)
  xi r d := by
    refine (load_at (hs0_22 t) _ _ _ _ _ (ix3 h r d) (fun a => by fin_cases a <;> simp)).trans ?_
    exact (b22_at m c t h r d).trans (xi_at m c h r d)
  zt r d := by
    refine (load_at (hs0_23 t) _ _ _ _ _ (ix3 h r d) (fun a => by fin_cases a <;> simp)).trans ?_
    exact (b23_at m c t h r d).trans (zeta_at m c h r d)
  ds d e := (hds d e).trans (by have := le16 t; rw [show 16 - (chunkOf t).val = t.val by simp only [chunkOf]; omega])
  st d e := by
    refine (load_at (hs0_17 t) _ _ _ _ _ (ix4 0 h d e) (fun a => by fin_cases a <;> simp)).trans ?_
    exact (b17_at m c t h d e).trans (states_at H (chunkOf t) h d e)
  gain e := by
    refine (load_at (hs0_24 t) _ _ _ _ _ (ix2 0 (hcol h e)) (fun a => by fin_cases a <;> simp [hcol])).trans ?_
    exact (b24_at m c t _).trans ((gain_at m c _).trans (H.gain _))

end Cert.Ret.Point

end
-- ==== Proof.RetKernel.lean ====
/- What the mixer's backward kernel leaves of the retention half: point by point, then in the two result arrays. -/
module

public import proofs.«01_k».proof.Proof.RetPoint
public import Idealize.ShloMosaic.Lib.Pipeline.CanonAppend
public import Idealize.ShloMosaic.Lib.Writes

@[expose] public section

set_option maxRecDepth 16384

noncomputable section

open Idealize.ShloMosaic Idealize.ShloMosaic.TcCoe Idealize.SL.Sem

namespace Cert.Ret.Kernel

open Cert.Kernel2Ideal Cert.Kernel2Ideal.Gen Cert.Ret Cert.Ret.Host Cert.Ret.Pieces Cert.Ret.Point Cert.Ret.Frame

/-! The stores of a point, read back at an index. -/

theorem outR_emb (j h : Fin 4) (r d : Fin 128) : (outR j h).emb (ix2 r d) = ix2 r (col j h d) :=
  Rect.emb_eq_of_coords _ _ _ fun a => by fin_cases a <;> simp [col] <;> omega

theorem headR_emb (h : Fin 4) (d e : Fin 128) : (headR h).emb (ix3 0 d e) = ix3 h d e :=
  Rect.emb_eq_of_coords _ _ _ fun a => by fin_cases a <;> simp

theorem rowR_emb (h : Fin 4) (e : Fin 128) : (rowR h).emb (ix2 0 e) = ix2 0 (hcol h e) :=
  Rect.emb_eq_of_coords _ _ _ fun a => by fin_cases a <;> simp [hcol]

theorem store_at {B : Blk} {X : Args} {n : ℕ} {h : Fin 4} (H : B.Reads X n h) (j : Fin 4) (r d : Fin 128) :
    store B j (ix2 r d) = ((grad X j n h r d : ℝ) : EReal) := by
  fin_cases j
  · exact Blk.dq_at H r d
  · exact Blk.dk_at H r d
  · exact Blk.dvb_at H r d
  · exact Blk.dg_at H r d

theorem nextStore_at {B : Blk} {X : Args} {n : ℕ} {h : Fin 4} (H : B.Reads X n h) (hn : n ≤ 16) (d e : Fin 128) :
    nextStore B h (ix3 0 d e) = ((E X (17 - n) h d e : ℝ) : EReal) := by
  rw [← Blk.next_at H hn]
  clear H
  fin_cases h
  · exact Blk.next_0 d e
  · exact Blk.next_1 d e
  · exact Blk.next_2 d e
  · exact Blk.next_3 d e

/-- The gradient's block, by columns of 3072. -/
def outOf (X : Args) (n : ℕ) (y : S128x3072.Idx) : EReal :=
  ((grad X ⟨((y 1).val - 1024) / 512 % 4, Nat.mod_lt _ (by norm_num)⟩ n ⟨((y 1).val - 1024) % 512 / 128, by omega⟩ (y 0)
    ⟨(y 1).val % 128, by omega⟩ : ℝ) : EReal)

theorem outOf_col (X : Args) (n : ℕ) (j h : Fin 4) (r d : Fin 128) : outOf X n (ix2 r (col j h d)) = ((grad X j n h r d : ℝ) : EReal) := by
  have hj := j.isLt
  have hh := h.isLt
  have hd := d.isLt
  have e0 : ((ix2 r (col j h d) : S128x3072.Idx) 1).val = 1024 + 512 * j.val + 128 * h.val + d.val := by simp [col]
  have e1 (p) : (⟨(((ix2 r (col j h d) : S128x3072.Idx) 1).val - 1024) / 512 % 4, p⟩ : Fin 4) = j := Fin.ext (by show _ = _; simp only [e0]; omega)
  have e2 (p) : (⟨(((ix2 r (col j h d) : S128x3072.Idx) 1).val - 1024) % 512 / 128, p⟩ : Fin 4) = h := Fin.ext (by show _ = _; simp only [e0]; omega)
  have e3 (p) : (⟨((ix2 r (col j h d) : S128x3072.Idx) 1).val % 128, p⟩ : Fin 128) = d := Fin.ext (by show _ = _; simp only [e0]; omega)
  unfold outOf; rw [e1, e2, e3]; rfl

theorem mem_outs (Bk : Fin 4 → Blk) (j h : Fin 4) : ⟨outR j h, store (Bk h) j⟩ ∈ outs Bk :=
  List.mem_map.mpr ⟨(j, h), by revert j h; decide, rfl⟩

theorem emb_mem {s : Shape} (r : Rect s) (x : r.shape.Idx) : r.emb x ∈ r.set := by
  rw [← Rect.map_emb_univ]; exact Finset.mem_map_of_mem _ (Finset.mem_univ _)

theorem outs_piece {B : Blk} {X : Args} {n : ℕ} {h : Fin 4} (H : B.Reads X n h) (j : Fin 4) (x : S128x128.Idx) :
    store B j x = outOf X n ((outR j h).emb x) := by
  obtain ⟨r, d, rfl⟩ : ∃ r d, x = ix2 r d := ⟨_, _, eq_ix2 x⟩
  rw [store_at H, outR_emb, outOf_col]

theorem outs_at {Bk : Fin 4 → Blk} {X : Args} {n : ℕ} (H : ∀ h, (Bk h).Reads X n h) (L : List (View.Piece (Elt Ideal) S128x3072 .bf16))
    (j h : Fin 4) (r d : Fin 128) : View.canon (outs Bk ++ L) (ix2 r (col j h d)) = ((grad X j n h r d : ℝ) : EReal) := by
  refine (View.canon_append_of_pieces (outOf X n) L (outs Bk) ?_ _ ⟨_, mem_outs Bk j h, ?_⟩).trans (outOf_col X n j h r d)
  · intro p hp
    obtain ⟨⟨j', h'⟩, _, rfl⟩ := List.mem_map.mp hp
    exact fun x => outs_piece (H h') j' x
  · rw [← outR_emb]; exact emb_mem (outR j h) _

/-- The state's gradient after the chunk, by heads. -/
def stateOf (X : Args) (n : ℕ) (y : S4x128x128.Idx) : EReal := ((E X n (y 0) (y 1) (y 2) : ℝ) : EReal)

theorem nexts_piece {B : Blk} {X : Args} {n : ℕ} {h : Fin 4} (H : B.Reads X n h) (hn : n ≤ 16) (x : S1x128x128.Idx) :
    nextStore B h x = stateOf X (17 - n) ((headR h).emb x) := by
  obtain ⟨z, d, e, rfl⟩ : ∃ z d e, x = ix3 z d e := ⟨_, _, _, eq_ix3 x⟩
  obtain rfl : z = 0 := Subsingleton.elim _ _
  rw [nextStore_at H hn, headR_emb]; rfl

theorem nexts_at {Bk : Fin 4 → Blk} {X : Args} {n : ℕ} (H : ∀ h, (Bk h).Reads X n h) (hn : n ≤ 16) (L : List (View.Piece (Elt Ideal) S4x128x128 .f32))
    (h : Fin 4) (d e : Fin 128) : View.canon (nexts Bk ++ L) (ix3 h d e) = ((E X (17 - n) h d e : ℝ) : EReal) := by
  refine (View.canon_append_of_pieces (stateOf X (17 - n)) L (nexts Bk) ?_ _
    ⟨⟨headR h, nextStore (Bk h) h⟩, List.mem_map.mpr ⟨h, by revert h; decide, rfl⟩, ?_⟩).trans rfl
  · intro p hp
    obtain ⟨h', _, rfl⟩ := List.mem_map.mp hp
    exact fun x => nexts_piece (H h') hn x
  · rw [← headR_emb]; exact emb_mem (headR h) _

/-- A row of 512 by heads. -/
def rowOf (G : Fin 4 → Fin 128 → EReal) (y : S1x512.Idx) : EReal :=
  G ⟨(y 1).val / 128, by have : (y 1).val < 512 := (y 1).isLt; omega⟩ ⟨(y 1).val % 128, Nat.mod_lt _ (by norm_num)⟩

theorem rowOf_at (G : Fin 4 → Fin 128 → EReal) (h : Fin 4) (e : Fin 128) : rowOf G (ix2 0 (hcol h e)) = G h e :=
  congrArg₂ G (Fin.ext (by simp [hcol]; omega)) (Fin.ext (by simp [hcol]))

theorem gains_piece {B : Blk} {G : Fin 4 → Fin 128 → EReal} {h : Fin 4} (H : ∀ e, B.dgain (ix2 0 e) = G h e) (x : S1x128.Idx) :
    B.dgain x = rowOf G ((rowR h).emb x) := by
  obtain ⟨z, e, rfl⟩ : ∃ z e, x = ix2 z e := ⟨_, _, eq_ix2 x⟩
  obtain rfl : z = 0 := Subsingleton.elim _ _
  rw [H, rowR_emb, rowOf_at]

theorem gains_at {Bk : Fin 4 → Blk} {G : Fin 4 → Fin 128 → EReal} (H : ∀ h e, (Bk h).dgain (ix2 0 e) = G h e)
    (L : List (View.Piece (Elt Ideal) S1x512 .f32)) (h : Fin 4) (e : Fin 128) : View.canon (gains Bk ++ L) (ix2 0 (hcol h e)) = G h e := by
  refine (View.canon_append_of_pieces (rowOf G) L (gains Bk) ?_ _
    ⟨⟨rowR h, (Bk h).dgain⟩, List.mem_map.mpr ⟨h, by revert h; decide, rfl⟩, ?_⟩).trans (rowOf_at G h e)
  · intro p hp
    obtain ⟨h', _, rfl⟩ := List.mem_map.mp hp
    exact fun x => gains_piece (H h') x
  · rw [← rowR_emb]; exact emb_mem (rowR h) _

/-! The first point's fills with zeros. -/

theorem zero_state (y : S4x128x128.Idx) : View.canon (kernelRun0_A.sl.HS5_1 (F := Ideal)) y = 0 := by
  have e : (Rect.unit (s := S4x128x128) ![0, 0, 0] S4x128x128.size (by decide)).emb y = y :=
    Rect.emb_eq_of_coords _ _ _ fun a => by fin_cases a <;> simp
  have e2 := View.canon_cons_emb (Val := Elt Ideal) (e := .f32) (Rect.unit (s := S4x128x128) ![0, 0, 0] S4x128x128.size (by decide))
    (kernelRun0_A.sl.v1842 (F := Ideal)) [] y
  rw [e] at e2
  refine e2.trans ?_
  pointwise [kernelRun0_A.sl.v1842, kernelRun0_A.sl.v1839, kernelRun0_A.sl.cst_1122]

theorem zero_gain (y : S1x512.Idx) : View.canon (kernelRun0_A.sl.H29_1 (F := Ideal)) y = 0 := by
  have e : (Rect.unit (s := S1x512) ![0, 0] S1x512.size (by decide)).emb y = y :=
    Rect.emb_eq_of_coords _ _ _ fun a => by fin_cases a <;> simp
  have e2 := View.canon_cons_emb (Val := Elt Ideal) (e := .f32) (Rect.unit (s := S1x512) ![0, 0] S1x512.size (by decide))
    (kernelRun0_A.sl.v1843 (F := Ideal)) [] y
  rw [e] at e2
  refine e2.trans ?_
  pointwise [kernelRun0_A.sl.v1843, kernelRun0_A.sl.cst_1122]

variable {m : (ℓ : Loc nD τ sig) → Buf (Elt Ideal) ℓ} {c : Dev nD}

theorem gainStep_same (t : Fin cfg0.N) (L : List (View.Piece (Elt Ideal) S1x512 .f32)) (h : Fin 4) (e : Fin 128) :
    View.canon (gainStep m c t L h) (ix2 0 (hcol h e)) = (loadsA m c t L h).dgain (ix2 0 e) := by
  rw [← rowR_emb]; exact View.canon_cons_emb _ _ _ _

theorem gainStep_other (t : Fin cfg0.N) (L : List (View.Piece (Elt Ideal) S1x512 .f32)) (h h' : Fin 4) (hh : h' ≠ h) (e : Fin 128) :
    View.canon (gainStep m c t L h) (ix2 0 (hcol h' e)) = View.canon L (ix2 0 (hcol h' e)) := by
  refine View.canon_cons_of_not_mem _ _ (Rect.not_mem_set_of_axis (rowR h) _ 1 (128 * h.val) 128 rfl rfl rfl ?_)
  have : h'.val ≠ h.val := fun e => hh (Fin.ext e)
  simp only [ix2_1, hcol]; omega

theorem loadsA_acc (t : Fin cfg0.N) (L : List (View.Piece (Elt Ideal) S1x512 .f32)) (h : Fin 4) (e : Fin 128) :
    (loadsA m c t L h).acc (ix2 0 e) = View.canon L (ix2 0 (hcol h e)) := by
  refine (congrFun (View.readCov_eq_canon' (ms0_29 t).view L (rowR h).toLoadRect) (ix2 0 e)).trans ?_
  exact congrArg (View.canon L) (rowR_emb h e)

variable {X : Args} (H : Holds m c X)
include H

theorem readsA (t : Fin cfg0.N) (h0 : t.val % 17 = 0) (L : List (View.Piece (Elt Ideal) S1x512 .f32)) (h : Fin 4) :
    (loadsA m c t L h).Reads X (chunkOf t).val h :=
  reads t H _ _ h fun d e => by
    refine (congrFun (View.readCov_eq_canon' scM0_5.view _ (headR h).toLoadRect) (ix3 0 d e)).trans ?_
    have h1 := le16 t
    rw [zero_state, show t.val = 0 by omega]; exact EReal.coe_zero.symm

theorem firstA_reads (t : Fin cfg0.N) (h0 : t.val % 17 = 0) (h : Fin 4) : (firstA m c t h).Reads X (chunkOf t).val h := by
  fin_cases h
  · exact readsA H t h0 _ 0
  · exact readsA H t h0 _ 1
  · exact readsA H t h0 _ 2
  · exact readsA H t h0 _ 3

theorem gainStep_at (t : Fin cfg0.N) (h0 : t.val % 17 = 0) (L : List (View.Piece (Elt Ideal) S1x512 .f32)) (h : Fin 4) (e : Fin 128)
    (hL : View.canon L (ix2 0 (hcol h e)) = 0) : View.canon (gainStep m c t L h) (ix2 0 (hcol h e)) = ((dgp X (chunkOf t).val h e : ℝ) : EReal) := by
  rw [gainStep_same, Blk.dgain_at (readsA H t h0 L h), loadsA_acc, hL, zero_add]

theorem gain4_at (t : Fin cfg0.N) (h0 : t.val % 17 = 0) (h : Fin 4) (e : Fin 128) :
    View.canon (gain4 m c t) (ix2 0 (hcol h e)) = ((dgp X (chunkOf t).val h e : ℝ) : EReal) := by
  unfold gain4 gain3 gain2 gain1
  fin_cases h
  · rw [gainStep_other _ _ _ _ (by decide), gainStep_other _ _ _ _ (by decide), gainStep_other _ _ _ _ (by decide)]
    exact gainStep_at H t h0 _ 0 e (zero_gain _)
  · rw [gainStep_other _ _ _ _ (by decide), gainStep_other _ _ _ _ (by decide)]
    exact gainStep_at H t h0 _ 1 e (by rw [gainStep_other _ _ _ _ (by decide)]; exact zero_gain _)
  · rw [gainStep_other _ _ _ _ (by decide)]
    exact gainStep_at H t h0 _ 2 e (by rw [gainStep_other _ _ _ _ (by decide), gainStep_other _ _ _ _ (by decide)]; exact zero_gain _)
  · exact gainStep_at H t h0 _ 3 e (by rw [gainStep_other _ _ _ _ (by decide), gainStep_other _ _ _ _ (by decide), gainStep_other _ _ _ _ (by decide)]; exact zero_gain _)

omit H in
/-- What the points up to `t` leave: the chunk's gradients, the state's gradient, the gain's gradient so far. -/
structure Leaves (X : Args) (t : ℕ) (l : Left Ideal) : Prop where
  out : ∀ (j h : Fin 4) (r d : Fin 128), l.o25 (ix2 r (col j h d)) = ((grad X j (16 - t) h r d : ℝ) : EReal)
  state : ∀ (h : Fin 4) (d e : Fin 128), l.s5 (ix3 h d e) = ((E X (t + 1) h d e : ℝ) : EReal)
  gain : ∀ (h : Fin 4) (e : Fin 128), l.o29 (ix2 0 (hcol h e)) = ((∑ i ∈ Finset.range (t + 1), dgp X (16 - i) h e : ℝ) : EReal)

section
omit H
variable (t : Fin cfg0.N)

theorem o25_A (h0 : t.val % 17 = 0) : (leftA m c t h0).o25 = View.canon (runA m c t h0).1 := by
  unfold leftA; exact View.read_writes_junk_eq_canon (Val := Elt Ideal) VO0_25 _
theorem s5_A (h0 : t.val % 17 = 0) : (leftA m c t h0).s5 = View.canon (runA m c t h0).2.2.2.2.2.2.2.1 := by
  unfold leftA; exact View.read_writes_junk_eq_canon (Val := Elt Ideal) VS0_5 _
theorem o29_A (h0 : t.val % 17 = 0) : (leftA m c t h0).o29 = View.canon (runA m c t h0).2.2.2.2.1 := by
  unfold leftA; exact View.read_writes_junk_eq_canon (Val := Elt Ideal) VO0_29 _
theorem o25_B (h0 : ¬t.val % 17 = 0) (p : Left Ideal) : (leftB m c t h0 p).o25 = View.canon (runB m c t h0 p).1 := by
  unfold leftB; exact View.read_writes_junk_eq_canon (Val := Elt Ideal) VO0_25 _
theorem s5_B (h0 : ¬t.val % 17 = 0) (p : Left Ideal) : (leftB m c t h0 p).s5 = View.canon (runB m c t h0 p).2.2.2.2.2.2.2.1 := by
  unfold leftB; exact View.read_writes_junk_eq_canon (Val := Elt Ideal) VS0_5 _
theorem o29_B (h0 : ¬t.val % 17 = 0) (p : Left Ideal) : (leftB m c t h0 p).o29 = View.canon (runB m c t h0 p).2.2.2.2.1 := by
  unfold leftB; exact View.read_writes_junk_eq_canon (Val := Elt Ideal) VO0_29 _
end

theorem leaves_A (t : Fin cfg0.N) (h0 : t.val % 17 = 0) : Leaves X t.val (leftA m c t h0) := by
  have h1 := le16 t
  refine ⟨fun j h r d => ?_, fun h d e => ?_, fun h e => ?_⟩
  · rw [o25_A, outs_A]
    exact outs_at (firstA_reads H t h0) _ j h r d
  · rw [s5_A, nexts_A]
    refine (nexts_at (firstA_reads H t h0) (by simp only [chunkOf]; omega) _ h d e).trans ?_
    rw [show 17 - (chunkOf t).val = t.val + 1 by simp only [chunkOf]; omega]
  · rw [o29_A, gains_A]
    refine (gain4_at H t h0 h e).trans ?_
    simp only [chunkOf, show t.val = 0 by omega, zero_add, Finset.range_one, Finset.sum_singleton]

theorem leaves_B (t : Fin cfg0.N) (h0 : ¬t.val % 17 = 0) (p : Left Ideal) (P : Leaves X (t.val - 1) p) : Leaves X t.val (leftB m c t h0 p) := by
  have h1 := le16 t
  have hz : t.val ≠ 0 := fun e => h0 (by rw [e])
  have R : ∀ h, (loadsB m c t p h).Reads X (chunkOf t).val h := fun h => reads t H _ _ h fun d e => by
    refine (load_at (Memref.isWhole_whole cc0_scratch5) p.s5 _ _ _ _ (ix3 h d e) (fun a => by fin_cases a <;> simp)).trans ?_
    rw [P.state, show t.val - 1 + 1 = t.val by omega]
  refine ⟨fun j h r d => ?_, fun h d e => ?_, fun h e => ?_⟩
  · rw [o25_B, outs_B]
    exact outs_at R _ j h r d
  · rw [s5_B, nexts_B]
    refine (nexts_at R (by simp only [chunkOf]; omega) _ h d e).trans ?_
    rw [show 17 - (chunkOf t).val = t.val + 1 by simp only [chunkOf]; omega]
  · rw [o29_B, gains_B]
    refine gains_at (G := fun h e => ((∑ i ∈ Finset.range (t.val + 1), dgp X (16 - i) h e : ℝ) : EReal)) (fun h e => ?_) _ h e
    rw [Blk.dgain_at (R h)]
    have ea : (loadsB m c t p h).acc (ix2 0 e) = p.o29 (ix2 0 (hcol h e)) :=
      load_at (hs0_29 t) p.o29 _ _ _ _ (ix2 0 (hcol h e)) (fun a => by fin_cases a <;> simp [hcol])
    rw [ea, P.gain, show t.val - 1 + 1 = t.val by omega, ← EReal.coe_add, Finset.sum_range_succ]; rfl

theorem leaves (n : ℕ) (hn : n < cfg0.N) : Leaves X n (left m c n hn) := by
  induction n with
  | zero => exact leaves_A H ⟨0, hn⟩ (Nat.zero_mod _)
  | succ n ih =>
    rw [left_B m c ⟨n + 1, hn⟩ (by have := le16 ⟨n + 1, hn⟩; simp only at this ⊢; omega)]
    exact leaves_B H ⟨n + 1, hn⟩ _ _ (ih _)

end Cert.Ret.Kernel

end
-- ==== Proof.RetFinal.lean ====
/- The arrays that the mixer's backward kernel leaves: the retention columns of the projection's gradient, and the gain's gradient. -/
module

public import proofs.«01_k».proof.Proof.RetKernel

@[expose] public section

set_option maxRecDepth 16384

noncomputable section

open Idealize.ShloMosaic Idealize.ShloMosaic.TcCoe Idealize.SL.Sem
open Idealize.ShloMosaic.Pipeline (Dat)

namespace Cert.Ret.Final

open Cert.Kernel2Ideal Cert.Kernel2Ideal.Gen Cert.Ret Cert.Ret.Host Cert.Ret.Point Cert.Ret.Frame Cert.Ret.Kernel

variable (m : (ℓ : Loc nD τ sig) → Buf (Elt Ideal) ℓ) (c : Dev nD)

/-- The point that handles a row, and the row's place in its block. -/
def pointOf (R : Fin 2176) : Fin cfg0.N := ⟨16 - R.val / 128, by have : cfg0.N = 17 := N_0; omega⟩

/-- The gradient's array as the points leave it, block by block. -/
def gradArr (y : S2176x3072.Idx) : EReal :=
  (left m c (pointOf (y 0)).val (pointOf (y 0)).isLt).o25 (ix2 ⟨(y 0).val % 128, Nat.mod_lt _ (by norm_num)⟩ (y 1))

theorem gradArr_row (t : Fin cfg0.N) (r : Fin 128) (k : Fin 3072) : gradArr m c (ix2 (rowAt t r) k) = (left m c t.val t.isLt).o25 (ix2 r k) := by
  have h1 := le16 t
  have e1 : pointOf (rowAt t r) = t := Fin.ext (by simp only [pointOf, rowAt, chunkOf]; omega)
  have e2 : (⟨(rowAt t r).val % 128, Nat.mod_lt _ (by norm_num)⟩ : Fin 128) = r := Fin.ext (by simp only [rowAt]; omega)
  show (left m c (pointOf (rowAt t r)).val (pointOf (rowAt t r)).isLt).o25 (ix2 ⟨(rowAt t r).val % 128, _⟩ k) = _
  rw [e2]
  simp only [e1]

theorem final25 : (dats m 0 c).arrAt 25 (cfgs 0).N = (gradArr m c : S2176x3072.Idx → EReal) := by
  refine (dats m 0 c).arrAt_eq_of_covers 25 _ (by decide +kernel) fun t _ y => ?_
  blk_simp
  rw [after_25]
  refine Eq.trans ?_ ((gradArr_row m c t (y 0) (y 1)).symm.trans ?_)
  · exact congrArg _ (eq_ix2 y)
  · unfold rowAt chunkOf; blk_ext [idx t]

/-- The last point. -/
def tLast : Fin cfg0.N := ⟨16, by have : cfg0.N = 17 := N_0; omega⟩

theorem final29 : (dats m 0 c).arrAt 29 (cfgs 0).N = ((left m c 16 tLast.isLt).o29 : S1x512.Idx → EReal) := by
  refine (dats m 0 c).arrAt_eq_of_after_last 29 tLast (by decide +kernel) _ fun i => ?_
  blk_simp
  rw [after_29]; rfl

variable {m c} {X : Args} (H : Holds m c X)
include H

/-- A retention column of the projection's gradient. -/
theorem grad_at (j : Fin 4) (n : Fin 17) (r : Fin 128) (h : Fin 4) (d : Fin 128) (R : Fin 2176) (hR : R.val = 128 * n.val + r.val) :
    (dats m 0 c).arrAt 25 (cfgs 0).N (ix2 R (col j h d)) = ((grad X j n.val h r d : ℝ) : EReal) := by
  rw [final25]
  have hn := n.isLt
  obtain ⟨t, ht⟩ : ∃ t : Fin cfg0.N, t.val = 16 - n.val := ⟨⟨16 - n.val, by have : cfg0.N = 17 := N_0; omega⟩, rfl⟩
  obtain rfl : R = rowAt t r := Fin.ext (by simp only [rowAt, chunkOf]; omega)
  rw [gradArr_row, (leaves H t.val t.isLt).out, ht, show 16 - (16 - n.val) = n.val by omega]

/-- The gain's gradient. -/
theorem dgain_at (h : Fin 4) (e : Fin 128) : (dats m 0 c).arrAt 29 (cfgs 0).N (ix2 0 (hcol h e)) = ((dgain X h e : ℝ) : EReal) := by
  rw [final29, (leaves H 16 tLast.isLt).gain]
  congr 1
  rw [dgain, Fin.sum_univ_eq_sum_range (fun n => dgp X n h e) 17]
  exact Finset.sum_range_reflect (fun n => dgp X n h e) 17

end Cert.Ret.Final

end
-- ==== Proof.RetRefBack.lean ====
/- The reference of the retention half, read operation by operation: its backward operations, from the forward values that
   `RetRef` reads. -/
module

public import proofs.«01_k».proof.Proof.Gen.Reference2Ideal.Read
public import proofs.«01_k».proof.Proof.RetRef
public import Idealize.ShloMosaic.Lib.Pointwise
public import Idealize.ShloMosaic.Lib.ValueIdx
public import Idealize.ShloMosaic.Lib.IdealHost

@[expose] public section

set_option maxRecDepth 16384

noncomputable section

namespace Cert.Ret.Ref

open Idealize.ShloMosaic Cert.Reference2Ideal Cert.Reference2Ideal.Read

variable {x0 : (⟨S2064x3072, .f32⟩ : BufTy).Contents (Elt Ideal)} {x9 : (⟨S512, .f32⟩ : BufTy).Contents (Elt Ideal)}
  {x10 : (⟨S2064x1024, .f32⟩ : BufTy).Contents (Elt Ideal)} {X : Args} (H : Holds x0 x9 x10 X)
include H

theorem silu_at (t : Fin 2064) (h : Fin 4) (e : Fin 128) :
    val_main_v293_0 (F := Ideal) x0 (ix2 t (hcol h e)) = ((Ret.silu X (nOf t) h (rOf t) e : ℝ) : EReal) := by
  pointwise [val_main_v293_0]
  rw [g_at H, sg_at H, ← EReal.coe_mul]; rfl

theorem gain_at (t : Fin 2064) (h : Fin 4) (e : Fin 128) : val_main_v291 (F := Ideal) x9 (ix2 t (hcol h e)) = ((gn X h e : ℝ) : EReal) := by
  pointwise [val_main_v290, val_main_v291]
  exact H.gain _

/-- The gradient of the gate. -/
theorem dg_at (t : Fin 2064) (h : Fin 4) (e : Fin 128) :
    val_main_v298 (F := Ideal) x0 x9 x10 (ix2 t (hcol h e)) = ((Ret.dg X (nOf t) h (rOf t) e : ℝ) : EReal) := by
  pointwise [val_main_v298, val_main_call2_v2, val_main_call2_v1, val_main_call2_v0, val_main_v297, val_main_v292, val_main_v293_1,
    val_main_call1_v7, val_main_call1_v6, val_main_call1_cst_1]
  rw [g_at H, sg_at H, gain_at H, dout_at H, ynf_at H, ← EReal.coe_one]
  simp only [← EReal.coe_mul, ← EReal.coe_add, ← EReal.coe_sub]
  congr 1; unfold Ret.dg; ring

theorem dyn_at (t : Fin 2064) (h : Fin 4) (e : Fin 128) :
    val_main_v305 (F := Ideal) x0 x9 x10 (ix3 t h e) = ((Ret.dyn X (nOf t) h (rOf t) e : ℝ) : EReal) := by
  have e1 : val_main_v305 (F := Ideal) x0 x9 x10 (ix3 t h e) = val_main_v293_0 (F := Ideal) x0 (ix2 t (hcol h e))
      * val_main_v295 (F := Ideal) x10 (ix2 t (hcol h e)) * val_main_v291 (F := Ideal) x9 (ix2 t (hcol h e)) := by
    pointwise [val_main_v305, val_main_v303, val_main_v302, val_main_v296, val_main_v291]
    simp only [show ∀ p, (⟨h.val * 128 + e.val, p⟩ : Fin 512) = hcol h e from fun p => Fin.ext (by simp only [hcol]; omega)]
  rw [e1, silu_at H, dout_at H, gain_at H, ← EReal.coe_mul, ← EReal.coe_mul]
  congr 1; unfold Ret.dyn; ring

/-- The gradient of the row before the norm. -/
theorem dy_at (t : Fin 2064) (h : Fin 4) (e : Fin 128) :
    val_main_v329 (F := Ideal) x0 x9 x10 (ix3 t h e) = ((Ret.dy X (nOf t) h (rOf t) e : ℝ) : EReal) := by
  rw [← dy_eq]
  pointwise [val_main_v273, val_main_v274, val_main_v306, val_main_v307, val_main_v308, val_main_v309,
    val_main_v310, val_main_v311, val_main_v312, val_main_v313, val_main_v314, val_main_v315,
    val_main_v316, val_main_v317, val_main_v318, val_main_v319, val_main_v320, val_main_v321,
    val_main_v322, val_main_v323, val_main_v324, val_main_v325, val_main_v326, val_main_v327,
    val_main_v328, val_main_v329, val_main_cst_21, val_main_cst_28, val_main_cst_29, val_main_cst_30,
    val_main_cst_31, val_main_cst_32, val_main_cst_33, val_main_cst_34]
  simp only [Fin.sum_univ_one, dyn_at H, rs_at H, yc_at H, yc'_at H, drs_at H, ofBits_128, ofBits_two, ← EReal.coe_mul, Reals.coe_sum,
    div_128, ← EReal.coe_neg, ← EReal.coe_add]

theorem dgain_at (h : Fin 4) (e : Fin 128) :
    val_main_v538 (F := Ideal) x0 x10 (ix2 0 (hcol h e)) = ((Ret.dgain X h e : ℝ) : EReal) := by
  pointwise [val_main_v538, val_main_v304, val_main_v301, val_main_v300, val_main_v299, val_main_v296,
    val_main_cst_26, val_main_cst_27]
  simp only [Fin.sum_univ_one, ynf_at H, silu_at H, dout_at H, ← EReal.coe_mul, Reals.coe_sum]
  rw [sum_rows (fun n r => Ret.yn X n h r e * (Ret.silu X n h r e * dout X n h r e)) (fun n r hp => by simp only [dout_pad hp, mul_zero])]
  congr 1
  exact Finset.sum_congr rfl fun n _ => Finset.sum_congr rfl fun r _ => by ring

theorem dyc_at (n : Fin 17) (r : Fin 128) (h : Fin 4) (e : Fin 128) :
    val_main_v331 (F := Ideal) x0 x9 x10 (ix4 n r h e) = ((Ret.dy X n.val h r e : ℝ) : EReal) := by
  pointwise [val_main_v331, val_main_v330, val_main_cst_35]
  by_cases hp : 128 * n.val + r.val < 112
  · rw [dif_neg (by omega), dy_pad hp]; rfl
  · rw [dif_pos (by omega), dy_at H]
    obtain ⟨e1, e2⟩ := of_row (t := ⟨n.val * 128 + r.val - 112, by omega⟩) (n := n.val) (r := r) (by simp only; omega)
    rw [e1, e2]

theorem dqs_at (n : Fin 17) (r : Fin 128) (h : Fin 4) (e : Fin 128) :
    val_main_v333 (F := Ideal) x0 x9 x10 (ix4 n r h e) = ((Ret.dqs X n.val h r e : ℝ) : EReal) := by
  pointwise [val_main_v259, val_main_v260, val_main_v332, val_main_v333]
  rw [dyc_at H, xi_at, ← EReal.coe_mul]; rfl

theorem dst_at (n : Fin 17) (h : Fin 4) (d e : Fin 128) :
    val_main_v338 (F := Ideal) x0 x9 x10 (ix4 n h d e) = ((Ret.dst X n.val h d e : ℝ) : EReal) := by
  pointwise [val_main_v334, val_main_v337, val_main_v338]
  simp only [dqs_at H, qc_at H, ← EReal.coe_mul, Reals.coe_sum]
  unfold Ret.dst; simp only [mul_comm]

/-- The gradients of the states, stacked. -/
theorem E_at (n : Fin 17) (h : Fin 4) (d e : Fin 128) :
    val_main_v465 (F := Ideal) x0 x9 x10 (ix4 n h d e) = ((E X (16 - n.val) h d e : ℝ) : EReal) := by
  have h0 : ((0 : ℝ) : EReal) = 0 := EReal.coe_zero
  fin_cases n <;> pointwise [val_main_v140, val_main_v146, val_main_v152, val_main_v158, val_main_v164, val_main_v170,
    val_main_v176, val_main_v182, val_main_v188, val_main_v194, val_main_v200, val_main_v206,
    val_main_v212, val_main_v218, val_main_v224, val_main_v230, val_main_v339, val_main_v340,
    val_main_v341, val_main_v342, val_main_v343, val_main_v344, val_main_v345, val_main_v346,
    val_main_v347, val_main_v348, val_main_v349, val_main_v350, val_main_v351, val_main_v352,
    val_main_v353, val_main_v354, val_main_v355, val_main_v356, val_main_v357, val_main_v358,
    val_main_v359, val_main_v360, val_main_v361, val_main_v362, val_main_v363, val_main_v364,
    val_main_v365, val_main_v366, val_main_v367, val_main_v368, val_main_v369, val_main_v370,
    val_main_v371, val_main_v372, val_main_v373, val_main_v374, val_main_v375, val_main_v376,
    val_main_v377, val_main_v378, val_main_v379, val_main_v380, val_main_v381, val_main_v382,
    val_main_v383, val_main_v384, val_main_v385, val_main_v386, val_main_v387, val_main_v388,
    val_main_v389, val_main_v390, val_main_v391, val_main_v392, val_main_v393, val_main_v394,
    val_main_v395, val_main_v396, val_main_v397, val_main_v398, val_main_v399, val_main_v400,
    val_main_v401, val_main_v402, val_main_v403, val_main_v404, val_main_v405, val_main_v406,
    val_main_v407, val_main_v408, val_main_v409, val_main_v410, val_main_v411, val_main_v412,
    val_main_v413, val_main_v414, val_main_v415, val_main_v416, val_main_v417, val_main_v418,
    val_main_v419, val_main_v420, val_main_v421, val_main_v422, val_main_v423, val_main_v424,
    val_main_v425, val_main_v426, val_main_v427, val_main_v428, val_main_v429, val_main_v430,
    val_main_v431, val_main_v432, val_main_v433, val_main_v434, val_main_v435, val_main_v436,
    val_main_v437, val_main_v438, val_main_v439, val_main_v440, val_main_v441, val_main_v442,
    val_main_v443, val_main_v444, val_main_v445, val_main_v446, val_main_v447, val_main_v448,
    val_main_v449, val_main_v450, val_main_v451, val_main_v452, val_main_v453, val_main_v454,
    val_main_v455, val_main_v456, val_main_v457, val_main_v458, val_main_v459, val_main_v460,
    val_main_v461, val_main_v462, val_main_v463, val_main_v464, val_main_v465, val_main_cst_36,
    val_main_cst_37, val_main_cst_38, val_main_cst_39, val_main_cst_40, val_main_cst_41, val_main_cst_42,
    val_main_cst_43, val_main_cst_44, val_main_cst_45, val_main_cst_46, val_main_cst_47, val_main_cst_48,
    val_main_cst_49, val_main_cst_50, val_main_cst_51, val_main_cst_52, val_main_cst_53, val_main_cst_54,
    val_main_cst_55, val_main_cst_56, val_main_cst_57, val_main_cst_58, val_main_cst_59, val_main_cst_60,
    val_main_cst_61, val_main_cst_62, val_main_cst_63, val_main_cst_64, val_main_cst_65, val_main_cst_66,
    val_main_cst_67] <;>
    simp only [Fin.sum_univ_one, dst_at H, gc_at, E_step, E_zero, zero_mul, add_zero, Nat.reduceSub, EReal.coe_mul, EReal.coe_add, EReal.coe_zero] <;>
    rfl

theorem dv_at (n : Fin 17) (s : Fin 128) (h : Fin 4) (e : Fin 128) :
    val_main_v476 (F := Ideal) x0 x9 x10 (ix4 n s h e) = ((Ret.dv X n.val h s e : ℝ) : EReal) := by
  pointwise [val_main_v466, val_main_v467, val_main_v472, val_main_v474, val_main_v475, val_main_v476]
  simp only [E_at H, kz_at H, dyc_at H, sc_at H, ← EReal.coe_mul, Reals.coe_sum, ← EReal.coe_add]
  congr 1; unfold Ret.dv; rw [add_comm]; simp only [mul_comm]

theorem dp_at (n : Fin 17) (h : Fin 4) (r s : Fin 128) :
    val_main_v478 (F := Ideal) x0 x9 x10 (ix4 n h r s) = ((Ret.dp X n.val h r s : ℝ) : EReal) := by
  pointwise [val_main_v123, val_main_v472, val_main_v473, val_main_v477, val_main_v478]
  simp only [dyc_at H, vc_at H, dm_at, ← EReal.coe_mul, Reals.coe_sum]; rfl

theorem dkr_at (n : Fin 17) (s : Fin 128) (h : Fin 4) (d : Fin 128) :
    val_main_v481 (F := Ideal) x0 x9 x10 (ix4 n s h d) = ((Ret.dkr X n.val h s d : ℝ) : EReal) := by
  pointwise [val_main_v128, val_main_v129, val_main_v468, val_main_v469, val_main_v470, val_main_v471,
    val_main_v479, val_main_v480, val_main_v481]
  simp only [E_at H, vc_at H, zt_at, dp_at H, qc_at H, ← EReal.coe_mul, Reals.coe_sum, ← EReal.coe_add]
  congr 1; unfold Ret.dkr; rw [add_comm]; congr 2; simp only [mul_comm]

theorem dqr_at (n : Fin 17) (r : Fin 128) (h : Fin 4) (d : Fin 128) :
    val_main_v484 (F := Ideal) x0 x9 x10 (ix4 n r h d) = ((Ret.dqr X n.val h r d : ℝ) : EReal) := by
  pointwise [val_main_v334, val_main_v335, val_main_v336, val_main_v482, val_main_v483, val_main_v484]
  simp only [dqs_at H, state_at H, dp_at H, kc_at H, ← EReal.coe_mul, Reals.coe_sum, ← EReal.coe_add]
  congr 1; unfold Ret.dqr; rw [add_comm]

/-- The three gradients at a row of the sequence. -/
theorem dvr_at (t : Fin 2064) (h : Fin 4) (e : Fin 128) :
    val_main_v487 (F := Ideal) x0 x9 x10 (ix3 t h e) = ((Ret.dv X (nOf t) h (rOf t) e : ℝ) : EReal) := by
  pointwise [val_main_v485, val_main_v487]
  obtain ⟨e1, e2⟩ := row_split t (by omega) (by omega)
  rw [dv_at H, e1, e2]

theorem dkt_at (t : Fin 2064) (h : Fin 4) (e : Fin 128) :
    val_main_v496 (F := Ideal) x0 x9 x10 (ix3 t h e) = ((Ret.dkr X (nOf t) h (rOf t) e * scale : ℝ) : EReal) := by
  pointwise [val_main_v488, val_main_v490, val_main_v495, val_main_v496, val_main_cst_68]
  obtain ⟨e1, e2⟩ := row_split t (by omega) (by omega)
  rw [dkr_at H, e1, e2, ofBits_scale, ← EReal.coe_mul]

theorem dqt_at (t : Fin 2064) (h : Fin 4) (e : Fin 128) :
    val_main_v493 (F := Ideal) x0 x9 x10 (ix3 t h e) = ((Ret.dqr X (nOf t) h (rOf t) e : ℝ) : EReal) := by
  pointwise [val_main_v491, val_main_v493]
  obtain ⟨e1, e2⟩ := row_split t (by omega) (by omega)
  rw [dqr_at H, e1, e2]

theorem dk_at (t : Fin 2064) (h : Fin 4) (d : Fin 128) :
    val_main_v512 (F := Ideal) x0 x9 x10 (ix3 t h d) = ((Ret.dk X (nOf t) h (rOf t) d : ℝ) : EReal) := by
  pointwise [val_main_v48, val_main_v50, val_main_v497, val_main_v498, val_main_v499, val_main_v500,
    val_main_v501, val_main_v502, val_main_v503, val_main_v504, val_main_v505, val_main_v506,
    val_main_v507, val_main_v508, val_main_v509, val_main_v510, val_main_v511, val_main_v512,
    val_main_cst_69, val_main_cst_70]
  unfold Ret.dk
  by_cases hd : d.val < 64
  · rw [dif_neg (by omega), dif_pos hd, dkt_at H, dkt_at H, cosk_at t _ d (by simp only; omega), sink_at t _ d (by simp only; omega),
      turn_lo d hd, rotT_lo _ _ _ _ hd, zero_add, ← EReal.coe_mul, ← EReal.coe_mul, ← EReal.coe_add]
    congr 1; ring
  · rw [dif_pos (by omega), dif_neg hd, dkt_at H, dkt_at H, cosk_at t _ d (by simp only; omega), sink_at t _ d (by simp only; omega),
      turn_hi d hd, back_hi d hd, rotT_hi _ _ _ _ hd, add_zero, ← EReal.coe_neg, ← EReal.coe_mul, ← EReal.coe_mul, ← EReal.coe_add]
    congr 1; ring

theorem dq_at (t : Fin 2064) (h : Fin 4) (d : Fin 128) :
    val_main_v529 (F := Ideal) x0 x9 x10 (ix3 t h d) = ((Ret.dq X (nOf t) h (rOf t) d : ℝ) : EReal) := by
  pointwise [val_main_v19, val_main_v21, val_main_v514, val_main_v515, val_main_v516, val_main_v517,
    val_main_v518, val_main_v519, val_main_v520, val_main_v521, val_main_v522, val_main_v523,
    val_main_v524, val_main_v525, val_main_v526, val_main_v527, val_main_v528, val_main_v529,
    val_main_cst_71, val_main_cst_72]
  unfold Ret.dq
  by_cases hd : d.val < 64
  · rw [dif_neg (by omega), dif_pos hd, dqt_at H, dqt_at H, cos_at t _ d (by simp only; omega), sin_at t _ d (by simp only; omega),
      turn_lo d hd, rotT_lo _ _ _ _ hd, zero_add, ← EReal.coe_mul, ← EReal.coe_mul, ← EReal.coe_add]
  · rw [dif_pos (by omega), dif_neg hd, dqt_at H, dqt_at H, cos_at t _ d (by simp only; omega), sin_at t _ d (by simp only; omega),
      turn_hi d hd, back_hi d hd, rotT_hi _ _ _ _ hd, add_zero, ← EReal.coe_neg, ← EReal.coe_mul, ← EReal.coe_mul, ← EReal.coe_add]

/-- The gradient of the projection at a row of the sequence. -/
theorem grad_at (j : Fin 4) (t : Fin 2064) (h : Fin 4) (d : Fin 128) :
    val_main_v532 (F := Ideal) x0 x9 x10 (ix2 t (col j h d)) = ((grad X j (nOf t) h (rOf t) d : ℝ) : EReal) := by
  have hc : (col j h d).val = 1024 + 512 * j.val + 128 * h.val + d.val := rfl
  generalize col j h d = c at hc ⊢
  fin_cases j <;> pointwise [val_main_v494, val_main_v513, val_main_v530, val_main_v531, val_main_v532, val_main_cst_73] <;> simp only at hc
  · rw [dif_pos (by omega), dif_pos (by omega)]
    exact (congrArg₂ (fun a b => val_main_v529 (F := Ideal) x0 x9 x10 (ix3 t a b)) (Fin.ext (by simp only; omega))
      (Fin.ext (by simp only; omega))).trans (dq_at H t h d)
  · rw [dif_pos (by omega), dif_neg (by omega), dif_pos (by omega)]
    exact (congrArg₂ (fun a b => val_main_v512 (F := Ideal) x0 x9 x10 (ix3 t a b)) (Fin.ext (by simp only; omega))
      (Fin.ext (by simp only; omega))).trans (dk_at H t h d)
  · rw [dif_pos (by omega), dif_neg (by omega), dif_neg (by omega), dif_pos (by omega)]
    exact (congrArg₂ (fun a b => val_main_v487 (F := Ideal) x0 x9 x10 (ix3 t a b)) (Fin.ext (by simp only; omega))
      (Fin.ext (by simp only; omega))).trans (dvr_at H t h d)
  · rw [dif_pos (by omega), dif_neg (by omega), dif_neg (by omega), dif_neg (by omega)]
    exact (congrArg (fun a => val_main_v298 (F := Ideal) x0 x9 x10 (ix2 t a)) (Fin.ext (by simp only [hcol]; omega))).trans (dg_at H t h d)

/-- The gradient of the projection with its padding. -/
theorem out_at (j : Fin 4) (n : Fin 17) (r : Fin 128) (h : Fin 4) (d : Fin 128) (R : Fin 2176) (hR : R.val = 128 * n.val + r.val) :
    val_main_v536 (F := Ideal) x0 x9 x10 (ix2 R (col j h d)) = ((grad X j n.val h r d : ℝ) : EReal) := by
  pointwise [val_main_v534, val_main_v535, val_main_v536, val_main_cst_75]
  by_cases hp : 128 * n.val + r.val < 112
  · rw [dif_pos (by omega), grad_pad hp]; rfl
  · rw [dif_neg (by omega), grad_at H]
    obtain ⟨e1, e2⟩ := of_row (t := ⟨R.val - 112, by omega⟩) (n := n.val) (r := r) (by simp only; omega)
    rw [e1, e2]

end Cert.Ret.Ref

end
-- ==== Proof.Ret.lean ====
/- The retention half of the mixer's backward kernel against the derivative of the forward lines: the value claim. -/
module

public import proofs.«01_k».proof.Defs
public import proofs.«01_k».proof.Proof.Gen.Pre_ret_finite
public import proofs.«01_k».proof.Proof.Gen.On_ret_part
public import proofs.«01_k».proof.Proof.Rms
public import proofs.«01_k».proof.Proof.RetFinal
public import proofs.«01_k».proof.Proof.RetRefBack
public import Idealize.ShloMosaic.Lib.Claim

@[expose] public section

set_option maxRecDepth 16384

noncomputable section

open Idealize.ShloMosaic Idealize.ShloMosaic.TcCoe Idealize.SL.Sem

namespace Cert.Ret.Claims

open Cert.Kernel2Ideal Cert.Kernel2Ideal.Gen Cert.Ret Cert.Ret.Host Cert.Ret.Frame

variable {m : (ℓ : Loc nD τ sig) → Buf (Elt Ideal) ℓ}

/-- The arguments as real numbers. -/
def reals (m : (ℓ : Loc nD τ sig) → Buf (Elt Ideal) ℓ) (c : Dev nD) : Args where
  proj t k := (aProj m c (ix2 t k)).toReal
  gain k := (aGain m c (ix1 k)).toReal
  ct t k := (aCt m c (ix2 t k)).toReal

theorem holds (hpre : Cert.Pre_Kernel2Ideal_ret_finite m) (c : Dev nD) : Host.Holds m c (reals m c) where
  proj t k := (Cert.RmsProof.real_of_cmp (aProj m c) (ix2 t k) _ rfl (hpre c).1).symm
  gain k := (Cert.RmsProof.real_of_cmp (aGain m c) (ix1 k) _ rfl (hpre c).2.1).symm
  ct t k := (Cert.RmsProof.real_of_cmp (aCt m c) (ix2 t k) _ rfl (hpre c).2.2).symm

theorem ref_holds (hpre : Cert.Pre_Kernel2Ideal_ret_finite m) (c : Dev nD) : Ref.Holds (aProj m c) (aGain m c) (aCt m c) (reals m c) where
  proj := (holds hpre c).proj
  gain := (holds hpre c).gain
  ct := (holds hpre c).ct

/-- The retention columns of the projection's gradient, in the kernel's array and in the derivative's. -/
theorem grad_eq (hpre : Cert.Pre_Kernel2Ideal_ret_finite m) (c : Dev nD) (i : S2176x3072.Idx) (hi : 1024 ≤ (i 1).val) :
    (Cert.Reference2Ideal.Read.val_main_v536 (F := Ideal) (aProj m c) (aGain m c) (aCt m c) i : EReal) = (dats m 0 c).arrAt 25 (cfgs 0).N i := by
  have h0 : (i 0).val < 2176 := (i 0).isLt
  have h1 : (i 1).val < 3072 := (i 1).isLt
  have ei : i = ix2 (i 0) (col ⟨((i 1).val - 1024) / 512, by omega⟩ ⟨((i 1).val - 1024) % 512 / 128, by omega⟩ ⟨(i 1).val % 128, by omega⟩) := by
    refine (eq_ix2 i).trans (congrArg (ix2 (i 0)) (Fin.ext ?_))
    simp only [col]; omega
  rw [ei]
  exact (Ref.out_at (ref_holds hpre c) _ ⟨(i 0).val / 128, by omega⟩ ⟨(i 0).val % 128, by omega⟩ _ _ (i 0) (by simp only; omega)).trans
    (Final.grad_at (holds hpre c) _ ⟨(i 0).val / 128, by omega⟩ ⟨(i 0).val % 128, by omega⟩ _ _ (i 0) (by simp only; omega)).symm

/-- The gain's gradient. -/
theorem dgain_eq (hpre : Cert.Pre_Kernel2Ideal_ret_finite m) (c : Dev nD) (i : S1x512.Idx) :
    (Cert.Reference2Ideal.Read.val_main_v538 (F := Ideal) (aProj m c) (aCt m c) i : EReal) = (dats m 0 c).arrAt 29 (cfgs 0).N i := by
  have h1 : (i 1).val < 512 := (i 1).isLt
  have ei : i = ix2 0 (hcol ⟨(i 1).val / 128, by omega⟩ ⟨(i 1).val % 128, by omega⟩) := by
    refine (eq_ix2 i).trans ?_
    rw [Fin.fin_one_eq_zero (i 0)]
    refine congrArg (ix2 0) (Fin.ext ?_)
    simp only [hcol]; omega
  rw [ei]
  exact (Ref.dgain_at (ref_holds hpre c) _ _).trans (Final.dgain_at (holds hpre c) _ _).symm

/-- The columns that the mask keeps. -/
theorem mask_cols (i : S2176x3072.Idx)
    (h : cmpi .sge (iotaInDim S2176x3072 32 1) (broadcastInDim S2176x3072 ![] (by decide) (constantI S_ 32 1024#32)) i = 1#1) : 1024 ≤ (i 1).val := by
  have h1 : (i 1).val < 3072 := (i 1).isLt
  have h2 : IntOp.cmpi .sge (BitVec.ofNat 32 (i 1).val) 1024#32 = 1#1 := h
  rw [IntOp.cmpi_sge, show (1024#32 : BitVec 32).toInt = 1024 by decide, BitVec.toInt_eq_toNat_cond, BitVec.toNat_ofNat] at h2
  split at h2 <;> omega

theorem grad_congr {a a' : FVec Ideal S2064x3072 .f32} {b b' : FVec Ideal S512 .f32} {d d' : FVec Ideal S2064x1024 .f32} (ha : a = a') (hb : b = b')
    (hd : d = d') (i : S2176x3072.Idx) : Cert.Reference2Ideal.Read.val_main_v536 (F := Ideal) a b d i = Cert.Reference2Ideal.Read.val_main_v536 (F := Ideal) a' b' d' i := by
  rw [ha, hb, hd]

theorem dgain_congr {a a' : FVec Ideal S2064x3072 .f32} {d d' : FVec Ideal S2064x1024 .f32} (ha : a = a')
    (hd : d = d') (i : S1x512.Idx) : Cert.Reference2Ideal.Read.val_main_v538 (F := Ideal) a d i = Cert.Reference2Ideal.Read.val_main_v538 (F := Ideal) a' d' i := by
  rw [ha, hd]

set_option maxHeartbeats 1000000 in
/-- Where the mask keeps an index, the derivative's result there is what the kernel leaves. -/
theorem value : Cert.algebraic_Kernel2Ideal_Reference2Ideal_on_ret_part_pre_ret_finite := by
  intro m g m' g' hpre hagree
  refine ⟨fun c => (dats m 0 c).arrAt 25 (cfgs 0).N, fun c => (dats m 0 c).arrAt 26 (cfgs 0).N, fun c => (dats m 0 c).arrAt 27 (cfgs 0).N,
    fun c => (dats m 0 c).arrAt 28 (cfgs 0).N, fun c => (dats m 0 c).arrAt 29 (cfgs 0).N, ?_, ?_⟩
  · refine (θ_run defs _ _).mono ?_ (θ_run_and (run_main m g) (frame m g))
    intro r h c
    exact ⟨fun i _ => congrFun ((h.1 c).1 25) i, fun i _ => congrFun ((h.1 c).1 26) i, fun i _ => congrFun ((h.1 c).1 27) i,
      fun i _ => congrFun ((h.1 c).1 28) i, fun i _ => congrFun ((h.1 c).1 29) i, h.2.1 c⟩
  · refine (θ_run Cert.Reference2Ideal.defs _ _).mono ?_ (Cert.Reference2Ideal.Value.run m' g')
    intro r h c
    obtain ⟨h0, h1, h2, h3, h4, hargs⟩ := h c
    refine ⟨fun i hi => ?_, fun i hi => ?_, fun i hi => ?_, fun i hi => ?_, fun i hi => ?_, hargs⟩
    · rw [h0, Cert.Reference2Ideal.Read.val_main_v536_eq]
      exact (grad_congr (hagree c).1 (hagree c).2.2.2.2.2.2.2.2.2.1 (hagree c).2.2.2.2.2.2.2.2.2.2 i).trans (grad_eq hpre c i (mask_cols i hi))
    · exact absurd (show (0#1 : BitVec 1) = 1#1 from hi) (by decide)
    · exact absurd (show (0#1 : BitVec 1) = 1#1 from hi) (by decide)
    · exact absurd (show (0#1 : BitVec 1) = 1#1 from hi) (by decide)
    · rw [h4, Cert.Reference2Ideal.Read.val_main_v538_eq]
      exact (dgain_congr (hagree c).1 (hagree c).2.2.2.2.2.2.2.2.2.2 i).trans (dgain_eq hpre c i)

/-- The reference's run leaves its arguments unchanged; it declares no semaphore. -/
theorem frame_reference : Cert.quiescent_Reference2Ideal := by
  intro m g _
  exact (θ_run Cert.Reference2Ideal.defs _ _).mono (fun r h => ⟨fun c => (h c).2.2.2.2.2, sem_eq_zero_of_no_sems (by decide) r.2⟩)
    (Cert.Reference2Ideal.Value.run m g)

/-- The ideal kernel's run leaves its arguments unchanged and every semaphore counter at zero. -/
theorem frame_ideal : Cert.quiescent_Kernel2Ideal := fun m g _ => frame m g

/-- Each named decay is the number that its bits round. -/
theorem preserves : Cert.preserves_Kernel2_Kernel2Ideal :=
  ⟨IdealRules.named_const.statement _ _ _ _ _ rfl, IdealRules.named_const.statement _ _ _ _ _ rfl,
    IdealRules.named_const.statement _ _ _ _ _ rfl, IdealRules.named_const.statement _ _ _ _ _ rfl⟩

end Cert.Ret.Claims

end
-- ==== Proof.RetFrames.lean ====
/- The frames of the mixer's backward kernel at the machine's own floats, taken from the run of `RetFrame`: where the
   ideal program names a constant the kernel has that constant's bits, so at `Bits`, with a name read as its bits, the two
   programs are the same text. -/
module

public import proofs.«01_k».proof.Proof.RetFrame
public import proofs.«01_k».proof.Defs
public import proofs.«01_k».proof.Proof.Gen.Kernel2

@[expose] public section

set_option maxRecDepth 16384
set_option maxHeartbeats 4000000

noncomputable section

namespace Cert.Ret.Frames

open Idealize.ShloMosaic Idealize.ShloMosaic.TcCoe Idealize.ShloMosaic.Tactic
open Idealize.SL Idealize.SL.Sem

/-- At the machine's floats a named constant is the bits that it stands for. -/
local instance : Named Bits where
  named _ _ {_} bits := bits

/-- The kernel at the machine's floats ends with its arguments unchanged and every semaphore counter at zero. -/
theorem kernel : Cert.quiescent_Kernel2 (hKernel2 := Cert.Kernel2.Gen.facts) := by
  intro m g _
  exact (Eq.mp (by sl_kernel_rfl) (Cert.Ret.Frame.frame (F := Bits) m g))

end Cert.Ret.Frames

end
-- ==== Proof.LossMath.lean ====
/- The squared loss of one row of the normed output against its target, and its cotangent. -/
module

public import proofs.«01_k».proof.Proof.RmsMath

@[expose] public section

noncomputable section

namespace Cert.Loss

open Idealize.ShloMosaic Cert.Reals Cert.Rms

/-- The f32 pattern of one half. -/
theorem ofBits_half : Ideal.ofBits .f32 0x3F000000#32 = ((1 / 2 : ℝ) : EReal) := by
  simp [Ideal.ofBits, Ideal.ieee, -EReal.coe_mul]; norm_num

/-- The f32 pattern of two. -/
theorem ofBits_two : Ideal.ofBits .f32 0x40000000#32 = ((2 : ℝ) : EReal) := by
  simp [Ideal.ofBits, Ideal.ieee, -EReal.coe_mul]; norm_num

/-- The f32 pattern of one part in 1024. -/
theorem ofBits_inv1024 : Ideal.ofBits .f32 0x3A800000#32 = ((1 / 1024 : ℝ) : EReal) := by
  simp [Ideal.ofBits, Ideal.ieee, -EReal.coe_mul]; norm_num

/-- The error of a normed row against its target. -/
def err (x g t : Fin 1024 → EReal) (k : Fin 1024) : EReal := x k * rs x * g k - t k

/-- The mean square of a row's error. -/
def mse (x g t : Fin 1024 → EReal) : EReal := Ideal.div (∑ k, err x g t k * err x g t k) n1024

/-- The cotangent of the normed row, as the kernel writes it. -/
def kdy (x g t : Fin 1024 → EReal) (k : Fin 1024) : EReal := err x g t k * Ideal.ofBits .f32 0x3A800000#32

/-- The cotangent of the normed row, as the derivative of the forward lines writes it. -/
def rdy (x g t : Fin 1024 → EReal) (k : Fin 1024) : EReal :=
  Ideal.div (Ideal.ofBits .f32 0x3F000000#32) n1024 * (Ideal.ofBits .f32 0x40000000#32 * err x g t k)

/-- On finite rows the error is a real number at every feature. -/
theorem err_coe (x g t : Fin 1024 → ℝ) :
    ∃ e : Fin 1024 → ℝ, err (fun k => (x k : EReal)) (fun k => (g k : EReal)) (fun k => (t k : EReal)) = fun k => (e k : EReal) := by
  obtain ⟨v, hv, hms⟩ := ms_coe x
  refine ⟨fun k => x k * (Real.sqrt v)⁻¹ * g k - t k, ?_⟩
  funext k
  simp only [err, rs, hms, rsqrt_pos hv, ← EReal.coe_mul, ← EReal.coe_sub]

/-- On finite rows the mean square of the error is a real number. -/
theorem mse_coe (x g t : Fin 1024 → ℝ) :
    ∃ e : ℝ, mse (fun k => (x k : EReal)) (fun k => (g k : EReal)) (fun k => (t k : EReal)) = (e : EReal) := by
  obtain ⟨e, he⟩ := err_coe x g t
  exact ⟨_, by simp only [mse, he, n1024, ofBits_1024, ← EReal.coe_mul, coe_sum, div_coe_coe (by norm_num : (1024 : ℝ) ≠ 0)]; rfl⟩

/-- On finite rows both forms of the cotangent are the same real row. -/
theorem dy_coe (x g t : Fin 1024 → ℝ) : ∃ e : Fin 1024 → ℝ,
    kdy (fun k => (x k : EReal)) (fun k => (g k : EReal)) (fun k => (t k : EReal)) = (fun k => (e k : EReal))
    ∧ rdy (fun k => (x k : EReal)) (fun k => (g k : EReal)) (fun k => (t k : EReal)) = fun k => (e k : EReal) := by
  obtain ⟨e, he⟩ := err_coe x g t
  refine ⟨fun k => e k * (1 / 1024), ?_, ?_⟩ <;> funext k
  · simp only [kdy, he, ofBits_inv1024, ← EReal.coe_mul]
  · simp only [rdy, he, n1024, ofBits_1024, ofBits_half, ofBits_two, ← EReal.coe_mul, div_coe_coe (by norm_num : (1024 : ℝ) ≠ 0)]
    congr 1; ring

/-- Without a cotangent the gradient of the norm is zero. -/
theorem kdx_no_dy (x g : Fin 1024 → EReal) (j : Fin 1024) : kdx x g (fun _ => 0) (fun _ => 0) j = 0 := by
  have h0 : Ideal.div 0 n1024 = 0 := by
    have h := div_coe_coe (by norm_num : (1024 : ℝ) ≠ 0) 0
    rw [zero_div, ← ofBits_1024] at h
    exact h
  simp only [kdx, zero_mul, Finset.sum_const_zero, h0, mul_zero, sub_zero, add_zero]

end Cert.Loss

end
-- ==== Proof.LossKernel.lean ====
/- What the loss kernel leaves in its four result arrays, over the arrays its region is entered with. -/
module

public import proofs.«01_k».proof.Proof.Gen.Kernel3Ideal.Value
public import proofs.«01_k».proof.Proof.LossMath
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Loss

open Cert.Kernel3Ideal Cert.Kernel3Ideal.Gen Cert.Rms Cert.Loss

/-- The stored gradient block, at row `r` and column `j`. -/
theorem pay5_at (x t : FVec Ideal S128x1024 .f32) (g : FVec Ideal S1x1024 .f32) (r : Fin 128) (j : Fin 1024) :
    k0_pay5 (F := Ideal) (k0_pay10 x) (k0_pay11 x) (k0_pay15 x g t) (k0_pay16 x g t) (Scalar.ofBits .f32 0x44800000#32) (ix2 r j)
      = kdx (fun k => x (ix2 r k)) (fun k => g (ix2 0 k)) (kdy (fun k => x (ix2 r k)) (fun k => g (ix2 0 k)) fun k => t (ix2 r k)) (fun _ => 0) j := by
  refine Eq.trans ?_ (zero_add _).symm
  pointwise [k0_pay5, k0_pay16, k0_pay15, k0_pay14, k0_pay12, k0_pay11, k0_pay10, k0_pay9, k0_pay8]
  rfl

/-- The accumulated gain gradient: a point adds its rows' contributions. -/
theorem pay7_at (x t : FVec Ideal S128x1024 .f32) (g a : FVec Ideal S1x1024 .f32) (j : Fin 1024) :
    k0_pay7 (F := Ideal) (k0_pay11 x) (k0_pay14 x g t) a (ix2 0 j)
      = a (ix2 0 j) + ∑ r : Fin 128, kdy (fun k => x (ix2 r k)) (fun k => g (ix2 0 k)) (fun k => t (ix2 r k)) j * (x (ix2 r j) * rs fun k => x (ix2 r k)) := by
  pointwise [k0_pay7, k0_pay14, k0_pay12, k0_pay11, k0_pay10, k0_pay9, k0_pay8]
  rfl

/-- The accumulated loss: a point adds half the sum of its rows' mean squared errors. -/
theorem pay13_at (x t : FVec Ideal S128x1024 .f32) (g : FVec Ideal S1x1024 .f32) (a : FVec Ideal S8x128 .f32) (p : Fin 8) (q : Fin 128) :
    k0_pay13 (F := Ideal) x g t a (ix2 p q)
      = a (ix2 p q) + Ideal.ofBits .f32 0x3F000000#32 * ∑ r : Fin 128, mse (fun k => x (ix2 r k)) (fun k => g (ix2 0 k)) fun k => t (ix2 r k) := by
  pointwise [k0_pay13, k0_pay12, k0_pay11, k0_pay10, k0_pay9, k0_pay8]
  rfl

variable (m : (ℓ : Loc nD τ sig) → Buf (Elt Ideal) ℓ)

/-- Where each window's block lies at each grid point. -/
theorem idx : ∀ t : Fin cfg0.N, win0_0.index t = ![t.val, 0] ∧ win0_1.index t = ![0, 0] ∧ win0_2.index t = ![t.val - 1, 0]
    ∧ win0_3.index t = ![0, 0] ∧ win0_4.index t = ![t.val, 0] ∧ win0_5.index t = ![t.val, 0] ∧ win0_6.index t = ![0, 0] :=
  (by decide +kernel : ∀ t : Fin grid0.N, _)

theorem lt17 (t : Fin cfg0.N) : t.val < 17 := lt_of_lt_of_eq t.isLt (show cfg0.N = 17 from N_0)

/-- The array row that row `r` of block `t` is. -/
def rowAt (t : Fin cfg0.N) (r : Fin 128) : Fin 2176 := ⟨t.val * 128 + r.val, by have := lt17 t; omega⟩

/-- The target row of an array row: the first block has none. -/
def tgt (r : Fin 2176) : Fin 2048 := ⟨r.val - 128, by omega⟩

/-- The arrays at the region's entry, at their own types: the last layer's output, the norm's gain, the targets. -/
abbrev X (c : Dev nD) : FVec Ideal S2176x1024 .f32 := V m c main_v1
abbrev G (c : Dev nD) : FVec Ideal S1x1024 .f32 := V m c main_v2
abbrev Tg (c : Dev nD) : FVec Ideal S2048x1024 .f32 := V m c main_arg2

/-- The staged blocks at their own types. -/
abbrev bX (c : Dev nD) (t : Fin cfg0.N) : FVec Ideal S128x1024 .f32 := iblk m c 0 t
abbrev bG (c : Dev nD) (t : Fin cfg0.N) : FVec Ideal S1x1024 .f32 := iblk m c 1 t
abbrev bT (c : Dev nD) (t : Fin cfg0.N) : FVec Ideal S128x1024 .f32 := iblk m c 2 t

theorem bX_at (c : Dev nD) (t : Fin cfg0.N) (r : Fin 128) (k : Fin 1024) : bX m c t (ix2 r k) = X m c (ix2 (rowAt t r) k) := by
  unfold rowAt; blk_ext [iblk, idx t]
theorem bG_at (c : Dev nD) (t : Fin cfg0.N) (k : Fin 1024) : bG m c t (ix2 0 k) = G m c (ix2 0 k) := by blk_ext [iblk, idx t]
theorem bT_at (c : Dev nD) (t : Fin cfg0.N) (h : 1 ≤ t.val) (r : Fin 128) (k : Fin 1024) : bT m c t (ix2 r k) = Tg m c (ix2 (tgt (rowAt t r)) k) := by
  unfold tgt rowAt; blk_ext [iblk, idx t]

/-- One row's mean squared error, cotangent and gradient, over the arrays at the region's entry. -/
def rowMse (c : Dev nD) (r : Fin 2176) : EReal := mse (fun k => X m c (ix2 r k)) (fun k => G m c (ix2 0 k)) fun k => Tg m c (ix2 (tgt r) k)
def rowDy (c : Dev nD) (r : Fin 2176) : Fin 1024 → EReal := kdy (fun k => X m c (ix2 r k)) (fun k => G m c (ix2 0 k)) fun k => Tg m c (ix2 (tgt r) k)
def rowDx (c : Dev nD) (r : Fin 2176) : Fin 1024 → EReal := kdx (fun k => X m c (ix2 r k)) (fun k => G m c (ix2 0 k)) (rowDy m c r) fun _ => 0

/-- The gradient array: the first block holds zeros. -/
def dxArr (c : Dev nD) : FVec Ideal S2176x1024 .f32 := fun i => if (i 0).val < 128 then 0 else rowDx m c (i 0) (i 1)

/-- One stored block is the gradient array's block. -/
theorem point (c : Dev nD) (t : Fin cfg0.N) (h : 1 ≤ t.val) (r : Fin 128) (j : Fin 1024) :
    k0_pay5 (F := Ideal) (k0_pay10 (bX m c t)) (k0_pay11 (bX m c t)) (k0_pay15 (bX m c t) (bG m c t) (bT m c t)) (k0_pay16 (bX m c t) (bG m c t) (bT m c t))
      (Scalar.ofBits .f32 0x44800000#32) (ix2 r j) = dxArr m c (ix2 (rowAt t r) j) := by
  rw [pay5_at]
  have e : ¬(rowAt t r).val < 128 := by unfold rowAt; simp only; omega
  simp only [bX_at, bG_at, bT_at m c t h, dxArr, ix2_0, ix2_1, e, if_false, rowDx, rowDy]

/-- A row of the first block holds zero in the gradient array. -/
theorem point_zero (c : Dev nD) (t : Fin cfg0.N) (h : t.val = 0) (r : Fin 128) (j : Fin 1024) : dxArr m c (ix2 (rowAt t r) j) = 0 := by
  have e : (rowAt t r).val < 128 := by unfold rowAt; simp only; omega
  simp only [dxArr, ix2_0, e, if_true]

/-- Window 4 after the run: the gradient in the last layer's output. -/
theorem final4 (c : Dev nD) : (dats m 0 c).arrAt 4 (cfgs 0).N = dxArr m c := by
  refine (dats m 0 c).arrAt_eq_of_covers 4 _ (by decide +kernel) fun t _ y => ?_
  blk_simp
  rw [after0_4]
  have hN := lt17 t
  have cov : dxArr m c (ix2 (rowAt t (y 0)) (y 1)) = dxArr m c (((cfg0.win 4).blk t).view.emb y) := by unfold rowAt; blk_ext [idx t]
  by_cases h : t.val % 17 = 0
  · rw [outsAt0_A m c t h (by omega)]; frame_out
    refine Eq.trans ?_ ((point_zero m c t (by omega) (y 0) (y 1)).symm.trans cov)
    pointwise [k0_pay3]
  · rw [outsAt0_B m c t h (by omega)]; frame_out
    refine Eq.trans ?_ ((point m c t (by omega) (y 0) (y 1)).trans cov)
    exact congrArg _ (eq_ix2 y)

/-- Window 5 after the run: the same gradient, rounded for the next product; over the extended reals the same array. -/
theorem final5 (c : Dev nD) : (dats m 0 c).arrAt 5 (cfgs 0).N = (dxArr m c : S2176x1024.Idx → EReal) := by
  refine (dats m 0 c).arrAt_eq_of_covers 5 _ (by decide +kernel) fun t _ y => ?_
  blk_simp
  rw [after0_5]
  have hN := lt17 t
  have cov : dxArr m c (ix2 (rowAt t (y 0)) (y 1)) = dxArr m c (((cfg0.win 5).blk t).view.emb y) := by unfold rowAt; blk_ext [idx t]
  by_cases h : t.val % 17 = 0
  · rw [outsAt0_A m c t h (by omega)]; frame_out
    refine Eq.trans ?_ ((point_zero m c t (by omega) (y 0) (y 1)).symm.trans cov)
    pointwise [k0_pay4]
  · rw [outsAt0_B m c t h (by omega)]; frame_out
    refine Eq.trans ?_ ((point m c t (by omega) (y 0) (y 1)).trans cov)
    exact congrArg (k0_pay5 (F := Ideal) (k0_pay10 (bX m c t)) (k0_pay11 (bX m c t)) (k0_pay15 (bX m c t) (bG m c t) (bT m c t))
      (k0_pay16 (bX m c t) (bG m c t) (bT m c t)) (Scalar.ofBits .f32 0x44800000#32)) (eq_ix2 y)

/-- The last grid point. -/
def tEnd : Fin cfg0.N := ⟨16, by rw [show cfg0.N = 17 from N_0]; decide⟩

/-- Window 6 after the run: the gain's gradient, the contributions of all rows that have a target. -/
theorem final6 (c : Dev nD) (j : Fin 1024) : (dats m 0 c).arrAt 6 (cfgs 0).N (ix2 0 j)
    = ∑ r : Fin 2176, if r.val < 128 then 0 else rowDy m c r j * (X m c (ix2 r j) * rs fun k => X m c (ix2 r k)) := by
  have hz : ∀ j, k0_pay2 (F := Ideal) j = 0 := fun j => by pointwise [k0_pay2]
  have h := (dats m 0 c).arrAt_eq_of_after_last 6 tEnd (by decide +kernel) (fun i : S1x1024.Idx =>
    (∑ r : Fin 2176, if r.val < 128 then 0 else rowDy m c r (i 1) * (X m c (ix2 r (i 1)) * rs fun k => X m c (ix2 r k)) : EReal)) fun i => by
      blk_simp
      rw [after0_6, Pipeline.eq_sum_fin_of_reset_step_apply_last (fun n h => (outsAt0 m c n h).2.2.2) 17 (fun _ => 0)
        (fun p i => ∑ r : Fin 128, if (rowAt p r).val < 128 then 0 else
          rowDy m c (rowAt p r) (i 1) * (X m c (ix2 (rowAt p r) (i 1)) * rs fun k => X m c (ix2 (rowAt p r) k)))
        (fun t h i => by
          have hN := lt17 t
          rw [outsAt0_A m c t h (by omega)]; frame_out
          refine (hz _).trans ?_
          rw [Finset.sum_eq_zero fun r _ => if_pos (by unfold rowAt; simp only; omega), add_zero])
        (fun t h i => by
          have h1 : 1 ≤ t.val := by omega
          rw [outsAt0_B m c t h h1]; frame_out
          rw [eq_ix2 i, Fin.fin_one_eq_zero (i 0)]
          refine (pay7_at (bX m c t) (bT m c t) (bG m c t) _ (i 1)).trans (congrArg (_ + ·) (Finset.sum_congr rfl fun r _ => ?_))
          rw [if_neg (by unfold rowAt; simp only; omega)]
          simp only [bX_at, bG_at, bT_at m c t h1, rowDy]
          exact congrArg₂ (· * ·) rfl (congrArg₂ (· * ·) (bX_at m c t r (i 1)) rfl))
        (le_of_eq N_0) tEnd rfl i, zero_add]
      exact Fin.sum_mul_add_congr fun s k hl => rfl
  exact congrFun h (ix2 0 j)

/-- Window 3 after the run: the loss, block by block, at every place. -/
theorem final3 (c : Dev nD) : (dats m 0 c).arrAt 3 (cfgs 0).N = fun i : S8x128.Idx =>
    (∑ p : Fin cfg0.N, if p.val = 0 then 0 else Ideal.ofBits .f32 0x3F000000#32 * ∑ r : Fin 128, rowMse m c (rowAt p r) : EReal) := by
  have hz : ∀ j, k0_pay1 (F := Ideal) j = 0 := fun j => by pointwise [k0_pay1]
  refine (dats m 0 c).arrAt_eq_of_after_last 3 tEnd (by decide +kernel) _ fun i => ?_
  blk_simp
  rw [after0_3, Pipeline.eq_sum_fin_of_reset_step_apply_last (fun n h => (outsAt0 m c n h).1) 17 (fun _ => 0)
    (fun p i => if p.val = 0 then 0 else Ideal.ofBits .f32 0x3F000000#32 * ∑ r : Fin 128, rowMse m c (rowAt p r))
    (fun t h i => by
      have hN := lt17 t
      rw [outsAt0_A m c t h (by omega)]; frame_out
      refine (hz _).trans ?_
      rw [if_pos (by omega), add_zero])
    (fun t h i => by
      have h1 : 1 ≤ t.val := by omega
      rw [outsAt0_B m c t h h1]; frame_out
      rw [eq_ix2 i, if_neg (by omega)]
      refine (pay13_at (bX m c t) (bT m c t) (bG m c t) _ (i 0) (i 1)).trans ?_
      simp only [bX_at, bG_at, bT_at m c t h1, rowMse])
    (le_of_eq N_0) tEnd rfl i, zero_add]

end Cert.Kernel3Ideal.Loss

end
-- ==== Proof.LossRef.lean ====
/- The value and the derivative of the loss's forward lines, read row by row. -/
module

public import proofs.«01_k».proof.Proof.Gen.Reference3Ideal.Read
public import proofs.«01_k».proof.Proof.LossMath
public import Idealize.ShloMosaic.Lib.Pointwise

@[expose] public section

set_option maxRecDepth 16384

noncomputable section

open Idealize.ShloMosaic Idealize.ShloMosaic.TcCoe Idealize.SL.Sem

namespace Cert.Reference3Ideal.Loss

open Cert.Reference3Ideal Cert.Reference3Ideal.Gen Cert.Reference3Ideal.Read Cert.Rms Cert.Loss

variable (x : FVec Ideal S2064x1024 .f32) (g : FVec Ideal S1024 .f32) (t : FVec Ideal S2048x1024 .f32)

/-- The reciprocal root mean square of a row. -/
theorem ms_at (r : Fin 2064) : val_main_v6 (F := Ideal) x (ix2 r 0) = ms fun k => x (ix2 r k) := by
  pointwise [val_main_v6, val_main_v5, val_main_cst_1, val_main_v4, val_main_v3, val_main_v2, val_main_v1, val_main_v0, val_main_cst, val_main_cst_0]
  rfl

theorem rs_at (r : Fin 2064) : val_main_v7 (F := Ideal) x (ix2 r 0) = rs fun k => x (ix2 r k) := by
  pointwise [val_main_v7, ms_at]
  rfl

/-- The row of the layer's output that target row `s` belongs to. -/
def row (s : Fin 2048) : Fin 2064 := ⟨16 + s.val, by omega⟩

/-- The error of one target row at one feature. -/
theorem err_at (s : Fin 2048) (k : Fin 1024) : val_main_v17 (F := Ideal) x g t (ix2 s k)
    = err (fun k => x (ix2 (row s) k)) (fun k => g (ix1 k)) (fun k => t (ix2 s k)) k := by
  pointwise [val_main_v17, val_main_v16, val_main_v15, val_main_v14, val_main_v13, val_main_v12, val_main_v11, rs_at]
  rfl

/-- The loss. -/
theorem loss_at (p : Fin 8) (q : Fin 128) : val_main_v55 (F := Ideal) x g t (ix2 p q)
    = Ideal.ofBits .f32 0x3F000000#32 * ∑ s : Fin 2048, mse (fun k => x (ix2 (row s) k)) (fun k => g (ix1 k)) fun k => t (ix2 s k) := by
  pointwise [val_main_v55, val_main_v25, val_main_cst_7, val_main_v24, val_main_cst_6, val_main_v23, val_main_v22, val_main_cst_5, val_main_v21, val_main_cst_4, val_main_v18, err_at]
  rfl

/-- The cotangent of the norm's output: zero in the 16 rows that have no target. -/
theorem dy_at (r : Fin 2064) (k : Fin 1024) : val_main_v32 (F := Ideal) x g t (ix2 r k)
    = if h : r.val < 16 then 0 else rdy (fun k => x (ix2 r k)) (fun k => g (ix1 k)) (fun k => t (ix2 ⟨r.val - 16, by omega⟩ k)) k := by
  pointwise [val_main_v32, val_main_cst_11, val_main_v31, val_main_v30, val_main_v29, val_main_v28, val_main_cst_10, val_main_v27, val_main_v26, val_main_cst_9, val_main_cst_8, val_main_v20, val_main_v19, val_main_cst_3, err_at]
  by_cases h : r.val < 16
  · rw [dif_neg (by omega), dif_pos h]
  · have e : row ⟨r.val - 16, by omega⟩ = r := Fin.ext (by unfold row; simp only; omega)
    rw [dif_pos (by omega), dif_neg h, e]
    rfl

/-- The gradient in the layer's output, at one row and column. -/
theorem dx_at (r : Fin 2064) (j : Fin 1024) : val_main_v52 (F := Ideal) x g t (ix2 r j)
    = rdx (fun k => x (ix2 r k)) (fun k => g (ix1 k)) (fun k => val_main_v32 (F := Ideal) x g t (ix2 r k)) (fun _ => 0) j := by
  unfold rdx
  rw [zero_add]
  pointwise [val_main_v52, val_main_v51, val_main_v50, val_main_v49, val_main_v48, val_main_v47, val_main_cst_16, val_main_v46, val_main_v45, val_main_cst_15, val_main_v44, val_main_v43, val_main_v42, val_main_v41, val_main_v40, val_main_cst_14, val_main_v39, val_main_v37, val_main_v36, val_main_v13, val_main_v10, val_main_v9, val_main_cst_2, val_main_v8, rs_at, ms_at]
  simp only [Finset.univ_unique, Finset.sum_singleton]
  rw [show (ix2 r default : S2064x1.Idx) = ix2 r 0 from rfl, rs_at, ms_at]
  rfl

/-- The gradient array, padded in front by rows of zeros. -/
theorem v54_at (r : Fin 2176) (j : Fin 1024) : val_main_v54 (F := Ideal) x g t (ix2 r j)
    = if h : r.val < 112 then 0 else val_main_v52 (F := Ideal) x g t (ix2 ⟨r.val - 112, by omega⟩ j) := by
  pointwise [val_main_v54, val_main_v53, val_main_cst_17]

/-- The gain's gradient, at one column. -/
theorem dgain_at (j : Fin 1024) : val_main_v57 (F := Ideal) x g t (ix2 0 j)
    = ∑ r : Fin 2064, x (ix2 r j) * (rs fun k => x (ix2 r k)) * val_main_v32 (F := Ideal) x g t (ix2 r j) := by
  pointwise [val_main_v57, val_main_v38, val_main_cst_13, val_main_v35, val_main_v34, val_main_cst_12, val_main_v33, val_main_v12, val_main_v11, rs_at]
  simp only [zero_add, Finset.univ_unique, Finset.sum_singleton]

end Cert.Reference3Ideal.Loss

end
-- ==== Proof.Loss.lean ====
/- The loss kernel against the value and the derivative of the forward lines: the value claim. -/
module

public import proofs.«01_k».proof.Defs
public import proofs.«01_k».proof.Proof.Gen.Pre_loss_finite
public import proofs.«01_k».proof.Proof.LossKernel
public import proofs.«01_k».proof.Proof.LossRef
public import Idealize.ShloMosaic.Lib.Claim

@[expose] public section

set_option maxRecDepth 16384

noncomputable section

open Idealize.ShloMosaic Idealize.ShloMosaic.TcCoe Idealize.SL.Sem

namespace Cert.LossProof

open Cert.Reals Cert.Rms Cert.Loss Cert.Kernel3Ideal Cert.Kernel3Ideal.Gen Cert.Kernel3Ideal.Loss
open Cert.Reference3Ideal.Loss (row)

variable (m : (ℓ : Loc nD τ sig) → Buf (Elt Ideal) ℓ)

/-- The arguments at their own types. -/
abbrev a0 (c : Dev nD) : FVec Ideal S2064x1024 .f32 := m ((c : Thread nD τ).loc main_arg0)
abbrev a1 (c : Dev nD) : FVec Ideal S1024 .f32 := m ((c : Thread nD τ).loc main_arg1)
abbrev a2 (c : Dev nD) : FVec Ideal S2048x1024 .f32 := m ((c : Thread nD τ).loc main_arg2)

theorem X_at (c : Dev nD) (r : Fin 2176) (h : ¬r.val < 112) (k : Fin 1024) : X m c (ix2 r k) = a0 m c (ix2 ⟨r.val - 112, by omega⟩ k) := by
  unfold X; entry_read; pointwise []; exact dif_neg h
theorem G_at (c : Dev nD) (k : Fin 1024) : G m c (ix2 0 k) = a1 m c (ix1 k) := by
  unfold G; entry_read; pointwise []
theorem T_at (c : Dev nD) : Tg m c = a2 m c := by unfold Tg; entry_read; rfl

variable {m}

/-- What the precondition says of one entry. -/
theorem real_of_cmp {s : Shape} (x : FVec Ideal s .f32) (i : s.Idx) (b : FVec Ideal s .f32) (hb : b i = Ideal.ofBits .f32 0x7F800000#32)
    (h : cmpf .olt (Host.absf x) b = fun _ => 1#1) : (((x i).toReal : ℝ) : EReal) = x i := by
  refine coe_of_abs_lt (x i) ?_
  rw [← ofBits_inf, ← hb]
  exact congrFun h i

section
variable (hpre : Cert.Pre_Kernel3Ideal_loss_finite m) (c : Dev nD)
include hpre

theorem a0_real (r : Fin 2064) (k : Fin 1024) : (((a0 m c (ix2 r k)).toReal : ℝ) : EReal) = a0 m c (ix2 r k) := real_of_cmp (a0 m c) (ix2 r k) _ rfl (hpre c).1
theorem a1_real (k : Fin 1024) : (((a1 m c (ix1 k)).toReal : ℝ) : EReal) = a1 m c (ix1 k) := real_of_cmp (a1 m c) (ix1 k) _ rfl (hpre c).2.1
theorem a2_real (r : Fin 2048) (k : Fin 1024) : (((a2 m c (ix2 r k)).toReal : ℝ) : EReal) = a2 m c (ix2 r k) := real_of_cmp (a2 m c) (ix2 r k) _ rfl (hpre c).2.2

/-- The two forms of one row's cotangent are one real row. -/
theorem dy_real (r : Fin 2064) (s : Fin 2048) : ∃ e : Fin 1024 → ℝ,
    kdy (fun k => a0 m c (ix2 r k)) (fun k => a1 m c (ix1 k)) (fun k => a2 m c (ix2 s k)) = (fun k => (e k : EReal))
    ∧ rdy (fun k => a0 m c (ix2 r k)) (fun k => a1 m c (ix1 k)) (fun k => a2 m c (ix2 s k)) = fun k => (e k : EReal) := by
  have h := dy_coe (fun k => (a0 m c (ix2 r k)).toReal) (fun k => (a1 m c (ix1 k)).toReal) fun k => (a2 m c (ix2 s k)).toReal
  simpa only [a0_real hpre, a1_real hpre, a2_real hpre] using h

/-- One row's mean squared error is a real number. -/
theorem mse_real (r : Fin 2064) (s : Fin 2048) : ∃ e : ℝ,
    mse (fun k => a0 m c (ix2 r k)) (fun k => a1 m c (ix1 k)) (fun k => a2 m c (ix2 s k)) = (e : EReal) := by
  have h := mse_coe (fun k => (a0 m c (ix2 r k)).toReal) (fun k => (a1 m c (ix1 k)).toReal) fun k => (a2 m c (ix2 s k)).toReal
  simpa only [a0_real hpre, a1_real hpre, a2_real hpre] using h

/-- The derivative's cotangent row is real, and is the kernel's where the row has a target. -/
theorem ref_dy (r : Fin 2064) : ∃ e : Fin 1024 → ℝ,
    (fun k => Cert.Reference3Ideal.Read.val_main_v32 (F := Ideal) (a0 m c) (a1 m c) (a2 m c) (ix2 r k)) = (fun k => (e k : EReal))
    ∧ (r.val < 16 → e = fun _ => 0)
    ∧ (¬r.val < 16 → (fun k => (e k : EReal)) = kdy (fun k => a0 m c (ix2 r k)) (fun k => a1 m c (ix1 k)) fun k => a2 m c (ix2 ⟨r.val - 16, by omega⟩ k)) := by
  by_cases h : r.val < 16
  · exact ⟨fun _ => 0, funext fun k => by rw [Cert.Reference3Ideal.Loss.dy_at, dif_pos h]; rfl, fun _ => rfl, fun h' => absurd h h'⟩
  · obtain ⟨e, e1, e2⟩ := dy_real hpre c r ⟨r.val - 16, by omega⟩
    exact ⟨e, funext fun k => by rw [Cert.Reference3Ideal.Loss.dy_at, dif_neg h]; exact congrFun e2 k, fun h' => absurd h' h, fun _ => e1.symm⟩
end

/-- The kernel's rows over the arguments. -/
theorem row_X (c : Dev nD) (r : Fin 2176) (h : ¬r.val < 112) :
    (fun k => X m c (ix2 r k)) = fun k => a0 m c (ix2 ⟨r.val - 112, by omega⟩ k) := funext fun k => X_at m c r h k
theorem row_G (c : Dev nD) : (fun k => G m c (ix2 0 k)) = fun k => a1 m c (ix1 k) := funext fun k => G_at m c k
theorem row_T (c : Dev nD) (r : Fin 2176) (h : ¬r.val < 112) :
    (fun k => Tg m c (ix2 (tgt r) k)) = fun k => a2 m c (ix2 ⟨r.val - 112 - 16, by omega⟩ k) := by
  rw [T_at]; funext k; exact congrArg (fun s => a2 m c (ix2 s k)) (Fin.ext (by unfold tgt; simp only; omega))

theorem rowDy_eq (c : Dev nD) (r : Fin 2176) (h : ¬r.val < 112) : rowDy m c r
    = kdy (fun k => a0 m c (ix2 ⟨r.val - 112, by omega⟩ k)) (fun k => a1 m c (ix1 k)) fun k => a2 m c (ix2 ⟨r.val - 112 - 16, by omega⟩ k) := by
  unfold rowDy; rw [row_X c r h, row_G, row_T c r h]

/-- The kernel's gradient in the layer's output is the derivative's, row by row; the first block is zero in both. -/
theorem dx_eq (hpre : Cert.Pre_Kernel3Ideal_loss_finite m) (c : Dev nD) :
    dxArr m c = Cert.Reference3Ideal.Read.val_main_v54 (F := Ideal) (a0 m c) (a1 m c) (a2 m c) := by
  funext i
  obtain ⟨r, j, rfl⟩ : ∃ r j, i = ix2 r j := ⟨_, _, eq_ix2 i⟩
  rw [Cert.Reference3Ideal.Loss.v54_at]
  by_cases h : r.val < 112
  · simp only [h, dite_true, dxArr, ix2_0, show r.val < 128 by omega, if_true]
  · rw [dif_neg h, Cert.Reference3Ideal.Loss.dx_at]
    obtain ⟨e, e1, e2, e3⟩ := ref_dy hpre c ⟨r.val - 112, by omega⟩
    rw [e1]
    have key := kdx_eq_rdx (fun k => (a0 m c (ix2 ⟨r.val - 112, by omega⟩ k)).toReal) (fun k => (a1 m c (ix1 k)).toReal) e (fun _ => 0) j
    simp only [a0_real hpre, a1_real hpre] at key
    rw [← key]
    by_cases h' : r.val < 128
    · have e0 := e2 (by simp only; omega)
      subst e0
      simp only [dxArr, ix2_0, h', if_true]
      exact (kdx_no_dy _ _ j).symm
    · simp only [dxArr, ix2_0, ix2_1, h', if_false, rowDx]
      rw [rowDy_eq c r h, row_X c r h, row_G, e3 (by simp only; omega)]

/-- The gain's gradient. -/
theorem dgain_eq (hpre : Cert.Pre_Kernel3Ideal_loss_finite m) (c : Dev nD) (j : Fin 1024) :
    (∑ r : Fin 2176, if r.val < 128 then 0 else rowDy m c r j * (X m c (ix2 r j) * rs fun k => X m c (ix2 r k)) : EReal)
      = Cert.Reference3Ideal.Read.val_main_v57 (F := Ideal) (a0 m c) (a1 m c) (a2 m c) (ix2 0 j) := by
  rw [Cert.Reference3Ideal.Loss.dgain_at]
  refine sum_padded _ _ (fun r h => if_pos (by omega)) fun r => ?_
  obtain ⟨e, e1, e2, e3⟩ := ref_dy hpre c r
  have d1 := congrFun e1 j
  rw [show Cert.Reference3Ideal.Read.val_main_v32 (F := Ideal) (a0 m c) (a1 m c) (a2 m c) (ix2 r j) = _ from d1]
  by_cases h' : r.val < 16
  · rw [if_pos (by simp only; omega), e2 h', EReal.coe_zero, mul_zero]
  · have hr : ¬(⟨112 + r.val, by omega⟩ : Fin 2176).val < 112 := by simp only; omega
    have er : (⟨112 + r.val - 112, by omega⟩ : Fin 2064) = r := Fin.ext (Nat.add_sub_cancel_left _ _)
    have d2 := congrFun (e3 h') j
    rw [if_neg (by simp only; omega), d2, row_X c _ hr, X_at m c _ hr, rowDy_eq c _ hr]
    simp only [Nat.add_sub_cancel_left]
    exact mul_comm _ _

/-- A sum over the array's rows, whose first 128 terms are zero, is the sum over the targets' rows. -/
theorem sum_targets (f : Fin 2176 → ℝ) (g : Fin 2048 → ℝ) (h0 : ∀ r : Fin 2176, r.val < 128 → f r = 0)
    (h1 : ∀ r : Fin 2048, f ⟨128 + r.val, by omega⟩ = g r) : ∑ r, f r = ∑ r, g r := by
  have e2 : ∑ r : Fin (128 + 2048), f r = ∑ r : Fin 128, f (Fin.castAdd 2048 r) + ∑ r : Fin 2048, f (Fin.natAdd 128 r) := Fin.sum_univ_add (a := 128) (b := 2048) f
  refine e2.trans ?_
  rw [Finset.sum_eq_zero fun r _ => h0 _ r.isLt, zero_add]
  exact Finset.sum_congr rfl fun r _ => h1 r

/-- The loss: half the sum of the rows' mean squared errors, block by block or all at once. -/
theorem loss_eq (hpre : Cert.Pre_Kernel3Ideal_loss_finite m) (c : Dev nD) (i : S8x128.Idx) :
    (∑ p : Fin cfg0.N, if p.val = 0 then 0 else Ideal.ofBits .f32 0x3F000000#32 * ∑ r : Fin 128, rowMse m c (rowAt p r) : EReal)
      = Cert.Reference3Ideal.Read.val_main_v55 (F := Ideal) (a0 m c) (a1 m c) (a2 m c) i := by
  obtain ⟨p, q, rfl⟩ : ∃ p q, i = ix2 p q := ⟨_, _, eq_ix2 i⟩
  rw [Cert.Reference3Ideal.Loss.loss_at]
  choose L hL using fun s : Fin 2048 => mse_real hpre c (row s) s
  have hM : ∀ r : Fin 2176, ¬r.val < 128 → rowMse m c r = (L (tgt r) : EReal) := fun r h => by
    rw [← hL]; unfold rowMse
    rw [row_X c r (by omega), row_G, T_at]
    have e : (⟨r.val - 112, by omega⟩ : Fin 2064) = row (tgt r) := Fin.ext (by unfold row tgt; simp only; omega)
    rw [e]
  have hp : ∀ p : Fin cfg0.N, (if p.val = 0 then 0 else Ideal.ofBits .f32 0x3F000000#32 * ∑ r : Fin 128, rowMse m c (rowAt p r) : EReal)
      = ((1 / 2 * ∑ r : Fin 128, (if (rowAt p r).val < 128 then 0 else L (tgt (rowAt p r))) : ℝ) : EReal) := fun p => by
    by_cases h : p.val = 0
    · rw [if_pos h, Finset.sum_eq_zero fun r _ => if_pos (by unfold rowAt; simp only; omega), mul_zero, EReal.coe_zero]
    · have hr : ∀ r : Fin 128, ¬(rowAt p r).val < 128 := fun r => by unfold rowAt; simp only; omega
      rw [if_neg h, ofBits_half, EReal.coe_mul, ← coe_sum]
      exact congrArg _ (Finset.sum_congr rfl fun r _ => by rw [hM _ (hr r), if_neg (hr r)])
  rw [Finset.sum_congr rfl fun p _ => hp p]
  simp only [hL, coe_sum, ofBits_half, ← EReal.coe_mul]
  refine congrArg _ ?_
  rw [← Finset.mul_sum]
  refine congrArg _ ?_
  refine Eq.trans ?_ (sum_targets (fun r => if r.val < 128 then 0 else L (tgt r)) L (fun r h => if_pos h) fun r => ?_)
  · exact Fin.sum_mul_add_congr fun s k hl => rfl
  · rw [if_neg (by simp only; omega)]
    exact congrArg L (Fin.ext (by unfold tgt; simp only; omega))

/-- The kernel and the value and derivative of the forward lines compute the same loss and gradients from finite arguments. -/
theorem value : Cert.algebraic_Kernel3Ideal_Reference3Ideal_pre_loss_finite := by
  pair_intro
  · run_from Cert.Kernel3Ideal.Value.run_blocks m g
  · run_from Cert.Reference3Ideal.Value.run m' g'
    · rw [Cert.Kernel3Ideal.Loss.final3, Cert.Reference3Ideal.Read.val_main_v55_eq]
      funext i
      exact (loss_eq hpre c i).symm
    · rw [Cert.Kernel3Ideal.Loss.final4, Cert.Reference3Ideal.Read.val_main_v54_eq, dx_eq hpre, (hagree c).1, (hagree c).2.1, (hagree c).2.2]
    · rw [Cert.Kernel3Ideal.Loss.final5, Cert.Reference3Ideal.Read.val_main_v56_eq, dx_eq hpre, (hagree c).1, (hagree c).2.1, (hagree c).2.2]
      rfl
    · rw [Cert.Reference3Ideal.Read.val_main_v57_eq]
      funext i
      obtain ⟨z, j, rfl⟩ : ∃ (z : Fin 1) (j : Fin 1024), i = ix2 z j := ⟨_, _, eq_ix2 i⟩
      obtain rfl : z = 0 := Subsingleton.elim _ _
      exact ((Cert.Kernel3Ideal.Loss.final6 m c j).trans (dgain_eq hpre c j)).symm

end Cert.LossProof

end
-- ==== Proof.GateKernel.lean ====
/- What the gated product's backward kernel leaves in its two result arrays, over the arrays its region is entered with. -/
module

public import proofs.«01_k».proof.Proof.Gen.Kernel4Ideal.Value
public import proofs.«01_k».proof.Proof.Reals
public import Idealize.ShloMosaic.Lib.Pipeline.ValueKit
public import Idealize.ShloMosaic.Lib.Pipeline.CanonAppend
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Gate

open Cert.Kernel4Ideal Cert.Kernel4Ideal.Gen

/-- One stored half block: the cotangent's product with the weight's columns, times the activation's derivative. -/
theorem pay9_at (x : FVec Ideal S2064x1024 .bf16) (w : FVec Ideal S256x1024 .bf16) (a : FVec Ideal S2064x256 .bf16) (r : Fin 2064) (q : Fin 256) :
    k0_pay9 (F := Ideal) x w a (ix2 r q) = (∑ k : Fin 1024, x (ix2 r k) * w (ix2 q k)) * a (ix2 r q) := by
  pointwise [k0_pay9, k0_pay8, k0_pay2]

/-- One block of a result over the staged blocks: the rows in front hold zeros. -/
def gateAt (X : FVec Ideal S2176x1024 .bf16) (W : FVec Ideal S512x1024 .bf16) (A : FVec Ideal S2176x512 .bf16) (r : Fin 2176) (q : Fin 512) : EReal :=
  if r.val < 112 then 0 else (∑ k : Fin 1024, X (ix2 r k) * W (ix2 q k)) * A (ix2 r q)
def gateBlk (X : FVec Ideal S2176x1024 .bf16) (W : FVec Ideal S512x1024 .bf16) (A : FVec Ideal S2176x512 .bf16) (y : S2176x512.Idx) : EReal :=
  gateAt X W A (y 0) (y 1)

/-- A stored half block is the block's columns from `o` on, below the rows in front. -/
theorem half (X : FVec Ideal S2176x1024 .bf16) (W : FVec Ideal S512x1024 .bf16) (A : FVec Ideal S2176x512 .bf16) (o : ℕ) (ho : o + 256 ≤ 512)
    (h0 : ∀ a, (![112, 0] : Fin 2 → ℕ) a + (![2064, 1024] : Fin 2 → ℕ) a ≤ S2176x1024.size a)
    (h1 : ∀ a, (![o, 0] : Fin 2 → ℕ) a + (![256, 1024] : Fin 2 → ℕ) a ≤ S512x1024.size a)
    (h2 : ∀ a, (![112, o] : Fin 2 → ℕ) a + (![2064, 256] : Fin 2 → ℕ) a ≤ S2176x512.size a) (x : S2064x256.Idx) :
    k0_pay9 (F := Ideal) (View.ld (Val := Elt Ideal) (e' := .bf16) X (Rect.unit (s := S2176x1024) ![112, 0] ![2064, 1024] h0)) (View.ld (Val := Elt Ideal) (e' := .bf16) W (Rect.unit (s := S512x1024) ![o, 0] ![256, 1024] h1))
      (View.ld (Val := Elt Ideal) (e' := .bf16) A (Rect.unit (s := S2176x512) ![112, o] ![2064, 256] h2)) x
      = gateBlk X W A ((Rect.unit (s := S2176x512) ![112, o] ![2064, 256] h2).emb x) := by
  obtain ⟨r, q, rfl⟩ : ∃ r q, x = ix2 r q := ⟨_, _, eq_ix2 x⟩
  have e : (Rect.unit (s := S2176x512) ![112, o] ![2064, 256] h2).emb (ix2 r q) = ix2 ⟨112 + r.val, by omega⟩ ⟨o + q.val, by omega⟩ :=
    Rect.emb_eq_of_coords _ _ _ fun a => by fin_cases a <;> simp
  have ex (k) : View.ld (Val := Elt Ideal) (e' := .bf16) X (Rect.unit (s := S2176x1024) ![112, 0] ![2064, 1024] h0) (ix2 r k) = X (ix2 ⟨112 + r.val, by omega⟩ k) :=
    View.ld_unit_apply_of (Val := Elt Ideal) (e := .bf16) (S := S2176x1024) X _ _ _ _ _ fun a => by fin_cases a <;> simp
  have ew (k) : View.ld (Val := Elt Ideal) (e' := .bf16) W (Rect.unit (s := S512x1024) ![o, 0] ![256, 1024] h1) (ix2 q k) = W (ix2 ⟨o + q.val, by omega⟩ k) :=
    View.ld_unit_apply_of (Val := Elt Ideal) (e := .bf16) (S := S512x1024) W _ _ _ _ _ fun a => by fin_cases a <;> simp
  have ea : View.ld (Val := Elt Ideal) (e' := .bf16) A (Rect.unit (s := S2176x512) ![112, o] ![2064, 256] h2) (ix2 r q) = A (ix2 ⟨112 + r.val, by omega⟩ ⟨o + q.val, by omega⟩) :=
    View.ld_unit_apply_of (Val := Elt Ideal) (e := .bf16) (S := S2176x512) A _ _ _ _ _ fun a => by fin_cases a <;> simp
  rw [pay9_at, e, ea]
  simp only [ex, ew]
  exact (if_neg (by show ¬112 + r.val < 112; omega)).symm

/-- The zeros in front. -/
theorem front (X : FVec Ideal S2176x1024 .bf16) (W : FVec Ideal S512x1024 .bf16) (A : FVec Ideal S2176x512 .bf16)
    (h : ∀ a, (![0, 0] : Fin 2 → ℕ) a + (![112, 512] : Fin 2 → ℕ) a ≤ S2176x512.size a) (x : S112x512.Idx) :
    k0_pay3 (F := Ideal) x = gateBlk X W A ((Rect.unit (s := S2176x512) ![0, 0] ![112, 512] h).emb x) := by
  obtain ⟨r, q, rfl⟩ : ∃ r q, x = ix2 r q := ⟨_, _, eq_ix2 x⟩
  have e : (Rect.unit (s := S2176x512) ![0, 0] ![112, 512] h).emb (ix2 r q) = ix2 ⟨r.val, by omega⟩ q :=
    Rect.emb_eq_of_coords _ _ _ fun a => by fin_cases a <;> simp
  rw [e]
  refine Eq.trans ?_ (if_pos (show r.val < 112 from r.isLt)).symm
  pointwise [k0_pay3]

theorem mem_of (o p a b : ℕ) (h : ∀ i, (![o, p] : Fin 2 → ℕ) i + (![a, b] : Fin 2 → ℕ) i ≤ S2176x512.size i) (y : S2176x512.Idx) (h0 : o ≤ (y 0).val)
    (h1 : (y 0).val < o + a) (h2 : p ≤ (y 1).val) (h3 : (y 1).val < p + b) : y ∈ (Rect.unit (s := S2176x512) ![o, p] ![a, b] h).set :=
  Rect.mem_set_unit.mpr (Fin.forall_fin_two.mpr ⟨⟨h0, h1⟩, ⟨h2, h3⟩⟩)

/-- The three stores of a result's block, the last first. -/
theorem stores (X : FVec Ideal S2176x1024 .bf16) (W : FVec Ideal S512x1024 .bf16) (A : FVec Ideal S2176x512 .bf16) (y : S2176x512.Idx) :
    View.canon (Val := Elt Ideal) (e := .bf16)
      [⟨Rect.unit ![112, 256] ![2064, 256] inb_S2176x512_S2064x256_112_256,
          k0_pay9 (View.ld (Val := Elt Ideal) (e' := .bf16) X (Rect.unit ![112, 0] ![2064, 1024] inb_S2176x1024_S2064x1024_112_0))
            (View.ld (Val := Elt Ideal) (e' := .bf16) W (Rect.unit ![256, 0] ![256, 1024] inb_S512x1024_S256x1024_256_0))
            (View.ld (Val := Elt Ideal) (e' := .bf16) A (Rect.unit ![112, 256] ![2064, 256] inb_S2176x512_S2064x256_112_256))⟩,
        ⟨Rect.unit ![112, 0] ![2064, 256] inb_S2176x512_S2064x256_112_0,
          k0_pay9 (View.ld (Val := Elt Ideal) (e' := .bf16) X (Rect.unit ![112, 0] ![2064, 1024] inb_S2176x1024_S2064x1024_112_0))
            (View.ld (Val := Elt Ideal) (e' := .bf16) W (Rect.unit ![0, 0] ![256, 1024] inb_S512x1024_S256x1024_0_0))
            (View.ld (Val := Elt Ideal) (e' := .bf16) A (Rect.unit ![112, 0] ![2064, 256] inb_S2176x512_S2064x256_112_0))⟩,
        ⟨Rect.unit ![0, 0] ![112, 512] inb_S2176x512_S112x512_0_0, k0_pay3 (F := Ideal)⟩] y = gateBlk X W A y := by
  refine View.canon_apply_of_pieces (Val := Elt Ideal) (e := .bf16) (gateBlk X W A) _ ?_ y ?_
  · intro p hp
    simp only [List.mem_cons, List.not_mem_nil, or_false] at hp
    rcases hp with rfl | rfl | rfl
    · exact half X W A 256 (by norm_num) inb_S2176x1024_S2064x1024_112_0 inb_S512x1024_S256x1024_256_0 inb_S2176x512_S2064x256_112_256
    · exact half X W A 0 (by norm_num) inb_S2176x1024_S2064x1024_112_0 inb_S512x1024_S256x1024_0_0 inb_S2176x512_S2064x256_112_0
    · exact front X W A inb_S2176x512_S112x512_0_0
  · have hy0 : (y 0).val < 2176 := (y 0).isLt
    have hy1 : (y 1).val < 512 := (y 1).isLt
    by_cases h0 : (y 0).val < 112
    · refine ⟨_, List.mem_cons_of_mem _ (List.mem_cons_of_mem _ List.mem_cons_self), ?_⟩
      exact mem_of 0 0 112 512 inb_S2176x512_S112x512_0_0 y (by omega) (by omega) (by omega) (by omega)
    · by_cases h1 : (y 1).val < 256
      · refine ⟨_, List.mem_cons_of_mem _ List.mem_cons_self, ?_⟩
        exact mem_of 112 0 2064 256 inb_S2176x512_S2064x256_112_0 y (by omega) (by omega) (by omega) (by omega)
      · refine ⟨_, List.mem_cons_self, ?_⟩
        exact mem_of 112 256 2064 256 inb_S2176x512_S2064x256_112_256 y (by omega) (by omega) (by omega) (by omega)

variable (m : (ℓ : Loc nD τ sig) → Buf (Elt Ideal) ℓ)

theorem idx : ∀ t : Fin cfg0.N, win0_0.index t = ![0, 0] ∧ win0_1.index t = ![t.val, 0] ∧ win0_2.index t = ![0, t.val]
    ∧ win0_3.index t = ![0, t.val] ∧ win0_4.index t = ![0, t.val] ∧ win0_5.index t = ![0, t.val] :=
  (by decide +kernel : ∀ t : Fin grid0.N, _)

/-- The array column that column `q` of block `t` is. -/
def colAt (t : Fin cfg0.N) (q : Fin 512) : Fin 3072 := ⟨t.val * 512 + q.val, by have : t.val < 6 := t.isLt; omega⟩

/-- The arrays at the region's entry: the cotangent, the weight, the two derivatives of the activation. -/
abbrev Dh (c : Dev nD) : FVec Ideal S2176x1024 .bf16 := V m c main_v29
abbrev W (c : Dev nD) : FVec Ideal S3072x1024 .bf16 := V m c main_v34
abbrev Ag (c : Dev nD) : FVec Ideal S2176x3072 .bf16 := V m c main_v26
abbrev Au (c : Dev nD) : FVec Ideal S2176x3072 .bf16 := V m c main_v35

/-- A result array over whole arrays. -/
def arrAt (D : FVec Ideal S2176x1024 .bf16) (W : FVec Ideal S3072x1024 .bf16) (A : FVec Ideal S2176x3072 .bf16) (r : Fin 2176) (j : Fin 3072) : EReal :=
  if r.val < 112 then 0 else (∑ k : Fin 1024, D (ix2 r k) * W (ix2 j k)) * A (ix2 r j)
def gateArr (D : FVec Ideal S2176x1024 .bf16) (W : FVec Ideal S3072x1024 .bf16) (A : FVec Ideal S2176x3072 .bf16) : FVec Ideal S2176x3072 .bf16 := fun i =>
  arrAt D W A (i 0) (i 1)

theorem bD_at (c : Dev nD) (t : Fin cfg0.N) (r : Fin 2176) (k : Fin 1024) : (iblk m c 0 t : FVec Ideal S2176x1024 .bf16) (ix2 r k) = Dh m c (ix2 r k) := by
  blk_ext [iblk, idx t]
theorem bW_at (c : Dev nD) (t : Fin cfg0.N) (q : Fin 512) (k : Fin 1024) : (iblk m c 1 t : FVec Ideal S512x1024 .bf16) (ix2 q k) = W m c (ix2 (colAt t q) k) := by
  unfold colAt; blk_ext [iblk, idx t]
theorem bAg_at (c : Dev nD) (t : Fin cfg0.N) (r : Fin 2176) (q : Fin 512) : (iblk m c 2 t : FVec Ideal S2176x512 .bf16) (ix2 r q) = Ag m c (ix2 r (colAt t q)) := by
  unfold colAt; blk_ext [iblk, idx t]
theorem bAu_at (c : Dev nD) (t : Fin cfg0.N) (r : Fin 2176) (q : Fin 512) : (iblk m c 3 t : FVec Ideal S2176x512 .bf16) (ix2 r q) = Au m c (ix2 r (colAt t q)) := by
  unfold colAt; blk_ext [iblk, idx t]

theorem pointAg (c : Dev nD) (t : Fin cfg0.N) (r : Fin 2176) (q : Fin 512) :
    gateAt (iblk m c 0 t) (iblk m c 1 t) (iblk m c 2 t) r q = arrAt (Dh m c) (W m c) (Ag m c) r (colAt t q) := by
  unfold gateAt arrAt
  simp only [bD_at, bW_at, bAg_at]

theorem pointAu (c : Dev nD) (t : Fin cfg0.N) (r : Fin 2176) (q : Fin 512) :
    gateAt (iblk m c 0 t) (iblk m c 1 t) (iblk m c 3 t) r q = arrAt (Dh m c) (W m c) (Au m c) r (colAt t q) := by
  unfold gateAt arrAt
  simp only [bD_at, bW_at, bAu_at]

/-- Window 4 after the run: the gradient in the gate. -/
theorem final4 (c : Dev nD) : (dats m 0 c).arrAt 4 (cfgs 0).N = gateArr (Dh m c) (W m c) (Ag m c) := by
  refine (dats m 0 c).arrAt_eq_of_covers 4 _ (by decide +kernel) fun t _ y => ?_
  blk_simp
  rw [after0_4]
  have key : (outsAt0 m c t).1 = gateBlk (iblk m c 0 t) (iblk m c 1 t) (iblk m c 2 t) := by
    funext y
    unfold outsAt0; frame_out
    exact stores _ _ _ y
  rw [key]
  have cov : gateArr (Dh m c) (W m c) (Ag m c) (ix2 (y 0) (colAt t (y 1))) = gateArr (Dh m c) (W m c) (Ag m c) (((cfg0.win 4).blk t).view.emb y) := by
    unfold colAt; blk_ext [idx t]
  refine Eq.trans ?_ cov
  exact pointAg m c t (y 0) (y 1)

/-- Window 5 after the run: the gradient in the other factor. -/
theorem final5 (c : Dev nD) : (dats m 0 c).arrAt 5 (cfgs 0).N = gateArr (Dh m c) (W m c) (Au m c) := by
  refine (dats m 0 c).arrAt_eq_of_covers 5 _ (by decide +kernel) fun t _ y => ?_
  blk_simp
  rw [after0_5]
  have key : (outsAt0 m c t).2 = gateBlk (iblk m c 0 t) (iblk m c 1 t) (iblk m c 3 t) := by
    funext y
    unfold outsAt0; frame_out
    exact stores _ _ _ y
  rw [key]
  have cov : gateArr (Dh m c) (W m c) (Au m c) (ix2 (y 0) (colAt t (y 1))) = gateArr (Dh m c) (W m c) (Au m c) (((cfg0.win 5).blk t).view.emb y) := by
    unfold colAt; blk_ext [idx t]
  refine Eq.trans ?_ cov
  exact pointAu m c t (y 0) (y 1)

end Cert.Kernel4Ideal.Gate

end
-- ==== Proof.GateRef.lean ====
/- The derivative of the gated product's forward lines, read element by element. -/
module

public import proofs.«01_k».proof.Proof.Gen.Reference4Ideal.Read
public import proofs.«01_k».proof.Proof.Reals
public import Idealize.ShloMosaic.Lib.Pointwise

@[expose] public section

set_option maxRecDepth 16384

noncomputable section

open Idealize.ShloMosaic Idealize.ShloMosaic.TcCoe Idealize.SL.Sem

namespace Cert.Reference4Ideal.Gate

open Cert.Reference4Ideal Cert.Reference4Ideal.Gen Cert.Reference4Ideal.Read

/-- The logistic function of an extended real, as the programs spell it. -/
def sg (x : EReal) : EReal := Ideal.div 1 (1 + Ideal.exp (-x))

variable (g u : FVec Ideal S2064x2816 .f32) (w : FVec Ideal S2816x1024 .f32) (d : FVec Ideal S2064x1024 .f32)

theorem sg_at (r : Fin 2064) (j : Fin 2816) : val_main_v0_2 (F := Ideal) g (ix2 r j) = sg (g (ix2 r j)) := by
  pointwise [val_main_v0_2, val_main_call0_v4, val_main_call0_cst_0, val_main_call0_v3, val_main_call0_v2, val_main_call0_cst, val_main_call0_v1, val_main_call0_v0]
  rfl

/-- The gate's gradient, at one row and column. -/
theorem dgate_at (r : Fin 2064) (j : Fin 2816) : val_main_v8 (F := Ideal) g u w d (ix2 r j)
    = (∑ k : Fin 1024, d (ix2 r k) * w (ix2 j k)) * u (ix2 r j) * sg (g (ix2 r j))
      + g (ix2 r j) * ((∑ k : Fin 1024, d (ix2 r k) * w (ix2 j k)) * u (ix2 r j)) * (sg (g (ix2 r j)) * (1 - sg (g (ix2 r j)))) := by
  pointwise [val_main_v8, val_main_call1_v2, val_main_call1_v1, val_main_call1_v0, val_main_v7, val_main_v5, val_main_v0_1, val_main_call0_v7, val_main_call0_v6, val_main_call0_cst_1, sg_at]

/-- The other factor's gradient, at one row and column. -/
theorem dup_at (r : Fin 2064) (j : Fin 2816) : val_main_v6 (F := Ideal) g w d (ix2 r j)
    = g (ix2 r j) * sg (g (ix2 r j)) * ∑ k : Fin 1024, d (ix2 r k) * w (ix2 j k) := by
  pointwise [val_main_v6, val_main_v5, val_main_v0_0, sg_at]

/-- The gate's gradient as the kernel lays it out: rows in front, and columns at the end of each device's part, of zeros. -/
theorem v15_at (r : Fin 2176) (j : Fin 3072) : val_main_v15 (F := Ideal) g u w d (ix2 r j)
    = if h : r.val < 112 then 0 else if h' : j.val % 384 < 352 then
        val_main_v8 (F := Ideal) g u w d (ix2 ⟨r.val - 112, by omega⟩ ⟨j.val / 384 * 352 + j.val % 384, by omega⟩) else 0 := by
  pointwise [val_main_v15, val_main_v14, val_main_v13, val_main_cst_0, val_main_v12, val_main_v11, val_main_v10, val_main_v9, val_main_cst]

theorem v22_at (r : Fin 2176) (j : Fin 3072) : val_main_v22 (F := Ideal) g w d (ix2 r j)
    = if h : r.val < 112 then 0 else if h' : j.val % 384 < 352 then
        val_main_v6 (F := Ideal) g w d (ix2 ⟨r.val - 112, by omega⟩ ⟨j.val / 384 * 352 + j.val % 384, by omega⟩) else 0 := by
  pointwise [val_main_v22, val_main_v21, val_main_v20, val_main_cst_2, val_main_v19, val_main_v18, val_main_v17, val_main_v16, val_main_cst_1]

end Cert.Reference4Ideal.Gate

end
-- ==== Proof.Gate.lean ====
/- The gated product's backward kernel against the derivative of the forward lines: the value claim. -/
module

public import proofs.«01_k».proof.Defs
public import proofs.«01_k».proof.Proof.Gen.Pre_gate_finite
public import proofs.«01_k».proof.Proof.GateKernel
public import proofs.«01_k».proof.Proof.GateRef
public import Idealize.ShloMosaic.Lib.Claim

@[expose] public section

set_option maxRecDepth 16384

noncomputable section

open Idealize.ShloMosaic Idealize.ShloMosaic.TcCoe Idealize.SL.Sem

namespace Cert.GateProof

open Cert.Reals Cert.Kernel4Ideal Cert.Kernel4Ideal.Gen Cert.Kernel4Ideal.Gate
open Cert.Reference4Ideal.Gate (sg)

/-- The logistic function of a real number is a real number. -/
theorem sg_coe (x : ℝ) : sg (x : EReal) = ((1 / (1 + Real.exp (-x)) : ℝ) : EReal) := by
  have h : (1 + Real.exp (-x) : ℝ) ≠ 0 := (add_pos one_pos (Real.exp_pos _)).ne'
  have e : ((1 : ℝ) : EReal) = 1 := rfl
  unfold sg
  rw [← EReal.coe_neg, Ideal.exp_coe, ← e, ← EReal.coe_add, div_coe_coe h]

variable (m : (ℓ : Loc nD τ sig) → Buf (Elt Ideal) ℓ)

/-- The arguments at their own types. -/
abbrev a0 (c : Dev nD) : FVec Ideal S2064x2816 .f32 := m ((c : Thread nD τ).loc main_arg0)
abbrev a1 (c : Dev nD) : FVec Ideal S2064x2816 .f32 := m ((c : Thread nD τ).loc main_arg1)
abbrev a2 (c : Dev nD) : FVec Ideal S2816x1024 .f32 := m ((c : Thread nD τ).loc main_arg2)
abbrev a3 (c : Dev nD) : FVec Ideal S2064x1024 .f32 := m ((c : Thread nD τ).loc main_arg3)

/-- The feature that column `j` of the padded layout is. -/
abbrev feat (j : Fin 3072) (h : j.val % 384 < 352) : Fin 2816 := ⟨j.val / 384 * 352 + j.val % 384, by omega⟩

theorem Dh_at (c : Dev nD) (r : Fin 2176) (h : ¬r.val < 112) (k : Fin 1024) : Dh m c (ix2 r k) = a3 m c (ix2 ⟨r.val - 112, by omega⟩ k) := by
  unfold Dh; entry_read; pointwise []; exact dif_neg h
theorem W_at (c : Dev nD) (j : Fin 3072) (k : Fin 1024) : W m c (ix2 j k) = if h : j.val % 384 < 352 then a2 m c (ix2 (feat j h) k) else 0 := by
  unfold W; entry_read; pointwise []
theorem Ag_at (c : Dev nD) (r : Fin 2176) (h : ¬r.val < 112) (j : Fin 3072) (h' : j.val % 384 < 352) : Ag m c (ix2 r j)
    = a1 m c (ix2 ⟨r.val - 112, by omega⟩ (feat j h')) * (sg (a0 m c (ix2 ⟨r.val - 112, by omega⟩ (feat j h')))
      * (1 + a0 m c (ix2 ⟨r.val - 112, by omega⟩ (feat j h')) * (1 - sg (a0 m c (ix2 ⟨r.val - 112, by omega⟩ (feat j h')))))) := by
  unfold Ag; entry_read; pointwise []; simp only [dif_neg h, dif_pos h']; rfl
theorem Au_at (c : Dev nD) (r : Fin 2176) (h : ¬r.val < 112) (j : Fin 3072) (h' : j.val % 384 < 352) : Au m c (ix2 r j)
    = a0 m c (ix2 ⟨r.val - 112, by omega⟩ (feat j h')) * sg (a0 m c (ix2 ⟨r.val - 112, by omega⟩ (feat j h'))) := by
  unfold Au; entry_read; pointwise []; simp only [dif_neg h, dif_pos h']; rfl

variable {m}

/-- What the precondition says of one entry. -/
theorem real_of_cmp {s : Shape} (x : FVec Ideal s .f32) (i : s.Idx) (b : FVec Ideal s .f32) (hb : b i = Ideal.ofBits .f32 0x7F800000#32)
    (h : cmpf .olt (Host.absf x) b = fun _ => 1#1) : (((x i).toReal : ℝ) : EReal) = x i := by
  refine coe_of_abs_lt (x i) ?_
  rw [← ofBits_inf, ← hb]
  exact congrFun h i

/-- The cotangent's product with the weight, over the arguments: zero in the columns that pad a device's part. -/
theorem dot_pos (c : Dev nD) (r : Fin 2176) (h : ¬r.val < 112) (j : Fin 3072) (h' : j.val % 384 < 352) :
    (∑ k : Fin 1024, Dh m c (ix2 r k) * W m c (ix2 j k) : EReal)
      = ∑ k : Fin 1024, a3 m c (ix2 ⟨r.val - 112, by omega⟩ k) * a2 m c (ix2 (feat j h') k) :=
  Finset.sum_congr rfl fun k _ => by rw [Dh_at m c r h, W_at, dif_pos h']
theorem dot_neg (c : Dev nD) (r : Fin 2176) (j : Fin 3072) (h' : ¬j.val % 384 < 352) :
    (∑ k : Fin 1024, Dh m c (ix2 r k) * W m c (ix2 j k) : EReal) = 0 :=
  Finset.sum_eq_zero fun k _ => by rw [W_at, dif_neg h', mul_zero]

/-- The kernel's gradient in the gate is the derivative's. -/
theorem dgate_eq (hpre : Cert.Pre_Kernel4Ideal_gate_finite m) (c : Dev nD) :
    gateArr (Dh m c) (W m c) (Ag m c) = Cert.Reference4Ideal.Read.val_main_v15 (F := Ideal) (a0 m c) (a1 m c) (a2 m c) (a3 m c) := by
  funext i
  obtain ⟨r, j, rfl⟩ : ∃ r j, i = ix2 r j := ⟨_, _, eq_ix2 i⟩
  rw [Cert.Reference4Ideal.Gate.v15_at]
  show arrAt _ _ _ r j = _
  unfold arrAt
  by_cases h : r.val < 112
  · rw [if_pos h, dif_pos h]
  rw [if_neg h, dif_neg h]
  by_cases h' : j.val % 384 < 352
  · rw [dif_pos h', dot_pos c r h j h', Ag_at m c r h j h', Cert.Reference4Ideal.Gate.dgate_at]
    obtain ⟨g, hg⟩ : ∃ g : ℝ, a0 m c (ix2 ⟨r.val - 112, by omega⟩ (feat j h')) = (g : EReal) := ⟨_, (real_of_cmp (a0 m c) _ _ rfl (hpre c).1).symm⟩
    obtain ⟨u, hu⟩ : ∃ u : ℝ, a1 m c (ix2 ⟨r.val - 112, by omega⟩ (feat j h')) = (u : EReal) := ⟨_, (real_of_cmp (a1 m c) _ _ rfl (hpre c).2.1).symm⟩
    obtain ⟨s, hs⟩ : ∃ s : ℝ, (∑ k : Fin 1024, a3 m c (ix2 ⟨r.val - 112, by omega⟩ k) * a2 m c (ix2 (feat j h') k)) = (s : EReal) := by
      refine ⟨∑ k : Fin 1024, (a3 m c (ix2 ⟨r.val - 112, by omega⟩ k)).toReal * (a2 m c (ix2 (feat j h') k)).toReal, ?_⟩
      rw [← coe_sum]
      refine Finset.sum_congr rfl fun k _ => ?_
      rw [EReal.coe_mul, real_of_cmp (a3 m c) _ _ rfl (hpre c).2.2.2, real_of_cmp (a2 m c) _ _ rfl (hpre c).2.2.1]
    rw [hg, hu, hs, sg_coe]
    have e : (1 : EReal) = ((1 : ℝ) : EReal) := rfl
    rw [e]
    simp only [← EReal.coe_mul, ← EReal.coe_sub, ← EReal.coe_add]
    congr 1; ring
  · rw [dif_neg h', dot_neg c r j h', zero_mul]

/-- The kernel's gradient in the other factor is the derivative's. -/
theorem dup_eq (c : Dev nD) :
    gateArr (Dh m c) (W m c) (Au m c) = Cert.Reference4Ideal.Read.val_main_v22 (F := Ideal) (a0 m c) (a2 m c) (a3 m c) := by
  funext i
  obtain ⟨r, j, rfl⟩ : ∃ r j, i = ix2 r j := ⟨_, _, eq_ix2 i⟩
  rw [Cert.Reference4Ideal.Gate.v22_at]
  show arrAt _ _ _ r j = _
  unfold arrAt
  by_cases h : r.val < 112
  · rw [if_pos h, dif_pos h]
  rw [if_neg h, dif_neg h]
  by_cases h' : j.val % 384 < 352
  · rw [dif_pos h', dot_pos c r h j h', Au_at m c r h j h', Cert.Reference4Ideal.Gate.dup_at]
    exact mul_comm (_ : EReal) _
  · rw [dif_neg h', dot_neg c r j h', zero_mul]

/-- The kernel and the derivative of the forward lines compute the same two gradients from finite arguments. -/
theorem value : Cert.algebraic_Kernel4Ideal_Reference4Ideal_pre_gate_finite := by
  pair_intro
  · run_from Cert.Kernel4Ideal.Value.run_blocks m g
  · run_from Cert.Reference4Ideal.Value.run m' g'
    · rw [Cert.Kernel4Ideal.Gate.final4, Cert.Reference4Ideal.Read.val_main_v15_eq, dgate_eq hpre, (hagree c).2.2.2]
    · rw [Cert.Kernel4Ideal.Gate.final5, Cert.Reference4Ideal.Read.val_main_v22_eq, dup_eq, (hagree c).2.2.1, (hagree c).2.2.2]

end Cert.GateProof

end
-- ==== Proof.MixHost.lean ====
/- The arrays that the mixer's forward kernel's region is entered with, read from the arguments: the padded rows, the tables of
   the rotation and of the decays, the gain. -/
module

public import proofs.«01_k».proof.Proof.Gen.Kernel5Ideal.Frame.Runs
public import proofs.«01_k».proof.Proof.RetMath
public import Idealize.ShloMosaic.Lib.Pipeline.ValueKit
public import Idealize.ShloMosaic.Lib.StableHlo.ReadAt
public import Idealize.ShloMosaic.Lib.IdealHost

@[expose] public section

set_option maxRecDepth 16384

noncomputable section

open Idealize.ShloMosaic Idealize.ShloMosaic.TcCoe Idealize.SL.Sem

namespace Cert.Mix.Host

open Cert.Kernel5Ideal Cert.Kernel5Ideal.Gen Cert.Ret

variable (m : (ℓ : Loc nD τ sig) → Buf (Elt Ideal) ℓ)

/-- The two arguments that matter, at their own types. -/
abbrev aProj (c : Dev nD) : FVec Ideal S2064x3072 .f32 := m ((c : Thread nD τ).loc main_arg0)
abbrev aGain (c : Dev nD) : FVec Ideal S512 .f32 := m ((c : Thread nD τ).loc main_arg9)

/-- The arrays at the region's entry, at their own types. -/
abbrev Rows (c : Dev nD) : FVec Ideal S2176x3072 .f32 := V m c main_v1
abbrev Cos (c : Dev nD) : FVec Ideal S2176x128 .f32 := V m c main_v49
abbrev Sin (c : Dev nD) : FVec Ideal S2176x128 .f32 := V m c main_v53
abbrev Mask (c : Dev nD) : FVec Ideal S4x128x128 .f32 := V m c main_v79
abbrev Xi (c : Dev nD) : FVec Ideal S4x128x128 .f32 := V m c main_v97
abbrev Zeta (c : Dev nD) : FVec Ideal S4x128x128 .f32 := V m c main_v99
abbrev Gain (c : Dev nD) : FVec Ideal S1x512 .f32 := V m c main_v100

theorem rows_at (c : Dev nD) (r : Fin 2176) (k : Fin 3072) :
    Rows m c (ix2 r k) = if h : r.val < 112 then 0 else aProj m c (ix2 ⟨r.val - 112, by omega⟩ k) := by
  unfold Rows; unfold V; after_reads_at

theorem gain_at (c : Dev nD) (k : Fin 512) : Gain m c (ix2 0 k) = aGain m c (ix1 k) := by
  unfold Gain; unfold V; after_reads_at

theorem mask_at (c : Dev nD) (h : Fin 4) (r s : Fin 128) : Mask m c (ix3 h r s) = ((dm h r s : ℝ) : EReal) := by
  unfold Mask; unfold V; after_reads_at
  rw [log_decay, float_nat _ (by omega), float_nat _ (by omega)]
  show (if _ then _ else Ideal.ofBits .f32 0#32) = _
  rw [Ideal.ofBits_zero]
  exact mask_eq h r s

theorem xi_at (c : Dev nD) (h : Fin 4) (r d : Fin 128) : Xi m c (ix3 h r d) = ((xi h r : ℝ) : EReal) := by
  unfold Xi; unfold V; after_reads_at
  rw [log_decay, float_nat _ (by omega), ← EReal.coe_one, ← EReal.coe_add, ← EReal.coe_mul, Ideal.exp_coe]; rfl

theorem zeta_at (c : Dev nD) (h : Fin 4) (r d : Fin 128) : Zeta m c (ix3 h r d) = ((zt h r : ℝ) : EReal) := by
  unfold Zeta; unfold V; after_reads_at
  rw [log_decay, float_nat _ (by omega), ofBits_127, ← EReal.coe_sub, ← EReal.coe_mul, Ideal.exp_coe]; rfl

theorem cos_at (c : Dev nD) (n : Fin 17) (r d : Fin 128) :
    Cos m c (ix2 ⟨128 * n.val + r.val, by omega⟩ d) = ((cs n.val r d : ℝ) : EReal) := by
  unfold Cos; unfold V; after_reads_at
  by_cases hd : d.val < 64
  · rw [dif_pos hd, angle_at n r d _ hd (by omega)]; rfl
  · rw [dif_neg hd, angle_at n r d _ (by omega) (by omega)]; rfl

theorem sin_at (c : Dev nD) (n : Fin 17) (r d : Fin 128) :
    Sin m c (ix2 ⟨128 * n.val + r.val, by omega⟩ d) = ((sn n.val r d : ℝ) : EReal) := by
  unfold Sin; unfold V; after_reads_at; unfold sn
  by_cases hd : d.val < 64
  · rw [dif_pos hd, if_pos hd, angle_at n r d _ hd (by omega)]; rfl
  · rw [dif_neg hd, if_neg hd, angle_at n r d _ (by omega) (by omega)]; rfl

/-- The two arguments hold the real numbers of `X`. -/
structure Holds (c : Dev nD) (X : Args) : Prop where
  proj : ∀ (t : Fin 2064) (k : Fin 3072), aProj m c (ix2 t k) = ((X.proj t k : ℝ) : EReal)
  gain : ∀ k : Fin 512, aGain m c (ix1 k) = ((X.gain k : ℝ) : EReal)

end Cert.Mix.Host

end
-- ==== Proof.MixFrame.lean ====
/- What a point of the mixer's forward kernel leaves, over the run of its body: the first point's, and a later point's over
   what the point before left. -/
module

public import proofs.«01_k».proof.Proof.Gen.Kernel5Ideal.Frame

@[expose] public section

set_option maxRecDepth 16384
set_option maxHeartbeats 4000000

noncomputable section

namespace Cert.Mix.Frame

open Idealize.ShloMosaic Idealize.ShloMosaic.TcCoe Cert.Kernel5Ideal Cert.Kernel5Ideal.Gen

variable (m : (ℓ : Loc nD τ sig) → Buf (Elt Ideal) ℓ) (c : Dev nD) (t : Fin cfg0.N)

/-- The body's run at the first point. -/
def runA (h : t.val % 17 = 0) :=
  kernelRun0_A (F := Ideal)
    c (grid0.coords t) (ms0_0 t) (hs0_0 t) (ms0_1 t) (hs0_1 t) (ms0_2 t) (hs0_2 t) (ms0_3 t) (hs0_3 t) (ms0_4 t) (hs0_4 t) (ms0_5 t)
    (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t)
    (ms0_16 t) (hs0_16 t) (ms0_17 t) (hs0_17 t) (ms0_18 t) (hs0_18 t) (ms0_19 t) (hs0_19 t) (ms0_20 t) (hs0_20 t)
    (ms0_21 t) (hs0_21 t) (ms0_22 t) (hs0_22 t)
    scM0_0 (Memref.isWhole_whole _) scM0_1 (Memref.isWhole_whole _) scM0_2 (Memref.isWhole_whole _) scM0_3
    (Memref.isWhole_whole _) scM0_4 (Memref.isWhole_whole _) ((hcond0_0 t).mpr h) ((hcond0_1 t).mpr h)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t) (iblk m c 16 t) (iblk m c 17 t) (iblk m c 18 t) (iblk m c 19 t)

/-- The body's run at a later point, over the rows, the recurrence's value and the states that the point before left. -/
def runB (h : ¬t.val % 17 = 0) (xp : Vec Ideal S128x512 .f32) (hp : Vec Ideal S1x512 .f32) (sp : Vec Ideal S4x128x128 .f32) :=
  kernelRun0_B (F := Ideal)
    c (grid0.coords t) (ms0_0 t) (hs0_0 t) (ms0_1 t) (hs0_1 t) (ms0_2 t) (hs0_2 t) (ms0_3 t) (hs0_3 t) (ms0_4 t) (hs0_4 t) (ms0_5 t)
    (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t)
    (ms0_16 t) (hs0_16 t) (ms0_17 t) (hs0_17 t) (ms0_18 t) (hs0_18 t) (ms0_19 t) (hs0_19 t) (ms0_20 t) (hs0_20 t)
    (ms0_21 t) (hs0_21 t) (ms0_22 t) (hs0_22 t)
    scM0_0 (Memref.isWhole_whole _) scM0_1 (Memref.isWhole_whole _) scM0_2 (Memref.isWhole_whole _) scM0_3
    (Memref.isWhole_whole _) scM0_4 (Memref.isWhole_whole _) (fun e => h ((hcond0_0 t).mp e)) (fun e => h ((hcond0_1 t).mp e))
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t) (iblk m c 16 t) (iblk m c 17 t) (iblk m c 18 t) (iblk m c 19 t) xp hp sp

/-- The mixer's output block, the saved states and the carried states that points up to `n` leave. -/
def outB (n : ℕ) (hn : n < cfg0.N) : Vec Ideal S128x1024 .bf16 := (outsAt0 m c n hn).1
def savedB (n : ℕ) (hn : n < cfg0.N) : Vec Ideal S1x4x128x128 .f32 := (outsAt0 m c n hn).2.2.1
def stateB (n : ℕ) (hn : n < cfg0.N) : Vec Ideal S4x128x128 .f32 := (outsAt0 m c n hn).2.2.2.2.2

theorem after_20 : (dats m 0 c).after 20 t = outB m c t.val t.isLt := after0_20 m c t
theorem after_22 : (dats m 0 c).after 22 t = savedB m c t.val t.isLt := after0_22 m c t

section First

variable (h : t.val % 17 = 0)

theorem out_A : outB m c t.val t.isLt = View.canon (runA m c t h).1 :=
  (congrArg (·.1) (outsAt0_A m c t h h)).trans (View.read_writes_junk_eq_canon (Val := Elt Ideal) VO0_20 _)
theorem saved_A : savedB m c t.val t.isLt = View.canon (runA m c t h).2.2.1 :=
  (congrArg (·.2.2.1) (outsAt0_A m c t h h)).trans (View.read_writes_junk_eq_canon (Val := Elt Ideal) VO0_22 _)
theorem state_A : stateB m c t.val t.isLt = View.canon (runA m c t h).2.2.2.2.2.1 :=
  (congrArg (·.2.2.2.2.2) (outsAt0_A m c t h h)).trans (View.read_writes_junk_eq_canon (Val := Elt Ideal) VS0_4 _)

end First

section Later

variable (h : ¬t.val % 17 = 0) (hp : t.val - 1 < cfg0.N)

/-- The rows and the recurrence's value that the point before leaves. -/
def rowsB (n : ℕ) (hn : n < cfg0.N) : Vec Ideal S128x512 .f32 := (outsAt0 m c n hn).2.2.2.1
def carryB (n : ℕ) (hn : n < cfg0.N) : Vec Ideal S1x512 .f32 := (outsAt0 m c n hn).2.2.2.2.1

/-- The run of a later point over what the point before it leaves. -/
def runOf := runB m c t h (rowsB m c (t.val - 1) hp) (carryB m c (t.val - 1) hp) (stateB m c (t.val - 1) hp)

theorem out_B : outB m c t.val t.isLt = View.canon (runOf m c t h hp).1 :=
  (congrArg (·.1) (outsAt0_B m c t h h)).trans (View.read_writes_junk_eq_canon (Val := Elt Ideal) VO0_20 _)
theorem saved_B : savedB m c t.val t.isLt = View.canon (runOf m c t h hp).2.2.1 :=
  (congrArg (·.2.2.1) (outsAt0_B m c t h h)).trans (View.read_writes_junk_eq_canon (Val := Elt Ideal) VO0_22 _)
theorem state_B : stateB m c t.val t.isLt = View.canon (runOf m c t h hp).2.2.2.2.2.1 :=
  (congrArg (·.2.2.2.2.2) (outsAt0_B m c t h h)).trans (View.read_writes_junk_eq_canon (Val := Elt Ideal) VS0_4 _)

end Later

end Cert.Mix.Frame

end
-- ==== Proof.MixBlock.lean ====
/- What the body of the mixer's forward kernel computes for one retention head from one chunk's blocks: each intermediate, as a
   vector program over the blocks, reads entry by entry the real number that `RetMath` names. -/
module

public import proofs.«01_k».proof.Proof.Gen.Kernel5Ideal.Skeleton
public import proofs.«01_k».proof.Proof.RetBlock

@[expose] public section

set_option maxRecDepth 16384

noncomputable section

namespace Cert.Mix

open Idealize.ShloMosaic Cert.Kernel5Ideal Cert.Kernel5Ideal.Gen Cert.Ret

/-- The mixer's output at a row of a chunk: the gate times the normalised row with its gain. -/
def mixed (X : Args) (n : ℕ) (h : Fin 4) (r e : Fin 128) : ℝ := silu X n h r e * (yn X n h r e * gn X h e)

theorem mixed_pad {X : Args} {n : ℕ} {r : Fin 128} (hp : 128 * n + r.val < 112) (h : Fin 4) (e : Fin 128) : mixed X n h r e = 0 := by
  simp [mixed, silu, g, raw_pad hp]

/-- The blocks that a head's part of the body reads. -/
structure Blk where
  (q k v g cs sn : Vec Ideal S128x128 .f32)
  (dm xi zt st : Vec Ideal S1x128x128 .f32)
  gain : Vec Ideal S1x128 .f32

namespace Blk

variable (B : Blk)

def qr := k0_pay180 (F := Ideal) B.cs B.sn B.q
def kf := k0_pay184 (F := Ideal) (k0_pay178 (F := Ideal) B.cs) (k0_pay179 (F := Ideal) B.sn) B.k
def kr := k0_pay188 (F := Ideal) (k0_pay178 (F := Ideal) B.cs) (k0_pay179 (F := Ideal) B.sn) B.k
def vb := k0_pay192 (F := Ideal) B.v
def sm := k0_pay196 (F := Ideal) B.st
def saved := k0_pay200 (F := Ideal) B.st
def sc := k0_pay204 (F := Ideal) B.qr B.kr B.dm
def ys := k0_pay208 (F := Ideal) B.qr B.sm B.xi
def y := k0_pay217 (F := Ideal) B.vb B.sc B.ys
def yn := k0_pay224 (F := Ideal) B.y (k0_pay221 (F := Ideal) B.vb B.sc B.ys) (Scalar.ofBits .f32 0x43000000#32)
def out := k0_pay230 (F := Ideal) B.yn B.g B.gain

/-- The blocks hold chunk `n`'s rows for head `h` and the state before it. -/
structure Reads (X : Args) (n : ℕ) (h : Fin 4) : Prop where
  q : ∀ r d : Fin 128, B.q (ix2 r d) = ((raw X 0 n h r d : ℝ) : EReal)
  k : ∀ r d : Fin 128, B.k (ix2 r d) = ((raw X 1 n h r d : ℝ) : EReal)
  v : ∀ r d : Fin 128, B.v (ix2 r d) = ((raw X 2 n h r d : ℝ) : EReal)
  g : ∀ r d : Fin 128, B.g (ix2 r d) = ((raw X 3 n h r d : ℝ) : EReal)
  cs : ∀ r d : Fin 128, B.cs (ix2 r d) = ((Ret.cs n r d : ℝ) : EReal)
  sn : ∀ r d : Fin 128, B.sn (ix2 r d) = ((Ret.sn n r d : ℝ) : EReal)
  dm : ∀ r s : Fin 128, B.dm (ix3 0 r s) = ((Ret.dm h r s : ℝ) : EReal)
  xi : ∀ r d : Fin 128, B.xi (ix3 0 r d) = ((Ret.xi h r : ℝ) : EReal)
  zt : ∀ r d : Fin 128, B.zt (ix3 0 r d) = ((Ret.zt h r : ℝ) : EReal)
  st : ∀ d e : Fin 128, B.st (ix3 0 d e) = ((S X n h d e : ℝ) : EReal)
  gain : ∀ e : Fin 128, B.gain (ix2 0 e) = ((gn X h e : ℝ) : EReal)

variable {B} {X : Args} {n : ℕ} {h : Fin 4} (H : B.Reads X n h)
include H

theorem qr_at (r d : Fin 128) : B.qr (ix2 r d) = ((Ret.q X n h r d : ℝ) : EReal) := by
  unfold qr
  pointwise [k0_pay180, k0_pay178, k0_pay179]
  simp only [H.q, H.cs, H.sn, ← EReal.coe_mul, ← EReal.coe_add]
  rfl

theorem kf_at (r d : Fin 128) : B.kf (ix2 r d) = ((Ret.k X n h r d : ℝ) : EReal) := by
  unfold kf
  pointwise [k0_pay184, k0_pay178, k0_pay179]
  simp only [H.k, H.cs, H.sn, ofBits_scale, ← EReal.coe_mul, ← EReal.coe_add]
  rfl

theorem kr_at (r d : Fin 128) : B.kr (ix2 r d) = ((Ret.k X n h r d : ℝ) : EReal) := kf_at H r d

theorem vb_at (r d : Fin 128) : B.vb (ix2 r d) = ((Ret.v X n h r d : ℝ) : EReal) := by
  unfold vb
  pointwise [k0_pay192]
  exact H.v r d

theorem sm_at (d e : Fin 128) : B.sm (ix2 d e) = ((S X n h d e : ℝ) : EReal) := by
  unfold sm
  pointwise [k0_pay196]
  exact H.st d e

theorem saved_at (d e : Fin 128) : B.saved (ix4 0 0 d e) = ((S X n h d e : ℝ) : EReal) := by
  unfold saved
  pointwise [k0_pay200, k0_pay196]
  exact H.st d e

theorem sc_at (r s : Fin 128) : B.sc (ix2 r s) = ((Ret.sc X n h r s : ℝ) : EReal) := by
  unfold sc
  pointwise [k0_pay204]
  simp only [qr_at H, kr_at H, H.dm, ← EReal.coe_mul, Reals.coe_sum]
  rfl

theorem ys_at (r e : Fin 128) : B.ys (ix2 r e) = (((∑ d, Ret.q X n h r d * S X n h d e) * Ret.xi h r : ℝ) : EReal) := by
  unfold ys
  pointwise [k0_pay208]
  simp only [qr_at H, sm_at H, H.xi, ← EReal.coe_mul, Reals.coe_sum]

theorem y_at (r e : Fin 128) : B.y (ix2 r e) = ((Ret.y X n h r e : ℝ) : EReal) := by
  unfold y
  pointwise [k0_pay217]
  simp only [sc_at H, vb_at H, ys_at H, ← EReal.coe_mul, Reals.coe_sum, ← EReal.coe_add]
  rfl

theorem yn_at (r e : Fin 128) : B.yn (ix2 r e) = ((Ret.yn X n h r e : ℝ) : EReal) := by
  have e1 (r : Fin 128) : k0_pay221 (F := Ideal) B.vb B.sc B.ys (ix2 r 0) = ∑ e, B.y (ix2 r e) := by
    unfold y; pointwise [k0_pay221]
  have e2 : (Ideal.rsqrt ((Ret.var X n h r + Reals.eps : ℝ) : EReal)) = ((Ret.rs X n h r : ℝ) : EReal) := Reals.rsqrt_pos (var_eps_pos X n h r)
  unfold yn
  pointwise [k0_pay224]
  simp only [e1, y_at H, Scalar.ofBits, Ideal.ofBits_def, ofBits_128, Reals.ofBits_eps, ← EReal.coe_mul, Reals.coe_sum, ← EReal.coe_add, div_128,
    ← EReal.coe_sub]
  exact (congrArg _ e2).trans (EReal.coe_mul _ _).symm

/-- The mixer's output. -/
theorem out_at (r e : Fin 128) : B.out (ix2 r e) = ((mixed X n h r e : ℝ) : EReal) := by
  unfold out
  pointwise [k0_pay230]
  simp only [H.g, H.gain, yn_at H, Ideal.logistic_coe, ← EReal.coe_mul]
  rfl

omit H in
/-- The first of the four decays that the kernel multiplies the state with. -/
theorem decay0 (b : BitVec 32) : Named.named (F := Ideal) κ "decay0" (φ := .f32) b = ((gc 0 : ℝ) : EReal) :=
  (IdealRules.named_const.ideal_named_scalar _ _ _ _ rfl).trans (congrArg _ (by rw [Ret.Blk.gc_0]; norm_num))
omit H in
theorem decay1 (b : BitVec 32) : Named.named (F := Ideal) κ "decay1" (φ := .f32) b = ((gc 1 : ℝ) : EReal) :=
  (IdealRules.named_const.ideal_named_scalar _ _ _ _ rfl).trans (congrArg _ (by rw [Ret.Blk.gc_1]; norm_num))
omit H in
theorem decay2 (b : BitVec 32) : Named.named (F := Ideal) κ "decay2" (φ := .f32) b = ((gc 2 : ℝ) : EReal) :=
  (IdealRules.named_const.ideal_named_scalar _ _ _ _ rfl).trans (congrArg _ (by rw [Ret.Blk.gc_2]; norm_num))
omit H in
theorem decay3 (b : BitVec 32) : Named.named (F := Ideal) κ "decay3" (φ := .f32) b = ((gc 3 : ℝ) : EReal) :=
  (IdealRules.named_const.ideal_named_scalar _ _ _ _ rfl).trans (congrArg _ (by rw [Ret.Blk.gc_3]; norm_num))

/-- What the body leaves of the state: the decayed one it found and the chunk's own part. -/
def next (B : Blk) (γ : EReal) (d e : Fin 128) : EReal := B.sm (ix2 d e) * γ + ∑ r, B.kf (ix2 r d) * B.zt (ix3 0 r d) * B.vb (ix2 r e)

theorem next_at (d e : Fin 128) : next B ((gc h : ℝ) : EReal) d e = ((S X (n + 1) h d e : ℝ) : EReal) := by
  unfold next
  simp only [sm_at H, kf_at H, H.zt, vb_at H, ← EReal.coe_mul, Reals.coe_sum, ← EReal.coe_add]
  rfl

omit H in
theorem next_0 (d e : Fin 128) : k0_pay213 (F := Ideal) B.kf B.vb B.sm B.zt (ix3 0 d e) = next B ((gc 0 : ℝ) : EReal) d e := by
  unfold next; pointwise [k0_pay213]; rw [decay0]
omit H in
theorem next_1 (d e : Fin 128) : k0_pay214 (F := Ideal) B.kf B.vb B.sm B.zt (ix3 0 d e) = next B ((gc 1 : ℝ) : EReal) d e := by
  unfold next; pointwise [k0_pay214]; rw [decay1]
omit H in
theorem next_2 (d e : Fin 128) : k0_pay215 (F := Ideal) B.kf B.vb B.sm B.zt (ix3 0 d e) = next B ((gc 2 : ℝ) : EReal) d e := by
  unfold next; pointwise [k0_pay215]; rw [decay2]
omit H in
theorem next_3 (d e : Fin 128) : k0_pay216 (F := Ideal) B.kf B.vb B.sm B.zt (ix3 0 d e) = next B ((gc 3 : ℝ) : EReal) d e := by
  unfold next; pointwise [k0_pay216]; rw [decay3]

end Blk

end Cert.Mix

end
-- ==== Proof.MixPieces.lean ====
/- What one point of the mixer's forward kernel stores of the retention half, at an index: the blocks that a head's part of the
   body loads (`loads`), and the pieces of the output's block, of the saved states and of the carried states as the vector
   programs of `MixBlock` over those loads. -/
module

public import proofs.«01_k».proof.Proof.MixFrame
public import proofs.«01_k».proof.Proof.MixBlock
public import Idealize.ShloMosaic.Lib.Pipeline.ValueKit

@[expose] public section

set_option maxRecDepth 16384
set_option maxHeartbeats 4000000

noncomputable section

namespace Cert.Mix.Pieces

open Idealize.ShloMosaic Idealize.ShloMosaic.Tactic Cert.Kernel5Ideal Cert.Kernel5Ideal.Gen

variable (m : (ℓ : Loc nD τ sig) → Buf (Elt Ideal) ℓ)

theorem inb_col (h : Fin 4) (a : Fin S128x512.rank) : ![0, 128 * h.val] a + S128x128.size a ≤ S128x512.size a := by
  fin_cases h <;> fin_cases a <;> decide

theorem inb_out (h : Fin 4) (a : Fin S128x1024.rank) : ![0, 512 + 128 * h.val] a + S128x128.size a ≤ S128x1024.size a := by
  fin_cases h <;> fin_cases a <;> decide

theorem inb_row (h : Fin 4) (a : Fin S1x512.rank) : ![0, 128 * h.val] a + S1x128.size a ≤ S1x512.size a := by
  fin_cases h <;> fin_cases a <;> decide

theorem inb_tab (a : Fin S128x128.rank) : ![0, 0] a + S128x128.size a ≤ S128x128.size a := by
  fin_cases a <;> decide

theorem inb_head (h : Fin 4) (a : Fin S4x128x128.rank) : ![h.val, 0, 0] a + S1x128x128.size a ≤ S4x128x128.size a := by
  fin_cases h <;> fin_cases a <;> decide

theorem inb_saved (h : Fin 4) (a : Fin S1x4x128x128.rank) :
    ![0, h.val, 0, 0] a + S1x1x128x128.size a ≤ S1x4x128x128.size a := by
  fin_cases h <;> fin_cases a <;> decide

/-- What head `h` loads at point `t`, over the state that it finds. -/
def loads (c : Dev nD) (t : Fin cfg0.N) (st : Vec Ideal S1x128x128 .f32) (h : Fin 4) : Blk where
  q := View.readAt (Elt Ideal) (ms0_10 t).view (Rect.unit (s := S128x512) ![0, 128 * h.val] S128x128.size (inb_col h)).toLoadRect ((hs0_10 t).unread (iblk m c 10 t))
  k := View.readAt (Elt Ideal) (ms0_11 t).view (Rect.unit (s := S128x512) ![0, 128 * h.val] S128x128.size (inb_col h)).toLoadRect ((hs0_11 t).unread (iblk m c 11 t))
  v := View.readAt (Elt Ideal) (ms0_12 t).view (Rect.unit (s := S128x512) ![0, 128 * h.val] S128x128.size (inb_col h)).toLoadRect ((hs0_12 t).unread (iblk m c 12 t))
  g := View.readAt (Elt Ideal) (ms0_13 t).view (Rect.unit (s := S128x512) ![0, 128 * h.val] S128x128.size (inb_col h)).toLoadRect ((hs0_13 t).unread (iblk m c 13 t))
  cs := View.readAt (Elt Ideal) (ms0_14 t).view (Rect.unit (s := S128x128) ![0, 0] S128x128.size inb_tab).toLoadRect ((hs0_14 t).unread (iblk m c 14 t))
  sn := View.readAt (Elt Ideal) (ms0_15 t).view (Rect.unit (s := S128x128) ![0, 0] S128x128.size inb_tab).toLoadRect ((hs0_15 t).unread (iblk m c 15 t))
  dm := View.readAt (Elt Ideal) (ms0_16 t).view (Rect.unit (s := S4x128x128) ![h.val, 0, 0] S1x128x128.size (inb_head h)).toLoadRect ((hs0_16 t).unread (iblk m c 16 t))
  xi := View.readAt (Elt Ideal) (ms0_17 t).view (Rect.unit (s := S4x128x128) ![h.val, 0, 0] S1x128x128.size (inb_head h)).toLoadRect ((hs0_17 t).unread (iblk m c 17 t))
  zt := View.readAt (Elt Ideal) (ms0_18 t).view (Rect.unit (s := S4x128x128) ![h.val, 0, 0] S1x128x128.size (inb_head h)).toLoadRect ((hs0_18 t).unread (iblk m c 18 t))
  st := st
  gain := View.readAt (Elt Ideal) (ms0_19 t).view (Rect.unit (s := S1x512) ![0, 128 * h.val] S1x128.size (inb_row h)).toLoadRect ((hs0_19 t).unread (iblk m c 19 t))

/-- The rectangle of head `h` in the carried states. -/
abbrev headR (h : Fin 4) : Rect S4x128x128 := Rect.unit (s := S4x128x128) ![h.val, 0, 0] S1x128x128.size (inb_head h)

/-- The rectangle of head `h` in the saved states. -/
abbrev savedR (h : Fin 4) : Rect S1x4x128x128 := Rect.unit (s := S1x4x128x128) ![0, h.val, 0, 0] S1x1x128x128.size (inb_saved h)

/-- The rectangle of head `h` in the mixer's output. -/
abbrev outR (h : Fin 4) : Rect S128x1024 := Rect.unit (s := S128x1024) ![0, 512 + 128 * h.val] S128x128.size (inb_out h)

/-- The loads of a later point, over the states that the point before left. -/
def loadsB (c : Dev nD) (t : Fin cfg0.N) (sp : Vec Ideal S4x128x128 .f32) (h : Fin 4) : Blk :=
  loads m c t (View.readAt (Elt Ideal) scM0_4.view (headR h).toLoadRect ((Memref.isWhole_whole cc0_scratch4).unread sp)) h

/-- The loads of the first point, over the states filled with zeros. -/
def loadsA (c : Dev nD) (t : Fin cfg0.N) (h : Fin 4) : Blk :=
  loads m c t (scM0_4.view.readCov (kernelRun0_A.sl.HS4_1 (F := Ideal)) (headR h).toLoadRect) h

/-- Head `h`'s carried state after the chunk. -/
def nextStore (B : Blk) (h : Fin 4) : Vec Ideal S1x128x128 .f32 :=
  match h with
  | 0 => k0_pay213 (F := Ideal) B.kf B.vb B.sm B.zt
  | 1 => k0_pay214 (F := Ideal) B.kf B.vb B.sm B.zt
  | 2 => k0_pay215 (F := Ideal) B.kf B.vb B.sm B.zt
  | 3 => k0_pay216 (F := Ideal) B.kf B.vb B.sm B.zt

/-- The stores of the retention half in the output's block, the last first. -/
def outs (Bk : Fin 4 → Blk) : List (View.Piece (Elt Ideal) S128x1024 .bf16) :=
  [3, 2, 1, 0].map fun h : Fin 4 => ⟨outR h, (Bk h).out⟩

/-- The stores of the states before the chunk, the last first. -/
def saves (Bk : Fin 4 → Blk) : List (View.Piece (Elt Ideal) S1x4x128x128 .f32) :=
  [3, 2, 1, 0].map fun h : Fin 4 => ⟨savedR h, (Bk h).saved⟩

/-- The stores of the states after the chunk, the last first. -/
def nexts (Bk : Fin 4 → Blk) : List (View.Piece (Elt Ideal) S4x128x128 .f32) :=
  [3, 2, 1, 0].map fun h : Fin 4 => ⟨headR h, nextStore (Bk h) h⟩

section Lists

variable (c : Dev nD) (t : Fin cfg0.N)

section Later

variable (h : ¬t.val % 17 = 0) (xp : Vec Ideal S128x512 .f32) (hp : Vec Ideal S1x512 .f32) (sp : Vec Ideal S4x128x128 .f32)

theorem outs_B : (Frame.runB m c t h xp hp sp).1 = outs (loadsB m c t sp) ++ (Frame.runB m c t h xp hp sp).1.drop 4 := by
  sl_kernel_rfl

theorem saves_B : (Frame.runB m c t h xp hp sp).2.2.1 = saves (loadsB m c t sp) ++ [] := by
  sl_kernel_rfl

theorem nexts_B : (Frame.runB m c t h xp hp sp).2.2.2.2.2.1 = nexts (loadsB m c t sp) ++ [] := by
  sl_kernel_rfl

end Later

variable (h : t.val % 17 = 0)

theorem outs_A : (Frame.runA m c t h).1 = outs (loadsA m c t) ++ (Frame.runA m c t h).1.drop 4 := by
  sl_kernel_rfl

theorem saves_A : (Frame.runA m c t h).2.2.1 = saves (loadsA m c t) ++ [] := by
  sl_kernel_rfl

theorem nexts_A : (Frame.runA m c t h).2.2.2.2.2.1 = nexts (loadsA m c t) ++ kernelRun0_A.sl.HS4_1 (F := Ideal) := by
  sl_kernel_rfl

end Lists

end Cert.Mix.Pieces

end
-- ==== Proof.MixPoint.lean ====
/- What one head of one point of the mixer's forward kernel reads: the chunk's rows, the tables and the gain, as the real
   numbers of `RetMath`. -/
module

public import proofs.«01_k».proof.Proof.MixHost
public import proofs.«01_k».proof.Proof.MixPieces

@[expose] public section

set_option maxRecDepth 16384

noncomputable section

open Idealize.ShloMosaic Idealize.ShloMosaic.TcCoe Idealize.SL.Sem

namespace Cert.Mix.Point

open Cert.Kernel5Ideal Cert.Kernel5Ideal.Gen Cert.Ret Cert.Mix.Host Cert.Mix.Pieces

/-- A load from a buffer that holds a block whole, at an index. -/
theorem load_at {κ : Kind} {sp : Space} {s : Shape} {e : EltTy} {M : Memref sig κ sp s e} (h : M.IsWhole) (X : s.Idx → Elt Ideal e)
    (off size : Fin s.rank → ℕ) (inb : ∀ a, off a + size a ≤ s.size a) (x : (Rect.unit off size inb).shape.Idx) (i : s.Idx)
    (hi : ∀ a, (i a : ℕ) = off a + x a) :
    View.readAt (Elt Ideal) M.view (Rect.unit off size inb).toLoadRect (h.unread X) x = X i := by
  rw [View.readAt_eq_ld, h.read_unread]
  exact View.ld_unit_apply_of X off size inb x i hi

theorem lt17 (t : Fin cfg0.N) : t.val < 17 := by
  have h := t.isLt; have e : cfg0.N = 17 := by decide
  omega

/-- Where the windows' blocks lie at each grid point. -/
theorem idx : ∀ t : Fin cfg0.N, win0_10.index t = ![t.val, 2] ∧ win0_11.index t = ![t.val, 3] ∧ win0_12.index t = ![t.val, 4]
    ∧ win0_13.index t = ![t.val, 5] ∧ win0_14.index t = ![t.val, 0] ∧ win0_15.index t = ![t.val, 0] ∧ win0_16.index t = ![0, 0, 0]
    ∧ win0_17.index t = ![0, 0, 0] ∧ win0_18.index t = ![0, 0, 0] ∧ win0_19.index t = ![0, 0] ∧ win0_20.index t = ![t.val, 0]
    ∧ win0_22.index t = ![t.val, 0, 0, 0] :=
  (by decide +kernel : ∀ t : Fin grid0.N, _)

variable (m : (ℓ : Loc nD τ sig) → Buf (Elt Ideal) ℓ) (c : Dev nD) (t : Fin cfg0.N)

/-- The chunk of a point, and the array row that row `r` of its block is. -/
def chunkOf : Fin 17 := ⟨t.val, lt17 t⟩
def rowAt (r : Fin 128) : Fin 2176 := ⟨128 * (chunkOf t).val + r.val, by have := (chunkOf t).isLt; omega⟩

theorem b10_at (r : Fin 128) (k : Fin 512) : (iblk m c 10 t : FVec Ideal S128x512 .f32) (ix2 r k) = Rows m c (ix2 (rowAt t r) ⟨1024 + k.val, by omega⟩) := by
  unfold rowAt chunkOf; blk_ext [iblk, idx t]
theorem b11_at (r : Fin 128) (k : Fin 512) : (iblk m c 11 t : FVec Ideal S128x512 .f32) (ix2 r k) = Rows m c (ix2 (rowAt t r) ⟨1536 + k.val, by omega⟩) := by
  unfold rowAt chunkOf; blk_ext [iblk, idx t]
theorem b12_at (r : Fin 128) (k : Fin 512) : (iblk m c 12 t : FVec Ideal S128x512 .f32) (ix2 r k) = Rows m c (ix2 (rowAt t r) ⟨2048 + k.val, by omega⟩) := by
  unfold rowAt chunkOf; blk_ext [iblk, idx t]
theorem b13_at (r : Fin 128) (k : Fin 512) : (iblk m c 13 t : FVec Ideal S128x512 .f32) (ix2 r k) = Rows m c (ix2 (rowAt t r) ⟨2560 + k.val, by omega⟩) := by
  unfold rowAt chunkOf; blk_ext [iblk, idx t]
theorem b14_at (r d : Fin 128) : (iblk m c 14 t : FVec Ideal S128x128 .f32) (ix2 r d) = Cos m c (ix2 (rowAt t r) d) := by
  unfold rowAt chunkOf; blk_ext [iblk, idx t]
theorem b15_at (r d : Fin 128) : (iblk m c 15 t : FVec Ideal S128x128 .f32) (ix2 r d) = Sin m c (ix2 (rowAt t r) d) := by
  unfold rowAt chunkOf; blk_ext [iblk, idx t]
theorem b16_at (h : Fin 4) (r s : Fin 128) : (iblk m c 16 t : FVec Ideal S4x128x128 .f32) (ix3 h r s) = Mask m c (ix3 h r s) := by
  blk_ext [iblk, idx t]
theorem b17_at (h : Fin 4) (r s : Fin 128) : (iblk m c 17 t : FVec Ideal S4x128x128 .f32) (ix3 h r s) = Xi m c (ix3 h r s) := by
  blk_ext [iblk, idx t]
theorem b18_at (h : Fin 4) (r s : Fin 128) : (iblk m c 18 t : FVec Ideal S4x128x128 .f32) (ix3 h r s) = Zeta m c (ix3 h r s) := by
  blk_ext [iblk, idx t]
theorem b19_at (k : Fin 512) : (iblk m c 19 t : FVec Ideal S1x512 .f32) (ix2 0 k) = Gain m c (ix2 0 k) := by
  blk_ext [iblk, idx t]

variable {m c} {X : Args} (H : Holds m c X)
include H

/-- A padded row of the projection. -/
theorem rows_raw (j h : Fin 4) (r d : Fin 128) (k : Fin 3072) (hk : k.val = 1024 + 512 * j.val + 128 * h.val + d.val) :
    Rows m c (ix2 (rowAt t r) k) = ((raw X j (chunkOf t).val h r d : ℝ) : EReal) := by
  obtain rfl : k = col j h d := Fin.ext hk
  rw [rows_at]
  have hn := (chunkOf t).isLt
  by_cases h0 : (rowAt t r).val < 112
  · rw [dif_pos h0, raw_pad (show 128 * (chunkOf t).val + r.val < 112 from h0)]; exact EReal.coe_zero.symm
  · rw [dif_neg h0, H.proj, raw, chunk_row _ ⟨(rowAt t r).val - 112, by omega⟩ _ _ (by simp only [rowAt] at h0 ⊢; omega)]

/-- What head `h` loads at point `t`, where the state is what the earlier chunks leave. -/
theorem reads (st : Vec Ideal S1x128x128 .f32) (h : Fin 4) (hst : ∀ d e, st (ix3 0 d e) = ((S X t.val h d e : ℝ) : EReal)) :
    (loads m c t st h).Reads X (chunkOf t).val h where
  q r d := by
    refine (load_at (hs0_10 t) _ _ _ _ _ (ix2 r (hcol h d)) (fun a => by fin_cases a <;> simp [hcol])).trans ?_
    exact (b10_at m c t r _).trans (rows_raw t H 0 h r d _ (by simp [hcol]; omega))
  k r d := by
    refine (load_at (hs0_11 t) _ _ _ _ _ (ix2 r (hcol h d)) (fun a => by fin_cases a <;> simp [hcol])).trans ?_
    exact (b11_at m c t r _).trans (rows_raw t H 1 h r d _ (by simp [hcol]; omega))
  v r d := by
    refine (load_at (hs0_12 t) _ _ _ _ _ (ix2 r (hcol h d)) (fun a => by fin_cases a <;> simp [hcol])).trans ?_
    exact (b12_at m c t r _).trans (rows_raw t H 2 h r d _ (by simp [hcol]; omega))
  g r d := by
    refine (load_at (hs0_13 t) _ _ _ _ _ (ix2 r (hcol h d)) (fun a => by fin_cases a <;> simp [hcol])).trans ?_
    exact (b13_at m c t r _).trans (rows_raw t H 3 h r d _ (by simp [hcol]; omega))
  cs r d := by
    refine (load_at (hs0_14 t) _ _ _ _ _ (ix2 r d) (fun a => by fin_cases a <;> simp)).trans ?_
    exact (b14_at m c t r d).trans (cos_at m c (chunkOf t) r d)
  sn r d := by
    refine (load_at (hs0_15 t) _ _ _ _ _ (ix2 r d) (fun a => by fin_cases a <;> simp)).trans ?_
    exact (b15_at m c t r d).trans (sin_at m c (chunkOf t) r d)
  dm r s := by
    refine (load_at (hs0_16 t) _ _ _ _ _ (ix3 h r s) (fun a => by fin_cases a <;> simp)).trans ?_
    exact (b16_at m c t h r s).trans (mask_at m c h r s)
  xi r d := by
    refine (load_at (hs0_17 t) _ _ _ _ _ (ix3 h r d) (fun a => by fin_cases a <;> simp)).trans ?_
    exact (b17_at m c t h r d).trans (xi_at m c h r d)
  zt r d := by
    refine (load_at (hs0_18 t) _ _ _ _ _ (ix3 h r d) (fun a => by fin_cases a <;> simp)).trans ?_
    exact (b18_at m c t h r d).trans (zeta_at m c h r d)
  st d e := hst d e
  gain e := by
    refine (load_at (hs0_19 t) _ _ _ _ _ (ix2 0 (hcol h e)) (fun a => by fin_cases a <;> simp [hcol])).trans ?_
    exact (b19_at m c t _).trans ((gain_at m c _).trans (H.gain _))

end Cert.Mix.Point

end
-- ==== Proof.MixKernel.lean ====
/- What the mixer's forward kernel leaves of the retention half: point by point, then in the two result arrays. -/
module

public import proofs.«01_k».proof.Proof.MixPoint
public import Idealize.ShloMosaic.Lib.Pipeline.CanonAppend
public import Idealize.ShloMosaic.Lib.Writes

@[expose] public section

set_option maxRecDepth 16384

noncomputable section

open Idealize.ShloMosaic Idealize.ShloMosaic.TcCoe Idealize.SL.Sem
open Idealize.ShloMosaic.Pipeline (Dat)

namespace Cert.Mix.Kernel

open Cert.Kernel5Ideal Cert.Kernel5Ideal.Gen Cert.Ret Cert.Mix.Host Cert.Mix.Pieces Cert.Mix.Point Cert.Mix.Frame

/-! The stores of a point, read back at an index. -/

theorem outR_emb (h : Fin 4) (r d : Fin 128) : (outR h).emb (ix2 r d) = ix2 r (ccol h d) :=
  Rect.emb_eq_of_coords _ _ _ fun a => by fin_cases a <;> simp [ccol]

theorem headR_emb (h : Fin 4) (d e : Fin 128) : (headR h).emb (ix3 0 d e) = ix3 h d e :=
  Rect.emb_eq_of_coords _ _ _ fun a => by fin_cases a <;> simp

theorem savedR_emb (h : Fin 4) (d e : Fin 128) : (savedR h).emb (ix4 0 0 d e) = ix4 0 h d e :=
  Rect.emb_eq_of_coords _ _ _ fun a => by fin_cases a <;> simp

theorem emb_mem {s : Shape} (r : Rect s) (x : r.shape.Idx) : r.emb x ∈ r.set := by
  rw [← Rect.map_emb_univ]; exact Finset.mem_map_of_mem _ (Finset.mem_univ _)

theorem nextStore_at {B : Blk} {X : Args} {n : ℕ} {h : Fin 4} (H : B.Reads X n h) (d e : Fin 128) :
    nextStore B h (ix3 0 d e) = ((S X (n + 1) h d e : ℝ) : EReal) := by
  rw [← Blk.next_at H]
  clear H
  fin_cases h
  · exact Blk.next_0 d e
  · exact Blk.next_1 d e
  · exact Blk.next_2 d e
  · exact Blk.next_3 d e

/-- The output's block, by columns of 1024. -/
def outOf (X : Args) (n : ℕ) (y : S128x1024.Idx) : EReal :=
  ((mixed X n ⟨(y 1).val % 512 / 128, by omega⟩ (y 0) ⟨(y 1).val % 128, by omega⟩ : ℝ) : EReal)

theorem outOf_col (X : Args) (n : ℕ) (h : Fin 4) (r d : Fin 128) : outOf X n (ix2 r (ccol h d)) = ((mixed X n h r d : ℝ) : EReal) := by
  have hh := h.isLt
  have hd := d.isLt
  have e0 : ((ix2 r (ccol h d) : S128x1024.Idx) 1).val = 512 + 128 * h.val + d.val := by simp [ccol]
  have e2 (p) : (⟨((ix2 r (ccol h d) : S128x1024.Idx) 1).val % 512 / 128, p⟩ : Fin 4) = h := Fin.ext (by show _ = _; simp only [e0]; omega)
  have e3 (p) : (⟨((ix2 r (ccol h d) : S128x1024.Idx) 1).val % 128, p⟩ : Fin 128) = d := Fin.ext (by show _ = _; simp only [e0]; omega)
  unfold outOf; rw [e2, e3]; rfl

theorem outs_piece {B : Blk} {X : Args} {n : ℕ} {h : Fin 4} (H : B.Reads X n h) (x : S128x128.Idx) : B.out x = outOf X n ((outR h).emb x) := by
  obtain ⟨r, d, rfl⟩ : ∃ r d, x = ix2 r d := ⟨_, _, eq_ix2 x⟩
  rw [Blk.out_at H, outR_emb, outOf_col]

theorem outs_at {Bk : Fin 4 → Blk} {X : Args} {n : ℕ} (H : ∀ h, (Bk h).Reads X n h) (L : List (View.Piece (Elt Ideal) S128x1024 .bf16))
    (h : Fin 4) (r d : Fin 128) : View.canon (outs Bk ++ L) (ix2 r (ccol h d)) = ((mixed X n h r d : ℝ) : EReal) := by
  refine (View.canon_append_of_pieces (outOf X n) L (outs Bk) ?_ _
    ⟨⟨outR h, (Bk h).out⟩, List.mem_map.mpr ⟨h, by revert h; decide, rfl⟩, ?_⟩).trans (outOf_col X n h r d)
  · intro p hp
    obtain ⟨h', _, rfl⟩ := List.mem_map.mp hp
    exact fun x => outs_piece (H h') x
  · rw [← outR_emb]; exact emb_mem (outR h) _

/-- The carried states after the chunk, by heads. -/
def stateOf (X : Args) (n : ℕ) (y : S4x128x128.Idx) : EReal := ((S X n (y 0) (y 1) (y 2) : ℝ) : EReal)

theorem nexts_piece {B : Blk} {X : Args} {n : ℕ} {h : Fin 4} (H : B.Reads X n h) (x : S1x128x128.Idx) :
    nextStore B h x = stateOf X (n + 1) ((headR h).emb x) := by
  obtain ⟨z, d, e, rfl⟩ : ∃ z d e, x = ix3 z d e := ⟨_, _, _, eq_ix3 x⟩
  obtain rfl : z = 0 := Subsingleton.elim _ _
  rw [nextStore_at H, headR_emb]; rfl

theorem nexts_at {Bk : Fin 4 → Blk} {X : Args} {n : ℕ} (H : ∀ h, (Bk h).Reads X n h) (L : List (View.Piece (Elt Ideal) S4x128x128 .f32))
    (h : Fin 4) (d e : Fin 128) : View.canon (nexts Bk ++ L) (ix3 h d e) = ((S X (n + 1) h d e : ℝ) : EReal) := by
  refine (View.canon_append_of_pieces (stateOf X (n + 1)) L (nexts Bk) ?_ _
    ⟨⟨headR h, nextStore (Bk h) h⟩, List.mem_map.mpr ⟨h, by revert h; decide, rfl⟩, ?_⟩).trans rfl
  · intro p hp
    obtain ⟨h', _, rfl⟩ := List.mem_map.mp hp
    exact fun x => nexts_piece (H h') x
  · rw [← headR_emb]; exact emb_mem (headR h) _

/-- The saved states before the chunk, by heads. -/
def savedOf (X : Args) (n : ℕ) (y : S1x4x128x128.Idx) : EReal := ((S X n (y 1) (y 2) (y 3) : ℝ) : EReal)

theorem saves_piece {B : Blk} {X : Args} {n : ℕ} {h : Fin 4} (H : B.Reads X n h) (x : S1x1x128x128.Idx) :
    B.saved x = savedOf X n ((savedR h).emb x) := by
  obtain ⟨z, w, d, e, rfl⟩ : ∃ z w d e, x = ix4 z w d e := ⟨_, _, _, _, eq_ix4 x⟩
  obtain rfl : z = 0 := Subsingleton.elim _ _
  obtain rfl : w = 0 := Subsingleton.elim _ _
  rw [Blk.saved_at H, savedR_emb]; rfl

theorem saves_at {Bk : Fin 4 → Blk} {X : Args} {n : ℕ} (H : ∀ h, (Bk h).Reads X n h) (L : List (View.Piece (Elt Ideal) S1x4x128x128 .f32))
    (h : Fin 4) (d e : Fin 128) : View.canon (saves Bk ++ L) (ix4 0 h d e) = ((S X n h d e : ℝ) : EReal) := by
  refine (View.canon_append_of_pieces (savedOf X n) L (saves Bk) ?_ _
    ⟨⟨savedR h, (Bk h).saved⟩, List.mem_map.mpr ⟨h, by revert h; decide, rfl⟩, ?_⟩).trans rfl
  · intro p hp
    obtain ⟨h', _, rfl⟩ := List.mem_map.mp hp
    exact fun x => saves_piece (H h') x
  · rw [← savedR_emb]; exact emb_mem (savedR h) _

/-- The first point's fill of the states with zeros. -/
theorem zero_state (y : S4x128x128.Idx) : View.canon (kernelRun0_A.sl.HS4_1 (F := Ideal)) y = 0 := by
  have e : (Rect.unit (s := S4x128x128) ![0, 0, 0] S4x128x128.size (by decide)).emb y = y :=
    Rect.emb_eq_of_coords _ _ _ fun a => by fin_cases a <;> simp
  have e2 := View.canon_cons_emb (Val := Elt Ideal) (e := .f32) (Rect.unit (s := S4x128x128) ![0, 0, 0] S4x128x128.size (by decide))
    (kernelRun0_A.sl.v1086 (F := Ideal)) [] y
  rw [e] at e2
  refine e2.trans ?_
  pointwise [kernelRun0_A.sl.v1086, kernelRun0_A.sl.v1083, kernelRun0_A.sl.cst_878]

variable {m : (ℓ : Loc nD τ sig) → Buf (Elt Ideal) ℓ} {c : Dev nD} {X : Args} (H : Holds m c X)
include H

theorem loadsA_reads (t : Fin cfg0.N) (h0 : t.val % 17 = 0) (h : Fin 4) : (loadsA m c t h).Reads X (chunkOf t).val h :=
  reads t H _ h fun d e => by
    refine (congrFun (View.readCov_eq_canon' scM0_4.view _ (headR h).toLoadRect) (ix3 0 d e)).trans ?_
    have h1 := lt17 t
    rw [zero_state, show t.val = 0 by omega]; exact EReal.coe_zero.symm

omit H in
/-- What the points up to `t` leave: the chunk's outputs, the states before the chunk and those after it. -/
structure Leaves (m : (ℓ : Loc nD τ sig) → Buf (Elt Ideal) ℓ) (c : Dev nD) (X : Args) (t : ℕ) (ht : t < cfg0.N) : Prop where
  out : ∀ (h : Fin 4) (r d : Fin 128), outB m c t ht (ix2 r (ccol h d)) = ((mixed X t h r d : ℝ) : EReal)
  saved : ∀ (h : Fin 4) (d e : Fin 128), savedB m c t ht (ix4 0 h d e) = ((S X t h d e : ℝ) : EReal)
  state : ∀ (h : Fin 4) (d e : Fin 128), stateB m c t ht (ix3 h d e) = ((S X (t + 1) h d e : ℝ) : EReal)

theorem leaves_A (t : Fin cfg0.N) (h0 : t.val % 17 = 0) : Leaves m c X t.val t.isLt := by
  refine ⟨fun h r d => ?_, fun h d e => ?_, fun h d e => ?_⟩
  · rw [out_A m c t h0, outs_A]
    exact outs_at (loadsA_reads H t h0) _ h r d
  · rw [saved_A m c t h0, saves_A]
    exact saves_at (loadsA_reads H t h0) _ h d e
  · rw [state_A m c t h0, nexts_A]
    exact nexts_at (loadsA_reads H t h0) _ h d e

theorem leaves_B (t : Fin cfg0.N) (h0 : ¬t.val % 17 = 0) (hp : t.val - 1 < cfg0.N) (P : Leaves m c X (t.val - 1) hp) : Leaves m c X t.val t.isLt := by
  have hz : t.val ≠ 0 := fun e => h0 (by rw [e])
  have R : ∀ h, (loadsB m c t (stateB m c (t.val - 1) hp) h).Reads X (chunkOf t).val h := fun h => reads t H _ h fun d e => by
    refine (load_at (Memref.isWhole_whole cc0_scratch4) (stateB m c (t.val - 1) hp) _ _ _ _ (ix3 h d e) (fun a => by fin_cases a <;> simp)).trans ?_
    rw [P.state, show t.val - 1 + 1 = t.val by omega]
  refine ⟨fun h r d => ?_, fun h d e => ?_, fun h d e => ?_⟩
  · rw [out_B m c t h0 hp, runOf, outs_B]
    exact outs_at R _ h r d
  · rw [saved_B m c t h0 hp, runOf, saves_B]
    exact saves_at R _ h d e
  · refine (congrFun (state_B m c t h0 hp) _).trans ?_
    unfold runOf
    rw [nexts_B]
    exact nexts_at R _ h d e

theorem leaves (n : ℕ) (hn : n < cfg0.N) : Leaves m c X n hn := by
  induction n with
  | zero => exact leaves_A H ⟨0, hn⟩ (Nat.zero_mod _)
  | succ n ih =>
    exact leaves_B H ⟨n + 1, hn⟩ (by have := lt17 ⟨n + 1, hn⟩; simp only at this ⊢; omega) (by simp only [Nat.add_sub_cancel]; omega) (ih _)

/-! The two arrays that the points leave, block by block. -/

section Arrays

omit H
variable (m c)

/-- The point that handles a row. -/
def pointOf (R : Fin 2176) : Fin cfg0.N := ⟨R.val / 128, by have : cfg0.N = 17 := N_0; omega⟩

def outArr (y : S2176x1024.Idx) : EReal :=
  outB m c (pointOf (y 0)).val (pointOf (y 0)).isLt (ix2 ⟨(y 0).val % 128, Nat.mod_lt _ (by norm_num)⟩ (y 1))

theorem outArr_row (t : Fin cfg0.N) (r : Fin 128) (k : Fin 1024) : outArr m c (ix2 (rowAt t r) k) = outB m c t.val t.isLt (ix2 r k) := by
  have e1 : pointOf (rowAt t r) = t := Fin.ext (by simp only [pointOf, rowAt, chunkOf]; omega)
  have e2 : (⟨(rowAt t r).val % 128, Nat.mod_lt _ (by norm_num)⟩ : Fin 128) = r := Fin.ext (by simp only [rowAt]; omega)
  show outB m c (pointOf (rowAt t r)).val (pointOf (rowAt t r)).isLt (ix2 ⟨(rowAt t r).val % 128, _⟩ k) = _
  rw [e2]
  simp only [e1]

theorem final20 : (dats m 0 c).arrAt 20 (cfgs 0).N = (outArr m c : S2176x1024.Idx → EReal) := by
  refine (dats m 0 c).arrAt_eq_of_covers 20 _ (by decide +kernel) fun t _ y => ?_
  blk_simp
  rw [after_20]
  refine Eq.trans ?_ ((outArr_row m c t (y 0) (y 1)).symm.trans ?_)
  · exact congrArg _ (eq_ix2 y)
  · unfold rowAt chunkOf; blk_ext [idx t]

theorem idx_saved (y : S1x4x128x128.Idx) : y = ix4 0 (y 1) (y 2) (y 3) := by
  obtain ⟨z, h, d, e, rfl⟩ : ∃ z h d e, y = ix4 z h d e := ⟨_, _, _, _, eq_ix4 y⟩
  obtain rfl : z = 0 := Subsingleton.elim _ _
  rfl

def savedArr (y : S17x4x128x128.Idx) : EReal :=
  savedB m c (y 0).val (lt_of_lt_of_eq (y 0).isLt (N_0.symm : 17 = cfg0.N)) (ix4 0 (y 1) (y 2) (y 3))

theorem final22 : (dats m 0 c).arrAt 22 (cfgs 0).N = (savedArr m c : S17x4x128x128.Idx → EReal) := by
  refine (dats m 0 c).arrAt_eq_of_covers 22 _ (by decide +kernel) fun t _ y => ?_
  blk_simp
  rw [after_22]
  refine Eq.trans (b := savedArr m c (ix4 (chunkOf t) (y 1) (y 2) (y 3))) ?_ ?_
  · exact congrArg (savedB m c t.val t.isLt) (idx_saved y)
  · unfold chunkOf; blk_ext [idx t]

end Arrays

/-- A retention column of the mixer's output. -/
theorem out_at (n : Fin 17) (r : Fin 128) (h : Fin 4) (d : Fin 128) (R : Fin 2176) (hR : R.val = 128 * n.val + r.val) :
    (dats m 0 c).arrAt 20 (cfgs 0).N (ix2 R (ccol h d)) = ((mixed X n.val h r d : ℝ) : EReal) := by
  rw [final20]
  obtain ⟨t, ht⟩ : ∃ t : Fin cfg0.N, t.val = n.val := ⟨⟨n.val, lt_of_lt_of_eq n.isLt (N_0.symm : 17 = cfg0.N)⟩, rfl⟩
  obtain rfl : R = rowAt t r := Fin.ext (by simp only [rowAt, chunkOf]; omega)
  rw [outArr_row, (leaves H t.val t.isLt).out, ht]

/-- A saved state. -/
theorem saved_at (n : Fin 17) (h : Fin 4) (d e : Fin 128) :
    (dats m 0 c).arrAt 22 (cfgs 0).N (ix4 n h d e) = ((S X n.val h d e : ℝ) : EReal) := by
  rw [final22]
  exact (leaves H n.val (lt_of_lt_of_eq n.isLt (N_0.symm : 17 = cfg0.N))).saved h d e

end Cert.Mix.Kernel

end
-- ==== Proof.MixRef.lean ====
/- What the plain forward lines compute, read entry by entry over the real numbers: the retention columns of the mixer's output,
   and the state before each chunk.  Up to the normalised rows the lines are those that `RetRef` reads. -/
module

public import proofs.«01_k».proof.Proof.Gen.Reference5Ideal.Read
public import proofs.«01_k».proof.Proof.RetRef
public import proofs.«01_k».proof.Proof.MixBlock

@[expose] public section

set_option maxRecDepth 16384

noncomputable section

namespace Cert.Mix.Ref

open Idealize.ShloMosaic Idealize.ShloMosaic.Tactic Cert.Reference5Ideal Cert.Reference5Ideal.Read Cert.Ret

variable {x0 : (⟨S2064x3072, .f32⟩ : BufTy).Contents (Elt Ideal)} {x9 : (⟨S512, .f32⟩ : BufTy).Contents (Elt Ideal)}

/-- The states of the two programs are the same lines. -/
theorem states_eq : val_main_v252 (F := Ideal) x0 = Cert.Reference2Ideal.Read.val_main_v256 (F := Ideal) x0 := rfl

/-- The normalised rows, joined over the heads, are the same lines. -/
theorem rows_eq : val_main_v280 (F := Ideal) x0 = Cert.Reference2Ideal.Read.val_main_v289 (F := Ideal) x0 := rfl

/-- The two arguments hold the real numbers of `X`; the cotangent plays no part. -/
structure Holds (x0 : (⟨S2064x3072, .f32⟩ : BufTy).Contents (Elt Ideal)) (x9 : (⟨S512, .f32⟩ : BufTy).Contents (Elt Ideal)) (X : Args) : Prop where
  proj : ∀ (t : Fin 2064) (c : Fin 3072), x0 (ix2 t c) = ((X.proj t c : ℝ) : EReal)
  gain : ∀ c : Fin 512, x9 (ix1 c) = ((X.gain c : ℝ) : EReal)

variable {X : Args} (H : Holds x0 x9 X)
include H

/-- What `RetRef` asks of its three arguments, with the cotangent that `X` names. -/
theorem full : Ret.Ref.Holds x0 x9 (fun i => ((X.ct (i 0) (i 1) : ℝ) : EReal)) X where
  proj := H.proj
  gain := H.gain
  ct _ _ := rfl

theorem state_at (n : Fin 17) (h : Fin 4) (d e : Fin 128) : val_main_v252 (F := Ideal) x0 (ix4 n h d e) = ((S X n.val h d e : ℝ) : EReal) := by
  rw [states_eq]; exact Ret.Ref.state_at (full H) n h d e

/-- The gate of a row. -/
theorem silu_at (t : Fin 2064) (h : Fin 4) (e : Fin 128) :
    val_main_v284 (F := Ideal) x0 (ix2 t (hcol h e)) = ((silu X (nOf t) h (rOf t) e : ℝ) : EReal) := by
  have e1 : val_main_v4 (F := Ideal) x0 (ix2 t (hcol h e)) = ((g X (nOf t) h (rOf t) e : ℝ) : EReal) := Ret.Ref.g_at (full H) t h e
  have e2 : val_main_call1_v5 (F := Ideal) x0 (ix2 t (hcol h e)) = ((sg (g X (nOf t) h (rOf t) e) : ℝ) : EReal) := Ret.Ref.sg_at (full H) t h e
  pointwise [val_main_v284]
  rw [e1, e2, ← EReal.coe_mul]; rfl

/-- A row of the retention output. -/
theorem row_at (t : Fin 2064) (h : Fin 4) (e : Fin 128) :
    val_main_v285 (F := Ideal) x0 x9 (ix2 t (hcol h e)) = ((mixed X (nOf t) h (rOf t) e : ℝ) : EReal) := by
  have e1 : val_main_v280 (F := Ideal) x0 (ix2 t (hcol h e)) = ((yn X (nOf t) h (rOf t) e : ℝ) : EReal) := by
    rw [rows_eq]; exact Ret.Ref.ynf_at (full H) t h e
  have e2 : val_main_v285 (F := Ideal) x0 x9 (ix2 t (hcol h e))
      = val_main_v284 (F := Ideal) x0 (ix2 t (hcol h e)) * (val_main_v280 (F := Ideal) x0 (ix2 t (hcol h e)) * x9 (ix1 (hcol h e))) := by
    pointwise [val_main_v281, val_main_v282, val_main_v283, val_main_v285]
  rw [e2, silu_at H, e1, H.gain, ← EReal.coe_mul, ← EReal.coe_mul]; rfl

/-- The mixer's output with its padding: the retention columns. -/
theorem out_at (n : Fin 17) (r : Fin 128) (h : Fin 4) (e : Fin 128) (R : Fin 2176) (hR : R.val = 128 * n.val + r.val) :
    val_main_v290 (F := Ideal) x0 x9 (ix2 R (ccol h e)) = ((mixed X n.val h r e : ℝ) : EReal) := by
  by_cases h0 : R.val < 112
  · have e1 : val_main_v290 (F := Ideal) x0 x9 (ix2 R (ccol h e)) = 0 := by
      pointwise [val_main_v290, val_main_v289, val_main_v288, val_main_cst_21]
      rw [dif_pos h0]
    rw [e1, mixed_pad (by omega)]; exact EReal.coe_zero.symm
  · have e1 : val_main_v290 (F := Ideal) x0 x9 (ix2 R (ccol h e)) = val_main_v285 (F := Ideal) x0 x9 (ix2 ⟨R.val - 112, by omega⟩ (hcol h e)) := by
      pointwise [val_main_v290, val_main_v289, val_main_v287]
      rw [dif_neg h0]
      rw [dif_neg (show ¬ (ccol h e).val < 512 by simp only [ccol]; omega)]
      exact congrArg (fun k => val_main_v285 (F := Ideal) x0 x9 (ix2 ⟨R.val - 112, by omega⟩ k)) (Fin.ext (by simp only [ccol, hcol]; omega))
    obtain ⟨e2, e3⟩ := of_row (t := ⟨R.val - 112, by omega⟩) (n := n.val) (r := r) (by simp only; omega)
    rw [e1, row_at H, e2, e3]

end Cert.Mix.Ref

end
-- ==== Proof.Mix.lean ====
/- The retention half of the mixer's forward kernel against the plain forward lines: the value claim and the frames. -/
module

public import proofs.«01_k».proof.Defs
public import proofs.«01_k».proof.Proof.Gen.Pre_fwd_finite
public import proofs.«01_k».proof.Proof.Gen.On_fwd_part
public import proofs.«01_k».proof.Proof.Gen.Kernel5
public import proofs.«01_k».proof.Proof.Gen.Reference5Ideal.Run
public import proofs.«01_k».proof.Proof.Rms
public import proofs.«01_k».proof.Proof.MixKernel
public import proofs.«01_k».proof.Proof.MixRef
public import Idealize.ShloMosaic.Lib.Claim

@[expose] public section

set_option maxRecDepth 16384

noncomputable section

open Idealize.ShloMosaic Idealize.ShloMosaic.TcCoe Idealize.ShloMosaic.Tactic Idealize.SL Idealize.SL.Sem

namespace Cert.Mix.Claims

open Cert.Kernel5Ideal Cert.Kernel5Ideal.Gen Cert.Ret Cert.Mix.Host

variable {m : (ℓ : Loc nD τ sig) → Buf (Elt Ideal) ℓ}

/-- The arguments as real numbers; the forward pass has no cotangent. -/
def reals (m : (ℓ : Loc nD τ sig) → Buf (Elt Ideal) ℓ) (c : Dev nD) : Args where
  proj t k := (aProj m c (ix2 t k)).toReal
  gain k := (aGain m c (ix1 k)).toReal
  ct _ _ := 0

theorem holds (hpre : Cert.Pre_Kernel5Ideal_fwd_finite m) (c : Dev nD) : Host.Holds m c (reals m c) where
  proj t k := (Cert.RmsProof.real_of_cmp (aProj m c) (ix2 t k) _ rfl (hpre c).1).symm
  gain k := (Cert.RmsProof.real_of_cmp (aGain m c) (ix1 k) _ rfl (hpre c).2).symm

theorem ref_holds (hpre : Cert.Pre_Kernel5Ideal_fwd_finite m) (c : Dev nD) : Ref.Holds (aProj m c) (aGain m c) (reals m c) where
  proj := (holds hpre c).proj
  gain := (holds hpre c).gain

/-- The retention columns of the mixer's output, in the kernel's array and in the reference's. -/
theorem out_eq (hpre : Cert.Pre_Kernel5Ideal_fwd_finite m) (c : Dev nD) (i : S2176x1024.Idx) (hi : 512 ≤ (i 1).val) :
    (Cert.Reference5Ideal.Read.val_main_v290 (F := Ideal) (aProj m c) (aGain m c) i : EReal) = (dats m 0 c).arrAt 20 (cfgs 0).N i := by
  have h0 : (i 0).val < 2176 := (i 0).isLt
  have h1 : (i 1).val < 1024 := (i 1).isLt
  have ei : i = ix2 (i 0) (ccol ⟨((i 1).val - 512) / 128, by omega⟩ ⟨(i 1).val % 128, by omega⟩) := by
    refine (eq_ix2 i).trans (congrArg (ix2 (i 0)) (Fin.ext ?_))
    simp only [ccol]; omega
  rw [ei]
  exact (Ref.out_at (ref_holds hpre c) ⟨(i 0).val / 128, by omega⟩ ⟨(i 0).val % 128, by omega⟩ _ _ (i 0) (by simp only; omega)).trans
    (Kernel.out_at (holds hpre c) ⟨(i 0).val / 128, by omega⟩ ⟨(i 0).val % 128, by omega⟩ _ _ (i 0) (by simp only; omega)).symm

/-- The saved states. -/
theorem saved_eq (hpre : Cert.Pre_Kernel5Ideal_fwd_finite m) (c : Dev nD) (i : S17x4x128x128.Idx) :
    (Cert.Reference5Ideal.Read.val_main_v252 (F := Ideal) (aProj m c) i : EReal) = (dats m 0 c).arrAt 22 (cfgs 0).N i := by
  obtain ⟨n, h, d, e, rfl⟩ : ∃ n h d e, i = ix4 n h d e := ⟨_, _, _, _, eq_ix4 i⟩
  exact (Ref.state_at (ref_holds hpre c) n h d e).trans (Kernel.saved_at (holds hpre c) n h d e).symm

/-- The columns that the mask keeps. -/
theorem mask_cols (i : S2176x1024.Idx)
    (h : cmpi .sge (iotaInDim S2176x1024 32 1) (broadcastInDim S2176x1024 ![] (by decide) (constantI S_ 32 512#32)) i = 1#1) : 512 ≤ (i 1).val := by
  have h1 : (i 1).val < 1024 := (i 1).isLt
  have h2 : IntOp.cmpi .sge (BitVec.ofNat 32 (i 1).val) 512#32 = 1#1 := h
  rw [IntOp.cmpi_sge, show (512#32 : BitVec 32).toInt = 512 by decide, BitVec.toInt_eq_toNat_cond, BitVec.toNat_ofNat] at h2
  split at h2 <;> omega

theorem out_congr {a a' : FVec Ideal S2064x3072 .f32} {b b' : FVec Ideal S512 .f32} (ha : a = a') (hb : b = b') (i : S2176x1024.Idx) :
    Cert.Reference5Ideal.Read.val_main_v290 (F := Ideal) a b i = Cert.Reference5Ideal.Read.val_main_v290 (F := Ideal) a' b' i := by
  rw [ha, hb]

theorem saved_congr {a a' : FVec Ideal S2064x3072 .f32} (ha : a = a') (i : S17x4x128x128.Idx) :
    Cert.Reference5Ideal.Read.val_main_v252 (F := Ideal) a i = Cert.Reference5Ideal.Read.val_main_v252 (F := Ideal) a' i := by
  rw [ha]

set_option maxHeartbeats 1000000 in
/-- Where the mask keeps an index, the forward lines' result there is what the kernel leaves. -/
theorem value : Cert.algebraic_Kernel5Ideal_Reference5Ideal_on_fwd_part_pre_fwd_finite := by
  intro m g m' g' hpre hagree
  refine ⟨fun c => (dats m 0 c).arrAt 20 (cfgs 0).N, fun c => (dats m 0 c).arrAt 21 (cfgs 0).N, fun c => (dats m 0 c).arrAt 22 (cfgs 0).N, ?_, ?_⟩
  · refine (θ_run defs _ _).mono ?_ (θ_run_and (run_main m g) (frame m g))
    intro r h c
    exact ⟨fun i _ => congrFun ((h.1 c).1 20) i, fun i _ => congrFun ((h.1 c).1 21) i, fun i _ => congrFun ((h.1 c).1 22) i, h.2.1 c⟩
  · refine (θ_run Cert.Reference5Ideal.defs _ _).mono ?_ (Cert.Reference5Ideal.Value.run m' g')
    intro r h c
    obtain ⟨h0, h1, h2, hargs⟩ := h c
    refine ⟨fun i hi => ?_, fun i hi => ?_, fun i hi => ?_, hargs⟩
    · rw [h0, Cert.Reference5Ideal.Read.val_main_v290_eq]
      exact (out_congr (hagree c).1 (hagree c).2.2.2.2.2.2.2.2.2.1 i).trans (out_eq hpre c i (mask_cols i hi))
    · exact absurd (show (0#1 : BitVec 1) = 1#1 from hi) (by decide)
    · rw [h2, Cert.Reference5Ideal.Read.val_main_v252_eq]
      exact (saved_congr (hagree c).1 i).trans (saved_eq hpre c i)

/-- The reference's run leaves its arguments unchanged; it declares no semaphore. -/
theorem frame_reference : Cert.quiescent_Reference5Ideal := by
  intro m g _
  exact (θ_run Cert.Reference5Ideal.defs _ _).mono (fun r h => ⟨fun c => (h c).2.2.2, sem_eq_zero_of_no_sems (by decide) r.2⟩)
    (Cert.Reference5Ideal.Value.run m g)

/-- The ideal kernel's run leaves its arguments unchanged and every semaphore counter at zero. -/
theorem frame_ideal : Cert.quiescent_Kernel5Ideal := fun m g _ => frame m g

/-- Each named decay is the number that its bits round. -/
theorem preserves : Cert.preserves_Kernel5_Kernel5Ideal :=
  ⟨IdealRules.named_const.statement _ _ _ _ _ rfl, IdealRules.named_const.statement _ _ _ _ _ rfl,
    IdealRules.named_const.statement _ _ _ _ _ rfl, IdealRules.named_const.statement _ _ _ _ _ rfl⟩

/-- At the machine's floats a named constant is the bits that it stands for. -/
local instance : Named Bits where
  named _ _ {_} bits := bits

set_option maxHeartbeats 4000000 in
/-- The kernel at the machine's floats ends with its arguments unchanged and every semaphore counter at zero: with a name read
    as its bits, the ideal program is the kernel's own text. -/
theorem frame_kernel : Cert.quiescent_Kernel5 (hKernel5 := Cert.Kernel5.Gen.facts) := by
  intro m g _
  exact (Eq.mp (by sl_kernel_rfl) (Cert.Kernel5Ideal.Gen.frame (F := Bits) m g))

end Cert.Mix.Claims

end
-- ==== Proof.UpFrame.lean ====
/- The frame of the gated product's forward kernel over the extended reals: the body's run in its two cases (the first
   point stores the normalised rows and its three blocks; a later point finds the normalised rows where the first left them
   and stores its three blocks), the pipeline's proof data, the body's triple at every point, and the run of the whole
   program (`run_main`).  All of it for any float values `F`. -/
module

public import proofs.«01_k».proof.Proof.Gen.Kernel6Ideal.Frame
public import proofs.«01_k».proof.Proof.Gen.Kernel6Ideal.Skeleton
public import Idealize.ShloMosaic.Lib.Claim

@[expose] public section

set_option maxRecDepth 16384

noncomputable section

namespace Cert.Up.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases -/

/-- The normalised rows are stored at the first point only. -/
theorem first_iff (t : Fin cfg0.N) : k0_cond1 (grid0.coords t) = 1#1 ↔ t.val = 0 := by
  have ht : t.val < 6 := Nat.lt_of_lt_of_eq t.isLt N_0
  have e0 : (grid0.coords t 0).val = t.val / 1 % 6 := Pipeline.Grid.coords_val t 0 (by decide) rfl
  have h : k0_cond1 (grid0.coords t) = 1#1 ↔ t.val % 6 = 0 := by
    simp only [k0_cond1, e0]
    word_cmp
  rw [h]; omega

/-! The staging memrefs at a point. -/
abbrev mem0 (t : Fin cfg0.N) : Memref sig .tc .vmem S2176x1024 .f32 := win0_0.stage (cfg0.slots t 0)
abbrev mem1 (t : Fin cfg0.N) : Memref sig .tc .vmem S1x1024 .f32 := win0_1.stage (cfg0.slots t 1)
abbrev mem2 (t : Fin cfg0.N) : Memref sig .tc .vmem S512x1024 .bf16 := win0_2.stage (cfg0.slots t 2)
abbrev mem3 (t : Fin cfg0.N) : Memref sig .tc .vmem S512x1024 .bf16 := win0_3.stage (cfg0.slots t 3)
abbrev mem4 (t : Fin cfg0.N) : Memref sig .tc .vmem S2176x1024 .bf16 := win0_4.stage (cfg0.slots t 4)
abbrev mem5 (t : Fin cfg0.N) : Memref sig .tc .vmem S2176x512 .bf16 := win0_5.stage (cfg0.slots t 5)
abbrev mem6 (t : Fin cfg0.N) : Memref sig .tc .vmem S2176x512 .bf16 := win0_6.stage (cfg0.slots t 6)
abbrev mem7 (t : Fin cfg0.N) : Memref sig .tc .vmem S2176x512 .bf16 := win0_7.stage (cfg0.slots t 7)
theorem whole0 (t : Fin cfg0.N) : (mem0 t).IsWhole := hstage0_0 ((cfg0.slots t 0).cast nbuf0_0)
theorem whole1 (t : Fin cfg0.N) : (mem1 t).IsWhole := hstage0_1 ((cfg0.slots t 1).cast nbuf0_1)
theorem whole2 (t : Fin cfg0.N) : (mem2 t).IsWhole := hstage0_2 ((cfg0.slots t 2).cast nbuf0_2)
theorem whole3 (t : Fin cfg0.N) : (mem3 t).IsWhole := hstage0_3 ((cfg0.slots t 3).cast nbuf0_3)
theorem whole4 (t : Fin cfg0.N) : (mem4 t).IsWhole := hstage0_4 ((cfg0.slots t 4).cast nbuf0_4)
theorem whole5 (t : Fin cfg0.N) : (mem5 t).IsWhole := hstage0_5 ((cfg0.slots t 5).cast nbuf0_5)
theorem whole6 (t : Fin cfg0.N) : (mem6 t).IsWhole := hstage0_6 ((cfg0.slots t 6).cast nbuf0_6)
theorem whole7 (t : Fin cfg0.N) : (mem7 t).IsWhole := hstage0_7 ((cfg0.slots t 7).cast nbuf0_7)

/-- One staging buffer of each output, through which its contents are stated. -/
abbrev out4 : View sig .tc .vmem S2176x1024 .bf16 := (Memref.whole cc0_stg4_0 : Memref sig .tc .vmem S2176x1024 .bf16).view
abbrev out5 : View sig .tc .vmem S2176x512 .bf16 := (Memref.whole cc0_stg5_0 : Memref sig .tc .vmem S2176x512 .bf16).view
abbrev out6 : View sig .tc .vmem S2176x512 .bf16 := (Memref.whole cc0_stg6_0 : Memref sig .tc .vmem S2176x512 .bf16).view
abbrev out7 : View sig .tc .vmem S2176x512 .bf16 := (Memref.whole cc0_stg7_0 : Memref sig .tc .vmem S2176x512 .bf16).view

set_option maxHeartbeats 4000000 in
/-- The body at the first point, on whole staging memrefs: the inputs' stay as they are, each output's is written with the
    pieces that the run finds. -/
def bodyFirst (c : Dev nD) (i : grid0.Coords) (arg1 : Memref sig .tc .vmem S2176x1024 .f32) (harg1 : arg1.IsWhole)
    (arg2 : Memref sig .tc .vmem S1x1024 .f32) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S2176x1024 .bf16) (harg5 : arg5.IsWhole)
    (arg6 : Memref sig .tc .vmem S2176x512 .bf16) (harg6 : arg6.IsWhole)
    (arg7 : Memref sig .tc .vmem S2176x512 .bf16) (harg7 : arg7.IsWhole)
    (arg8 : Memref sig .tc .vmem S2176x512 .bf16) (harg8 : arg8.IsWhole)
    (hc : k0_cond1 i = 1#1)
    (x0 : Vec F S2176x1024 .f32) (x1 : Vec F S1x1024 .f32) (x2 : Vec F S512x1024 .bf16) (x3 : Vec F S512x1024 .bf16) :
    Σ' (L4 : List (View.Piece (Elt F) S2176x1024 .bf16)) (L5 : List (View.Piece (Elt F) S2176x512 .bf16)) (L6 : List (View.Piece (Elt F) S2176x512 .bf16)), { L7 : List (View.Piece (Elt F) S2176x512 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ (∃ d, owns (c : Thread nD τ) arg7 fullShare d)
            ∗ (∃ d, owns (c : Thread nD τ) arg8 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc0_ffn_up i arg1 harg1 arg2 harg2 arg3 harg3 arg4 harg4 arg5 harg5 arg6 harg6 arg7 harg7 arg8 harg8) K } := by
  refine ⟨?_, ?_, ?_, ?_, fun E K => ?run⟩
  case run =>
    simp only [cc0_ffn_up_eq_skeleton]; unfold cc0_ffn_up_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

set_option maxHeartbeats 4000000 in
/-- The body at a later point: the normalised rows are found at `x4` and stay. -/
def bodyLater (c : Dev nD) (i : grid0.Coords) (arg1 : Memref sig .tc .vmem S2176x1024 .f32) (harg1 : arg1.IsWhole)
    (arg2 : Memref sig .tc .vmem S1x1024 .f32) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S2176x1024 .bf16) (harg5 : arg5.IsWhole)
    (arg6 : Memref sig .tc .vmem S2176x512 .bf16) (harg6 : arg6.IsWhole)
    (arg7 : Memref sig .tc .vmem S2176x512 .bf16) (harg7 : arg7.IsWhole)
    (arg8 : Memref sig .tc .vmem S2176x512 .bf16) (harg8 : arg8.IsWhole)
    (hc : ¬k0_cond1 i = 1#1)
    (x0 : Vec F S2176x1024 .f32) (x1 : Vec F S1x1024 .f32) (x2 : Vec F S512x1024 .bf16) (x3 : Vec F S512x1024 .bf16) (x4 : Vec F S2176x1024 .bf16) :
    Σ' (L5 : List (View.Piece (Elt F) S2176x512 .bf16)) (L6 : List (View.Piece (Elt F) S2176x512 .bf16)), { L7 : List (View.Piece (Elt F) S2176x512 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ (∃ d, owns (c : Thread nD τ) arg7 fullShare d)
            ∗ (∃ d, owns (c : Thread nD τ) arg8 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc0_ffn_up i arg1 harg1 arg2 harg2 arg3 harg3 arg4 harg4 arg5 harg5 arg6 harg6 arg7 harg7 arg8 harg8) K } := by
  refine ⟨?_, ?_, ?_, fun E K => ?run⟩
  case run =>
    simp only [cc0_ffn_up_eq_skeleton]; unfold cc0_ffn_up_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

/-! ## What the points leave -/

/-- The first point, -/
def t0 : Fin cfg0.N := ⟨0, by decide⟩

/-- the body's run there, -/
def runFirst (c : Dev nD) (t : Fin cfg0.N) (h : t.val = 0) :=
  bodyFirst (F := F) c (grid0.coords t) (mem0 t) (whole0 t) (mem1 t) (whole1 t) (mem2 t) (whole2 t) (mem3 t) (whole3 t) (mem4 t) (whole4 t) (mem5 t) (whole5 t) (mem6 t) (whole6 t) (mem7 t) (whole7 t)
    ((first_iff t).mpr h) (iblk m c 0 t) (iblk m c 1 t) (iblk m c 2 t) (iblk m c 3 t)

/-- the normalised rows that it leaves, and the later points keep, -/
def rows (c : Dev nD) : Vec F S2176x1024 .bf16 := out4.read (Elt F) (out4.writes (Elt F) out4.junk (runFirst m c t0 rfl).1)

/-- and the body's run at a later point. -/
def runLater (c : Dev nD) (t : Fin cfg0.N) (h : ¬t.val = 0) :=
  bodyLater (F := F) c (grid0.coords t) (mem0 t) (whole0 t) (mem1 t) (whole1 t) (mem2 t) (whole2 t) (mem3 t) (whole3 t) (mem4 t) (whole4 t) (mem5 t) (whole5 t) (mem6 t) (whole6 t) (mem7 t) (whole7 t)
    (fun e => h ((first_iff t).mp e)) (iblk m c 0 t) (iblk m c 1 t) (iblk m c 2 t) (iblk m c 3 t) (rows m c)

/-- The pieces stored into the three blocks at a point: the two derivatives of the activation, and the activation. -/
structure Pieces where
  d5 : List (View.Piece (Elt F) S2176x512 .bf16)
  d6 : List (View.Piece (Elt F) S2176x512 .bf16)
  d7 : List (View.Piece (Elt F) S2176x512 .bf16)

def pieces (c : Dev nD) (t : Fin cfg0.N) : Pieces (F := F) :=
  if h : t.val = 0 then ⟨(runFirst m c t h).2.1, (runFirst m c t h).2.2.1, (runFirst m c t h).2.2.2.1⟩
  else ⟨(runLater m c t h).1, (runLater m c t h).2.1, (runLater m c t h).2.2.1⟩

theorem pieces_first (c : Dev nD) (t : Fin cfg0.N) (h : t.val = 0) :
    pieces m c t = ⟨(runFirst m c t h).2.1, (runFirst m c t h).2.2.1, (runFirst m c t h).2.2.2.1⟩ := dif_pos h

theorem pieces_later (c : Dev nD) (t : Fin cfg0.N) (h : ¬t.val = 0) :
    pieces m c t = ⟨(runLater m c t h).1, (runLater m c t h).2.1, (runLater m c t h).2.2.1⟩ := dif_neg h

theorem cover_rows (c : Dev nD) (t : Fin cfg0.N) (h : t.val = 0) (y : S2176x1024.Idx) : ∃ pc ∈ (runFirst m c t h).1, y ∈ pc.1.set :=
  View.cover_of_tiledBy (runFirst m c t h).1 ![544, 1024] (by sl_kernel_rfl) y

/-- Each of the three lists covers its block. -/
def Covers (L : List (View.Piece (Elt F) S2176x512 .bf16)) : Prop := ∀ y : S2176x512.Idx, ∃ pc ∈ L, y ∈ pc.1.set

theorem cover_first (c : Dev nD) (t : Fin cfg0.N) (h : t.val = 0) :
    Covers (runFirst m c t h).2.1 ∧ Covers (runFirst m c t h).2.2.1 ∧ Covers (runFirst m c t h).2.2.2.1 :=
  ⟨View.cover_of_tiledBy (runFirst m c t h).2.1 ![16, 256] (by sl_kernel_rfl),
    View.cover_of_tiledBy (runFirst m c t h).2.2.1 ![16, 256] (by sl_kernel_rfl),
    View.cover_of_tiledBy (runFirst m c t h).2.2.2.1 ![16, 256] (by sl_kernel_rfl)⟩

theorem cover_later (c : Dev nD) (t : Fin cfg0.N) (h : ¬t.val = 0) :
    Covers (runLater m c t h).1 ∧ Covers (runLater m c t h).2.1 ∧ Covers (runLater m c t h).2.2.1 :=
  ⟨View.cover_of_tiledBy (runLater m c t h).1 ![16, 256] (by sl_kernel_rfl),
    View.cover_of_tiledBy (runLater m c t h).2.1 ![16, 256] (by sl_kernel_rfl),
    View.cover_of_tiledBy (runLater m c t h).2.2.1 ![16, 256] (by sl_kernel_rfl)⟩

/-- What a list of pieces leaves in a block. -/
def leave (v : View sig .tc .vmem S2176x512 .bf16) (L : List (View.Piece (Elt F) S2176x512 .bf16)) : Vec F S2176x512 .bf16 :=
  v.read (Elt F) (v.writes (Elt F) v.junk L)

/-! ## The pipeline's proof data -/

/-- The arrays as the region finds them; after a point each input's buffer at its block, the normalised rows' at `rows`, the
    other three at what the point's pieces leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rows m c
    | ⟨5, _⟩ => leave out5 (pieces m c t).d5
    | ⟨6, _⟩ => leave out6 (pieces m c t).d6
    | ⟨7, _⟩ => leave out7 (pieces m c t).d7
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = rows m c := by dsimp only [dats]
theorem after_5 (c : Dev nD) (t : Fin cfg0.N) : (dats m 0 c).after 5 t = leave out5 (pieces m c t).d5 := by dsimp only [dats]
theorem after_6 (c : Dev nD) (t : Fin cfg0.N) : (dats m 0 c).after 6 t = leave out6 (pieces m c t).d6 := by dsimp only [dats]
theorem after_7 (c : Dev nD) (t : Fin cfg0.N) : (dats m 0 c).after 7 t = leave out7 (pieces m c t).d7 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The normalised rows' buffer is idle at the later points, -/
theorem idle_later (t : Fin cfg0.N) (h : ¬t.val = 0) : cfg0.idle 4 (cfg0.grid.coords t) = true := by
  show (!(k0_cond1 (grid0.coords t) == 1#1)) = true
  rw [Bool.not_eq_true', beq_eq_false_iff_ne]
  exact fun e => h ((first_iff t).mp e)

/-- and not at the first. -/
theorem live_first (t : Fin cfg0.N) (h : t.val = 0) : cfg0.idle 4 (cfg0.grid.coords t) = false := by
  show (!(k0_cond1 (grid0.coords t) == 1#1)) = false
  rw [Bool.not_eq_false', beq_iff_eq]
  exact (first_iff t).mpr h

/-- A later point finds the normalised rows as the first point left them. -/
theorem before_4 (c : Dev nD) (d) : ∀ (n : ℕ) (hn : n + 1 < cfg0.N), (dats m 0 c).before 4 ⟨n + 1, hn⟩ d = rows m c
  | n, hn => by
    have hN : n + 1 < 6 := lt_of_lt_of_eq hn (show cfg0.N = 6 from N_0)
    have hfl : (cfg0.win 4).flush ⟨n, Nat.lt_of_succ_lt hn⟩ = false :=
      Bool.eq_false_iff.mpr fun h => by have := (flush0_4 _).mp h; dsimp only at this; omega
    rw [(dats m 0 c).before_of_pos 4 ⟨n + 1, hn⟩ (Nat.succ_ne_zero n) ((cfg0.win 4).fetch_out rfl _)]
    refine (if_neg (by rw [show (⟨(⟨n + 1, hn⟩ : Fin cfg0.N).val - 1, _⟩ : Fin cfg0.N) = ⟨n, Nat.lt_of_succ_lt hn⟩ from rfl, hfl]; exact Bool.false_ne_true)).trans ?_
    show (dats m 0 c).left 4 ⟨n, Nat.lt_of_succ_lt hn⟩ d = _
    unfold Dat.left
    cases n with
    | zero =>
      rw [live_first ⟨0, _⟩ rfl]; dsimp only
      unfold Dat.kept
      rw [Pipeline.fill_of_clip_none 4 _ (fun _ => rfl) d ((dats m 0 c).after 4 _), Pipeline.Window.fill_cut, after_4]
    | succ n => rw [idle_later ⟨n + 1, _⟩ (Nat.succ_ne_zero n)]; exact before_4 c d n (Nat.lt_of_succ_lt hn)

theorem before_4_later (c : Dev nD) (t : Fin cfg0.N) (h : ¬t.val = 0) (d) : (dats m 0 c).before 4 t d = rows m c := by
  obtain ⟨n, hn⟩ := t
  cases n with
  | zero => exact absurd rfl h
  | succ n => exact before_4 m c d n hn

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (mem0 t) fullShare (iblk m c 0 t)
    ∗ owns (c : Thread nD τ) (mem1 t) fullShare (iblk m c 1 t)
    ∗ owns (c : Thread nD τ) (mem2 t) fullShare (iblk m c 2 t)
    ∗ owns (c : Thread nD τ) (mem3 t) fullShare (iblk m c 3 t)
    ∗ owns (c : Thread nD τ) (mem4 t) fullShare (rows m c)
    ∗ owns (c : Thread nD τ) (mem5 t) fullShare (leave out5 (pieces m c t).d5)
    ∗ owns (c : Thread nD τ) (mem6 t) fullShare (leave out6 (pieces m c t).d6)
    ∗ owns (c : Thread nD τ) (mem7 t) fullShare (leave out7 (pieces m c t).d7))

/-- The body's triple at the first point, -/
theorem sound_first (c : Dev nD) (t : Fin cfg0.N) (h : t.val = 0) :
    bodyPre m c t ⊢ wp frame (wpE (defs₀ (F := F)) Variants.none c none) Set.univ (bodyAt0 t) (fun _ => bodyPost m c t) := by
  obtain rfl : t = t0 := Fin.ext h
  unfold bodyPre bodyPost bodyAt0
  simp only [before_0, before_1, before_2, before_3]
  rw [show (dats m 0 c).Φ t0.succ = (dats m 0 c).Φ t0.castSucc from rfl,
    show (dats m 0 c).owesAt () t0.succ = (dats m 0 c).owesAt () t0.castSucc from rfl, pieces_first m c t0 rfl]
  unfold leave rows
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runFirst m c t0 rfl).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, ⟨%e4, H4⟩, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover_rows m c t0 rfl)
  isplitl [H5]
  · unfold owns; iexists _; isplitr
    swap; · iexact H5
    ipureintro; exact View.read_writes_of_cover _ _ _ _ _ (cover_first m c t0 rfl).1
  isplitl [H6]
  · unfold owns; iexists _; isplitr
    swap; · iexact H6
    ipureintro; exact View.read_writes_of_cover _ _ _ _ _ (cover_first m c t0 rfl).2.1
  unfold owns; iexists _; isplitr
  swap; · iexact H7
  ipureintro; exact View.read_writes_of_cover _ _ _ _ _ (cover_first m c t0 rfl).2.2

/-- and at a later one. -/
theorem sound_later (c : Dev nD) (t : Fin cfg0.N) (h : ¬t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4_later m c t h]
  rw [show (dats m 0 c).Φ t.succ = (dats m 0 c).Φ t.castSucc from rfl,
    show (dats m 0 c).owesAt () t.succ = (dats m 0 c).owesAt () t.castSucc from rfl, pieces_later m c t h]
  unfold leave
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runLater m c t h).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover_later m c t h).1
  isplitl [H6]
  · unfold owns; iexists _; isplitr
    swap; · iexact H6
    ipureintro; exact View.read_writes_of_cover _ _ _ _ _ (cover_later m c t h).2.1
  unfold owns; iexists _; isplitr
  swap; · iexact H7
  ipureintro; exact View.read_writes_of_cover _ _ _ _ _ (cover_later m c t h).2.2

theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_first m c t h
  · exact sound_later m c t h

/-- The normalised rows' buffer is left as the pipeline wants it: at a later point that does not write it back, as found. -/
theorem rows_left (c : Dev nD) (t : Fin cfg0.N) :
    owns (c : Thread nD τ) (mem4 t) fullShare (rows m c) ⊢ ((dats m 0 c).leavesExact 4 t : sProp 𝕄) := by
  by_cases h : t.val = 0
  · unfold Dat.leavesExact; rw [live_first t h]; dsimp only; rw [after_4]
  · unfold Dat.leavesExact; rw [idle_later t h]
    cases (cfg0.win 4).flush t
    · dsimp only
      simp only [before_4_later m c t h]
      iintro H
      iexists rows m c
      iexact H
    · dsimp only; rw [after_4]

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ =>
    sep_mono .rfl (sep_mono .rfl (sep_mono .rfl (sep_mono .rfl (sep_mono .rfl (sep_mono .rfl (sep_mono (rows_left m c t) .rfl))))))

/-! ## The run and the frame -/

set_option backward.isDefEq.respectTransparency.types false in
/-- The whole program runs: it ends with every array of the pipeline at what the proof data say, every other buffer as the
    region found it, and every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The program ends with its arguments unchanged and every semaphore counter at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ))
    ((θ_run defs _ _).mono (fun _ h => h.2) (run_quiescent m ρ))

end Cert.Up.Frame

end
-- ==== Proof.ProjFrame.lean ====
/- The frame of the normalised projection's kernel over the extended reals: the body's run in its two cases (the first
   point stores the normalised rows and its block of the product; a later point finds the normalised rows where the first
   left them and stores its block), the pipeline's proof data, the body's triple at every point, and the run of the whole
   program (`run_main`).  All of it for any float values `F`. -/
module

public import proofs.«01_k».proof.Proof.Gen.Kernel7Ideal.Frame
public import proofs.«01_k».proof.Proof.Gen.Kernel7Ideal.Skeleton
public import Idealize.ShloMosaic.Lib.Claim

@[expose] public section

set_option maxRecDepth 16384

noncomputable section

namespace Cert.Proj.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases -/

/-- The normalised rows are stored at the first point only. -/
theorem first_iff (t : Fin cfg0.N) : k0_cond1 (grid0.coords t) = 1#1 ↔ t.val = 0 := by
  have ht : t.val < 4 := Nat.lt_of_lt_of_eq t.isLt N_0
  have e0 : (grid0.coords t 0).val = t.val / 1 % 4 := Pipeline.Grid.coords_val t 0 (by decide) rfl
  have h : k0_cond1 (grid0.coords t) = 1#1 ↔ t.val % 4 = 0 := by
    simp only [k0_cond1, e0]
    word_cmp
  rw [h]; omega

/-! The staging memrefs at a point. -/
abbrev mem0 (t : Fin cfg0.N) : Memref sig .tc .vmem S2176x1024 .f32 := win0_0.stage (cfg0.slots t 0)
abbrev mem1 (t : Fin cfg0.N) : Memref sig .tc .vmem S1x1024 .f32 := win0_1.stage (cfg0.slots t 1)
abbrev mem2 (t : Fin cfg0.N) : Memref sig .tc .vmem S2x1024x384 .bf16 := win0_2.stage (cfg0.slots t 2)
abbrev mem3 (t : Fin cfg0.N) : Memref sig .tc .vmem S2176x1024 .bf16 := win0_3.stage (cfg0.slots t 3)
abbrev mem4 (t : Fin cfg0.N) : Memref sig .tc .vmem S2176x768 .f32 := win0_4.stage (cfg0.slots t 4)
theorem whole0 (t : Fin cfg0.N) : (mem0 t).IsWhole := hstage0_0 ((cfg0.slots t 0).cast nbuf0_0)
theorem whole1 (t : Fin cfg0.N) : (mem1 t).IsWhole := hstage0_1 ((cfg0.slots t 1).cast nbuf0_1)
theorem whole2 (t : Fin cfg0.N) : (mem2 t).IsWhole := hstage0_2 ((cfg0.slots t 2).cast nbuf0_2)
theorem whole3 (t : Fin cfg0.N) : (mem3 t).IsWhole := hstage0_3 ((cfg0.slots t 3).cast nbuf0_3)
theorem whole4 (t : Fin cfg0.N) : (mem4 t).IsWhole := hstage0_4 ((cfg0.slots t 4).cast nbuf0_4)

/-- One staging buffer of each output, through which its contents are stated. -/
abbrev out3 : View sig .tc .vmem S2176x1024 .bf16 := (Memref.whole cc0_stg3_0 : Memref sig .tc .vmem S2176x1024 .bf16).view
abbrev out4 : View sig .tc .vmem S2176x768 .f32 := (Memref.whole cc0_stg4_0 : Memref sig .tc .vmem S2176x768 .f32).view

set_option maxHeartbeats 4000000 in
/-- The body at the first point, on whole staging memrefs: the inputs' stay as they are, each output's is written with the
    pieces that the run finds. -/
def bodyFirst (c : Dev nD) (i : grid0.Coords) (arg1 : Memref sig .tc .vmem S2176x1024 .f32) (harg1 : arg1.IsWhole)
    (arg2 : Memref sig .tc .vmem S1x1024 .f32) (harg2 : arg2.IsWhole) (arg3 : Memref sig .tc .vmem S2x1024x384 .bf16) (harg3 : arg3.IsWhole)
    (arg4 : Memref sig .tc .vmem S2176x1024 .bf16) (harg4 : arg4.IsWhole) (arg5 : Memref sig .tc .vmem S2176x768 .f32) (harg5 : arg5.IsWhole)
    (hc : k0_cond1 i = 1#1)
    (x0 : Vec F S2176x1024 .f32) (x1 : Vec F S1x1024 .f32) (x2 : Vec F S2x1024x384 .bf16) :
    Σ' (L3 : List (View.Piece (Elt F) S2176x1024 .bf16)), { L4 : List (View.Piece (Elt F) S2176x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0_proj i arg1 harg1 arg2 harg2 arg3 harg3 arg4 harg4 arg5 harg5) K } := by
  refine ⟨?_, ?_, fun E K => ?run⟩
  case run =>
    simp only [cc0_proj_eq_skeleton]; unfold cc0_proj_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

set_option maxHeartbeats 4000000 in
/-- The body at a later point: the normalised rows are found at `x3` and stay. -/
def bodyLater (c : Dev nD) (i : grid0.Coords) (arg1 : Memref sig .tc .vmem S2176x1024 .f32) (harg1 : arg1.IsWhole)
    (arg2 : Memref sig .tc .vmem S1x1024 .f32) (harg2 : arg2.IsWhole) (arg3 : Memref sig .tc .vmem S2x1024x384 .bf16) (harg3 : arg3.IsWhole)
    (arg4 : Memref sig .tc .vmem S2176x1024 .bf16) (harg4 : arg4.IsWhole) (arg5 : Memref sig .tc .vmem S2176x768 .f32) (harg5 : arg5.IsWhole)
    (hc : ¬k0_cond1 i = 1#1)
    (x0 : Vec F S2176x1024 .f32) (x1 : Vec F S1x1024 .f32) (x2 : Vec F S2x1024x384 .bf16) (x3 : Vec F S2176x1024 .bf16) :
    { L4 : List (View.Piece (Elt F) S2176x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E (cc0_proj i arg1 harg1 arg2 harg2 arg3 harg3 arg4 harg4 arg5 harg5) K } := by
  refine ⟨?_, fun E K => ?run⟩
  case run =>
    simp only [cc0_proj_eq_skeleton]; unfold cc0_proj_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-! ## What the points leave -/

/-- The first point, -/
def t0 : Fin cfg0.N := ⟨0, by decide⟩

/-- the body's run there, -/
def runFirst (c : Dev nD) (t : Fin cfg0.N) (h : t.val = 0) :=
  bodyFirst (F := F) c (grid0.coords t) (mem0 t) (whole0 t) (mem1 t) (whole1 t) (mem2 t) (whole2 t) (mem3 t) (whole3 t) (mem4 t) (whole4 t)
    ((first_iff t).mpr h) (iblk m c 0 t) (iblk m c 1 t) (iblk m c 2 t)

/-- the normalised rows that it leaves, and the later points keep, -/
def rows (c : Dev nD) : Vec F S2176x1024 .bf16 := out3.read (Elt F) (out3.writes (Elt F) out3.junk (runFirst m c t0 rfl).1)

/-- and the body's run at a later point. -/
def runLater (c : Dev nD) (t : Fin cfg0.N) (h : ¬t.val = 0) :=
  bodyLater (F := F) c (grid0.coords t) (mem0 t) (whole0 t) (mem1 t) (whole1 t) (mem2 t) (whole2 t) (mem3 t) (whole3 t) (mem4 t) (whole4 t)
    (fun e => h ((first_iff t).mp e)) (iblk m c 0 t) (iblk m c 1 t) (iblk m c 2 t) (rows m c)

theorem cover_rows (c : Dev nD) (t : Fin cfg0.N) (h : t.val = 0) (y : S2176x1024.Idx) : ∃ pc ∈ (runFirst m c t h).1, y ∈ pc.1.set :=
  View.cover_of_tiledBy (runFirst m c t h).1 ![544, 1024] (by sl_kernel_rfl) y

theorem cover_first (c : Dev nD) (t : Fin cfg0.N) (h : t.val = 0) (y : S2176x768.Idx) : ∃ pc ∈ (runFirst m c t h).2.1, y ∈ pc.1.set :=
  View.cover_of_tiledBy (runFirst m c t h).2.1 ![16, 768] (by sl_kernel_rfl) y

theorem cover_later (c : Dev nD) (t : Fin cfg0.N) (h : ¬t.val = 0) (y : S2176x768.Idx) : ∃ pc ∈ (runLater m c t h).1, y ∈ pc.1.set :=
  View.cover_of_tiledBy (runLater m c t h).1 ![16, 768] (by sl_kernel_rfl) y

/-- The product's block that a point leaves. -/
def product (c : Dev nD) (t : Fin cfg0.N) : Vec F S2176x768 .f32 :=
  if h : t.val = 0 then out4.read (Elt F) (out4.writes (Elt F) out4.junk (runFirst m c t h).2.1)
  else out4.read (Elt F) (out4.writes (Elt F) out4.junk (runLater m c t h).1)

theorem product_first (c : Dev nD) (t : Fin cfg0.N) (h : t.val = 0) :
    product m c t = out4.read (Elt F) (out4.writes (Elt F) out4.junk (runFirst m c t h).2.1) := dif_pos h

theorem product_later (c : Dev nD) (t : Fin cfg0.N) (h : ¬t.val = 0) :
    product m c t = out4.read (Elt F) (out4.writes (Elt F) out4.junk (runLater m c t h).1) := dif_neg h

/-! ## The pipeline's proof data -/

/-- The arrays as the region finds them; after a point each input's buffer at its block, the normalised rows' at `rows`, the
    product's at the point's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows m c
    | ⟨4, _⟩ => product m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = rows m c := by dsimp only [dats]
theorem after_4 (c : Dev nD) (t : Fin cfg0.N) : (dats m 0 c).after 4 t = product m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The normalised rows' buffer is idle at the later points, -/
theorem idle_later (t : Fin cfg0.N) (h : ¬t.val = 0) : cfg0.idle 3 (cfg0.grid.coords t) = true := by
  show (!(k0_cond1 (grid0.coords t) == 1#1)) = true
  rw [Bool.not_eq_true', beq_eq_false_iff_ne]
  exact fun e => h ((first_iff t).mp e)

/-- and not at the first. -/
theorem live_first (t : Fin cfg0.N) (h : t.val = 0) : cfg0.idle 3 (cfg0.grid.coords t) = false := by
  show (!(k0_cond1 (grid0.coords t) == 1#1)) = false
  rw [Bool.not_eq_false', beq_iff_eq]
  exact (first_iff t).mpr h

/-- A later point finds the normalised rows as the first point left them. -/
theorem before_3 (c : Dev nD) (d) : ∀ (n : ℕ) (hn : n + 1 < cfg0.N), (dats m 0 c).before 3 ⟨n + 1, hn⟩ d = rows m c
  | n, hn => by
    have hN : n + 1 < 4 := lt_of_lt_of_eq hn (show cfg0.N = 4 from N_0)
    have hfl : (cfg0.win 3).flush ⟨n, Nat.lt_of_succ_lt hn⟩ = false :=
      Bool.eq_false_iff.mpr fun h => by have := (flush0_3 _).mp h; dsimp only at this; omega
    rw [(dats m 0 c).before_of_pos 3 ⟨n + 1, hn⟩ (Nat.succ_ne_zero n) ((cfg0.win 3).fetch_out rfl _)]
    refine (if_neg (by rw [show (⟨(⟨n + 1, hn⟩ : Fin cfg0.N).val - 1, _⟩ : Fin cfg0.N) = ⟨n, Nat.lt_of_succ_lt hn⟩ from rfl, hfl]; exact Bool.false_ne_true)).trans ?_
    show (dats m 0 c).left 3 ⟨n, Nat.lt_of_succ_lt hn⟩ d = _
    unfold Dat.left
    cases n with
    | zero =>
      rw [live_first ⟨0, _⟩ rfl]; dsimp only
      unfold Dat.kept
      rw [Pipeline.fill_of_clip_none 3 _ (fun _ => rfl) d ((dats m 0 c).after 3 _), Pipeline.Window.fill_cut, after_3]
    | succ n => rw [idle_later ⟨n + 1, _⟩ (Nat.succ_ne_zero n)]; exact before_3 c d n (Nat.lt_of_succ_lt hn)

theorem before_3_later (c : Dev nD) (t : Fin cfg0.N) (h : ¬t.val = 0) (d) : (dats m 0 c).before 3 t d = rows m c := by
  obtain ⟨n, hn⟩ := t
  cases n with
  | zero => exact absurd rfl h
  | succ n => exact before_3 m c d n hn

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (mem0 t) fullShare (iblk m c 0 t)
    ∗ owns (c : Thread nD τ) (mem1 t) fullShare (iblk m c 1 t)
    ∗ owns (c : Thread nD τ) (mem2 t) fullShare (iblk m c 2 t)
    ∗ owns (c : Thread nD τ) (mem3 t) fullShare (rows m c)
    ∗ owns (c : Thread nD τ) (mem4 t) fullShare (product m c t))

/-- The body's triple at the first point, -/
theorem sound_first (c : Dev nD) (t : Fin cfg0.N) (h : t.val = 0) :
    bodyPre m c t ⊢ wp frame (wpE (defs₀ (F := F)) Variants.none c none) Set.univ (bodyAt0 t) (fun _ => bodyPost m c t) := by
  obtain rfl : t = t0 := Fin.ext h
  unfold bodyPre bodyPost bodyAt0
  simp only [before_0, before_1, before_2]
  rw [show (dats m 0 c).Φ t0.succ = (dats m 0 c).Φ t0.castSucc from rfl,
    show (dats m 0 c).owesAt () t0.succ = (dats m 0 c).owesAt () t0.castSucc from rfl, product_first m c t0 rfl]
  unfold rows
  iintro ⟨HΦ, Ho, ⟨%d0, H0⟩, ⟨%d1, H1⟩, ⟨%d2, H2⟩, ⟨%d3, H3⟩, ⟨%d4, H4⟩⟩
  iapply ((runFirst m c t0 rfl).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover_rows m c t0 rfl)
  unfold owns; iexists _; isplitr
  swap; · iexact H4
  ipureintro; exact View.read_writes_of_cover _ _ _ _ _ (cover_first m c t0 rfl)

/-- and at a later one. -/
theorem sound_later (c : Dev nD) (t : Fin cfg0.N) (h : ¬t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3_later m c t h]
  rw [show (dats m 0 c).Φ t.succ = (dats m 0 c).Φ t.castSucc from rfl,
    show (dats m 0 c).owesAt () t.succ = (dats m 0 c).owesAt () t.castSucc from rfl, product_later m c t h]
  iintro ⟨HΦ, Ho, ⟨%d0, H0⟩, ⟨%d1, H1⟩, ⟨%d2, H2⟩, ⟨%d3, H3⟩, ⟨%d4, H4⟩⟩
  iapply ((runLater m c t h).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover_later m c t h)

theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_first m c t h
  · exact sound_later m c t h

/-- The normalised rows' buffer is left as the pipeline wants it: at a later point that does not write it back, as found. -/
theorem rows_left (c : Dev nD) (t : Fin cfg0.N) :
    owns (c : Thread nD τ) (mem3 t) fullShare (rows m c) ⊢ ((dats m 0 c).leavesExact 3 t : sProp 𝕄) := by
  by_cases h : t.val = 0
  · unfold Dat.leavesExact; rw [live_first t h]; dsimp only; rw [after_3]
  · unfold Dat.leavesExact; rw [idle_later t h]
    cases (cfg0.win 3).flush t
    · dsimp only
      simp only [before_3_later m c t h]
      iintro H
      iexists rows m c
      iexact H
    · dsimp only; rw [after_3]

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ =>
    sep_mono .rfl (sep_mono .rfl (sep_mono .rfl (sep_mono .rfl (sep_mono .rfl (sep_mono (rows_left m c t) .rfl)))))

/-! ## The run and the frame -/

set_option backward.isDefEq.respectTransparency.types false in
/-- The whole program runs: it ends with every array of the pipeline at what the proof data say, every other buffer as the
    region found it, and every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The program ends with its arguments unchanged and every semaphore counter at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ))
    ((θ_run defs _ _).mono (fun _ h => h.2) (run_quiescent m ρ))

end Cert.Proj.Frame

end
-- ==== Proof.ProjKernel.lean ====
/- What the input projection's kernel leaves in its two result arrays, over the arrays its region is entered with: the
   normalised rows, and their product with the weight. -/
module

public import proofs.«01_k».proof.Proof.ProjFrame
public import proofs.«01_k».proof.Proof.RmsMath
public import Idealize.ShloMosaic.Lib.Pipeline.ValueKit
public import Idealize.ShloMosaic.Lib.Pipeline.CanonAppend
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proj

open Cert.Kernel7Ideal Cert.Kernel7Ideal.Gen Cert.Proj.Frame
open Cert.Rms (rs)

/-- A normalised row at one column: the row over its root mean square, times the gain. -/
def normAt (x : Fin 1024 → EReal) (g : EReal) (j : Fin 1024) : EReal := x j * rs x * g

/-! ## The stored values -/

theorem pay5_at (x : FVec Ideal S544x1024 .f32) (g : FVec Ideal S1x1024 .f32) (r : Fin 544) (j : Fin 1024) :
    k0_pay5 (F := Ideal) x g (ix2 r j) = normAt (fun k => x (ix2 r k)) (g (ix2 0 j)) j := by
  pointwise [k0_pay5]; rfl
theorem pay6_at (x : FVec Ideal S544x1024 .f32) (g : FVec Ideal S1x1024 .f32) (r : Fin 544) (j : Fin 1024) :
    k0_pay6 (F := Ideal) x g (ix2 r j) = normAt (fun k => x (ix2 r k)) (g (ix2 0 j)) j := by
  pointwise [k0_pay6]; rfl
theorem pay1_at (x : FVec Ideal S544x1024 .f32) (g : FVec Ideal S1x1024 .f32) (r : Fin 544) (j : Fin 1024) :
    k0_pay1 (F := Ideal) (k0_pay7 x) g (ix2 r j) = normAt (fun k => x (ix2 r k)) (g (ix2 0 j)) j := by
  pointwise [k0_pay1, k0_pay7]; rfl
theorem pay2_at (x : FVec Ideal S544x1024 .f32) (g : FVec Ideal S1x1024 .f32) (r : Fin 544) (j : Fin 1024) :
    k0_pay2 (F := Ideal) x g (ix2 r j) = normAt (fun k => x (ix2 r k)) (g (ix2 0 j)) j := by
  pointwise [k0_pay2]; rfl

/-- One entry of the product: two blocks of the weight stand side by side. -/
theorem pay4_at (n : FVec Ideal S2064x1024 .bf16) (v w : FVec Ideal S1x1024x384 .bf16) (r : Fin 2064) (q : Fin 768) :
    k0_pay4 (F := Ideal) n v w (ix2 r q)
      = ∑ k : Fin 1024, n (ix2 r k) * if h : q.val < 384 then v (ix3 0 k ⟨q.val, h⟩) else w (ix3 0 k ⟨q.val - 384, by omega⟩) := by
  pointwise [k0_pay4]

/-! ## The normalised rows' block -/

def normBlk (X : FVec Ideal S2176x1024 .f32) (G : FVec Ideal S1x1024 .f32) (y : S2176x1024.Idx) : EReal :=
  normAt (fun k => X (ix2 (y 0) k)) (G (ix2 0 (y 1))) (y 1)

/-- A stored quarter is the block's rows from `o` on. -/
theorem quarter (p : FVec Ideal S544x1024 .f32 → FVec Ideal S1x1024 .f32 → FVec Ideal S544x1024 .bf16)
    (hp : ∀ x g (r : Fin 544) (j : Fin 1024), p x g (ix2 r j) = normAt (fun k => x (ix2 r k)) (g (ix2 0 j)) j)
    (X : FVec Ideal S2176x1024 .f32) (G : FVec Ideal S1x1024 .f32) (o : ℕ) (ho : o + 544 ≤ 2176)
    (h : ∀ a, (![o, 0] : Fin 2 → ℕ) a + (![544, 1024] : Fin 2 → ℕ) a ≤ S2176x1024.size a) (x : S544x1024.Idx) :
    p (View.ld (Val := Elt Ideal) (e' := .f32) X (Rect.unit (s := S2176x1024) ![o, 0] ![544, 1024] h)) G x
      = normBlk X G ((Rect.unit (s := S2176x1024) ![o, 0] ![544, 1024] h).emb x) := by
  obtain ⟨r, q, rfl⟩ : ∃ r q, x = ix2 r q := ⟨_, _, eq_ix2 x⟩
  have e : (Rect.unit (s := S2176x1024) ![o, 0] ![544, 1024] h).emb (ix2 r q) = ix2 ⟨o + r.val, by omega⟩ q :=
    Rect.emb_eq_of_coords _ _ _ fun a => by fin_cases a <;> simp
  have ex (k) : View.ld (Val := Elt Ideal) (e' := .f32) X (Rect.unit (s := S2176x1024) ![o, 0] ![544, 1024] h) (ix2 r k) = X (ix2 ⟨o + r.val, by omega⟩ k) :=
    View.ld_unit_apply_of (Val := Elt Ideal) (e := .f32) (S := S2176x1024) X _ _ _ _ _ fun a => by fin_cases a <;> simp
  rw [hp, e]
  simp only [ex]
  rfl

theorem mem_rows (o : ℕ) (h : ∀ i, (![o, 0] : Fin 2 → ℕ) i + (![544, 1024] : Fin 2 → ℕ) i ≤ S2176x1024.size i) (y : S2176x1024.Idx)
    (h0 : o ≤ (y 0).val) (h1 : (y 0).val < o + 544) : y ∈ (Rect.unit (s := S2176x1024) ![o, 0] ![544, 1024] h).set :=
  Rect.mem_set_unit.mpr (Fin.forall_fin_two.mpr ⟨⟨h0, h1⟩, ⟨Nat.zero_le _, (y 1).isLt.trans_eq (Nat.zero_add _).symm⟩⟩)

/-- The four stores of the normalised rows, the last first. -/
theorem stores (X : FVec Ideal S2176x1024 .f32) (G : FVec Ideal S1x1024 .f32) (y : S2176x1024.Idx) :
    View.canon (Val := Elt Ideal) (e := .bf16)
      [⟨Rect.unit ![1632, 0] ![544, 1024] inb_S2176x1024_S544x1024_1632_0,
          k0_pay2 (View.ld (Val := Elt Ideal) (e' := .f32) X (Rect.unit ![1632, 0] ![544, 1024] inb_S2176x1024_S544x1024_1632_0)) G⟩,
        ⟨Rect.unit ![1088, 0] ![544, 1024] inb_S2176x1024_S544x1024_1088_0,
          k0_pay1 (k0_pay7 (View.ld (Val := Elt Ideal) (e' := .f32) X (Rect.unit ![1088, 0] ![544, 1024] inb_S2176x1024_S544x1024_1088_0))) G⟩,
        ⟨Rect.unit ![544, 0] ![544, 1024] inb_S2176x1024_S544x1024_544_0,
          k0_pay6 (View.ld (Val := Elt Ideal) (e' := .f32) X (Rect.unit ![544, 0] ![544, 1024] inb_S2176x1024_S544x1024_544_0)) G⟩,
        ⟨Rect.unit ![0, 0] ![544, 1024] inb_S2176x1024_S544x1024_0_0,
          k0_pay5 (View.ld (Val := Elt Ideal) (e' := .f32) X (Rect.unit ![0, 0] ![544, 1024] inb_S2176x1024_S544x1024_0_0)) G⟩] y
      = normBlk X G y := by
  refine View.canon_apply_of_pieces (Val := Elt Ideal) (e := .bf16) (normBlk X G) _ ?_ y ?_
  · intro p hp
    simp only [List.mem_cons, List.not_mem_nil, or_false] at hp
    rcases hp with rfl | rfl | rfl | rfl
    · exact quarter (k0_pay2 (F := Ideal)) pay2_at X G 1632 (by norm_num) inb_S2176x1024_S544x1024_1632_0
    · exact quarter (fun x => k0_pay1 (F := Ideal) (k0_pay7 x)) pay1_at X G 1088 (by norm_num) inb_S2176x1024_S544x1024_1088_0
    · exact quarter (k0_pay6 (F := Ideal)) pay6_at X G 544 (by norm_num) inb_S2176x1024_S544x1024_544_0
    · exact quarter (k0_pay5 (F := Ideal)) pay5_at X G 0 (by norm_num) inb_S2176x1024_S544x1024_0_0
  · have hy : (y 0).val < 2176 := (y 0).isLt
    by_cases h3 : 1632 ≤ (y 0).val
    · exact ⟨_, List.mem_cons_self, mem_rows 1632 inb_S2176x1024_S544x1024_1632_0 y h3 (by omega)⟩
    by_cases h2 : 1088 ≤ (y 0).val
    · exact ⟨_, List.mem_cons_of_mem _ List.mem_cons_self, mem_rows 1088 inb_S2176x1024_S544x1024_1088_0 y h2 (by omega)⟩
    by_cases h1 : 544 ≤ (y 0).val
    · exact ⟨_, List.mem_cons_of_mem _ (List.mem_cons_of_mem _ List.mem_cons_self), mem_rows 544 inb_S2176x1024_S544x1024_544_0 y h1 (by omega)⟩
    · exact ⟨_, List.mem_cons_of_mem _ (List.mem_cons_of_mem _ (List.mem_cons_of_mem _ List.mem_cons_self)),
        mem_rows 0 inb_S2176x1024_S544x1024_0_0 y (by omega) (by omega)⟩

/-! ## The product's block -/

/-- One entry of the product over the normalised rows and the staged pair of the weight's blocks: the rows in front hold zeros. -/
def prodAt (N : FVec Ideal S2176x1024 .bf16) (W : FVec Ideal S2x1024x384 .bf16) (r : Fin 2176) (q : Fin 768) : EReal :=
  if r.val < 112 then 0 else ∑ k : Fin 1024, N (ix2 r k) * W (ix3 ⟨q.val / 384, by omega⟩ k ⟨q.val % 384, by omega⟩)
def prodBlk (N : FVec Ideal S2176x1024 .bf16) (W : FVec Ideal S2x1024x384 .bf16) (y : S2176x768.Idx) : EReal := prodAt N W (y 0) (y 1)

theorem below (N : FVec Ideal S2176x1024 .bf16) (W : FVec Ideal S2x1024x384 .bf16) (x : S2064x768.Idx) :
    k0_pay4 (F := Ideal) (View.ld (Val := Elt Ideal) (e' := .bf16) N (Rect.unit ![112, 0] ![2064, 1024] inb_S2176x1024_S2064x1024_112_0))
        (View.ld (Val := Elt Ideal) (e' := .bf16) W (Rect.unit ![0, 0, 0] ![1, 1024, 384] inb_S2x1024x384_S1x1024x384_0_0_0))
        (View.ld (Val := Elt Ideal) (e' := .bf16) W (Rect.unit ![1, 0, 0] ![1, 1024, 384] inb_S2x1024x384_S1x1024x384_1_0_0)) x
      = prodBlk N W ((Rect.unit (s := S2176x768) ![112, 0] ![2064, 768] inb_S2176x768_S2064x768_112_0).emb x) := by
  obtain ⟨r, q, rfl⟩ : ∃ r q, x = ix2 r q := ⟨_, _, eq_ix2 x⟩
  have e : (Rect.unit (s := S2176x768) ![112, 0] ![2064, 768] inb_S2176x768_S2064x768_112_0).emb (ix2 r q) = ix2 ⟨112 + r.val, by omega⟩ q :=
    Rect.emb_eq_of_coords _ _ _ fun a => by fin_cases a <;> simp
  have en (k) : View.ld (Val := Elt Ideal) (e' := .bf16) N (Rect.unit ![112, 0] ![2064, 1024] inb_S2176x1024_S2064x1024_112_0) (ix2 r k)
      = N (ix2 ⟨112 + r.val, by omega⟩ k) :=
    View.ld_unit_apply_of (Val := Elt Ideal) (e := .bf16) (S := S2176x1024) N _ _ _ _ _ fun a => by fin_cases a <;> simp
  have ew0 (k) (j : Fin 384) : View.ld (Val := Elt Ideal) (e' := .bf16) W (Rect.unit ![0, 0, 0] ![1, 1024, 384] inb_S2x1024x384_S1x1024x384_0_0_0) (ix3 0 k j)
      = W (ix3 0 k j) :=
    View.ld_unit_apply_of (Val := Elt Ideal) (e := .bf16) (S := S2x1024x384) W _ _ _ _ _ fun a => by fin_cases a <;> simp
  have ew1 (k) (j : Fin 384) : View.ld (Val := Elt Ideal) (e' := .bf16) W (Rect.unit ![1, 0, 0] ![1, 1024, 384] inb_S2x1024x384_S1x1024x384_1_0_0) (ix3 0 k j)
      = W (ix3 1 k j) :=
    View.ld_unit_apply_of (Val := Elt Ideal) (e := .bf16) (S := S2x1024x384) W _ _ _ _ _ fun a => by fin_cases a <;> simp
  rw [pay4_at, e]
  simp only [en, ew0, ew1]
  refine Eq.trans (Finset.sum_congr rfl fun k _ => congrArg (N (ix2 ⟨112 + r.val, by omega⟩ k) * ·) ?_)
    (if_neg (show ¬112 + r.val < 112 by omega)).symm
  split
  · next h => exact congrArg₂ (fun a b => W (ix3 a k b)) (Fin.ext (show 0 = q.val / 384 by omega)) (Fin.ext (show q.val = q.val % 384 by omega))
  · next h => exact congrArg₂ (fun a b => W (ix3 a k b)) (Fin.ext (show 1 = q.val / 384 by omega)) (Fin.ext (show q.val - 384 = q.val % 384 by omega))

theorem above (N : FVec Ideal S2176x1024 .bf16) (W : FVec Ideal S2x1024x384 .bf16) (x : S112x768.Idx) :
    k0_pay3 (F := Ideal) x = prodBlk N W ((Rect.unit (s := S2176x768) ![0, 0] ![112, 768] inb_S2176x768_S112x768_0_0).emb x) := by
  obtain ⟨r, q, rfl⟩ : ∃ r q, x = ix2 r q := ⟨_, _, eq_ix2 x⟩
  have e : (Rect.unit (s := S2176x768) ![0, 0] ![112, 768] inb_S2176x768_S112x768_0_0).emb (ix2 r q) = ix2 ⟨r.val, by omega⟩ q :=
    Rect.emb_eq_of_coords _ _ _ fun a => by fin_cases a <;> simp
  rw [e]
  refine Eq.trans ?_ (if_pos (show r.val < 112 from r.isLt)).symm
  pointwise [k0_pay3]

theorem mem_prod (o a : ℕ) (h : ∀ i, (![o, 0] : Fin 2 → ℕ) i + (![a, 768] : Fin 2 → ℕ) i ≤ S2176x768.size i) (y : S2176x768.Idx)
    (h0 : o ≤ (y 0).val) (h1 : (y 0).val < o + a) : y ∈ (Rect.unit (s := S2176x768) ![o, 0] ![a, 768] h).set :=
  Rect.mem_set_unit.mpr (Fin.forall_fin_two.mpr ⟨⟨h0, h1⟩, ⟨Nat.zero_le _, (y 1).isLt.trans_eq (Nat.zero_add _).symm⟩⟩)

/-- The two stores of the product's block, the last first. -/
theorem stores_prod (N : FVec Ideal S2176x1024 .bf16) (W : FVec Ideal S2x1024x384 .bf16) (y : S2176x768.Idx) :
    View.canon (Val := Elt Ideal) (e := .f32)
      [⟨Rect.unit ![112, 0] ![2064, 768] inb_S2176x768_S2064x768_112_0,
          k0_pay4 (View.ld (Val := Elt Ideal) (e' := .bf16) N (Rect.unit ![112, 0] ![2064, 1024] inb_S2176x1024_S2064x1024_112_0))
            (View.ld (Val := Elt Ideal) (e' := .bf16) W (Rect.unit ![0, 0, 0] ![1, 1024, 384] inb_S2x1024x384_S1x1024x384_0_0_0))
            (View.ld (Val := Elt Ideal) (e' := .bf16) W (Rect.unit ![1, 0, 0] ![1, 1024, 384] inb_S2x1024x384_S1x1024x384_1_0_0))⟩,
        ⟨Rect.unit ![0, 0] ![112, 768] inb_S2176x768_S112x768_0_0, k0_pay3 (F := Ideal)⟩] y = prodBlk N W y := by
  refine View.canon_apply_of_pieces (Val := Elt Ideal) (e := .f32) (prodBlk N W) _ ?_ y ?_
  · intro p hp
    simp only [List.mem_cons, List.not_mem_nil, or_false] at hp
    rcases hp with rfl | rfl
    · exact below N W
    · exact above N W
  · have hy0 : (y 0).val < 2176 := (y 0).isLt
    by_cases h0 : (y 0).val < 112
    · exact ⟨_, List.mem_cons_of_mem _ List.mem_cons_self, mem_prod 0 112 inb_S2176x768_S112x768_0_0 y (Nat.zero_le _) (by omega)⟩
    · exact ⟨_, List.mem_cons_self, mem_prod 112 2064 inb_S2176x768_S2064x768_112_0 y (by omega) (by omega)⟩

/-! ## The two result arrays -/

variable (m : (ℓ : Loc nD τ sig) → Buf (Elt Ideal) ℓ)

theorem rows_eq (c : Dev nD) : rows m c = normBlk (iblk m c 0 t0) (iblk m c 1 t0) := by
  funext y
  unfold rows runFirst bodyFirst
  frame_out
  exact stores _ _ y

theorem rows_canon (c : Dev nD) : View.canon (runFirst m c t0 rfl).1 = rows m c :=
  (View.read_writes_junk_eq_canon (Val := Elt Ideal) out3 _).symm

theorem product_eq (c : Dev nD) (t : Fin cfg0.N) : product m c t = prodBlk (rows m c) (iblk m c 2 t) := by
  funext y
  by_cases h : t.val = 0
  · obtain rfl : t = t0 := Fin.ext h
    rw [product_first m c t0 h, rows_eq]
    unfold runFirst bodyFirst
    frame_out
    rw [View.readCov_eq_canon']
    simp only [stores]
    exact stores_prod _ _ y
  · rw [product_later m c t h]
    unfold runLater bodyLater
    frame_out
    rw [rows_canon]
    exact stores_prod _ _ y

/-- Where each window's block lies at each grid point. -/
theorem idx : ∀ t : Fin cfg0.N, win0_0.index t = ![0, 0] ∧ win0_1.index t = ![0, 0] ∧ win0_2.index t = ![t.val, 0, 0]
    ∧ win0_3.index t = ![0, 0] ∧ win0_4.index t = ![0, t.val] :=
  (by decide +kernel : ∀ t : Fin grid0.N, _)

/-- The array column that column `q` of block `t` is. -/
def colAt (t : Fin cfg0.N) (q : Fin 768) : Fin 3072 := ⟨t.val * 768 + q.val, by have : t.val < 4 := t.isLt; omega⟩

/-- The arrays at the region's entry: the rows, the gain, the weight in blocks of 384 columns. -/
abbrev X (c : Dev nD) : FVec Ideal S2176x1024 .f32 := V m c main_v4
abbrev G (c : Dev nD) : FVec Ideal S1x1024 .f32 := V m c main_v5
abbrev W (c : Dev nD) : FVec Ideal S8x1024x384 .bf16 := V m c main_v2

theorem bX_at (c : Dev nD) (t : Fin cfg0.N) (r : Fin 2176) (k : Fin 1024) : (iblk m c 0 t : FVec Ideal S2176x1024 .f32) (ix2 r k) = X m c (ix2 r k) := by
  blk_ext [iblk, idx t]
theorem bG_at (c : Dev nD) (t : Fin cfg0.N) (k : Fin 1024) : (iblk m c 1 t : FVec Ideal S1x1024 .f32) (ix2 0 k) = G m c (ix2 0 k) := by
  blk_ext [iblk, idx t]
theorem bW_at (c : Dev nD) (t : Fin cfg0.N) (b : Fin 2) (k : Fin 1024) (q : Fin 384) : (iblk m c 2 t : FVec Ideal S2x1024x384 .bf16) (ix3 b k q)
    = W m c (ix3 ⟨t.val * 2 + b.val, by have : t.val < 4 := t.isLt; omega⟩ k q) := by
  blk_ext [iblk, idx t]

/-- The normalised rows over whole arrays. -/
def normArr (X : FVec Ideal S2176x1024 .f32) (G : FVec Ideal S1x1024 .f32) : FVec Ideal S2176x1024 .bf16 := fun i =>
  normAt (fun k => X (ix2 (i 0) k)) (G (ix2 0 (i 1))) (i 1)

theorem rows_arr (c : Dev nD) : rows m c = normArr (X m c) (G m c) := by
  rw [rows_eq]
  funext y
  obtain ⟨r, j, rfl⟩ : ∃ r j, y = ix2 r j := ⟨_, _, eq_ix2 y⟩
  exact congrArg₂ (fun x g => normAt x g j) (funext fun k => bX_at m c t0 r k) (bG_at m c t0 j)

/-- The product over whole arrays. -/
def prodArrAt (N : FVec Ideal S2176x1024 .bf16) (W : FVec Ideal S8x1024x384 .bf16) (r : Fin 2176) (j : Fin 3072) : EReal :=
  if r.val < 112 then 0 else ∑ k : Fin 1024, N (ix2 r k) * W (ix3 ⟨j.val / 384, by omega⟩ k ⟨j.val % 384, by omega⟩)
def prodArr (N : FVec Ideal S2176x1024 .bf16) (W : FVec Ideal S8x1024x384 .bf16) : FVec Ideal S2176x3072 .f32 := fun i => prodArrAt N W (i 0) (i 1)

theorem point (c : Dev nD) (t : Fin cfg0.N) (r : Fin 2176) (q : Fin 768) :
    prodAt (rows m c) (iblk m c 2 t) r q = prodArrAt (normArr (X m c) (G m c)) (W m c) r (colAt t q) := by
  have ht : t.val < 4 := t.isLt
  unfold prodAt prodArrAt
  rw [rows_arr]
  simp only [bW_at]
  refine if_congr Iff.rfl rfl (Finset.sum_congr rfl fun k _ => congrArg (normArr (X m c) (G m c) (ix2 r k) * ·) ?_)
  exact congrArg₂ (fun a b => W m c (ix3 a k b)) (Fin.ext (show t.val * 2 + q.val / 384 = (t.val * 768 + q.val) / 384 by omega))
    (Fin.ext (show q.val % 384 = (t.val * 768 + q.val) % 384 by omega))

/-- Window 3 after the run: the normalised rows. -/
theorem final3 (c : Dev nD) : (dats m 0 c).arrAt 3 (cfgs 0).N = normArr (X m c) (G m c) := by
  refine (dats m 0 c).arrAt_eq_of_covers 3 _ (by decide +kernel) fun t _ y => ?_
  blk_simp
  rw [after_3, rows_arr]
  blk_ext [idx t]

/-- Window 4 after the run: the product. -/
theorem final4 (c : Dev nD) : (dats m 0 c).arrAt 4 (cfgs 0).N = prodArr (normArr (X m c) (G m c)) (W m c) := by
  refine (dats m 0 c).arrAt_eq_of_covers 4 _ (by decide +kernel) fun t _ y => ?_
  blk_simp
  rw [after_4, product_eq]
  have cov : prodArr (normArr (X m c) (G m c)) (W m c) (ix2 (y 0) (colAt t (y 1)))
      = prodArr (normArr (X m c) (G m c)) (W m c) (((cfg0.win 4).blk t).view.emb y) := by
    unfold colAt; blk_ext [idx t]
  refine Eq.trans ?_ cov
  exact point m c t (y 0) (y 1)

end Cert.Proj

end
-- ==== Proof.UpKernel.lean ====
/- What the gated product's forward kernel leaves in its four result arrays, over the arrays its region is entered with: the
   normalised rows, and three functions of the two products of those rows with the weights. -/
module

public import proofs.«01_k».proof.Proof.UpFrame
public import proofs.«01_k».proof.Proof.ProjKernel
public import proofs.«01_k».proof.Proof.GateRef

@[expose] public section

set_option maxRecDepth 16384

noncomputable section

open Idealize.ShloMosaic Idealize.ShloMosaic.TcCoe Idealize.SL.Sem
open Idealize.ShloMosaic.Pipeline (Dat)

namespace Cert.Up

open Cert.Kernel6Ideal Cert.Kernel6Ideal.Gen Cert.Up.Frame
open Cert.Proj (normAt normBlk normArr quarter mem_rows)
open Cert.Reference4Ideal.Gate (sg)

/-- The three results at one entry, over the gate `a` and the other factor `b`: the activation's two derivatives, and itself. -/
def dgate (a b : EReal) : EReal := b * (sg a * (1 + a * (1 - sg a)))
def dup (a _ : EReal) : EReal := a * sg a
def act (a b : EReal) : EReal := a * sg a * b

/-! ## The stored values -/

theorem pay9_at (x : FVec Ideal S544x1024 .f32) (g : FVec Ideal S1x1024 .f32) (r : Fin 544) (j : Fin 1024) :
    k0_pay9 (F := Ideal) x g (ix2 r j) = normAt (fun k => x (ix2 r k)) (g (ix2 0 j)) j := by
  pointwise [k0_pay9]; rfl
theorem pay10_at (x : FVec Ideal S544x1024 .f32) (g : FVec Ideal S1x1024 .f32) (r : Fin 544) (j : Fin 1024) :
    k0_pay10 (F := Ideal) x g (ix2 r j) = normAt (fun k => x (ix2 r k)) (g (ix2 0 j)) j := by
  pointwise [k0_pay10]; rfl
theorem pay12_at (x : FVec Ideal S544x1024 .f32) (g : FVec Ideal S1x1024 .f32) (r : Fin 544) (j : Fin 1024) :
    k0_pay12 (F := Ideal) (k0_pay11 x) g (ix2 r j) = normAt (fun k => x (ix2 r k)) (g (ix2 0 j)) j := by
  pointwise [k0_pay12, k0_pay11]; rfl
theorem pay13_at (x : FVec Ideal S544x1024 .f32) (g : FVec Ideal S1x1024 .f32) (r : Fin 544) (j : Fin 1024) :
    k0_pay13 (F := Ideal) x g (ix2 r j) = normAt (fun k => x (ix2 r k)) (g (ix2 0 j)) j := by
  pointwise [k0_pay13]; rfl

/-- What a stored half block holds over the rows and the two weights' halves: `φ` of the two products. -/
def Holds (φ : EReal → EReal → EReal) (p : FVec Ideal S2064x1024 .bf16 → FVec Ideal S256x1024 .bf16 → FVec Ideal S256x1024 .bf16 → FVec Ideal S2064x256 .bf16) : Prop :=
  ∀ n v w (r : Fin 2064) (q : Fin 256), p n v w (ix2 r q) = φ (∑ k : Fin 1024, n (ix2 r k) * v (ix2 q k)) (∑ k : Fin 1024, n (ix2 r k) * w (ix2 q k))

theorem pay22_at : Holds dgate fun n v w => k0_pay22 (F := Ideal) n v w := by
  intro n v w r q; pointwise [k0_pay22, k0_pay20, k0_pay19, k0_pay18, k0_pay14]; rfl
theorem pay6_at : Holds dgate fun n v w => k0_pay6 (F := Ideal) (k0_pay14 n) v w := by
  intro n v w r q; pointwise [k0_pay6, k0_pay5, k0_pay4, k0_pay3, k0_pay2, k0_pay14]; rfl
theorem pay23_at : Holds dup fun n v w => k0_pay23 (F := Ideal) n v := by
  intro n v w r q; pointwise [k0_pay23, k0_pay21, k0_pay20, k0_pay18, k0_pay14]; rfl
theorem pay7_at : Holds dup fun n v w => k0_pay7 (F := Ideal) (k0_pay14 n) v := by
  intro n v w r q; pointwise [k0_pay7, k0_pay5, k0_pay4, k0_pay3, k0_pay2, k0_pay14]; rfl
theorem pay1_at : Holds act fun n v w => k0_pay1 (F := Ideal) (k0_pay19 n w) (k0_pay21 n v) := by
  intro n v w r q; pointwise [k0_pay1, k0_pay21, k0_pay20, k0_pay19, k0_pay18, k0_pay14]; rfl
theorem pay8_at : Holds act fun n v w => k0_pay8 (F := Ideal) (k0_pay14 n) v w := by
  intro n v w r q; pointwise [k0_pay8, k0_pay5, k0_pay4, k0_pay3, k0_pay2, k0_pay14]; rfl

/-! ## The normalised rows -/

/-- The four stores of the normalised rows, the last first. -/
theorem stores_rows (X : FVec Ideal S2176x1024 .f32) (G : FVec Ideal S1x1024 .f32) (y : S2176x1024.Idx) :
    View.canon (Val := Elt Ideal) (e := .bf16)
      [⟨Rect.unit ![1632, 0] ![544, 1024] inb_S2176x1024_S544x1024_1632_0,
          k0_pay13 (View.ld (Val := Elt Ideal) (e' := .f32) X (Rect.unit ![1632, 0] ![544, 1024] inb_S2176x1024_S544x1024_1632_0)) G⟩,
        ⟨Rect.unit ![1088, 0] ![544, 1024] inb_S2176x1024_S544x1024_1088_0,
          k0_pay12 (k0_pay11 (View.ld (Val := Elt Ideal) (e' := .f32) X (Rect.unit ![1088, 0] ![544, 1024] inb_S2176x1024_S544x1024_1088_0))) G⟩,
        ⟨Rect.unit ![544, 0] ![544, 1024] inb_S2176x1024_S544x1024_544_0,
          k0_pay10 (View.ld (Val := Elt Ideal) (e' := .f32) X (Rect.unit ![544, 0] ![544, 1024] inb_S2176x1024_S544x1024_544_0)) G⟩,
        ⟨Rect.unit ![0, 0] ![544, 1024] inb_S2176x1024_S544x1024_0_0,
          k0_pay9 (View.ld (Val := Elt Ideal) (e' := .f32) X (Rect.unit ![0, 0] ![544, 1024] inb_S2176x1024_S544x1024_0_0)) G⟩] y
      = normBlk X G y := by
  refine View.canon_apply_of_pieces (Val := Elt Ideal) (e := .bf16) (normBlk X G) _ ?_ y ?_
  · intro p hp
    simp only [List.mem_cons, List.not_mem_nil, or_false] at hp
    rcases hp with rfl | rfl | rfl | rfl
    · exact quarter (k0_pay13 (F := Ideal)) pay13_at X G 1632 (by norm_num) inb_S2176x1024_S544x1024_1632_0
    · exact quarter (fun x => k0_pay12 (F := Ideal) (k0_pay11 x)) pay12_at X G 1088 (by norm_num) inb_S2176x1024_S544x1024_1088_0
    · exact quarter (k0_pay10 (F := Ideal)) pay10_at X G 544 (by norm_num) inb_S2176x1024_S544x1024_544_0
    · exact quarter (k0_pay9 (F := Ideal)) pay9_at X G 0 (by norm_num) inb_S2176x1024_S544x1024_0_0
  · have hy : (y 0).val < 2176 := (y 0).isLt
    by_cases h3 : 1632 ≤ (y 0).val
    · exact ⟨_, List.mem_cons_self, mem_rows 1632 inb_S2176x1024_S544x1024_1632_0 y h3 (by omega)⟩
    by_cases h2 : 1088 ≤ (y 0).val
    · exact ⟨_, List.mem_cons_of_mem _ List.mem_cons_self, mem_rows 1088 inb_S2176x1024_S544x1024_1088_0 y h2 (by omega)⟩
    by_cases h1 : 544 ≤ (y 0).val
    · exact ⟨_, List.mem_cons_of_mem _ (List.mem_cons_of_mem _ List.mem_cons_self), mem_rows 544 inb_S2176x1024_S544x1024_544_0 y h1 (by omega)⟩
    · exact ⟨_, List.mem_cons_of_mem _ (List.mem_cons_of_mem _ (List.mem_cons_of_mem _ List.mem_cons_self)),
        mem_rows 0 inb_S2176x1024_S544x1024_0_0 y (by omega) (by omega)⟩

/-! ## The three blocks -/

/-- A block over the normalised rows and the two weights' staged rows: zeros in front, below them `φ` of the two products. -/
def blkAt (φ : EReal → EReal → EReal) (N : FVec Ideal S2176x1024 .bf16) (A B : FVec Ideal S512x1024 .bf16) (r : Fin 2176) (q : Fin 512) : EReal :=
  if r.val < 112 then 0 else φ (∑ k : Fin 1024, N (ix2 r k) * A (ix2 q k)) (∑ k : Fin 1024, N (ix2 r k) * B (ix2 q k))
def blk (φ : EReal → EReal → EReal) (N : FVec Ideal S2176x1024 .bf16) (A B : FVec Ideal S512x1024 .bf16) (y : S2176x512.Idx) : EReal :=
  blkAt φ N A B (y 0) (y 1)

variable {φ : EReal → EReal → EReal}
  {p p' : FVec Ideal S2064x1024 .bf16 → FVec Ideal S256x1024 .bf16 → FVec Ideal S256x1024 .bf16 → FVec Ideal S2064x256 .bf16}

/-- A stored half is the block's columns from `o` on, below the rows in front. -/
theorem half (hp : Holds φ p) (N : FVec Ideal S2176x1024 .bf16) (A B : FVec Ideal S512x1024 .bf16) (o : ℕ) (ho : o + 256 ≤ 512)
    (h0 : ∀ a, (![112, 0] : Fin 2 → ℕ) a + (![2064, 1024] : Fin 2 → ℕ) a ≤ S2176x1024.size a)
    (h1 : ∀ a, (![o, 0] : Fin 2 → ℕ) a + (![256, 1024] : Fin 2 → ℕ) a ≤ S512x1024.size a)
    (h2 : ∀ a, (![112, o] : Fin 2 → ℕ) a + (![2064, 256] : Fin 2 → ℕ) a ≤ S2176x512.size a) (x : S2064x256.Idx) :
    p (View.ld (Val := Elt Ideal) (e' := .bf16) N (Rect.unit (s := S2176x1024) ![112, 0] ![2064, 1024] h0))
        (View.ld (Val := Elt Ideal) (e' := .bf16) A (Rect.unit (s := S512x1024) ![o, 0] ![256, 1024] h1))
        (View.ld (Val := Elt Ideal) (e' := .bf16) B (Rect.unit (s := S512x1024) ![o, 0] ![256, 1024] h1)) x
      = blk φ N A B ((Rect.unit (s := S2176x512) ![112, o] ![2064, 256] h2).emb x) := by
  obtain ⟨r, q, rfl⟩ : ∃ r q, x = ix2 r q := ⟨_, _, eq_ix2 x⟩
  have e : (Rect.unit (s := S2176x512) ![112, o] ![2064, 256] h2).emb (ix2 r q) = ix2 ⟨112 + r.val, by omega⟩ ⟨o + q.val, by omega⟩ :=
    Rect.emb_eq_of_coords _ _ _ fun a => by fin_cases a <;> simp
  have en (k) : View.ld (Val := Elt Ideal) (e' := .bf16) N (Rect.unit (s := S2176x1024) ![112, 0] ![2064, 1024] h0) (ix2 r k) = N (ix2 ⟨112 + r.val, by omega⟩ k) :=
    View.ld_unit_apply_of (Val := Elt Ideal) (e := .bf16) (S := S2176x1024) N _ _ _ _ _ fun a => by fin_cases a <;> simp
  have ew (W : FVec Ideal S512x1024 .bf16) (k) : View.ld (Val := Elt Ideal) (e' := .bf16) W (Rect.unit (s := S512x1024) ![o, 0] ![256, 1024] h1) (ix2 q k)
      = W (ix2 ⟨o + q.val, by omega⟩ k) :=
    View.ld_unit_apply_of (Val := Elt Ideal) (e := .bf16) (S := S512x1024) W _ _ _ _ _ fun a => by fin_cases a <;> simp
  rw [hp, e]
  simp only [en, ew A, ew B]
  exact (if_neg (by show ¬112 + r.val < 112; omega)).symm

/-- The zeros in front. -/
theorem front (z : FVec Ideal S112x512 .bf16) (hz : ∀ r q, z (ix2 r q) = (0 : EReal)) (N : FVec Ideal S2176x1024 .bf16) (A B : FVec Ideal S512x1024 .bf16)
    (h : ∀ a, (![0, 0] : Fin 2 → ℕ) a + (![112, 512] : Fin 2 → ℕ) a ≤ S2176x512.size a) (x : S112x512.Idx) :
    z x = blk φ N A B ((Rect.unit (s := S2176x512) ![0, 0] ![112, 512] h).emb x) := by
  obtain ⟨r, q, rfl⟩ : ∃ r q, x = ix2 r q := ⟨_, _, eq_ix2 x⟩
  have e : (Rect.unit (s := S2176x512) ![0, 0] ![112, 512] h).emb (ix2 r q) = ix2 ⟨r.val, by omega⟩ q :=
    Rect.emb_eq_of_coords _ _ _ fun a => by fin_cases a <;> simp
  rw [e]
  exact (hz r q).trans (if_pos (show r.val < 112 from r.isLt)).symm

theorem mem_of (o p a b : ℕ) (h : ∀ i, (![o, p] : Fin 2 → ℕ) i + (![a, b] : Fin 2 → ℕ) i ≤ S2176x512.size i) (y : S2176x512.Idx) (h0 : o ≤ (y 0).val)
    (h1 : (y 0).val < o + a) (h2 : p ≤ (y 1).val) (h3 : (y 1).val < p + b) : y ∈ (Rect.unit (s := S2176x512) ![o, p] ![a, b] h).set :=
  Rect.mem_set_unit.mpr (Fin.forall_fin_two.mpr ⟨⟨h0, h1⟩, ⟨h2, h3⟩⟩)

/-- The three stores of a block, the last first. -/
theorem stores (hp : Holds φ p) (hp' : Holds φ p') (z : FVec Ideal S112x512 .bf16) (hz : ∀ r q, z (ix2 r q) = (0 : EReal))
    (N : FVec Ideal S2176x1024 .bf16) (A B : FVec Ideal S512x1024 .bf16) (y : S2176x512.Idx) :
    View.canon (Val := Elt Ideal) (e := .bf16)
      [⟨Rect.unit ![112, 256] ![2064, 256] inb_S2176x512_S2064x256_112_256,
          p' (View.ld (Val := Elt Ideal) (e' := .bf16) N (Rect.unit ![112, 0] ![2064, 1024] inb_S2176x1024_S2064x1024_112_0))
            (View.ld (Val := Elt Ideal) (e' := .bf16) A (Rect.unit ![256, 0] ![256, 1024] inb_S512x1024_S256x1024_256_0))
            (View.ld (Val := Elt Ideal) (e' := .bf16) B (Rect.unit ![256, 0] ![256, 1024] inb_S512x1024_S256x1024_256_0))⟩,
        ⟨Rect.unit ![112, 0] ![2064, 256] inb_S2176x512_S2064x256_112_0,
          p (View.ld (Val := Elt Ideal) (e' := .bf16) N (Rect.unit ![112, 0] ![2064, 1024] inb_S2176x1024_S2064x1024_112_0))
            (View.ld (Val := Elt Ideal) (e' := .bf16) A (Rect.unit ![0, 0] ![256, 1024] inb_S512x1024_S256x1024_0_0))
            (View.ld (Val := Elt Ideal) (e' := .bf16) B (Rect.unit ![0, 0] ![256, 1024] inb_S512x1024_S256x1024_0_0))⟩,
        ⟨Rect.unit ![0, 0] ![112, 512] inb_S2176x512_S112x512_0_0, z⟩] y = blk φ N A B y := by
  refine View.canon_apply_of_pieces (Val := Elt Ideal) (e := .bf16) (blk φ N A B) _ ?_ y ?_
  · intro s hs
    simp only [List.mem_cons, List.not_mem_nil, or_false] at hs
    rcases hs with rfl | rfl | rfl
    · exact half hp' N A B 256 (by norm_num) inb_S2176x1024_S2064x1024_112_0 inb_S512x1024_S256x1024_256_0 inb_S2176x512_S2064x256_112_256
    · exact half hp N A B 0 (by norm_num) inb_S2176x1024_S2064x1024_112_0 inb_S512x1024_S256x1024_0_0 inb_S2176x512_S2064x256_112_0
    · exact front z hz N A B inb_S2176x512_S112x512_0_0
  · have hy0 : (y 0).val < 2176 := (y 0).isLt
    have hy1 : (y 1).val < 512 := (y 1).isLt
    by_cases h0 : (y 0).val < 112
    · refine ⟨_, List.mem_cons_of_mem _ (List.mem_cons_of_mem _ List.mem_cons_self), ?_⟩
      exact mem_of 0 0 112 512 inb_S2176x512_S112x512_0_0 y (by omega) (by omega) (by omega) (by omega)
    · by_cases h1 : (y 1).val < 256
      · refine ⟨_, List.mem_cons_of_mem _ List.mem_cons_self, ?_⟩
        exact mem_of 112 0 2064 256 inb_S2176x512_S2064x256_112_0 y (by omega) (by omega) (by omega) (by omega)
      · refine ⟨_, List.mem_cons_self, ?_⟩
        exact mem_of 112 256 2064 256 inb_S2176x512_S2064x256_112_256 y (by omega) (by omega) (by omega) (by omega)

theorem pay15_at (r : Fin 112) (q : Fin 512) : k0_pay15 (F := Ideal) (ix2 r q) = 0 := by pointwise [k0_pay15]
theorem pay16_at (r : Fin 112) (q : Fin 512) : k0_pay16 (F := Ideal) (ix2 r q) = 0 := by pointwise [k0_pay16]
theorem pay17_at (r : Fin 112) (q : Fin 512) : k0_pay17 (F := Ideal) (ix2 r q) = 0 := by pointwise [k0_pay17]

/-! ## What the points leave -/

variable (m : (ℓ : Loc nD τ sig) → Buf (Elt Ideal) ℓ)

theorem rows_eq (c : Dev nD) : rows m c = normBlk (iblk m c 0 t0) (iblk m c 1 t0) := by
  funext y
  unfold rows runFirst bodyFirst
  frame_out
  exact stores_rows _ _ y

theorem rows_canon (c : Dev nD) : View.canon (runFirst m c t0 rfl).1 = rows m c :=
  (View.read_writes_junk_eq_canon (Val := Elt Ideal) out4 _).symm

theorem leave5 (c : Dev nD) (t : Fin cfg0.N) : leave out5 (pieces m c t).d5 = blk dgate (rows m c) (iblk m c 2 t) (iblk m c 3 t) := by
  funext y
  by_cases h : t.val = 0
  · obtain rfl : t = t0 := Fin.ext h
    rw [pieces_first m c t0 h, rows_eq]
    unfold leave runFirst bodyFirst
    frame_out
    rw [View.readCov_eq_canon']
    simp only [stores_rows]
    exact stores pay22_at pay6_at _ pay15_at _ _ _ y
  · rw [pieces_later m c t h]
    unfold leave runLater bodyLater
    frame_out
    rw [rows_canon]
    exact stores pay22_at pay6_at _ pay15_at _ _ _ y

theorem leave6 (c : Dev nD) (t : Fin cfg0.N) : leave out6 (pieces m c t).d6 = blk dup (rows m c) (iblk m c 2 t) (iblk m c 3 t) := by
  funext y
  by_cases h : t.val = 0
  · obtain rfl : t = t0 := Fin.ext h
    rw [pieces_first m c t0 h, rows_eq]
    unfold leave runFirst bodyFirst
    frame_out
    rw [View.readCov_eq_canon']
    simp only [stores_rows]
    exact stores pay23_at pay7_at _ pay16_at _ _ (iblk m c 3 t0) y
  · rw [pieces_later m c t h]
    unfold leave runLater bodyLater
    frame_out
    rw [rows_canon]
    exact stores pay23_at pay7_at _ pay16_at _ _ (iblk m c 3 t) y

theorem leave7 (c : Dev nD) (t : Fin cfg0.N) : leave out7 (pieces m c t).d7 = blk act (rows m c) (iblk m c 2 t) (iblk m c 3 t) := by
  funext y
  by_cases h : t.val = 0
  · obtain rfl : t = t0 := Fin.ext h
    rw [pieces_first m c t0 h, rows_eq]
    unfold leave runFirst bodyFirst
    frame_out
    rw [View.readCov_eq_canon']
    simp only [stores_rows]
    exact stores pay1_at pay8_at _ pay17_at _ _ _ y
  · rw [pieces_later m c t h]
    unfold leave runLater bodyLater
    frame_out
    rw [rows_canon]
    exact stores pay1_at pay8_at _ pay17_at _ _ _ y

/-! ## The four result arrays -/

/-- Where each window's block lies at each grid point. -/
theorem idx : ∀ t : Fin cfg0.N, win0_0.index t = ![0, 0] ∧ win0_1.index t = ![0, 0] ∧ win0_2.index t = ![t.val, 0] ∧ win0_3.index t = ![t.val, 0]
    ∧ win0_4.index t = ![0, 0] ∧ win0_5.index t = ![0, t.val] ∧ win0_6.index t = ![0, t.val] ∧ win0_7.index t = ![0, t.val] :=
  (by decide +kernel : ∀ t : Fin grid0.N, _)

/-- The array column that column `q` of block `t` is. -/
def colAt (t : Fin cfg0.N) (q : Fin 512) : Fin 3072 := ⟨t.val * 512 + q.val, by have : t.val < 6 := t.isLt; omega⟩

/-- The arrays at the region's entry: the rows, the gain, the two weights, transposed. -/
abbrev X (c : Dev nD) : FVec Ideal S2176x1024 .f32 := V m c main_v1
abbrev G (c : Dev nD) : FVec Ideal S1x1024 .f32 := V m c main_v2
abbrev A (c : Dev nD) : FVec Ideal S3072x1024 .bf16 := V m c main_v8
abbrev B (c : Dev nD) : FVec Ideal S3072x1024 .bf16 := V m c main_v14

theorem bX_at (c : Dev nD) (t : Fin cfg0.N) (r : Fin 2176) (k : Fin 1024) : (iblk m c 0 t : FVec Ideal S2176x1024 .f32) (ix2 r k) = X m c (ix2 r k) := by
  blk_ext [iblk, idx t]
theorem bG_at (c : Dev nD) (t : Fin cfg0.N) (k : Fin 1024) : (iblk m c 1 t : FVec Ideal S1x1024 .f32) (ix2 0 k) = G m c (ix2 0 k) := by
  blk_ext [iblk, idx t]
theorem bA_at (c : Dev nD) (t : Fin cfg0.N) (q : Fin 512) (k : Fin 1024) : (iblk m c 2 t : FVec Ideal S512x1024 .bf16) (ix2 q k) = A m c (ix2 (colAt t q) k) := by
  unfold colAt; blk_ext [iblk, idx t]
theorem bB_at (c : Dev nD) (t : Fin cfg0.N) (q : Fin 512) (k : Fin 1024) : (iblk m c 3 t : FVec Ideal S512x1024 .bf16) (ix2 q k) = B m c (ix2 (colAt t q) k) := by
  unfold colAt; blk_ext [iblk, idx t]

theorem rows_arr (c : Dev nD) : rows m c = normArr (X m c) (G m c) := by
  rw [rows_eq]
  funext y
  obtain ⟨r, j, rfl⟩ : ∃ r j, y = ix2 r j := ⟨_, _, eq_ix2 y⟩
  exact congrArg₂ (fun x g => normAt x g j) (funext fun k => bX_at m c t0 r k) (bG_at m c t0 j)

/-- A result over whole arrays. -/
def arrAt (φ : EReal → EReal → EReal) (N : FVec Ideal S2176x1024 .bf16) (A B : FVec Ideal S3072x1024 .bf16) (r : Fin 2176) (j : Fin 3072) : EReal :=
  if r.val < 112 then 0 else φ (∑ k : Fin 1024, N (ix2 r k) * A (ix2 j k)) (∑ k : Fin 1024, N (ix2 r k) * B (ix2 j k))
def arr (φ : EReal → EReal → EReal) (N : FVec Ideal S2176x1024 .bf16) (A B : FVec Ideal S3072x1024 .bf16) : FVec Ideal S2176x3072 .bf16 := fun i =>
  arrAt φ N A B (i 0) (i 1)

theorem point (φ : EReal → EReal → EReal) (c : Dev nD) (t : Fin cfg0.N) (r : Fin 2176) (q : Fin 512) :
    blkAt φ (rows m c) (iblk m c 2 t) (iblk m c 3 t) r q = arrAt φ (normArr (X m c) (G m c)) (A m c) (B m c) r (colAt t q) := by
  unfold blkAt arrAt
  rw [rows_arr]
  simp only [bA_at, bB_at]

/-- Window 4 after the run: the normalised rows. -/
theorem final4 (c : Dev nD) : (dats m 0 c).arrAt 4 (cfgs 0).N = normArr (X m c) (G m c) := by
  refine (dats m 0 c).arrAt_eq_of_covers 4 _ (by decide +kernel) fun t _ y => ?_
  blk_simp
  rw [after_4, rows_arr]
  blk_ext [idx t]

/-- Windows 5, 6 and 7 after the run. -/
theorem final5 (c : Dev nD) : (dats m 0 c).arrAt 5 (cfgs 0).N = arr dgate (normArr (X m c) (G m c)) (A m c) (B m c) := by
  refine (dats m 0 c).arrAt_eq_of_covers 5 _ (by decide +kernel) fun t _ y => ?_
  blk_simp
  rw [after_5, leave5]
  refine (point m dgate c t (y 0) (y 1)).trans (?_ : arr dgate (normArr (X m c) (G m c)) (A m c) (B m c) (ix2 (y 0) (colAt t (y 1))) = _)
  unfold colAt; blk_ext [idx t]
theorem final6 (c : Dev nD) : (dats m 0 c).arrAt 6 (cfgs 0).N = arr dup (normArr (X m c) (G m c)) (A m c) (B m c) := by
  refine (dats m 0 c).arrAt_eq_of_covers 6 _ (by decide +kernel) fun t _ y => ?_
  blk_simp
  rw [after_6, leave6]
  refine (point m dup c t (y 0) (y 1)).trans (?_ : arr dup (normArr (X m c) (G m c)) (A m c) (B m c) (ix2 (y 0) (colAt t (y 1))) = _)
  unfold colAt; blk_ext [idx t]
theorem final7 (c : Dev nD) : (dats m 0 c).arrAt 7 (cfgs 0).N = arr act (normArr (X m c) (G m c)) (A m c) (B m c) := by
  refine (dats m 0 c).arrAt_eq_of_covers 7 _ (by decide +kernel) fun t _ y => ?_
  blk_simp
  rw [after_7, leave7]
  refine (point m act c t (y 0) (y 1)).trans (?_ : arr act (normArr (X m c) (G m c)) (A m c) (B m c) (ix2 (y 0) (colAt t (y 1))) = _)
  unfold colAt; blk_ext [idx t]

end Cert.Up

end
-- ==== Proof.UpRef.lean ====
/- The gated product's forward lines and the derivatives of its activation, read element by element. -/
module

public import proofs.«01_k».proof.Proof.Gen.Reference6Ideal.Read
public import proofs.«01_k».proof.Proof.RmsMath
public import proofs.«01_k».proof.Proof.GateRef
public import Idealize.ShloMosaic.Lib.Pointwise

@[expose] public section

set_option maxRecDepth 16384

noncomputable section

open Idealize.ShloMosaic Idealize.ShloMosaic.TcCoe Idealize.SL.Sem

namespace Cert.Reference6Ideal.Up

open Cert.Reference6Ideal Cert.Reference6Ideal.Gen Cert.Reference6Ideal.Read
open Cert.Rms (rs)
open Cert.Reference4Ideal.Gate (sg)

variable (x : FVec Ideal S2064x1024 .f32) (g : FVec Ideal S1024 .f32) (v w : FVec Ideal S1024x2816 .f32)

/-- The reciprocal root mean square of a row. -/
theorem rs_at (r : Fin 2064) : val_main_v7 (F := Ideal) x (ix2 r 0) = rs fun k => x (ix2 r k) := by
  pointwise [val_main_v7, val_main_v6, val_main_v5, val_main_cst_1, val_main_v4, val_main_v3, val_main_v2, val_main_v1, val_main_v0, val_main_cst, val_main_cst_0]
  rfl

/-- A normalised row at one column. -/
theorem hn_at (r : Fin 2064) (j : Fin 1024) : val_main_v12 (F := Ideal) x g (ix2 r j) = x (ix2 r j) * (rs fun k => x (ix2 r k)) * g (ix1 j) := by
  pointwise [val_main_v12, val_main_v11, val_main_v10, val_main_v9, val_main_v8, rs_at]

/-- A product of a normalised row with a weight's column. -/
def prod (u : FVec Ideal S1024x2816 .f32) (r : Fin 2064) (j : Fin 2816) : EReal :=
  ∑ i : Fin 1024, x (ix2 r i) * (rs fun k => x (ix2 r k)) * g (ix1 i) * u (ix2 i j)

theorem gate_at (r : Fin 2064) (j : Fin 2816) : val_main_v13 (F := Ideal) x g v (ix2 r j) = prod x g v r j := by
  pointwise [val_main_v13, hn_at]; rfl
theorem up_at (r : Fin 2064) (j : Fin 2816) : val_main_v14 (F := Ideal) x g w (ix2 r j) = prod x g w r j := by
  pointwise [val_main_v14, hn_at]; rfl
theorem sg_at (r : Fin 2064) (j : Fin 2816) : val_main_v15_2 (F := Ideal) x g v (ix2 r j) = sg (prod x g v r j) := by
  pointwise [val_main_v15_2, val_main_call0_v4, val_main_call0_cst_0, val_main_call0_v3, val_main_call0_v2, val_main_call0_cst, val_main_call0_v1, val_main_call0_v0, gate_at]
  rfl

/-- The activation's derivative in the gate, at one row and column. -/
theorem dgate_at (r : Fin 2064) (j : Fin 2816) : val_main_v20 (F := Ideal) x g v w (ix2 r j)
    = prod x g w r j * sg (prod x g v r j) + prod x g v r j * prod x g w r j * (sg (prod x g v r j) * (1 - sg (prod x g v r j))) := by
  pointwise [val_main_v20, val_main_call1_v2, val_main_call1_v1, val_main_call1_v0, val_main_v19, val_main_v17, val_main_cst_2, val_main_v15_1, val_main_call0_v7,
    val_main_call0_v6, val_main_call0_cst_1, sg_at, gate_at, up_at]
/-- The activation's derivative in the other factor. -/
theorem dup_at (r : Fin 2064) (j : Fin 2816) : val_main_v18 (F := Ideal) x g v (ix2 r j) = prod x g v r j * sg (prod x g v r j) := by
  pointwise [val_main_v18, val_main_v17, val_main_cst_2, val_main_v15_0, sg_at, gate_at]
/-- The activation. -/
theorem act_at (r : Fin 2064) (j : Fin 2816) : val_main_v16 (F := Ideal) x g v w (ix2 r j) = prod x g v r j * sg (prod x g v r j) * prod x g w r j := by
  pointwise [val_main_v16, val_main_v15_0, sg_at, gate_at, up_at]

/-! ## The results as the kernel lays them out: rows in front, and columns at the end of each device's part, of zeros -/

theorem v23_at (r : Fin 2176) (j : Fin 1024) : val_main_v23 (F := Ideal) x g (ix2 r j)
    = if h : r.val < 112 then 0 else x (ix2 ⟨r.val - 112, by omega⟩ j) * (rs fun k => x (ix2 ⟨r.val - 112, by omega⟩ k)) * g (ix1 j) := by
  pointwise [val_main_v23, val_main_v22, val_main_v21, val_main_cst_3, hn_at]

theorem v30_at (r : Fin 2176) (j : Fin 3072) : val_main_v30 (F := Ideal) x g v w (ix2 r j)
    = if h : r.val < 112 then 0 else if h' : j.val % 384 < 352 then
        val_main_v20 (F := Ideal) x g v w (ix2 ⟨r.val - 112, by omega⟩ ⟨j.val / 384 * 352 + j.val % 384, by omega⟩) else 0 := by
  pointwise [val_main_v30, val_main_v29, val_main_v28, val_main_cst_5, val_main_v27, val_main_v26, val_main_v25, val_main_v24, val_main_cst_4]
theorem v37_at (r : Fin 2176) (j : Fin 3072) : val_main_v37 (F := Ideal) x g v (ix2 r j)
    = if h : r.val < 112 then 0 else if h' : j.val % 384 < 352 then
        val_main_v18 (F := Ideal) x g v (ix2 ⟨r.val - 112, by omega⟩ ⟨j.val / 384 * 352 + j.val % 384, by omega⟩) else 0 := by
  pointwise [val_main_v37, val_main_v36, val_main_v35, val_main_cst_7, val_main_v34, val_main_v33, val_main_v32, val_main_v31, val_main_cst_6]
theorem v44_at (r : Fin 2176) (j : Fin 3072) : val_main_v44 (F := Ideal) x g v w (ix2 r j)
    = if h : r.val < 112 then 0 else if h' : j.val % 384 < 352 then
        val_main_v16 (F := Ideal) x g v w (ix2 ⟨r.val - 112, by omega⟩ ⟨j.val / 384 * 352 + j.val % 384, by omega⟩) else 0 := by
  pointwise [val_main_v44, val_main_v43, val_main_v42, val_main_cst_9, val_main_v41, val_main_v40, val_main_v39, val_main_v38, val_main_cst_8]

end Cert.Reference6Ideal.Up

end
-- ==== Proof.Up.lean ====
/- The gated product's forward kernel against the forward lines and the derivatives of their activation: the value claim. -/
module

public import proofs.«01_k».proof.Defs
public import proofs.«01_k».proof.Proof.Gen.Pre_up_finite
public import proofs.«01_k».proof.Proof.UpKernel
public import proofs.«01_k».proof.Proof.UpRef
public import proofs.«01_k».proof.Proof.Gate
public import Idealize.ShloMosaic.Lib.Claim

@[expose] public section

set_option maxRecDepth 16384

noncomputable section

open Idealize.ShloMosaic Idealize.ShloMosaic.TcCoe Idealize.SL.Sem

namespace Cert.UpProof

open Cert.Reals Cert.Kernel6Ideal Cert.Kernel6Ideal.Gen Cert.Up Cert.Up.Frame
open Cert.Proj (normArr)
open Cert.Rms (rs ms_coe)
open Cert.Reference4Ideal.Gate (sg)
open Cert.Reference6Ideal.Up (prod)
open Cert.GateProof (sg_coe real_of_cmp feat)

variable (m : (ℓ : Loc nD τ sig) → Buf (Elt Ideal) ℓ)

/-- The arguments at their own types. -/
abbrev a0 (c : Dev nD) : FVec Ideal S2064x1024 .f32 := m ((c : Thread nD τ).loc main_arg0)
abbrev a1 (c : Dev nD) : FVec Ideal S1024 .f32 := m ((c : Thread nD τ).loc main_arg1)
abbrev a2 (c : Dev nD) : FVec Ideal S1024x2816 .f32 := m ((c : Thread nD τ).loc main_arg2)
abbrev a3 (c : Dev nD) : FVec Ideal S1024x2816 .f32 := m ((c : Thread nD τ).loc main_arg3)

theorem X_at (c : Dev nD) (r : Fin 2176) (k : Fin 1024) :
    X m c (ix2 r k) = if h : r.val < 112 then 0 else a0 m c (ix2 ⟨r.val - 112, by omega⟩ k) := by
  unfold X; entry_read; pointwise []
theorem G_at (c : Dev nD) (k : Fin 1024) : G m c (ix2 0 k) = a1 m c (ix1 k) := by
  unfold G; entry_read; pointwise []
theorem A_at (c : Dev nD) (j : Fin 3072) (k : Fin 1024) : A m c (ix2 j k) = if h : j.val % 384 < 352 then a2 m c (ix2 k (feat j h)) else 0 := by
  unfold A; entry_read; pointwise []
theorem B_at (c : Dev nD) (j : Fin 3072) (k : Fin 1024) : B m c (ix2 j k) = if h : j.val % 384 < 352 then a3 m c (ix2 k (feat j h)) else 0 := by
  unfold B; entry_read; pointwise []

/-- The normalised rows of the kernel are the forward lines'; a row of zeros stays zero. -/
theorem norm_eq (c : Dev nD) : normArr (X m c) (G m c) = Cert.Reference6Ideal.Read.val_main_v23 (F := Ideal) (a0 m c) (a1 m c) := by
  funext i
  obtain ⟨r, j, rfl⟩ : ∃ r j, i = ix2 r j := ⟨_, _, eq_ix2 i⟩
  rw [Cert.Reference6Ideal.Up.v23_at]
  show X m c (ix2 r j) * (rs fun k => X m c (ix2 r k)) * G m c (ix2 0 j) = _
  rw [show (fun k => X m c (ix2 r k)) = _ from funext fun k => X_at m c r k, X_at, G_at]
  by_cases h : r.val < 112
  · simp only [h, dite_true, zero_mul]
  · simp only [h, dite_false]

/-- A product of the normalised rows with a staged weight: the forward lines' product, zero in the columns that pad a device's part. -/
theorem dot_pos (c : Dev nD) (W : FVec Ideal S3072x1024 .bf16) (u : FVec Ideal S1024x2816 .f32)
    (hW : ∀ (j : Fin 3072) (k : Fin 1024), W (ix2 j k) = if h : j.val % 384 < 352 then u (ix2 k (feat j h)) else 0)
    (r : Fin 2176) (h : ¬r.val < 112) (j : Fin 3072) (h' : j.val % 384 < 352) :
    (∑ k : Fin 1024, normArr (X m c) (G m c) (ix2 r k) * W (ix2 j k) : EReal) = prod (a0 m c) (a1 m c) u ⟨r.val - 112, by omega⟩ (feat j h') :=
  Finset.sum_congr rfl fun k _ => by rw [norm_eq, Cert.Reference6Ideal.Up.v23_at, dif_neg h, hW, dif_pos h']
theorem dot_neg (N : FVec Ideal S2176x1024 .bf16) (W : FVec Ideal S3072x1024 .bf16) (u : FVec Ideal S1024x2816 .f32)
    (hW : ∀ (j : Fin 3072) (k : Fin 1024), W (ix2 j k) = if h : j.val % 384 < 352 then u (ix2 k (feat j h)) else 0)
    (r : Fin 2176) (j : Fin 3072) (h' : ¬j.val % 384 < 352) : (∑ k : Fin 1024, N (ix2 r k) * W (ix2 j k) : EReal) = 0 :=
  Finset.sum_eq_zero fun k _ => by rw [hW, dif_neg h', mul_zero]

/-- A result of the kernel at one entry, when `f` is the forward lines' function of the two products and keeps zero. -/
theorem arr_at (φ : EReal → EReal → EReal) (h0 : φ 0 0 = 0) (f : Fin 2064 → Fin 2816 → EReal) (c : Dev nD)
    (hf : ∀ r j, φ (prod (a0 m c) (a1 m c) (a2 m c) r j) (prod (a0 m c) (a1 m c) (a3 m c) r j) = f r j) (r : Fin 2176) (j : Fin 3072) :
    arrAt φ (normArr (X m c) (G m c)) (A m c) (B m c) r j
      = if h : r.val < 112 then 0 else if h' : j.val % 384 < 352 then f ⟨r.val - 112, by omega⟩ (feat j h') else 0 := by
  unfold arrAt
  by_cases h : r.val < 112
  · rw [if_pos h, dif_pos h]
  rw [if_neg h, dif_neg h]
  by_cases h' : j.val % 384 < 352
  · rw [dif_pos h', dot_pos m c (A m c) (a2 m c) (A_at m c) r h j h', dot_pos m c (B m c) (a3 m c) (B_at m c) r h j h', hf]
  · rw [dif_neg h', dot_neg _ (A m c) (a2 m c) (A_at m c) r j h', dot_neg _ (B m c) (a3 m c) (B_at m c) r j h', h0]

/-- A product of finite arguments is a real number. -/
theorem prod_real (x : FVec Ideal S2064x1024 .f32) (g : FVec Ideal S1024 .f32) (u : FVec Ideal S1024x2816 .f32)
    (hx : ∀ i, (((x i).toReal : ℝ) : EReal) = x i) (hg : ∀ i, (((g i).toReal : ℝ) : EReal) = g i) (hu : ∀ i, (((u i).toReal : ℝ) : EReal) = u i)
    (r : Fin 2064) (j : Fin 2816) : ∃ p : ℝ, prod x g u r j = (p : EReal) := by
  obtain ⟨v, hv, hms⟩ := ms_coe fun k => (x (ix2 r k)).toReal
  simp only [hx] at hms
  refine ⟨∑ i : Fin 1024, (x (ix2 r i)).toReal * (Real.sqrt v)⁻¹ * (g (ix1 i)).toReal * (u (ix2 i j)).toReal, ?_⟩
  rw [← coe_sum]
  refine Finset.sum_congr rfl fun i _ => ?_
  rw [EReal.coe_mul, EReal.coe_mul, EReal.coe_mul, hx, hg, hu, rs, hms, rsqrt_pos hv]

variable {m}

/-- The kernel's derivative of the activation in the gate is the forward lines'. -/
theorem dgate_eq (hpre : Cert.Pre_Kernel6Ideal_up_finite m) (c : Dev nD) :
    arr dgate (normArr (X m c) (G m c)) (A m c) (B m c) = Cert.Reference6Ideal.Read.val_main_v30 (F := Ideal) (a0 m c) (a1 m c) (a2 m c) (a3 m c) := by
  funext i
  obtain ⟨r, j, rfl⟩ : ∃ r j, i = ix2 r j := ⟨_, _, eq_ix2 i⟩
  rw [Cert.Reference6Ideal.Up.v30_at]
  refine arr_at m dgate (zero_mul _) (fun r j => Cert.Reference6Ideal.Read.val_main_v20 (F := Ideal) (a0 m c) (a1 m c) (a2 m c) (a3 m c) (ix2 r j)) c (fun r j => ?_) r j
  rw [Cert.Reference6Ideal.Up.dgate_at]
  have hx := fun i => real_of_cmp (a0 m c) i _ rfl (hpre c).1
  have hg := fun i => real_of_cmp (a1 m c) i _ rfl (hpre c).2.1
  obtain ⟨a, ha⟩ := prod_real (a0 m c) (a1 m c) (a2 m c) hx hg (fun i => real_of_cmp (a2 m c) i _ rfl (hpre c).2.2.1) r j
  obtain ⟨b, hb⟩ := prod_real (a0 m c) (a1 m c) (a3 m c) hx hg (fun i => real_of_cmp (a3 m c) i _ rfl (hpre c).2.2.2) r j
  have e : (1 : EReal) = ((1 : ℝ) : EReal) := rfl
  rw [ha, hb, dgate, sg_coe, e]
  simp only [← EReal.coe_mul, ← EReal.coe_sub, ← EReal.coe_add]
  congr 1; ring

/-- The kernel's derivative of the activation in the other factor is the forward lines'. -/
theorem dup_eq (c : Dev nD) :
    arr dup (normArr (X m c) (G m c)) (A m c) (B m c) = Cert.Reference6Ideal.Read.val_main_v37 (F := Ideal) (a0 m c) (a1 m c) (a2 m c) := by
  funext i
  obtain ⟨r, j, rfl⟩ : ∃ r j, i = ix2 r j := ⟨_, _, eq_ix2 i⟩
  rw [Cert.Reference6Ideal.Up.v37_at]
  exact arr_at m dup (zero_mul _) (fun r j => Cert.Reference6Ideal.Read.val_main_v18 (F := Ideal) (a0 m c) (a1 m c) (a2 m c) (ix2 r j)) c
    (fun r j => (Cert.Reference6Ideal.Up.dup_at _ _ _ r j).symm) r j

/-- The kernel's activation is the forward lines'. -/
theorem act_eq (c : Dev nD) :
    arr act (normArr (X m c) (G m c)) (A m c) (B m c) = Cert.Reference6Ideal.Read.val_main_v44 (F := Ideal) (a0 m c) (a1 m c) (a2 m c) (a3 m c) := by
  funext i
  obtain ⟨r, j, rfl⟩ : ∃ r j, i = ix2 r j := ⟨_, _, eq_ix2 i⟩
  rw [Cert.Reference6Ideal.Up.v44_at]
  exact arr_at m act (mul_zero _) (fun r j => Cert.Reference6Ideal.Read.val_main_v16 (F := Ideal) (a0 m c) (a1 m c) (a2 m c) (a3 m c) (ix2 r j)) c
    (fun r j => (Cert.Reference6Ideal.Up.act_at _ _ _ _ r j).symm) r j

/-- The kernel and the forward lines compute the same normalised rows, derivatives and activation from finite arguments. -/
theorem value : Cert.algebraic_Kernel6Ideal_Reference6Ideal_pre_up_finite := by
  intro m g m' g' hpre hagree
  refine ⟨fun c => (dats m 0 c).arrAt 4 (cfgs 0).N, fun c => (dats m 0 c).arrAt 5 (cfgs 0).N, fun c => (dats m 0 c).arrAt 6 (cfgs 0).N,
    fun c => (dats m 0 c).arrAt 7 (cfgs 0).N, ?_, ?_⟩
  · refine (θ_run defs _ _).mono ?_ (θ_run_and (run_main m g) (frame m g))
    intro r h c
    exact ⟨(h.1 c).1 4, (h.1 c).1 5, (h.1 c).1 6, (h.1 c).1 7, h.2.1 c⟩
  · refine (θ_run Cert.Reference6Ideal.defs _ _).mono ?_ (Cert.Reference6Ideal.Value.run m' g')
    intro r h c
    obtain ⟨h0, h1, h2, h3, hargs⟩ := h c
    refine ⟨h0.trans (Eq.trans ?_ (final4 m c).symm), h1.trans (Eq.trans ?_ (final5 m c).symm), h2.trans (Eq.trans ?_ (final6 m c).symm),
      h3.trans (Eq.trans ?_ (final7 m c).symm), hargs⟩
    · rw [Cert.Reference6Ideal.Read.val_main_v23_eq, norm_eq, (hagree c).1, (hagree c).2.1]
    · rw [Cert.Reference6Ideal.Read.val_main_v30_eq, dgate_eq hpre, (hagree c).1, (hagree c).2.1, (hagree c).2.2.1, (hagree c).2.2.2]
    · rw [Cert.Reference6Ideal.Read.val_main_v37_eq, dup_eq, (hagree c).1, (hagree c).2.1, (hagree c).2.2.1]
    · rw [Cert.Reference6Ideal.Read.val_main_v44_eq, act_eq, (hagree c).1, (hagree c).2.1, (hagree c).2.2.1, (hagree c).2.2.2]

end Cert.UpProof

end
-- ==== Proof.UpFrames.lean ====
/- The frames of the gated product's forward kernel at the machine's own floats, taken from the run of `UpFrame`: where the
   ideal program names a constant the kernel has that constant's bits, so at `Bits`, with a name read as its bits, the two
   programs are the same text. -/
module

public import proofs.«01_k».proof.Proof.UpFrame
public import proofs.«01_k».proof.Defs
public import proofs.«01_k».proof.Proof.Gen.Kernel6

@[expose] public section

set_option maxRecDepth 16384
set_option maxHeartbeats 4000000

noncomputable section

namespace Cert.Up.Frames

open Idealize.ShloMosaic Idealize.ShloMosaic.TcCoe Idealize.ShloMosaic.Tactic
open Idealize.SL Idealize.SL.Sem

/-- At the machine's floats a named constant is the bits that it stands for. -/
local instance : Named Bits where
  named _ _ {_} bits := bits

/-- The kernel at the machine's floats ends with its arguments unchanged and every semaphore counter at zero. -/
theorem kernel : Cert.quiescent_Kernel6 (hKernel6 := Cert.Kernel6.Gen.facts) := by
  intro m g _
  exact (Eq.mp (by sl_kernel_rfl) (Cert.Up.Frame.frame (F := Bits) m g))

end Cert.Up.Frames

end
-- ==== Proof.ProjRef.lean ====
/- The norm's forward lines and their product with the weight, read element by element. -/
module

public import proofs.«01_k».proof.Proof.Gen.Reference7Ideal.Read
public import proofs.«01_k».proof.Proof.RmsMath
public import Idealize.ShloMosaic.Lib.Pointwise

@[expose] public section

set_option maxRecDepth 16384

noncomputable section

open Idealize.ShloMosaic Idealize.ShloMosaic.TcCoe Idealize.SL.Sem

namespace Cert.Reference7Ideal.Proj

open Cert.Reference7Ideal Cert.Reference7Ideal.Gen Cert.Reference7Ideal.Read
open Cert.Rms (rs)

variable (x : FVec Ideal S2064x1024 .f32) (g : FVec Ideal S1024 .f32) (w : FVec Ideal S1024x3072 .f32)

/-- The reciprocal root mean square of a row. -/
theorem rs_at (r : Fin 2064) : val_main_v7 (F := Ideal) x (ix2 r 0) = rs fun k => x (ix2 r k) := by
  pointwise [val_main_v7, val_main_v6, val_main_v5, val_main_cst_1, val_main_v4, val_main_v3, val_main_v2, val_main_v1, val_main_v0, val_main_cst, val_main_cst_0]
  rfl

/-- A normalised row at one column. -/
theorem hn_at (r : Fin 2064) (j : Fin 1024) : val_main_v12 (F := Ideal) x g (ix2 r j) = x (ix2 r j) * (rs fun k => x (ix2 r k)) * g (ix1 j) := by
  pointwise [val_main_v12, val_main_v11, val_main_v10, val_main_v9, val_main_v8, rs_at]

/-- The normalised rows, below rows of zeros. -/
theorem v15_at (r : Fin 2176) (j : Fin 1024) : val_main_v15 (F := Ideal) x g (ix2 r j)
    = if h : r.val < 112 then 0 else x (ix2 ⟨r.val - 112, by omega⟩ j) * (rs fun k => x (ix2 ⟨r.val - 112, by omega⟩ k)) * g (ix1 j) := by
  pointwise [val_main_v15, val_main_v14, val_main_v13, val_main_cst_2]
  split
  · rfl
  · exact hn_at x g _ j

/-- The product, below rows of zeros. -/
theorem v18_at (r : Fin 2176) (j : Fin 3072) : val_main_v18 (F := Ideal) x g w (ix2 r j)
    = if h : r.val < 112 then 0 else
        ∑ i : Fin 1024, x (ix2 ⟨r.val - 112, by omega⟩ i) * (rs fun k => x (ix2 ⟨r.val - 112, by omega⟩ k)) * g (ix1 i) * w (ix2 i j) := by
  pointwise [val_main_v18, val_main_v17, val_main_cst_3, val_main_v16, hn_at]

end Cert.Reference7Ideal.Proj

end
-- ==== Proof.Proj.lean ====
/- The input projection's kernel against the norm's forward lines and their product with the weight: the value claim. -/
module

public import proofs.«01_k».proof.Defs
public import proofs.«01_k».proof.Proof.ProjKernel
public import proofs.«01_k».proof.Proof.ProjRef
public import Idealize.ShloMosaic.Lib.Claim

@[expose] public section

set_option maxRecDepth 16384

noncomputable section

open Idealize.ShloMosaic Idealize.ShloMosaic.TcCoe Idealize.SL.Sem

namespace Cert.ProjProof

open Cert.Kernel7Ideal Cert.Kernel7Ideal.Gen Cert.Proj Cert.Proj.Frame
open Cert.Rms (rs)

variable (m : (ℓ : Loc nD τ sig) → Buf (Elt Ideal) ℓ)

/-- The arguments at their own types. -/
abbrev a0 (c : Dev nD) : FVec Ideal S2064x1024 .f32 := m ((c : Thread nD τ).loc main_arg0)
abbrev a1 (c : Dev nD) : FVec Ideal S1024 .f32 := m ((c : Thread nD τ).loc main_arg1)
abbrev a2 (c : Dev nD) : FVec Ideal S1024x3072 .f32 := m ((c : Thread nD τ).loc main_arg2)

theorem X_at (c : Dev nD) (r : Fin 2176) (k : Fin 1024) :
    X m c (ix2 r k) = if h : r.val < 112 then 0 else a0 m c (ix2 ⟨r.val - 112, by omega⟩ k) := by
  unfold X; entry_read; pointwise []
theorem G_at (c : Dev nD) (k : Fin 1024) : G m c (ix2 0 k) = a1 m c (ix1 k) := by
  unfold G; entry_read; pointwise []
/-- The weight's blocks lie side by side in the argument. -/
theorem W_at (c : Dev nD) (j : Fin 3072) (k : Fin 1024) :
    W m c (ix3 ⟨j.val / 384, by omega⟩ k ⟨j.val % 384, by omega⟩) = a2 m c (ix2 k j) := by
  unfold W; entry_read; pointwise []
  exact congrArg (fun j => a2 m c (ix2 k j)) (Fin.ext (show j.val / 384 * 384 + j.val % 384 = j.val by omega))

/-- The normalised rows of the kernel are the forward lines'; a row of zeros stays zero. -/
theorem norm_eq (c : Dev nD) : normArr (X m c) (G m c) = Cert.Reference7Ideal.Read.val_main_v15 (F := Ideal) (a0 m c) (a1 m c) := by
  funext i
  obtain ⟨r, j, rfl⟩ : ∃ r j, i = ix2 r j := ⟨_, _, eq_ix2 i⟩
  rw [Cert.Reference7Ideal.Proj.v15_at]
  show X m c (ix2 r j) * (rs fun k => X m c (ix2 r k)) * G m c (ix2 0 j) = _
  rw [show (fun k => X m c (ix2 r k)) = _ from funext fun k => X_at m c r k, X_at, G_at]
  by_cases h : r.val < 112
  · simp only [h, dite_true, zero_mul]
  · simp only [h, dite_false]

/-- The kernel's product is the forward lines'. -/
theorem prod_eq (c : Dev nD) :
    prodArr (normArr (X m c) (G m c)) (W m c) = Cert.Reference7Ideal.Read.val_main_v18 (F := Ideal) (a0 m c) (a1 m c) (a2 m c) := by
  funext i
  obtain ⟨r, j, rfl⟩ : ∃ r j, i = ix2 r j := ⟨_, _, eq_ix2 i⟩
  rw [Cert.Reference7Ideal.Proj.v18_at, norm_eq]
  show prodArrAt _ _ r j = _
  unfold prodArrAt
  by_cases h : r.val < 112
  · rw [if_pos h, dif_pos h]
  rw [if_neg h, dif_neg h]
  refine Finset.sum_congr rfl fun k _ => ?_
  rw [Cert.Reference7Ideal.Proj.v15_at, dif_neg h, W_at]

/-- The kernel and the forward lines compute the same normalised rows and the same product. -/
theorem value : Cert.algebraic_Kernel7Ideal_Reference7Ideal := by
  intro m g m' g' hpre hagree
  refine ⟨fun c => (dats m 0 c).arrAt 3 (cfgs 0).N, fun c => (dats m 0 c).arrAt 4 (cfgs 0).N, ?_, ?_⟩
  · refine (θ_run defs _ _).mono ?_ (θ_run_and (run_main m g) (frame m g))
    intro r h c
    exact ⟨(h.1 c).1 3, (h.1 c).1 4, h.2.1 c⟩
  · refine (θ_run Cert.Reference7Ideal.defs _ _).mono ?_ (Cert.Reference7Ideal.Value.run m' g')
    intro r h c
    obtain ⟨h0, h1, hargs⟩ := h c
    refine ⟨h0.trans (Eq.trans ?_ (final3 m c).symm), h1.trans (Eq.trans ?_ (final4 m c).symm), hargs⟩
    · rw [Cert.Reference7Ideal.Read.val_main_v15_eq, norm_eq, (hagree c).1, (hagree c).2.1]
    · rw [Cert.Reference7Ideal.Read.val_main_v18_eq, prod_eq, (hagree c).1, (hagree c).2.1, (hagree c).2.2]

end Cert.ProjProof

end
-- ==== Proof.ProjFrames.lean ====
/- The frames of the input projection's kernel at the machine's own floats, taken from the run of `ProjFrame`: where the
   ideal program names a constant the kernel has that constant's bits, so at `Bits`, with a name read as its bits, the two
   programs are the same text. -/
module

public import proofs.«01_k».proof.Proof.ProjFrame
public import proofs.«01_k».proof.Defs
public import proofs.«01_k».proof.Proof.Gen.Kernel7

@[expose] public section

set_option maxRecDepth 16384
set_option maxHeartbeats 4000000

noncomputable section

namespace Cert.Proj.Frames

open Idealize.ShloMosaic Idealize.ShloMosaic.TcCoe Idealize.ShloMosaic.Tactic
open Idealize.SL Idealize.SL.Sem

/-- At the machine's floats a named constant is the bits that it stands for. -/
local instance : Named Bits where
  named _ _ {_} bits := bits

/-- The kernel at the machine's floats ends with its arguments unchanged and every semaphore counter at zero. -/
theorem kernel : Cert.quiescent_Kernel7 (hKernel7 := Cert.Kernel7.Gen.facts) := by
  intro m g _
  exact (Eq.mp (by sl_kernel_rfl) (Cert.Proj.Frame.frame (F := Bits) m g))

end Cert.Proj.Frames

end
-- ==== Proof.Tn.lean ====
/- The down projection's weight gradient kernel, blocks of rows of a product with a transposed factor, against the derivative of the forward line. -/
module

public import proofs.«01_k».proof.Defs
public import proofs.«01_k».proof.Proof.Gen.Kernel9Ideal.Value
public import proofs.«01_k».proof.Proof.Gen.Reference9Ideal.Read
public import proofs.«01_k».proof.Proof.RmsMath
public import proofs.«01_k».proof.Proof.Gate
public import Idealize.ShloMosaic.Lib.Pipeline.ValueKit
public import Idealize.ShloMosaic.Lib.Pipeline.CanonAppend
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Tn

open Cert.Kernel9Ideal Cert.Kernel9Ideal.Gen
open Cert.GateProof (feat)

/-- A product of the transpose of the first factor with the second, over the padded rows. -/
def tnAt (A : FVec Ideal S2176x3072 .bf16) (B : FVec Ideal S2176x1024 .bf16) (j : Fin 3072) (n : Fin 1024) : EReal :=
  ∑ r : Fin 2176, A (ix2 r j) * B (ix2 r n)
def tnArr (A : FVec Ideal S2176x3072 .bf16) (B : FVec Ideal S2176x1024 .bf16) : FVec Ideal S3072x1024 .bf16 := fun i =>
  tnAt A B (i 0) (i 1)

/-- One stored block. -/
theorem pay_at (x : FVec Ideal S2176x768 .bf16) (y : FVec Ideal S2176x1024 .bf16) (j : Fin 768) (n : Fin 1024) :
    k0_pay1 (F := Ideal) x y (ix2 j n) = ∑ r : Fin 2176, x (ix2 r j) * y (ix2 r n) := by
  pointwise [k0_pay1]

/-- Rows in front and columns at the end of each device's part that hold zeros change nothing but the rows they pad. -/
theorem tnAt_rows {A : FVec Ideal S2176x3072 .bf16} {B : FVec Ideal S2176x1024 .bf16} (a : FVec Ideal S2064x2816 .f32) (b : FVec Ideal S2064x1024 .f32)
    (hA : ∀ r j, A (ix2 r j) = if h : r.val < 112 then 0 else if h' : j.val % 384 < 352 then a (ix2 ⟨r.val - 112, by omega⟩ (feat j h')) else 0)
    (hB : ∀ r n, B (ix2 r n) = if h : r.val < 112 then 0 else b (ix2 ⟨r.val - 112, by omega⟩ n)) (j : Fin 3072) (n : Fin 1024) :
    tnAt A B j n = if h' : j.val % 384 < 352 then ∑ r : Fin 2064, a (ix2 r (feat j h')) * b (ix2 r n) else 0 := by
  unfold tnAt
  split_ifs with h'
  · refine Cert.Rms.sum_padded _ _ (fun r h => ?_) fun r => ?_
    · rw [hA, dif_pos h, zero_mul]
    · have hr : ¬(⟨112 + r.val, by omega⟩ : Fin 2176).val < 112 := by simp
      have er : (⟨(⟨112 + r.val, by omega⟩ : Fin 2176).val - 112, by simp⟩ : Fin 2064) = r := Fin.ext (by simp)
      rw [hA, hB, dif_neg hr, dif_neg hr, dif_pos h', er]
  · refine Finset.sum_eq_zero fun r _ => ?_
    rw [hA]
    split_ifs
    · exact zero_mul _
    · exact zero_mul _

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

/-- The row of the result that row `q` of block `t` is. -/
def rowAt (t : Fin cfg0.N) (q : Fin 768) : Fin 3072 := ⟨t.val * 768 + q.val, by have : t.val < 4 := t.isLt; omega⟩

/-- The arrays at the region's entry. -/
abbrev A (c : Dev nD) : FVec Ideal S2176x3072 .bf16 := V m c main_v6
abbrev B (c : Dev nD) : FVec Ideal S2176x1024 .bf16 := V m c main_v9

theorem bA_at (c : Dev nD) (t : Fin cfg0.N) (r : Fin 2176) (q : Fin 768) : (iblk m c 0 t : FVec Ideal S2176x768 .bf16) (ix2 r q) = A m c (ix2 r (rowAt t q)) := by
  unfold rowAt; blk_ext [iblk, idx t]
theorem bB_at (c : Dev nD) (t : Fin cfg0.N) (r : Fin 2176) (n : Fin 1024) : (iblk m c 1 t : FVec Ideal S2176x1024 .bf16) (ix2 r n) = B m c (ix2 r n) := by
  blk_ext [iblk, idx t]

theorem point (c : Dev nD) (t : Fin cfg0.N) (y : S768x1024.Idx) :
    k0_pay1 (F := Ideal) (iblk m c 0 t) (iblk m c 1 t) y = tnArr (A m c) (B m c) (ix2 (rowAt t (y 0)) (y 1)) := by
  obtain ⟨j, n, rfl⟩ : ∃ j n, y = ix2 j n := ⟨_, _, eq_ix2 y⟩
  rw [pay_at]
  show _ = tnAt (A m c) (B m c) (rowAt t j) n
  unfold tnAt
  simp only [bA_at, bB_at]

/-- The result array after the run. -/
theorem final (c : Dev nD) : (dats m 0 c).arrAt 2 (cfgs 0).N = tnArr (A m c) (B m c) := by
  refine (dats m 0 c).arrAt_eq_of_covers 2 _ (by decide +kernel) fun t _ y => ?_
  blk_simp
  rw [after0_2]
  have key : outsAt0 m c t = k0_pay1 (F := Ideal) (iblk m c 0 t) (iblk m c 1 t) := by
    funext y
    unfold outsAt0; frame_out
  rw [key]
  have cov (D : FVec Ideal S3072x1024 .bf16) : D (ix2 (rowAt t (y 0)) (y 1)) = D (((cfg0.win 2).blk t).view.emb y) := by
    unfold rowAt; blk_ext [idx t]
  exact (point m c t y).trans (cov _)

/-- The arguments at their own types. -/
abbrev a0 (c : Dev nD) : FVec Ideal S2064x2816 .f32 := m ((c : Thread nD τ).loc main_arg0)
abbrev a1 (c : Dev nD) : FVec Ideal S2064x1024 .f32 := m ((c : Thread nD τ).loc main_arg1)

theorem A_at (c : Dev nD) (r : Fin 2176) (j : Fin 3072) : A m c (ix2 r j)
    = if h : r.val < 112 then 0 else if h' : j.val % 384 < 352 then a0 m c (ix2 ⟨r.val - 112, by omega⟩ (feat j h')) else 0 := by
  unfold A; entry_read; pointwise []
theorem B_at (c : Dev nD) (r : Fin 2176) (n : Fin 1024) : B m c (ix2 r n) = if h : r.val < 112 then 0 else a1 m c (ix2 ⟨r.val - 112, by omega⟩ n) := by
  unfold B; entry_read; pointwise []

open Cert.Reference9Ideal.Read in
/-- The derivative in the weight, as the kernel lays it out. -/
theorem ref_at (x : FVec Ideal S2064x2816 .f32) (d : FVec Ideal S2064x1024 .f32) (j : Fin 3072) (n : Fin 1024) :
    Cert.Reference9Ideal.Read.val_main_v8 (F := Ideal) x d (ix2 j n)
      = if h : j.val % 384 < 352 then ∑ r : Fin 2064, d (ix2 r n) * x (ix2 r (feat j h)) else 0 := by
  pointwise [val_main_v8, val_main_v7, val_main_v6, val_main_v5, val_main_v4, val_main_v3, val_main_v2, val_main_cst_0]

theorem grad_eq (c : Dev nD) : tnArr (A m c) (B m c) = Cert.Reference9Ideal.Read.val_main_v8 (F := Ideal) (a0 m c) (a1 m c) := by
  funext i
  obtain ⟨j, n, rfl⟩ : ∃ j n, i = ix2 j n := ⟨_, _, eq_ix2 i⟩
  rw [ref_at]
  refine (tnAt_rows (a0 m c) (a1 m c) (A_at m c) (B_at m c) j n).trans ?_
  split_ifs
  · exact Finset.sum_congr rfl fun r _ => mul_comm _ _
  · rfl

/-- The kernel and the derivative of the forward line compute the same gradient. -/
theorem value : Cert.algebraic_Kernel9Ideal_Reference9Ideal := by
  pair_intro
  · run_from Cert.Kernel9Ideal.Value.run_blocks m g
  · run_from Cert.Reference9Ideal.Value.run m' g'
    · rw [final, Cert.Reference9Ideal.Read.val_main_v8_eq, grad_eq]

end Cert.Tn

end
-- ==== Proof.TnTwo.lean ====
/- The gate and up projections' weight gradient kernel, two products with one factor, against the derivative of the forward lines. -/
module

public import proofs.«01_k».proof.Proof.Gen.Kernel10Ideal.Value
public import proofs.«01_k».proof.Proof.Gen.Reference10Ideal.Read
public import proofs.«01_k».proof.Proof.Tn

@[expose] public section

set_option maxRecDepth 16384

noncomputable section

open Idealize.ShloMosaic Idealize.ShloMosaic.TcCoe Idealize.SL.Sem
open Idealize.ShloMosaic.Pipeline (Dat)

namespace Cert.TnTwo

open Cert.Kernel10Ideal Cert.Kernel10Ideal.Gen
open Cert.GateProof (feat)
open Cert.Tn (tnAt tnArr)

/-- The two stored blocks. -/
theorem pay_at (x : FVec Ideal S2176x768 .bf16) (y : FVec Ideal S2176x1024 .bf16) (j : Fin 768) (n : Fin 1024) :
    k0_pay2 (F := Ideal) y x (ix2 j n) = ∑ r : Fin 2176, x (ix2 r j) * y (ix2 r n) := by
  pointwise [k0_pay2, k0_pay1]

variable (m : (ℓ : Loc nD τ sig) → Buf (Elt Ideal) ℓ)

theorem idx : ∀ t : Fin cfg0.N, win0_0.index t = ![0, t.val] ∧ win0_1.index t = ![0, t.val] ∧ win0_2.index t = ![0, 0]
    ∧ win0_3.index t = ![t.val, 0] ∧ win0_4.index t = ![t.val, 0] :=
  (by decide +kernel : ∀ t : Fin grid0.N, _)

/-- The row of a result that row `q` of block `t` is. -/
def rowAt (t : Fin cfg0.N) (q : Fin 768) : Fin 3072 := ⟨t.val * 768 + q.val, by have : t.val < 4 := t.isLt; omega⟩

/-- The arrays at the region's entry: the two cotangents and the normed rows. -/
abbrev Ag (c : Dev nD) : FVec Ideal S2176x3072 .bf16 := V m c main_v6
abbrev Au (c : Dev nD) : FVec Ideal S2176x3072 .bf16 := V m c main_v13
abbrev B (c : Dev nD) : FVec Ideal S2176x1024 .bf16 := V m c main_v16

theorem bAg_at (c : Dev nD) (t : Fin cfg0.N) (r : Fin 2176) (q : Fin 768) : (iblk m c 0 t : FVec Ideal S2176x768 .bf16) (ix2 r q) = Ag m c (ix2 r (rowAt t q)) := by
  unfold rowAt; blk_ext [iblk, idx t]
theorem bAu_at (c : Dev nD) (t : Fin cfg0.N) (r : Fin 2176) (q : Fin 768) : (iblk m c 1 t : FVec Ideal S2176x768 .bf16) (ix2 r q) = Au m c (ix2 r (rowAt t q)) := by
  unfold rowAt; blk_ext [iblk, idx t]
theorem bB_at (c : Dev nD) (t : Fin cfg0.N) (r : Fin 2176) (n : Fin 1024) : (iblk m c 2 t : FVec Ideal S2176x1024 .bf16) (ix2 r n) = B m c (ix2 r n) := by
  blk_ext [iblk, idx t]

theorem pointAg (c : Dev nD) (t : Fin cfg0.N) (y : S768x1024.Idx) :
    k0_pay2 (F := Ideal) (iblk m c 2 t) (iblk m c 0 t) y = tnArr (Ag m c) (B m c) (ix2 (rowAt t (y 0)) (y 1)) := by
  obtain ⟨j, n, rfl⟩ : ∃ j n, y = ix2 j n := ⟨_, _, eq_ix2 y⟩
  rw [pay_at]
  show _ = tnAt (Ag m c) (B m c) (rowAt t j) n
  unfold tnAt
  simp only [bAg_at, bB_at]

theorem pointAu (c : Dev nD) (t : Fin cfg0.N) (y : S768x1024.Idx) :
    k0_pay2 (F := Ideal) (iblk m c 2 t) (iblk m c 1 t) y = tnArr (Au m c) (B m c) (ix2 (rowAt t (y 0)) (y 1)) := by
  obtain ⟨j, n, rfl⟩ : ∃ j n, y = ix2 j n := ⟨_, _, eq_ix2 y⟩
  rw [pay_at]
  show _ = tnAt (Au m c) (B m c) (rowAt t j) n
  unfold tnAt
  simp only [bAu_at, bB_at]

/-- The two result arrays after the run. -/
theorem final3 (c : Dev nD) : (dats m 0 c).arrAt 3 (cfgs 0).N = tnArr (Ag m c) (B m c) := by
  refine (dats m 0 c).arrAt_eq_of_covers 3 _ (by decide +kernel) fun t _ y => ?_
  blk_simp
  rw [after0_3]
  have key : (outsAt0 m c t).1 = k0_pay2 (F := Ideal) (iblk m c 2 t) (iblk m c 0 t) := by
    funext y
    unfold outsAt0; frame_out
  rw [key]
  have cov (D : FVec Ideal S3072x1024 .bf16) : D (ix2 (rowAt t (y 0)) (y 1)) = D (((cfg0.win 3).blk t).view.emb y) := by
    unfold rowAt; blk_ext [idx t]
  exact (pointAg m c t y).trans (cov _)

theorem final4 (c : Dev nD) : (dats m 0 c).arrAt 4 (cfgs 0).N = tnArr (Au m c) (B m c) := by
  refine (dats m 0 c).arrAt_eq_of_covers 4 _ (by decide +kernel) fun t _ y => ?_
  blk_simp
  rw [after0_4]
  have key : (outsAt0 m c t).2 = k0_pay2 (F := Ideal) (iblk m c 2 t) (iblk m c 1 t) := by
    funext y
    unfold outsAt0; frame_out; rfl
  rw [key]
  have cov (D : FVec Ideal S3072x1024 .bf16) : D (ix2 (rowAt t (y 0)) (y 1)) = D (((cfg0.win 4).blk t).view.emb y) := by
    unfold rowAt; blk_ext [idx t]
  exact (pointAu m c t y).trans (cov _)

/-- The arguments at their own types. -/
abbrev a0 (c : Dev nD) : FVec Ideal S2064x2816 .f32 := m ((c : Thread nD τ).loc main_arg0)
abbrev a1 (c : Dev nD) : FVec Ideal S2064x2816 .f32 := m ((c : Thread nD τ).loc main_arg1)
abbrev a2 (c : Dev nD) : FVec Ideal S2064x1024 .f32 := m ((c : Thread nD τ).loc main_arg2)

theorem Ag_at (c : Dev nD) (r : Fin 2176) (j : Fin 3072) : Ag m c (ix2 r j)
    = if h : r.val < 112 then 0 else if h' : j.val % 384 < 352 then a0 m c (ix2 ⟨r.val - 112, by omega⟩ (feat j h')) else 0 := by
  unfold Ag; entry_read; pointwise []
theorem Au_at (c : Dev nD) (r : Fin 2176) (j : Fin 3072) : Au m c (ix2 r j)
    = if h : r.val < 112 then 0 else if h' : j.val % 384 < 352 then a1 m c (ix2 ⟨r.val - 112, by omega⟩ (feat j h')) else 0 := by
  unfold Au; entry_read; pointwise []
theorem B_at (c : Dev nD) (r : Fin 2176) (n : Fin 1024) : B m c (ix2 r n) = if h : r.val < 112 then 0 else a2 m c (ix2 ⟨r.val - 112, by omega⟩ n) := by
  unfold B; entry_read; pointwise []

open Cert.Reference10Ideal.Read in
/-- The derivatives in the two weights, transposed and laid out as the kernel lays them out. -/
theorem ref12_at (x : FVec Ideal S2064x2816 .f32) (h : FVec Ideal S2064x1024 .f32) (j : Fin 3072) (n : Fin 1024) :
    Cert.Reference10Ideal.Read.val_main_v12 (F := Ideal) x h (ix2 j n)
      = if h' : j.val % 384 < 352 then ∑ r : Fin 2064, x (ix2 r (feat j h')) * h (ix2 r n) else 0 := by
  pointwise [val_main_v12, val_main_v11, val_main_v10, val_main_v9, val_main_v8, val_main_v7, val_main_v6, val_main_v5, val_main_cst_0]

open Cert.Reference10Ideal.Read in
theorem ref18_at (x : FVec Ideal S2064x2816 .f32) (h : FVec Ideal S2064x1024 .f32) (j : Fin 3072) (n : Fin 1024) :
    Cert.Reference10Ideal.Read.val_main_v18 (F := Ideal) x h (ix2 j n)
      = if h' : j.val % 384 < 352 then ∑ r : Fin 2064, x (ix2 r (feat j h')) * h (ix2 r n) else 0 := by
  pointwise [val_main_v18, val_main_v17, val_main_v16, val_main_v15, val_main_v14, val_main_v13, val_main_v4, val_main_v3, val_main_cst_1]

theorem dgate_eq (c : Dev nD) : tnArr (Ag m c) (B m c) = Cert.Reference10Ideal.Read.val_main_v12 (F := Ideal) (a0 m c) (a2 m c) := by
  funext i
  obtain ⟨j, n, rfl⟩ : ∃ j n, i = ix2 j n := ⟨_, _, eq_ix2 i⟩
  rw [ref12_at]
  exact Cert.Tn.tnAt_rows (a0 m c) (a2 m c) (Ag_at m c) (B_at m c) j n

theorem dup_eq (c : Dev nD) : tnArr (Au m c) (B m c) = Cert.Reference10Ideal.Read.val_main_v18 (F := Ideal) (a1 m c) (a2 m c) := by
  funext i
  obtain ⟨j, n, rfl⟩ : ∃ j n, i = ix2 j n := ⟨_, _, eq_ix2 i⟩
  rw [ref18_at]
  exact Cert.Tn.tnAt_rows (a1 m c) (a2 m c) (Au_at m c) (B_at m c) j n

/-- The kernel and the derivative of the forward lines compute the same two gradients. -/
theorem value : Cert.algebraic_Kernel10Ideal_Reference10Ideal := by
  pair_intro
  · run_from Cert.Kernel10Ideal.Value.run_blocks m g
  · run_from Cert.Reference10Ideal.Value.run m' g'
    · rw [final3, Cert.Reference10Ideal.Read.val_main_v12_eq, dgate_eq, (hagree c).2.2]
    · rw [final4, Cert.Reference10Ideal.Read.val_main_v18_eq, dup_eq, (hagree c).2.1, (hagree c).2.2]

end Cert.TnTwo

end
-- ==== Proof.OutBwd.lean ====
/- The output projection's backward kernel against the derivative of the forward line. -/
module

public import proofs.«01_k».proof.Proof.Gen.Kernel11Ideal.Value
public import proofs.«01_k».proof.Proof.Gen.Reference11Ideal.Read
public import proofs.«01_k».proof.Proof.Tn

@[expose] public section

set_option maxRecDepth 16384

noncomputable section

open Idealize.ShloMosaic Idealize.ShloMosaic.TcCoe Idealize.SL.Sem
open Idealize.ShloMosaic.Pipeline (Dat)

namespace Cert.OutBwd

open Cert.Kernel11Ideal Cert.Kernel11Ideal.Gen

/-- The stored product of the cotangent with rows of the weight. -/
theorem pay3_at (x : FVec Ideal S2064x1024 .bf16) (w : FVec Ideal S256x1024 .bf16) (r : Fin 2064) (q : Fin 256) :
    k0_pay3 (F := Ideal) x w (ix2 r q) = ∑ k : Fin 1024, x (ix2 r k) * w (ix2 q k) := by
  pointwise [k0_pay3, k0_pay1]
/-- The stored product of the layer's columns with the cotangent. -/
theorem pay4_at (x : FVec Ideal S2064x1024 .bf16) (a : FVec Ideal S2064x256 .bf16) (q : Fin 256) (n : Fin 1024) :
    k0_pay4 (F := Ideal) x a (ix2 q n) = ∑ r : Fin 2064, a (ix2 r q) * x (ix2 r n) := by
  pointwise [k0_pay4, k0_pay1]

/-- One block of the first result over the staged blocks: the rows in front hold zeros. -/
def dyAt (X : FVec Ideal S2176x1024 .bf16) (W : FVec Ideal S256x1024 .bf16) (r : Fin 2176) (q : Fin 256) : EReal :=
  if r.val < 112 then 0 else ∑ k : Fin 1024, X (ix2 r k) * W (ix2 q k)
def dyBlk (X : FVec Ideal S2176x1024 .bf16) (W : FVec Ideal S256x1024 .bf16) (y : S2176x256.Idx) : EReal :=
  dyAt X W (y 0) (y 1)

theorem ldX (X : FVec Ideal S2176x1024 .bf16) (r : Fin 2064) (k : Fin 1024) :
    View.ld (Val := Elt Ideal) (e' := .bf16) X (Rect.unit (s := S2176x1024) ![112, 0] ![2064, 1024] inb_S2176x1024_S2064x1024_112_0) (ix2 r k) = X (ix2 ⟨112 + r.val, by omega⟩ k) :=
  View.ld_unit_apply_of (Val := Elt Ideal) (e := .bf16) (S := S2176x1024) X _ _ _ _ _ fun a => by fin_cases a <;> simp
theorem ldA (A : FVec Ideal S2176x256 .bf16) (r : Fin 2064) (q : Fin 256) :
    View.ld (Val := Elt Ideal) (e' := .bf16) A (Rect.unit (s := S2176x256) ![112, 0] ![2064, 256] inb_S2176x256_S2064x256_112_0) (ix2 r q) = A (ix2 ⟨112 + r.val, by omega⟩ q) :=
  View.ld_unit_apply_of (Val := Elt Ideal) (e := .bf16) (S := S2176x256) A _ _ _ _ _ fun a => by fin_cases a <;> simp

theorem rows (X : FVec Ideal S2176x1024 .bf16) (W : FVec Ideal S256x1024 .bf16) (x : S2064x256.Idx) :
    k0_pay3 (F := Ideal) (View.ld (Val := Elt Ideal) (e' := .bf16) X (Rect.unit (s := S2176x1024) ![112, 0] ![2064, 1024] inb_S2176x1024_S2064x1024_112_0)) W x
      = dyBlk X W ((Rect.unit (s := S2176x256) ![112, 0] ![2064, 256] inb_S2176x256_S2064x256_112_0).emb x) := by
  obtain ⟨r, q, rfl⟩ : ∃ r q, x = ix2 r q := ⟨_, _, eq_ix2 x⟩
  have e : (Rect.unit (s := S2176x256) ![112, 0] ![2064, 256] inb_S2176x256_S2064x256_112_0).emb (ix2 r q) = ix2 ⟨112 + r.val, by omega⟩ q :=
    Rect.emb_eq_of_coords _ _ _ fun a => by fin_cases a <;> simp
  rw [pay3_at, e]
  simp only [ldX X]
  exact (if_neg (by show ¬112 + r.val < 112; omega)).symm

theorem front (X : FVec Ideal S2176x1024 .bf16) (W : FVec Ideal S256x1024 .bf16) (x : S112x256.Idx) :
    k0_pay2 (F := Ideal) x = dyBlk X W ((Rect.unit (s := S2176x256) ![0, 0] ![112, 256] inb_S2176x256_S112x256_0_0).emb x) := by
  obtain ⟨r, q, rfl⟩ : ∃ r q, x = ix2 r q := ⟨_, _, eq_ix2 x⟩
  have e : (Rect.unit (s := S2176x256) ![0, 0] ![112, 256] inb_S2176x256_S112x256_0_0).emb (ix2 r q) = ix2 ⟨r.val, by omega⟩ q :=
    Rect.emb_eq_of_coords _ _ _ fun a => by fin_cases a <;> simp
  rw [e]
  refine Eq.trans ?_ (if_pos (show r.val < 112 from r.isLt)).symm
  pointwise [k0_pay2]

theorem mem_of (o a : ℕ) (h : ∀ i, (![o, 0] : Fin 2 → ℕ) i + (![a, 256] : Fin 2 → ℕ) i ≤ S2176x256.size i) (y : S2176x256.Idx) (h0 : o ≤ (y 0).val)
    (h1 : (y 0).val < o + a) : y ∈ (Rect.unit (s := S2176x256) ![o, 0] ![a, 256] h).set :=
  Rect.mem_set_unit.mpr (Fin.forall_fin_two.mpr ⟨⟨h0, h1⟩, ⟨Nat.zero_le _, (show (y 1).val < 0 + 256 by have : (y 1).val < 256 := (y 1).isLt; omega)⟩⟩)

/-- The two stores of the first result's block, the last first. -/
theorem stores (X : FVec Ideal S2176x1024 .bf16) (W : FVec Ideal S256x1024 .bf16) (y : S2176x256.Idx) :
    View.canon (Val := Elt Ideal) (e := .f32)
      [⟨Rect.unit ![112, 0] ![2064, 256] inb_S2176x256_S2064x256_112_0,
          k0_pay3 (View.ld (Val := Elt Ideal) (e' := .bf16) X (Rect.unit ![112, 0] ![2064, 1024] inb_S2176x1024_S2064x1024_112_0)) W⟩,
        ⟨Rect.unit ![0, 0] ![112, 256] inb_S2176x256_S112x256_0_0, k0_pay2 (F := Ideal)⟩] y = dyBlk X W y := by
  refine View.canon_apply_of_pieces (Val := Elt Ideal) (e := .f32) (dyBlk X W) _ ?_ y ?_
  · intro p hp
    simp only [List.mem_cons, List.not_mem_nil, or_false] at hp
    rcases hp with rfl | rfl
    · exact rows X W
    · exact front X W
  · have hy0 : (y 0).val < 2176 := (y 0).isLt
    have hy1 : (y 1).val < 256 := (y 1).isLt
    by_cases h0 : (y 0).val < 112
    · refine ⟨_, List.mem_cons_of_mem _ List.mem_cons_self, ?_⟩
      exact mem_of 0 112 inb_S2176x256_S112x256_0_0 y (by omega) (by omega)
    · refine ⟨_, List.mem_cons_self, ?_⟩
      exact mem_of 112 2064 inb_S2176x256_S2064x256_112_0 y (by omega) (by omega)

variable (m : (ℓ : Loc nD τ sig) → Buf (Elt Ideal) ℓ)

theorem idx : ∀ t : Fin cfg0.N, win0_0.index t = ![0, 0] ∧ win0_1.index t = ![t.val, 0] ∧ win0_2.index t = ![0, t.val]
    ∧ win0_3.index t = ![0, t.val] ∧ win0_4.index t = ![t.val, 0] :=
  (by decide +kernel : ∀ t : Fin grid0.N, _)

/-- The feature that feature `q` of block `t` is. -/
def colAt (t : Fin cfg0.N) (q : Fin 256) : Fin 1024 := ⟨t.val * 256 + q.val, by have : t.val < 4 := t.isLt; omega⟩

/-- The arrays at the region's entry: the cotangent, the weight, the layer's features. -/
abbrev Dh (c : Dev nD) : FVec Ideal S2176x1024 .bf16 := V m c main_v2
abbrev W (c : Dev nD) : FVec Ideal S1024x1024 .bf16 := V m c main_v3
abbrev Y (c : Dev nD) : FVec Ideal S2176x1024 .bf16 := V m c main_v6

theorem bD_at (c : Dev nD) (t : Fin cfg0.N) (r : Fin 2176) (k : Fin 1024) : (iblk m c 0 t : FVec Ideal S2176x1024 .bf16) (ix2 r k) = Dh m c (ix2 r k) := by
  blk_ext [iblk, idx t]
theorem bW_at (c : Dev nD) (t : Fin cfg0.N) (q : Fin 256) (k : Fin 1024) : (iblk m c 1 t : FVec Ideal S256x1024 .bf16) (ix2 q k) = W m c (ix2 (colAt t q) k) := by
  unfold colAt; blk_ext [iblk, idx t]
theorem bY_at (c : Dev nD) (t : Fin cfg0.N) (r : Fin 2176) (q : Fin 256) : (iblk m c 2 t : FVec Ideal S2176x256 .bf16) (ix2 r q) = Y m c (ix2 r (colAt t q)) := by
  unfold colAt; blk_ext [iblk, idx t]

/-- The two results over whole arrays. -/
def dyArrAt (D : FVec Ideal S2176x1024 .bf16) (W : FVec Ideal S1024x1024 .bf16) (r : Fin 2176) (j : Fin 1024) : EReal :=
  if r.val < 112 then 0 else ∑ k : Fin 1024, D (ix2 r k) * W (ix2 j k)
def dyArr (D : FVec Ideal S2176x1024 .bf16) (W : FVec Ideal S1024x1024 .bf16) : FVec Ideal S2176x1024 .f32 := fun i => dyArrAt D W (i 0) (i 1)
def dwAt (D Y : FVec Ideal S2176x1024 .bf16) (j n : Fin 1024) : EReal :=
  ∑ r : Fin 2064, Y (ix2 ⟨112 + r.val, by omega⟩ j) * D (ix2 ⟨112 + r.val, by omega⟩ n)
def dwArr (D Y : FVec Ideal S2176x1024 .bf16) : FVec Ideal S1024x1024 .bf16 := fun i => dwAt D Y (i 0) (i 1)

theorem point3 (c : Dev nD) (t : Fin cfg0.N) (y : S2176x256.Idx) :
    dyBlk (iblk m c 0 t) (iblk m c 1 t) y = dyArr (Dh m c) (W m c) (ix2 (y 0) (colAt t (y 1))) := by
  obtain ⟨r, q, rfl⟩ : ∃ r q, y = ix2 r q := ⟨_, _, eq_ix2 y⟩
  show dyAt _ _ r q = dyArrAt (Dh m c) (W m c) r (colAt t q)
  unfold dyAt dyArrAt
  simp only [bD_at, bW_at]

theorem point4 (c : Dev nD) (t : Fin cfg0.N) (y : S256x1024.Idx) :
    k0_pay4 (F := Ideal) (View.ld (Val := Elt Ideal) (e' := .bf16) (iblk m c 0 t) (Rect.unit (s := S2176x1024) ![112, 0] ![2064, 1024] inb_S2176x1024_S2064x1024_112_0))
        (View.ld (Val := Elt Ideal) (e' := .bf16) (iblk m c 2 t) (Rect.unit (s := S2176x256) ![112, 0] ![2064, 256] inb_S2176x256_S2064x256_112_0)) y
      = dwArr (Dh m c) (Y m c) (ix2 (colAt t (y 0)) (y 1)) := by
  obtain ⟨q, n, rfl⟩ : ∃ q n, y = ix2 q n := ⟨_, _, eq_ix2 y⟩
  rw [pay4_at]
  show _ = dwAt (Dh m c) (Y m c) (colAt t q) n
  unfold dwAt
  refine Finset.sum_congr rfl fun r _ => ?_
  rw [ldX, ldA, bD_at, bY_at]

/-- The two result arrays after the run. -/
theorem final3 (c : Dev nD) : (dats m 0 c).arrAt 3 (cfgs 0).N = dyArr (Dh m c) (W m c) := by
  refine (dats m 0 c).arrAt_eq_of_covers 3 _ (by decide +kernel) fun t _ y => ?_
  blk_simp
  rw [after0_3]
  have key : (outsAt0 m c t).1 = dyBlk (iblk m c 0 t) (iblk m c 1 t) := by
    funext y
    unfold outsAt0; frame_out
    exact stores _ _ y
  rw [key]
  have cov (D : FVec Ideal S2176x1024 .f32) : D (ix2 (y 0) (colAt t (y 1))) = D (((cfg0.win 3).blk t).view.emb y) := by
    unfold colAt; blk_ext [idx t]
  exact (point3 m c t y).trans (cov _)

theorem final4 (c : Dev nD) : (dats m 0 c).arrAt 4 (cfgs 0).N = dwArr (Dh m c) (Y m c) := by
  refine (dats m 0 c).arrAt_eq_of_covers 4 _ (by decide +kernel) fun t _ y => ?_
  blk_simp
  rw [after0_4]
  have key : (outsAt0 m c t).2 = fun y => dwArr (Dh m c) (Y m c) (ix2 (colAt t (y 0)) (y 1)) := by
    funext y
    unfold outsAt0; frame_out
    exact point4 m c t y
  rw [key]
  have cov (D : FVec Ideal S1024x1024 .bf16) : D (ix2 (colAt t (y 0)) (y 1)) = D (((cfg0.win 4).blk t).view.emb y) := by
    unfold colAt; blk_ext [idx t]
  exact cov _

/-- The arguments at their own types. -/
abbrev a0 (c : Dev nD) : FVec Ideal S2064x1024 .f32 := m ((c : Thread nD τ).loc main_arg0)
abbrev a1 (c : Dev nD) : FVec Ideal S1024x1024 .f32 := m ((c : Thread nD τ).loc main_arg1)
abbrev a2 (c : Dev nD) : FVec Ideal S2064x1024 .f32 := m ((c : Thread nD τ).loc main_arg2)

theorem Dh_at (c : Dev nD) (r : Fin 2176) (n : Fin 1024) : Dh m c (ix2 r n) = if h : r.val < 112 then 0 else a0 m c (ix2 ⟨r.val - 112, by omega⟩ n) := by
  unfold Dh; entry_read; pointwise []
theorem W_at (c : Dev nD) (j n : Fin 1024) : W m c (ix2 j n) = a1 m c (ix2 j n) := by
  unfold W; entry_read; pointwise []
theorem Y_at (c : Dev nD) (r : Fin 2176) (n : Fin 1024) : Y m c (ix2 r n) = if h : r.val < 112 then 0 else a2 m c (ix2 ⟨r.val - 112, by omega⟩ n) := by
  unfold Y; entry_read; pointwise []

/-- An array with rows in front, read below them. -/
theorem below {A : FVec Ideal S2176x1024 .bf16} (a : FVec Ideal S2064x1024 .f32)
    (hA : ∀ r n, A (ix2 r n) = if h : r.val < 112 then 0 else a (ix2 ⟨r.val - 112, by omega⟩ n)) (r : Fin 2064) (n : Fin 1024) :
    A (ix2 ⟨112 + r.val, by omega⟩ n) = a (ix2 r n) := by
  have hr : ¬(⟨112 + r.val, by omega⟩ : Fin 2176).val < 112 := by simp
  have er : (⟨(⟨112 + r.val, by omega⟩ : Fin 2176).val - 112, by simp⟩ : Fin 2064) = r := Fin.ext (by simp)
  rw [hA, dif_neg hr, er]

open Cert.Reference11Ideal.Read in
/-- The derivative in the layer's features. -/
theorem ref5_at (d : FVec Ideal S2064x1024 .f32) (w : FVec Ideal S1024x1024 .f32) (r : Fin 2176) (j : Fin 1024) :
    Cert.Reference11Ideal.Read.val_main_v5 (F := Ideal) d w (ix2 r j)
      = if h : r.val < 112 then 0 else ∑ k : Fin 1024, d (ix2 ⟨r.val - 112, by omega⟩ k) * w (ix2 j k) := by
  pointwise [val_main_v5, val_main_v4, val_main_v3, val_main_cst]

open Cert.Reference11Ideal.Read in
/-- The derivative in the weight. -/
theorem ref6_at (d y : FVec Ideal S2064x1024 .f32) (j n : Fin 1024) :
    Cert.Reference11Ideal.Read.val_main_v6 (F := Ideal) d y (ix2 j n) = ∑ r : Fin 2064, d (ix2 r n) * y (ix2 r j) := by
  pointwise [val_main_v6, val_main_v2, val_main_v1]

theorem dy_eq (c : Dev nD) : dyArr (Dh m c) (W m c) = Cert.Reference11Ideal.Read.val_main_v5 (F := Ideal) (a0 m c) (a1 m c) := by
  funext i
  obtain ⟨r, j, rfl⟩ : ∃ r j, i = ix2 r j := ⟨_, _, eq_ix2 i⟩
  rw [ref5_at]
  show dyArrAt _ _ r j = _
  unfold dyArrAt
  by_cases h : r.val < 112
  · rw [if_pos h, dif_pos h]
  · rw [if_neg h, dif_neg h]
    exact Finset.sum_congr rfl fun k _ => by rw [Dh_at, W_at, dif_neg h]

theorem dw_eq (c : Dev nD) : dwArr (Dh m c) (Y m c) = Cert.Reference11Ideal.Read.val_main_v6 (F := Ideal) (a0 m c) (a2 m c) := by
  funext i
  obtain ⟨j, n, rfl⟩ : ∃ j n, i = ix2 j n := ⟨_, _, eq_ix2 i⟩
  rw [ref6_at]
  show dwAt _ _ j n = _
  unfold dwAt
  refine Finset.sum_congr rfl fun r _ => ?_
  rw [below (a0 m c) (Dh_at m c), below (a2 m c) (Y_at m c)]
  exact mul_comm _ _

/-- The kernel and the derivative of the forward line compute the same two gradients. -/
theorem value : Cert.algebraic_Kernel11Ideal_Reference11Ideal := by
  pair_intro
  · run_from Cert.Kernel11Ideal.Value.run_blocks m g
  · run_from Cert.Reference11Ideal.Value.run m' g'
    · rw [final3, Cert.Reference11Ideal.Read.val_main_v5_eq, dy_eq]
    · rw [final4, Cert.Reference11Ideal.Read.val_main_v6_eq, dw_eq]

end Cert.OutBwd

end
-- ==== Proof.Down.lean ====
/- The down projection's forward kernel, a product added to the residual, against the forward line. -/
module

public import proofs.«01_k».proof.Proof.Gen.Kernel8Ideal.Value
public import proofs.«01_k».proof.Proof.Gen.Reference8Ideal.Read
public import proofs.«01_k».proof.Proof.Tn

@[expose] public section

set_option maxRecDepth 16384

noncomputable section

open Idealize.ShloMosaic Idealize.ShloMosaic.TcCoe Idealize.SL.Sem
open Idealize.ShloMosaic.Pipeline (Dat)

namespace Cert.Down

open Cert.Kernel8Ideal Cert.Kernel8Ideal.Gen
open Cert.GateProof (feat)

/-- The column of the padded layout that feature `i` is. -/
def col (i : Fin 2816) : Fin 3072 := ⟨i.val / 352 * 384 + i.val % 352, by omega⟩

theorem col_mod (i : Fin 2816) : (col i).val % 384 < 352 := by unfold col; dsimp only; omega
theorem feat_col (i : Fin 2816) : feat (col i) (col_mod i) = i := Fin.ext (by show (col i).val / 384 * 352 + (col i).val % 384 = i.val; unfold col; dsimp only; omega)

/-- A sum over the padded columns, whose terms at the end of each device's part are zero, is the sum over the features. -/
theorem sum_cols (f : Fin 3072 → EReal) (g : Fin 2816 → EReal) (h0 : ∀ j : Fin 3072, ¬j.val % 384 < 352 → f j = 0)
    (h1 : ∀ i : Fin 2816, f (col i) = g i) : ∑ j, f j = ∑ i, g i := by
  refine (Fintype.sum_of_injective col (fun a b h => ?_) g f (fun j hj => h0 j fun hlt => hj ⟨feat j hlt, ?_⟩) fun i => (h1 i).symm).symm
  · have := congrArg Fin.val h
    unfold col at this
    dsimp only at this
    exact Fin.ext (by omega)
  · have := j.isLt
    exact Fin.ext (by unfold col feat; dsimp only; omega)

/-- The stored rows below those in front. -/
theorem pay2_at (h : FVec Ideal S2064x256 .f32) (x : FVec Ideal S2064x3072 .bf16) (w : FVec Ideal S3072x256 .bf16) (r : Fin 2064) (q : Fin 256) :
    k0_pay2 (F := Ideal) h x w (ix2 r q) = h (ix2 r q) + ∑ k : Fin 3072, x (ix2 r k) * w (ix2 k q) := by
  pointwise [k0_pay2]
theorem pay1_at (h : FVec Ideal S112x256 .f32) (r : Fin 112) (q : Fin 256) : k0_pay1 (F := Ideal) h (ix2 r q) = h (ix2 r q) := by
  pointwise [k0_pay1]

/-- One block of the result over the staged blocks: the rows in front are the residual's. -/
def outAt (X : FVec Ideal S2176x3072 .bf16) (W : FVec Ideal S3072x256 .bf16) (R : FVec Ideal S2176x256 .f32) (r : Fin 2176) (q : Fin 256) : EReal :=
  if r.val < 112 then R (ix2 r q) else R (ix2 r q) + ∑ k : Fin 3072, X (ix2 r k) * W (ix2 k q)
def outBlk (X : FVec Ideal S2176x3072 .bf16) (W : FVec Ideal S3072x256 .bf16) (R : FVec Ideal S2176x256 .f32) (y : S2176x256.Idx) : EReal :=
  outAt X W R (y 0) (y 1)

theorem rows (X : FVec Ideal S2176x3072 .bf16) (W : FVec Ideal S3072x256 .bf16) (R : FVec Ideal S2176x256 .f32) (x : S2064x256.Idx) :
    k0_pay2 (F := Ideal) (View.ld (Val := Elt Ideal) (e' := .f32) R (Rect.unit (s := S2176x256) ![112, 0] ![2064, 256] inb_S2176x256_S2064x256_112_0))
        (View.ld (Val := Elt Ideal) (e' := .bf16) X (Rect.unit (s := S2176x3072) ![112, 0] ![2064, 3072] inb_S2176x3072_S2064x3072_112_0)) W x
      = outBlk X W R ((Rect.unit (s := S2176x256) ![112, 0] ![2064, 256] inb_S2176x256_S2064x256_112_0).emb x) := by
  obtain ⟨r, q, rfl⟩ : ∃ r q, x = ix2 r q := ⟨_, _, eq_ix2 x⟩
  have e : (Rect.unit (s := S2176x256) ![112, 0] ![2064, 256] inb_S2176x256_S2064x256_112_0).emb (ix2 r q) = ix2 ⟨112 + r.val, by omega⟩ q :=
    Rect.emb_eq_of_coords _ _ _ fun a => by fin_cases a <;> simp
  have ex (k) : View.ld (Val := Elt Ideal) (e' := .bf16) X (Rect.unit (s := S2176x3072) ![112, 0] ![2064, 3072] inb_S2176x3072_S2064x3072_112_0) (ix2 r k) = X (ix2 ⟨112 + r.val, by omega⟩ k) :=
    View.ld_unit_apply_of (Val := Elt Ideal) (e := .bf16) (S := S2176x3072) X _ _ _ _ _ fun a => by fin_cases a <;> simp
  have er : View.ld (Val := Elt Ideal) (e' := .f32) R (Rect.unit (s := S2176x256) ![112, 0] ![2064, 256] inb_S2176x256_S2064x256_112_0) (ix2 r q) = R (ix2 ⟨112 + r.val, by omega⟩ q) :=
    View.ld_unit_apply_of (Val := Elt Ideal) (e := .f32) (S := S2176x256) R _ _ _ _ _ fun a => by fin_cases a <;> simp
  rw [pay2_at, e, er]
  simp only [ex]
  exact (if_neg (by show ¬112 + r.val < 112; omega)).symm

theorem front (X : FVec Ideal S2176x3072 .bf16) (W : FVec Ideal S3072x256 .bf16) (R : FVec Ideal S2176x256 .f32) (x : S112x256.Idx) :
    k0_pay1 (F := Ideal) (View.ld (Val := Elt Ideal) (e' := .f32) R (Rect.unit (s := S2176x256) ![0, 0] ![112, 256] inb_S2176x256_S112x256_0_0)) x
      = outBlk X W R ((Rect.unit (s := S2176x256) ![0, 0] ![112, 256] inb_S2176x256_S112x256_0_0).emb x) := by
  obtain ⟨r, q, rfl⟩ : ∃ r q, x = ix2 r q := ⟨_, _, eq_ix2 x⟩
  have e : (Rect.unit (s := S2176x256) ![0, 0] ![112, 256] inb_S2176x256_S112x256_0_0).emb (ix2 r q) = ix2 ⟨r.val, by omega⟩ q :=
    Rect.emb_eq_of_coords _ _ _ fun a => by fin_cases a <;> simp
  have er : View.ld (Val := Elt Ideal) (e' := .f32) R (Rect.unit (s := S2176x256) ![0, 0] ![112, 256] inb_S2176x256_S112x256_0_0) (ix2 r q) = R (ix2 ⟨r.val, by omega⟩ q) :=
    View.ld_unit_apply_of (Val := Elt Ideal) (e := .f32) (S := S2176x256) R _ _ _ _ _ fun a => by fin_cases a <;> simp
  rw [pay1_at, e, er]
  exact (if_pos (show r.val < 112 from r.isLt)).symm

theorem mem_of (o a : ℕ) (h : ∀ i, (![o, 0] : Fin 2 → ℕ) i + (![a, 256] : Fin 2 → ℕ) i ≤ S2176x256.size i) (y : S2176x256.Idx) (h0 : o ≤ (y 0).val)
    (h1 : (y 0).val < o + a) : y ∈ (Rect.unit (s := S2176x256) ![o, 0] ![a, 256] h).set :=
  Rect.mem_set_unit.mpr (Fin.forall_fin_two.mpr ⟨⟨h0, h1⟩, ⟨Nat.zero_le _, (show (y 1).val < 0 + 256 by have : (y 1).val < 256 := (y 1).isLt; omega)⟩⟩)

/-- The two stores of the result's block, the last first. -/
theorem stores (X : FVec Ideal S2176x3072 .bf16) (W : FVec Ideal S3072x256 .bf16) (R : FVec Ideal S2176x256 .f32) (y : S2176x256.Idx) :
    View.canon (Val := Elt Ideal) (e := .f32)
      [⟨Rect.unit ![112, 0] ![2064, 256] inb_S2176x256_S2064x256_112_0,
          k0_pay2 (View.ld (Val := Elt Ideal) (e' := .f32) R (Rect.unit ![112, 0] ![2064, 256] inb_S2176x256_S2064x256_112_0))
            (View.ld (Val := Elt Ideal) (e' := .bf16) X (Rect.unit ![112, 0] ![2064, 3072] inb_S2176x3072_S2064x3072_112_0)) W⟩,
        ⟨Rect.unit ![0, 0] ![112, 256] inb_S2176x256_S112x256_0_0,
          k0_pay1 (View.ld (Val := Elt Ideal) (e' := .f32) R (Rect.unit ![0, 0] ![112, 256] inb_S2176x256_S112x256_0_0))⟩] y = outBlk X W R y := by
  refine View.canon_apply_of_pieces (Val := Elt Ideal) (e := .f32) (outBlk X W R) _ ?_ y ?_
  · intro p hp
    simp only [List.mem_cons, List.not_mem_nil, or_false] at hp
    rcases hp with rfl | rfl
    · exact rows X W R
    · exact front X W R
  · have hy0 : (y 0).val < 2176 := (y 0).isLt
    by_cases h0 : (y 0).val < 112
    · refine ⟨_, List.mem_cons_of_mem _ List.mem_cons_self, ?_⟩
      exact mem_of 0 112 inb_S2176x256_S112x256_0_0 y (by omega) (by omega)
    · refine ⟨_, List.mem_cons_self, ?_⟩
      exact mem_of 112 2064 inb_S2176x256_S2064x256_112_0 y (by omega) (by omega)

variable (m : (ℓ : Loc nD τ sig) → Buf (Elt Ideal) ℓ)

theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- The feature that feature `q` of block `t` is. -/
def colAt (t : Fin cfg0.N) (q : Fin 256) : Fin 1024 := ⟨t.val * 256 + q.val, by have : t.val < 4 := t.isLt; omega⟩

/-- The arrays at the region's entry: the activation, the weight, the residual. -/
abbrev X (c : Dev nD) : FVec Ideal S2176x3072 .bf16 := V m c main_v6
abbrev W (c : Dev nD) : FVec Ideal S3072x1024 .bf16 := V m c main_v11
abbrev R (c : Dev nD) : FVec Ideal S2176x1024 .f32 := V m c main_v13

theorem bX_at (c : Dev nD) (t : Fin cfg0.N) (r : Fin 2176) (k : Fin 3072) : (iblk m c 0 t : FVec Ideal S2176x3072 .bf16) (ix2 r k) = X m c (ix2 r k) := by
  blk_ext [iblk, idx t]
theorem bW_at (c : Dev nD) (t : Fin cfg0.N) (k : Fin 3072) (q : Fin 256) : (iblk m c 1 t : FVec Ideal S3072x256 .bf16) (ix2 k q) = W m c (ix2 k (colAt t q)) := by
  unfold colAt; blk_ext [iblk, idx t]
theorem bR_at (c : Dev nD) (t : Fin cfg0.N) (r : Fin 2176) (q : Fin 256) : (iblk m c 2 t : FVec Ideal S2176x256 .f32) (ix2 r q) = R m c (ix2 r (colAt t q)) := by
  unfold colAt; blk_ext [iblk, idx t]

/-- The result over whole arrays. -/
def arrAt (X : FVec Ideal S2176x3072 .bf16) (W : FVec Ideal S3072x1024 .bf16) (R : FVec Ideal S2176x1024 .f32) (r : Fin 2176) (n : Fin 1024) : EReal :=
  if r.val < 112 then R (ix2 r n) else R (ix2 r n) + ∑ k : Fin 3072, X (ix2 r k) * W (ix2 k n)
def arr (X : FVec Ideal S2176x3072 .bf16) (W : FVec Ideal S3072x1024 .bf16) (R : FVec Ideal S2176x1024 .f32) : FVec Ideal S2176x1024 .f32 := fun i =>
  arrAt X W R (i 0) (i 1)

theorem point (c : Dev nD) (t : Fin cfg0.N) (y : S2176x256.Idx) :
    outBlk (iblk m c 0 t) (iblk m c 1 t) (iblk m c 2 t) y = arr (X m c) (W m c) (R m c) (ix2 (y 0) (colAt t (y 1))) := by
  obtain ⟨r, q, rfl⟩ : ∃ r q, y = ix2 r q := ⟨_, _, eq_ix2 y⟩
  show outAt _ _ _ r q = arrAt (X m c) (W m c) (R m c) r (colAt t q)
  unfold outAt arrAt
  simp only [bX_at, bW_at, bR_at]

/-- The result array after the run. -/
theorem final (c : Dev nD) : (dats m 0 c).arrAt 3 (cfgs 0).N = arr (X m c) (W m c) (R m c) := by
  refine (dats m 0 c).arrAt_eq_of_covers 3 _ (by decide +kernel) fun t _ y => ?_
  blk_simp
  rw [after0_3]
  have key : outsAt0 m c t = outBlk (iblk m c 0 t) (iblk m c 1 t) (iblk m c 2 t) := by
    funext y
    unfold outsAt0; frame_out
    exact stores _ _ _ y
  rw [key]
  have cov (D : FVec Ideal S2176x1024 .f32) : D (ix2 (y 0) (colAt t (y 1))) = D (((cfg0.win 3).blk t).view.emb y) := by
    unfold colAt; blk_ext [idx t]
  exact (point m c t y).trans (cov _)

/-- The arguments at their own types. -/
abbrev a0 (c : Dev nD) : FVec Ideal S2064x2816 .f32 := m ((c : Thread nD τ).loc main_arg0)
abbrev a1 (c : Dev nD) : FVec Ideal S2816x1024 .f32 := m ((c : Thread nD τ).loc main_arg1)
abbrev a2 (c : Dev nD) : FVec Ideal S2064x1024 .f32 := m ((c : Thread nD τ).loc main_arg2)

theorem X_at (c : Dev nD) (r : Fin 2176) (j : Fin 3072) : X m c (ix2 r j)
    = if h : r.val < 112 then 0 else if h' : j.val % 384 < 352 then a0 m c (ix2 ⟨r.val - 112, by omega⟩ (feat j h')) else 0 := by
  unfold X; entry_read; pointwise []
theorem W_at (c : Dev nD) (j : Fin 3072) (n : Fin 1024) : W m c (ix2 j n) = if h : j.val % 384 < 352 then a1 m c (ix2 (feat j h) n) else 0 := by
  unfold W; entry_read; pointwise []
theorem R_at (c : Dev nD) (r : Fin 2176) (n : Fin 1024) : R m c (ix2 r n) = if h : r.val < 112 then 0 else a2 m c (ix2 ⟨r.val - 112, by omega⟩ n) := by
  unfold R; entry_read; pointwise []

open Cert.Reference8Ideal.Read in
/-- The forward line, with rows of zeros in front. -/
theorem ref_at (x : FVec Ideal S2064x2816 .f32) (w : FVec Ideal S2816x1024 .f32) (h : FVec Ideal S2064x1024 .f32) (r : Fin 2176) (n : Fin 1024) :
    Cert.Reference8Ideal.Read.val_main_v3 (F := Ideal) x w h (ix2 r n)
      = if h' : r.val < 112 then 0 else h (ix2 ⟨r.val - 112, by omega⟩ n) + ∑ k : Fin 2816, x (ix2 ⟨r.val - 112, by omega⟩ k) * w (ix2 k n) := by
  pointwise [val_main_v3, val_main_v2, val_main_v1, val_main_v0, val_main_cst]

theorem out_eq (c : Dev nD) : arr (X m c) (W m c) (R m c) = Cert.Reference8Ideal.Read.val_main_v3 (F := Ideal) (a0 m c) (a1 m c) (a2 m c) := by
  funext i
  obtain ⟨r, n, rfl⟩ : ∃ r n, i = ix2 r n := ⟨_, _, eq_ix2 i⟩
  rw [ref_at]
  show arrAt _ _ _ r n = _
  unfold arrAt
  rw [R_at]
  by_cases h : r.val < 112
  · rw [if_pos h, dif_pos h, dif_pos h]
  · rw [if_neg h, dif_neg h, dif_neg h]
    refine congrArg₂ (· + ·) rfl (sum_cols _ _ (fun j hj => ?_) fun i => ?_)
    · rw [W_at, dif_neg hj, mul_zero]
    · rw [X_at, W_at, dif_neg h, dif_pos (col_mod i), dif_pos (col_mod i), feat_col]

/-- The kernel and the forward line compute the same sum. -/
theorem value : Cert.algebraic_Kernel8Ideal_Reference8Ideal := by
  pair_intro
  · run_from Cert.Kernel8Ideal.Value.run_blocks m g
  · run_from Cert.Reference8Ideal.Value.run m' g'
    · rw [final, Cert.Reference8Ideal.Read.val_main_v3_eq, out_eq, (hagree c).2.2]

end Cert.Down

end
-- ==== Proof.Sums.lean ====
/- The kernel that adds five arrays over their leading axis against the plain sums. -/
module

public import proofs.«01_k».proof.Defs
public import proofs.«01_k».proof.Proof.Gen.Kernel12Ideal.Value
public import proofs.«01_k».proof.Proof.Gen.Reference12Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Sums

open Cert.Kernel12Ideal Cert.Kernel12Ideal.Gen

/-- A slab of an array, read as the kernel loads it. -/
theorem slab {n a b : ℕ} (x : FVec Ideal (⟨3, ![n, a, b]⟩ : Shape) .f32) (k : ℕ) (hk : k < n)
    (h : ∀ i, (![k, 0, 0] : Fin 3 → ℕ) i + (![1, a, b] : Fin 3 → ℕ) i ≤ (⟨3, ![n, a, b]⟩ : Shape).size i) (r : Fin a) (q : Fin b) :
    View.ld (Val := Elt Ideal) (e' := .f32) x (Rect.unit (s := (⟨3, ![n, a, b]⟩ : Shape)) ![k, 0, 0] ![1, a, b] h) (ix3 0 r q) = x (ix3 ⟨k, hk⟩ r q) :=
  View.ld_unit_apply_of (Val := Elt Ideal) (e := .f32) (S := (⟨3, ![n, a, b]⟩ : Shape)) x _ _ _ _ _ fun i => by fin_cases i <;> simp
theorem slabs {n l a b : ℕ} (x : FVec Ideal (⟨4, ![n, l, a, b]⟩ : Shape) .f32) (k : ℕ) (hk : k < n)
    (h : ∀ i, (![k, 0, 0, 0] : Fin 4 → ℕ) i + (![1, l, a, b] : Fin 4 → ℕ) i ≤ (⟨4, ![n, l, a, b]⟩ : Shape).size i) (p : Fin l) (r : Fin a) (q : Fin b) :
    View.ld (Val := Elt Ideal) (e' := .f32) x (Rect.unit (s := (⟨4, ![n, l, a, b]⟩ : Shape)) ![k, 0, 0, 0] ![1, l, a, b] h) (ix4 0 p r q) = x (ix4 ⟨k, hk⟩ p r q) :=
  View.ld_unit_apply_of (Val := Elt Ideal) (e := .f32) (S := (⟨4, ![n, l, a, b]⟩ : Shape)) x _ _ _ _ _ fun i => by fin_cases i <;> simp

open Cert.Kernel12Ideal.Value (G5 G6 G7 G8 G9)
open Cert.Reference12Ideal.Read

variable (x0 : FVec Ideal S8x24x512 .f32) (x1 : FVec Ideal S8x1024x64 .f32) (x2 : FVec Ideal S8x16x1024 .f32)
  (x3 : FVec Ideal S8x3x24x512 .f32) (x4 : FVec Ideal S8x3x1024x64 .f32)

theorem sum0 : G5 (F := Ideal) x0 x1 x2 x3 x4 = val_main_v0 (F := Ideal) x0 := by
  funext i
  obtain ⟨r, q, rfl⟩ : ∃ r q, i = ix2 r q := ⟨_, _, eq_ix2 i⟩
  have el (k : ℕ) (hk : k < 8) (h) := slab x0 k hk h r q
  have er : val_main_v0 (F := Ideal) x0 (ix2 r q) = ∑ k : Fin 8, x0 (ix3 k r q) := by pointwise [val_main_v0, val_main_cst]
  rw [er, Fin.sum_univ_eight]
  unfold G5
  pointwise [k0_pay2]

theorem sum1 : G6 (F := Ideal) x0 x1 x2 x3 x4 = val_main_v1 (F := Ideal) x1 := by
  funext i
  obtain ⟨r, q, rfl⟩ : ∃ r q, i = ix2 r q := ⟨_, _, eq_ix2 i⟩
  have el (k : ℕ) (hk : k < 8) (h) := slab x1 k hk h r q
  have er : val_main_v1 (F := Ideal) x1 (ix2 r q) = ∑ k : Fin 8, x1 (ix3 k r q) := by pointwise [val_main_v1, val_main_cst_0]
  rw [er, Fin.sum_univ_eight]
  unfold G6
  pointwise [k0_pay4, k0_pay3]

theorem sum2 : G7 (F := Ideal) x0 x1 x2 x3 x4 = val_main_v2 (F := Ideal) x2 := by
  funext i
  obtain ⟨r, q, rfl⟩ : ∃ r q, i = ix2 r q := ⟨_, _, eq_ix2 i⟩
  have el (k : ℕ) (hk : k < 8) (h) := slab x2 k hk h r q
  have er : val_main_v2 (F := Ideal) x2 (ix2 r q) = ∑ k : Fin 8, x2 (ix3 k r q) := by pointwise [val_main_v2, val_main_cst_1]
  rw [er, Fin.sum_univ_eight]
  unfold G7
  pointwise [k0_pay6, k0_pay5]

theorem sum3 : G8 (F := Ideal) x0 x1 x2 x3 x4 = val_main_v3 (F := Ideal) x3 := by
  funext i
  obtain ⟨p, r, q, rfl⟩ : ∃ p r q, i = ix3 p r q := ⟨_, _, _, eq_ix3 i⟩
  have el (k : ℕ) (hk : k < 8) (h) := slabs x3 k hk h p r q
  have er : val_main_v3 (F := Ideal) x3 (ix3 p r q) = ∑ k : Fin 8, x3 (ix4 k p r q) := by pointwise [val_main_v3, val_main_cst_2]
  rw [er, Fin.sum_univ_eight]
  unfold G8
  pointwise [k0_pay9, k0_pay7, k0_pay8]

theorem sum4 : G9 (F := Ideal) x0 x1 x2 x3 x4 = val_main_v4 (F := Ideal) x4 := by
  funext i
  obtain ⟨p, r, q, rfl⟩ : ∃ p r q, i = ix3 p r q := ⟨_, _, _, eq_ix3 i⟩
  have el (k : ℕ) (hk : k < 8) (h) := slabs x4 k hk h p r q
  have er : val_main_v4 (F := Ideal) x4 (ix3 p r q) = ∑ k : Fin 8, x4 (ix4 k p r q) := by pointwise [val_main_v4, val_main_cst_3]
  rw [er, Fin.sum_univ_eight]
  unfold G9
  pointwise [k0_pay1, k0_pay10, k0_pay11]

/-- The kernel's run, at the plain sums. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v0_0) = val_main_v0 (F := Ideal) (m ((c : Thread nD τ).loc main_arg0))
      ∧ r.2.mem ((c : Thread nD τ).loc main_v0_1) = val_main_v1 (F := Ideal) (m ((c : Thread nD τ).loc main_arg1))
      ∧ r.2.mem ((c : Thread nD τ).loc main_v0_2) = val_main_v2 (F := Ideal) (m ((c : Thread nD τ).loc main_arg2))
      ∧ r.2.mem ((c : Thread nD τ).loc main_v0_3) = val_main_v3 (F := Ideal) (m ((c : Thread nD τ).loc main_arg3))
      ∧ r.2.mem ((c : Thread nD τ).loc main_v0_4) = val_main_v4 (F := Ideal) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (sum0 _ _ _ _ _), (h c).2.1.trans (sum1 _ _ _ _ _), (h c).2.2.1.trans (sum2 _ _ _ _ _), (h c).2.2.2.1.trans (sum3 _ _ _ _ _), (h c).2.2.2.2.1.trans (sum4 _ _ _ _ _), (h c).2.2.2.2.2⟩)
    (Cert.Kernel12Ideal.Value.run m ρ)

/-- The kernel and the sums over the leading axis compute the same five arrays. -/
theorem value : Cert.algebraic_Kernel12Ideal_Reference12Ideal := by
  pair_intro
  · run_from run m g
  · refine (θ_run Cert.Reference12Ideal.defs _ _).mono (fun r h c => ⟨?_, ?_, ?_, ?_, ?_, (h c).2.2.2.2.2⟩) (Cert.Reference12Ideal.Value.run m' g')
    · rw [(h c).1, (hagree c).1, val_main_v0_eq]
    · rw [(h c).2.1, (hagree c).2.1, val_main_v1_eq]
    · rw [(h c).2.2.1, (hagree c).2.2.1, val_main_v2_eq]
    · rw [(h c).2.2.2.1, (hagree c).2.2.2.1, val_main_v3_eq]
    · rw [(h c).2.2.2.2.1, (hagree c).2.2.2.2, val_main_v4_eq]

end Cert.Sums

end
-- ==== Proof.BlockDiag.lean ====
/- The kernel that lays square blocks out along the diagonals of dense matrices, against the dense layers by comparison of indices. -/
module

public import proofs.«01_k».proof.Defs
public import proofs.«01_k».proof.Proof.Gen.Kernel13Ideal.Value
public import proofs.«01_k».proof.Proof.Gen.Reference13Ideal.Read
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.BlockDiag

open Cert.Kernel13Ideal Cert.Kernel13Ideal.Gen

/-- One dense layer over its eight blocks: zero off the diagonal blocks. -/
def diagAt (X : FVec Ideal S1x8x64x64 .f32) (r q : Fin 512) : EReal :=
  if r.val / 64 = q.val / 64 then X (ix4 0 ⟨r.val / 64, by omega⟩ ⟨r.val % 64, by omega⟩ ⟨q.val % 64, by omega⟩) else 0
def diagBlk (X : FVec Ideal S1x8x64x64 .f32) (y : S1x512x512.Idx) : EReal := diagAt X (y 1) (y 2)

/-- A diagonal block, stored after any cast and reshape that leave its entries. -/
theorem piece (X : FVec Ideal S1x8x64x64 .f32) (g o : ℕ) (hg : g < 8) (ho : o = 64 * g)
    (h : ∀ i, (![0, g, 0, 0] : Fin 4 → ℕ) i + (![1, 1, 64, 64] : Fin 4 → ℕ) i ≤ S1x8x64x64.size i)
    (h' : ∀ i, (![0, o, o] : Fin 3 → ℕ) i + (![1, 64, 64] : Fin 3 → ℕ) i ≤ S1x512x512.size i)
    (P : FVec Ideal S1x1x64x64 .f32 → FVec Ideal S1x64x64 .bf16) (hP : ∀ v r q, P v (ix3 0 r q) = v (ix4 0 0 r q)) (x : S1x64x64.Idx) :
    P (View.ld (Val := Elt Ideal) (e' := .f32) X (Rect.unit (s := S1x8x64x64) ![0, g, 0, 0] ![1, 1, 64, 64] h)) x
      = diagBlk X ((Rect.unit (s := S1x512x512) ![0, o, o] ![1, 64, 64] h').emb x) := by
  obtain ⟨z, r, q, rfl⟩ : ∃ z r q, x = ix3 z r q := ⟨_, _, _, eq_ix3 x⟩
  obtain rfl : z = 0 := Subsingleton.elim _ _
  have e : (Rect.unit (s := S1x512x512) ![0, o, o] ![1, 64, 64] h').emb (ix3 0 r q) = ix3 0 ⟨o + r.val, by omega⟩ ⟨o + q.val, by omega⟩ :=
    Rect.emb_eq_of_coords _ _ _ fun a => by fin_cases a <;> simp
  have l : View.ld (Val := Elt Ideal) (e' := .f32) X (Rect.unit (s := S1x8x64x64) ![0, g, 0, 0] ![1, 1, 64, 64] h) (ix4 0 0 r q) = X (ix4 0 ⟨g, hg⟩ r q) :=
    View.ld_unit_apply_of (Val := Elt Ideal) (e := .f32) (S := S1x8x64x64) X _ _ _ _ _ fun a => by fin_cases a <;> simp
  rw [hP, l, e]
  have hr := r.isLt
  have hq := q.isLt
  show _ = diagAt X ⟨o + r.val, _⟩ ⟨o + q.val, _⟩
  unfold diagAt
  rw [if_pos (show (o + r.val) / 64 = (o + q.val) / 64 by omega)]
  congr 2 <;> refine Fin.ext ?_ <;> simp only [] <;> omega

/-- The fill below the blocks. -/
theorem fill_at (y : S1x512x512.Idx) : k0_pay2 (F := Ideal) y = 0 := by
  obtain ⟨z, r, q, rfl⟩ : ∃ z r q, y = ix3 z r q := ⟨_, _, _, eq_ix3 y⟩
  pointwise [k0_pay2]

theorem mem_of (o : ℕ) (h' : ∀ i, (![0, o, o] : Fin 3 → ℕ) i + (![1, 64, 64] : Fin 3 → ℕ) i ≤ S1x512x512.size i) (y : S1x512x512.Idx)
    (h1 : o ≤ (y 1).val ∧ (y 1).val < o + 64) (h2 : o ≤ (y 2).val ∧ (y 2).val < o + 64) :
    y ∈ (Rect.unit (s := S1x512x512) ![0, o, o] ![1, 64, 64] h').set :=
  Rect.mem_set_unit.mpr fun a => by
    fin_cases a
    · exact ⟨Nat.zero_le _, (show (y 0).val < 0 + 1 from (y 0).isLt)⟩
    · exact h1
    · exact h2

theorem not_mem_of (g o : ℕ) (ho : o = 64 * g) (h' : ∀ i, (![0, o, o] : Fin 3 → ℕ) i + (![1, 64, 64] : Fin 3 → ℕ) i ≤ S1x512x512.size i) (y : S1x512x512.Idx)
    (hy : ¬(y 1).val / 64 = (y 2).val / 64) : y ∉ (Rect.unit (s := S1x512x512) ![0, o, o] ![1, 64, 64] h').set := fun hm => by
  have h1 : o ≤ (y 1).val ∧ (y 1).val < o + 64 := Rect.mem_set_unit.mp hm 1
  have h2 : o ≤ (y 2).val ∧ (y 2).val < o + 64 := Rect.mem_set_unit.mp hm 2
  omega

/-- A load of a diagonal block, and the place it is stored in. -/
abbrev src (X : FVec Ideal S1x8x64x64 .f32) (g : ℕ) (h : ∀ i, (![0, g, 0, 0] : Fin 4 → ℕ) i + (![1, 1, 64, 64] : Fin 4 → ℕ) i ≤ S1x8x64x64.size i) :
    FVec Ideal S1x1x64x64 .f32 := View.ld (Val := Elt Ideal) (e' := .f32) X (Rect.unit (s := S1x8x64x64) ![0, g, 0, 0] ![1, 1, 64, 64] h)
abbrev dst (o : ℕ) (h' : ∀ i, (![0, o, o] : Fin 3 → ℕ) i + (![1, 64, 64] : Fin 3 → ℕ) i ≤ S1x512x512.size i) : Rect S1x512x512 :=
  Rect.unit (s := S1x512x512) ![0, o, o] ![1, 64, 64] h'
theorem beside (o : ℕ) (h') (w : FVec Ideal S1x64x64 .bf16) (L : List (View.Piece (Elt Ideal) S1x512x512 .bf16)) (y : S1x512x512.Idx) (h : y ∉ (dst o h').set) :
    View.canon (Val := Elt Ideal) (e := .bf16) (⟨dst o h', w⟩ :: L) y = View.canon (Val := Elt Ideal) (e := .bf16) L y :=
  View.canon_cons_of_not_mem (⟨dst o h', w⟩ : View.Piece (Elt Ideal) S1x512x512 .bf16) L h
/-- A payload that keeps the block's entries. -/
abbrev Keeps (P : FVec Ideal S1x1x64x64 .f32 → FVec Ideal S1x64x64 .bf16) : Prop := ∀ v r q, P v (ix3 0 r q) = v (ix4 0 0 r q)

/-- Eight blocks stored over a fill of zeros, the last first. -/
theorem stores (X : FVec Ideal S1x8x64x64 .f32) (P : Fin 8 → FVec Ideal S1x1x64x64 .f32 → FVec Ideal S1x64x64 .bf16) (hP : ∀ g, Keeps (P g))
    (Z : FVec Ideal S1x512x512 .bf16) (hZ : ∀ y, Z y = 0) (y : S1x512x512.Idx) :
    View.canon (Val := Elt Ideal) (e := .bf16)
      ([(⟨dst 448 inb_S1x512x512_S1x64x64_0_448_448, P 7 (src X 7 inb_S1x8x64x64_S1x1x64x64_0_7_0_0)⟩ : View.Piece (Elt Ideal) S1x512x512 .bf16),
        ⟨dst 384 inb_S1x512x512_S1x64x64_0_384_384, P 6 (src X 6 inb_S1x8x64x64_S1x1x64x64_0_6_0_0)⟩,
        ⟨dst 320 inb_S1x512x512_S1x64x64_0_320_320, P 5 (src X 5 inb_S1x8x64x64_S1x1x64x64_0_5_0_0)⟩,
        ⟨dst 256 inb_S1x512x512_S1x64x64_0_256_256, P 4 (src X 4 inb_S1x8x64x64_S1x1x64x64_0_4_0_0)⟩,
        ⟨dst 192 inb_S1x512x512_S1x64x64_0_192_192, P 3 (src X 3 inb_S1x8x64x64_S1x1x64x64_0_3_0_0)⟩,
        ⟨dst 128 inb_S1x512x512_S1x64x64_0_128_128, P 2 (src X 2 inb_S1x8x64x64_S1x1x64x64_0_2_0_0)⟩,
        ⟨dst 64 inb_S1x512x512_S1x64x64_0_64_64, P 1 (src X 1 inb_S1x8x64x64_S1x1x64x64_0_1_0_0)⟩,
        ⟨dst 0 inb_S1x512x512_S1x64x64_0_0_0, P 0 (src X 0 inb_S1x8x64x64_S1x1x64x64_0_0_0_0)⟩] ++
        [⟨Rect.unit (s := S1x512x512) ![0, 0, 0] ![1, 512, 512] inb_S1x512x512_S1x512x512_0_0_0, Z⟩]) y = diagBlk X y := by
  have h1 : (y 1).val < 512 := (y 1).isLt
  have h2 : (y 2).val < 512 := (y 2).isLt
  by_cases h : (y 1).val / 64 = (y 2).val / 64
  · refine View.canon_append_of_piecesOf (Val := Elt Ideal) (s := S1x512x512) (e := .bf16) (diagBlk X) _ _ ?_ y ?_
    · exact ⟨piece X 7 448 (by norm_num) rfl inb_S1x8x64x64_S1x1x64x64_0_7_0_0 inb_S1x512x512_S1x64x64_0_448_448 _ (hP 7),
        piece X 6 384 (by norm_num) rfl inb_S1x8x64x64_S1x1x64x64_0_6_0_0 inb_S1x512x512_S1x64x64_0_384_384 _ (hP 6),
        piece X 5 320 (by norm_num) rfl inb_S1x8x64x64_S1x1x64x64_0_5_0_0 inb_S1x512x512_S1x64x64_0_320_320 _ (hP 5),
        piece X 4 256 (by norm_num) rfl inb_S1x8x64x64_S1x1x64x64_0_4_0_0 inb_S1x512x512_S1x64x64_0_256_256 _ (hP 4),
        piece X 3 192 (by norm_num) rfl inb_S1x8x64x64_S1x1x64x64_0_3_0_0 inb_S1x512x512_S1x64x64_0_192_192 _ (hP 3),
        piece X 2 128 (by norm_num) rfl inb_S1x8x64x64_S1x1x64x64_0_2_0_0 inb_S1x512x512_S1x64x64_0_128_128 _ (hP 2),
        piece X 1 64 (by norm_num) rfl inb_S1x8x64x64_S1x1x64x64_0_1_0_0 inb_S1x512x512_S1x64x64_0_64_64 _ (hP 1),
        piece X 0 0 (by norm_num) rfl inb_S1x8x64x64_S1x1x64x64_0_0_0_0 inb_S1x512x512_S1x64x64_0_0_0 _ (hP 0), trivial⟩
    have hd (o : ℕ) (h') (ho : 64 * ((y 1).val / 64) = o) : y ∈ (dst o h').set := mem_of o h' y (by omega) (by omega)
    simp only [List.exists_mem_cons_iff]
    generalize (y 1).val / 64 = g at hd h
    have hg : g < 8 := by omega
    interval_cases g
    · exact .inr (.inr (.inr (.inr (.inr (.inr (.inr (.inl (hd _ _ rfl))))))))
    · exact .inr (.inr (.inr (.inr (.inr (.inr (.inl (hd _ _ rfl)))))))
    · exact .inr (.inr (.inr (.inr (.inr (.inl (hd _ _ rfl))))))
    · exact .inr (.inr (.inr (.inr (.inl (hd _ _ rfl)))))
    · exact .inr (.inr (.inr (.inl (hd _ _ rfl))))
    · exact .inr (.inr (.inl (hd _ _ rfl)))
    · exact .inr (.inl (hd _ _ rfl))
    · exact .inl (hd _ _ rfl)
  · have hn (g o : ℕ) (ho : o = 64 * g) (h') : y ∉ (dst o h').set := not_mem_of g o ho h' y h
    simp only [List.cons_append, List.nil_append]
    refine (beside 448 _ _ _ y (hn 7 _ rfl _)).trans ?_
    refine (beside 384 _ _ _ y (hn 6 _ rfl _)).trans ?_
    refine (beside 320 _ _ _ y (hn 5 _ rfl _)).trans ?_
    refine (beside 256 _ _ _ y (hn 4 _ rfl _)).trans ?_
    refine (beside 192 _ _ _ y (hn 3 _ rfl _)).trans ?_
    refine (beside 128 _ _ _ y (hn 2 _ rfl _)).trans ?_
    refine (beside 64 _ _ _ y (hn 1 _ rfl _)).trans ?_
    refine (beside 0 _ _ _ y (hn 0 _ rfl _)).trans ?_
    refine (congrFun (View.canon_cons_unit_lit (Val := Elt Ideal) (e := .bf16) (S := S1x512x512) (off := ![0, 0, 0]) inb_S1x512x512_S1x512x512_0_0_0 Z [] (fun a => by fin_cases a <;> rfl)) y).trans ((hZ y).trans (if_neg h).symm)

/-- The payloads of the two outputs keep their blocks' entries. -/
def payA : Fin 8 → FVec Ideal S1x1x64x64 .f32 → FVec Ideal S1x64x64 .bf16
  | 0, v => k0_pay3 v | 1, v => k0_pay4 v | 2, v => k0_pay5 v | 3, v => k0_pay7 (k0_pay6 v) | 4, v => k0_pay8 v | 5, v => k0_pay9 v | 6, v => k0_pay10 v
  | 7, v => k0_pay12 (k0_pay11 v)
def payX : Fin 8 → FVec Ideal S1x1x64x64 .f32 → FVec Ideal S1x64x64 .bf16
  | 0, v => k0_pay14 v | 1, v => k0_pay15 v | 2, v => k0_pay16 v | 3, v => k0_pay18 (k0_pay17 v) | 4, v => k0_pay19 v | 5, v => k0_pay20 v | 6, v => k0_pay21 v
  | 7, v => k0_pay1 (k0_pay22 v)
theorem payA_keeps (g : Fin 8) : Keeps (payA g) := fun v r q => by
  fin_cases g <;> pointwise [payA, k0_pay3, k0_pay4, k0_pay5, k0_pay6, k0_pay7, k0_pay8, k0_pay9, k0_pay10, k0_pay11, k0_pay12]
theorem payX_keeps (g : Fin 8) : Keeps (payX g) := fun v r q => by
  fin_cases g <;> pointwise [payX, k0_pay14, k0_pay15, k0_pay16, k0_pay17, k0_pay18, k0_pay19, k0_pay20, k0_pay21, k0_pay22, k0_pay1]
theorem fillX_at (y : S1x512x512.Idx) : k0_pay13 (F := Ideal) y = 0 := by
  obtain ⟨z, r, q, rfl⟩ : ∃ z r q, y = ix3 z r q := ⟨_, _, _, eq_ix3 y⟩
  pointwise [k0_pay13]

variable (m : (ℓ : Loc nD τ sig) → Buf (Elt Ideal) ℓ)

theorem idx : ∀ t : Fin cfg0.N, win0_0.index t = ![t.val, 0, 0, 0] ∧ win0_1.index t = ![t.val, 0, 0, 0] ∧ win0_2.index t = ![t.val, 0, 0]
    ∧ win0_3.index t = ![t.val, 0, 0] :=
  (by decide +kernel : ∀ t : Fin grid0.N, _)

/-- A layer's blocks at its grid point. -/
abbrev layer (t : Fin cfg0.N) : Fin 4 := t
abbrev a0 (c : Dev nD) : FVec Ideal S4x8x64x64 .f32 := m ((c : Thread nD τ).loc main_arg0)
abbrev a1 (c : Dev nD) : FVec Ideal S4x8x64x64 .f32 := m ((c : Thread nD τ).loc main_arg1)
theorem b0_at (c : Dev nD) (t : Fin cfg0.N) (g : Fin 8) (r q : Fin 64) : (iblk m c 0 t : FVec Ideal S1x8x64x64 .f32) (ix4 0 g r q) = a0 m c (ix4 (layer t) g r q) := by
  blk_ext [iblk, idx t]
  rfl
theorem b1_at (c : Dev nD) (t : Fin cfg0.N) (g : Fin 8) (r q : Fin 64) : (iblk m c 1 t : FVec Ideal S1x8x64x64 .f32) (ix4 0 g r q) = a1 m c (ix4 (layer t) g r q) := by
  blk_ext [iblk, idx t]
  rfl

/-- All the dense layers. -/
def denseAt (x : FVec Ideal S4x8x64x64 .f32) (l : Fin 4) (r q : Fin 512) : EReal :=
  if r.val / 64 = q.val / 64 then x (ix4 l ⟨r.val / 64, by omega⟩ ⟨r.val % 64, by omega⟩ ⟨q.val % 64, by omega⟩) else 0
def denseArr (x : FVec Ideal S4x8x64x64 .f32) : FVec Ideal S4x512x512 .bf16 := fun i => denseAt x (i 0) (i 1) (i 2)

theorem point (X : FVec Ideal S1x8x64x64 .f32) (x : FVec Ideal S4x8x64x64 .f32) (l : Fin 4) (h : ∀ g r q, X (ix4 0 g r q) = x (ix4 l g r q)) (y : S1x512x512.Idx) :
    diagBlk X y = denseArr x (ix3 l (y 1) (y 2)) := by
  show diagAt X (y 1) (y 2) = denseAt x l (y 1) (y 2)
  unfold diagAt denseAt
  rw [h]

theorem final2 (c : Dev nD) : (dats m 0 c).arrAt 2 (cfgs 0).N = denseArr (a0 m c) := by
  refine (dats m 0 c).arrAt_eq_of_covers 2 _ (by decide +kernel) fun t _ y => ?_
  blk_simp
  rw [after0_2]
  have key : (outsAt0 m c t).1 = diagBlk (iblk m c 0 t) := by
    funext y
    unfold outsAt0; frame_out
    exact stores (iblk m c 0 t) payA payA_keeps _ fill_at y
  rw [key]
  have cov (D : FVec Ideal S4x512x512 .bf16) : D (ix3 (layer t) (y 1) (y 2)) = D (((cfg0.win 2).blk t).view.emb y) := by
    blk_ext [idx t]
  exact (point _ _ _ (b0_at m c t) y).trans (cov _)
theorem final3 (c : Dev nD) : (dats m 0 c).arrAt 3 (cfgs 0).N = denseArr (a1 m c) := by
  refine (dats m 0 c).arrAt_eq_of_covers 3 _ (by decide +kernel) fun t _ y => ?_
  blk_simp
  rw [after0_3]
  have key : (outsAt0 m c t).2 = diagBlk (iblk m c 1 t) := by
    funext y
    unfold outsAt0; frame_out
    exact stores (iblk m c 1 t) payX payX_keeps _ fillX_at y
  rw [key]
  have cov (D : FVec Ideal S4x512x512 .bf16) : D (ix3 (layer t) (y 1) (y 2)) = D (((cfg0.win 3).blk t).view.emb y) := by
    blk_ext [idx t]
  exact (point _ _ _ (b1_at m c t) y).trans (cov _)

/-- A choice by equality of two block indices. -/
theorem pick (a b : Fin 8) (u : EReal) :
    Scalar.select (IntOp.cmpi .eq (BitVec.ofNat 32 a.val) (BitVec.ofNat 32 b.val)) u (FloatOps.ofBits (F := Ideal) .f32 0x00000000#32) = if a.val = b.val then u else 0 := by
  have h : ∀ a b : Fin 8, IntOp.cmpi .eq (BitVec.ofNat 32 a.val) (BitVec.ofNat 32 b.val) = if a.val = b.val then 1#1 else 0#1 := by decide
  rw [h]
  split_ifs <;> pointwise []

open Cert.Reference13Ideal.Read in
theorem ref0 (x : FVec Ideal S4x8x64x64 .f32) : val_main_v10 (F := Ideal) x = denseArr x := by
  funext i
  obtain ⟨l, r, q, rfl⟩ : ∃ l r q, i = ix3 l r q := ⟨_, _, _, eq_ix3 i⟩
  show _ = denseAt x l r q
  pointwise [val_main_v10, val_main_v9, val_main_v8]
  rw [val_main_call0_v1_apply, val_main_v6_apply, val_main_v4_apply, val_main_v5_apply, val_main_v1_apply, val_main_v3_apply, val_main_v0_apply,
    val_main_v2_apply, val_main_call0_v2_apply, val_main_v7_apply, val_main_call0_v3_apply, val_main_call0_v0_apply, val_main_cst_apply]
  have e : idx_main_v7 (idx_main_call0_v2 (ix5 l (⟨r.val / 64, by omega⟩ : Fin 8) (⟨r.val % 64, by omega⟩ : Fin 64) (⟨q.val / 64, by omega⟩ : Fin 8) (⟨q.val % 64, by omega⟩ : Fin 64)))
      = ix4 l ⟨r.val / 64, by omega⟩ ⟨r.val % 64, by omega⟩ ⟨q.val % 64, by omega⟩ := funext fun a => by fin_cases a <;> rfl
  rw [e]
  exact pick ⟨r.val / 64, by omega⟩ ⟨q.val / 64, by omega⟩ _

open Cert.Reference13Ideal.Read in
theorem ref1 (x : FVec Ideal S4x8x64x64 .f32) : val_main_v21 (F := Ideal) x = denseArr x := (show val_main_v21 (F := Ideal) x = val_main_v10 (F := Ideal) x from rfl).trans (ref0 x)

/-- The kernel and the layers laid out by comparison of indices compute the same two arrays. -/
theorem value : Cert.algebraic_Kernel13Ideal_Reference13Ideal := by
  pair_intro
  · run_from Cert.Kernel13Ideal.Value.run_blocks m g
  · run_from Cert.Reference13Ideal.Value.run m' g'
    · rw [final2]
      exact (Cert.Reference13Ideal.Read.val_main_v10_eq (a0 m c)).trans (ref0 _)
    · rw [final3]
      exact (Cert.Reference13Ideal.Read.val_main_v21_eq (a1 m c)).trans (ref1 _)

end Cert.BlockDiag

end
-- ==== Proof.Small.lean ====
/- The kernel that packs a layer's small gradients into two arrays, against the pieces laid end to end. -/
module

public import proofs.«01_k».proof.Defs
public import proofs.«01_k».proof.Proof.Gen.Kernel14Ideal.Value
public import proofs.«01_k».proof.Proof.Gen.Reference14Ideal.Read
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Small

open Cert.Kernel14Ideal Cert.Kernel14Ideal.Gen

/-- A matrix at two numbers, zero outside. -/
def at2 {a b : ℕ} (X : FVec Ideal (⟨2, ![a, b]⟩ : Shape) .f32) (i j : ℕ) : EReal := if h : i < a ∧ j < b then X (ix2 ⟨i, h.1⟩ ⟨j, h.2⟩) else 0
theorem at2_ix {a b : ℕ} (X : FVec Ideal (⟨2, ![a, b]⟩ : Shape) .f32) (i : Fin a) (j : Fin b) : at2 X i.val j.val = X (ix2 i j) := dif_pos ⟨i.isLt, j.isLt⟩
theorem at2_of {a b : ℕ} (X : FVec Ideal (⟨2, ![a, b]⟩ : Shape) .f32) {i j : ℕ} (hi : i < a) (hj : j < b) : at2 X i j = X (ix2 ⟨i, hi⟩ ⟨j, hj⟩) := dif_pos ⟨hi, hj⟩

/-- A matrix given by its entries at numbers. -/
abbrev mat {a b : ℕ} (G : ℕ → ℕ → EReal) : FVec Ideal (⟨2, ![a, b]⟩ : Shape) .f32 := fun y => G (y 0).val (y 1).val

/-- A part of one matrix stored as a part of another is a block of `G` when the entries are. -/
theorem piece {a b h w H W : ℕ} (X : FVec Ideal (⟨2, ![a, b]⟩ : Shape) .f32) (o p s t : ℕ) (G : ℕ → ℕ → EReal)
    (hs : ∀ i, (![s, t] : Fin 2 → ℕ) i + (![h, w] : Fin 2 → ℕ) i ≤ (⟨2, ![a, b]⟩ : Shape).size i)
    (hd : ∀ i, (![o, p] : Fin 2 → ℕ) i + (![h, w] : Fin 2 → ℕ) i ≤ (⟨2, ![H, W]⟩ : Shape).size i)
    (hG : ∀ r q, r < h → q < w → at2 X (s + r) (t + q) = G (o + r) (p + q)) (x : (⟨2, ![h, w]⟩ : Shape).Idx) :
    View.ld (Val := Elt Ideal) (e' := .f32) X (Rect.unit (s := (⟨2, ![a, b]⟩ : Shape)) ![s, t] ![h, w] hs) x
      = mat (a := H) (b := W) G ((Rect.unit (s := (⟨2, ![H, W]⟩ : Shape)) ![o, p] ![h, w] hd).emb x) := by
  obtain ⟨r, q, rfl⟩ : ∃ r q, x = ix2 r q := ⟨_, _, eq_ix2 x⟩
  have s0 : s + h ≤ a := hs 0
  have s1 : t + w ≤ b := hs 1
  have d0 : o + h ≤ H := hd 0
  have d1 : p + w ≤ W := hd 1
  have hr := r.isLt
  have hq := q.isLt
  have e : (Rect.unit (s := (⟨2, ![H, W]⟩ : Shape)) ![o, p] ![h, w] hd).emb (ix2 r q) = ix2 ⟨o + r.val, by omega⟩ ⟨p + q.val, by omega⟩ :=
    Rect.emb_eq_of_coords _ _ _ fun i => by fin_cases i <;> simp
  have l : View.ld (Val := Elt Ideal) (e' := .f32) X (Rect.unit (s := (⟨2, ![a, b]⟩ : Shape)) ![s, t] ![h, w] hs) (ix2 r q)
      = X (ix2 ⟨s + r.val, by omega⟩ ⟨t + q.val, by omega⟩) :=
    View.ld_unit_apply_of (Val := Elt Ideal) (e := .f32) (S := (⟨2, ![a, b]⟩ : Shape)) X _ _ _ _ _ fun i => by fin_cases i <;> simp
  rw [l, e, ← at2_of X (by omega) (by omega), hG _ _ hr hq]
  rfl

/-- A whole row stored as a row. -/
theorem wholeRow {H W : ℕ} (X : FVec Ideal (⟨2, ![1, W]⟩ : Shape) .f32) (o : ℕ) (G : ℕ → ℕ → EReal)
    (hd : ∀ i, (![o, 0] : Fin 2 → ℕ) i + (![1, W] : Fin 2 → ℕ) i ≤ (⟨2, ![H, W]⟩ : Shape).size i)
    (hG : ∀ q, q < W → at2 X 0 q = G o q) (x : (⟨2, ![1, W]⟩ : Shape).Idx) :
    X x = mat (a := H) (b := W) G ((Rect.unit (s := (⟨2, ![H, W]⟩ : Shape)) ![o, 0] ![1, W] hd).emb x) := by
  obtain ⟨r, q, rfl⟩ : ∃ r q, x = ix2 r q := ⟨_, _, eq_ix2 x⟩
  obtain rfl : r = 0 := Subsingleton.elim _ _
  have d0 : o + 1 ≤ H := hd 0
  have e : (Rect.unit (s := (⟨2, ![H, W]⟩ : Shape)) ![o, 0] ![1, W] hd).emb (ix2 0 q) = ix2 ⟨o, by omega⟩ q :=
    Rect.emb_eq_of_coords _ _ _ fun i => by fin_cases i <;> simp
  rw [e, ← at2_ix X 0 q]
  exact hG _ q.isLt

theorem mem_of {H W o p h w : ℕ} (hd : ∀ i, (![o, p] : Fin 2 → ℕ) i + (![h, w] : Fin 2 → ℕ) i ≤ (⟨2, ![H, W]⟩ : Shape).size i) (y : (⟨2, ![H, W]⟩ : Shape).Idx)
    (h0 : o ≤ (y 0).val ∧ (y 0).val < o + h) (h1 : p ≤ (y 1).val ∧ (y 1).val < p + w) :
    y ∈ (Rect.unit (s := (⟨2, ![H, W]⟩ : Shape)) ![o, p] ![h, w] hd).set :=
  Rect.mem_set_unit.mpr fun a => by
    fin_cases a
    · exact h0
    · exact h1
theorem out_of {H W o p h w : ℕ} {hd : ∀ i, (![o, p] : Fin 2 → ℕ) i + (![h, w] : Fin 2 → ℕ) i ≤ (⟨2, ![H, W]⟩ : Shape).size i} {y : (⟨2, ![H, W]⟩ : Shape).Idx}
    (hn : y ∉ (Rect.unit (s := (⟨2, ![H, W]⟩ : Shape)) ![o, p] ![h, w] hd).set) : ¬((o ≤ (y 0).val ∧ (y 0).val < o + h) ∧ (p ≤ (y 1).val ∧ (y 1).val < p + w)) :=
  fun hh => hn (mem_of hd y hh.1 hh.2)

/-- An entry outside the last stores is the earlier ones'. -/
theorem skip {S : Shape} (L' : List (View.Piece (Elt Ideal) S .f32)) (y : S.Idx) (L : List (View.Piece (Elt Ideal) S .f32)) (h : ¬∃ p ∈ L, y ∈ p.1.set) :
    View.canon (Val := Elt Ideal) (e := .f32) (L ++ L') y = View.canon (Val := Elt Ideal) (e := .f32) L' y := by
  induction L with
  | nil => rfl
  | cons p L ih =>
    rw [List.exists_mem_cons_iff, not_or] at h
    exact (View.canon_cons_of_not_mem (Val := Elt Ideal) p (L ++ L') h.1).trans (ih h.2)

/-- The vectors' array: nine rows, a row, three vectors in two rows each, and the loss in front of zeros. -/
def vec (X0 : FVec Ideal S16x512 .f32) (X1 : FVec Ideal S1x512 .f32) (X2 X3 X4 : FVec Ideal S1x1024 .f32) (X5 : FVec Ideal S8x128 .f32) (r q : ℕ) : EReal :=
  if r < 9 then at2 X0 r q else if r < 10 then at2 X1 0 q else if r < 12 then at2 X2 0 (512 * (r - 10) + q)
  else if r < 14 then at2 X3 0 (512 * (r - 12) + q) else if r < 16 then at2 X4 0 (512 * (r - 14) + q)
  else if r < 17 ∧ q < 128 then at2 X5 0 q else 0

/-- The gates' array: the diagonal blocks of both matrices, one below the other. -/
def gates (X6 X7 : FVec Ideal S512x512 .f32) (r q : ℕ) : EReal :=
  if r < 512 then at2 X6 r (64 * (r / 64) + q) else at2 X7 (r - 512) (64 * ((r - 512) / 64) + q)

section Stores

variable (X0 : FVec Ideal S16x512 .f32) (X1 : FVec Ideal S1x512 .f32) (X2 X3 X4 : FVec Ideal S1x1024 .f32) (X5 : FVec Ideal S8x128 .f32)
  (X6 X7 : FVec Ideal S512x512 .f32)

abbrev dst {H W : ℕ} (o p h w : ℕ) (hd : ∀ i, (![o, p] : Fin 2 → ℕ) i + (![h, w] : Fin 2 → ℕ) i ≤ (⟨2, ![H, W]⟩ : Shape).size i) : Rect (⟨2, ![H, W]⟩ : Shape) :=
  Rect.unit (s := (⟨2, ![H, W]⟩ : Shape)) ![o, p] ![h, w] hd
abbrev src {a b : ℕ} (X : FVec Ideal (⟨2, ![a, b]⟩ : Shape) .f32) (s t h w : ℕ)
    (hs : ∀ i, (![s, t] : Fin 2 → ℕ) i + (![h, w] : Fin 2 → ℕ) i ≤ (⟨2, ![a, b]⟩ : Shape).size i) : FVec Ideal (⟨2, ![h, w]⟩ : Shape) .f32 :=
  View.ld (Val := Elt Ideal) (e' := .f32) X (Rect.unit (s := (⟨2, ![a, b]⟩ : Shape)) ![s, t] ![h, w] hs)

/-- The stores of the vectors, the last first. -/
abbrev rows : List (View.Piece (Elt Ideal) S24x512 .f32) :=
  [⟨dst 15 0 1 512 inb_S24x512_S1x512_15_0, src X4 0 512 1 512 inb_S1x1024_S1x512_0_512⟩,
    ⟨dst 14 0 1 512 inb_S24x512_S1x512_14_0, src X4 0 0 1 512 inb_S1x1024_S1x512_0_0⟩,
    ⟨dst 13 0 1 512 inb_S24x512_S1x512_13_0, src X3 0 512 1 512 inb_S1x1024_S1x512_0_512⟩,
    ⟨dst 12 0 1 512 inb_S24x512_S1x512_12_0, src X3 0 0 1 512 inb_S1x1024_S1x512_0_0⟩,
    ⟨dst 11 0 1 512 inb_S24x512_S1x512_11_0, src X2 0 512 1 512 inb_S1x1024_S1x512_0_512⟩,
    ⟨dst 10 0 1 512 inb_S24x512_S1x512_10_0, src X2 0 0 1 512 inb_S1x1024_S1x512_0_0⟩,
    ⟨dst 9 0 1 512 inb_S24x512_S1x512_9_0, X1⟩,
    ⟨dst 0 0 9 512 inb_S24x512_S9x512_0_0, src X0 0 0 9 512 inb_S16x512_S9x512_0_0⟩,
    ⟨dst 16 0 1 128 inb_S24x512_S1x128_16_0, src X5 0 0 1 128 inb_S8x128_S1x128_0_0⟩]

theorem rows_of : View.PiecesOf (Val := Elt Ideal) (mat (a := 24) (b := 512) (vec X0 X1 X2 X3 X4 X5)) (rows X0 X1 X2 X3 X4 X5) := by
  refine ⟨piece X4 15 0 0 512 _ inb_S1x1024_S1x512_0_512 inb_S24x512_S1x512_15_0 ?_, piece X4 14 0 0 0 _ inb_S1x1024_S1x512_0_0 inb_S24x512_S1x512_14_0 ?_,
    piece X3 13 0 0 512 _ inb_S1x1024_S1x512_0_512 inb_S24x512_S1x512_13_0 ?_, piece X3 12 0 0 0 _ inb_S1x1024_S1x512_0_0 inb_S24x512_S1x512_12_0 ?_,
    piece X2 11 0 0 512 _ inb_S1x1024_S1x512_0_512 inb_S24x512_S1x512_11_0 ?_, piece X2 10 0 0 0 _ inb_S1x1024_S1x512_0_0 inb_S24x512_S1x512_10_0 ?_,
    wholeRow X1 9 _ inb_S24x512_S1x512_9_0 ?_, piece X0 0 0 0 0 _ inb_S16x512_S9x512_0_0 inb_S24x512_S9x512_0_0 ?_,
    piece X5 16 0 0 0 _ inb_S8x128_S1x128_0_0 inb_S24x512_S1x128_16_0 ?_, trivial⟩
  case refine_7 => intro q hq; rfl
  case refine_8 => intro r q hr hq; simp only [Nat.zero_add]; exact (if_pos hr).symm
  all_goals
    intro r q hr hq
    obtain rfl : r = 0 := by omega
    simp [vec]
  omega

theorem rows_stored (y : S24x512.Idx) :
    View.canon (Val := Elt Ideal) (e := .f32) (rows X0 X1 X2 X3 X4 X5 ++ [⟨dst 16 0 8 512 inb_S24x512_S8x512_16_0, k0_pay1 (F := Ideal)⟩]) y = vec X0 X1 X2 X3 X4 X5 (y 0).val (y 1).val := by
  have h0 : (y 0).val < 24 := (y 0).isLt
  have h1 : (y 1).val < 512 := (y 1).isLt
  by_cases hc : ∃ p ∈ rows X0 X1 X2 X3 X4 X5, y ∈ p.1.set
  · exact View.canon_append_of_piecesOf (Val := Elt Ideal) (s := S24x512) (e := .f32) (mat (vec X0 X1 X2 X3 X4 X5)) _ _ (rows_of X0 X1 X2 X3 X4 X5) y hc
  · refine (skip _ y _ hc).trans ?_
    simp only [List.exists_mem_cons_iff, not_or] at hc
    obtain ⟨c15, c14, c13, c12, c11, c10, c9, c0, c16, -⟩ := hc
    have n15 := out_of c15
    have n14 := out_of c14
    have n13 := out_of c13
    have n12 := out_of c12
    have n11 := out_of c11
    have n10 := out_of c10
    have n9 := out_of c9
    have n0 := out_of c0
    have n16 := out_of c16
    have lo : 16 ≤ (y 0).val := by omega
    have z : vec X0 X1 X2 X3 X4 X5 (y 0).val (y 1).val = 0 := by
      unfold vec
      rw [if_neg (by omega), if_neg (by omega), if_neg (by omega), if_neg (by omega), if_neg (by omega), if_neg (by omega)]
    rw [z]
    refine View.canon_append_of_piecesOf (Val := Elt Ideal) (s := S24x512) (e := .f32) (fun _ => (0 : EReal)) [] [⟨dst 16 0 8 512 inb_S24x512_S8x512_16_0, k0_pay1 (F := Ideal)⟩]
      ⟨fun x => ?_, trivial⟩ y ⟨_, List.mem_singleton_self _, mem_of inb_S24x512_S8x512_16_0 y (by omega) (by omega)⟩
    obtain ⟨r, q, rfl⟩ : ∃ r q, x = ix2 r q := ⟨_, _, eq_ix2 x⟩
    show k0_pay1 (F := Ideal) (ix2 r q) = 0
    pointwise [k0_pay1]

/-- The stores of the diagonal blocks, the last first. -/
abbrev blocks : List (View.Piece (Elt Ideal) S1024x64 .f32) :=
  [⟨dst 960 0 64 64 inb_S1024x64_S64x64_960_0, src X7 448 448 64 64 inb_S512x512_S64x64_448_448⟩,
    ⟨dst 896 0 64 64 inb_S1024x64_S64x64_896_0, src X7 384 384 64 64 inb_S512x512_S64x64_384_384⟩,
    ⟨dst 832 0 64 64 inb_S1024x64_S64x64_832_0, src X7 320 320 64 64 inb_S512x512_S64x64_320_320⟩,
    ⟨dst 768 0 64 64 inb_S1024x64_S64x64_768_0, src X7 256 256 64 64 inb_S512x512_S64x64_256_256⟩,
    ⟨dst 704 0 64 64 inb_S1024x64_S64x64_704_0, src X7 192 192 64 64 inb_S512x512_S64x64_192_192⟩,
    ⟨dst 640 0 64 64 inb_S1024x64_S64x64_640_0, src X7 128 128 64 64 inb_S512x512_S64x64_128_128⟩,
    ⟨dst 576 0 64 64 inb_S1024x64_S64x64_576_0, src X7 64 64 64 64 inb_S512x512_S64x64_64_64⟩,
    ⟨dst 512 0 64 64 inb_S1024x64_S64x64_512_0, src X7 0 0 64 64 inb_S512x512_S64x64_0_0⟩,
    ⟨dst 448 0 64 64 inb_S1024x64_S64x64_448_0, src X6 448 448 64 64 inb_S512x512_S64x64_448_448⟩,
    ⟨dst 384 0 64 64 inb_S1024x64_S64x64_384_0, src X6 384 384 64 64 inb_S512x512_S64x64_384_384⟩,
    ⟨dst 320 0 64 64 inb_S1024x64_S64x64_320_0, src X6 320 320 64 64 inb_S512x512_S64x64_320_320⟩,
    ⟨dst 256 0 64 64 inb_S1024x64_S64x64_256_0, src X6 256 256 64 64 inb_S512x512_S64x64_256_256⟩,
    ⟨dst 192 0 64 64 inb_S1024x64_S64x64_192_0, src X6 192 192 64 64 inb_S512x512_S64x64_192_192⟩,
    ⟨dst 128 0 64 64 inb_S1024x64_S64x64_128_0, src X6 128 128 64 64 inb_S512x512_S64x64_128_128⟩,
    ⟨dst 64 0 64 64 inb_S1024x64_S64x64_64_0, src X6 64 64 64 64 inb_S512x512_S64x64_64_64⟩,
    ⟨dst 0 0 64 64 inb_S1024x64_S64x64_0_0, src X6 0 0 64 64 inb_S512x512_S64x64_0_0⟩]

theorem block6 (o p : ℕ) (hp : p = o) (ho : 64 * (o / 64) = o) (hl : o < 512) (hs) (hd) (x : (⟨2, ![64, 64]⟩ : Shape).Idx) :
    src X6 o o 64 64 hs x = mat (a := 1024) (b := 64) (gates X6 X7) ((dst p 0 64 64 hd).emb x) :=
  piece X6 p 0 o o _ hs hd (fun r q hr hq => by
    subst hp
    unfold gates
    rw [if_pos (by omega)]
    congr 1; omega) x
theorem block7 (o p : ℕ) (hp : p = 512 + o) (ho : 64 * (o / 64) = o) (hl : o < 512) (hs) (hd) (x : (⟨2, ![64, 64]⟩ : Shape).Idx) :
    src X7 o o 64 64 hs x = mat (a := 1024) (b := 64) (gates X6 X7) ((dst p 0 64 64 hd).emb x) :=
  piece X7 p 0 o o _ hs hd (fun r q hr hq => by
    subst hp
    unfold gates
    rw [if_neg (by omega)]
    congr 1 <;> omega) x

theorem blocks_of : View.PiecesOf (Val := Elt Ideal) (mat (a := 1024) (b := 64) (gates X6 X7)) (blocks X6 X7) :=
  ⟨block7 X6 X7 448 960 rfl rfl (by norm_num) inb_S512x512_S64x64_448_448 inb_S1024x64_S64x64_960_0,
    block7 X6 X7 384 896 rfl rfl (by norm_num) inb_S512x512_S64x64_384_384 inb_S1024x64_S64x64_896_0,
    block7 X6 X7 320 832 rfl rfl (by norm_num) inb_S512x512_S64x64_320_320 inb_S1024x64_S64x64_832_0,
    block7 X6 X7 256 768 rfl rfl (by norm_num) inb_S512x512_S64x64_256_256 inb_S1024x64_S64x64_768_0,
    block7 X6 X7 192 704 rfl rfl (by norm_num) inb_S512x512_S64x64_192_192 inb_S1024x64_S64x64_704_0,
    block7 X6 X7 128 640 rfl rfl (by norm_num) inb_S512x512_S64x64_128_128 inb_S1024x64_S64x64_640_0,
    block7 X6 X7 64 576 rfl rfl (by norm_num) inb_S512x512_S64x64_64_64 inb_S1024x64_S64x64_576_0,
    block7 X6 X7 0 512 rfl rfl (by norm_num) inb_S512x512_S64x64_0_0 inb_S1024x64_S64x64_512_0,
    block6 X6 X7 448 448 rfl rfl (by norm_num) inb_S512x512_S64x64_448_448 inb_S1024x64_S64x64_448_0,
    block6 X6 X7 384 384 rfl rfl (by norm_num) inb_S512x512_S64x64_384_384 inb_S1024x64_S64x64_384_0,
    block6 X6 X7 320 320 rfl rfl (by norm_num) inb_S512x512_S64x64_320_320 inb_S1024x64_S64x64_320_0,
    block6 X6 X7 256 256 rfl rfl (by norm_num) inb_S512x512_S64x64_256_256 inb_S1024x64_S64x64_256_0,
    block6 X6 X7 192 192 rfl rfl (by norm_num) inb_S512x512_S64x64_192_192 inb_S1024x64_S64x64_192_0,
    block6 X6 X7 128 128 rfl rfl (by norm_num) inb_S512x512_S64x64_128_128 inb_S1024x64_S64x64_128_0,
    block6 X6 X7 64 64 rfl rfl (by norm_num) inb_S512x512_S64x64_64_64 inb_S1024x64_S64x64_64_0,
    block6 X6 X7 0 0 rfl rfl (by norm_num) inb_S512x512_S64x64_0_0 inb_S1024x64_S64x64_0_0, trivial⟩

theorem blocks_stored (y : S1024x64.Idx) : View.canon (Val := Elt Ideal) (e := .f32) (blocks X6 X7) y = gates X6 X7 (y 0).val (y 1).val := by
  have h0 : (y 0).val < 1024 := (y 0).isLt
  have h1 : (y 1).val < 64 := (y 1).isLt
  refine (congrArg (fun L => View.canon (Val := Elt Ideal) (s := S1024x64) (e := .f32) L y) (List.append_nil _).symm).trans
    (View.canon_append_of_piecesOf (Val := Elt Ideal) (s := S1024x64) (e := .f32) (mat (gates X6 X7)) [] _ (blocks_of X6 X7) y ?_)
  have hd (o : ℕ) (h) (ho : 64 * ((y 0).val / 64) = o) : y ∈ (dst (H := 1024) (W := 64) o 0 64 64 h).set := mem_of h y (by omega) (by omega)
  simp only [List.exists_mem_cons_iff]
  have hg : (y 0).val / 64 < 16 := by omega
  generalize (y 0).val / 64 = g at hd hg
  interval_cases g
  · exact .inr (.inr (.inr (.inr (.inr (.inr (.inr (.inr (.inr (.inr (.inr (.inr (.inr (.inr (.inr (.inl (hd _ _ rfl))))))))))))))))
  · exact .inr (.inr (.inr (.inr (.inr (.inr (.inr (.inr (.inr (.inr (.inr (.inr (.inr (.inr (.inl (hd _ _ rfl)))))))))))))))
  · exact .inr (.inr (.inr (.inr (.inr (.inr (.inr (.inr (.inr (.inr (.inr (.inr (.inr (.inl (hd _ _ rfl))))))))))))))
  · exact .inr (.inr (.inr (.inr (.inr (.inr (.inr (.inr (.inr (.inr (.inr (.inr (.inl (hd _ _ rfl)))))))))))))
  · exact .inr (.inr (.inr (.inr (.inr (.inr (.inr (.inr (.inr (.inr (.inr (.inl (hd _ _ rfl))))))))))))
  · exact .inr (.inr (.inr (.inr (.inr (.inr (.inr (.inr (.inr (.inr (.inl (hd _ _ rfl)))))))))))
  · exact .inr (.inr (.inr (.inr (.inr (.inr (.inr (.inr (.inr (.inl (hd _ _ rfl))))))))))
  · exact .inr (.inr (.inr (.inr (.inr (.inr (.inr (.inr (.inl (hd _ _ rfl)))))))))
  · exact .inr (.inr (.inr (.inr (.inr (.inr (.inr (.inl (hd _ _ rfl))))))))
  · exact .inr (.inr (.inr (.inr (.inr (.inr (.inl (hd _ _ rfl)))))))
  · exact .inr (.inr (.inr (.inr (.inr (.inl (hd _ _ rfl))))))
  · exact .inr (.inr (.inr (.inr (.inl (hd _ _ rfl)))))
  · exact .inr (.inr (.inr (.inl (hd _ _ rfl))))
  · exact .inr (.inr (.inl (hd _ _ rfl)))
  · exact .inr (.inl (hd _ _ rfl))
  · exact .inl (hd _ _ rfl)

/-- The blocks laid end to end. -/
theorem ladder {X : FVec Ideal S512x512 .f32} (r : Fin 512) (q : Fin 64) :
    Cert.Reference14Ideal.Read.val_main_v18 (F := Ideal) X (ix2 r q) = at2 X r.val (64 * (r.val / 64) + q.val) := by
  open Cert.Reference14Ideal.Read in
  pointwise [val_main_v18, val_main_v10, val_main_v11, val_main_v12, val_main_v13, val_main_v14, val_main_v15, val_main_v16, val_main_v17]
  rw [at2_of X r.isLt (by omega)]
  split_ifs
  all_goals
    refine congrArg X (congrArg₂ (ix2 (n0 := 512) (n1 := 512)) (Fin.ext ?_) (Fin.ext ?_)) <;> simp only <;> omega

end Stores

variable (m : (ℓ : Loc nD τ sig) → Buf (Elt Ideal) ℓ)

abbrev W1 (c : Dev nD) : FVec Ideal S1x512 .f32 := V m c main_v0
abbrev W2 (c : Dev nD) : FVec Ideal S1x1024 .f32 := V m c main_v1
abbrev W3 (c : Dev nD) : FVec Ideal S1x1024 .f32 := V m c main_v2
abbrev W4 (c : Dev nD) : FVec Ideal S1x1024 .f32 := V m c main_v3
abbrev a0 (c : Dev nD) : FVec Ideal S16x512 .f32 := m ((c : Thread nD τ).loc main_arg0)
abbrev a1 (c : Dev nD) : FVec Ideal S512 .f32 := m ((c : Thread nD τ).loc main_arg1)
abbrev a2 (c : Dev nD) : FVec Ideal S1024 .f32 := m ((c : Thread nD τ).loc main_arg2)
abbrev a3 (c : Dev nD) : FVec Ideal S1024 .f32 := m ((c : Thread nD τ).loc main_arg3)
abbrev a4 (c : Dev nD) : FVec Ideal S1024 .f32 := m ((c : Thread nD τ).loc main_arg4)
abbrev a5 (c : Dev nD) : FVec Ideal S8x128 .f32 := m ((c : Thread nD τ).loc main_arg5)
abbrev a6 (c : Dev nD) : FVec Ideal S512x512 .f32 := m ((c : Thread nD τ).loc main_arg6)
abbrev a7 (c : Dev nD) : FVec Ideal S512x512 .f32 := m ((c : Thread nD τ).loc main_arg7)

theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

theorem b0 (c : Dev nD) (t : Fin cfg0.N) : (iblk m c 0 t : FVec Ideal S16x512 .f32) = a0 m c := by
  funext y; obtain ⟨r, q, rfl⟩ : ∃ r q, y = ix2 r q := ⟨_, _, eq_ix2 y⟩
  blk_ext [iblk, idx t]
theorem b1 (c : Dev nD) (t : Fin cfg0.N) : (iblk m c 1 t : FVec Ideal S1x512 .f32) = W1 m c := by
  funext y; obtain ⟨r, q, rfl⟩ : ∃ r q, y = ix2 r q := ⟨_, _, eq_ix2 y⟩
  blk_ext [iblk, idx t]
theorem b2 (c : Dev nD) (t : Fin cfg0.N) : (iblk m c 2 t : FVec Ideal S1x1024 .f32) = W2 m c := by
  funext y; obtain ⟨r, q, rfl⟩ : ∃ r q, y = ix2 r q := ⟨_, _, eq_ix2 y⟩
  blk_ext [iblk, idx t]
theorem b3 (c : Dev nD) (t : Fin cfg0.N) : (iblk m c 3 t : FVec Ideal S1x1024 .f32) = W3 m c := by
  funext y; obtain ⟨r, q, rfl⟩ : ∃ r q, y = ix2 r q := ⟨_, _, eq_ix2 y⟩
  blk_ext [iblk, idx t]
theorem b4 (c : Dev nD) (t : Fin cfg0.N) : (iblk m c 4 t : FVec Ideal S1x1024 .f32) = W4 m c := by
  funext y; obtain ⟨r, q, rfl⟩ : ∃ r q, y = ix2 r q := ⟨_, _, eq_ix2 y⟩
  blk_ext [iblk, idx t]
theorem b5 (c : Dev nD) (t : Fin cfg0.N) : (iblk m c 5 t : FVec Ideal S8x128 .f32) = a5 m c := by
  funext y; obtain ⟨r, q, rfl⟩ : ∃ r q, y = ix2 r q := ⟨_, _, eq_ix2 y⟩
  blk_ext [iblk, idx t]
theorem b6 (c : Dev nD) (t : Fin cfg0.N) : (iblk m c 6 t : FVec Ideal S512x512 .f32) = a6 m c := by
  funext y; obtain ⟨r, q, rfl⟩ : ∃ r q, y = ix2 r q := ⟨_, _, eq_ix2 y⟩
  blk_ext [iblk, idx t]
theorem b7 (c : Dev nD) (t : Fin cfg0.N) : (iblk m c 7 t : FVec Ideal S512x512 .f32) = a7 m c := by
  funext y; obtain ⟨r, q, rfl⟩ : ∃ r q, y = ix2 r q := ⟨_, _, eq_ix2 y⟩
  blk_ext [iblk, idx t]

theorem W1_at (c : Dev nD) (q : Fin 512) : W1 m c (ix2 0 q) = a1 m c (ix1 q) := by
  unfold W1; entry_read; pointwise []
theorem W2_at (c : Dev nD) (q : Fin 1024) : W2 m c (ix2 0 q) = a2 m c (ix1 q) := by
  unfold W2; entry_read; pointwise []
theorem W3_at (c : Dev nD) (q : Fin 1024) : W3 m c (ix2 0 q) = a3 m c (ix1 q) := by
  unfold W3; entry_read; pointwise []
theorem W4_at (c : Dev nD) (q : Fin 1024) : W4 m c (ix2 0 q) = a4 m c (ix1 q) := by
  unfold W4; entry_read; pointwise []

/-- The rows that are stored after a cast to their own shape. -/
theorem same (v : FVec Ideal S1x512 .f32) : k0_pay2 v = v ∧ k0_pay3 v = v ∧ k0_pay4 v = v ∧ k0_pay5 v = v ∧ k0_pay6 v = v ∧ k0_pay7 v = v ∧ k0_pay8 v = v := by
  refine ⟨?_, ?_, ?_, ?_, ?_, ?_, ?_⟩
  all_goals
    funext y
    obtain ⟨r, q, rfl⟩ : ∃ r q, y = ix2 r q := ⟨_, _, eq_ix2 y⟩
    pointwise [k0_pay2, k0_pay3, k0_pay4, k0_pay5, k0_pay6, k0_pay7, k0_pay8]

/-- The two result arrays after the run. -/
theorem final8 (c : Dev nD) : (dats m 0 c).arrAt 8 (cfgs 0).N = mat (a := 24) (b := 512) (vec (a0 m c) (W1 m c) (W2 m c) (W3 m c) (W4 m c) (a5 m c)) := by
  refine (dats m 0 c).arrAt_eq_of_covers 8 _ (by decide +kernel) fun t _ y => ?_
  blk_simp
  rw [after0_8]
  have key : (outsAt0 m c t).1 = mat (a := 24) (b := 512) (vec (a0 m c) (W1 m c) (W2 m c) (W3 m c) (W4 m c) (a5 m c)) := by
    funext y
    rw [← b0 m c t, ← b1 m c t, ← b2 m c t, ← b3 m c t, ← b4 m c t, ← b5 m c t]
    unfold outsAt0; frame_out
    simp only [fun v => (same v).1, fun v => (same v).2.1, fun v => (same v).2.2.1, fun v => (same v).2.2.2.1, fun v => (same v).2.2.2.2.1, fun v => (same v).2.2.2.2.2.1,
      fun v => (same v).2.2.2.2.2.2]
    exact rows_stored _ _ _ _ _ _ y
  rw [key]
  have cov (D : FVec Ideal S24x512 .f32) : D y = D (((cfg0.win 8).blk t).view.emb y) := by
    obtain ⟨r, q, rfl⟩ : ∃ r q, y = ix2 r q := ⟨_, _, eq_ix2 y⟩
    blk_ext [idx t]
  exact cov _
theorem final9 (c : Dev nD) : (dats m 0 c).arrAt 9 (cfgs 0).N = mat (a := 1024) (b := 64) (gates (a6 m c) (a7 m c)) := by
  refine (dats m 0 c).arrAt_eq_of_covers 9 _ (by decide +kernel) fun t _ y => ?_
  blk_simp
  rw [after0_9]
  have key : (outsAt0 m c t).2 = mat (a := 1024) (b := 64) (gates (a6 m c) (a7 m c)) := by
    funext y
    rw [← b6 m c t, ← b7 m c t]
    unfold outsAt0; frame_out
    exact blocks_stored _ _ y
  rw [key]
  have cov (D : FVec Ideal S1024x64 .f32) : D y = D (((cfg0.win 9).blk t).view.emb y) := by
    obtain ⟨r, q, rfl⟩ : ∃ r q, y = ix2 r q := ⟨_, _, eq_ix2 y⟩
    blk_ext [idx t]
  exact cov _

open Cert.Reference14Ideal.Read in
theorem ref9 (c : Dev nD) : mat (a := 24) (b := 512) (vec (a0 m c) (W1 m c) (W2 m c) (W3 m c) (W4 m c) (a5 m c))
    = val_main_v9 (F := Ideal) (a0 m c) (a1 m c) (a2 m c) (a3 m c) (a4 m c) (a5 m c) := by
  funext i
  obtain ⟨r, q, rfl⟩ : ∃ r q, i = ix2 r q := ⟨_, _, eq_ix2 i⟩
  pointwise [val_main_v9, val_main_v6, val_main_v7, val_main_v0, val_main_v1, val_main_v2, val_main_v5, val_main_v3, val_main_v4, val_main_v8, val_main_cst, val_main_cst_0]
  show vec _ _ _ _ _ _ r.val q.val = _
  have hr := r.isLt
  have hq := q.isLt
  unfold vec
  have row {n : ℕ} (W : FVec Ideal (⟨2, ![1, n]⟩ : Shape) .f32) (a : FVec Ideal (⟨1, ![n]⟩ : Shape) .f32) (hW : ∀ k, W (ix2 0 k) = a (ix1 k)) (j k : ℕ) (hk : k < n) (e : j = k) :
      at2 W 0 j = a (ix1 ⟨k, hk⟩) := by
    subst e
    exact (at2_of W (by norm_num) hk).trans (hW _)
  split_ifs <;> try omega
  · exact at2_of (a0 m c) (by omega) hq
  · exact row _ _ (W1_at m c) _ _ _ rfl
  · exact row _ _ (W2_at m c) _ _ _ (by omega)
  · exact row _ _ (W3_at m c) _ _ _ (by omega)
  · exact row _ _ (W4_at m c) _ _ _ (by omega)
  · rw [at2_of (a5 m c) (by norm_num) (by omega)]
    refine congrArg (a5 m c) (congrArg₂ (ix2 (n0 := 8) (n1 := 128)) (Fin.ext ?_) rfl)
    simp only
    omega
  all_goals rfl

open Cert.Reference14Ideal.Read in
theorem ref28 (X6 X7 : FVec Ideal S512x512 .f32) : mat (a := 1024) (b := 64) (gates X6 X7) = val_main_v28 (F := Ideal) X6 X7 := by
  funext i
  obtain ⟨r, q, rfl⟩ : ∃ r q, i = ix2 r q := ⟨_, _, eq_ix2 i⟩
  pointwise [val_main_v28]
  have e : val_main_v27 (F := Ideal) X7 = val_main_v18 (F := Ideal) X7 := rfl
  show gates X6 X7 r.val q.val = _
  unfold gates
  have hr := r.isLt
  by_cases hl : r.val < 512
  · rw [if_pos hl, dif_pos hl]
    exact (ladder ⟨r.val, hl⟩ q).symm
  · rw [if_neg hl, dif_neg hl, e]
    exact (ladder ⟨r.val - 512, by omega⟩ q).symm

/-- The packed arrays are the gradients laid end to end. -/
theorem value : Cert.algebraic_Kernel14Ideal_Reference14Ideal := by
  pair_intro
  · run_from Cert.Kernel14Ideal.Value.run_blocks m g
  · refine (θ_run Cert.Reference14Ideal.defs _ _).mono (fun r h c => ⟨?_, ?_, (h c).2.2⟩) (Cert.Reference14Ideal.Value.run m' g')
    · rw [(h c).1, final8, ref9]
      refine (Cert.Reference14Ideal.Read.val_main_v9_eq _ _ _ _ _ _).trans ?_
      rw [(hagree c).1, (hagree c).2.1, (hagree c).2.2.1, (hagree c).2.2.2.1, (hagree c).2.2.2.2.1, (hagree c).2.2.2.2.2.1]
    · rw [(h c).2.1, final9, ref28]
      refine (Cert.Reference14Ideal.Read.val_main_v28_eq _ _).trans ?_
      rw [(hagree c).2.2.2.2.2.2.1, (hagree c).2.2.2.2.2.2.2]

end Cert.Small

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_fwd_finite
public import proofs.«01_k».proof.Proof.Gen.On_fwd_part
public import proofs.«01_k».proof.Proof.Rms
public import proofs.«01_k».proof.Proof.Ret
public import proofs.«01_k».proof.Proof.RetFrames
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame.RunA
public import proofs.«01_k».proof.Proof.Gen.Kernel2Ideal.Frame.RunB
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_ret_finite
public import proofs.«01_k».proof.Proof.Gen.On_ret_part
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_loss_finite
public import proofs.«01_k».proof.Proof.Gen.Pre_gate_finite
public import proofs.«01_k».proof.Proof.Gen.Kernel3Ideal.Value
public import proofs.«01_k».proof.Proof.Gen.Kernel4Ideal.Value
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Loss
public import proofs.«01_k».proof.Proof.Gen.Kernel6
public import proofs.«01_k».proof.Proof.Gen.Kernel6.Skeleton
public import proofs.«01_k».proof.Proof.Gen.Kernel6.Launch
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_up_finite
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel14
public import proofs.«01_k».proof.Proof.Gen.Kernel13.Skeleton
public import proofs.«01_k».proof.Proof.Gen.Kernel14.Skeleton
public import proofs.«01_k».proof.Proof.Gen.Kernel13.Launch
public import proofs.«01_k».proof.Proof.Gen.Kernel14.Launch
public import proofs.«01_k».proof.Proof.Gen.Kernel13.Points
public import proofs.«01_k».proof.Proof.Gen.Kernel14.Points
public import proofs.«01_k».proof.Proof.Gen.Kernel13.Frame
public import proofs.«01_k».proof.Proof.Gen.Kernel14.Frame
public import proofs.«01_k».proof.Proof.Gen.Kernel13Ideal
public import proofs.«01_k».proof.Proof.Gen.Kernel14Ideal
public import proofs.«01_k».proof.Proof.Gen.Kernel13Ideal.Skeleton
public import proofs.«01_k».proof.Proof.Gen.Kernel14Ideal.Skeleton
public import proofs.«01_k».proof.Proof.Gen.Kernel13Ideal.Launch
public import proofs.«01_k».proof.Proof.Gen.Kernel14Ideal.Launch
public import proofs.«01_k».proof.Proof.Gen.Kernel13Ideal.Points
public import proofs.«01_k».proof.Proof.Gen.Kernel14Ideal.Points
public import proofs.«01_k».proof.Proof.Gen.Kernel13Ideal.Frame
public import proofs.«01_k».proof.Proof.Gen.Kernel14Ideal.Frame
public import proofs.«01_k».proof.Proof.Gen.Kernel13Ideal.Value
public import proofs.«01_k».proof.Proof.Gen.Kernel14Ideal.Value
public import proofs.«01_k».proof.Proof.Gen.Reference13Ideal
public import proofs.«01_k».proof.Proof.Gen.Reference14Ideal
public import proofs.«01_k».proof.Proof.Gen.Reference13Ideal.Run
public import proofs.«01_k».proof.Proof.Gen.Reference14Ideal.Run
public import proofs.«01_k».proof.Proof.Gen.Reference13Ideal.Read
public import proofs.«01_k».proof.Proof.Gen.Reference14Ideal.Read
public import proofs.«01_k».proof.Proof.Gate
public import proofs.«01_k».proof.Proof.Mix
public import proofs.«01_k».proof.Proof.Up
public import proofs.«01_k».proof.Proof.UpFrames
public import proofs.«01_k».proof.Proof.Proj
public import proofs.«01_k».proof.Proof.ProjFrames
public import proofs.«01_k».proof.Proof.Tn
public import proofs.«01_k».proof.Proof.TnTwo
public import proofs.«01_k».proof.Proof.OutBwd
public import proofs.«01_k».proof.Proof.Down
public import proofs.«01_k».proof.Proof.Sums
public import proofs.«01_k».proof.Proof.BlockDiag
public import proofs.«01_k».proof.Proof.Small
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's run leaves its arguments unchanged; it declares no semaphore. -/
theorem frame_reference : Cert.quiescent_ReferenceIdeal := by
  intro m g _
  exact (θ_run Cert.ReferenceIdeal.defs _ _).mono (fun r h => ⟨fun c => (h c).2.2.2, sem_eq_zero_of_no_sems (by decide) r.2⟩)
    (Cert.ReferenceIdeal.Value.run m g)

/-- The loss head's reference leaves its arguments unchanged; it declares no semaphore. -/
theorem frame_reference3 : Cert.quiescent_Reference3Ideal := by
  intro m g _
  exact (θ_run Cert.Reference3Ideal.defs _ _).mono (fun r h => ⟨fun c => (h c).2.2.2.2, sem_eq_zero_of_no_sems (by decide) r.2⟩)
    (Cert.Reference3Ideal.Value.run m g)

/-- The gate's reference leaves its arguments unchanged; it declares no semaphore. -/
theorem frame_reference4 : Cert.quiescent_Reference4Ideal := by
  intro m g _
  exact (θ_run Cert.Reference4Ideal.defs _ _).mono (fun r h => ⟨fun c => (h c).2.2, sem_eq_zero_of_no_sems (by decide) r.2⟩)
    (Cert.Reference4Ideal.Value.run m g)

/-- The gated product's forward lines leave their arguments unchanged; they declare no semaphore. -/
theorem frame_reference6 : Cert.quiescent_Reference6Ideal := by
  intro m g _
  exact (θ_run Cert.Reference6Ideal.defs _ _).mono (fun r h => ⟨fun c => (h c).2.2.2.2, sem_eq_zero_of_no_sems (by decide) r.2⟩)
    (Cert.Reference6Ideal.Value.run m g)

/-- The input projection's forward lines leave their arguments unchanged; they declare no semaphore. -/
theorem frame_reference7 : Cert.quiescent_Reference7Ideal := by
  intro m g _
  exact (θ_run Cert.Reference7Ideal.defs _ _).mono (fun r h => ⟨fun c => (h c).2.2, sem_eq_zero_of_no_sems (by decide) r.2⟩)
    (Cert.Reference7Ideal.Value.run m g)

/-- The product with its skip connection as forward lines: arguments unchanged, no semaphore. -/
theorem frame_reference8 : Cert.quiescent_Reference8Ideal := by
  intro m g _
  exact (θ_run Cert.Reference8Ideal.defs _ _).mono (fun r h => ⟨fun c => (h c).2, sem_eq_zero_of_no_sems (by decide) r.2⟩)
    (Cert.Reference8Ideal.Value.run m g)

/-- The derivative in the lower weight: arguments unchanged, no semaphore. -/
theorem frame_reference9 : Cert.quiescent_Reference9Ideal := by
  intro m g _
  exact (θ_run Cert.Reference9Ideal.defs _ _).mono (fun r h => ⟨fun c => (h c).2, sem_eq_zero_of_no_sems (by decide) r.2⟩)
    (Cert.Reference9Ideal.Value.run m g)

/-- The derivative in the two upper weights: arguments unchanged, no semaphore. -/
theorem frame_reference10 : Cert.quiescent_Reference10Ideal := by
  intro m g _
  exact (θ_run Cert.Reference10Ideal.defs _ _).mono (fun r h => ⟨fun c => (h c).2.2, sem_eq_zero_of_no_sems (by decide) r.2⟩)
    (Cert.Reference10Ideal.Value.run m g)

/-- The derivative of the output product: arguments unchanged, no semaphore. -/
theorem frame_reference11 : Cert.quiescent_Reference11Ideal := by
  intro m g _
  exact (θ_run Cert.Reference11Ideal.defs _ _).mono (fun r h => ⟨fun c => (h c).2.2, sem_eq_zero_of_no_sems (by decide) r.2⟩)
    (Cert.Reference11Ideal.Value.run m g)

/-- The plain sums: arguments unchanged, no semaphore. -/
theorem frame_reference12 : Cert.quiescent_Reference12Ideal := by
  intro m g _
  exact (θ_run Cert.Reference12Ideal.defs _ _).mono (fun r h => ⟨fun c => (h c).2.2.2.2.2, sem_eq_zero_of_no_sems (by decide) r.2⟩)
    (Cert.Reference12Ideal.Value.run m g)

/-- The dense layers: arguments unchanged, no semaphore. -/
theorem frame_reference13 : Cert.quiescent_Reference13Ideal := by
  intro m g _
  exact (θ_run Cert.Reference13Ideal.defs _ _).mono (fun r h => ⟨fun c => (h c).2.2, sem_eq_zero_of_no_sems (by decide) r.2⟩)
    (Cert.Reference13Ideal.Value.run m g)

/-- The gradients laid end to end: arguments unchanged, no semaphore. -/
theorem frame_reference14 : Cert.quiescent_Reference14Ideal := by
  intro m g _
  exact (θ_run Cert.Reference14Ideal.defs _ _).mono (fun r h => ⟨fun c => (h c).2.2, sem_eq_zero_of_no_sems (by decide) r.2⟩)
    (Cert.Reference14Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Pre_finite.Gen.facts, Cert.Pre_ret_finite.Gen.facts, Cert.Pre_loss_finite.Gen.facts, Cert.Pre_gate_finite.Gen.facts,
  Cert.Pre_fwd_finite.Gen.facts, Cert.Pre_up_finite.Gen.facts, Cert.On_ret_part.Gen.facts, Cert.On_fwd_part.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  Cert.Ret.Frames.kernel, Cert.Ret.Claims.frame_ideal, fun m ρ _ => Cert.Ret.Claims.frame_ideal m ρ trivial,
  Cert.Ret.Claims.frame_reference, fun m ρ _ => Cert.Ret.Claims.frame_reference m ρ trivial,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial,
  fun m ρ _ => Cert.Kernel4.Gen.frame m ρ, fun m ρ _ => Cert.Kernel4Ideal.Gen.frame m ρ, fun m ρ _ => Cert.Kernel4Ideal.Gen.frame m ρ,
  frame_reference4, fun m ρ _ => frame_reference4 m ρ trivial,
  Cert.Mix.Claims.frame_kernel, Cert.Mix.Claims.frame_ideal, fun m ρ _ => Cert.Mix.Claims.frame_ideal m ρ trivial,
  Cert.Mix.Claims.frame_reference, fun m ρ _ => Cert.Mix.Claims.frame_reference m ρ trivial,
  Cert.Up.Frames.kernel, fun m ρ _ => Cert.Up.Frame.frame m ρ, fun m ρ _ => Cert.Up.Frame.frame m ρ,
  frame_reference6, fun m ρ _ => frame_reference6 m ρ trivial,
  Cert.Proj.Frames.kernel, fun m ρ _ => Cert.Proj.Frame.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  trivial, Cert.RmsProof.value, Cert.Ret.Claims.preserves, Cert.Ret.Claims.value,
  trivial, Cert.LossProof.value, trivial, Cert.GateProof.value,
  Cert.Mix.Claims.preserves, Cert.Mix.Claims.value,
  trivial, Cert.UpProof.value, trivial, Cert.ProjProof.value,
  trivial, Cert.Down.value, trivial, Cert.Tn.value, trivial, Cert.TnTwo.value, trivial, Cert.OutBwd.value, trivial, Cert.Sums.value, trivial, Cert.BlockDiag.value, trivial, Cert.Small.value⟩

end Cert.Proof

end
